-- ==== Defs.lean ====
def Pre_Tn (m : (ℓ : Loc Cert.Tn.nD Cert.Tn.τ Cert.Tn.sig) → Buf (Elt Bits) ℓ) : Prop :=
  True

def Pre_TnIdeal (m : (ℓ : Loc Cert.TnIdeal.nD Cert.TnIdeal.τ Cert.TnIdeal.sig) → Buf (Elt Ideal) ℓ) : Prop :=
  True

def Pre_TnRefIdeal (m : (ℓ : Loc Cert.TnRefIdeal.nD Cert.TnRefIdeal.τ Cert.TnRefIdeal.sig) → Buf (Elt Ideal) ℓ) : Prop :=
  True

def Pre_Tin (m : (ℓ : Loc Cert.Tin.nD Cert.Tin.τ Cert.Tin.sig) → Buf (Elt Bits) ℓ) : Prop :=
  True

def Pre_TinIdeal (m : (ℓ : Loc Cert.TinIdeal.nD Cert.TinIdeal.τ Cert.TinIdeal.sig) → Buf (Elt Ideal) ℓ) : Prop :=
  True

def Pre_TinRefIdeal (m : (ℓ : Loc Cert.TinRefIdeal.nD Cert.TinRefIdeal.τ Cert.TinRefIdeal.sig) → Buf (Elt Ideal) ℓ) : Prop :=
  True

def Pre_Tout (m : (ℓ : Loc Cert.Tout.nD Cert.Tout.τ Cert.Tout.sig) → Buf (Elt Bits) ℓ) : Prop :=
  True

def Pre_ToutIdeal (m : (ℓ : Loc Cert.ToutIdeal.nD Cert.ToutIdeal.τ Cert.ToutIdeal.sig) → Buf (Elt Ideal) ℓ) : Prop :=
  True

def Pre_ToutRefIdeal (m : (ℓ : Loc Cert.ToutRefIdeal.nD Cert.ToutRefIdeal.τ Cert.ToutRefIdeal.sig) → Buf (Elt Ideal) ℓ) : Prop :=
  True

def Pre_Hid (m : (ℓ : Loc Cert.Hid.nD Cert.Hid.τ Cert.Hid.sig) → Buf (Elt Bits) ℓ) : Prop :=
  True

def Pre_HidIdeal (m : (ℓ : Loc Cert.HidIdeal.nD Cert.HidIdeal.τ Cert.HidIdeal.sig) → Buf (Elt Ideal) ℓ) : Prop :=
  True

def Pre_HidIdeal_hid_finite [hPre_hid_finite : Cert.Pre_hid_finite.Facts] (m : (ℓ : Loc Cert.HidIdeal.nD Cert.HidIdeal.τ Cert.HidIdeal.sig) → Buf (Elt Ideal) ℓ) : Prop :=
  ∀ c : Dev Cert.HidIdeal.nD,
    (Cert.Pre_hid_finite.fn (F := Ideal) (m ((c.tc : Thread Cert.HidIdeal.nD Cert.HidIdeal.τ).loc Cert.HidIdeal.main_arg0)) (m ((c.tc : Thread Cert.HidIdeal.nD Cert.HidIdeal.τ).loc Cert.HidIdeal.main_arg1)) (m ((c.tc : Thread Cert.HidIdeal.nD Cert.HidIdeal.τ).loc Cert.HidIdeal.main_arg2)) (m ((c.tc : Thread Cert.HidIdeal.nD Cert.HidIdeal.τ).loc Cert.HidIdeal.main_arg3))) = (fun _ => 1#1)

def Pre_HidRefIdeal (m : (ℓ : Loc Cert.HidRefIdeal.nD Cert.HidRefIdeal.τ Cert.HidRefIdeal.sig) → Buf (Elt Ideal) ℓ) : Prop :=
  True

def Pre_HidRefIdeal_hid_finite [hPre_hid_finite : Cert.Pre_hid_finite.Facts] (m : (ℓ : Loc Cert.HidRefIdeal.nD Cert.HidRefIdeal.τ Cert.HidRefIdeal.sig) → Buf (Elt Ideal) ℓ) : Prop :=
  ∀ c : Dev Cert.HidRefIdeal.nD,
    (Cert.Pre_hid_finite.fn (F := Ideal) (m ((c.tc : Thread Cert.HidRefIdeal.nD Cert.HidRefIdeal.τ).loc Cert.HidRefIdeal.main_arg0)) (m ((c.tc : Thread Cert.HidRefIdeal.nD Cert.HidRefIdeal.τ).loc Cert.HidRefIdeal.main_arg1)) (m ((c.tc : Thread Cert.HidRefIdeal.nD Cert.HidRefIdeal.τ).loc Cert.HidRefIdeal.main_arg2)) (m ((c.tc : Thread Cert.HidRefIdeal.nD Cert.HidRefIdeal.τ).loc Cert.HidRefIdeal.main_arg3))) = (fun _ => 1#1)

def Pre_Gup (m : (ℓ : Loc Cert.Gup.nD Cert.Gup.τ Cert.Gup.sig) → Buf (Elt Bits) ℓ) : Prop :=
  True

def Pre_GupIdeal (m : (ℓ : Loc Cert.GupIdeal.nD Cert.GupIdeal.τ Cert.GupIdeal.sig) → Buf (Elt Ideal) ℓ) : Prop :=
  True

def Pre_GupRefIdeal (m : (ℓ : Loc Cert.GupRefIdeal.nD Cert.GupRefIdeal.τ Cert.GupRefIdeal.sig) → Buf (Elt Ideal) ℓ) : Prop :=
  True

def Pre_Ntg (m : (ℓ : Loc Cert.Ntg.nD Cert.Ntg.τ Cert.Ntg.sig) → Buf (Elt Bits) ℓ) : Prop :=
  True

def Pre_NtgIdeal (m : (ℓ : Loc Cert.NtgIdeal.nD Cert.NtgIdeal.τ Cert.NtgIdeal.sig) → Buf (Elt Ideal) ℓ) : Prop :=
  True

def Pre_NtgRefIdeal (m : (ℓ : Loc Cert.NtgRefIdeal.nD Cert.NtgRefIdeal.τ Cert.NtgRefIdeal.sig) → Buf (Elt Ideal) ℓ) : Prop :=
  True

def Pre_Nti (m : (ℓ : Loc Cert.Nti.nD Cert.Nti.τ Cert.Nti.sig) → Buf (Elt Bits) ℓ) : Prop :=
  True

def Pre_NtiIdeal (m : (ℓ : Loc Cert.NtiIdeal.nD Cert.NtiIdeal.τ Cert.NtiIdeal.sig) → Buf (Elt Ideal) ℓ) : Prop :=
  True

def Pre_NtiRefIdeal (m : (ℓ : Loc Cert.NtiRefIdeal.nD Cert.NtiRefIdeal.τ Cert.NtiRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Obwd (m : (ℓ : Loc Cert.Obwd.nD Cert.Obwd.τ Cert.Obwd.sig) → Buf (Elt Bits) ℓ) : Prop :=
  True

def Pre_ObwdIdeal (m : (ℓ : Loc Cert.ObwdIdeal.nD Cert.ObwdIdeal.τ Cert.ObwdIdeal.sig) → Buf (Elt Ideal) ℓ) : Prop :=
  True

def Pre_ObwdRefIdeal (m : (ℓ : Loc Cert.ObwdRefIdeal.nD Cert.ObwdRefIdeal.τ Cert.ObwdRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Fxa (m : (ℓ : Loc Cert.Fxa.nD Cert.Fxa.τ Cert.Fxa.sig) → Buf (Elt Bits) ℓ) : Prop :=
  True

def Pre_FxaIdeal (m : (ℓ : Loc Cert.FxaIdeal.nD Cert.FxaIdeal.τ Cert.FxaIdeal.sig) → Buf (Elt Ideal) ℓ) : Prop :=
  True

def Pre_FxaRefIdeal (m : (ℓ : Loc Cert.FxaRefIdeal.nD Cert.FxaRefIdeal.τ Cert.FxaRefIdeal.sig) → Buf (Elt Ideal) ℓ) : Prop :=
  True

def Pre_Fxb (m : (ℓ : Loc Cert.Fxb.nD Cert.Fxb.τ Cert.Fxb.sig) → Buf (Elt Bits) ℓ) : Prop :=
  True

def Pre_FxbIdeal (m : (ℓ : Loc Cert.FxbIdeal.nD Cert.FxbIdeal.τ Cert.FxbIdeal.sig) → Buf (Elt Ideal) ℓ) : Prop :=
  True

def Pre_FxbRefIdeal (m : (ℓ : Loc Cert.FxbRefIdeal.nD Cert.FxbRefIdeal.τ Cert.FxbRefIdeal.sig) → Buf (Elt Ideal) ℓ) : Prop :=
  True

def Pre_Mdx (m : (ℓ : Loc Cert.Mdx.nD Cert.Mdx.τ Cert.Mdx.sig) → Buf (Elt Bits) ℓ) : Prop :=
  True

def Pre_MdxIdeal (m : (ℓ : Loc Cert.MdxIdeal.nD Cert.MdxIdeal.τ Cert.MdxIdeal.sig) → Buf (Elt Ideal) ℓ) : Prop :=
  True

def Pre_MdxRefIdeal (m : (ℓ : Loc Cert.MdxRefIdeal.nD Cert.MdxRefIdeal.τ Cert.MdxRefIdeal.sig) → Buf (Elt Ideal) ℓ) : Prop :=
  True

def Pre_Fdn (m : (ℓ : Loc Cert.Fdn.nD Cert.Fdn.τ Cert.Fdn.sig) → Buf (Elt Bits) ℓ) : Prop :=
  True

def Pre_FdnIdeal (m : (ℓ : Loc Cert.FdnIdeal.nD Cert.FdnIdeal.τ Cert.FdnIdeal.sig) → Buf (Elt Ideal) ℓ) : Prop :=
  True

def Pre_FdnRefIdeal (m : (ℓ : Loc Cert.FdnRefIdeal.nD Cert.FdnRefIdeal.τ Cert.FdnRefIdeal.sig) → Buf (Elt Ideal) ℓ) : Prop :=
  True

def Pre_Mop (m : (ℓ : Loc Cert.Mop.nD Cert.Mop.τ Cert.Mop.sig) → Buf (Elt Bits) ℓ) : Prop :=
  True

def Pre_MopIdeal (m : (ℓ : Loc Cert.MopIdeal.nD Cert.MopIdeal.τ Cert.MopIdeal.sig) → Buf (Elt Ideal) ℓ) : Prop :=
  True

def Pre_MopRefIdeal (m : (ℓ : Loc Cert.MopRefIdeal.nD Cert.MopRefIdeal.τ Cert.MopRefIdeal.sig) → Buf (Elt Ideal) ℓ) : Prop :=
  True

def Pre_Los (m : (ℓ : Loc Cert.Los.nD Cert.Los.τ Cert.Los.sig) → Buf (Elt Bits) ℓ) : Prop :=
  True

def Pre_LosIdeal (m : (ℓ : Loc Cert.LosIdeal.nD Cert.LosIdeal.τ Cert.LosIdeal.sig) → Buf (Elt Ideal) ℓ) : Prop :=
  True

def Pre_LosRefIdeal (m : (ℓ : Loc Cert.LosRefIdeal.nD Cert.LosRefIdeal.τ Cert.LosRefIdeal.sig) → Buf (Elt Ideal) ℓ) : Prop :=
  True

def Pre_Awi (m : (ℓ : Loc Cert.Awi.nD Cert.Awi.τ Cert.Awi.sig) → Buf (Elt Bits) ℓ) : Prop :=
  True

def Pre_AwiIdeal (m : (ℓ : Loc Cert.AwiIdeal.nD Cert.AwiIdeal.τ Cert.AwiIdeal.sig) → Buf (Elt Ideal) ℓ) : Prop :=
  True

def Pre_AwiRefIdeal (m : (ℓ : Loc Cert.AwiRefIdeal.nD Cert.AwiRefIdeal.τ Cert.AwiRefIdeal.sig) → Buf (Elt Ideal) ℓ) : Prop :=
  True

def Pre_Asm (m : (ℓ : Loc Cert.Asm.nD Cert.Asm.τ Cert.Asm.sig) → Buf (Elt Bits) ℓ) : Prop :=
  True

def Pre_AsmIdeal (m : (ℓ : Loc Cert.AsmIdeal.nD Cert.AsmIdeal.τ Cert.AsmIdeal.sig) → Buf (Elt Ideal) ℓ) : Prop :=
  True

def Pre_AsmRefIdeal (m : (ℓ : Loc Cert.AsmRefIdeal.nD Cert.AsmRefIdeal.τ Cert.AsmRefIdeal.sig) → Buf (Elt Ideal) ℓ) : Prop :=
  True

def Pre_Swi (m : (ℓ : Loc Cert.Swi.nD Cert.Swi.τ Cert.Swi.sig) → Buf (Elt Bits) ℓ) : Prop :=
  True

def Pre_SwiIdeal (m : (ℓ : Loc Cert.SwiIdeal.nD Cert.SwiIdeal.τ Cert.SwiIdeal.sig) → Buf (Elt Ideal) ℓ) : Prop :=
  True

def Pre_SwiRefIdeal (m : (ℓ : Loc Cert.SwiRefIdeal.nD Cert.SwiRefIdeal.τ Cert.SwiRefIdeal.sig) → Buf (Elt Ideal) ℓ) : Prop :=
  True

def Pre_Upo (m : (ℓ : Loc Cert.Upo.nD Cert.Upo.τ Cert.Upo.sig) → Buf (Elt Bits) ℓ) : Prop :=
  True

def Pre_UpoIdeal (m : (ℓ : Loc Cert.UpoIdeal.nD Cert.UpoIdeal.τ Cert.UpoIdeal.sig) → Buf (Elt Ideal) ℓ) : Prop :=
  True

def Pre_UpoRefIdeal (m : (ℓ : Loc Cert.UpoRefIdeal.nD Cert.UpoRefIdeal.τ Cert.UpoRefIdeal.sig) → Buf (Elt Ideal) ℓ) : Prop :=
  True

def Pre_Sst (m : (ℓ : Loc Cert.Sst.nD Cert.Sst.τ Cert.Sst.sig) → Buf (Elt Bits) ℓ) : Prop :=
  True

def Pre_SstIdeal (m : (ℓ : Loc Cert.SstIdeal.nD Cert.SstIdeal.τ Cert.SstIdeal.sig) → Buf (Elt Ideal) ℓ) : Prop :=
  True

def Pre_SstRefIdeal (m : (ℓ : Loc Cert.SstRefIdeal.nD Cert.SstRefIdeal.τ Cert.SstRefIdeal.sig) → Buf (Elt Ideal) ℓ) : Prop :=
  True

def quiescent_Tn [hTn : Cert.Tn.Facts] : Prop :=
  ∀ (m : (ℓ : Loc Cert.Tn.nD Cert.Tn.τ Cert.Tn.sig) → Buf (Elt Bits) ℓ) (g : Dev Cert.Tn.nD → PrngReg), Pre_Tn m →
    θ_run (Cert.Tn.defs (F := Bits)) (onTc (τ := Cert.Tn.τ) (Cert.Tn.main (F := Bits))) ⟨m, fun _ => 0, g⟩ (fun r => (∀ c : Dev Cert.Tn.nD,
      r.2.mem ((c.tc : Thread Cert.Tn.nD Cert.Tn.τ).loc Cert.Tn.main_arg0) = m ((c.tc : Thread Cert.Tn.nD Cert.Tn.τ).loc Cert.Tn.main_arg0)
      ∧ r.2.mem ((c.tc : Thread Cert.Tn.nD Cert.Tn.τ).loc Cert.Tn.main_arg1) = m ((c.tc : Thread Cert.Tn.nD Cert.Tn.τ).loc Cert.Tn.main_arg1))
      ∧ r.2.sem = fun _ => 0)

def quiescent_TnIdeal [hTnIdeal : Cert.TnIdeal.Facts] : Prop :=
  ∀ (m : (ℓ : Loc Cert.TnIdeal.nD Cert.TnIdeal.τ Cert.TnIdeal.sig) → Buf (Elt Ideal) ℓ) (g : Dev Cert.TnIdeal.nD → PrngReg), Pre_TnIdeal m →
    θ_run (Cert.TnIdeal.defs (F := Ideal)) (onTc (τ := Cert.TnIdeal.τ) (Cert.TnIdeal.main (F := Ideal))) ⟨m, fun _ => 0, g⟩ (fun r => (∀ c : Dev Cert.TnIdeal.nD,
      r.2.mem ((c.tc : Thread Cert.TnIdeal.nD Cert.TnIdeal.τ).loc Cert.TnIdeal.main_arg0) = m ((c.tc : Thread Cert.TnIdeal.nD Cert.TnIdeal.τ).loc Cert.TnIdeal.main_arg0)
      ∧ r.2.mem ((c.tc : Thread Cert.TnIdeal.nD Cert.TnIdeal.τ).loc Cert.TnIdeal.main_arg1) = m ((c.tc : Thread Cert.TnIdeal.nD Cert.TnIdeal.τ).loc Cert.TnIdeal.main_arg1))
      ∧ r.2.sem = fun _ => 0)

def quiescent_TnRefIdeal [hTnRefIdeal : Cert.TnRefIdeal.Facts] : Prop :=
  ∀ (m : (ℓ : Loc Cert.TnRefIdeal.nD Cert.TnRefIdeal.τ Cert.TnRefIdeal.sig) → Buf (Elt Ideal) ℓ) (g : Dev Cert.TnRefIdeal.nD → PrngReg), Pre_TnRefIdeal m →
    θ_run (Cert.TnRefIdeal.defs (F := Ideal)) (onTc (τ := Cert.TnRefIdeal.τ) (Cert.TnRefIdeal.main (F := Ideal))) ⟨m, fun _ => 0, g⟩ (fun r => (∀ c : Dev Cert.TnRefIdeal.nD,
      r.2.mem ((c.tc : Thread Cert.TnRefIdeal.nD Cert.TnRefIdeal.τ).loc Cert.TnRefIdeal.main_arg0) = m ((c.tc : Thread Cert.TnRefIdeal.nD Cert.TnRefIdeal.τ).loc Cert.TnRefIdeal.main_arg0)
      ∧ r.2.mem ((c.tc : Thread Cert.TnRefIdeal.nD Cert.TnRefIdeal.τ).loc Cert.TnRefIdeal.main_arg1) = m ((c.tc : Thread Cert.TnRefIdeal.nD Cert.TnRefIdeal.τ).loc Cert.TnRefIdeal.main_arg1))
      ∧ r.2.sem = fun _ => 0)

def quiescent_Tin [hTin : Cert.Tin.Facts] : Prop :=
  ∀ (m : (ℓ : Loc Cert.Tin.nD Cert.Tin.τ Cert.Tin.sig) → Buf (Elt Bits) ℓ) (g : Dev Cert.Tin.nD → PrngReg), Pre_Tin m →
    θ_run (Cert.Tin.defs (F := Bits)) (onTc (τ := Cert.Tin.τ) (Cert.Tin.main (F := Bits))) ⟨m, fun _ => 0, g⟩ (fun r => (∀ c : Dev Cert.Tin.nD,
      r.2.mem ((c.tc : Thread Cert.Tin.nD Cert.Tin.τ).loc Cert.Tin.main_arg0) = m ((c.tc : Thread Cert.Tin.nD Cert.Tin.τ).loc Cert.Tin.main_arg0)
      ∧ r.2.mem ((c.tc : Thread Cert.Tin.nD Cert.Tin.τ).loc Cert.Tin.main_arg1) = m ((c.tc : Thread Cert.Tin.nD Cert.Tin.τ).loc Cert.Tin.main_arg1))
      ∧ r.2.sem = fun _ => 0)

def quiescent_TinIdeal [hTinIdeal : Cert.TinIdeal.Facts] : Prop :=
  ∀ (m : (ℓ : Loc Cert.TinIdeal.nD Cert.TinIdeal.τ Cert.TinIdeal.sig) → Buf (Elt Ideal) ℓ) (g : Dev Cert.TinIdeal.nD → PrngReg), Pre_TinIdeal m →
    θ_run (Cert.TinIdeal.defs (F := Ideal)) (onTc (τ := Cert.TinIdeal.τ) (Cert.TinIdeal.main (F := Ideal))) ⟨m, fun _ => 0, g⟩ (fun r => (∀ c : Dev Cert.TinIdeal.nD,
      r.2.mem ((c.tc : Thread Cert.TinIdeal.nD Cert.TinIdeal.τ).loc Cert.TinIdeal.main_arg0) = m ((c.tc : Thread Cert.TinIdeal.nD Cert.TinIdeal.τ).loc Cert.TinIdeal.main_arg0)
      ∧ r.2.mem ((c.tc : Thread Cert.TinIdeal.nD Cert.TinIdeal.τ).loc Cert.TinIdeal.main_arg1) = m ((c.tc : Thread Cert.TinIdeal.nD Cert.TinIdeal.τ).loc Cert.TinIdeal.main_arg1))
      ∧ r.2.sem = fun _ => 0)

def quiescent_TinRefIdeal [hTinRefIdeal : Cert.TinRefIdeal.Facts] : Prop :=
  ∀ (m : (ℓ : Loc Cert.TinRefIdeal.nD Cert.TinRefIdeal.τ Cert.TinRefIdeal.sig) → Buf (Elt Ideal) ℓ) (g : Dev Cert.TinRefIdeal.nD → PrngReg), Pre_TinRefIdeal m →
    θ_run (Cert.TinRefIdeal.defs (F := Ideal)) (onTc (τ := Cert.TinRefIdeal.τ) (Cert.TinRefIdeal.main (F := Ideal))) ⟨m, fun _ => 0, g⟩ (fun r => (∀ c : Dev Cert.TinRefIdeal.nD,
      r.2.mem ((c.tc : Thread Cert.TinRefIdeal.nD Cert.TinRefIdeal.τ).loc Cert.TinRefIdeal.main_arg0) = m ((c.tc : Thread Cert.TinRefIdeal.nD Cert.TinRefIdeal.τ).loc Cert.TinRefIdeal.main_arg0)
      ∧ r.2.mem ((c.tc : Thread Cert.TinRefIdeal.nD Cert.TinRefIdeal.τ).loc Cert.TinRefIdeal.main_arg1) = m ((c.tc : Thread Cert.TinRefIdeal.nD Cert.TinRefIdeal.τ).loc Cert.TinRefIdeal.main_arg1))
      ∧ r.2.sem = fun _ => 0)

def quiescent_Tout [hTout : Cert.Tout.Facts] : Prop :=
  ∀ (m : (ℓ : Loc Cert.Tout.nD Cert.Tout.τ Cert.Tout.sig) → Buf (Elt Bits) ℓ) (g : Dev Cert.Tout.nD → PrngReg), Pre_Tout m →
    θ_run (Cert.Tout.defs (F := Bits)) (onTc (τ := Cert.Tout.τ) (Cert.Tout.main (F := Bits))) ⟨m, fun _ => 0, g⟩ (fun r => (∀ c : Dev Cert.Tout.nD,
      r.2.mem ((c.tc : Thread Cert.Tout.nD Cert.Tout.τ).loc Cert.Tout.main_arg0) = m ((c.tc : Thread Cert.Tout.nD Cert.Tout.τ).loc Cert.Tout.main_arg0)
      ∧ r.2.mem ((c.tc : Thread Cert.Tout.nD Cert.Tout.τ).loc Cert.Tout.main_arg1) = m ((c.tc : Thread Cert.Tout.nD Cert.Tout.τ).loc Cert.Tout.main_arg1))
      ∧ r.2.sem = fun _ => 0)

def quiescent_ToutIdeal [hToutIdeal : Cert.ToutIdeal.Facts] : Prop :=
  ∀ (m : (ℓ : Loc Cert.ToutIdeal.nD Cert.ToutIdeal.τ Cert.ToutIdeal.sig) → Buf (Elt Ideal) ℓ) (g : Dev Cert.ToutIdeal.nD → PrngReg), Pre_ToutIdeal m →
    θ_run (Cert.ToutIdeal.defs (F := Ideal)) (onTc (τ := Cert.ToutIdeal.τ) (Cert.ToutIdeal.main (F := Ideal))) ⟨m, fun _ => 0, g⟩ (fun r => (∀ c : Dev Cert.ToutIdeal.nD,
      r.2.mem ((c.tc : Thread Cert.ToutIdeal.nD Cert.ToutIdeal.τ).loc Cert.ToutIdeal.main_arg0) = m ((c.tc : Thread Cert.ToutIdeal.nD Cert.ToutIdeal.τ).loc Cert.ToutIdeal.main_arg0)
      ∧ r.2.mem ((c.tc : Thread Cert.ToutIdeal.nD Cert.ToutIdeal.τ).loc Cert.ToutIdeal.main_arg1) = m ((c.tc : Thread Cert.ToutIdeal.nD Cert.ToutIdeal.τ).loc Cert.ToutIdeal.main_arg1))
      ∧ r.2.sem = fun _ => 0)

def quiescent_ToutRefIdeal [hToutRefIdeal : Cert.ToutRefIdeal.Facts] : Prop :=
  ∀ (m : (ℓ : Loc Cert.ToutRefIdeal.nD Cert.ToutRefIdeal.τ Cert.ToutRefIdeal.sig) → Buf (Elt Ideal) ℓ) (g : Dev Cert.ToutRefIdeal.nD → PrngReg), Pre_ToutRefIdeal m →
    θ_run (Cert.ToutRefIdeal.defs (F := Ideal)) (onTc (τ := Cert.ToutRefIdeal.τ) (Cert.ToutRefIdeal.main (F := Ideal))) ⟨m, fun _ => 0, g⟩ (fun r => (∀ c : Dev Cert.ToutRefIdeal.nD,
      r.2.mem ((c.tc : Thread Cert.ToutRefIdeal.nD Cert.ToutRefIdeal.τ).loc Cert.ToutRefIdeal.main_arg0) = m ((c.tc : Thread Cert.ToutRefIdeal.nD Cert.ToutRefIdeal.τ).loc Cert.ToutRefIdeal.main_arg0)
      ∧ r.2.mem ((c.tc : Thread Cert.ToutRefIdeal.nD Cert.ToutRefIdeal.τ).loc Cert.ToutRefIdeal.main_arg1) = m ((c.tc : Thread Cert.ToutRefIdeal.nD Cert.ToutRefIdeal.τ).loc Cert.ToutRefIdeal.main_arg1))
      ∧ r.2.sem = fun _ => 0)

def quiescent_Hid [hHid : Cert.Hid.Facts] : Prop :=
  ∀ (m : (ℓ : Loc Cert.Hid.nD Cert.Hid.τ Cert.Hid.sig) → Buf (Elt Bits) ℓ) (g : Dev Cert.Hid.nD → PrngReg), Pre_Hid m →
    θ_run (Cert.Hid.defs (F := Bits)) (onTc (τ := Cert.Hid.τ) (Cert.Hid.main (F := Bits))) ⟨m, fun _ => 0, g⟩ (fun r => (∀ c : Dev Cert.Hid.nD,
      r.2.mem ((c.tc : Thread Cert.Hid.nD Cert.Hid.τ).loc Cert.Hid.main_arg0) = m ((c.tc : Thread Cert.Hid.nD Cert.Hid.τ).loc Cert.Hid.main_arg0)
      ∧ r.2.mem ((c.tc : Thread Cert.Hid.nD Cert.Hid.τ).loc Cert.Hid.main_arg1) = m ((c.tc : Thread Cert.Hid.nD Cert.Hid.τ).loc Cert.Hid.main_arg1)
      ∧ r.2.mem ((c.tc : Thread Cert.Hid.nD Cert.Hid.τ).loc Cert.Hid.main_arg2) = m ((c.tc : Thread Cert.Hid.nD Cert.Hid.τ).loc Cert.Hid.main_arg2)
      ∧ r.2.mem ((c.tc : Thread Cert.Hid.nD Cert.Hid.τ).loc Cert.Hid.main_arg3) = m ((c.tc : Thread Cert.Hid.nD Cert.Hid.τ).loc Cert.Hid.main_arg3))
      ∧ r.2.sem = fun _ => 0)

def quiescent_HidIdeal [hHidIdeal : Cert.HidIdeal.Facts] : Prop :=
  ∀ (m : (ℓ : Loc Cert.HidIdeal.nD Cert.HidIdeal.τ Cert.HidIdeal.sig) → Buf (Elt Ideal) ℓ) (g : Dev Cert.HidIdeal.nD → PrngReg), Pre_HidIdeal m →
    θ_run (Cert.HidIdeal.defs (F := Ideal)) (onTc (τ := Cert.HidIdeal.τ) (Cert.HidIdeal.main (F := Ideal))) ⟨m, fun _ => 0, g⟩ (fun r => (∀ c : Dev Cert.HidIdeal.nD,
      r.2.mem ((c.tc : Thread Cert.HidIdeal.nD Cert.HidIdeal.τ).loc Cert.HidIdeal.main_arg0) = m ((c.tc : Thread Cert.HidIdeal.nD Cert.HidIdeal.τ).loc Cert.HidIdeal.main_arg0)
      ∧ r.2.mem ((c.tc : Thread Cert.HidIdeal.nD Cert.HidIdeal.τ).loc Cert.HidIdeal.main_arg1) = m ((c.tc : Thread Cert.HidIdeal.nD Cert.HidIdeal.τ).loc Cert.HidIdeal.main_arg1)
      ∧ r.2.mem ((c.tc : Thread Cert.HidIdeal.nD Cert.HidIdeal.τ).loc Cert.HidIdeal.main_arg2) = m ((c.tc : Thread Cert.HidIdeal.nD Cert.HidIdeal.τ).loc Cert.HidIdeal.main_arg2)
      ∧ r.2.mem ((c.tc : Thread Cert.HidIdeal.nD Cert.HidIdeal.τ).loc Cert.HidIdeal.main_arg3) = m ((c.tc : Thread Cert.HidIdeal.nD Cert.HidIdeal.τ).loc Cert.HidIdeal.main_arg3))
      ∧ r.2.sem = fun _ => 0)

def quiescent_HidIdeal_pre_hid_finite [hHidIdeal : Cert.HidIdeal.Facts] [hPre_hid_finite : Cert.Pre_hid_finite.Facts] : Prop :=
  ∀ (m : (ℓ : Loc Cert.HidIdeal.nD Cert.HidIdeal.τ Cert.HidIdeal.sig) → Buf (Elt Ideal) ℓ) (g : Dev Cert.HidIdeal.nD → PrngReg), Pre_HidIdeal_hid_finite m →
    θ_run (Cert.HidIdeal.defs (F := Ideal)) (onTc (τ := Cert.HidIdeal.τ) (Cert.HidIdeal.main (F := Ideal))) ⟨m, fun _ => 0, g⟩ (fun r => (∀ c : Dev Cert.HidIdeal.nD,
      r.2.mem ((c.tc : Thread Cert.HidIdeal.nD Cert.HidIdeal.τ).loc Cert.HidIdeal.main_arg0) = m ((c.tc : Thread Cert.HidIdeal.nD Cert.HidIdeal.τ).loc Cert.HidIdeal.main_arg0)
      ∧ r.2.mem ((c.tc : Thread Cert.HidIdeal.nD Cert.HidIdeal.τ).loc Cert.HidIdeal.main_arg1) = m ((c.tc : Thread Cert.HidIdeal.nD Cert.HidIdeal.τ).loc Cert.HidIdeal.main_arg1)
      ∧ r.2.mem ((c.tc : Thread Cert.HidIdeal.nD Cert.HidIdeal.τ).loc Cert.HidIdeal.main_arg2) = m ((c.tc : Thread Cert.HidIdeal.nD Cert.HidIdeal.τ).loc Cert.HidIdeal.main_arg2)
      ∧ r.2.mem ((c.tc : Thread Cert.HidIdeal.nD Cert.HidIdeal.τ).loc Cert.HidIdeal.main_arg3) = m ((c.tc : Thread Cert.HidIdeal.nD Cert.HidIdeal.τ).loc Cert.HidIdeal.main_arg3))
      ∧ r.2.sem = fun _ => 0)

def quiescent_HidRefIdeal [hHidRefIdeal : Cert.HidRefIdeal.Facts] : Prop :=
  ∀ (m : (ℓ : Loc Cert.HidRefIdeal.nD Cert.HidRefIdeal.τ Cert.HidRefIdeal.sig) → Buf (Elt Ideal) ℓ) (g : Dev Cert.HidRefIdeal.nD → PrngReg), Pre_HidRefIdeal m →
    θ_run (Cert.HidRefIdeal.defs (F := Ideal)) (onTc (τ := Cert.HidRefIdeal.τ) (Cert.HidRefIdeal.main (F := Ideal))) ⟨m, fun _ => 0, g⟩ (fun r => (∀ c : Dev Cert.HidRefIdeal.nD,
      r.2.mem ((c.tc : Thread Cert.HidRefIdeal.nD Cert.HidRefIdeal.τ).loc Cert.HidRefIdeal.main_arg0) = m ((c.tc : Thread Cert.HidRefIdeal.nD Cert.HidRefIdeal.τ).loc Cert.HidRefIdeal.main_arg0)
      ∧ r.2.mem ((c.tc : Thread Cert.HidRefIdeal.nD Cert.HidRefIdeal.τ).loc Cert.HidRefIdeal.main_arg1) = m ((c.tc : Thread Cert.HidRefIdeal.nD Cert.HidRefIdeal.τ).loc Cert.HidRefIdeal.main_arg1)
      ∧ r.2.mem ((c.tc : Thread Cert.HidRefIdeal.nD Cert.HidRefIdeal.τ).loc Cert.HidRefIdeal.main_arg2) = m ((c.tc : Thread Cert.HidRefIdeal.nD Cert.HidRefIdeal.τ).loc Cert.HidRefIdeal.main_arg2)
      ∧ r.2.mem ((c.tc : Thread Cert.HidRefIdeal.nD Cert.HidRefIdeal.τ).loc Cert.HidRefIdeal.main_arg3) = m ((c.tc : Thread Cert.HidRefIdeal.nD Cert.HidRefIdeal.τ).loc Cert.HidRefIdeal.main_arg3))
      ∧ r.2.sem = fun _ => 0)

def quiescent_HidRefIdeal_pre_hid_finite [hHidRefIdeal : Cert.HidRefIdeal.Facts] [hPre_hid_finite : Cert.Pre_hid_finite.Facts] : Prop :=
  ∀ (m : (ℓ : Loc Cert.HidRefIdeal.nD Cert.HidRefIdeal.τ Cert.HidRefIdeal.sig) → Buf (Elt Ideal) ℓ) (g : Dev Cert.HidRefIdeal.nD → PrngReg), Pre_HidRefIdeal_hid_finite m →
    θ_run (Cert.HidRefIdeal.defs (F := Ideal)) (onTc (τ := Cert.HidRefIdeal.τ) (Cert.HidRefIdeal.main (F := Ideal))) ⟨m, fun _ => 0, g⟩ (fun r => (∀ c : Dev Cert.HidRefIdeal.nD,
      r.2.mem ((c.tc : Thread Cert.HidRefIdeal.nD Cert.HidRefIdeal.τ).loc Cert.HidRefIdeal.main_arg0) = m ((c.tc : Thread Cert.HidRefIdeal.nD Cert.HidRefIdeal.τ).loc Cert.HidRefIdeal.main_arg0)
      ∧ r.2.mem ((c.tc : Thread Cert.HidRefIdeal.nD Cert.HidRefIdeal.τ).loc Cert.HidRefIdeal.main_arg1) = m ((c.tc : Thread Cert.HidRefIdeal.nD Cert.HidRefIdeal.τ).loc Cert.HidRefIdeal.main_arg1)
      ∧ r.2.mem ((c.tc : Thread Cert.HidRefIdeal.nD Cert.HidRefIdeal.τ).loc Cert.HidRefIdeal.main_arg2) = m ((c.tc : Thread Cert.HidRefIdeal.nD Cert.HidRefIdeal.τ).loc Cert.HidRefIdeal.main_arg2)
      ∧ r.2.mem ((c.tc : Thread Cert.HidRefIdeal.nD Cert.HidRefIdeal.τ).loc Cert.HidRefIdeal.main_arg3) = m ((c.tc : Thread Cert.HidRefIdeal.nD Cert.HidRefIdeal.τ).loc Cert.HidRefIdeal.main_arg3))
      ∧ r.2.sem = fun _ => 0)

def quiescent_Gup [hGup : Cert.Gup.Facts] : Prop :=
  ∀ (m : (ℓ : Loc Cert.Gup.nD Cert.Gup.τ Cert.Gup.sig) → Buf (Elt Bits) ℓ) (g : Dev Cert.Gup.nD → PrngReg), Pre_Gup m →
    θ_run (Cert.Gup.defs (F := Bits)) (onTc (τ := Cert.Gup.τ) (Cert.Gup.main (F := Bits))) ⟨m, fun _ => 0, g⟩ (fun r => (∀ c : Dev Cert.Gup.nD,
      r.2.mem ((c.tc : Thread Cert.Gup.nD Cert.Gup.τ).loc Cert.Gup.main_arg0) = m ((c.tc : Thread Cert.Gup.nD Cert.Gup.τ).loc Cert.Gup.main_arg0)
      ∧ r.2.mem ((c.tc : Thread Cert.Gup.nD Cert.Gup.τ).loc Cert.Gup.main_arg1) = m ((c.tc : Thread Cert.Gup.nD Cert.Gup.τ).loc Cert.Gup.main_arg1)
      ∧ r.2.mem ((c.tc : Thread Cert.Gup.nD Cert.Gup.τ).loc Cert.Gup.main_arg2) = m ((c.tc : Thread Cert.Gup.nD Cert.Gup.τ).loc Cert.Gup.main_arg2))
      ∧ r.2.sem = fun _ => 0)

def quiescent_GupIdeal [hGupIdeal : Cert.GupIdeal.Facts] : Prop :=
  ∀ (m : (ℓ : Loc Cert.GupIdeal.nD Cert.GupIdeal.τ Cert.GupIdeal.sig) → Buf (Elt Ideal) ℓ) (g : Dev Cert.GupIdeal.nD → PrngReg), Pre_GupIdeal m →
    θ_run (Cert.GupIdeal.defs (F := Ideal)) (onTc (τ := Cert.GupIdeal.τ) (Cert.GupIdeal.main (F := Ideal))) ⟨m, fun _ => 0, g⟩ (fun r => (∀ c : Dev Cert.GupIdeal.nD,
      r.2.mem ((c.tc : Thread Cert.GupIdeal.nD Cert.GupIdeal.τ).loc Cert.GupIdeal.main_arg0) = m ((c.tc : Thread Cert.GupIdeal.nD Cert.GupIdeal.τ).loc Cert.GupIdeal.main_arg0)
      ∧ r.2.mem ((c.tc : Thread Cert.GupIdeal.nD Cert.GupIdeal.τ).loc Cert.GupIdeal.main_arg1) = m ((c.tc : Thread Cert.GupIdeal.nD Cert.GupIdeal.τ).loc Cert.GupIdeal.main_arg1)
      ∧ r.2.mem ((c.tc : Thread Cert.GupIdeal.nD Cert.GupIdeal.τ).loc Cert.GupIdeal.main_arg2) = m ((c.tc : Thread Cert.GupIdeal.nD Cert.GupIdeal.τ).loc Cert.GupIdeal.main_arg2))
      ∧ r.2.sem = fun _ => 0)

def quiescent_GupRefIdeal [hGupRefIdeal : Cert.GupRefIdeal.Facts] : Prop :=
  ∀ (m : (ℓ : Loc Cert.GupRefIdeal.nD Cert.GupRefIdeal.τ Cert.GupRefIdeal.sig) → Buf (Elt Ideal) ℓ) (g : Dev Cert.GupRefIdeal.nD → PrngReg), Pre_GupRefIdeal m →
    θ_run (Cert.GupRefIdeal.defs (F := Ideal)) (onTc (τ := Cert.GupRefIdeal.τ) (Cert.GupRefIdeal.main (F := Ideal))) ⟨m, fun _ => 0, g⟩ (fun r => (∀ c : Dev Cert.GupRefIdeal.nD,
      r.2.mem ((c.tc : Thread Cert.GupRefIdeal.nD Cert.GupRefIdeal.τ).loc Cert.GupRefIdeal.main_arg0) = m ((c.tc : Thread Cert.GupRefIdeal.nD Cert.GupRefIdeal.τ).loc Cert.GupRefIdeal.main_arg0)
      ∧ r.2.mem ((c.tc : Thread Cert.GupRefIdeal.nD Cert.GupRefIdeal.τ).loc Cert.GupRefIdeal.main_arg1) = m ((c.tc : Thread Cert.GupRefIdeal.nD Cert.GupRefIdeal.τ).loc Cert.GupRefIdeal.main_arg1)
      ∧ r.2.mem ((c.tc : Thread Cert.GupRefIdeal.nD Cert.GupRefIdeal.τ).loc Cert.GupRefIdeal.main_arg2) = m ((c.tc : Thread Cert.GupRefIdeal.nD Cert.GupRefIdeal.τ).loc Cert.GupRefIdeal.main_arg2))
      ∧ r.2.sem = fun _ => 0)

def quiescent_Ntg [hNtg : Cert.Ntg.Facts] : Prop :=
  ∀ (m : (ℓ : Loc Cert.Ntg.nD Cert.Ntg.τ Cert.Ntg.sig) → Buf (Elt Bits) ℓ) (g : Dev Cert.Ntg.nD → PrngReg), Pre_Ntg m →
    θ_run (Cert.Ntg.defs (F := Bits)) (onTc (τ := Cert.Ntg.τ) (Cert.Ntg.main (F := Bits))) ⟨m, fun _ => 0, g⟩ (fun r => (∀ c : Dev Cert.Ntg.nD,
      r.2.mem ((c.tc : Thread Cert.Ntg.nD Cert.Ntg.τ).loc Cert.Ntg.main_arg0) = m ((c.tc : Thread Cert.Ntg.nD Cert.Ntg.τ).loc Cert.Ntg.main_arg0)
      ∧ r.2.mem ((c.tc : Thread Cert.Ntg.nD Cert.Ntg.τ).loc Cert.Ntg.main_arg1) = m ((c.tc : Thread Cert.Ntg.nD Cert.Ntg.τ).loc Cert.Ntg.main_arg1))
      ∧ r.2.sem = fun _ => 0)

def quiescent_NtgIdeal [hNtgIdeal : Cert.NtgIdeal.Facts] : Prop :=
  ∀ (m : (ℓ : Loc Cert.NtgIdeal.nD Cert.NtgIdeal.τ Cert.NtgIdeal.sig) → Buf (Elt Ideal) ℓ) (g : Dev Cert.NtgIdeal.nD → PrngReg), Pre_NtgIdeal m →
    θ_run (Cert.NtgIdeal.defs (F := Ideal)) (onTc (τ := Cert.NtgIdeal.τ) (Cert.NtgIdeal.main (F := Ideal))) ⟨m, fun _ => 0, g⟩ (fun r => (∀ c : Dev Cert.NtgIdeal.nD,
      r.2.mem ((c.tc : Thread Cert.NtgIdeal.nD Cert.NtgIdeal.τ).loc Cert.NtgIdeal.main_arg0) = m ((c.tc : Thread Cert.NtgIdeal.nD Cert.NtgIdeal.τ).loc Cert.NtgIdeal.main_arg0)
      ∧ r.2.mem ((c.tc : Thread Cert.NtgIdeal.nD Cert.NtgIdeal.τ).loc Cert.NtgIdeal.main_arg1) = m ((c.tc : Thread Cert.NtgIdeal.nD Cert.NtgIdeal.τ).loc Cert.NtgIdeal.main_arg1))
      ∧ r.2.sem = fun _ => 0)

def quiescent_NtgRefIdeal [hNtgRefIdeal : Cert.NtgRefIdeal.Facts] : Prop :=
  ∀ (m : (ℓ : Loc Cert.NtgRefIdeal.nD Cert.NtgRefIdeal.τ Cert.NtgRefIdeal.sig) → Buf (Elt Ideal) ℓ) (g : Dev Cert.NtgRefIdeal.nD → PrngReg), Pre_NtgRefIdeal m →
    θ_run (Cert.NtgRefIdeal.defs (F := Ideal)) (onTc (τ := Cert.NtgRefIdeal.τ) (Cert.NtgRefIdeal.main (F := Ideal))) ⟨m, fun _ => 0, g⟩ (fun r => (∀ c : Dev Cert.NtgRefIdeal.nD,
      r.2.mem ((c.tc : Thread Cert.NtgRefIdeal.nD Cert.NtgRefIdeal.τ).loc Cert.NtgRefIdeal.main_arg0) = m ((c.tc : Thread Cert.NtgRefIdeal.nD Cert.NtgRefIdeal.τ).loc Cert.NtgRefIdeal.main_arg0)
      ∧ r.2.mem ((c.tc : Thread Cert.NtgRefIdeal.nD Cert.NtgRefIdeal.τ).loc Cert.NtgRefIdeal.main_arg1) = m ((c.tc : Thread Cert.NtgRefIdeal.nD Cert.NtgRefIdeal.τ).loc Cert.NtgRefIdeal.main_arg1))
      ∧ r.2.sem = fun _ => 0)

def quiescent_Nti [hNti : Cert.Nti.Facts] : Prop :=
  ∀ (m : (ℓ : Loc Cert.Nti.nD Cert.Nti.τ Cert.Nti.sig) → Buf (Elt Bits) ℓ) (g : Dev Cert.Nti.nD → PrngReg), Pre_Nti m →
    θ_run (Cert.Nti.defs (F := Bits)) (onTc (τ := Cert.Nti.τ) (Cert.Nti.main (F := Bits))) ⟨m, fun _ => 0, g⟩ (fun r => (∀ c : Dev Cert.Nti.nD,
      r.2.mem ((c.tc : Thread Cert.Nti.nD Cert.Nti.τ).loc Cert.Nti.main_arg0) = m ((c.tc : Thread Cert.Nti.nD Cert.Nti.τ).loc Cert.Nti.main_arg0)
      ∧ r.2.mem ((c.tc : Thread Cert.Nti.nD Cert.Nti.τ).loc Cert.Nti.main_arg1) = m ((c.tc : Thread Cert.Nti.nD Cert.Nti.τ).loc Cert.Nti.main_arg1))
      ∧ r.2.sem = fun _ => 0)

def quiescent_NtiIdeal [hNtiIdeal : Cert.NtiIdeal.Facts] : Prop :=
  ∀ (m : (ℓ : Loc Cert.NtiIdeal.nD Cert.NtiIdeal.τ Cert.NtiIdeal.sig) → Buf (Elt Ideal) ℓ) (g : Dev Cert.NtiIdeal.nD → PrngReg), Pre_NtiIdeal m →
    θ_run (Cert.NtiIdeal.defs (F := Ideal)) (onTc (τ := Cert.NtiIdeal.τ) (Cert.NtiIdeal.main (F := Ideal))) ⟨m, fun _ => 0, g⟩ (fun r => (∀ c : Dev Cert.NtiIdeal.nD,
      r.2.mem ((c.tc : Thread Cert.NtiIdeal.nD Cert.NtiIdeal.τ).loc Cert.NtiIdeal.main_arg0) = m ((c.tc : Thread Cert.NtiIdeal.nD Cert.NtiIdeal.τ).loc Cert.NtiIdeal.main_arg0)
      ∧ r.2.mem ((c.tc : Thread Cert.NtiIdeal.nD Cert.NtiIdeal.τ).loc Cert.NtiIdeal.main_arg1) = m ((c.tc : Thread Cert.NtiIdeal.nD Cert.NtiIdeal.τ).loc Cert.NtiIdeal.main_arg1))
      ∧ r.2.sem = fun _ => 0)

def quiescent_NtiRefIdeal [hNtiRefIdeal : Cert.NtiRefIdeal.Facts] : Prop :=
  ∀ (m : (ℓ : Loc Cert.NtiRefIdeal.nD Cert.NtiRefIdeal.τ Cert.NtiRefIdeal.sig) → Buf (Elt Ideal) ℓ) (g : Dev Cert.NtiRefIdeal.nD → PrngReg), Pre_NtiRefIdeal m →
    θ_run (Cert.NtiRefIdeal.defs (F := Ideal)) (onTc (τ := Cert.NtiRefIdeal.τ) (Cert.NtiRefIdeal.main (F := Ideal))) ⟨m, fun _ => 0, g⟩ (fun r => (∀ c : Dev Cert.NtiRefIdeal.nD,
      r.2.mem ((c.tc : Thread Cert.NtiRefIdeal.nD Cert.NtiRefIdeal.τ).loc Cert.NtiRefIdeal.main_arg0) = m ((c.tc : Thread Cert.NtiRefIdeal.nD Cert.NtiRefIdeal.τ).loc Cert.NtiRefIdeal.main_arg0)
      ∧ r.2.mem ((c.tc : Thread Cert.NtiRefIdeal.nD Cert.NtiRefIdeal.τ).loc Cert.NtiRefIdeal.main_arg1) = m ((c.tc : Thread Cert.NtiRefIdeal.nD Cert.NtiRefIdeal.τ).loc Cert.NtiRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Obwd [hObwd : Cert.Obwd.Facts] : Prop :=
  ∀ (m : (ℓ : Loc Cert.Obwd.nD Cert.Obwd.τ Cert.Obwd.sig) → Buf (Elt Bits) ℓ) (g : Dev Cert.Obwd.nD → PrngReg), Pre_Obwd m →
    θ_run (Cert.Obwd.defs (F := Bits)) (onTc (τ := Cert.Obwd.τ) (Cert.Obwd.main (F := Bits))) ⟨m, fun _ => 0, g⟩ (fun r => (∀ c : Dev Cert.Obwd.nD,
      r.2.mem ((c.tc : Thread Cert.Obwd.nD Cert.Obwd.τ).loc Cert.Obwd.main_arg0) = m ((c.tc : Thread Cert.Obwd.nD Cert.Obwd.τ).loc Cert.Obwd.main_arg0)
      ∧ r.2.mem ((c.tc : Thread Cert.Obwd.nD Cert.Obwd.τ).loc Cert.Obwd.main_arg1) = m ((c.tc : Thread Cert.Obwd.nD Cert.Obwd.τ).loc Cert.Obwd.main_arg1)
      ∧ r.2.mem ((c.tc : Thread Cert.Obwd.nD Cert.Obwd.τ).loc Cert.Obwd.main_arg2) = m ((c.tc : Thread Cert.Obwd.nD Cert.Obwd.τ).loc Cert.Obwd.main_arg2)
      ∧ r.2.mem ((c.tc : Thread Cert.Obwd.nD Cert.Obwd.τ).loc Cert.Obwd.main_arg3) = m ((c.tc : Thread Cert.Obwd.nD Cert.Obwd.τ).loc Cert.Obwd.main_arg3))
      ∧ r.2.sem = fun _ => 0)

def quiescent_ObwdIdeal [hObwdIdeal : Cert.ObwdIdeal.Facts] : Prop :=
  ∀ (m : (ℓ : Loc Cert.ObwdIdeal.nD Cert.ObwdIdeal.τ Cert.ObwdIdeal.sig) → Buf (Elt Ideal) ℓ) (g : Dev Cert.ObwdIdeal.nD → PrngReg), Pre_ObwdIdeal m →
    θ_run (Cert.ObwdIdeal.defs (F := Ideal)) (onTc (τ := Cert.ObwdIdeal.τ) (Cert.ObwdIdeal.main (F := Ideal))) ⟨m, fun _ => 0, g⟩ (fun r => (∀ c : Dev Cert.ObwdIdeal.nD,
      r.2.mem ((c.tc : Thread Cert.ObwdIdeal.nD Cert.ObwdIdeal.τ).loc Cert.ObwdIdeal.main_arg0) = m ((c.tc : Thread Cert.ObwdIdeal.nD Cert.ObwdIdeal.τ).loc Cert.ObwdIdeal.main_arg0)
      ∧ r.2.mem ((c.tc : Thread Cert.ObwdIdeal.nD Cert.ObwdIdeal.τ).loc Cert.ObwdIdeal.main_arg1) = m ((c.tc : Thread Cert.ObwdIdeal.nD Cert.ObwdIdeal.τ).loc Cert.ObwdIdeal.main_arg1)
      ∧ r.2.mem ((c.tc : Thread Cert.ObwdIdeal.nD Cert.ObwdIdeal.τ).loc Cert.ObwdIdeal.main_arg2) = m ((c.tc : Thread Cert.ObwdIdeal.nD Cert.ObwdIdeal.τ).loc Cert.ObwdIdeal.main_arg2)
      ∧ r.2.mem ((c.tc : Thread Cert.ObwdIdeal.nD Cert.ObwdIdeal.τ).loc Cert.ObwdIdeal.main_arg3) = m ((c.tc : Thread Cert.ObwdIdeal.nD Cert.ObwdIdeal.τ).loc Cert.ObwdIdeal.main_arg3))
      ∧ r.2.sem = fun _ => 0)

def quiescent_ObwdRefIdeal [hObwdRefIdeal : Cert.ObwdRefIdeal.Facts] : Prop :=
  ∀ (m : (ℓ : Loc Cert.ObwdRefIdeal.nD Cert.ObwdRefIdeal.τ Cert.ObwdRefIdeal.sig) → Buf (Elt Ideal) ℓ) (g : Dev Cert.ObwdRefIdeal.nD → PrngReg), Pre_ObwdRefIdeal m →
    θ_run (Cert.ObwdRefIdeal.defs (F := Ideal)) (onTc (τ := Cert.ObwdRefIdeal.τ) (Cert.ObwdRefIdeal.main (F := Ideal))) ⟨m, fun _ => 0, g⟩ (fun r => (∀ c : Dev Cert.ObwdRefIdeal.nD,
      r.2.mem ((c.tc : Thread Cert.ObwdRefIdeal.nD Cert.ObwdRefIdeal.τ).loc Cert.ObwdRefIdeal.main_arg0) = m ((c.tc : Thread Cert.ObwdRefIdeal.nD Cert.ObwdRefIdeal.τ).loc Cert.ObwdRefIdeal.main_arg0)
      ∧ r.2.mem ((c.tc : Thread Cert.ObwdRefIdeal.nD Cert.ObwdRefIdeal.τ).loc Cert.ObwdRefIdeal.main_arg1) = m ((c.tc : Thread Cert.ObwdRefIdeal.nD Cert.ObwdRefIdeal.τ).loc Cert.ObwdRefIdeal.main_arg1)
      ∧ r.2.mem ((c.tc : Thread Cert.ObwdRefIdeal.nD Cert.ObwdRefIdeal.τ).loc Cert.ObwdRefIdeal.main_arg2) = m ((c.tc : Thread Cert.ObwdRefIdeal.nD Cert.ObwdRefIdeal.τ).loc Cert.ObwdRefIdeal.main_arg2)
      ∧ r.2.mem ((c.tc : Thread Cert.ObwdRefIdeal.nD Cert.ObwdRefIdeal.τ).loc Cert.ObwdRefIdeal.main_arg3) = m ((c.tc : Thread Cert.ObwdRefIdeal.nD Cert.ObwdRefIdeal.τ).loc Cert.ObwdRefIdeal.main_arg3))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6))
      ∧ r.2.sem = fun _ => 0)

def quiescent_Fxa [hFxa : Cert.Fxa.Facts] : Prop :=
  ∀ (m : (ℓ : Loc Cert.Fxa.nD Cert.Fxa.τ Cert.Fxa.sig) → Buf (Elt Bits) ℓ) (g : Dev Cert.Fxa.nD → PrngReg), Pre_Fxa m →
    θ_run (Cert.Fxa.defs (F := Bits)) (onTc (τ := Cert.Fxa.τ) (Cert.Fxa.main (F := Bits))) ⟨m, fun _ => 0, g⟩ (fun r => (∀ c : Dev Cert.Fxa.nD,
      r.2.mem ((c.tc : Thread Cert.Fxa.nD Cert.Fxa.τ).loc Cert.Fxa.main_arg0) = m ((c.tc : Thread Cert.Fxa.nD Cert.Fxa.τ).loc Cert.Fxa.main_arg0)
      ∧ r.2.mem ((c.tc : Thread Cert.Fxa.nD Cert.Fxa.τ).loc Cert.Fxa.main_arg1) = m ((c.tc : Thread Cert.Fxa.nD Cert.Fxa.τ).loc Cert.Fxa.main_arg1)
      ∧ r.2.mem ((c.tc : Thread Cert.Fxa.nD Cert.Fxa.τ).loc Cert.Fxa.main_arg2) = m ((c.tc : Thread Cert.Fxa.nD Cert.Fxa.τ).loc Cert.Fxa.main_arg2)
      ∧ r.2.mem ((c.tc : Thread Cert.Fxa.nD Cert.Fxa.τ).loc Cert.Fxa.main_arg3) = m ((c.tc : Thread Cert.Fxa.nD Cert.Fxa.τ).loc Cert.Fxa.main_arg3)
      ∧ r.2.mem ((c.tc : Thread Cert.Fxa.nD Cert.Fxa.τ).loc Cert.Fxa.main_arg4) = m ((c.tc : Thread Cert.Fxa.nD Cert.Fxa.τ).loc Cert.Fxa.main_arg4)
      ∧ r.2.mem ((c.tc : Thread Cert.Fxa.nD Cert.Fxa.τ).loc Cert.Fxa.main_arg5) = m ((c.tc : Thread Cert.Fxa.nD Cert.Fxa.τ).loc Cert.Fxa.main_arg5)
      ∧ r.2.mem ((c.tc : Thread Cert.Fxa.nD Cert.Fxa.τ).loc Cert.Fxa.main_arg6) = m ((c.tc : Thread Cert.Fxa.nD Cert.Fxa.τ).loc Cert.Fxa.main_arg6))
      ∧ r.2.sem = fun _ => 0)

def quiescent_FxaIdeal [hFxaIdeal : Cert.FxaIdeal.Facts] : Prop :=
  ∀ (m : (ℓ : Loc Cert.FxaIdeal.nD Cert.FxaIdeal.τ Cert.FxaIdeal.sig) → Buf (Elt Ideal) ℓ) (g : Dev Cert.FxaIdeal.nD → PrngReg), Pre_FxaIdeal m →
    θ_run (Cert.FxaIdeal.defs (F := Ideal)) (onTc (τ := Cert.FxaIdeal.τ) (Cert.FxaIdeal.main (F := Ideal))) ⟨m, fun _ => 0, g⟩ (fun r => (∀ c : Dev Cert.FxaIdeal.nD,
      r.2.mem ((c.tc : Thread Cert.FxaIdeal.nD Cert.FxaIdeal.τ).loc Cert.FxaIdeal.main_arg0) = m ((c.tc : Thread Cert.FxaIdeal.nD Cert.FxaIdeal.τ).loc Cert.FxaIdeal.main_arg0)
      ∧ r.2.mem ((c.tc : Thread Cert.FxaIdeal.nD Cert.FxaIdeal.τ).loc Cert.FxaIdeal.main_arg1) = m ((c.tc : Thread Cert.FxaIdeal.nD Cert.FxaIdeal.τ).loc Cert.FxaIdeal.main_arg1)
      ∧ r.2.mem ((c.tc : Thread Cert.FxaIdeal.nD Cert.FxaIdeal.τ).loc Cert.FxaIdeal.main_arg2) = m ((c.tc : Thread Cert.FxaIdeal.nD Cert.FxaIdeal.τ).loc Cert.FxaIdeal.main_arg2)
      ∧ r.2.mem ((c.tc : Thread Cert.FxaIdeal.nD Cert.FxaIdeal.τ).loc Cert.FxaIdeal.main_arg3) = m ((c.tc : Thread Cert.FxaIdeal.nD Cert.FxaIdeal.τ).loc Cert.FxaIdeal.main_arg3)
      ∧ r.2.mem ((c.tc : Thread Cert.FxaIdeal.nD Cert.FxaIdeal.τ).loc Cert.FxaIdeal.main_arg4) = m ((c.tc : Thread Cert.FxaIdeal.nD Cert.FxaIdeal.τ).loc Cert.FxaIdeal.main_arg4)
      ∧ r.2.mem ((c.tc : Thread Cert.FxaIdeal.nD Cert.FxaIdeal.τ).loc Cert.FxaIdeal.main_arg5) = m ((c.tc : Thread Cert.FxaIdeal.nD Cert.FxaIdeal.τ).loc Cert.FxaIdeal.main_arg5)
      ∧ r.2.mem ((c.tc : Thread Cert.FxaIdeal.nD Cert.FxaIdeal.τ).loc Cert.FxaIdeal.main_arg6) = m ((c.tc : Thread Cert.FxaIdeal.nD Cert.FxaIdeal.τ).loc Cert.FxaIdeal.main_arg6))
      ∧ r.2.sem = fun _ => 0)

def quiescent_FxaRefIdeal [hFxaRefIdeal : Cert.FxaRefIdeal.Facts] : Prop :=
  ∀ (m : (ℓ : Loc Cert.FxaRefIdeal.nD Cert.FxaRefIdeal.τ Cert.FxaRefIdeal.sig) → Buf (Elt Ideal) ℓ) (g : Dev Cert.FxaRefIdeal.nD → PrngReg), Pre_FxaRefIdeal m →
    θ_run (Cert.FxaRefIdeal.defs (F := Ideal)) (onTc (τ := Cert.FxaRefIdeal.τ) (Cert.FxaRefIdeal.main (F := Ideal))) ⟨m, fun _ => 0, g⟩ (fun r => (∀ c : Dev Cert.FxaRefIdeal.nD,
      r.2.mem ((c.tc : Thread Cert.FxaRefIdeal.nD Cert.FxaRefIdeal.τ).loc Cert.FxaRefIdeal.main_arg0) = m ((c.tc : Thread Cert.FxaRefIdeal.nD Cert.FxaRefIdeal.τ).loc Cert.FxaRefIdeal.main_arg0)
      ∧ r.2.mem ((c.tc : Thread Cert.FxaRefIdeal.nD Cert.FxaRefIdeal.τ).loc Cert.FxaRefIdeal.main_arg1) = m ((c.tc : Thread Cert.FxaRefIdeal.nD Cert.FxaRefIdeal.τ).loc Cert.FxaRefIdeal.main_arg1)
      ∧ r.2.mem ((c.tc : Thread Cert.FxaRefIdeal.nD Cert.FxaRefIdeal.τ).loc Cert.FxaRefIdeal.main_arg2) = m ((c.tc : Thread Cert.FxaRefIdeal.nD Cert.FxaRefIdeal.τ).loc Cert.FxaRefIdeal.main_arg2)
      ∧ r.2.mem ((c.tc : Thread Cert.FxaRefIdeal.nD Cert.FxaRefIdeal.τ).loc Cert.FxaRefIdeal.main_arg3) = m ((c.tc : Thread Cert.FxaRefIdeal.nD Cert.FxaRefIdeal.τ).loc Cert.FxaRefIdeal.main_arg3)
      ∧ r.2.mem ((c.tc : Thread Cert.FxaRefIdeal.nD Cert.FxaRefIdeal.τ).loc Cert.FxaRefIdeal.main_arg4) = m ((c.tc : Thread Cert.FxaRefIdeal.nD Cert.FxaRefIdeal.τ).loc Cert.FxaRefIdeal.main_arg4)
      ∧ r.2.mem ((c.tc : Thread Cert.FxaRefIdeal.nD Cert.FxaRefIdeal.τ).loc Cert.FxaRefIdeal.main_arg5) = m ((c.tc : Thread Cert.FxaRefIdeal.nD Cert.FxaRefIdeal.τ).loc Cert.FxaRefIdeal.main_arg5)
      ∧ r.2.mem ((c.tc : Thread Cert.FxaRefIdeal.nD Cert.FxaRefIdeal.τ).loc Cert.FxaRefIdeal.main_arg6) = m ((c.tc : Thread Cert.FxaRefIdeal.nD Cert.FxaRefIdeal.τ).loc Cert.FxaRefIdeal.main_arg6))
      ∧ r.2.sem = fun _ => 0)

def quiescent_Fxb [hFxb : Cert.Fxb.Facts] : Prop :=
  ∀ (m : (ℓ : Loc Cert.Fxb.nD Cert.Fxb.τ Cert.Fxb.sig) → Buf (Elt Bits) ℓ) (g : Dev Cert.Fxb.nD → PrngReg), Pre_Fxb m →
    θ_run (Cert.Fxb.defs (F := Bits)) (onTc (τ := Cert.Fxb.τ) (Cert.Fxb.main (F := Bits))) ⟨m, fun _ => 0, g⟩ (fun r => (∀ c : Dev Cert.Fxb.nD,
      r.2.mem ((c.tc : Thread Cert.Fxb.nD Cert.Fxb.τ).loc Cert.Fxb.main_arg0) = m ((c.tc : Thread Cert.Fxb.nD Cert.Fxb.τ).loc Cert.Fxb.main_arg0)
      ∧ r.2.mem ((c.tc : Thread Cert.Fxb.nD Cert.Fxb.τ).loc Cert.Fxb.main_arg1) = m ((c.tc : Thread Cert.Fxb.nD Cert.Fxb.τ).loc Cert.Fxb.main_arg1)
      ∧ r.2.mem ((c.tc : Thread Cert.Fxb.nD Cert.Fxb.τ).loc Cert.Fxb.main_arg2) = m ((c.tc : Thread Cert.Fxb.nD Cert.Fxb.τ).loc Cert.Fxb.main_arg2)
      ∧ r.2.mem ((c.tc : Thread Cert.Fxb.nD Cert.Fxb.τ).loc Cert.Fxb.main_arg3) = m ((c.tc : Thread Cert.Fxb.nD Cert.Fxb.τ).loc Cert.Fxb.main_arg3)
      ∧ r.2.mem ((c.tc : Thread Cert.Fxb.nD Cert.Fxb.τ).loc Cert.Fxb.main_arg4) = m ((c.tc : Thread Cert.Fxb.nD Cert.Fxb.τ).loc Cert.Fxb.main_arg4)
      ∧ r.2.mem ((c.tc : Thread Cert.Fxb.nD Cert.Fxb.τ).loc Cert.Fxb.main_arg5) = m ((c.tc : Thread Cert.Fxb.nD Cert.Fxb.τ).loc Cert.Fxb.main_arg5)
      ∧ r.2.mem ((c.tc : Thread Cert.Fxb.nD Cert.Fxb.τ).loc Cert.Fxb.main_arg6) = m ((c.tc : Thread Cert.Fxb.nD Cert.Fxb.τ).loc Cert.Fxb.main_arg6)
      ∧ r.2.mem ((c.tc : Thread Cert.Fxb.nD Cert.Fxb.τ).loc Cert.Fxb.main_arg7) = m ((c.tc : Thread Cert.Fxb.nD Cert.Fxb.τ).loc Cert.Fxb.main_arg7))
      ∧ r.2.sem = fun _ => 0)

def quiescent_FxbIdeal [hFxbIdeal : Cert.FxbIdeal.Facts] : Prop :=
  ∀ (m : (ℓ : Loc Cert.FxbIdeal.nD Cert.FxbIdeal.τ Cert.FxbIdeal.sig) → Buf (Elt Ideal) ℓ) (g : Dev Cert.FxbIdeal.nD → PrngReg), Pre_FxbIdeal m →
    θ_run (Cert.FxbIdeal.defs (F := Ideal)) (onTc (τ := Cert.FxbIdeal.τ) (Cert.FxbIdeal.main (F := Ideal))) ⟨m, fun _ => 0, g⟩ (fun r => (∀ c : Dev Cert.FxbIdeal.nD,
      r.2.mem ((c.tc : Thread Cert.FxbIdeal.nD Cert.FxbIdeal.τ).loc Cert.FxbIdeal.main_arg0) = m ((c.tc : Thread Cert.FxbIdeal.nD Cert.FxbIdeal.τ).loc Cert.FxbIdeal.main_arg0)
      ∧ r.2.mem ((c.tc : Thread Cert.FxbIdeal.nD Cert.FxbIdeal.τ).loc Cert.FxbIdeal.main_arg1) = m ((c.tc : Thread Cert.FxbIdeal.nD Cert.FxbIdeal.τ).loc Cert.FxbIdeal.main_arg1)
      ∧ r.2.mem ((c.tc : Thread Cert.FxbIdeal.nD Cert.FxbIdeal.τ).loc Cert.FxbIdeal.main_arg2) = m ((c.tc : Thread Cert.FxbIdeal.nD Cert.FxbIdeal.τ).loc Cert.FxbIdeal.main_arg2)
      ∧ r.2.mem ((c.tc : Thread Cert.FxbIdeal.nD Cert.FxbIdeal.τ).loc Cert.FxbIdeal.main_arg3) = m ((c.tc : Thread Cert.FxbIdeal.nD Cert.FxbIdeal.τ).loc Cert.FxbIdeal.main_arg3)
      ∧ r.2.mem ((c.tc : Thread Cert.FxbIdeal.nD Cert.FxbIdeal.τ).loc Cert.FxbIdeal.main_arg4) = m ((c.tc : Thread Cert.FxbIdeal.nD Cert.FxbIdeal.τ).loc Cert.FxbIdeal.main_arg4)
      ∧ r.2.mem ((c.tc : Thread Cert.FxbIdeal.nD Cert.FxbIdeal.τ).loc Cert.FxbIdeal.main_arg5) = m ((c.tc : Thread Cert.FxbIdeal.nD Cert.FxbIdeal.τ).loc Cert.FxbIdeal.main_arg5)
      ∧ r.2.mem ((c.tc : Thread Cert.FxbIdeal.nD Cert.FxbIdeal.τ).loc Cert.FxbIdeal.main_arg6) = m ((c.tc : Thread Cert.FxbIdeal.nD Cert.FxbIdeal.τ).loc Cert.FxbIdeal.main_arg6)
      ∧ r.2.mem ((c.tc : Thread Cert.FxbIdeal.nD Cert.FxbIdeal.τ).loc Cert.FxbIdeal.main_arg7) = m ((c.tc : Thread Cert.FxbIdeal.nD Cert.FxbIdeal.τ).loc Cert.FxbIdeal.main_arg7))
      ∧ r.2.sem = fun _ => 0)

def quiescent_FxbRefIdeal [hFxbRefIdeal : Cert.FxbRefIdeal.Facts] : Prop :=
  ∀ (m : (ℓ : Loc Cert.FxbRefIdeal.nD Cert.FxbRefIdeal.τ Cert.FxbRefIdeal.sig) → Buf (Elt Ideal) ℓ) (g : Dev Cert.FxbRefIdeal.nD → PrngReg), Pre_FxbRefIdeal m →
    θ_run (Cert.FxbRefIdeal.defs (F := Ideal)) (onTc (τ := Cert.FxbRefIdeal.τ) (Cert.FxbRefIdeal.main (F := Ideal))) ⟨m, fun _ => 0, g⟩ (fun r => (∀ c : Dev Cert.FxbRefIdeal.nD,
      r.2.mem ((c.tc : Thread Cert.FxbRefIdeal.nD Cert.FxbRefIdeal.τ).loc Cert.FxbRefIdeal.main_arg0) = m ((c.tc : Thread Cert.FxbRefIdeal.nD Cert.FxbRefIdeal.τ).loc Cert.FxbRefIdeal.main_arg0)
      ∧ r.2.mem ((c.tc : Thread Cert.FxbRefIdeal.nD Cert.FxbRefIdeal.τ).loc Cert.FxbRefIdeal.main_arg1) = m ((c.tc : Thread Cert.FxbRefIdeal.nD Cert.FxbRefIdeal.τ).loc Cert.FxbRefIdeal.main_arg1)
      ∧ r.2.mem ((c.tc : Thread Cert.FxbRefIdeal.nD Cert.FxbRefIdeal.τ).loc Cert.FxbRefIdeal.main_arg2) = m ((c.tc : Thread Cert.FxbRefIdeal.nD Cert.FxbRefIdeal.τ).loc Cert.FxbRefIdeal.main_arg2)
      ∧ r.2.mem ((c.tc : Thread Cert.FxbRefIdeal.nD Cert.FxbRefIdeal.τ).loc Cert.FxbRefIdeal.main_arg3) = m ((c.tc : Thread Cert.FxbRefIdeal.nD Cert.FxbRefIdeal.τ).loc Cert.FxbRefIdeal.main_arg3)
      ∧ r.2.mem ((c.tc : Thread Cert.FxbRefIdeal.nD Cert.FxbRefIdeal.τ).loc Cert.FxbRefIdeal.main_arg4) = m ((c.tc : Thread Cert.FxbRefIdeal.nD Cert.FxbRefIdeal.τ).loc Cert.FxbRefIdeal.main_arg4)
      ∧ r.2.mem ((c.tc : Thread Cert.FxbRefIdeal.nD Cert.FxbRefIdeal.τ).loc Cert.FxbRefIdeal.main_arg5) = m ((c.tc : Thread Cert.FxbRefIdeal.nD Cert.FxbRefIdeal.τ).loc Cert.FxbRefIdeal.main_arg5)
      ∧ r.2.mem ((c.tc : Thread Cert.FxbRefIdeal.nD Cert.FxbRefIdeal.τ).loc Cert.FxbRefIdeal.main_arg6) = m ((c.tc : Thread Cert.FxbRefIdeal.nD Cert.FxbRefIdeal.τ).loc Cert.FxbRefIdeal.main_arg6)
      ∧ r.2.mem ((c.tc : Thread Cert.FxbRefIdeal.nD Cert.FxbRefIdeal.τ).loc Cert.FxbRefIdeal.main_arg7) = m ((c.tc : Thread Cert.FxbRefIdeal.nD Cert.FxbRefIdeal.τ).loc Cert.FxbRefIdeal.main_arg7))
      ∧ r.2.sem = fun _ => 0)

def quiescent_Mdx [hMdx : Cert.Mdx.Facts] : Prop :=
  ∀ (m : (ℓ : Loc Cert.Mdx.nD Cert.Mdx.τ Cert.Mdx.sig) → Buf (Elt Bits) ℓ) (g : Dev Cert.Mdx.nD → PrngReg), Pre_Mdx m →
    θ_run (Cert.Mdx.defs (F := Bits)) (onTc (τ := Cert.Mdx.τ) (Cert.Mdx.main (F := Bits))) ⟨m, fun _ => 0, g⟩ (fun r => (∀ c : Dev Cert.Mdx.nD,
      r.2.mem ((c.tc : Thread Cert.Mdx.nD Cert.Mdx.τ).loc Cert.Mdx.main_arg0) = m ((c.tc : Thread Cert.Mdx.nD Cert.Mdx.τ).loc Cert.Mdx.main_arg0)
      ∧ r.2.mem ((c.tc : Thread Cert.Mdx.nD Cert.Mdx.τ).loc Cert.Mdx.main_arg1) = m ((c.tc : Thread Cert.Mdx.nD Cert.Mdx.τ).loc Cert.Mdx.main_arg1)
      ∧ r.2.mem ((c.tc : Thread Cert.Mdx.nD Cert.Mdx.τ).loc Cert.Mdx.main_arg2) = m ((c.tc : Thread Cert.Mdx.nD Cert.Mdx.τ).loc Cert.Mdx.main_arg2)
      ∧ r.2.mem ((c.tc : Thread Cert.Mdx.nD Cert.Mdx.τ).loc Cert.Mdx.main_arg3) = m ((c.tc : Thread Cert.Mdx.nD Cert.Mdx.τ).loc Cert.Mdx.main_arg3)
      ∧ r.2.mem ((c.tc : Thread Cert.Mdx.nD Cert.Mdx.τ).loc Cert.Mdx.main_arg4) = m ((c.tc : Thread Cert.Mdx.nD Cert.Mdx.τ).loc Cert.Mdx.main_arg4)
      ∧ r.2.mem ((c.tc : Thread Cert.Mdx.nD Cert.Mdx.τ).loc Cert.Mdx.main_arg5) = m ((c.tc : Thread Cert.Mdx.nD Cert.Mdx.τ).loc Cert.Mdx.main_arg5)
      ∧ r.2.mem ((c.tc : Thread Cert.Mdx.nD Cert.Mdx.τ).loc Cert.Mdx.main_arg6) = m ((c.tc : Thread Cert.Mdx.nD Cert.Mdx.τ).loc Cert.Mdx.main_arg6))
      ∧ r.2.sem = fun _ => 0)

def quiescent_MdxIdeal [hMdxIdeal : Cert.MdxIdeal.Facts] : Prop :=
  ∀ (m : (ℓ : Loc Cert.MdxIdeal.nD Cert.MdxIdeal.τ Cert.MdxIdeal.sig) → Buf (Elt Ideal) ℓ) (g : Dev Cert.MdxIdeal.nD → PrngReg), Pre_MdxIdeal m →
    θ_run (Cert.MdxIdeal.defs (F := Ideal)) (onTc (τ := Cert.MdxIdeal.τ) (Cert.MdxIdeal.main (F := Ideal))) ⟨m, fun _ => 0, g⟩ (fun r => (∀ c : Dev Cert.MdxIdeal.nD,
      r.2.mem ((c.tc : Thread Cert.MdxIdeal.nD Cert.MdxIdeal.τ).loc Cert.MdxIdeal.main_arg0) = m ((c.tc : Thread Cert.MdxIdeal.nD Cert.MdxIdeal.τ).loc Cert.MdxIdeal.main_arg0)
      ∧ r.2.mem ((c.tc : Thread Cert.MdxIdeal.nD Cert.MdxIdeal.τ).loc Cert.MdxIdeal.main_arg1) = m ((c.tc : Thread Cert.MdxIdeal.nD Cert.MdxIdeal.τ).loc Cert.MdxIdeal.main_arg1)
      ∧ r.2.mem ((c.tc : Thread Cert.MdxIdeal.nD Cert.MdxIdeal.τ).loc Cert.MdxIdeal.main_arg2) = m ((c.tc : Thread Cert.MdxIdeal.nD Cert.MdxIdeal.τ).loc Cert.MdxIdeal.main_arg2)
      ∧ r.2.mem ((c.tc : Thread Cert.MdxIdeal.nD Cert.MdxIdeal.τ).loc Cert.MdxIdeal.main_arg3) = m ((c.tc : Thread Cert.MdxIdeal.nD Cert.MdxIdeal.τ).loc Cert.MdxIdeal.main_arg3)
      ∧ r.2.mem ((c.tc : Thread Cert.MdxIdeal.nD Cert.MdxIdeal.τ).loc Cert.MdxIdeal.main_arg4) = m ((c.tc : Thread Cert.MdxIdeal.nD Cert.MdxIdeal.τ).loc Cert.MdxIdeal.main_arg4)
      ∧ r.2.mem ((c.tc : Thread Cert.MdxIdeal.nD Cert.MdxIdeal.τ).loc Cert.MdxIdeal.main_arg5) = m ((c.tc : Thread Cert.MdxIdeal.nD Cert.MdxIdeal.τ).loc Cert.MdxIdeal.main_arg5)
      ∧ r.2.mem ((c.tc : Thread Cert.MdxIdeal.nD Cert.MdxIdeal.τ).loc Cert.MdxIdeal.main_arg6) = m ((c.tc : Thread Cert.MdxIdeal.nD Cert.MdxIdeal.τ).loc Cert.MdxIdeal.main_arg6))
      ∧ r.2.sem = fun _ => 0)

def quiescent_MdxRefIdeal [hMdxRefIdeal : Cert.MdxRefIdeal.Facts] : Prop :=
  ∀ (m : (ℓ : Loc Cert.MdxRefIdeal.nD Cert.MdxRefIdeal.τ Cert.MdxRefIdeal.sig) → Buf (Elt Ideal) ℓ) (g : Dev Cert.MdxRefIdeal.nD → PrngReg), Pre_MdxRefIdeal m →
    θ_run (Cert.MdxRefIdeal.defs (F := Ideal)) (onTc (τ := Cert.MdxRefIdeal.τ) (Cert.MdxRefIdeal.main (F := Ideal))) ⟨m, fun _ => 0, g⟩ (fun r => (∀ c : Dev Cert.MdxRefIdeal.nD,
      r.2.mem ((c.tc : Thread Cert.MdxRefIdeal.nD Cert.MdxRefIdeal.τ).loc Cert.MdxRefIdeal.main_arg0) = m ((c.tc : Thread Cert.MdxRefIdeal.nD Cert.MdxRefIdeal.τ).loc Cert.MdxRefIdeal.main_arg0)
      ∧ r.2.mem ((c.tc : Thread Cert.MdxRefIdeal.nD Cert.MdxRefIdeal.τ).loc Cert.MdxRefIdeal.main_arg1) = m ((c.tc : Thread Cert.MdxRefIdeal.nD Cert.MdxRefIdeal.τ).loc Cert.MdxRefIdeal.main_arg1)
      ∧ r.2.mem ((c.tc : Thread Cert.MdxRefIdeal.nD Cert.MdxRefIdeal.τ).loc Cert.MdxRefIdeal.main_arg2) = m ((c.tc : Thread Cert.MdxRefIdeal.nD Cert.MdxRefIdeal.τ).loc Cert.MdxRefIdeal.main_arg2)
      ∧ r.2.mem ((c.tc : Thread Cert.MdxRefIdeal.nD Cert.MdxRefIdeal.τ).loc Cert.MdxRefIdeal.main_arg3) = m ((c.tc : Thread Cert.MdxRefIdeal.nD Cert.MdxRefIdeal.τ).loc Cert.MdxRefIdeal.main_arg3)
      ∧ r.2.mem ((c.tc : Thread Cert.MdxRefIdeal.nD Cert.MdxRefIdeal.τ).loc Cert.MdxRefIdeal.main_arg4) = m ((c.tc : Thread Cert.MdxRefIdeal.nD Cert.MdxRefIdeal.τ).loc Cert.MdxRefIdeal.main_arg4)
      ∧ r.2.mem ((c.tc : Thread Cert.MdxRefIdeal.nD Cert.MdxRefIdeal.τ).loc Cert.MdxRefIdeal.main_arg5) = m ((c.tc : Thread Cert.MdxRefIdeal.nD Cert.MdxRefIdeal.τ).loc Cert.MdxRefIdeal.main_arg5)
      ∧ r.2.mem ((c.tc : Thread Cert.MdxRefIdeal.nD Cert.MdxRefIdeal.τ).loc Cert.MdxRefIdeal.main_arg6) = m ((c.tc : Thread Cert.MdxRefIdeal.nD Cert.MdxRefIdeal.τ).loc Cert.MdxRefIdeal.main_arg6))
      ∧ r.2.sem = fun _ => 0)

def quiescent_Fdn [hFdn : Cert.Fdn.Facts] : Prop :=
  ∀ (m : (ℓ : Loc Cert.Fdn.nD Cert.Fdn.τ Cert.Fdn.sig) → Buf (Elt Bits) ℓ) (g : Dev Cert.Fdn.nD → PrngReg), Pre_Fdn m →
    θ_run (Cert.Fdn.defs (F := Bits)) (onTc (τ := Cert.Fdn.τ) (Cert.Fdn.main (F := Bits))) ⟨m, fun _ => 0, g⟩ (fun r => (∀ c : Dev Cert.Fdn.nD,
      r.2.mem ((c.tc : Thread Cert.Fdn.nD Cert.Fdn.τ).loc Cert.Fdn.main_arg0) = m ((c.tc : Thread Cert.Fdn.nD Cert.Fdn.τ).loc Cert.Fdn.main_arg0)
      ∧ r.2.mem ((c.tc : Thread Cert.Fdn.nD Cert.Fdn.τ).loc Cert.Fdn.main_arg1) = m ((c.tc : Thread Cert.Fdn.nD Cert.Fdn.τ).loc Cert.Fdn.main_arg1)
      ∧ r.2.mem ((c.tc : Thread Cert.Fdn.nD Cert.Fdn.τ).loc Cert.Fdn.main_arg2) = m ((c.tc : Thread Cert.Fdn.nD Cert.Fdn.τ).loc Cert.Fdn.main_arg2)
      ∧ r.2.mem ((c.tc : Thread Cert.Fdn.nD Cert.Fdn.τ).loc Cert.Fdn.main_arg3) = m ((c.tc : Thread Cert.Fdn.nD Cert.Fdn.τ).loc Cert.Fdn.main_arg3)
      ∧ r.2.mem ((c.tc : Thread Cert.Fdn.nD Cert.Fdn.τ).loc Cert.Fdn.main_arg4) = m ((c.tc : Thread Cert.Fdn.nD Cert.Fdn.τ).loc Cert.Fdn.main_arg4))
      ∧ r.2.sem = fun _ => 0)

def quiescent_FdnIdeal [hFdnIdeal : Cert.FdnIdeal.Facts] : Prop :=
  ∀ (m : (ℓ : Loc Cert.FdnIdeal.nD Cert.FdnIdeal.τ Cert.FdnIdeal.sig) → Buf (Elt Ideal) ℓ) (g : Dev Cert.FdnIdeal.nD → PrngReg), Pre_FdnIdeal m →
    θ_run (Cert.FdnIdeal.defs (F := Ideal)) (onTc (τ := Cert.FdnIdeal.τ) (Cert.FdnIdeal.main (F := Ideal))) ⟨m, fun _ => 0, g⟩ (fun r => (∀ c : Dev Cert.FdnIdeal.nD,
      r.2.mem ((c.tc : Thread Cert.FdnIdeal.nD Cert.FdnIdeal.τ).loc Cert.FdnIdeal.main_arg0) = m ((c.tc : Thread Cert.FdnIdeal.nD Cert.FdnIdeal.τ).loc Cert.FdnIdeal.main_arg0)
      ∧ r.2.mem ((c.tc : Thread Cert.FdnIdeal.nD Cert.FdnIdeal.τ).loc Cert.FdnIdeal.main_arg1) = m ((c.tc : Thread Cert.FdnIdeal.nD Cert.FdnIdeal.τ).loc Cert.FdnIdeal.main_arg1)
      ∧ r.2.mem ((c.tc : Thread Cert.FdnIdeal.nD Cert.FdnIdeal.τ).loc Cert.FdnIdeal.main_arg2) = m ((c.tc : Thread Cert.FdnIdeal.nD Cert.FdnIdeal.τ).loc Cert.FdnIdeal.main_arg2)
      ∧ r.2.mem ((c.tc : Thread Cert.FdnIdeal.nD Cert.FdnIdeal.τ).loc Cert.FdnIdeal.main_arg3) = m ((c.tc : Thread Cert.FdnIdeal.nD Cert.FdnIdeal.τ).loc Cert.FdnIdeal.main_arg3)
      ∧ r.2.mem ((c.tc : Thread Cert.FdnIdeal.nD Cert.FdnIdeal.τ).loc Cert.FdnIdeal.main_arg4) = m ((c.tc : Thread Cert.FdnIdeal.nD Cert.FdnIdeal.τ).loc Cert.FdnIdeal.main_arg4))
      ∧ r.2.sem = fun _ => 0)

def quiescent_FdnRefIdeal [hFdnRefIdeal : Cert.FdnRefIdeal.Facts] : Prop :=
  ∀ (m : (ℓ : Loc Cert.FdnRefIdeal.nD Cert.FdnRefIdeal.τ Cert.FdnRefIdeal.sig) → Buf (Elt Ideal) ℓ) (g : Dev Cert.FdnRefIdeal.nD → PrngReg), Pre_FdnRefIdeal m →
    θ_run (Cert.FdnRefIdeal.defs (F := Ideal)) (onTc (τ := Cert.FdnRefIdeal.τ) (Cert.FdnRefIdeal.main (F := Ideal))) ⟨m, fun _ => 0, g⟩ (fun r => (∀ c : Dev Cert.FdnRefIdeal.nD,
      r.2.mem ((c.tc : Thread Cert.FdnRefIdeal.nD Cert.FdnRefIdeal.τ).loc Cert.FdnRefIdeal.main_arg0) = m ((c.tc : Thread Cert.FdnRefIdeal.nD Cert.FdnRefIdeal.τ).loc Cert.FdnRefIdeal.main_arg0)
      ∧ r.2.mem ((c.tc : Thread Cert.FdnRefIdeal.nD Cert.FdnRefIdeal.τ).loc Cert.FdnRefIdeal.main_arg1) = m ((c.tc : Thread Cert.FdnRefIdeal.nD Cert.FdnRefIdeal.τ).loc Cert.FdnRefIdeal.main_arg1)
      ∧ r.2.mem ((c.tc : Thread Cert.FdnRefIdeal.nD Cert.FdnRefIdeal.τ).loc Cert.FdnRefIdeal.main_arg2) = m ((c.tc : Thread Cert.FdnRefIdeal.nD Cert.FdnRefIdeal.τ).loc Cert.FdnRefIdeal.main_arg2)
      ∧ r.2.mem ((c.tc : Thread Cert.FdnRefIdeal.nD Cert.FdnRefIdeal.τ).loc Cert.FdnRefIdeal.main_arg3) = m ((c.tc : Thread Cert.FdnRefIdeal.nD Cert.FdnRefIdeal.τ).loc Cert.FdnRefIdeal.main_arg3)
      ∧ r.2.mem ((c.tc : Thread Cert.FdnRefIdeal.nD Cert.FdnRefIdeal.τ).loc Cert.FdnRefIdeal.main_arg4) = m ((c.tc : Thread Cert.FdnRefIdeal.nD Cert.FdnRefIdeal.τ).loc Cert.FdnRefIdeal.main_arg4))
      ∧ r.2.sem = fun _ => 0)

def quiescent_Mop [hMop : Cert.Mop.Facts] : Prop :=
  ∀ (m : (ℓ : Loc Cert.Mop.nD Cert.Mop.τ Cert.Mop.sig) → Buf (Elt Bits) ℓ) (g : Dev Cert.Mop.nD → PrngReg), Pre_Mop m →
    θ_run (Cert.Mop.defs (F := Bits)) (onTc (τ := Cert.Mop.τ) (Cert.Mop.main (F := Bits))) ⟨m, fun _ => 0, g⟩ (fun r => (∀ c : Dev Cert.Mop.nD,
      r.2.mem ((c.tc : Thread Cert.Mop.nD Cert.Mop.τ).loc Cert.Mop.main_arg0) = m ((c.tc : Thread Cert.Mop.nD Cert.Mop.τ).loc Cert.Mop.main_arg0)
      ∧ r.2.mem ((c.tc : Thread Cert.Mop.nD Cert.Mop.τ).loc Cert.Mop.main_arg1) = m ((c.tc : Thread Cert.Mop.nD Cert.Mop.τ).loc Cert.Mop.main_arg1)
      ∧ r.2.mem ((c.tc : Thread Cert.Mop.nD Cert.Mop.τ).loc Cert.Mop.main_arg2) = m ((c.tc : Thread Cert.Mop.nD Cert.Mop.τ).loc Cert.Mop.main_arg2)
      ∧ r.2.mem ((c.tc : Thread Cert.Mop.nD Cert.Mop.τ).loc Cert.Mop.main_arg3) = m ((c.tc : Thread Cert.Mop.nD Cert.Mop.τ).loc Cert.Mop.main_arg3)
      ∧ r.2.mem ((c.tc : Thread Cert.Mop.nD Cert.Mop.τ).loc Cert.Mop.main_arg4) = m ((c.tc : Thread Cert.Mop.nD Cert.Mop.τ).loc Cert.Mop.main_arg4))
      ∧ r.2.sem = fun _ => 0)

def quiescent_MopIdeal [hMopIdeal : Cert.MopIdeal.Facts] : Prop :=
  ∀ (m : (ℓ : Loc Cert.MopIdeal.nD Cert.MopIdeal.τ Cert.MopIdeal.sig) → Buf (Elt Ideal) ℓ) (g : Dev Cert.MopIdeal.nD → PrngReg), Pre_MopIdeal m →
    θ_run (Cert.MopIdeal.defs (F := Ideal)) (onTc (τ := Cert.MopIdeal.τ) (Cert.MopIdeal.main (F := Ideal))) ⟨m, fun _ => 0, g⟩ (fun r => (∀ c : Dev Cert.MopIdeal.nD,
      r.2.mem ((c.tc : Thread Cert.MopIdeal.nD Cert.MopIdeal.τ).loc Cert.MopIdeal.main_arg0) = m ((c.tc : Thread Cert.MopIdeal.nD Cert.MopIdeal.τ).loc Cert.MopIdeal.main_arg0)
      ∧ r.2.mem ((c.tc : Thread Cert.MopIdeal.nD Cert.MopIdeal.τ).loc Cert.MopIdeal.main_arg1) = m ((c.tc : Thread Cert.MopIdeal.nD Cert.MopIdeal.τ).loc Cert.MopIdeal.main_arg1)
      ∧ r.2.mem ((c.tc : Thread Cert.MopIdeal.nD Cert.MopIdeal.τ).loc Cert.MopIdeal.main_arg2) = m ((c.tc : Thread Cert.MopIdeal.nD Cert.MopIdeal.τ).loc Cert.MopIdeal.main_arg2)
      ∧ r.2.mem ((c.tc : Thread Cert.MopIdeal.nD Cert.MopIdeal.τ).loc Cert.MopIdeal.main_arg3) = m ((c.tc : Thread Cert.MopIdeal.nD Cert.MopIdeal.τ).loc Cert.MopIdeal.main_arg3)
      ∧ r.2.mem ((c.tc : Thread Cert.MopIdeal.nD Cert.MopIdeal.τ).loc Cert.MopIdeal.main_arg4) = m ((c.tc : Thread Cert.MopIdeal.nD Cert.MopIdeal.τ).loc Cert.MopIdeal.main_arg4))
      ∧ r.2.sem = fun _ => 0)

def quiescent_MopRefIdeal [hMopRefIdeal : Cert.MopRefIdeal.Facts] : Prop :=
  ∀ (m : (ℓ : Loc Cert.MopRefIdeal.nD Cert.MopRefIdeal.τ Cert.MopRefIdeal.sig) → Buf (Elt Ideal) ℓ) (g : Dev Cert.MopRefIdeal.nD → PrngReg), Pre_MopRefIdeal m →
    θ_run (Cert.MopRefIdeal.defs (F := Ideal)) (onTc (τ := Cert.MopRefIdeal.τ) (Cert.MopRefIdeal.main (F := Ideal))) ⟨m, fun _ => 0, g⟩ (fun r => (∀ c : Dev Cert.MopRefIdeal.nD,
      r.2.mem ((c.tc : Thread Cert.MopRefIdeal.nD Cert.MopRefIdeal.τ).loc Cert.MopRefIdeal.main_arg0) = m ((c.tc : Thread Cert.MopRefIdeal.nD Cert.MopRefIdeal.τ).loc Cert.MopRefIdeal.main_arg0)
      ∧ r.2.mem ((c.tc : Thread Cert.MopRefIdeal.nD Cert.MopRefIdeal.τ).loc Cert.MopRefIdeal.main_arg1) = m ((c.tc : Thread Cert.MopRefIdeal.nD Cert.MopRefIdeal.τ).loc Cert.MopRefIdeal.main_arg1)
      ∧ r.2.mem ((c.tc : Thread Cert.MopRefIdeal.nD Cert.MopRefIdeal.τ).loc Cert.MopRefIdeal.main_arg2) = m ((c.tc : Thread Cert.MopRefIdeal.nD Cert.MopRefIdeal.τ).loc Cert.MopRefIdeal.main_arg2)
      ∧ r.2.mem ((c.tc : Thread Cert.MopRefIdeal.nD Cert.MopRefIdeal.τ).loc Cert.MopRefIdeal.main_arg3) = m ((c.tc : Thread Cert.MopRefIdeal.nD Cert.MopRefIdeal.τ).loc Cert.MopRefIdeal.main_arg3)
      ∧ r.2.mem ((c.tc : Thread Cert.MopRefIdeal.nD Cert.MopRefIdeal.τ).loc Cert.MopRefIdeal.main_arg4) = m ((c.tc : Thread Cert.MopRefIdeal.nD Cert.MopRefIdeal.τ).loc Cert.MopRefIdeal.main_arg4))
      ∧ r.2.sem = fun _ => 0)

def quiescent_Los [hLos : Cert.Los.Facts] : Prop :=
  ∀ (m : (ℓ : Loc Cert.Los.nD Cert.Los.τ Cert.Los.sig) → Buf (Elt Bits) ℓ) (g : Dev Cert.Los.nD → PrngReg), Pre_Los m →
    θ_run (Cert.Los.defs (F := Bits)) (onTc (τ := Cert.Los.τ) (Cert.Los.main (F := Bits))) ⟨m, fun _ => 0, g⟩ (fun r => (∀ c : Dev Cert.Los.nD,
      r.2.mem ((c.tc : Thread Cert.Los.nD Cert.Los.τ).loc Cert.Los.main_arg0) = m ((c.tc : Thread Cert.Los.nD Cert.Los.τ).loc Cert.Los.main_arg0)
      ∧ r.2.mem ((c.tc : Thread Cert.Los.nD Cert.Los.τ).loc Cert.Los.main_arg1) = m ((c.tc : Thread Cert.Los.nD Cert.Los.τ).loc Cert.Los.main_arg1)
      ∧ r.2.mem ((c.tc : Thread Cert.Los.nD Cert.Los.τ).loc Cert.Los.main_arg2) = m ((c.tc : Thread Cert.Los.nD Cert.Los.τ).loc Cert.Los.main_arg2)
      ∧ r.2.mem ((c.tc : Thread Cert.Los.nD Cert.Los.τ).loc Cert.Los.main_arg3) = m ((c.tc : Thread Cert.Los.nD Cert.Los.τ).loc Cert.Los.main_arg3)
      ∧ r.2.mem ((c.tc : Thread Cert.Los.nD Cert.Los.τ).loc Cert.Los.main_arg4) = m ((c.tc : Thread Cert.Los.nD Cert.Los.τ).loc Cert.Los.main_arg4))
      ∧ r.2.sem = fun _ => 0)

def quiescent_LosIdeal [hLosIdeal : Cert.LosIdeal.Facts] : Prop :=
  ∀ (m : (ℓ : Loc Cert.LosIdeal.nD Cert.LosIdeal.τ Cert.LosIdeal.sig) → Buf (Elt Ideal) ℓ) (g : Dev Cert.LosIdeal.nD → PrngReg), Pre_LosIdeal m →
    θ_run (Cert.LosIdeal.defs (F := Ideal)) (onTc (τ := Cert.LosIdeal.τ) (Cert.LosIdeal.main (F := Ideal))) ⟨m, fun _ => 0, g⟩ (fun r => (∀ c : Dev Cert.LosIdeal.nD,
      r.2.mem ((c.tc : Thread Cert.LosIdeal.nD Cert.LosIdeal.τ).loc Cert.LosIdeal.main_arg0) = m ((c.tc : Thread Cert.LosIdeal.nD Cert.LosIdeal.τ).loc Cert.LosIdeal.main_arg0)
      ∧ r.2.mem ((c.tc : Thread Cert.LosIdeal.nD Cert.LosIdeal.τ).loc Cert.LosIdeal.main_arg1) = m ((c.tc : Thread Cert.LosIdeal.nD Cert.LosIdeal.τ).loc Cert.LosIdeal.main_arg1)
      ∧ r.2.mem ((c.tc : Thread Cert.LosIdeal.nD Cert.LosIdeal.τ).loc Cert.LosIdeal.main_arg2) = m ((c.tc : Thread Cert.LosIdeal.nD Cert.LosIdeal.τ).loc Cert.LosIdeal.main_arg2)
      ∧ r.2.mem ((c.tc : Thread Cert.LosIdeal.nD Cert.LosIdeal.τ).loc Cert.LosIdeal.main_arg3) = m ((c.tc : Thread Cert.LosIdeal.nD Cert.LosIdeal.τ).loc Cert.LosIdeal.main_arg3)
      ∧ r.2.mem ((c.tc : Thread Cert.LosIdeal.nD Cert.LosIdeal.τ).loc Cert.LosIdeal.main_arg4) = m ((c.tc : Thread Cert.LosIdeal.nD Cert.LosIdeal.τ).loc Cert.LosIdeal.main_arg4))
      ∧ r.2.sem = fun _ => 0)

def quiescent_LosRefIdeal [hLosRefIdeal : Cert.LosRefIdeal.Facts] : Prop :=
  ∀ (m : (ℓ : Loc Cert.LosRefIdeal.nD Cert.LosRefIdeal.τ Cert.LosRefIdeal.sig) → Buf (Elt Ideal) ℓ) (g : Dev Cert.LosRefIdeal.nD → PrngReg), Pre_LosRefIdeal m →
    θ_run (Cert.LosRefIdeal.defs (F := Ideal)) (onTc (τ := Cert.LosRefIdeal.τ) (Cert.LosRefIdeal.main (F := Ideal))) ⟨m, fun _ => 0, g⟩ (fun r => (∀ c : Dev Cert.LosRefIdeal.nD,
      r.2.mem ((c.tc : Thread Cert.LosRefIdeal.nD Cert.LosRefIdeal.τ).loc Cert.LosRefIdeal.main_arg0) = m ((c.tc : Thread Cert.LosRefIdeal.nD Cert.LosRefIdeal.τ).loc Cert.LosRefIdeal.main_arg0)
      ∧ r.2.mem ((c.tc : Thread Cert.LosRefIdeal.nD Cert.LosRefIdeal.τ).loc Cert.LosRefIdeal.main_arg1) = m ((c.tc : Thread Cert.LosRefIdeal.nD Cert.LosRefIdeal.τ).loc Cert.LosRefIdeal.main_arg1)
      ∧ r.2.mem ((c.tc : Thread Cert.LosRefIdeal.nD Cert.LosRefIdeal.τ).loc Cert.LosRefIdeal.main_arg2) = m ((c.tc : Thread Cert.LosRefIdeal.nD Cert.LosRefIdeal.τ).loc Cert.LosRefIdeal.main_arg2)
      ∧ r.2.mem ((c.tc : Thread Cert.LosRefIdeal.nD Cert.LosRefIdeal.τ).loc Cert.LosRefIdeal.main_arg3) = m ((c.tc : Thread Cert.LosRefIdeal.nD Cert.LosRefIdeal.τ).loc Cert.LosRefIdeal.main_arg3)
      ∧ r.2.mem ((c.tc : Thread Cert.LosRefIdeal.nD Cert.LosRefIdeal.τ).loc Cert.LosRefIdeal.main_arg4) = m ((c.tc : Thread Cert.LosRefIdeal.nD Cert.LosRefIdeal.τ).loc Cert.LosRefIdeal.main_arg4))
      ∧ r.2.sem = fun _ => 0)

def quiescent_Awi [hAwi : Cert.Awi.Facts] : Prop :=
  ∀ (m : (ℓ : Loc Cert.Awi.nD Cert.Awi.τ Cert.Awi.sig) → Buf (Elt Bits) ℓ) (g : Dev Cert.Awi.nD → PrngReg), Pre_Awi m →
    θ_run (Cert.Awi.defs (F := Bits)) (onTc (τ := Cert.Awi.τ) (Cert.Awi.main (F := Bits))) ⟨m, fun _ => 0, g⟩ (fun r => (∀ c : Dev Cert.Awi.nD,
      r.2.mem ((c.tc : Thread Cert.Awi.nD Cert.Awi.τ).loc Cert.Awi.main_arg0) = m ((c.tc : Thread Cert.Awi.nD Cert.Awi.τ).loc Cert.Awi.main_arg0)
      ∧ r.2.mem ((c.tc : Thread Cert.Awi.nD Cert.Awi.τ).loc Cert.Awi.main_arg1) = m ((c.tc : Thread Cert.Awi.nD Cert.Awi.τ).loc Cert.Awi.main_arg1)
      ∧ r.2.mem ((c.tc : Thread Cert.Awi.nD Cert.Awi.τ).loc Cert.Awi.main_arg2) = m ((c.tc : Thread Cert.Awi.nD Cert.Awi.τ).loc Cert.Awi.main_arg2)
      ∧ r.2.mem ((c.tc : Thread Cert.Awi.nD Cert.Awi.τ).loc Cert.Awi.main_arg3) = m ((c.tc : Thread Cert.Awi.nD Cert.Awi.τ).loc Cert.Awi.main_arg3))
      ∧ r.2.sem = fun _ => 0)

def quiescent_AwiIdeal [hAwiIdeal : Cert.AwiIdeal.Facts] : Prop :=
  ∀ (m : (ℓ : Loc Cert.AwiIdeal.nD Cert.AwiIdeal.τ Cert.AwiIdeal.sig) → Buf (Elt Ideal) ℓ) (g : Dev Cert.AwiIdeal.nD → PrngReg), Pre_AwiIdeal m →
    θ_run (Cert.AwiIdeal.defs (F := Ideal)) (onTc (τ := Cert.AwiIdeal.τ) (Cert.AwiIdeal.main (F := Ideal))) ⟨m, fun _ => 0, g⟩ (fun r => (∀ c : Dev Cert.AwiIdeal.nD,
      r.2.mem ((c.tc : Thread Cert.AwiIdeal.nD Cert.AwiIdeal.τ).loc Cert.AwiIdeal.main_arg0) = m ((c.tc : Thread Cert.AwiIdeal.nD Cert.AwiIdeal.τ).loc Cert.AwiIdeal.main_arg0)
      ∧ r.2.mem ((c.tc : Thread Cert.AwiIdeal.nD Cert.AwiIdeal.τ).loc Cert.AwiIdeal.main_arg1) = m ((c.tc : Thread Cert.AwiIdeal.nD Cert.AwiIdeal.τ).loc Cert.AwiIdeal.main_arg1)
      ∧ r.2.mem ((c.tc : Thread Cert.AwiIdeal.nD Cert.AwiIdeal.τ).loc Cert.AwiIdeal.main_arg2) = m ((c.tc : Thread Cert.AwiIdeal.nD Cert.AwiIdeal.τ).loc Cert.AwiIdeal.main_arg2)
      ∧ r.2.mem ((c.tc : Thread Cert.AwiIdeal.nD Cert.AwiIdeal.τ).loc Cert.AwiIdeal.main_arg3) = m ((c.tc : Thread Cert.AwiIdeal.nD Cert.AwiIdeal.τ).loc Cert.AwiIdeal.main_arg3))
      ∧ r.2.sem = fun _ => 0)

def quiescent_AwiRefIdeal [hAwiRefIdeal : Cert.AwiRefIdeal.Facts] : Prop :=
  ∀ (m : (ℓ : Loc Cert.AwiRefIdeal.nD Cert.AwiRefIdeal.τ Cert.AwiRefIdeal.sig) → Buf (Elt Ideal) ℓ) (g : Dev Cert.AwiRefIdeal.nD → PrngReg), Pre_AwiRefIdeal m →
    θ_run (Cert.AwiRefIdeal.defs (F := Ideal)) (onTc (τ := Cert.AwiRefIdeal.τ) (Cert.AwiRefIdeal.main (F := Ideal))) ⟨m, fun _ => 0, g⟩ (fun r => (∀ c : Dev Cert.AwiRefIdeal.nD,
      r.2.mem ((c.tc : Thread Cert.AwiRefIdeal.nD Cert.AwiRefIdeal.τ).loc Cert.AwiRefIdeal.main_arg0) = m ((c.tc : Thread Cert.AwiRefIdeal.nD Cert.AwiRefIdeal.τ).loc Cert.AwiRefIdeal.main_arg0)
      ∧ r.2.mem ((c.tc : Thread Cert.AwiRefIdeal.nD Cert.AwiRefIdeal.τ).loc Cert.AwiRefIdeal.main_arg1) = m ((c.tc : Thread Cert.AwiRefIdeal.nD Cert.AwiRefIdeal.τ).loc Cert.AwiRefIdeal.main_arg1)
      ∧ r.2.mem ((c.tc : Thread Cert.AwiRefIdeal.nD Cert.AwiRefIdeal.τ).loc Cert.AwiRefIdeal.main_arg2) = m ((c.tc : Thread Cert.AwiRefIdeal.nD Cert.AwiRefIdeal.τ).loc Cert.AwiRefIdeal.main_arg2)
      ∧ r.2.mem ((c.tc : Thread Cert.AwiRefIdeal.nD Cert.AwiRefIdeal.τ).loc Cert.AwiRefIdeal.main_arg3) = m ((c.tc : Thread Cert.AwiRefIdeal.nD Cert.AwiRefIdeal.τ).loc Cert.AwiRefIdeal.main_arg3))
      ∧ r.2.sem = fun _ => 0)

def quiescent_Asm [hAsm : Cert.Asm.Facts] : Prop :=
  ∀ (m : (ℓ : Loc Cert.Asm.nD Cert.Asm.τ Cert.Asm.sig) → Buf (Elt Bits) ℓ) (g : Dev Cert.Asm.nD → PrngReg), Pre_Asm m →
    θ_run (Cert.Asm.defs (F := Bits)) (onTc (τ := Cert.Asm.τ) (Cert.Asm.main (F := Bits))) ⟨m, fun _ => 0, g⟩ (fun r => (∀ c : Dev Cert.Asm.nD,
      r.2.mem ((c.tc : Thread Cert.Asm.nD Cert.Asm.τ).loc Cert.Asm.main_arg0) = m ((c.tc : Thread Cert.Asm.nD Cert.Asm.τ).loc Cert.Asm.main_arg0)
      ∧ r.2.mem ((c.tc : Thread Cert.Asm.nD Cert.Asm.τ).loc Cert.Asm.main_arg1) = m ((c.tc : Thread Cert.Asm.nD Cert.Asm.τ).loc Cert.Asm.main_arg1)
      ∧ r.2.mem ((c.tc : Thread Cert.Asm.nD Cert.Asm.τ).loc Cert.Asm.main_arg2) = m ((c.tc : Thread Cert.Asm.nD Cert.Asm.τ).loc Cert.Asm.main_arg2)
      ∧ r.2.mem ((c.tc : Thread Cert.Asm.nD Cert.Asm.τ).loc Cert.Asm.main_arg3) = m ((c.tc : Thread Cert.Asm.nD Cert.Asm.τ).loc Cert.Asm.main_arg3))
      ∧ r.2.sem = fun _ => 0)

def quiescent_AsmIdeal [hAsmIdeal : Cert.AsmIdeal.Facts] : Prop :=
  ∀ (m : (ℓ : Loc Cert.AsmIdeal.nD Cert.AsmIdeal.τ Cert.AsmIdeal.sig) → Buf (Elt Ideal) ℓ) (g : Dev Cert.AsmIdeal.nD → PrngReg), Pre_AsmIdeal m →
    θ_run (Cert.AsmIdeal.defs (F := Ideal)) (onTc (τ := Cert.AsmIdeal.τ) (Cert.AsmIdeal.main (F := Ideal))) ⟨m, fun _ => 0, g⟩ (fun r => (∀ c : Dev Cert.AsmIdeal.nD,
      r.2.mem ((c.tc : Thread Cert.AsmIdeal.nD Cert.AsmIdeal.τ).loc Cert.AsmIdeal.main_arg0) = m ((c.tc : Thread Cert.AsmIdeal.nD Cert.AsmIdeal.τ).loc Cert.AsmIdeal.main_arg0)
      ∧ r.2.mem ((c.tc : Thread Cert.AsmIdeal.nD Cert.AsmIdeal.τ).loc Cert.AsmIdeal.main_arg1) = m ((c.tc : Thread Cert.AsmIdeal.nD Cert.AsmIdeal.τ).loc Cert.AsmIdeal.main_arg1)
      ∧ r.2.mem ((c.tc : Thread Cert.AsmIdeal.nD Cert.AsmIdeal.τ).loc Cert.AsmIdeal.main_arg2) = m ((c.tc : Thread Cert.AsmIdeal.nD Cert.AsmIdeal.τ).loc Cert.AsmIdeal.main_arg2)
      ∧ r.2.mem ((c.tc : Thread Cert.AsmIdeal.nD Cert.AsmIdeal.τ).loc Cert.AsmIdeal.main_arg3) = m ((c.tc : Thread Cert.AsmIdeal.nD Cert.AsmIdeal.τ).loc Cert.AsmIdeal.main_arg3))
      ∧ r.2.sem = fun _ => 0)

def quiescent_AsmRefIdeal [hAsmRefIdeal : Cert.AsmRefIdeal.Facts] : Prop :=
  ∀ (m : (ℓ : Loc Cert.AsmRefIdeal.nD Cert.AsmRefIdeal.τ Cert.AsmRefIdeal.sig) → Buf (Elt Ideal) ℓ) (g : Dev Cert.AsmRefIdeal.nD → PrngReg), Pre_AsmRefIdeal m →
    θ_run (Cert.AsmRefIdeal.defs (F := Ideal)) (onTc (τ := Cert.AsmRefIdeal.τ) (Cert.AsmRefIdeal.main (F := Ideal))) ⟨m, fun _ => 0, g⟩ (fun r => (∀ c : Dev Cert.AsmRefIdeal.nD,
      r.2.mem ((c.tc : Thread Cert.AsmRefIdeal.nD Cert.AsmRefIdeal.τ).loc Cert.AsmRefIdeal.main_arg0) = m ((c.tc : Thread Cert.AsmRefIdeal.nD Cert.AsmRefIdeal.τ).loc Cert.AsmRefIdeal.main_arg0)
      ∧ r.2.mem ((c.tc : Thread Cert.AsmRefIdeal.nD Cert.AsmRefIdeal.τ).loc Cert.AsmRefIdeal.main_arg1) = m ((c.tc : Thread Cert.AsmRefIdeal.nD Cert.AsmRefIdeal.τ).loc Cert.AsmRefIdeal.main_arg1)
      ∧ r.2.mem ((c.tc : Thread Cert.AsmRefIdeal.nD Cert.AsmRefIdeal.τ).loc Cert.AsmRefIdeal.main_arg2) = m ((c.tc : Thread Cert.AsmRefIdeal.nD Cert.AsmRefIdeal.τ).loc Cert.AsmRefIdeal.main_arg2)
      ∧ r.2.mem ((c.tc : Thread Cert.AsmRefIdeal.nD Cert.AsmRefIdeal.τ).loc Cert.AsmRefIdeal.main_arg3) = m ((c.tc : Thread Cert.AsmRefIdeal.nD Cert.AsmRefIdeal.τ).loc Cert.AsmRefIdeal.main_arg3))
      ∧ r.2.sem = fun _ => 0)

def quiescent_Swi [hSwi : Cert.Swi.Facts] : Prop :=
  ∀ (m : (ℓ : Loc Cert.Swi.nD Cert.Swi.τ Cert.Swi.sig) → Buf (Elt Bits) ℓ) (g : Dev Cert.Swi.nD → PrngReg), Pre_Swi m →
    θ_run (Cert.Swi.defs (F := Bits)) (onTc (τ := Cert.Swi.τ) (Cert.Swi.main (F := Bits))) ⟨m, fun _ => 0, g⟩ (fun r => (∀ c : Dev Cert.Swi.nD,
      r.2.mem ((c.tc : Thread Cert.Swi.nD Cert.Swi.τ).loc Cert.Swi.main_arg0) = m ((c.tc : Thread Cert.Swi.nD Cert.Swi.τ).loc Cert.Swi.main_arg0)
      ∧ r.2.mem ((c.tc : Thread Cert.Swi.nD Cert.Swi.τ).loc Cert.Swi.main_arg1) = m ((c.tc : Thread Cert.Swi.nD Cert.Swi.τ).loc Cert.Swi.main_arg1)
      ∧ r.2.mem ((c.tc : Thread Cert.Swi.nD Cert.Swi.τ).loc Cert.Swi.main_arg2) = m ((c.tc : Thread Cert.Swi.nD Cert.Swi.τ).loc Cert.Swi.main_arg2))
      ∧ r.2.sem = fun _ => 0)

def quiescent_SwiIdeal [hSwiIdeal : Cert.SwiIdeal.Facts] : Prop :=
  ∀ (m : (ℓ : Loc Cert.SwiIdeal.nD Cert.SwiIdeal.τ Cert.SwiIdeal.sig) → Buf (Elt Ideal) ℓ) (g : Dev Cert.SwiIdeal.nD → PrngReg), Pre_SwiIdeal m →
    θ_run (Cert.SwiIdeal.defs (F := Ideal)) (onTc (τ := Cert.SwiIdeal.τ) (Cert.SwiIdeal.main (F := Ideal))) ⟨m, fun _ => 0, g⟩ (fun r => (∀ c : Dev Cert.SwiIdeal.nD,
      r.2.mem ((c.tc : Thread Cert.SwiIdeal.nD Cert.SwiIdeal.τ).loc Cert.SwiIdeal.main_arg0) = m ((c.tc : Thread Cert.SwiIdeal.nD Cert.SwiIdeal.τ).loc Cert.SwiIdeal.main_arg0)
      ∧ r.2.mem ((c.tc : Thread Cert.SwiIdeal.nD Cert.SwiIdeal.τ).loc Cert.SwiIdeal.main_arg1) = m ((c.tc : Thread Cert.SwiIdeal.nD Cert.SwiIdeal.τ).loc Cert.SwiIdeal.main_arg1)
      ∧ r.2.mem ((c.tc : Thread Cert.SwiIdeal.nD Cert.SwiIdeal.τ).loc Cert.SwiIdeal.main_arg2) = m ((c.tc : Thread Cert.SwiIdeal.nD Cert.SwiIdeal.τ).loc Cert.SwiIdeal.main_arg2))
      ∧ r.2.sem = fun _ => 0)

def quiescent_SwiRefIdeal [hSwiRefIdeal : Cert.SwiRefIdeal.Facts] : Prop :=
  ∀ (m : (ℓ : Loc Cert.SwiRefIdeal.nD Cert.SwiRefIdeal.τ Cert.SwiRefIdeal.sig) → Buf (Elt Ideal) ℓ) (g : Dev Cert.SwiRefIdeal.nD → PrngReg), Pre_SwiRefIdeal m →
    θ_run (Cert.SwiRefIdeal.defs (F := Ideal)) (onTc (τ := Cert.SwiRefIdeal.τ) (Cert.SwiRefIdeal.main (F := Ideal))) ⟨m, fun _ => 0, g⟩ (fun r => (∀ c : Dev Cert.SwiRefIdeal.nD,
      r.2.mem ((c.tc : Thread Cert.SwiRefIdeal.nD Cert.SwiRefIdeal.τ).loc Cert.SwiRefIdeal.main_arg0) = m ((c.tc : Thread Cert.SwiRefIdeal.nD Cert.SwiRefIdeal.τ).loc Cert.SwiRefIdeal.main_arg0)
      ∧ r.2.mem ((c.tc : Thread Cert.SwiRefIdeal.nD Cert.SwiRefIdeal.τ).loc Cert.SwiRefIdeal.main_arg1) = m ((c.tc : Thread Cert.SwiRefIdeal.nD Cert.SwiRefIdeal.τ).loc Cert.SwiRefIdeal.main_arg1)
      ∧ r.2.mem ((c.tc : Thread Cert.SwiRefIdeal.nD Cert.SwiRefIdeal.τ).loc Cert.SwiRefIdeal.main_arg2) = m ((c.tc : Thread Cert.SwiRefIdeal.nD Cert.SwiRefIdeal.τ).loc Cert.SwiRefIdeal.main_arg2))
      ∧ r.2.sem = fun _ => 0)

def quiescent_Upo [hUpo : Cert.Upo.Facts] : Prop :=
  ∀ (m : (ℓ : Loc Cert.Upo.nD Cert.Upo.τ Cert.Upo.sig) → Buf (Elt Bits) ℓ) (g : Dev Cert.Upo.nD → PrngReg), Pre_Upo m →
    θ_run (Cert.Upo.defs (F := Bits)) (onTc (τ := Cert.Upo.τ) (Cert.Upo.main (F := Bits))) ⟨m, fun _ => 0, g⟩ (fun r => (∀ c : Dev Cert.Upo.nD,
      r.2.mem ((c.tc : Thread Cert.Upo.nD Cert.Upo.τ).loc Cert.Upo.main_arg0) = m ((c.tc : Thread Cert.Upo.nD Cert.Upo.τ).loc Cert.Upo.main_arg0)
      ∧ r.2.mem ((c.tc : Thread Cert.Upo.nD Cert.Upo.τ).loc Cert.Upo.main_arg1) = m ((c.tc : Thread Cert.Upo.nD Cert.Upo.τ).loc Cert.Upo.main_arg1)
      ∧ r.2.mem ((c.tc : Thread Cert.Upo.nD Cert.Upo.τ).loc Cert.Upo.main_arg2) = m ((c.tc : Thread Cert.Upo.nD Cert.Upo.τ).loc Cert.Upo.main_arg2)
      ∧ r.2.mem ((c.tc : Thread Cert.Upo.nD Cert.Upo.τ).loc Cert.Upo.main_arg3) = m ((c.tc : Thread Cert.Upo.nD Cert.Upo.τ).loc Cert.Upo.main_arg3)
      ∧ r.2.mem ((c.tc : Thread Cert.Upo.nD Cert.Upo.τ).loc Cert.Upo.main_arg4) = m ((c.tc : Thread Cert.Upo.nD Cert.Upo.τ).loc Cert.Upo.main_arg4)
      ∧ r.2.mem ((c.tc : Thread Cert.Upo.nD Cert.Upo.τ).loc Cert.Upo.main_arg5) = m ((c.tc : Thread Cert.Upo.nD Cert.Upo.τ).loc Cert.Upo.main_arg5))
      ∧ r.2.sem = fun _ => 0)

def quiescent_UpoIdeal [hUpoIdeal : Cert.UpoIdeal.Facts] : Prop :=
  ∀ (m : (ℓ : Loc Cert.UpoIdeal.nD Cert.UpoIdeal.τ Cert.UpoIdeal.sig) → Buf (Elt Ideal) ℓ) (g : Dev Cert.UpoIdeal.nD → PrngReg), Pre_UpoIdeal m →
    θ_run (Cert.UpoIdeal.defs (F := Ideal)) (onTc (τ := Cert.UpoIdeal.τ) (Cert.UpoIdeal.main (F := Ideal))) ⟨m, fun _ => 0, g⟩ (fun r => (∀ c : Dev Cert.UpoIdeal.nD,
      r.2.mem ((c.tc : Thread Cert.UpoIdeal.nD Cert.UpoIdeal.τ).loc Cert.UpoIdeal.main_arg0) = m ((c.tc : Thread Cert.UpoIdeal.nD Cert.UpoIdeal.τ).loc Cert.UpoIdeal.main_arg0)
      ∧ r.2.mem ((c.tc : Thread Cert.UpoIdeal.nD Cert.UpoIdeal.τ).loc Cert.UpoIdeal.main_arg1) = m ((c.tc : Thread Cert.UpoIdeal.nD Cert.UpoIdeal.τ).loc Cert.UpoIdeal.main_arg1)
      ∧ r.2.mem ((c.tc : Thread Cert.UpoIdeal.nD Cert.UpoIdeal.τ).loc Cert.UpoIdeal.main_arg2) = m ((c.tc : Thread Cert.UpoIdeal.nD Cert.UpoIdeal.τ).loc Cert.UpoIdeal.main_arg2)
      ∧ r.2.mem ((c.tc : Thread Cert.UpoIdeal.nD Cert.UpoIdeal.τ).loc Cert.UpoIdeal.main_arg3) = m ((c.tc : Thread Cert.UpoIdeal.nD Cert.UpoIdeal.τ).loc Cert.UpoIdeal.main_arg3)
      ∧ r.2.mem ((c.tc : Thread Cert.UpoIdeal.nD Cert.UpoIdeal.τ).loc Cert.UpoIdeal.main_arg4) = m ((c.tc : Thread Cert.UpoIdeal.nD Cert.UpoIdeal.τ).loc Cert.UpoIdeal.main_arg4)
      ∧ r.2.mem ((c.tc : Thread Cert.UpoIdeal.nD Cert.UpoIdeal.τ).loc Cert.UpoIdeal.main_arg5) = m ((c.tc : Thread Cert.UpoIdeal.nD Cert.UpoIdeal.τ).loc Cert.UpoIdeal.main_arg5))
      ∧ r.2.sem = fun _ => 0)

def quiescent_UpoRefIdeal [hUpoRefIdeal : Cert.UpoRefIdeal.Facts] : Prop :=
  ∀ (m : (ℓ : Loc Cert.UpoRefIdeal.nD Cert.UpoRefIdeal.τ Cert.UpoRefIdeal.sig) → Buf (Elt Ideal) ℓ) (g : Dev Cert.UpoRefIdeal.nD → PrngReg), Pre_UpoRefIdeal m →
    θ_run (Cert.UpoRefIdeal.defs (F := Ideal)) (onTc (τ := Cert.UpoRefIdeal.τ) (Cert.UpoRefIdeal.main (F := Ideal))) ⟨m, fun _ => 0, g⟩ (fun r => (∀ c : Dev Cert.UpoRefIdeal.nD,
      r.2.mem ((c.tc : Thread Cert.UpoRefIdeal.nD Cert.UpoRefIdeal.τ).loc Cert.UpoRefIdeal.main_arg0) = m ((c.tc : Thread Cert.UpoRefIdeal.nD Cert.UpoRefIdeal.τ).loc Cert.UpoRefIdeal.main_arg0)
      ∧ r.2.mem ((c.tc : Thread Cert.UpoRefIdeal.nD Cert.UpoRefIdeal.τ).loc Cert.UpoRefIdeal.main_arg1) = m ((c.tc : Thread Cert.UpoRefIdeal.nD Cert.UpoRefIdeal.τ).loc Cert.UpoRefIdeal.main_arg1)
      ∧ r.2.mem ((c.tc : Thread Cert.UpoRefIdeal.nD Cert.UpoRefIdeal.τ).loc Cert.UpoRefIdeal.main_arg2) = m ((c.tc : Thread Cert.UpoRefIdeal.nD Cert.UpoRefIdeal.τ).loc Cert.UpoRefIdeal.main_arg2)
      ∧ r.2.mem ((c.tc : Thread Cert.UpoRefIdeal.nD Cert.UpoRefIdeal.τ).loc Cert.UpoRefIdeal.main_arg3) = m ((c.tc : Thread Cert.UpoRefIdeal.nD Cert.UpoRefIdeal.τ).loc Cert.UpoRefIdeal.main_arg3)
      ∧ r.2.mem ((c.tc : Thread Cert.UpoRefIdeal.nD Cert.UpoRefIdeal.τ).loc Cert.UpoRefIdeal.main_arg4) = m ((c.tc : Thread Cert.UpoRefIdeal.nD Cert.UpoRefIdeal.τ).loc Cert.UpoRefIdeal.main_arg4)
      ∧ r.2.mem ((c.tc : Thread Cert.UpoRefIdeal.nD Cert.UpoRefIdeal.τ).loc Cert.UpoRefIdeal.main_arg5) = m ((c.tc : Thread Cert.UpoRefIdeal.nD Cert.UpoRefIdeal.τ).loc Cert.UpoRefIdeal.main_arg5))
      ∧ r.2.sem = fun _ => 0)

def quiescent_Sst [hSst : Cert.Sst.Facts] : Prop :=
  ∀ (m : (ℓ : Loc Cert.Sst.nD Cert.Sst.τ Cert.Sst.sig) → Buf (Elt Bits) ℓ) (g : Dev Cert.Sst.nD → PrngReg), Pre_Sst m →
    θ_run (Cert.Sst.defs (F := Bits)) (onTc (τ := Cert.Sst.τ) (Cert.Sst.main (F := Bits))) ⟨m, fun _ => 0, g⟩ (fun r => (∀ c : Dev Cert.Sst.nD,
      r.2.mem ((c.tc : Thread Cert.Sst.nD Cert.Sst.τ).loc Cert.Sst.main_arg0) = m ((c.tc : Thread Cert.Sst.nD Cert.Sst.τ).loc Cert.Sst.main_arg0))
      ∧ r.2.sem = fun _ => 0)

def quiescent_SstIdeal [hSstIdeal : Cert.SstIdeal.Facts] : Prop :=
  ∀ (m : (ℓ : Loc Cert.SstIdeal.nD Cert.SstIdeal.τ Cert.SstIdeal.sig) → Buf (Elt Ideal) ℓ) (g : Dev Cert.SstIdeal.nD → PrngReg), Pre_SstIdeal m →
    θ_run (Cert.SstIdeal.defs (F := Ideal)) (onTc (τ := Cert.SstIdeal.τ) (Cert.SstIdeal.main (F := Ideal))) ⟨m, fun _ => 0, g⟩ (fun r => (∀ c : Dev Cert.SstIdeal.nD,
      r.2.mem ((c.tc : Thread Cert.SstIdeal.nD Cert.SstIdeal.τ).loc Cert.SstIdeal.main_arg0) = m ((c.tc : Thread Cert.SstIdeal.nD Cert.SstIdeal.τ).loc Cert.SstIdeal.main_arg0))
      ∧ r.2.sem = fun _ => 0)

def quiescent_SstRefIdeal [hSstRefIdeal : Cert.SstRefIdeal.Facts] : Prop :=
  ∀ (m : (ℓ : Loc Cert.SstRefIdeal.nD Cert.SstRefIdeal.τ Cert.SstRefIdeal.sig) → Buf (Elt Ideal) ℓ) (g : Dev Cert.SstRefIdeal.nD → PrngReg), Pre_SstRefIdeal m →
    θ_run (Cert.SstRefIdeal.defs (F := Ideal)) (onTc (τ := Cert.SstRefIdeal.τ) (Cert.SstRefIdeal.main (F := Ideal))) ⟨m, fun _ => 0, g⟩ (fun r => (∀ c : Dev Cert.SstRefIdeal.nD,
      r.2.mem ((c.tc : Thread Cert.SstRefIdeal.nD Cert.SstRefIdeal.τ).loc Cert.SstRefIdeal.main_arg0) = m ((c.tc : Thread Cert.SstRefIdeal.nD Cert.SstRefIdeal.τ).loc Cert.SstRefIdeal.main_arg0))
      ∧ r.2.sem = fun _ => 0)

def preserves_Tn_TnIdeal : Prop :=
  True

def algebraic_TnIdeal_TnRefIdeal [hTnIdeal : Cert.TnIdeal.Facts] [hTnRefIdeal : Cert.TnRefIdeal.Facts] : Prop :=
  ∀ (m : (ℓ : Loc Cert.TnIdeal.nD Cert.TnIdeal.τ Cert.TnIdeal.sig) → Buf (Elt Ideal) ℓ) (g : Dev Cert.TnIdeal.nD → PrngReg)
    (m' : (ℓ : Loc Cert.TnRefIdeal.nD Cert.TnRefIdeal.τ Cert.TnRefIdeal.sig) → Buf (Elt Ideal) ℓ) (g' : Dev Cert.TnRefIdeal.nD → PrngReg), Pre_TnIdeal m →
    (∀ c : Dev Cert.TnIdeal.nD,
      m' ((c.tc : Thread Cert.TnRefIdeal.nD Cert.TnRefIdeal.τ).loc Cert.TnRefIdeal.main_arg0) = m ((c.tc : Thread Cert.TnIdeal.nD Cert.TnIdeal.τ).loc Cert.TnIdeal.main_arg0)
      ∧ m' ((c.tc : Thread Cert.TnRefIdeal.nD Cert.TnRefIdeal.τ).loc Cert.TnRefIdeal.main_arg1) = m ((c.tc : Thread Cert.TnIdeal.nD Cert.TnIdeal.τ).loc Cert.TnIdeal.main_arg1)) →
    ∃ (v0 : (c : Dev Cert.TnIdeal.nD) → Buf (Elt Ideal) ((c.tc : Thread Cert.TnIdeal.nD Cert.TnIdeal.τ).loc Cert.TnIdeal.main_v0)),
      θ_run (Cert.TnIdeal.defs (F := Ideal)) (onTc (τ := Cert.TnIdeal.τ) (Cert.TnIdeal.main (F := Ideal))) ⟨m, fun _ => 0, g⟩ (fun r => ∀ c : Dev Cert.TnIdeal.nD,
          r.2.mem ((c.tc : Thread Cert.TnIdeal.nD Cert.TnIdeal.τ).loc Cert.TnIdeal.main_v0) = v0 c
          ∧ r.2.mem ((c.tc : Thread Cert.TnIdeal.nD Cert.TnIdeal.τ).loc Cert.TnIdeal.main_arg0) = m ((c.tc : Thread Cert.TnIdeal.nD Cert.TnIdeal.τ).loc Cert.TnIdeal.main_arg0)
          ∧ r.2.mem ((c.tc : Thread Cert.TnIdeal.nD Cert.TnIdeal.τ).loc Cert.TnIdeal.main_arg1) = m ((c.tc : Thread Cert.TnIdeal.nD Cert.TnIdeal.τ).loc Cert.TnIdeal.main_arg1))
      ∧ θ_run (Cert.TnRefIdeal.defs (F := Ideal)) (onTc (τ := Cert.TnRefIdeal.τ) (Cert.TnRefIdeal.main (F := Ideal))) ⟨m', fun _ => 0, g'⟩ (fun r => ∀ c : Dev Cert.TnRefIdeal.nD,
          r.2.mem ((c.tc : Thread Cert.TnRefIdeal.nD Cert.TnRefIdeal.τ).loc Cert.TnRefIdeal.main_v6) = v0 c
          ∧ r.2.mem ((c.tc : Thread Cert.TnRefIdeal.nD Cert.TnRefIdeal.τ).loc Cert.TnRefIdeal.main_arg0) = m' ((c.tc : Thread Cert.TnRefIdeal.nD Cert.TnRefIdeal.τ).loc Cert.TnRefIdeal.main_arg0)
          ∧ r.2.mem ((c.tc : Thread Cert.TnRefIdeal.nD Cert.TnRefIdeal.τ).loc Cert.TnRefIdeal.main_arg1) = m' ((c.tc : Thread Cert.TnRefIdeal.nD Cert.TnRefIdeal.τ).loc Cert.TnRefIdeal.main_arg1))

def preserves_Tin_TinIdeal : Prop :=
  True

def algebraic_TinIdeal_TinRefIdeal [hTinIdeal : Cert.TinIdeal.Facts] [hTinRefIdeal : Cert.TinRefIdeal.Facts] : Prop :=
  ∀ (m : (ℓ : Loc Cert.TinIdeal.nD Cert.TinIdeal.τ Cert.TinIdeal.sig) → Buf (Elt Ideal) ℓ) (g : Dev Cert.TinIdeal.nD → PrngReg)
    (m' : (ℓ : Loc Cert.TinRefIdeal.nD Cert.TinRefIdeal.τ Cert.TinRefIdeal.sig) → Buf (Elt Ideal) ℓ) (g' : Dev Cert.TinRefIdeal.nD → PrngReg), Pre_TinIdeal m →
    (∀ c : Dev Cert.TinIdeal.nD,
      m' ((c.tc : Thread Cert.TinRefIdeal.nD Cert.TinRefIdeal.τ).loc Cert.TinRefIdeal.main_arg0) = m ((c.tc : Thread Cert.TinIdeal.nD Cert.TinIdeal.τ).loc Cert.TinIdeal.main_arg0)
      ∧ m' ((c.tc : Thread Cert.TinRefIdeal.nD Cert.TinRefIdeal.τ).loc Cert.TinRefIdeal.main_arg1) = m ((c.tc : Thread Cert.TinIdeal.nD Cert.TinIdeal.τ).loc Cert.TinIdeal.main_arg1)) →
    ∃ (v0 : (c : Dev Cert.TinIdeal.nD) → Buf (Elt Ideal) ((c.tc : Thread Cert.TinIdeal.nD Cert.TinIdeal.τ).loc Cert.TinIdeal.main_v0)),
      θ_run (Cert.TinIdeal.defs (F := Ideal)) (onTc (τ := Cert.TinIdeal.τ) (Cert.TinIdeal.main (F := Ideal))) ⟨m, fun _ => 0, g⟩ (fun r => ∀ c : Dev Cert.TinIdeal.nD,
          r.2.mem ((c.tc : Thread Cert.TinIdeal.nD Cert.TinIdeal.τ).loc Cert.TinIdeal.main_v0) = v0 c
          ∧ r.2.mem ((c.tc : Thread Cert.TinIdeal.nD Cert.TinIdeal.τ).loc Cert.TinIdeal.main_arg0) = m ((c.tc : Thread Cert.TinIdeal.nD Cert.TinIdeal.τ).loc Cert.TinIdeal.main_arg0)
          ∧ r.2.mem ((c.tc : Thread Cert.TinIdeal.nD Cert.TinIdeal.τ).loc Cert.TinIdeal.main_arg1) = m ((c.tc : Thread Cert.TinIdeal.nD Cert.TinIdeal.τ).loc Cert.TinIdeal.main_arg1))
      ∧ θ_run (Cert.TinRefIdeal.defs (F := Ideal)) (onTc (τ := Cert.TinRefIdeal.τ) (Cert.TinRefIdeal.main (F := Ideal))) ⟨m', fun _ => 0, g'⟩ (fun r => ∀ c : Dev Cert.TinRefIdeal.nD,
          r.2.mem ((c.tc : Thread Cert.TinRefIdeal.nD Cert.TinRefIdeal.τ).loc Cert.TinRefIdeal.main_v8) = v0 c
          ∧ r.2.mem ((c.tc : Thread Cert.TinRefIdeal.nD Cert.TinRefIdeal.τ).loc Cert.TinRefIdeal.main_arg0) = m' ((c.tc : Thread Cert.TinRefIdeal.nD Cert.TinRefIdeal.τ).loc Cert.TinRefIdeal.main_arg0)
          ∧ r.2.mem ((c.tc : Thread Cert.TinRefIdeal.nD Cert.TinRefIdeal.τ).loc Cert.TinRefIdeal.main_arg1) = m' ((c.tc : Thread Cert.TinRefIdeal.nD Cert.TinRefIdeal.τ).loc Cert.TinRefIdeal.main_arg1))

def preserves_Tout_ToutIdeal : Prop :=
  True

def algebraic_ToutIdeal_ToutRefIdeal [hToutIdeal : Cert.ToutIdeal.Facts] [hToutRefIdeal : Cert.ToutRefIdeal.Facts] : Prop :=
  ∀ (m : (ℓ : Loc Cert.ToutIdeal.nD Cert.ToutIdeal.τ Cert.ToutIdeal.sig) → Buf (Elt Ideal) ℓ) (g : Dev Cert.ToutIdeal.nD → PrngReg)
    (m' : (ℓ : Loc Cert.ToutRefIdeal.nD Cert.ToutRefIdeal.τ Cert.ToutRefIdeal.sig) → Buf (Elt Ideal) ℓ) (g' : Dev Cert.ToutRefIdeal.nD → PrngReg), Pre_ToutIdeal m →
    (∀ c : Dev Cert.ToutIdeal.nD,
      m' ((c.tc : Thread Cert.ToutRefIdeal.nD Cert.ToutRefIdeal.τ).loc Cert.ToutRefIdeal.main_arg0) = m ((c.tc : Thread Cert.ToutIdeal.nD Cert.ToutIdeal.τ).loc Cert.ToutIdeal.main_arg0)
      ∧ m' ((c.tc : Thread Cert.ToutRefIdeal.nD Cert.ToutRefIdeal.τ).loc Cert.ToutRefIdeal.main_arg1) = m ((c.tc : Thread Cert.ToutIdeal.nD Cert.ToutIdeal.τ).loc Cert.ToutIdeal.main_arg1)) →
    ∃ (v0 : (c : Dev Cert.ToutIdeal.nD) → Buf (Elt Ideal) ((c.tc : Thread Cert.ToutIdeal.nD Cert.ToutIdeal.τ).loc Cert.ToutIdeal.main_v0)),
      θ_run (Cert.ToutIdeal.defs (F := Ideal)) (onTc (τ := Cert.ToutIdeal.τ) (Cert.ToutIdeal.main (F := Ideal))) ⟨m, fun _ => 0, g⟩ (fun r => ∀ c : Dev Cert.ToutIdeal.nD,
          r.2.mem ((c.tc : Thread Cert.ToutIdeal.nD Cert.ToutIdeal.τ).loc Cert.ToutIdeal.main_v0) = v0 c
          ∧ r.2.mem ((c.tc : Thread Cert.ToutIdeal.nD Cert.ToutIdeal.τ).loc Cert.ToutIdeal.main_arg0) = m ((c.tc : Thread Cert.ToutIdeal.nD Cert.ToutIdeal.τ).loc Cert.ToutIdeal.main_arg0)
          ∧ r.2.mem ((c.tc : Thread Cert.ToutIdeal.nD Cert.ToutIdeal.τ).loc Cert.ToutIdeal.main_arg1) = m ((c.tc : Thread Cert.ToutIdeal.nD Cert.ToutIdeal.τ).loc Cert.ToutIdeal.main_arg1))
      ∧ θ_run (Cert.ToutRefIdeal.defs (F := Ideal)) (onTc (τ := Cert.ToutRefIdeal.τ) (Cert.ToutRefIdeal.main (F := Ideal))) ⟨m', fun _ => 0, g'⟩ (fun r => ∀ c : Dev Cert.ToutRefIdeal.nD,
          r.2.mem ((c.tc : Thread Cert.ToutRefIdeal.nD Cert.ToutRefIdeal.τ).loc Cert.ToutRefIdeal.main_v6) = v0 c
          ∧ r.2.mem ((c.tc : Thread Cert.ToutRefIdeal.nD Cert.ToutRefIdeal.τ).loc Cert.ToutRefIdeal.main_arg0) = m' ((c.tc : Thread Cert.ToutRefIdeal.nD Cert.ToutRefIdeal.τ).loc Cert.ToutRefIdeal.main_arg0)
          ∧ r.2.mem ((c.tc : Thread Cert.ToutRefIdeal.nD Cert.ToutRefIdeal.τ).loc Cert.ToutRefIdeal.main_arg1) = m' ((c.tc : Thread Cert.ToutRefIdeal.nD Cert.ToutRefIdeal.τ).loc Cert.ToutRefIdeal.main_arg1))

def preserves_Hid_HidIdeal : Prop :=
  True

def algebraic_HidIdeal_HidRefIdeal_pre_hid_finite [hHidIdeal : Cert.HidIdeal.Facts] [hHidRefIdeal : Cert.HidRefIdeal.Facts] [hPre_hid_finite : Cert.Pre_hid_finite.Facts] : Prop :=
  ∀ (m : (ℓ : Loc Cert.HidIdeal.nD Cert.HidIdeal.τ Cert.HidIdeal.sig) → Buf (Elt Ideal) ℓ) (g : Dev Cert.HidIdeal.nD → PrngReg)
    (m' : (ℓ : Loc Cert.HidRefIdeal.nD Cert.HidRefIdeal.τ Cert.HidRefIdeal.sig) → Buf (Elt Ideal) ℓ) (g' : Dev Cert.HidRefIdeal.nD → PrngReg), Pre_HidIdeal_hid_finite m →
    (∀ c : Dev Cert.HidIdeal.nD,
      m' ((c.tc : Thread Cert.HidRefIdeal.nD Cert.HidRefIdeal.τ).loc Cert.HidRefIdeal.main_arg0) = m ((c.tc : Thread Cert.HidIdeal.nD Cert.HidIdeal.τ).loc Cert.HidIdeal.main_arg0)
      ∧ m' ((c.tc : Thread Cert.HidRefIdeal.nD Cert.HidRefIdeal.τ).loc Cert.HidRefIdeal.main_arg1) = m ((c.tc : Thread Cert.HidIdeal.nD Cert.HidIdeal.τ).loc Cert.HidIdeal.main_arg1)
      ∧ m' ((c.tc : Thread Cert.HidRefIdeal.nD Cert.HidRefIdeal.τ).loc Cert.HidRefIdeal.main_arg2) = m ((c.tc : Thread Cert.HidIdeal.nD Cert.HidIdeal.τ).loc Cert.HidIdeal.main_arg2)
      ∧ m' ((c.tc : Thread Cert.HidRefIdeal.nD Cert.HidRefIdeal.τ).loc Cert.HidRefIdeal.main_arg3) = m ((c.tc : Thread Cert.HidIdeal.nD Cert.HidIdeal.τ).loc Cert.HidIdeal.main_arg3)) →
    ∃ (v0 : (c : Dev Cert.HidIdeal.nD) → Buf (Elt Ideal) ((c.tc : Thread Cert.HidIdeal.nD Cert.HidIdeal.τ).loc Cert.HidIdeal.main_v0_0)) (v1 : (c : Dev Cert.HidIdeal.nD) → Buf (Elt Ideal) ((c.tc : Thread Cert.HidIdeal.nD Cert.HidIdeal.τ).loc Cert.HidIdeal.main_v0_1)),
      θ_run (Cert.HidIdeal.defs (F := Ideal)) (onTc (τ := Cert.HidIdeal.τ) (Cert.HidIdeal.main (F := Ideal))) ⟨m, fun _ => 0, g⟩ (fun r => ∀ c : Dev Cert.HidIdeal.nD,
          r.2.mem ((c.tc : Thread Cert.HidIdeal.nD Cert.HidIdeal.τ).loc Cert.HidIdeal.main_v0_0) = v0 c
          ∧ r.2.mem ((c.tc : Thread Cert.HidIdeal.nD Cert.HidIdeal.τ).loc Cert.HidIdeal.main_v0_1) = v1 c
          ∧ r.2.mem ((c.tc : Thread Cert.HidIdeal.nD Cert.HidIdeal.τ).loc Cert.HidIdeal.main_arg0) = m ((c.tc : Thread Cert.HidIdeal.nD Cert.HidIdeal.τ).loc Cert.HidIdeal.main_arg0)
          ∧ r.2.mem ((c.tc : Thread Cert.HidIdeal.nD Cert.HidIdeal.τ).loc Cert.HidIdeal.main_arg1) = m ((c.tc : Thread Cert.HidIdeal.nD Cert.HidIdeal.τ).loc Cert.HidIdeal.main_arg1)
          ∧ r.2.mem ((c.tc : Thread Cert.HidIdeal.nD Cert.HidIdeal.τ).loc Cert.HidIdeal.main_arg2) = m ((c.tc : Thread Cert.HidIdeal.nD Cert.HidIdeal.τ).loc Cert.HidIdeal.main_arg2)
          ∧ r.2.mem ((c.tc : Thread Cert.HidIdeal.nD Cert.HidIdeal.τ).loc Cert.HidIdeal.main_arg3) = m ((c.tc : Thread Cert.HidIdeal.nD Cert.HidIdeal.τ).loc Cert.HidIdeal.main_arg3))
      ∧ θ_run (Cert.HidRefIdeal.defs (F := Ideal)) (onTc (τ := Cert.HidRefIdeal.τ) (Cert.HidRefIdeal.main (F := Ideal))) ⟨m', fun _ => 0, g'⟩ (fun r => ∀ c : Dev Cert.HidRefIdeal.nD,
          r.2.mem ((c.tc : Thread Cert.HidRefIdeal.nD Cert.HidRefIdeal.τ).loc Cert.HidRefIdeal.main_v11) = v0 c
          ∧ r.2.mem ((c.tc : Thread Cert.HidRefIdeal.nD Cert.HidRefIdeal.τ).loc Cert.HidRefIdeal.main_v12) = v1 c
          ∧ r.2.mem ((c.tc : Thread Cert.HidRefIdeal.nD Cert.HidRefIdeal.τ).loc Cert.HidRefIdeal.main_arg0) = m' ((c.tc : Thread Cert.HidRefIdeal.nD Cert.HidRefIdeal.τ).loc Cert.HidRefIdeal.main_arg0)
          ∧ r.2.mem ((c.tc : Thread Cert.HidRefIdeal.nD Cert.HidRefIdeal.τ).loc Cert.HidRefIdeal.main_arg1) = m' ((c.tc : Thread Cert.HidRefIdeal.nD Cert.HidRefIdeal.τ).loc Cert.HidRefIdeal.main_arg1)
          ∧ r.2.mem ((c.tc : Thread Cert.HidRefIdeal.nD Cert.HidRefIdeal.τ).loc Cert.HidRefIdeal.main_arg2) = m' ((c.tc : Thread Cert.HidRefIdeal.nD Cert.HidRefIdeal.τ).loc Cert.HidRefIdeal.main_arg2)
          ∧ r.2.mem ((c.tc : Thread Cert.HidRefIdeal.nD Cert.HidRefIdeal.τ).loc Cert.HidRefIdeal.main_arg3) = m' ((c.tc : Thread Cert.HidRefIdeal.nD Cert.HidRefIdeal.τ).loc Cert.HidRefIdeal.main_arg3))

def preserves_Gup_GupIdeal : Prop :=
  True

def algebraic_GupIdeal_GupRefIdeal [hGupIdeal : Cert.GupIdeal.Facts] [hGupRefIdeal : Cert.GupRefIdeal.Facts] : Prop :=
  ∀ (m : (ℓ : Loc Cert.GupIdeal.nD Cert.GupIdeal.τ Cert.GupIdeal.sig) → Buf (Elt Ideal) ℓ) (g : Dev Cert.GupIdeal.nD → PrngReg)
    (m' : (ℓ : Loc Cert.GupRefIdeal.nD Cert.GupRefIdeal.τ Cert.GupRefIdeal.sig) → Buf (Elt Ideal) ℓ) (g' : Dev Cert.GupRefIdeal.nD → PrngReg), Pre_GupIdeal m →
    (∀ c : Dev Cert.GupIdeal.nD,
      m' ((c.tc : Thread Cert.GupRefIdeal.nD Cert.GupRefIdeal.τ).loc Cert.GupRefIdeal.main_arg0) = m ((c.tc : Thread Cert.GupIdeal.nD Cert.GupIdeal.τ).loc Cert.GupIdeal.main_arg0)
      ∧ m' ((c.tc : Thread Cert.GupRefIdeal.nD Cert.GupRefIdeal.τ).loc Cert.GupRefIdeal.main_arg1) = m ((c.tc : Thread Cert.GupIdeal.nD Cert.GupIdeal.τ).loc Cert.GupIdeal.main_arg1)
      ∧ m' ((c.tc : Thread Cert.GupRefIdeal.nD Cert.GupRefIdeal.τ).loc Cert.GupRefIdeal.main_arg2) = m ((c.tc : Thread Cert.GupIdeal.nD Cert.GupIdeal.τ).loc Cert.GupIdeal.main_arg2)) →
    ∃ (v0 : (c : Dev Cert.GupIdeal.nD) → Buf (Elt Ideal) ((c.tc : Thread Cert.GupIdeal.nD Cert.GupIdeal.τ).loc Cert.GupIdeal.main_v0_0)) (v1 : (c : Dev Cert.GupIdeal.nD) → Buf (Elt Ideal) ((c.tc : Thread Cert.GupIdeal.nD Cert.GupIdeal.τ).loc Cert.GupIdeal.main_v0_1)) (v2 : (c : Dev Cert.GupIdeal.nD) → Buf (Elt Ideal) ((c.tc : Thread Cert.GupIdeal.nD Cert.GupIdeal.τ).loc Cert.GupIdeal.main_v0_2)),
      θ_run (Cert.GupIdeal.defs (F := Ideal)) (onTc (τ := Cert.GupIdeal.τ) (Cert.GupIdeal.main (F := Ideal))) ⟨m, fun _ => 0, g⟩ (fun r => ∀ c : Dev Cert.GupIdeal.nD,
          r.2.mem ((c.tc : Thread Cert.GupIdeal.nD Cert.GupIdeal.τ).loc Cert.GupIdeal.main_v0_0) = v0 c
          ∧ r.2.mem ((c.tc : Thread Cert.GupIdeal.nD Cert.GupIdeal.τ).loc Cert.GupIdeal.main_v0_1) = v1 c
          ∧ r.2.mem ((c.tc : Thread Cert.GupIdeal.nD Cert.GupIdeal.τ).loc Cert.GupIdeal.main_v0_2) = v2 c
          ∧ r.2.mem ((c.tc : Thread Cert.GupIdeal.nD Cert.GupIdeal.τ).loc Cert.GupIdeal.main_arg0) = m ((c.tc : Thread Cert.GupIdeal.nD Cert.GupIdeal.τ).loc Cert.GupIdeal.main_arg0)
          ∧ r.2.mem ((c.tc : Thread Cert.GupIdeal.nD Cert.GupIdeal.τ).loc Cert.GupIdeal.main_arg1) = m ((c.tc : Thread Cert.GupIdeal.nD Cert.GupIdeal.τ).loc Cert.GupIdeal.main_arg1)
          ∧ r.2.mem ((c.tc : Thread Cert.GupIdeal.nD Cert.GupIdeal.τ).loc Cert.GupIdeal.main_arg2) = m ((c.tc : Thread Cert.GupIdeal.nD Cert.GupIdeal.τ).loc Cert.GupIdeal.main_arg2))
      ∧ θ_run (Cert.GupRefIdeal.defs (F := Ideal)) (onTc (τ := Cert.GupRefIdeal.τ) (Cert.GupRefIdeal.main (F := Ideal))) ⟨m', fun _ => 0, g'⟩ (fun r => ∀ c : Dev Cert.GupRefIdeal.nD,
          r.2.mem ((c.tc : Thread Cert.GupRefIdeal.nD Cert.GupRefIdeal.τ).loc Cert.GupRefIdeal.main_v7) = v0 c
          ∧ r.2.mem ((c.tc : Thread Cert.GupRefIdeal.nD Cert.GupRefIdeal.τ).loc Cert.GupRefIdeal.main_v8) = v1 c
          ∧ r.2.mem ((c.tc : Thread Cert.GupRefIdeal.nD Cert.GupRefIdeal.τ).loc Cert.GupRefIdeal.main_v11) = v2 c
          ∧ r.2.mem ((c.tc : Thread Cert.GupRefIdeal.nD Cert.GupRefIdeal.τ).loc Cert.GupRefIdeal.main_arg0) = m' ((c.tc : Thread Cert.GupRefIdeal.nD Cert.GupRefIdeal.τ).loc Cert.GupRefIdeal.main_arg0)
          ∧ r.2.mem ((c.tc : Thread Cert.GupRefIdeal.nD Cert.GupRefIdeal.τ).loc Cert.GupRefIdeal.main_arg1) = m' ((c.tc : Thread Cert.GupRefIdeal.nD Cert.GupRefIdeal.τ).loc Cert.GupRefIdeal.main_arg1)
          ∧ r.2.mem ((c.tc : Thread Cert.GupRefIdeal.nD Cert.GupRefIdeal.τ).loc Cert.GupRefIdeal.main_arg2) = m' ((c.tc : Thread Cert.GupRefIdeal.nD Cert.GupRefIdeal.τ).loc Cert.GupRefIdeal.main_arg2))

def preserves_Ntg_NtgIdeal : Prop :=
  True

def algebraic_NtgIdeal_NtgRefIdeal [hNtgIdeal : Cert.NtgIdeal.Facts] [hNtgRefIdeal : Cert.NtgRefIdeal.Facts] : Prop :=
  ∀ (m : (ℓ : Loc Cert.NtgIdeal.nD Cert.NtgIdeal.τ Cert.NtgIdeal.sig) → Buf (Elt Ideal) ℓ) (g : Dev Cert.NtgIdeal.nD → PrngReg)
    (m' : (ℓ : Loc Cert.NtgRefIdeal.nD Cert.NtgRefIdeal.τ Cert.NtgRefIdeal.sig) → Buf (Elt Ideal) ℓ) (g' : Dev Cert.NtgRefIdeal.nD → PrngReg), Pre_NtgIdeal m →
    (∀ c : Dev Cert.NtgIdeal.nD,
      m' ((c.tc : Thread Cert.NtgRefIdeal.nD Cert.NtgRefIdeal.τ).loc Cert.NtgRefIdeal.main_arg0) = m ((c.tc : Thread Cert.NtgIdeal.nD Cert.NtgIdeal.τ).loc Cert.NtgIdeal.main_arg0)
      ∧ m' ((c.tc : Thread Cert.NtgRefIdeal.nD Cert.NtgRefIdeal.τ).loc Cert.NtgRefIdeal.main_arg1) = m ((c.tc : Thread Cert.NtgIdeal.nD Cert.NtgIdeal.τ).loc Cert.NtgIdeal.main_arg1)) →
    ∃ (v0 : (c : Dev Cert.NtgIdeal.nD) → Buf (Elt Ideal) ((c.tc : Thread Cert.NtgIdeal.nD Cert.NtgIdeal.τ).loc Cert.NtgIdeal.main_v0)),
      θ_run (Cert.NtgIdeal.defs (F := Ideal)) (onTc (τ := Cert.NtgIdeal.τ) (Cert.NtgIdeal.main (F := Ideal))) ⟨m, fun _ => 0, g⟩ (fun r => ∀ c : Dev Cert.NtgIdeal.nD,
          r.2.mem ((c.tc : Thread Cert.NtgIdeal.nD Cert.NtgIdeal.τ).loc Cert.NtgIdeal.main_v0) = v0 c
          ∧ r.2.mem ((c.tc : Thread Cert.NtgIdeal.nD Cert.NtgIdeal.τ).loc Cert.NtgIdeal.main_arg0) = m ((c.tc : Thread Cert.NtgIdeal.nD Cert.NtgIdeal.τ).loc Cert.NtgIdeal.main_arg0)
          ∧ r.2.mem ((c.tc : Thread Cert.NtgIdeal.nD Cert.NtgIdeal.τ).loc Cert.NtgIdeal.main_arg1) = m ((c.tc : Thread Cert.NtgIdeal.nD Cert.NtgIdeal.τ).loc Cert.NtgIdeal.main_arg1))
      ∧ θ_run (Cert.NtgRefIdeal.defs (F := Ideal)) (onTc (τ := Cert.NtgRefIdeal.τ) (Cert.NtgRefIdeal.main (F := Ideal))) ⟨m', fun _ => 0, g'⟩ (fun r => ∀ c : Dev Cert.NtgRefIdeal.nD,
          r.2.mem ((c.tc : Thread Cert.NtgRefIdeal.nD Cert.NtgRefIdeal.τ).loc Cert.NtgRefIdeal.main_v4) = v0 c
          ∧ r.2.mem ((c.tc : Thread Cert.NtgRefIdeal.nD Cert.NtgRefIdeal.τ).loc Cert.NtgRefIdeal.main_arg0) = m' ((c.tc : Thread Cert.NtgRefIdeal.nD Cert.NtgRefIdeal.τ).loc Cert.NtgRefIdeal.main_arg0)
          ∧ r.2.mem ((c.tc : Thread Cert.NtgRefIdeal.nD Cert.NtgRefIdeal.τ).loc Cert.NtgRefIdeal.main_arg1) = m' ((c.tc : Thread Cert.NtgRefIdeal.nD Cert.NtgRefIdeal.τ).loc Cert.NtgRefIdeal.main_arg1))

def preserves_Nti_NtiIdeal : Prop :=
  True

def algebraic_NtiIdeal_NtiRefIdeal [hNtiIdeal : Cert.NtiIdeal.Facts] [hNtiRefIdeal : Cert.NtiRefIdeal.Facts] : Prop :=
  ∀ (m : (ℓ : Loc Cert.NtiIdeal.nD Cert.NtiIdeal.τ Cert.NtiIdeal.sig) → Buf (Elt Ideal) ℓ) (g : Dev Cert.NtiIdeal.nD → PrngReg)
    (m' : (ℓ : Loc Cert.NtiRefIdeal.nD Cert.NtiRefIdeal.τ Cert.NtiRefIdeal.sig) → Buf (Elt Ideal) ℓ) (g' : Dev Cert.NtiRefIdeal.nD → PrngReg), Pre_NtiIdeal m →
    (∀ c : Dev Cert.NtiIdeal.nD,
      m' ((c.tc : Thread Cert.NtiRefIdeal.nD Cert.NtiRefIdeal.τ).loc Cert.NtiRefIdeal.main_arg0) = m ((c.tc : Thread Cert.NtiIdeal.nD Cert.NtiIdeal.τ).loc Cert.NtiIdeal.main_arg0)
      ∧ m' ((c.tc : Thread Cert.NtiRefIdeal.nD Cert.NtiRefIdeal.τ).loc Cert.NtiRefIdeal.main_arg1) = m ((c.tc : Thread Cert.NtiIdeal.nD Cert.NtiIdeal.τ).loc Cert.NtiIdeal.main_arg1)) →
    ∃ (v0 : (c : Dev Cert.NtiIdeal.nD) → Buf (Elt Ideal) ((c.tc : Thread Cert.NtiIdeal.nD Cert.NtiIdeal.τ).loc Cert.NtiIdeal.main_v0)),
      θ_run (Cert.NtiIdeal.defs (F := Ideal)) (onTc (τ := Cert.NtiIdeal.τ) (Cert.NtiIdeal.main (F := Ideal))) ⟨m, fun _ => 0, g⟩ (fun r => ∀ c : Dev Cert.NtiIdeal.nD,
          r.2.mem ((c.tc : Thread Cert.NtiIdeal.nD Cert.NtiIdeal.τ).loc Cert.NtiIdeal.main_v0) = v0 c
          ∧ r.2.mem ((c.tc : Thread Cert.NtiIdeal.nD Cert.NtiIdeal.τ).loc Cert.NtiIdeal.main_arg0) = m ((c.tc : Thread Cert.NtiIdeal.nD Cert.NtiIdeal.τ).loc Cert.NtiIdeal.main_arg0)
          ∧ r.2.mem ((c.tc : Thread Cert.NtiIdeal.nD Cert.NtiIdeal.τ).loc Cert.NtiIdeal.main_arg1) = m ((c.tc : Thread Cert.NtiIdeal.nD Cert.NtiIdeal.τ).loc Cert.NtiIdeal.main_arg1))
      ∧ θ_run (Cert.NtiRefIdeal.defs (F := Ideal)) (onTc (τ := Cert.NtiRefIdeal.τ) (Cert.NtiRefIdeal.main (F := Ideal))) ⟨m', fun _ => 0, g'⟩ (fun r => ∀ c : Dev Cert.NtiRefIdeal.nD,
          r.2.mem ((c.tc : Thread Cert.NtiRefIdeal.nD Cert.NtiRefIdeal.τ).loc Cert.NtiRefIdeal.main_v3) = v0 c
          ∧ r.2.mem ((c.tc : Thread Cert.NtiRefIdeal.nD Cert.NtiRefIdeal.τ).loc Cert.NtiRefIdeal.main_arg0) = m' ((c.tc : Thread Cert.NtiRefIdeal.nD Cert.NtiRefIdeal.τ).loc Cert.NtiRefIdeal.main_arg0)
          ∧ r.2.mem ((c.tc : Thread Cert.NtiRefIdeal.nD Cert.NtiRefIdeal.τ).loc Cert.NtiRefIdeal.main_arg1) = m' ((c.tc : Thread Cert.NtiRefIdeal.nD Cert.NtiRefIdeal.τ).loc Cert.NtiRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_v8) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Obwd_ObwdIdeal : Prop :=
  True

def algebraic_ObwdIdeal_ObwdRefIdeal [hObwdIdeal : Cert.ObwdIdeal.Facts] [hObwdRefIdeal : Cert.ObwdRefIdeal.Facts] : Prop :=
  ∀ (m : (ℓ : Loc Cert.ObwdIdeal.nD Cert.ObwdIdeal.τ Cert.ObwdIdeal.sig) → Buf (Elt Ideal) ℓ) (g : Dev Cert.ObwdIdeal.nD → PrngReg)
    (m' : (ℓ : Loc Cert.ObwdRefIdeal.nD Cert.ObwdRefIdeal.τ Cert.ObwdRefIdeal.sig) → Buf (Elt Ideal) ℓ) (g' : Dev Cert.ObwdRefIdeal.nD → PrngReg), Pre_ObwdIdeal m →
    (∀ c : Dev Cert.ObwdIdeal.nD,
      m' ((c.tc : Thread Cert.ObwdRefIdeal.nD Cert.ObwdRefIdeal.τ).loc Cert.ObwdRefIdeal.main_arg0) = m ((c.tc : Thread Cert.ObwdIdeal.nD Cert.ObwdIdeal.τ).loc Cert.ObwdIdeal.main_arg0)
      ∧ m' ((c.tc : Thread Cert.ObwdRefIdeal.nD Cert.ObwdRefIdeal.τ).loc Cert.ObwdRefIdeal.main_arg1) = m ((c.tc : Thread Cert.ObwdIdeal.nD Cert.ObwdIdeal.τ).loc Cert.ObwdIdeal.main_arg1)
      ∧ m' ((c.tc : Thread Cert.ObwdRefIdeal.nD Cert.ObwdRefIdeal.τ).loc Cert.ObwdRefIdeal.main_arg2) = m ((c.tc : Thread Cert.ObwdIdeal.nD Cert.ObwdIdeal.τ).loc Cert.ObwdIdeal.main_arg2)
      ∧ m' ((c.tc : Thread Cert.ObwdRefIdeal.nD Cert.ObwdRefIdeal.τ).loc Cert.ObwdRefIdeal.main_arg3) = m ((c.tc : Thread Cert.ObwdIdeal.nD Cert.ObwdIdeal.τ).loc Cert.ObwdIdeal.main_arg3)) →
    ∃ (v0 : (c : Dev Cert.ObwdIdeal.nD) → Buf (Elt Ideal) ((c.tc : Thread Cert.ObwdIdeal.nD Cert.ObwdIdeal.τ).loc Cert.ObwdIdeal.main_v0_0)) (v1 : (c : Dev Cert.ObwdIdeal.nD) → Buf (Elt Ideal) ((c.tc : Thread Cert.ObwdIdeal.nD Cert.ObwdIdeal.τ).loc Cert.ObwdIdeal.main_v0_1)) (v2 : (c : Dev Cert.ObwdIdeal.nD) → Buf (Elt Ideal) ((c.tc : Thread Cert.ObwdIdeal.nD Cert.ObwdIdeal.τ).loc Cert.ObwdIdeal.main_v0_2)),
      θ_run (Cert.ObwdIdeal.defs (F := Ideal)) (onTc (τ := Cert.ObwdIdeal.τ) (Cert.ObwdIdeal.main (F := Ideal))) ⟨m, fun _ => 0, g⟩ (fun r => ∀ c : Dev Cert.ObwdIdeal.nD,
          r.2.mem ((c.tc : Thread Cert.ObwdIdeal.nD Cert.ObwdIdeal.τ).loc Cert.ObwdIdeal.main_v0_0) = v0 c
          ∧ r.2.mem ((c.tc : Thread Cert.ObwdIdeal.nD Cert.ObwdIdeal.τ).loc Cert.ObwdIdeal.main_v0_1) = v1 c
          ∧ r.2.mem ((c.tc : Thread Cert.ObwdIdeal.nD Cert.ObwdIdeal.τ).loc Cert.ObwdIdeal.main_v0_2) = v2 c
          ∧ r.2.mem ((c.tc : Thread Cert.ObwdIdeal.nD Cert.ObwdIdeal.τ).loc Cert.ObwdIdeal.main_arg0) = m ((c.tc : Thread Cert.ObwdIdeal.nD Cert.ObwdIdeal.τ).loc Cert.ObwdIdeal.main_arg0)
          ∧ r.2.mem ((c.tc : Thread Cert.ObwdIdeal.nD Cert.ObwdIdeal.τ).loc Cert.ObwdIdeal.main_arg1) = m ((c.tc : Thread Cert.ObwdIdeal.nD Cert.ObwdIdeal.τ).loc Cert.ObwdIdeal.main_arg1)
          ∧ r.2.mem ((c.tc : Thread Cert.ObwdIdeal.nD Cert.ObwdIdeal.τ).loc Cert.ObwdIdeal.main_arg2) = m ((c.tc : Thread Cert.ObwdIdeal.nD Cert.ObwdIdeal.τ).loc Cert.ObwdIdeal.main_arg2)
          ∧ r.2.mem ((c.tc : Thread Cert.ObwdIdeal.nD Cert.ObwdIdeal.τ).loc Cert.ObwdIdeal.main_arg3) = m ((c.tc : Thread Cert.ObwdIdeal.nD Cert.ObwdIdeal.τ).loc Cert.ObwdIdeal.main_arg3))
      ∧ θ_run (Cert.ObwdRefIdeal.defs (F := Ideal)) (onTc (τ := Cert.ObwdRefIdeal.τ) (Cert.ObwdRefIdeal.main (F := Ideal))) ⟨m', fun _ => 0, g'⟩ (fun r => ∀ c : Dev Cert.ObwdRefIdeal.nD,
          r.2.mem ((c.tc : Thread Cert.ObwdRefIdeal.nD Cert.ObwdRefIdeal.τ).loc Cert.ObwdRefIdeal.main_v42) = v0 c
          ∧ r.2.mem ((c.tc : Thread Cert.ObwdRefIdeal.nD Cert.ObwdRefIdeal.τ).loc Cert.ObwdRefIdeal.main_v37) = v1 c
          ∧ r.2.mem ((c.tc : Thread Cert.ObwdRefIdeal.nD Cert.ObwdRefIdeal.τ).loc Cert.ObwdRefIdeal.main_v41) = v2 c
          ∧ r.2.mem ((c.tc : Thread Cert.ObwdRefIdeal.nD Cert.ObwdRefIdeal.τ).loc Cert.ObwdRefIdeal.main_arg0) = m' ((c.tc : Thread Cert.ObwdRefIdeal.nD Cert.ObwdRefIdeal.τ).loc Cert.ObwdRefIdeal.main_arg0)
          ∧ r.2.mem ((c.tc : Thread Cert.ObwdRefIdeal.nD Cert.ObwdRefIdeal.τ).loc Cert.ObwdRefIdeal.main_arg1) = m' ((c.tc : Thread Cert.ObwdRefIdeal.nD Cert.ObwdRefIdeal.τ).loc Cert.ObwdRefIdeal.main_arg1)
          ∧ r.2.mem ((c.tc : Thread Cert.ObwdRefIdeal.nD Cert.ObwdRefIdeal.τ).loc Cert.ObwdRefIdeal.main_arg2) = m' ((c.tc : Thread Cert.ObwdRefIdeal.nD Cert.ObwdRefIdeal.τ).loc Cert.ObwdRefIdeal.main_arg2)
          ∧ r.2.mem ((c.tc : Thread Cert.ObwdRefIdeal.nD Cert.ObwdRefIdeal.τ).loc Cert.ObwdRefIdeal.main_arg3) = m' ((c.tc : Thread Cert.ObwdRefIdeal.nD Cert.ObwdRefIdeal.τ).loc Cert.ObwdRefIdeal.main_arg3))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)) →
    ∃ (v0 : (c : Dev Cert.DxIdeal.nD) → Buf (Elt Ideal) ((c.tc : Thread Cert.DxIdeal.nD Cert.DxIdeal.τ).loc Cert.DxIdeal.main_v1_0)) (v1 : (c : Dev Cert.DxIdeal.nD) → Buf (Elt Ideal) ((c.tc : Thread Cert.DxIdeal.nD Cert.DxIdeal.τ).loc Cert.DxIdeal.main_v1_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v1_0) = v0 c
          ∧ r.2.mem ((c.tc : Thread Cert.DxIdeal.nD Cert.DxIdeal.τ).loc Cert.DxIdeal.main_v1_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v48) = v0 c
          ∧ r.2.mem ((c.tc : Thread Cert.DxRefIdeal.nD Cert.DxRefIdeal.τ).loc Cert.DxRefIdeal.main_v49) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6))

def preserves_Fxa_FxaIdeal : Prop :=
  True

def algebraic_FxaIdeal_FxaRefIdeal [hFxaIdeal : Cert.FxaIdeal.Facts] [hFxaRefIdeal : Cert.FxaRefIdeal.Facts] : Prop :=
  ∀ (m : (ℓ : Loc Cert.FxaIdeal.nD Cert.FxaIdeal.τ Cert.FxaIdeal.sig) → Buf (Elt Ideal) ℓ) (g : Dev Cert.FxaIdeal.nD → PrngReg)
    (m' : (ℓ : Loc Cert.FxaRefIdeal.nD Cert.FxaRefIdeal.τ Cert.FxaRefIdeal.sig) → Buf (Elt Ideal) ℓ) (g' : Dev Cert.FxaRefIdeal.nD → PrngReg), Pre_FxaIdeal m →
    (∀ c : Dev Cert.FxaIdeal.nD,
      m' ((c.tc : Thread Cert.FxaRefIdeal.nD Cert.FxaRefIdeal.τ).loc Cert.FxaRefIdeal.main_arg0) = m ((c.tc : Thread Cert.FxaIdeal.nD Cert.FxaIdeal.τ).loc Cert.FxaIdeal.main_arg0)
      ∧ m' ((c.tc : Thread Cert.FxaRefIdeal.nD Cert.FxaRefIdeal.τ).loc Cert.FxaRefIdeal.main_arg1) = m ((c.tc : Thread Cert.FxaIdeal.nD Cert.FxaIdeal.τ).loc Cert.FxaIdeal.main_arg1)
      ∧ m' ((c.tc : Thread Cert.FxaRefIdeal.nD Cert.FxaRefIdeal.τ).loc Cert.FxaRefIdeal.main_arg2) = m ((c.tc : Thread Cert.FxaIdeal.nD Cert.FxaIdeal.τ).loc Cert.FxaIdeal.main_arg2)
      ∧ m' ((c.tc : Thread Cert.FxaRefIdeal.nD Cert.FxaRefIdeal.τ).loc Cert.FxaRefIdeal.main_arg3) = m ((c.tc : Thread Cert.FxaIdeal.nD Cert.FxaIdeal.τ).loc Cert.FxaIdeal.main_arg3)
      ∧ m' ((c.tc : Thread Cert.FxaRefIdeal.nD Cert.FxaRefIdeal.τ).loc Cert.FxaRefIdeal.main_arg4) = m ((c.tc : Thread Cert.FxaIdeal.nD Cert.FxaIdeal.τ).loc Cert.FxaIdeal.main_arg4)
      ∧ m' ((c.tc : Thread Cert.FxaRefIdeal.nD Cert.FxaRefIdeal.τ).loc Cert.FxaRefIdeal.main_arg5) = m ((c.tc : Thread Cert.FxaIdeal.nD Cert.FxaIdeal.τ).loc Cert.FxaIdeal.main_arg5)
      ∧ m' ((c.tc : Thread Cert.FxaRefIdeal.nD Cert.FxaRefIdeal.τ).loc Cert.FxaRefIdeal.main_arg6) = m ((c.tc : Thread Cert.FxaIdeal.nD Cert.FxaIdeal.τ).loc Cert.FxaIdeal.main_arg6)) →
    ∃ (v0 : (c : Dev Cert.FxaIdeal.nD) → Buf (Elt Ideal) ((c.tc : Thread Cert.FxaIdeal.nD Cert.FxaIdeal.τ).loc Cert.FxaIdeal.main_v1_0)) (v1 : (c : Dev Cert.FxaIdeal.nD) → Buf (Elt Ideal) ((c.tc : Thread Cert.FxaIdeal.nD Cert.FxaIdeal.τ).loc Cert.FxaIdeal.main_v1_1)),
      θ_run (Cert.FxaIdeal.defs (F := Ideal)) (onTc (τ := Cert.FxaIdeal.τ) (Cert.FxaIdeal.main (F := Ideal))) ⟨m, fun _ => 0, g⟩ (fun r => ∀ c : Dev Cert.FxaIdeal.nD,
          r.2.mem ((c.tc : Thread Cert.FxaIdeal.nD Cert.FxaIdeal.τ).loc Cert.FxaIdeal.main_v1_0) = v0 c
          ∧ r.2.mem ((c.tc : Thread Cert.FxaIdeal.nD Cert.FxaIdeal.τ).loc Cert.FxaIdeal.main_v1_1) = v1 c
          ∧ r.2.mem ((c.tc : Thread Cert.FxaIdeal.nD Cert.FxaIdeal.τ).loc Cert.FxaIdeal.main_arg0) = m ((c.tc : Thread Cert.FxaIdeal.nD Cert.FxaIdeal.τ).loc Cert.FxaIdeal.main_arg0)
          ∧ r.2.mem ((c.tc : Thread Cert.FxaIdeal.nD Cert.FxaIdeal.τ).loc Cert.FxaIdeal.main_arg1) = m ((c.tc : Thread Cert.FxaIdeal.nD Cert.FxaIdeal.τ).loc Cert.FxaIdeal.main_arg1)
          ∧ r.2.mem ((c.tc : Thread Cert.FxaIdeal.nD Cert.FxaIdeal.τ).loc Cert.FxaIdeal.main_arg2) = m ((c.tc : Thread Cert.FxaIdeal.nD Cert.FxaIdeal.τ).loc Cert.FxaIdeal.main_arg2)
          ∧ r.2.mem ((c.tc : Thread Cert.FxaIdeal.nD Cert.FxaIdeal.τ).loc Cert.FxaIdeal.main_arg3) = m ((c.tc : Thread Cert.FxaIdeal.nD Cert.FxaIdeal.τ).loc Cert.FxaIdeal.main_arg3)
          ∧ r.2.mem ((c.tc : Thread Cert.FxaIdeal.nD Cert.FxaIdeal.τ).loc Cert.FxaIdeal.main_arg4) = m ((c.tc : Thread Cert.FxaIdeal.nD Cert.FxaIdeal.τ).loc Cert.FxaIdeal.main_arg4)
          ∧ r.2.mem ((c.tc : Thread Cert.FxaIdeal.nD Cert.FxaIdeal.τ).loc Cert.FxaIdeal.main_arg5) = m ((c.tc : Thread Cert.FxaIdeal.nD Cert.FxaIdeal.τ).loc Cert.FxaIdeal.main_arg5)
          ∧ r.2.mem ((c.tc : Thread Cert.FxaIdeal.nD Cert.FxaIdeal.τ).loc Cert.FxaIdeal.main_arg6) = m ((c.tc : Thread Cert.FxaIdeal.nD Cert.FxaIdeal.τ).loc Cert.FxaIdeal.main_arg6))
      ∧ θ_run (Cert.FxaRefIdeal.defs (F := Ideal)) (onTc (τ := Cert.FxaRefIdeal.τ) (Cert.FxaRefIdeal.main (F := Ideal))) ⟨m', fun _ => 0, g'⟩ (fun r => ∀ c : Dev Cert.FxaRefIdeal.nD,
          r.2.mem ((c.tc : Thread Cert.FxaRefIdeal.nD Cert.FxaRefIdeal.τ).loc Cert.FxaRefIdeal.main_v52) = v0 c
          ∧ r.2.mem ((c.tc : Thread Cert.FxaRefIdeal.nD Cert.FxaRefIdeal.τ).loc Cert.FxaRefIdeal.main_v53) = v1 c
          ∧ r.2.mem ((c.tc : Thread Cert.FxaRefIdeal.nD Cert.FxaRefIdeal.τ).loc Cert.FxaRefIdeal.main_arg0) = m' ((c.tc : Thread Cert.FxaRefIdeal.nD Cert.FxaRefIdeal.τ).loc Cert.FxaRefIdeal.main_arg0)
          ∧ r.2.mem ((c.tc : Thread Cert.FxaRefIdeal.nD Cert.FxaRefIdeal.τ).loc Cert.FxaRefIdeal.main_arg1) = m' ((c.tc : Thread Cert.FxaRefIdeal.nD Cert.FxaRefIdeal.τ).loc Cert.FxaRefIdeal.main_arg1)
          ∧ r.2.mem ((c.tc : Thread Cert.FxaRefIdeal.nD Cert.FxaRefIdeal.τ).loc Cert.FxaRefIdeal.main_arg2) = m' ((c.tc : Thread Cert.FxaRefIdeal.nD Cert.FxaRefIdeal.τ).loc Cert.FxaRefIdeal.main_arg2)
          ∧ r.2.mem ((c.tc : Thread Cert.FxaRefIdeal.nD Cert.FxaRefIdeal.τ).loc Cert.FxaRefIdeal.main_arg3) = m' ((c.tc : Thread Cert.FxaRefIdeal.nD Cert.FxaRefIdeal.τ).loc Cert.FxaRefIdeal.main_arg3)
          ∧ r.2.mem ((c.tc : Thread Cert.FxaRefIdeal.nD Cert.FxaRefIdeal.τ).loc Cert.FxaRefIdeal.main_arg4) = m' ((c.tc : Thread Cert.FxaRefIdeal.nD Cert.FxaRefIdeal.τ).loc Cert.FxaRefIdeal.main_arg4)
          ∧ r.2.mem ((c.tc : Thread Cert.FxaRefIdeal.nD Cert.FxaRefIdeal.τ).loc Cert.FxaRefIdeal.main_arg5) = m' ((c.tc : Thread Cert.FxaRefIdeal.nD Cert.FxaRefIdeal.τ).loc Cert.FxaRefIdeal.main_arg5)
          ∧ r.2.mem ((c.tc : Thread Cert.FxaRefIdeal.nD Cert.FxaRefIdeal.τ).loc Cert.FxaRefIdeal.main_arg6) = m' ((c.tc : Thread Cert.FxaRefIdeal.nD Cert.FxaRefIdeal.τ).loc Cert.FxaRefIdeal.main_arg6))

def preserves_Fxb_FxbIdeal : Prop :=
  True

def algebraic_FxbIdeal_FxbRefIdeal [hFxbIdeal : Cert.FxbIdeal.Facts] [hFxbRefIdeal : Cert.FxbRefIdeal.Facts] : Prop :=
  ∀ (m : (ℓ : Loc Cert.FxbIdeal.nD Cert.FxbIdeal.τ Cert.FxbIdeal.sig) → Buf (Elt Ideal) ℓ) (g : Dev Cert.FxbIdeal.nD → PrngReg)
    (m' : (ℓ : Loc Cert.FxbRefIdeal.nD Cert.FxbRefIdeal.τ Cert.FxbRefIdeal.sig) → Buf (Elt Ideal) ℓ) (g' : Dev Cert.FxbRefIdeal.nD → PrngReg), Pre_FxbIdeal m →
    (∀ c : Dev Cert.FxbIdeal.nD,
      m' ((c.tc : Thread Cert.FxbRefIdeal.nD Cert.FxbRefIdeal.τ).loc Cert.FxbRefIdeal.main_arg0) = m ((c.tc : Thread Cert.FxbIdeal.nD Cert.FxbIdeal.τ).loc Cert.FxbIdeal.main_arg0)
      ∧ m' ((c.tc : Thread Cert.FxbRefIdeal.nD Cert.FxbRefIdeal.τ).loc Cert.FxbRefIdeal.main_arg1) = m ((c.tc : Thread Cert.FxbIdeal.nD Cert.FxbIdeal.τ).loc Cert.FxbIdeal.main_arg1)
      ∧ m' ((c.tc : Thread Cert.FxbRefIdeal.nD Cert.FxbRefIdeal.τ).loc Cert.FxbRefIdeal.main_arg2) = m ((c.tc : Thread Cert.FxbIdeal.nD Cert.FxbIdeal.τ).loc Cert.FxbIdeal.main_arg2)
      ∧ m' ((c.tc : Thread Cert.FxbRefIdeal.nD Cert.FxbRefIdeal.τ).loc Cert.FxbRefIdeal.main_arg3) = m ((c.tc : Thread Cert.FxbIdeal.nD Cert.FxbIdeal.τ).loc Cert.FxbIdeal.main_arg3)
      ∧ m' ((c.tc : Thread Cert.FxbRefIdeal.nD Cert.FxbRefIdeal.τ).loc Cert.FxbRefIdeal.main_arg4) = m ((c.tc : Thread Cert.FxbIdeal.nD Cert.FxbIdeal.τ).loc Cert.FxbIdeal.main_arg4)
      ∧ m' ((c.tc : Thread Cert.FxbRefIdeal.nD Cert.FxbRefIdeal.τ).loc Cert.FxbRefIdeal.main_arg5) = m ((c.tc : Thread Cert.FxbIdeal.nD Cert.FxbIdeal.τ).loc Cert.FxbIdeal.main_arg5)
      ∧ m' ((c.tc : Thread Cert.FxbRefIdeal.nD Cert.FxbRefIdeal.τ).loc Cert.FxbRefIdeal.main_arg6) = m ((c.tc : Thread Cert.FxbIdeal.nD Cert.FxbIdeal.τ).loc Cert.FxbIdeal.main_arg6)
      ∧ m' ((c.tc : Thread Cert.FxbRefIdeal.nD Cert.FxbRefIdeal.τ).loc Cert.FxbRefIdeal.main_arg7) = m ((c.tc : Thread Cert.FxbIdeal.nD Cert.FxbIdeal.τ).loc Cert.FxbIdeal.main_arg7)) →
    ∃ (v0 : (c : Dev Cert.FxbIdeal.nD) → Buf (Elt Ideal) ((c.tc : Thread Cert.FxbIdeal.nD Cert.FxbIdeal.τ).loc Cert.FxbIdeal.main_v0_0)) (v1 : (c : Dev Cert.FxbIdeal.nD) → Buf (Elt Ideal) ((c.tc : Thread Cert.FxbIdeal.nD Cert.FxbIdeal.τ).loc Cert.FxbIdeal.main_v0_1)),
      θ_run (Cert.FxbIdeal.defs (F := Ideal)) (onTc (τ := Cert.FxbIdeal.τ) (Cert.FxbIdeal.main (F := Ideal))) ⟨m, fun _ => 0, g⟩ (fun r => ∀ c : Dev Cert.FxbIdeal.nD,
          r.2.mem ((c.tc : Thread Cert.FxbIdeal.nD Cert.FxbIdeal.τ).loc Cert.FxbIdeal.main_v0_0) = v0 c
          ∧ r.2.mem ((c.tc : Thread Cert.FxbIdeal.nD Cert.FxbIdeal.τ).loc Cert.FxbIdeal.main_v0_1) = v1 c
          ∧ r.2.mem ((c.tc : Thread Cert.FxbIdeal.nD Cert.FxbIdeal.τ).loc Cert.FxbIdeal.main_arg0) = m ((c.tc : Thread Cert.FxbIdeal.nD Cert.FxbIdeal.τ).loc Cert.FxbIdeal.main_arg0)
          ∧ r.2.mem ((c.tc : Thread Cert.FxbIdeal.nD Cert.FxbIdeal.τ).loc Cert.FxbIdeal.main_arg1) = m ((c.tc : Thread Cert.FxbIdeal.nD Cert.FxbIdeal.τ).loc Cert.FxbIdeal.main_arg1)
          ∧ r.2.mem ((c.tc : Thread Cert.FxbIdeal.nD Cert.FxbIdeal.τ).loc Cert.FxbIdeal.main_arg2) = m ((c.tc : Thread Cert.FxbIdeal.nD Cert.FxbIdeal.τ).loc Cert.FxbIdeal.main_arg2)
          ∧ r.2.mem ((c.tc : Thread Cert.FxbIdeal.nD Cert.FxbIdeal.τ).loc Cert.FxbIdeal.main_arg3) = m ((c.tc : Thread Cert.FxbIdeal.nD Cert.FxbIdeal.τ).loc Cert.FxbIdeal.main_arg3)
          ∧ r.2.mem ((c.tc : Thread Cert.FxbIdeal.nD Cert.FxbIdeal.τ).loc Cert.FxbIdeal.main_arg4) = m ((c.tc : Thread Cert.FxbIdeal.nD Cert.FxbIdeal.τ).loc Cert.FxbIdeal.main_arg4)
          ∧ r.2.mem ((c.tc : Thread Cert.FxbIdeal.nD Cert.FxbIdeal.τ).loc Cert.FxbIdeal.main_arg5) = m ((c.tc : Thread Cert.FxbIdeal.nD Cert.FxbIdeal.τ).loc Cert.FxbIdeal.main_arg5)
          ∧ r.2.mem ((c.tc : Thread Cert.FxbIdeal.nD Cert.FxbIdeal.τ).loc Cert.FxbIdeal.main_arg6) = m ((c.tc : Thread Cert.FxbIdeal.nD Cert.FxbIdeal.τ).loc Cert.FxbIdeal.main_arg6)
          ∧ r.2.mem ((c.tc : Thread Cert.FxbIdeal.nD Cert.FxbIdeal.τ).loc Cert.FxbIdeal.main_arg7) = m ((c.tc : Thread Cert.FxbIdeal.nD Cert.FxbIdeal.τ).loc Cert.FxbIdeal.main_arg7))
      ∧ θ_run (Cert.FxbRefIdeal.defs (F := Ideal)) (onTc (τ := Cert.FxbRefIdeal.τ) (Cert.FxbRefIdeal.main (F := Ideal))) ⟨m', fun _ => 0, g'⟩ (fun r => ∀ c : Dev Cert.FxbRefIdeal.nD,
          r.2.mem ((c.tc : Thread Cert.FxbRefIdeal.nD Cert.FxbRefIdeal.τ).loc Cert.FxbRefIdeal.main_v52) = v0 c
          ∧ r.2.mem ((c.tc : Thread Cert.FxbRefIdeal.nD Cert.FxbRefIdeal.τ).loc Cert.FxbRefIdeal.main_v54) = v1 c
          ∧ r.2.mem ((c.tc : Thread Cert.FxbRefIdeal.nD Cert.FxbRefIdeal.τ).loc Cert.FxbRefIdeal.main_arg0) = m' ((c.tc : Thread Cert.FxbRefIdeal.nD Cert.FxbRefIdeal.τ).loc Cert.FxbRefIdeal.main_arg0)
          ∧ r.2.mem ((c.tc : Thread Cert.FxbRefIdeal.nD Cert.FxbRefIdeal.τ).loc Cert.FxbRefIdeal.main_arg1) = m' ((c.tc : Thread Cert.FxbRefIdeal.nD Cert.FxbRefIdeal.τ).loc Cert.FxbRefIdeal.main_arg1)
          ∧ r.2.mem ((c.tc : Thread Cert.FxbRefIdeal.nD Cert.FxbRefIdeal.τ).loc Cert.FxbRefIdeal.main_arg2) = m' ((c.tc : Thread Cert.FxbRefIdeal.nD Cert.FxbRefIdeal.τ).loc Cert.FxbRefIdeal.main_arg2)
          ∧ r.2.mem ((c.tc : Thread Cert.FxbRefIdeal.nD Cert.FxbRefIdeal.τ).loc Cert.FxbRefIdeal.main_arg3) = m' ((c.tc : Thread Cert.FxbRefIdeal.nD Cert.FxbRefIdeal.τ).loc Cert.FxbRefIdeal.main_arg3)
          ∧ r.2.mem ((c.tc : Thread Cert.FxbRefIdeal.nD Cert.FxbRefIdeal.τ).loc Cert.FxbRefIdeal.main_arg4) = m' ((c.tc : Thread Cert.FxbRefIdeal.nD Cert.FxbRefIdeal.τ).loc Cert.FxbRefIdeal.main_arg4)
          ∧ r.2.mem ((c.tc : Thread Cert.FxbRefIdeal.nD Cert.FxbRefIdeal.τ).loc Cert.FxbRefIdeal.main_arg5) = m' ((c.tc : Thread Cert.FxbRefIdeal.nD Cert.FxbRefIdeal.τ).loc Cert.FxbRefIdeal.main_arg5)
          ∧ r.2.mem ((c.tc : Thread Cert.FxbRefIdeal.nD Cert.FxbRefIdeal.τ).loc Cert.FxbRefIdeal.main_arg6) = m' ((c.tc : Thread Cert.FxbRefIdeal.nD Cert.FxbRefIdeal.τ).loc Cert.FxbRefIdeal.main_arg6)
          ∧ r.2.mem ((c.tc : Thread Cert.FxbRefIdeal.nD Cert.FxbRefIdeal.τ).loc Cert.FxbRefIdeal.main_arg7) = m' ((c.tc : Thread Cert.FxbRefIdeal.nD Cert.FxbRefIdeal.τ).loc Cert.FxbRefIdeal.main_arg7))

def preserves_Mdx_MdxIdeal : Prop :=
  True

def algebraic_MdxIdeal_MdxRefIdeal [hMdxIdeal : Cert.MdxIdeal.Facts] [hMdxRefIdeal : Cert.MdxRefIdeal.Facts] : Prop :=
  ∀ (m : (ℓ : Loc Cert.MdxIdeal.nD Cert.MdxIdeal.τ Cert.MdxIdeal.sig) → Buf (Elt Ideal) ℓ) (g : Dev Cert.MdxIdeal.nD → PrngReg)
    (m' : (ℓ : Loc Cert.MdxRefIdeal.nD Cert.MdxRefIdeal.τ Cert.MdxRefIdeal.sig) → Buf (Elt Ideal) ℓ) (g' : Dev Cert.MdxRefIdeal.nD → PrngReg), Pre_MdxIdeal m →
    (∀ c : Dev Cert.MdxIdeal.nD,
      m' ((c.tc : Thread Cert.MdxRefIdeal.nD Cert.MdxRefIdeal.τ).loc Cert.MdxRefIdeal.main_arg0) = m ((c.tc : Thread Cert.MdxIdeal.nD Cert.MdxIdeal.τ).loc Cert.MdxIdeal.main_arg0)
      ∧ m' ((c.tc : Thread Cert.MdxRefIdeal.nD Cert.MdxRefIdeal.τ).loc Cert.MdxRefIdeal.main_arg1) = m ((c.tc : Thread Cert.MdxIdeal.nD Cert.MdxIdeal.τ).loc Cert.MdxIdeal.main_arg1)
      ∧ m' ((c.tc : Thread Cert.MdxRefIdeal.nD Cert.MdxRefIdeal.τ).loc Cert.MdxRefIdeal.main_arg2) = m ((c.tc : Thread Cert.MdxIdeal.nD Cert.MdxIdeal.τ).loc Cert.MdxIdeal.main_arg2)
      ∧ m' ((c.tc : Thread Cert.MdxRefIdeal.nD Cert.MdxRefIdeal.τ).loc Cert.MdxRefIdeal.main_arg3) = m ((c.tc : Thread Cert.MdxIdeal.nD Cert.MdxIdeal.τ).loc Cert.MdxIdeal.main_arg3)
      ∧ m' ((c.tc : Thread Cert.MdxRefIdeal.nD Cert.MdxRefIdeal.τ).loc Cert.MdxRefIdeal.main_arg4) = m ((c.tc : Thread Cert.MdxIdeal.nD Cert.MdxIdeal.τ).loc Cert.MdxIdeal.main_arg4)
      ∧ m' ((c.tc : Thread Cert.MdxRefIdeal.nD Cert.MdxRefIdeal.τ).loc Cert.MdxRefIdeal.main_arg5) = m ((c.tc : Thread Cert.MdxIdeal.nD Cert.MdxIdeal.τ).loc Cert.MdxIdeal.main_arg5)
      ∧ m' ((c.tc : Thread Cert.MdxRefIdeal.nD Cert.MdxRefIdeal.τ).loc Cert.MdxRefIdeal.main_arg6) = m ((c.tc : Thread Cert.MdxIdeal.nD Cert.MdxIdeal.τ).loc Cert.MdxIdeal.main_arg6)) →
    ∃ (v0 : (c : Dev Cert.MdxIdeal.nD) → Buf (Elt Ideal) ((c.tc : Thread Cert.MdxIdeal.nD Cert.MdxIdeal.τ).loc Cert.MdxIdeal.main_v1_0)) (v1 : (c : Dev Cert.MdxIdeal.nD) → Buf (Elt Ideal) ((c.tc : Thread Cert.MdxIdeal.nD Cert.MdxIdeal.τ).loc Cert.MdxIdeal.main_v1_1)) (v2 : (c : Dev Cert.MdxIdeal.nD) → Buf (Elt Ideal) ((c.tc : Thread Cert.MdxIdeal.nD Cert.MdxIdeal.τ).loc Cert.MdxIdeal.main_v1_2)) (v3 : (c : Dev Cert.MdxIdeal.nD) → Buf (Elt Ideal) ((c.tc : Thread Cert.MdxIdeal.nD Cert.MdxIdeal.τ).loc Cert.MdxIdeal.main_v1_3)),
      θ_run (Cert.MdxIdeal.defs (F := Ideal)) (onTc (τ := Cert.MdxIdeal.τ) (Cert.MdxIdeal.main (F := Ideal))) ⟨m, fun _ => 0, g⟩ (fun r => ∀ c : Dev Cert.MdxIdeal.nD,
          r.2.mem ((c.tc : Thread Cert.MdxIdeal.nD Cert.MdxIdeal.τ).loc Cert.MdxIdeal.main_v1_0) = v0 c
          ∧ r.2.mem ((c.tc : Thread Cert.MdxIdeal.nD Cert.MdxIdeal.τ).loc Cert.MdxIdeal.main_v1_1) = v1 c
          ∧ r.2.mem ((c.tc : Thread Cert.MdxIdeal.nD Cert.MdxIdeal.τ).loc Cert.MdxIdeal.main_v1_2) = v2 c
          ∧ r.2.mem ((c.tc : Thread Cert.MdxIdeal.nD Cert.MdxIdeal.τ).loc Cert.MdxIdeal.main_v1_3) = v3 c
          ∧ r.2.mem ((c.tc : Thread Cert.MdxIdeal.nD Cert.MdxIdeal.τ).loc Cert.MdxIdeal.main_arg0) = m ((c.tc : Thread Cert.MdxIdeal.nD Cert.MdxIdeal.τ).loc Cert.MdxIdeal.main_arg0)
          ∧ r.2.mem ((c.tc : Thread Cert.MdxIdeal.nD Cert.MdxIdeal.τ).loc Cert.MdxIdeal.main_arg1) = m ((c.tc : Thread Cert.MdxIdeal.nD Cert.MdxIdeal.τ).loc Cert.MdxIdeal.main_arg1)
          ∧ r.2.mem ((c.tc : Thread Cert.MdxIdeal.nD Cert.MdxIdeal.τ).loc Cert.MdxIdeal.main_arg2) = m ((c.tc : Thread Cert.MdxIdeal.nD Cert.MdxIdeal.τ).loc Cert.MdxIdeal.main_arg2)
          ∧ r.2.mem ((c.tc : Thread Cert.MdxIdeal.nD Cert.MdxIdeal.τ).loc Cert.MdxIdeal.main_arg3) = m ((c.tc : Thread Cert.MdxIdeal.nD Cert.MdxIdeal.τ).loc Cert.MdxIdeal.main_arg3)
          ∧ r.2.mem ((c.tc : Thread Cert.MdxIdeal.nD Cert.MdxIdeal.τ).loc Cert.MdxIdeal.main_arg4) = m ((c.tc : Thread Cert.MdxIdeal.nD Cert.MdxIdeal.τ).loc Cert.MdxIdeal.main_arg4)
          ∧ r.2.mem ((c.tc : Thread Cert.MdxIdeal.nD Cert.MdxIdeal.τ).loc Cert.MdxIdeal.main_arg5) = m ((c.tc : Thread Cert.MdxIdeal.nD Cert.MdxIdeal.τ).loc Cert.MdxIdeal.main_arg5)
          ∧ r.2.mem ((c.tc : Thread Cert.MdxIdeal.nD Cert.MdxIdeal.τ).loc Cert.MdxIdeal.main_arg6) = m ((c.tc : Thread Cert.MdxIdeal.nD Cert.MdxIdeal.τ).loc Cert.MdxIdeal.main_arg6))
      ∧ θ_run (Cert.MdxRefIdeal.defs (F := Ideal)) (onTc (τ := Cert.MdxRefIdeal.τ) (Cert.MdxRefIdeal.main (F := Ideal))) ⟨m', fun _ => 0, g'⟩ (fun r => ∀ c : Dev Cert.MdxRefIdeal.nD,
          r.2.mem ((c.tc : Thread Cert.MdxRefIdeal.nD Cert.MdxRefIdeal.τ).loc Cert.MdxRefIdeal.main_v42) = v0 c
          ∧ r.2.mem ((c.tc : Thread Cert.MdxRefIdeal.nD Cert.MdxRefIdeal.τ).loc Cert.MdxRefIdeal.main_v43) = v1 c
          ∧ r.2.mem ((c.tc : Thread Cert.MdxRefIdeal.nD Cert.MdxRefIdeal.τ).loc Cert.MdxRefIdeal.main_v86) = v2 c
          ∧ r.2.mem ((c.tc : Thread Cert.MdxRefIdeal.nD Cert.MdxRefIdeal.τ).loc Cert.MdxRefIdeal.main_v85) = v3 c
          ∧ r.2.mem ((c.tc : Thread Cert.MdxRefIdeal.nD Cert.MdxRefIdeal.τ).loc Cert.MdxRefIdeal.main_arg0) = m' ((c.tc : Thread Cert.MdxRefIdeal.nD Cert.MdxRefIdeal.τ).loc Cert.MdxRefIdeal.main_arg0)
          ∧ r.2.mem ((c.tc : Thread Cert.MdxRefIdeal.nD Cert.MdxRefIdeal.τ).loc Cert.MdxRefIdeal.main_arg1) = m' ((c.tc : Thread Cert.MdxRefIdeal.nD Cert.MdxRefIdeal.τ).loc Cert.MdxRefIdeal.main_arg1)
          ∧ r.2.mem ((c.tc : Thread Cert.MdxRefIdeal.nD Cert.MdxRefIdeal.τ).loc Cert.MdxRefIdeal.main_arg2) = m' ((c.tc : Thread Cert.MdxRefIdeal.nD Cert.MdxRefIdeal.τ).loc Cert.MdxRefIdeal.main_arg2)
          ∧ r.2.mem ((c.tc : Thread Cert.MdxRefIdeal.nD Cert.MdxRefIdeal.τ).loc Cert.MdxRefIdeal.main_arg3) = m' ((c.tc : Thread Cert.MdxRefIdeal.nD Cert.MdxRefIdeal.τ).loc Cert.MdxRefIdeal.main_arg3)
          ∧ r.2.mem ((c.tc : Thread Cert.MdxRefIdeal.nD Cert.MdxRefIdeal.τ).loc Cert.MdxRefIdeal.main_arg4) = m' ((c.tc : Thread Cert.MdxRefIdeal.nD Cert.MdxRefIdeal.τ).loc Cert.MdxRefIdeal.main_arg4)
          ∧ r.2.mem ((c.tc : Thread Cert.MdxRefIdeal.nD Cert.MdxRefIdeal.τ).loc Cert.MdxRefIdeal.main_arg5) = m' ((c.tc : Thread Cert.MdxRefIdeal.nD Cert.MdxRefIdeal.τ).loc Cert.MdxRefIdeal.main_arg5)
          ∧ r.2.mem ((c.tc : Thread Cert.MdxRefIdeal.nD Cert.MdxRefIdeal.τ).loc Cert.MdxRefIdeal.main_arg6) = m' ((c.tc : Thread Cert.MdxRefIdeal.nD Cert.MdxRefIdeal.τ).loc Cert.MdxRefIdeal.main_arg6))

def preserves_Fdn_FdnIdeal : Prop :=
  True

def algebraic_FdnIdeal_FdnRefIdeal [hFdnIdeal : Cert.FdnIdeal.Facts] [hFdnRefIdeal : Cert.FdnRefIdeal.Facts] : Prop :=
  ∀ (m : (ℓ : Loc Cert.FdnIdeal.nD Cert.FdnIdeal.τ Cert.FdnIdeal.sig) → Buf (Elt Ideal) ℓ) (g : Dev Cert.FdnIdeal.nD → PrngReg)
    (m' : (ℓ : Loc Cert.FdnRefIdeal.nD Cert.FdnRefIdeal.τ Cert.FdnRefIdeal.sig) → Buf (Elt Ideal) ℓ) (g' : Dev Cert.FdnRefIdeal.nD → PrngReg), Pre_FdnIdeal m →
    (∀ c : Dev Cert.FdnIdeal.nD,
      m' ((c.tc : Thread Cert.FdnRefIdeal.nD Cert.FdnRefIdeal.τ).loc Cert.FdnRefIdeal.main_arg0) = m ((c.tc : Thread Cert.FdnIdeal.nD Cert.FdnIdeal.τ).loc Cert.FdnIdeal.main_arg0)
      ∧ m' ((c.tc : Thread Cert.FdnRefIdeal.nD Cert.FdnRefIdeal.τ).loc Cert.FdnRefIdeal.main_arg1) = m ((c.tc : Thread Cert.FdnIdeal.nD Cert.FdnIdeal.τ).loc Cert.FdnIdeal.main_arg1)
      ∧ m' ((c.tc : Thread Cert.FdnRefIdeal.nD Cert.FdnRefIdeal.τ).loc Cert.FdnRefIdeal.main_arg2) = m ((c.tc : Thread Cert.FdnIdeal.nD Cert.FdnIdeal.τ).loc Cert.FdnIdeal.main_arg2)
      ∧ m' ((c.tc : Thread Cert.FdnRefIdeal.nD Cert.FdnRefIdeal.τ).loc Cert.FdnRefIdeal.main_arg3) = m ((c.tc : Thread Cert.FdnIdeal.nD Cert.FdnIdeal.τ).loc Cert.FdnIdeal.main_arg3)
      ∧ m' ((c.tc : Thread Cert.FdnRefIdeal.nD Cert.FdnRefIdeal.τ).loc Cert.FdnRefIdeal.main_arg4) = m ((c.tc : Thread Cert.FdnIdeal.nD Cert.FdnIdeal.τ).loc Cert.FdnIdeal.main_arg4)) →
    ∃ (v0 : (c : Dev Cert.FdnIdeal.nD) → Buf (Elt Ideal) ((c.tc : Thread Cert.FdnIdeal.nD Cert.FdnIdeal.τ).loc Cert.FdnIdeal.main_v0_0)) (v1 : (c : Dev Cert.FdnIdeal.nD) → Buf (Elt Ideal) ((c.tc : Thread Cert.FdnIdeal.nD Cert.FdnIdeal.τ).loc Cert.FdnIdeal.main_v0_1)) (v2 : (c : Dev Cert.FdnIdeal.nD) → Buf (Elt Ideal) ((c.tc : Thread Cert.FdnIdeal.nD Cert.FdnIdeal.τ).loc Cert.FdnIdeal.main_v0_2)),
      θ_run (Cert.FdnIdeal.defs (F := Ideal)) (onTc (τ := Cert.FdnIdeal.τ) (Cert.FdnIdeal.main (F := Ideal))) ⟨m, fun _ => 0, g⟩ (fun r => ∀ c : Dev Cert.FdnIdeal.nD,
          r.2.mem ((c.tc : Thread Cert.FdnIdeal.nD Cert.FdnIdeal.τ).loc Cert.FdnIdeal.main_v0_0) = v0 c
          ∧ r.2.mem ((c.tc : Thread Cert.FdnIdeal.nD Cert.FdnIdeal.τ).loc Cert.FdnIdeal.main_v0_1) = v1 c
          ∧ r.2.mem ((c.tc : Thread Cert.FdnIdeal.nD Cert.FdnIdeal.τ).loc Cert.FdnIdeal.main_v0_2) = v2 c
          ∧ r.2.mem ((c.tc : Thread Cert.FdnIdeal.nD Cert.FdnIdeal.τ).loc Cert.FdnIdeal.main_arg0) = m ((c.tc : Thread Cert.FdnIdeal.nD Cert.FdnIdeal.τ).loc Cert.FdnIdeal.main_arg0)
          ∧ r.2.mem ((c.tc : Thread Cert.FdnIdeal.nD Cert.FdnIdeal.τ).loc Cert.FdnIdeal.main_arg1) = m ((c.tc : Thread Cert.FdnIdeal.nD Cert.FdnIdeal.τ).loc Cert.FdnIdeal.main_arg1)
          ∧ r.2.mem ((c.tc : Thread Cert.FdnIdeal.nD Cert.FdnIdeal.τ).loc Cert.FdnIdeal.main_arg2) = m ((c.tc : Thread Cert.FdnIdeal.nD Cert.FdnIdeal.τ).loc Cert.FdnIdeal.main_arg2)
          ∧ r.2.mem ((c.tc : Thread Cert.FdnIdeal.nD Cert.FdnIdeal.τ).loc Cert.FdnIdeal.main_arg3) = m ((c.tc : Thread Cert.FdnIdeal.nD Cert.FdnIdeal.τ).loc Cert.FdnIdeal.main_arg3)
          ∧ r.2.mem ((c.tc : Thread Cert.FdnIdeal.nD Cert.FdnIdeal.τ).loc Cert.FdnIdeal.main_arg4) = m ((c.tc : Thread Cert.FdnIdeal.nD Cert.FdnIdeal.τ).loc Cert.FdnIdeal.main_arg4))
      ∧ θ_run (Cert.FdnRefIdeal.defs (F := Ideal)) (onTc (τ := Cert.FdnRefIdeal.τ) (Cert.FdnRefIdeal.main (F := Ideal))) ⟨m', fun _ => 0, g'⟩ (fun r => ∀ c : Dev Cert.FdnRefIdeal.nD,
          r.2.mem ((c.tc : Thread Cert.FdnRefIdeal.nD Cert.FdnRefIdeal.τ).loc Cert.FdnRefIdeal.main_v2) = v0 c
          ∧ r.2.mem ((c.tc : Thread Cert.FdnRefIdeal.nD Cert.FdnRefIdeal.τ).loc Cert.FdnRefIdeal.main_v19) = v1 c
          ∧ r.2.mem ((c.tc : Thread Cert.FdnRefIdeal.nD Cert.FdnRefIdeal.τ).loc Cert.FdnRefIdeal.main_v34) = v2 c
          ∧ r.2.mem ((c.tc : Thread Cert.FdnRefIdeal.nD Cert.FdnRefIdeal.τ).loc Cert.FdnRefIdeal.main_arg0) = m' ((c.tc : Thread Cert.FdnRefIdeal.nD Cert.FdnRefIdeal.τ).loc Cert.FdnRefIdeal.main_arg0)
          ∧ r.2.mem ((c.tc : Thread Cert.FdnRefIdeal.nD Cert.FdnRefIdeal.τ).loc Cert.FdnRefIdeal.main_arg1) = m' ((c.tc : Thread Cert.FdnRefIdeal.nD Cert.FdnRefIdeal.τ).loc Cert.FdnRefIdeal.main_arg1)
          ∧ r.2.mem ((c.tc : Thread Cert.FdnRefIdeal.nD Cert.FdnRefIdeal.τ).loc Cert.FdnRefIdeal.main_arg2) = m' ((c.tc : Thread Cert.FdnRefIdeal.nD Cert.FdnRefIdeal.τ).loc Cert.FdnRefIdeal.main_arg2)
          ∧ r.2.mem ((c.tc : Thread Cert.FdnRefIdeal.nD Cert.FdnRefIdeal.τ).loc Cert.FdnRefIdeal.main_arg3) = m' ((c.tc : Thread Cert.FdnRefIdeal.nD Cert.FdnRefIdeal.τ).loc Cert.FdnRefIdeal.main_arg3)
          ∧ r.2.mem ((c.tc : Thread Cert.FdnRefIdeal.nD Cert.FdnRefIdeal.τ).loc Cert.FdnRefIdeal.main_arg4) = m' ((c.tc : Thread Cert.FdnRefIdeal.nD Cert.FdnRefIdeal.τ).loc Cert.FdnRefIdeal.main_arg4))

def preserves_Mop_MopIdeal : Prop :=
  True

def algebraic_MopIdeal_MopRefIdeal [hMopIdeal : Cert.MopIdeal.Facts] [hMopRefIdeal : Cert.MopRefIdeal.Facts] : Prop :=
  ∀ (m : (ℓ : Loc Cert.MopIdeal.nD Cert.MopIdeal.τ Cert.MopIdeal.sig) → Buf (Elt Ideal) ℓ) (g : Dev Cert.MopIdeal.nD → PrngReg)
    (m' : (ℓ : Loc Cert.MopRefIdeal.nD Cert.MopRefIdeal.τ Cert.MopRefIdeal.sig) → Buf (Elt Ideal) ℓ) (g' : Dev Cert.MopRefIdeal.nD → PrngReg), Pre_MopIdeal m →
    (∀ c : Dev Cert.MopIdeal.nD,
      m' ((c.tc : Thread Cert.MopRefIdeal.nD Cert.MopRefIdeal.τ).loc Cert.MopRefIdeal.main_arg0) = m ((c.tc : Thread Cert.MopIdeal.nD Cert.MopIdeal.τ).loc Cert.MopIdeal.main_arg0)
      ∧ m' ((c.tc : Thread Cert.MopRefIdeal.nD Cert.MopRefIdeal.τ).loc Cert.MopRefIdeal.main_arg1) = m ((c.tc : Thread Cert.MopIdeal.nD Cert.MopIdeal.τ).loc Cert.MopIdeal.main_arg1)
      ∧ m' ((c.tc : Thread Cert.MopRefIdeal.nD Cert.MopRefIdeal.τ).loc Cert.MopRefIdeal.main_arg2) = m ((c.tc : Thread Cert.MopIdeal.nD Cert.MopIdeal.τ).loc Cert.MopIdeal.main_arg2)
      ∧ m' ((c.tc : Thread Cert.MopRefIdeal.nD Cert.MopRefIdeal.τ).loc Cert.MopRefIdeal.main_arg3) = m ((c.tc : Thread Cert.MopIdeal.nD Cert.MopIdeal.τ).loc Cert.MopIdeal.main_arg3)
      ∧ m' ((c.tc : Thread Cert.MopRefIdeal.nD Cert.MopRefIdeal.τ).loc Cert.MopRefIdeal.main_arg4) = m ((c.tc : Thread Cert.MopIdeal.nD Cert.MopIdeal.τ).loc Cert.MopIdeal.main_arg4)) →
    ∃ (v0 : (c : Dev Cert.MopIdeal.nD) → Buf (Elt Ideal) ((c.tc : Thread Cert.MopIdeal.nD Cert.MopIdeal.τ).loc Cert.MopIdeal.main_v0_0)) (v1 : (c : Dev Cert.MopIdeal.nD) → Buf (Elt Ideal) ((c.tc : Thread Cert.MopIdeal.nD Cert.MopIdeal.τ).loc Cert.MopIdeal.main_v0_1)) (v2 : (c : Dev Cert.MopIdeal.nD) → Buf (Elt Ideal) ((c.tc : Thread Cert.MopIdeal.nD Cert.MopIdeal.τ).loc Cert.MopIdeal.main_v0_2)),
      θ_run (Cert.MopIdeal.defs (F := Ideal)) (onTc (τ := Cert.MopIdeal.τ) (Cert.MopIdeal.main (F := Ideal))) ⟨m, fun _ => 0, g⟩ (fun r => ∀ c : Dev Cert.MopIdeal.nD,
          r.2.mem ((c.tc : Thread Cert.MopIdeal.nD Cert.MopIdeal.τ).loc Cert.MopIdeal.main_v0_0) = v0 c
          ∧ r.2.mem ((c.tc : Thread Cert.MopIdeal.nD Cert.MopIdeal.τ).loc Cert.MopIdeal.main_v0_1) = v1 c
          ∧ r.2.mem ((c.tc : Thread Cert.MopIdeal.nD Cert.MopIdeal.τ).loc Cert.MopIdeal.main_v0_2) = v2 c
          ∧ r.2.mem ((c.tc : Thread Cert.MopIdeal.nD Cert.MopIdeal.τ).loc Cert.MopIdeal.main_arg0) = m ((c.tc : Thread Cert.MopIdeal.nD Cert.MopIdeal.τ).loc Cert.MopIdeal.main_arg0)
          ∧ r.2.mem ((c.tc : Thread Cert.MopIdeal.nD Cert.MopIdeal.τ).loc Cert.MopIdeal.main_arg1) = m ((c.tc : Thread Cert.MopIdeal.nD Cert.MopIdeal.τ).loc Cert.MopIdeal.main_arg1)
          ∧ r.2.mem ((c.tc : Thread Cert.MopIdeal.nD Cert.MopIdeal.τ).loc Cert.MopIdeal.main_arg2) = m ((c.tc : Thread Cert.MopIdeal.nD Cert.MopIdeal.τ).loc Cert.MopIdeal.main_arg2)
          ∧ r.2.mem ((c.tc : Thread Cert.MopIdeal.nD Cert.MopIdeal.τ).loc Cert.MopIdeal.main_arg3) = m ((c.tc : Thread Cert.MopIdeal.nD Cert.MopIdeal.τ).loc Cert.MopIdeal.main_arg3)
          ∧ r.2.mem ((c.tc : Thread Cert.MopIdeal.nD Cert.MopIdeal.τ).loc Cert.MopIdeal.main_arg4) = m ((c.tc : Thread Cert.MopIdeal.nD Cert.MopIdeal.τ).loc Cert.MopIdeal.main_arg4))
      ∧ θ_run (Cert.MopRefIdeal.defs (F := Ideal)) (onTc (τ := Cert.MopRefIdeal.τ) (Cert.MopRefIdeal.main (F := Ideal))) ⟨m', fun _ => 0, g'⟩ (fun r => ∀ c : Dev Cert.MopRefIdeal.nD,
          r.2.mem ((c.tc : Thread Cert.MopRefIdeal.nD Cert.MopRefIdeal.τ).loc Cert.MopRefIdeal.main_v2) = v0 c
          ∧ r.2.mem ((c.tc : Thread Cert.MopRefIdeal.nD Cert.MopRefIdeal.τ).loc Cert.MopRefIdeal.main_v17) = v1 c
          ∧ r.2.mem ((c.tc : Thread Cert.MopRefIdeal.nD Cert.MopRefIdeal.τ).loc Cert.MopRefIdeal.main_v32) = v2 c
          ∧ r.2.mem ((c.tc : Thread Cert.MopRefIdeal.nD Cert.MopRefIdeal.τ).loc Cert.MopRefIdeal.main_arg0) = m' ((c.tc : Thread Cert.MopRefIdeal.nD Cert.MopRefIdeal.τ).loc Cert.MopRefIdeal.main_arg0)
          ∧ r.2.mem ((c.tc : Thread Cert.MopRefIdeal.nD Cert.MopRefIdeal.τ).loc Cert.MopRefIdeal.main_arg1) = m' ((c.tc : Thread Cert.MopRefIdeal.nD Cert.MopRefIdeal.τ).loc Cert.MopRefIdeal.main_arg1)
          ∧ r.2.mem ((c.tc : Thread Cert.MopRefIdeal.nD Cert.MopRefIdeal.τ).loc Cert.MopRefIdeal.main_arg2) = m' ((c.tc : Thread Cert.MopRefIdeal.nD Cert.MopRefIdeal.τ).loc Cert.MopRefIdeal.main_arg2)
          ∧ r.2.mem ((c.tc : Thread Cert.MopRefIdeal.nD Cert.MopRefIdeal.τ).loc Cert.MopRefIdeal.main_arg3) = m' ((c.tc : Thread Cert.MopRefIdeal.nD Cert.MopRefIdeal.τ).loc Cert.MopRefIdeal.main_arg3)
          ∧ r.2.mem ((c.tc : Thread Cert.MopRefIdeal.nD Cert.MopRefIdeal.τ).loc Cert.MopRefIdeal.main_arg4) = m' ((c.tc : Thread Cert.MopRefIdeal.nD Cert.MopRefIdeal.τ).loc Cert.MopRefIdeal.main_arg4))

def preserves_Los_LosIdeal : Prop :=
  True

def algebraic_LosIdeal_LosRefIdeal [hLosIdeal : Cert.LosIdeal.Facts] [hLosRefIdeal : Cert.LosRefIdeal.Facts] : Prop :=
  ∀ (m : (ℓ : Loc Cert.LosIdeal.nD Cert.LosIdeal.τ Cert.LosIdeal.sig) → Buf (Elt Ideal) ℓ) (g : Dev Cert.LosIdeal.nD → PrngReg)
    (m' : (ℓ : Loc Cert.LosRefIdeal.nD Cert.LosRefIdeal.τ Cert.LosRefIdeal.sig) → Buf (Elt Ideal) ℓ) (g' : Dev Cert.LosRefIdeal.nD → PrngReg), Pre_LosIdeal m →
    (∀ c : Dev Cert.LosIdeal.nD,
      m' ((c.tc : Thread Cert.LosRefIdeal.nD Cert.LosRefIdeal.τ).loc Cert.LosRefIdeal.main_arg0) = m ((c.tc : Thread Cert.LosIdeal.nD Cert.LosIdeal.τ).loc Cert.LosIdeal.main_arg0)
      ∧ m' ((c.tc : Thread Cert.LosRefIdeal.nD Cert.LosRefIdeal.τ).loc Cert.LosRefIdeal.main_arg1) = m ((c.tc : Thread Cert.LosIdeal.nD Cert.LosIdeal.τ).loc Cert.LosIdeal.main_arg1)
      ∧ m' ((c.tc : Thread Cert.LosRefIdeal.nD Cert.LosRefIdeal.τ).loc Cert.LosRefIdeal.main_arg2) = m ((c.tc : Thread Cert.LosIdeal.nD Cert.LosIdeal.τ).loc Cert.LosIdeal.main_arg2)
      ∧ m' ((c.tc : Thread Cert.LosRefIdeal.nD Cert.LosRefIdeal.τ).loc Cert.LosRefIdeal.main_arg3) = m ((c.tc : Thread Cert.LosIdeal.nD Cert.LosIdeal.τ).loc Cert.LosIdeal.main_arg3)
      ∧ m' ((c.tc : Thread Cert.LosRefIdeal.nD Cert.LosRefIdeal.τ).loc Cert.LosRefIdeal.main_arg4) = m ((c.tc : Thread Cert.LosIdeal.nD Cert.LosIdeal.τ).loc Cert.LosIdeal.main_arg4)) →
    ∃ (v0 : (c : Dev Cert.LosIdeal.nD) → Buf (Elt Ideal) ((c.tc : Thread Cert.LosIdeal.nD Cert.LosIdeal.τ).loc Cert.LosIdeal.main_v0_0)) (v1 : (c : Dev Cert.LosIdeal.nD) → Buf (Elt Ideal) ((c.tc : Thread Cert.LosIdeal.nD Cert.LosIdeal.τ).loc Cert.LosIdeal.main_v0_1)) (v2 : (c : Dev Cert.LosIdeal.nD) → Buf (Elt Ideal) ((c.tc : Thread Cert.LosIdeal.nD Cert.LosIdeal.τ).loc Cert.LosIdeal.main_v0_2)) (v3 : (c : Dev Cert.LosIdeal.nD) → Buf (Elt Ideal) ((c.tc : Thread Cert.LosIdeal.nD Cert.LosIdeal.τ).loc Cert.LosIdeal.main_v0_3)),
      θ_run (Cert.LosIdeal.defs (F := Ideal)) (onTc (τ := Cert.LosIdeal.τ) (Cert.LosIdeal.main (F := Ideal))) ⟨m, fun _ => 0, g⟩ (fun r => ∀ c : Dev Cert.LosIdeal.nD,
          r.2.mem ((c.tc : Thread Cert.LosIdeal.nD Cert.LosIdeal.τ).loc Cert.LosIdeal.main_v0_0) = v0 c
          ∧ r.2.mem ((c.tc : Thread Cert.LosIdeal.nD Cert.LosIdeal.τ).loc Cert.LosIdeal.main_v0_1) = v1 c
          ∧ r.2.mem ((c.tc : Thread Cert.LosIdeal.nD Cert.LosIdeal.τ).loc Cert.LosIdeal.main_v0_2) = v2 c
          ∧ r.2.mem ((c.tc : Thread Cert.LosIdeal.nD Cert.LosIdeal.τ).loc Cert.LosIdeal.main_v0_3) = v3 c
          ∧ r.2.mem ((c.tc : Thread Cert.LosIdeal.nD Cert.LosIdeal.τ).loc Cert.LosIdeal.main_arg0) = m ((c.tc : Thread Cert.LosIdeal.nD Cert.LosIdeal.τ).loc Cert.LosIdeal.main_arg0)
          ∧ r.2.mem ((c.tc : Thread Cert.LosIdeal.nD Cert.LosIdeal.τ).loc Cert.LosIdeal.main_arg1) = m ((c.tc : Thread Cert.LosIdeal.nD Cert.LosIdeal.τ).loc Cert.LosIdeal.main_arg1)
          ∧ r.2.mem ((c.tc : Thread Cert.LosIdeal.nD Cert.LosIdeal.τ).loc Cert.LosIdeal.main_arg2) = m ((c.tc : Thread Cert.LosIdeal.nD Cert.LosIdeal.τ).loc Cert.LosIdeal.main_arg2)
          ∧ r.2.mem ((c.tc : Thread Cert.LosIdeal.nD Cert.LosIdeal.τ).loc Cert.LosIdeal.main_arg3) = m ((c.tc : Thread Cert.LosIdeal.nD Cert.LosIdeal.τ).loc Cert.LosIdeal.main_arg3)
          ∧ r.2.mem ((c.tc : Thread Cert.LosIdeal.nD Cert.LosIdeal.τ).loc Cert.LosIdeal.main_arg4) = m ((c.tc : Thread Cert.LosIdeal.nD Cert.LosIdeal.τ).loc Cert.LosIdeal.main_arg4))
      ∧ θ_run (Cert.LosRefIdeal.defs (F := Ideal)) (onTc (τ := Cert.LosRefIdeal.τ) (Cert.LosRefIdeal.main (F := Ideal))) ⟨m', fun _ => 0, g'⟩ (fun r => ∀ c : Dev Cert.LosRefIdeal.nD,
          r.2.mem ((c.tc : Thread Cert.LosRefIdeal.nD Cert.LosRefIdeal.τ).loc Cert.LosRefIdeal.main_v40) = v0 c
          ∧ r.2.mem ((c.tc : Thread Cert.LosRefIdeal.nD Cert.LosRefIdeal.τ).loc Cert.LosRefIdeal.main_v64) = v1 c
          ∧ r.2.mem ((c.tc : Thread Cert.LosRefIdeal.nD Cert.LosRefIdeal.τ).loc Cert.LosRefIdeal.main_v63) = v2 c
          ∧ r.2.mem ((c.tc : Thread Cert.LosRefIdeal.nD Cert.LosRefIdeal.τ).loc Cert.LosRefIdeal.main_v65) = v3 c
          ∧ r.2.mem ((c.tc : Thread Cert.LosRefIdeal.nD Cert.LosRefIdeal.τ).loc Cert.LosRefIdeal.main_arg0) = m' ((c.tc : Thread Cert.LosRefIdeal.nD Cert.LosRefIdeal.τ).loc Cert.LosRefIdeal.main_arg0)
          ∧ r.2.mem ((c.tc : Thread Cert.LosRefIdeal.nD Cert.LosRefIdeal.τ).loc Cert.LosRefIdeal.main_arg1) = m' ((c.tc : Thread Cert.LosRefIdeal.nD Cert.LosRefIdeal.τ).loc Cert.LosRefIdeal.main_arg1)
          ∧ r.2.mem ((c.tc : Thread Cert.LosRefIdeal.nD Cert.LosRefIdeal.τ).loc Cert.LosRefIdeal.main_arg2) = m' ((c.tc : Thread Cert.LosRefIdeal.nD Cert.LosRefIdeal.τ).loc Cert.LosRefIdeal.main_arg2)
          ∧ r.2.mem ((c.tc : Thread Cert.LosRefIdeal.nD Cert.LosRefIdeal.τ).loc Cert.LosRefIdeal.main_arg3) = m' ((c.tc : Thread Cert.LosRefIdeal.nD Cert.LosRefIdeal.τ).loc Cert.LosRefIdeal.main_arg3)
          ∧ r.2.mem ((c.tc : Thread Cert.LosRefIdeal.nD Cert.LosRefIdeal.τ).loc Cert.LosRefIdeal.main_arg4) = m' ((c.tc : Thread Cert.LosRefIdeal.nD Cert.LosRefIdeal.τ).loc Cert.LosRefIdeal.main_arg4))

def preserves_Awi_AwiIdeal : Prop :=
  True

def algebraic_AwiIdeal_AwiRefIdeal [hAwiIdeal : Cert.AwiIdeal.Facts] [hAwiRefIdeal : Cert.AwiRefIdeal.Facts] : Prop :=
  ∀ (m : (ℓ : Loc Cert.AwiIdeal.nD Cert.AwiIdeal.τ Cert.AwiIdeal.sig) → Buf (Elt Ideal) ℓ) (g : Dev Cert.AwiIdeal.nD → PrngReg)
    (m' : (ℓ : Loc Cert.AwiRefIdeal.nD Cert.AwiRefIdeal.τ Cert.AwiRefIdeal.sig) → Buf (Elt Ideal) ℓ) (g' : Dev Cert.AwiRefIdeal.nD → PrngReg), Pre_AwiIdeal m →
    (∀ c : Dev Cert.AwiIdeal.nD,
      m' ((c.tc : Thread Cert.AwiRefIdeal.nD Cert.AwiRefIdeal.τ).loc Cert.AwiRefIdeal.main_arg0) = m ((c.tc : Thread Cert.AwiIdeal.nD Cert.AwiIdeal.τ).loc Cert.AwiIdeal.main_arg0)
      ∧ m' ((c.tc : Thread Cert.AwiRefIdeal.nD Cert.AwiRefIdeal.τ).loc Cert.AwiRefIdeal.main_arg1) = m ((c.tc : Thread Cert.AwiIdeal.nD Cert.AwiIdeal.τ).loc Cert.AwiIdeal.main_arg1)
      ∧ m' ((c.tc : Thread Cert.AwiRefIdeal.nD Cert.AwiRefIdeal.τ).loc Cert.AwiRefIdeal.main_arg2) = m ((c.tc : Thread Cert.AwiIdeal.nD Cert.AwiIdeal.τ).loc Cert.AwiIdeal.main_arg2)
      ∧ m' ((c.tc : Thread Cert.AwiRefIdeal.nD Cert.AwiRefIdeal.τ).loc Cert.AwiRefIdeal.main_arg3) = m ((c.tc : Thread Cert.AwiIdeal.nD Cert.AwiIdeal.τ).loc Cert.AwiIdeal.main_arg3)) →
    ∃ (v0 : (c : Dev Cert.AwiIdeal.nD) → Buf (Elt Ideal) ((c.tc : Thread Cert.AwiIdeal.nD Cert.AwiIdeal.τ).loc Cert.AwiIdeal.main_v0_0)) (v1 : (c : Dev Cert.AwiIdeal.nD) → Buf (Elt Ideal) ((c.tc : Thread Cert.AwiIdeal.nD Cert.AwiIdeal.τ).loc Cert.AwiIdeal.main_v0_1)) (v2 : (c : Dev Cert.AwiIdeal.nD) → Buf (Elt Ideal) ((c.tc : Thread Cert.AwiIdeal.nD Cert.AwiIdeal.τ).loc Cert.AwiIdeal.main_v0_2)),
      θ_run (Cert.AwiIdeal.defs (F := Ideal)) (onTc (τ := Cert.AwiIdeal.τ) (Cert.AwiIdeal.main (F := Ideal))) ⟨m, fun _ => 0, g⟩ (fun r => ∀ c : Dev Cert.AwiIdeal.nD,
          r.2.mem ((c.tc : Thread Cert.AwiIdeal.nD Cert.AwiIdeal.τ).loc Cert.AwiIdeal.main_v0_0) = v0 c
          ∧ r.2.mem ((c.tc : Thread Cert.AwiIdeal.nD Cert.AwiIdeal.τ).loc Cert.AwiIdeal.main_v0_1) = v1 c
          ∧ r.2.mem ((c.tc : Thread Cert.AwiIdeal.nD Cert.AwiIdeal.τ).loc Cert.AwiIdeal.main_v0_2) = v2 c
          ∧ r.2.mem ((c.tc : Thread Cert.AwiIdeal.nD Cert.AwiIdeal.τ).loc Cert.AwiIdeal.main_arg0) = m ((c.tc : Thread Cert.AwiIdeal.nD Cert.AwiIdeal.τ).loc Cert.AwiIdeal.main_arg0)
          ∧ r.2.mem ((c.tc : Thread Cert.AwiIdeal.nD Cert.AwiIdeal.τ).loc Cert.AwiIdeal.main_arg1) = m ((c.tc : Thread Cert.AwiIdeal.nD Cert.AwiIdeal.τ).loc Cert.AwiIdeal.main_arg1)
          ∧ r.2.mem ((c.tc : Thread Cert.AwiIdeal.nD Cert.AwiIdeal.τ).loc Cert.AwiIdeal.main_arg2) = m ((c.tc : Thread Cert.AwiIdeal.nD Cert.AwiIdeal.τ).loc Cert.AwiIdeal.main_arg2)
          ∧ r.2.mem ((c.tc : Thread Cert.AwiIdeal.nD Cert.AwiIdeal.τ).loc Cert.AwiIdeal.main_arg3) = m ((c.tc : Thread Cert.AwiIdeal.nD Cert.AwiIdeal.τ).loc Cert.AwiIdeal.main_arg3))
      ∧ θ_run (Cert.AwiRefIdeal.defs (F := Ideal)) (onTc (τ := Cert.AwiRefIdeal.τ) (Cert.AwiRefIdeal.main (F := Ideal))) ⟨m', fun _ => 0, g'⟩ (fun r => ∀ c : Dev Cert.AwiRefIdeal.nD,
          r.2.mem ((c.tc : Thread Cert.AwiRefIdeal.nD Cert.AwiRefIdeal.τ).loc Cert.AwiRefIdeal.main_v23) = v0 c
          ∧ r.2.mem ((c.tc : Thread Cert.AwiRefIdeal.nD Cert.AwiRefIdeal.τ).loc Cert.AwiRefIdeal.main_v4) = v1 c
          ∧ r.2.mem ((c.tc : Thread Cert.AwiRefIdeal.nD Cert.AwiRefIdeal.τ).loc Cert.AwiRefIdeal.main_v10) = v2 c
          ∧ r.2.mem ((c.tc : Thread Cert.AwiRefIdeal.nD Cert.AwiRefIdeal.τ).loc Cert.AwiRefIdeal.main_arg0) = m' ((c.tc : Thread Cert.AwiRefIdeal.nD Cert.AwiRefIdeal.τ).loc Cert.AwiRefIdeal.main_arg0)
          ∧ r.2.mem ((c.tc : Thread Cert.AwiRefIdeal.nD Cert.AwiRefIdeal.τ).loc Cert.AwiRefIdeal.main_arg1) = m' ((c.tc : Thread Cert.AwiRefIdeal.nD Cert.AwiRefIdeal.τ).loc Cert.AwiRefIdeal.main_arg1)
          ∧ r.2.mem ((c.tc : Thread Cert.AwiRefIdeal.nD Cert.AwiRefIdeal.τ).loc Cert.AwiRefIdeal.main_arg2) = m' ((c.tc : Thread Cert.AwiRefIdeal.nD Cert.AwiRefIdeal.τ).loc Cert.AwiRefIdeal.main_arg2)
          ∧ r.2.mem ((c.tc : Thread Cert.AwiRefIdeal.nD Cert.AwiRefIdeal.τ).loc Cert.AwiRefIdeal.main_arg3) = m' ((c.tc : Thread Cert.AwiRefIdeal.nD Cert.AwiRefIdeal.τ).loc Cert.AwiRefIdeal.main_arg3))

def preserves_Asm_AsmIdeal : Prop :=
  True

def algebraic_AsmIdeal_AsmRefIdeal [hAsmIdeal : Cert.AsmIdeal.Facts] [hAsmRefIdeal : Cert.AsmRefIdeal.Facts] : Prop :=
  ∀ (m : (ℓ : Loc Cert.AsmIdeal.nD Cert.AsmIdeal.τ Cert.AsmIdeal.sig) → Buf (Elt Ideal) ℓ) (g : Dev Cert.AsmIdeal.nD → PrngReg)
    (m' : (ℓ : Loc Cert.AsmRefIdeal.nD Cert.AsmRefIdeal.τ Cert.AsmRefIdeal.sig) → Buf (Elt Ideal) ℓ) (g' : Dev Cert.AsmRefIdeal.nD → PrngReg), Pre_AsmIdeal m →
    (∀ c : Dev Cert.AsmIdeal.nD,
      m' ((c.tc : Thread Cert.AsmRefIdeal.nD Cert.AsmRefIdeal.τ).loc Cert.AsmRefIdeal.main_arg0) = m ((c.tc : Thread Cert.AsmIdeal.nD Cert.AsmIdeal.τ).loc Cert.AsmIdeal.main_arg0)
      ∧ m' ((c.tc : Thread Cert.AsmRefIdeal.nD Cert.AsmRefIdeal.τ).loc Cert.AsmRefIdeal.main_arg1) = m ((c.tc : Thread Cert.AsmIdeal.nD Cert.AsmIdeal.τ).loc Cert.AsmIdeal.main_arg1)
      ∧ m' ((c.tc : Thread Cert.AsmRefIdeal.nD Cert.AsmRefIdeal.τ).loc Cert.AsmRefIdeal.main_arg2) = m ((c.tc : Thread Cert.AsmIdeal.nD Cert.AsmIdeal.τ).loc Cert.AsmIdeal.main_arg2)
      ∧ m' ((c.tc : Thread Cert.AsmRefIdeal.nD Cert.AsmRefIdeal.τ).loc Cert.AsmRefIdeal.main_arg3) = m ((c.tc : Thread Cert.AsmIdeal.nD Cert.AsmIdeal.τ).loc Cert.AsmIdeal.main_arg3)) →
    ∃ (v0 : (c : Dev Cert.AsmIdeal.nD) → Buf (Elt Ideal) ((c.tc : Thread Cert.AsmIdeal.nD Cert.AsmIdeal.τ).loc Cert.AsmIdeal.main_v0_0)) (v1 : (c : Dev Cert.AsmIdeal.nD) → Buf (Elt Ideal) ((c.tc : Thread Cert.AsmIdeal.nD Cert.AsmIdeal.τ).loc Cert.AsmIdeal.main_v0_1)) (v2 : (c : Dev Cert.AsmIdeal.nD) → Buf (Elt Ideal) ((c.tc : Thread Cert.AsmIdeal.nD Cert.AsmIdeal.τ).loc Cert.AsmIdeal.main_v0_2)),
      θ_run (Cert.AsmIdeal.defs (F := Ideal)) (onTc (τ := Cert.AsmIdeal.τ) (Cert.AsmIdeal.main (F := Ideal))) ⟨m, fun _ => 0, g⟩ (fun r => ∀ c : Dev Cert.AsmIdeal.nD,
          r.2.mem ((c.tc : Thread Cert.AsmIdeal.nD Cert.AsmIdeal.τ).loc Cert.AsmIdeal.main_v0_0) = v0 c
          ∧ r.2.mem ((c.tc : Thread Cert.AsmIdeal.nD Cert.AsmIdeal.τ).loc Cert.AsmIdeal.main_v0_1) = v1 c
          ∧ r.2.mem ((c.tc : Thread Cert.AsmIdeal.nD Cert.AsmIdeal.τ).loc Cert.AsmIdeal.main_v0_2) = v2 c
          ∧ r.2.mem ((c.tc : Thread Cert.AsmIdeal.nD Cert.AsmIdeal.τ).loc Cert.AsmIdeal.main_arg0) = m ((c.tc : Thread Cert.AsmIdeal.nD Cert.AsmIdeal.τ).loc Cert.AsmIdeal.main_arg0)
          ∧ r.2.mem ((c.tc : Thread Cert.AsmIdeal.nD Cert.AsmIdeal.τ).loc Cert.AsmIdeal.main_arg1) = m ((c.tc : Thread Cert.AsmIdeal.nD Cert.AsmIdeal.τ).loc Cert.AsmIdeal.main_arg1)
          ∧ r.2.mem ((c.tc : Thread Cert.AsmIdeal.nD Cert.AsmIdeal.τ).loc Cert.AsmIdeal.main_arg2) = m ((c.tc : Thread Cert.AsmIdeal.nD Cert.AsmIdeal.τ).loc Cert.AsmIdeal.main_arg2)
          ∧ r.2.mem ((c.tc : Thread Cert.AsmIdeal.nD Cert.AsmIdeal.τ).loc Cert.AsmIdeal.main_arg3) = m ((c.tc : Thread Cert.AsmIdeal.nD Cert.AsmIdeal.τ).loc Cert.AsmIdeal.main_arg3))
      ∧ θ_run (Cert.AsmRefIdeal.defs (F := Ideal)) (onTc (τ := Cert.AsmRefIdeal.τ) (Cert.AsmRefIdeal.main (F := Ideal))) ⟨m', fun _ => 0, g'⟩ (fun r => ∀ c : Dev Cert.AsmRefIdeal.nD,
          r.2.mem ((c.tc : Thread Cert.AsmRefIdeal.nD Cert.AsmRefIdeal.τ).loc Cert.AsmRefIdeal.main_v23) = v0 c
          ∧ r.2.mem ((c.tc : Thread Cert.AsmRefIdeal.nD Cert.AsmRefIdeal.τ).loc Cert.AsmRefIdeal.main_v4) = v1 c
          ∧ r.2.mem ((c.tc : Thread Cert.AsmRefIdeal.nD Cert.AsmRefIdeal.τ).loc Cert.AsmRefIdeal.main_v10) = v2 c
          ∧ r.2.mem ((c.tc : Thread Cert.AsmRefIdeal.nD Cert.AsmRefIdeal.τ).loc Cert.AsmRefIdeal.main_arg0) = m' ((c.tc : Thread Cert.AsmRefIdeal.nD Cert.AsmRefIdeal.τ).loc Cert.AsmRefIdeal.main_arg0)
          ∧ r.2.mem ((c.tc : Thread Cert.AsmRefIdeal.nD Cert.AsmRefIdeal.τ).loc Cert.AsmRefIdeal.main_arg1) = m' ((c.tc : Thread Cert.AsmRefIdeal.nD Cert.AsmRefIdeal.τ).loc Cert.AsmRefIdeal.main_arg1)
          ∧ r.2.mem ((c.tc : Thread Cert.AsmRefIdeal.nD Cert.AsmRefIdeal.τ).loc Cert.AsmRefIdeal.main_arg2) = m' ((c.tc : Thread Cert.AsmRefIdeal.nD Cert.AsmRefIdeal.τ).loc Cert.AsmRefIdeal.main_arg2)
          ∧ r.2.mem ((c.tc : Thread Cert.AsmRefIdeal.nD Cert.AsmRefIdeal.τ).loc Cert.AsmRefIdeal.main_arg3) = m' ((c.tc : Thread Cert.AsmRefIdeal.nD Cert.AsmRefIdeal.τ).loc Cert.AsmRefIdeal.main_arg3))

def preserves_Swi_SwiIdeal : Prop :=
  True

def algebraic_SwiIdeal_SwiRefIdeal [hSwiIdeal : Cert.SwiIdeal.Facts] [hSwiRefIdeal : Cert.SwiRefIdeal.Facts] : Prop :=
  ∀ (m : (ℓ : Loc Cert.SwiIdeal.nD Cert.SwiIdeal.τ Cert.SwiIdeal.sig) → Buf (Elt Ideal) ℓ) (g : Dev Cert.SwiIdeal.nD → PrngReg)
    (m' : (ℓ : Loc Cert.SwiRefIdeal.nD Cert.SwiRefIdeal.τ Cert.SwiRefIdeal.sig) → Buf (Elt Ideal) ℓ) (g' : Dev Cert.SwiRefIdeal.nD → PrngReg), Pre_SwiIdeal m →
    (∀ c : Dev Cert.SwiIdeal.nD,
      m' ((c.tc : Thread Cert.SwiRefIdeal.nD Cert.SwiRefIdeal.τ).loc Cert.SwiRefIdeal.main_arg0) = m ((c.tc : Thread Cert.SwiIdeal.nD Cert.SwiIdeal.τ).loc Cert.SwiIdeal.main_arg0)
      ∧ m' ((c.tc : Thread Cert.SwiRefIdeal.nD Cert.SwiRefIdeal.τ).loc Cert.SwiRefIdeal.main_arg1) = m ((c.tc : Thread Cert.SwiIdeal.nD Cert.SwiIdeal.τ).loc Cert.SwiIdeal.main_arg1)
      ∧ m' ((c.tc : Thread Cert.SwiRefIdeal.nD Cert.SwiRefIdeal.τ).loc Cert.SwiRefIdeal.main_arg2) = m ((c.tc : Thread Cert.SwiIdeal.nD Cert.SwiIdeal.τ).loc Cert.SwiIdeal.main_arg2)) →
    ∃ (v0 : (c : Dev Cert.SwiIdeal.nD) → Buf (Elt Ideal) ((c.tc : Thread Cert.SwiIdeal.nD Cert.SwiIdeal.τ).loc Cert.SwiIdeal.main_v9)),
      θ_run (Cert.SwiIdeal.defs (F := Ideal)) (onTc (τ := Cert.SwiIdeal.τ) (Cert.SwiIdeal.main (F := Ideal))) ⟨m, fun _ => 0, g⟩ (fun r => ∀ c : Dev Cert.SwiIdeal.nD,
          r.2.mem ((c.tc : Thread Cert.SwiIdeal.nD Cert.SwiIdeal.τ).loc Cert.SwiIdeal.main_v9) = v0 c
          ∧ r.2.mem ((c.tc : Thread Cert.SwiIdeal.nD Cert.SwiIdeal.τ).loc Cert.SwiIdeal.main_arg0) = m ((c.tc : Thread Cert.SwiIdeal.nD Cert.SwiIdeal.τ).loc Cert.SwiIdeal.main_arg0)
          ∧ r.2.mem ((c.tc : Thread Cert.SwiIdeal.nD Cert.SwiIdeal.τ).loc Cert.SwiIdeal.main_arg1) = m ((c.tc : Thread Cert.SwiIdeal.nD Cert.SwiIdeal.τ).loc Cert.SwiIdeal.main_arg1)
          ∧ r.2.mem ((c.tc : Thread Cert.SwiIdeal.nD Cert.SwiIdeal.τ).loc Cert.SwiIdeal.main_arg2) = m ((c.tc : Thread Cert.SwiIdeal.nD Cert.SwiIdeal.τ).loc Cert.SwiIdeal.main_arg2))
      ∧ θ_run (Cert.SwiRefIdeal.defs (F := Ideal)) (onTc (τ := Cert.SwiRefIdeal.τ) (Cert.SwiRefIdeal.main (F := Ideal))) ⟨m', fun _ => 0, g'⟩ (fun r => ∀ c : Dev Cert.SwiRefIdeal.nD,
          r.2.mem ((c.tc : Thread Cert.SwiRefIdeal.nD Cert.SwiRefIdeal.τ).loc Cert.SwiRefIdeal.main_v8) = v0 c
          ∧ r.2.mem ((c.tc : Thread Cert.SwiRefIdeal.nD Cert.SwiRefIdeal.τ).loc Cert.SwiRefIdeal.main_arg0) = m' ((c.tc : Thread Cert.SwiRefIdeal.nD Cert.SwiRefIdeal.τ).loc Cert.SwiRefIdeal.main_arg0)
          ∧ r.2.mem ((c.tc : Thread Cert.SwiRefIdeal.nD Cert.SwiRefIdeal.τ).loc Cert.SwiRefIdeal.main_arg1) = m' ((c.tc : Thread Cert.SwiRefIdeal.nD Cert.SwiRefIdeal.τ).loc Cert.SwiRefIdeal.main_arg1)
          ∧ r.2.mem ((c.tc : Thread Cert.SwiRefIdeal.nD Cert.SwiRefIdeal.τ).loc Cert.SwiRefIdeal.main_arg2) = m' ((c.tc : Thread Cert.SwiRefIdeal.nD Cert.SwiRefIdeal.τ).loc Cert.SwiRefIdeal.main_arg2))

def preserves_Upo_UpoIdeal : Prop :=
  True

def algebraic_UpoIdeal_UpoRefIdeal [hUpoIdeal : Cert.UpoIdeal.Facts] [hUpoRefIdeal : Cert.UpoRefIdeal.Facts] : Prop :=
  ∀ (m : (ℓ : Loc Cert.UpoIdeal.nD Cert.UpoIdeal.τ Cert.UpoIdeal.sig) → Buf (Elt Ideal) ℓ) (g : Dev Cert.UpoIdeal.nD → PrngReg)
    (m' : (ℓ : Loc Cert.UpoRefIdeal.nD Cert.UpoRefIdeal.τ Cert.UpoRefIdeal.sig) → Buf (Elt Ideal) ℓ) (g' : Dev Cert.UpoRefIdeal.nD → PrngReg), Pre_UpoIdeal m →
    (∀ c : Dev Cert.UpoIdeal.nD,
      m' ((c.tc : Thread Cert.UpoRefIdeal.nD Cert.UpoRefIdeal.τ).loc Cert.UpoRefIdeal.main_arg0) = m ((c.tc : Thread Cert.UpoIdeal.nD Cert.UpoIdeal.τ).loc Cert.UpoIdeal.main_arg0)
      ∧ m' ((c.tc : Thread Cert.UpoRefIdeal.nD Cert.UpoRefIdeal.τ).loc Cert.UpoRefIdeal.main_arg1) = m ((c.tc : Thread Cert.UpoIdeal.nD Cert.UpoIdeal.τ).loc Cert.UpoIdeal.main_arg1)
      ∧ m' ((c.tc : Thread Cert.UpoRefIdeal.nD Cert.UpoRefIdeal.τ).loc Cert.UpoRefIdeal.main_arg2) = m ((c.tc : Thread Cert.UpoIdeal.nD Cert.UpoIdeal.τ).loc Cert.UpoIdeal.main_arg2)
      ∧ m' ((c.tc : Thread Cert.UpoRefIdeal.nD Cert.UpoRefIdeal.τ).loc Cert.UpoRefIdeal.main_arg3) = m ((c.tc : Thread Cert.UpoIdeal.nD Cert.UpoIdeal.τ).loc Cert.UpoIdeal.main_arg3)
      ∧ m' ((c.tc : Thread Cert.UpoRefIdeal.nD Cert.UpoRefIdeal.τ).loc Cert.UpoRefIdeal.main_arg4) = m ((c.tc : Thread Cert.UpoIdeal.nD Cert.UpoIdeal.τ).loc Cert.UpoIdeal.main_arg4)
      ∧ m' ((c.tc : Thread Cert.UpoRefIdeal.nD Cert.UpoRefIdeal.τ).loc Cert.UpoRefIdeal.main_arg5) = m ((c.tc : Thread Cert.UpoIdeal.nD Cert.UpoIdeal.τ).loc Cert.UpoIdeal.main_arg5)) →
    ∃ (v0 : (c : Dev Cert.UpoIdeal.nD) → Buf (Elt Ideal) ((c.tc : Thread Cert.UpoIdeal.nD Cert.UpoIdeal.τ).loc Cert.UpoIdeal.main_v9_0)) (v1 : (c : Dev Cert.UpoIdeal.nD) → Buf (Elt Ideal) ((c.tc : Thread Cert.UpoIdeal.nD Cert.UpoIdeal.τ).loc Cert.UpoIdeal.main_v9_1)) (v2 : (c : Dev Cert.UpoIdeal.nD) → Buf (Elt Ideal) ((c.tc : Thread Cert.UpoIdeal.nD Cert.UpoIdeal.τ).loc Cert.UpoIdeal.main_v9_2)) (v3 : (c : Dev Cert.UpoIdeal.nD) → Buf (Elt Ideal) ((c.tc : Thread Cert.UpoIdeal.nD Cert.UpoIdeal.τ).loc Cert.UpoIdeal.main_v9_3)),
      θ_run (Cert.UpoIdeal.defs (F := Ideal)) (onTc (τ := Cert.UpoIdeal.τ) (Cert.UpoIdeal.main (F := Ideal))) ⟨m, fun _ => 0, g⟩ (fun r => ∀ c : Dev Cert.UpoIdeal.nD,
          r.2.mem ((c.tc : Thread Cert.UpoIdeal.nD Cert.UpoIdeal.τ).loc Cert.UpoIdeal.main_v9_0) = v0 c
          ∧ r.2.mem ((c.tc : Thread Cert.UpoIdeal.nD Cert.UpoIdeal.τ).loc Cert.UpoIdeal.main_v9_1) = v1 c
          ∧ r.2.mem ((c.tc : Thread Cert.UpoIdeal.nD Cert.UpoIdeal.τ).loc Cert.UpoIdeal.main_v9_2) = v2 c
          ∧ r.2.mem ((c.tc : Thread Cert.UpoIdeal.nD Cert.UpoIdeal.τ).loc Cert.UpoIdeal.main_v9_3) = v3 c
          ∧ r.2.mem ((c.tc : Thread Cert.UpoIdeal.nD Cert.UpoIdeal.τ).loc Cert.UpoIdeal.main_arg0) = m ((c.tc : Thread Cert.UpoIdeal.nD Cert.UpoIdeal.τ).loc Cert.UpoIdeal.main_arg0)
          ∧ r.2.mem ((c.tc : Thread Cert.UpoIdeal.nD Cert.UpoIdeal.τ).loc Cert.UpoIdeal.main_arg1) = m ((c.tc : Thread Cert.UpoIdeal.nD Cert.UpoIdeal.τ).loc Cert.UpoIdeal.main_arg1)
          ∧ r.2.mem ((c.tc : Thread Cert.UpoIdeal.nD Cert.UpoIdeal.τ).loc Cert.UpoIdeal.main_arg2) = m ((c.tc : Thread Cert.UpoIdeal.nD Cert.UpoIdeal.τ).loc Cert.UpoIdeal.main_arg2)
          ∧ r.2.mem ((c.tc : Thread Cert.UpoIdeal.nD Cert.UpoIdeal.τ).loc Cert.UpoIdeal.main_arg3) = m ((c.tc : Thread Cert.UpoIdeal.nD Cert.UpoIdeal.τ).loc Cert.UpoIdeal.main_arg3)
          ∧ r.2.mem ((c.tc : Thread Cert.UpoIdeal.nD Cert.UpoIdeal.τ).loc Cert.UpoIdeal.main_arg4) = m ((c.tc : Thread Cert.UpoIdeal.nD Cert.UpoIdeal.τ).loc Cert.UpoIdeal.main_arg4)
          ∧ r.2.mem ((c.tc : Thread Cert.UpoIdeal.nD Cert.UpoIdeal.τ).loc Cert.UpoIdeal.main_arg5) = m ((c.tc : Thread Cert.UpoIdeal.nD Cert.UpoIdeal.τ).loc Cert.UpoIdeal.main_arg5))
      ∧ θ_run (Cert.UpoRefIdeal.defs (F := Ideal)) (onTc (τ := Cert.UpoRefIdeal.τ) (Cert.UpoRefIdeal.main (F := Ideal))) ⟨m', fun _ => 0, g'⟩ (fun r => ∀ c : Dev Cert.UpoRefIdeal.nD,
          r.2.mem ((c.tc : Thread Cert.UpoRefIdeal.nD Cert.UpoRefIdeal.τ).loc Cert.UpoRefIdeal.main_v8) = v0 c
          ∧ r.2.mem ((c.tc : Thread Cert.UpoRefIdeal.nD Cert.UpoRefIdeal.τ).loc Cert.UpoRefIdeal.main_v32) = v1 c
          ∧ r.2.mem ((c.tc : Thread Cert.UpoRefIdeal.nD Cert.UpoRefIdeal.τ).loc Cert.UpoRefIdeal.main_v13) = v2 c
          ∧ r.2.mem ((c.tc : Thread Cert.UpoRefIdeal.nD Cert.UpoRefIdeal.τ).loc Cert.UpoRefIdeal.main_v19) = v3 c
          ∧ r.2.mem ((c.tc : Thread Cert.UpoRefIdeal.nD Cert.UpoRefIdeal.τ).loc Cert.UpoRefIdeal.main_arg0) = m' ((c.tc : Thread Cert.UpoRefIdeal.nD Cert.UpoRefIdeal.τ).loc Cert.UpoRefIdeal.main_arg0)
          ∧ r.2.mem ((c.tc : Thread Cert.UpoRefIdeal.nD Cert.UpoRefIdeal.τ).loc Cert.UpoRefIdeal.main_arg1) = m' ((c.tc : Thread Cert.UpoRefIdeal.nD Cert.UpoRefIdeal.τ).loc Cert.UpoRefIdeal.main_arg1)
          ∧ r.2.mem ((c.tc : Thread Cert.UpoRefIdeal.nD Cert.UpoRefIdeal.τ).loc Cert.UpoRefIdeal.main_arg2) = m' ((c.tc : Thread Cert.UpoRefIdeal.nD Cert.UpoRefIdeal.τ).loc Cert.UpoRefIdeal.main_arg2)
          ∧ r.2.mem ((c.tc : Thread Cert.UpoRefIdeal.nD Cert.UpoRefIdeal.τ).loc Cert.UpoRefIdeal.main_arg3) = m' ((c.tc : Thread Cert.UpoRefIdeal.nD Cert.UpoRefIdeal.τ).loc Cert.UpoRefIdeal.main_arg3)
          ∧ r.2.mem ((c.tc : Thread Cert.UpoRefIdeal.nD Cert.UpoRefIdeal.τ).loc Cert.UpoRefIdeal.main_arg4) = m' ((c.tc : Thread Cert.UpoRefIdeal.nD Cert.UpoRefIdeal.τ).loc Cert.UpoRefIdeal.main_arg4)
          ∧ r.2.mem ((c.tc : Thread Cert.UpoRefIdeal.nD Cert.UpoRefIdeal.τ).loc Cert.UpoRefIdeal.main_arg5) = m' ((c.tc : Thread Cert.UpoRefIdeal.nD Cert.UpoRefIdeal.τ).loc Cert.UpoRefIdeal.main_arg5))

def preserves_Sst_SstIdeal : Prop :=
  True

def algebraic_SstIdeal_SstRefIdeal [hSstIdeal : Cert.SstIdeal.Facts] [hSstRefIdeal : Cert.SstRefIdeal.Facts] : Prop :=
  ∀ (m : (ℓ : Loc Cert.SstIdeal.nD Cert.SstIdeal.τ Cert.SstIdeal.sig) → Buf (Elt Ideal) ℓ) (g : Dev Cert.SstIdeal.nD → PrngReg)
    (m' : (ℓ : Loc Cert.SstRefIdeal.nD Cert.SstRefIdeal.τ Cert.SstRefIdeal.sig) → Buf (Elt Ideal) ℓ) (g' : Dev Cert.SstRefIdeal.nD → PrngReg), Pre_SstIdeal m →
    (∀ c : Dev Cert.SstIdeal.nD,
      m' ((c.tc : Thread Cert.SstRefIdeal.nD Cert.SstRefIdeal.τ).loc Cert.SstRefIdeal.main_arg0) = m ((c.tc : Thread Cert.SstIdeal.nD Cert.SstIdeal.τ).loc Cert.SstIdeal.main_arg0)) →
    ∃ (v0 : (c : Dev Cert.SstIdeal.nD) → Buf (Elt Ideal) ((c.tc : Thread Cert.SstIdeal.nD Cert.SstIdeal.τ).loc Cert.SstIdeal.main_v0)),
      θ_run (Cert.SstIdeal.defs (F := Ideal)) (onTc (τ := Cert.SstIdeal.τ) (Cert.SstIdeal.main (F := Ideal))) ⟨m, fun _ => 0, g⟩ (fun r => ∀ c : Dev Cert.SstIdeal.nD,
          r.2.mem ((c.tc : Thread Cert.SstIdeal.nD Cert.SstIdeal.τ).loc Cert.SstIdeal.main_v0) = v0 c
          ∧ r.2.mem ((c.tc : Thread Cert.SstIdeal.nD Cert.SstIdeal.τ).loc Cert.SstIdeal.main_arg0) = m ((c.tc : Thread Cert.SstIdeal.nD Cert.SstIdeal.τ).loc Cert.SstIdeal.main_arg0))
      ∧ θ_run (Cert.SstRefIdeal.defs (F := Ideal)) (onTc (τ := Cert.SstRefIdeal.τ) (Cert.SstRefIdeal.main (F := Ideal))) ⟨m', fun _ => 0, g'⟩ (fun r => ∀ c : Dev Cert.SstRefIdeal.nD,
          r.2.mem ((c.tc : Thread Cert.SstRefIdeal.nD Cert.SstRefIdeal.τ).loc Cert.SstRefIdeal.main_v1) = v0 c
          ∧ r.2.mem ((c.tc : Thread Cert.SstRefIdeal.nD Cert.SstRefIdeal.τ).loc Cert.SstRefIdeal.main_arg0) = m' ((c.tc : Thread Cert.SstRefIdeal.nD Cert.SstRefIdeal.τ).loc Cert.SstRefIdeal.main_arg0))

def Claim : Prop :=
  ∃ (hTn : Cert.Tn.Facts) (hTnIdeal : Cert.TnIdeal.Facts) (hTnRefIdeal : Cert.TnRefIdeal.Facts) (hTin : Cert.Tin.Facts) (hTinIdeal : Cert.TinIdeal.Facts) (hTinRefIdeal : Cert.TinRefIdeal.Facts) (hTout : Cert.Tout.Facts) (hToutIdeal : Cert.ToutIdeal.Facts) (hToutRefIdeal : Cert.ToutRefIdeal.Facts) (hHid : Cert.Hid.Facts) (hHidIdeal : Cert.HidIdeal.Facts) (hHidRefIdeal : Cert.HidRefIdeal.Facts) (hGup : Cert.Gup.Facts) (hGupIdeal : Cert.GupIdeal.Facts) (hGupRefIdeal : Cert.GupRefIdeal.Facts) (hNtg : Cert.Ntg.Facts) (hNtgIdeal : Cert.NtgIdeal.Facts) (hNtgRefIdeal : Cert.NtgRefIdeal.Facts) (hNti : Cert.Nti.Facts) (hNtiIdeal : Cert.NtiIdeal.Facts) (hNtiRefIdeal : Cert.NtiRefIdeal.Facts) (hUp : Cert.Up.Facts) (hUpIdeal : Cert.UpIdeal.Facts) (hUpRefIdeal : Cert.UpRefIdeal.Facts) (hObwd : Cert.Obwd.Facts) (hObwdIdeal : Cert.ObwdIdeal.Facts) (hObwdRefIdeal : Cert.ObwdRefIdeal.Facts) (hDx : Cert.Dx.Facts) (hDxIdeal : Cert.DxIdeal.Facts) (hDxRefIdeal : Cert.DxRefIdeal.Facts) (hFxa : Cert.Fxa.Facts) (hFxaIdeal : Cert.FxaIdeal.Facts) (hFxaRefIdeal : Cert.FxaRefIdeal.Facts) (hFxb : Cert.Fxb.Facts) (hFxbIdeal : Cert.FxbIdeal.Facts) (hFxbRefIdeal : Cert.FxbRefIdeal.Facts) (hMdx : Cert.Mdx.Facts) (hMdxIdeal : Cert.MdxIdeal.Facts) (hMdxRefIdeal : Cert.MdxRefIdeal.Facts) (hFdn : Cert.Fdn.Facts) (hFdnIdeal : Cert.FdnIdeal.Facts) (hFdnRefIdeal : Cert.FdnRefIdeal.Facts) (hMop : Cert.Mop.Facts) (hMopIdeal : Cert.MopIdeal.Facts) (hMopRefIdeal : Cert.MopRefIdeal.Facts) (hLos : Cert.Los.Facts) (hLosIdeal : Cert.LosIdeal.Facts) (hLosRefIdeal : Cert.LosRefIdeal.Facts) (hAwi : Cert.Awi.Facts) (hAwiIdeal : Cert.AwiIdeal.Facts) (hAwiRefIdeal : Cert.AwiRefIdeal.Facts) (hAsm : Cert.Asm.Facts) (hAsmIdeal : Cert.AsmIdeal.Facts) (hAsmRefIdeal : Cert.AsmRefIdeal.Facts) (hSwi : Cert.Swi.Facts) (hSwiIdeal : Cert.SwiIdeal.Facts) (hSwiRefIdeal : Cert.SwiRefIdeal.Facts) (hUpo : Cert.Upo.Facts) (hUpoIdeal : Cert.UpoIdeal.Facts) (hUpoRefIdeal : Cert.UpoRefIdeal.Facts) (hSst : Cert.Sst.Facts) (hSstIdeal : Cert.SstIdeal.Facts) (hSstRefIdeal : Cert.SstRefIdeal.Facts) (hPre_hid_finite : Cert.Pre_hid_finite.Facts),
    quiescent_Tn (hTn := hTn)
    ∧ quiescent_TnIdeal (hTnIdeal := hTnIdeal)
    ∧ quiescent_TnRefIdeal (hTnRefIdeal := hTnRefIdeal)
    ∧ quiescent_Tin (hTin := hTin)
    ∧ quiescent_TinIdeal (hTinIdeal := hTinIdeal)
    ∧ quiescent_TinRefIdeal (hTinRefIdeal := hTinRefIdeal)
    ∧ quiescent_Tout (hTout := hTout)
    ∧ quiescent_ToutIdeal (hToutIdeal := hToutIdeal)
    ∧ quiescent_ToutRefIdeal (hToutRefIdeal := hToutRefIdeal)
    ∧ quiescent_Hid (hHid := hHid)
    ∧ quiescent_HidIdeal (hHidIdeal := hHidIdeal)
    ∧ quiescent_HidIdeal_pre_hid_finite (hHidIdeal := hHidIdeal) (hPre_hid_finite := hPre_hid_finite)
    ∧ quiescent_HidRefIdeal (hHidRefIdeal := hHidRefIdeal)
    ∧ quiescent_HidRefIdeal_pre_hid_finite (hHidRefIdeal := hHidRefIdeal) (hPre_hid_finite := hPre_hid_finite)
    ∧ quiescent_Gup (hGup := hGup)
    ∧ quiescent_GupIdeal (hGupIdeal := hGupIdeal)
    ∧ quiescent_GupRefIdeal (hGupRefIdeal := hGupRefIdeal)
    ∧ quiescent_Ntg (hNtg := hNtg)
    ∧ quiescent_NtgIdeal (hNtgIdeal := hNtgIdeal)
    ∧ quiescent_NtgRefIdeal (hNtgRefIdeal := hNtgRefIdeal)
    ∧ quiescent_Nti (hNti := hNti)
    ∧ quiescent_NtiIdeal (hNtiIdeal := hNtiIdeal)
    ∧ quiescent_NtiRefIdeal (hNtiRefIdeal := hNtiRefIdeal)
    ∧ quiescent_Up (hUp := hUp)
    ∧ quiescent_UpIdeal (hUpIdeal := hUpIdeal)
    ∧ quiescent_UpRefIdeal (hUpRefIdeal := hUpRefIdeal)
    ∧ quiescent_Obwd (hObwd := hObwd)
    ∧ quiescent_ObwdIdeal (hObwdIdeal := hObwdIdeal)
    ∧ quiescent_ObwdRefIdeal (hObwdRefIdeal := hObwdRefIdeal)
    ∧ quiescent_Dx (hDx := hDx)
    ∧ quiescent_DxIdeal (hDxIdeal := hDxIdeal)
    ∧ quiescent_DxRefIdeal (hDxRefIdeal := hDxRefIdeal)
    ∧ quiescent_Fxa (hFxa := hFxa)
    ∧ quiescent_FxaIdeal (hFxaIdeal := hFxaIdeal)
    ∧ quiescent_FxaRefIdeal (hFxaRefIdeal := hFxaRefIdeal)
    ∧ quiescent_Fxb (hFxb := hFxb)
    ∧ quiescent_FxbIdeal (hFxbIdeal := hFxbIdeal)
    ∧ quiescent_FxbRefIdeal (hFxbRefIdeal := hFxbRefIdeal)
    ∧ quiescent_Mdx (hMdx := hMdx)
    ∧ quiescent_MdxIdeal (hMdxIdeal := hMdxIdeal)
    ∧ quiescent_MdxRefIdeal (hMdxRefIdeal := hMdxRefIdeal)
    ∧ quiescent_Fdn (hFdn := hFdn)
    ∧ quiescent_FdnIdeal (hFdnIdeal := hFdnIdeal)
    ∧ quiescent_FdnRefIdeal (hFdnRefIdeal := hFdnRefIdeal)
    ∧ quiescent_Mop (hMop := hMop)
    ∧ quiescent_MopIdeal (hMopIdeal := hMopIdeal)
    ∧ quiescent_MopRefIdeal (hMopRefIdeal := hMopRefIdeal)
    ∧ quiescent_Los (hLos := hLos)
    ∧ quiescent_LosIdeal (hLosIdeal := hLosIdeal)
    ∧ quiescent_LosRefIdeal (hLosRefIdeal := hLosRefIdeal)
    ∧ quiescent_Awi (hAwi := hAwi)
    ∧ quiescent_AwiIdeal (hAwiIdeal := hAwiIdeal)
    ∧ quiescent_AwiRefIdeal (hAwiRefIdeal := hAwiRefIdeal)
    ∧ quiescent_Asm (hAsm := hAsm)
    ∧ quiescent_AsmIdeal (hAsmIdeal := hAsmIdeal)
    ∧ quiescent_AsmRefIdeal (hAsmRefIdeal := hAsmRefIdeal)
    ∧ quiescent_Swi (hSwi := hSwi)
    ∧ quiescent_SwiIdeal (hSwiIdeal := hSwiIdeal)
    ∧ quiescent_SwiRefIdeal (hSwiRefIdeal := hSwiRefIdeal)
    ∧ quiescent_Upo (hUpo := hUpo)
    ∧ quiescent_UpoIdeal (hUpoIdeal := hUpoIdeal)
    ∧ quiescent_UpoRefIdeal (hUpoRefIdeal := hUpoRefIdeal)
    ∧ quiescent_Sst (hSst := hSst)
    ∧ quiescent_SstIdeal (hSstIdeal := hSstIdeal)
    ∧ quiescent_SstRefIdeal (hSstRefIdeal := hSstRefIdeal)
    ∧ preserves_Tn_TnIdeal
    ∧ algebraic_TnIdeal_TnRefIdeal (hTnIdeal := hTnIdeal) (hTnRefIdeal := hTnRefIdeal)
    ∧ preserves_Tin_TinIdeal
    ∧ algebraic_TinIdeal_TinRefIdeal (hTinIdeal := hTinIdeal) (hTinRefIdeal := hTinRefIdeal)
    ∧ preserves_Tout_ToutIdeal
    ∧ algebraic_ToutIdeal_ToutRefIdeal (hToutIdeal := hToutIdeal) (hToutRefIdeal := hToutRefIdeal)
    ∧ preserves_Hid_HidIdeal
    ∧ algebraic_HidIdeal_HidRefIdeal_pre_hid_finite (hHidIdeal := hHidIdeal) (hHidRefIdeal := hHidRefIdeal) (hPre_hid_finite := hPre_hid_finite)
    ∧ preserves_Gup_GupIdeal
    ∧ algebraic_GupIdeal_GupRefIdeal (hGupIdeal := hGupIdeal) (hGupRefIdeal := hGupRefIdeal)
    ∧ preserves_Ntg_NtgIdeal
    ∧ algebraic_NtgIdeal_NtgRefIdeal (hNtgIdeal := hNtgIdeal) (hNtgRefIdeal := hNtgRefIdeal)
    ∧ preserves_Nti_NtiIdeal
    ∧ algebraic_NtiIdeal_NtiRefIdeal (hNtiIdeal := hNtiIdeal) (hNtiRefIdeal := hNtiRefIdeal)
    ∧ preserves_Up_UpIdeal
    ∧ algebraic_UpIdeal_UpRefIdeal (hUpIdeal := hUpIdeal) (hUpRefIdeal := hUpRefIdeal)
    ∧ preserves_Obwd_ObwdIdeal
    ∧ algebraic_ObwdIdeal_ObwdRefIdeal (hObwdIdeal := hObwdIdeal) (hObwdRefIdeal := hObwdRefIdeal)
    ∧ preserves_Dx_DxIdeal
    ∧ algebraic_DxIdeal_DxRefIdeal (hDxIdeal := hDxIdeal) (hDxRefIdeal := hDxRefIdeal)
    ∧ preserves_Fxa_FxaIdeal
    ∧ algebraic_FxaIdeal_FxaRefIdeal (hFxaIdeal := hFxaIdeal) (hFxaRefIdeal := hFxaRefIdeal)
    ∧ preserves_Fxb_FxbIdeal
    ∧ algebraic_FxbIdeal_FxbRefIdeal (hFxbIdeal := hFxbIdeal) (hFxbRefIdeal := hFxbRefIdeal)
    ∧ preserves_Mdx_MdxIdeal
    ∧ algebraic_MdxIdeal_MdxRefIdeal (hMdxIdeal := hMdxIdeal) (hMdxRefIdeal := hMdxRefIdeal)
    ∧ preserves_Fdn_FdnIdeal
    ∧ algebraic_FdnIdeal_FdnRefIdeal (hFdnIdeal := hFdnIdeal) (hFdnRefIdeal := hFdnRefIdeal)
    ∧ preserves_Mop_MopIdeal
    ∧ algebraic_MopIdeal_MopRefIdeal (hMopIdeal := hMopIdeal) (hMopRefIdeal := hMopRefIdeal)
    ∧ preserves_Los_LosIdeal
    ∧ algebraic_LosIdeal_LosRefIdeal (hLosIdeal := hLosIdeal) (hLosRefIdeal := hLosRefIdeal)
    ∧ preserves_Awi_AwiIdeal
    ∧ algebraic_AwiIdeal_AwiRefIdeal (hAwiIdeal := hAwiIdeal) (hAwiRefIdeal := hAwiRefIdeal)
    ∧ preserves_Asm_AsmIdeal
    ∧ algebraic_AsmIdeal_AsmRefIdeal (hAsmIdeal := hAsmIdeal) (hAsmRefIdeal := hAsmRefIdeal)
    ∧ preserves_Swi_SwiIdeal
    ∧ algebraic_SwiIdeal_SwiRefIdeal (hSwiIdeal := hSwiIdeal) (hSwiRefIdeal := hSwiRefIdeal)
    ∧ preserves_Upo_UpoIdeal
    ∧ algebraic_UpoIdeal_UpoRefIdeal (hUpoIdeal := hUpoIdeal) (hUpoRefIdeal := hUpoRefIdeal)
    ∧ preserves_Sst_SstIdeal
    ∧ algebraic_SstIdeal_SstRefIdeal (hSstIdeal := hSstIdeal) (hSstRefIdeal := hSstRefIdeal)
-- ==== Pre_hid_finite.lean ====
abbrev S4224x2048 : Shape := ⟨2, ![4224, 2048]⟩
abbrev S5632x2048 : Shape := ⟨2, ![5632, 2048]⟩
abbrev S4224x5632 : Shape := ⟨2, ![4224, 5632]⟩
abbrev S_ : Shape := ⟨0, ![]⟩

class Facts : Prop where
  bitsLt_bf16_f32 : FTy.bits .bf16 < FTy.bits .f32
  bcast_S_S4224x2048 : S_.BroadcastsInDim S4224x2048 (![] : Fin 0 → Fin S4224x2048.rank)
  reducesTo_S4224x2048_S_d0_1 : S4224x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4224x5632 : S_.BroadcastsInDim S4224x5632 (![] : Fin 0 → Fin S4224x5632.rank)
  reducesTo_S4224x5632_S_d0_1 : S4224x5632.ReducesTo [0, 1] S_

variable [Facts]

def fn {F : FTy → Type} [FloatOps F] (main_arg0 : FVec F S4224x2048 .bf16) (main_arg1 : FVec F S5632x2048 .bf16) (main_arg2 : FVec F S4224x5632 .bf16) (main_arg3 : FVec F S4224x5632 .bf16) : IVec S_ 1 :=
  let main_v0 : FVec F S4224x2048 .f32 := (extf .f32 · bitsLt_bf16_f32) main_arg0
  let main_v1 : FVec F S4224x2048 .f32 := Host.absf main_v0
  let main_cst : FVec F S_ .f32 := constant S_ .f32 0x7F800000#32
  let main_v2 : FVec F S4224x2048 .f32 := broadcastInDim S4224x2048 ![] bcast_S_S4224x2048 main_cst
  let main_v3 : IVec S4224x2048 1 := cmpf .olt main_v1 main_v2
  let main_c : IVec S_ 1 := constantI S_ 1 1#1
  let main_v4 : IVec S_ 1 := (fun x v => Host.reduce IntOp.andi x v reducesTo_S4224x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : FVec F S4224x5632 .f32 := (extf .f32 · bitsLt_bf16_f32) main_arg3
  let main_v11 : FVec F S4224x5632 .f32 := Host.absf main_v10
  let main_cst_2 : FVec F S_ .f32 := constant S_ .f32 0x7F800000#32
  let main_v12 : FVec F S4224x5632 .f32 := broadcastInDim S4224x5632 ![] bcast_S_S4224x5632 main_cst_2
  let main_v13 : IVec S4224x5632 1 := cmpf .olt main_v11 main_v12
  let main_c_3 : IVec S_ 1 := constantI S_ 1 1#1
  let main_v14 : IVec S_ 1 := (fun x v => Host.reduce IntOp.andi x v reducesTo_S4224x5632_S_d0_1 h_S_) main_v13 main_c_3
  let main_v15 : IVec S_ 1 := andi main_v4 main_v9
  let main_v16 : IVec S_ 1 := andi main_v15 main_v14
  main_v16
-- ==== Tn.lean ====
abbrev S4224x5632 : Shape := ⟨2, ![4224, 5632]⟩
abbrev S4224x2048 : Shape := ⟨2, ![4224, 2048]⟩
abbrev S5632x2048 : Shape := ⟨2, ![5632, 2048]⟩
abbrev S4224x512 : Shape := ⟨2, ![4224, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S5632x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x2048, .bf16⟩
  | .local _ .vmem, ⟨3, _⟩ => ⟨S512x2048, .bf16⟩
  | .local _ .vmem, ⟨4, _⟩ => ⟨S512x2048, .bf16⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TnRefIdeal.lean ====
abbrev S4224x5632 : Shape := ⟨2, ![4224, 5632]⟩
abbrev S4224x2048 : Shape := ⟨2, ![4224, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S_, .f32⟩
  | .hbm, ⟨3, _⟩ => ⟨S5632x2048, .f32⟩
  | .hbm, ⟨4, _⟩ => ⟨S4224x5632, .f32⟩
  | .hbm, ⟨5, _⟩ => ⟨S4224x2048, .f32⟩
  | .hbm, ⟨6, _⟩ => ⟨S4224x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Tin.lean ====
abbrev S4224x5120 : Shape := ⟨2, ![4224, 5120]⟩
abbrev S4224x2048 : Shape := ⟨2, ![4224, 2048]⟩
abbrev S5120x2048 : Shape := ⟨2, ![5120, 2048]⟩
abbrev S4224x512 : Shape := ⟨2, ![4224, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4224x5120, .bf16⟩
  | .hbm, ⟨1, _⟩ => ⟨S4224x2048, .bf16⟩
  | .hbm, ⟨2, _⟩ => ⟨S5120x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x2048, .bf16⟩
  | .local _ .vmem, ⟨3, _⟩ => ⟨S512x2048, .bf16⟩
  | .local _ .vmem, ⟨4, _⟩ => ⟨S512x2048, .bf16⟩
  | _, _ => ⟨S4224x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TinRefIdeal.lean ====
abbrev S4224x5120 : Shape := ⟨2, ![4224, 5120]⟩
abbrev S4224x2048 : Shape := ⟨2, ![4224, 2048]⟩
abbrev S_ : Shape := ⟨0, ![]⟩
abbrev S5120x2048 : Shape := ⟨2, ![5120, 2048]⟩
abbrev S2048x5120 : Shape := ⟨2, ![2048, 5120]⟩

abbrev nBuf : Space → Nat
  | .hbm => 12
  | .vmem => 0
  | .smem => 0
  | _ => 0

abbrev bufTy : (tb : Table) → Fin (tcTables nBuf tb) → BufTy
  | .hbm, ⟨0, _⟩ => ⟨S4224x5120, .bf16⟩
  | .hbm, ⟨1, _⟩ => ⟨S4224x2048, .bf16⟩
  | .hbm, ⟨2, _⟩ => ⟨S_, .f32⟩
  | .hbm, ⟨3, _⟩ => ⟨S5120x2048, .f32⟩
  | .hbm, ⟨4, _⟩ => ⟨S4224x2048, .f32⟩
  | .hbm, ⟨5, _⟩ => ⟨S2048x5120, .f32⟩
  | .hbm, ⟨6, _⟩ => ⟨S4224x5120, .f32⟩
  | .hbm, ⟨7, _⟩ => ⟨S4224x5120, .f32⟩
  | .hbm, ⟨8, _⟩ => ⟨S5120x2048, .f32⟩
  | .hbm, ⟨9, _⟩ => ⟨S2048x5120, .f32⟩
  | .hbm, ⟨10, _⟩ => ⟨S5120x2048, .f32⟩
  | .hbm, ⟨11, _⟩ => ⟨S5120x2048, .bf16⟩
  | _, _ => ⟨S4224x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Tout.lean ====
abbrev S4224x2048 : Shape := ⟨2, ![4224, 2048]⟩
abbrev S2048x2048 : Shape := ⟨2, ![2048, 2048]⟩
abbrev S4224x512 : Shape := ⟨2, ![4224, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S2048x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x2048, .bf16⟩
  | .local _ .vmem, ⟨3, _⟩ => ⟨S512x2048, .bf16⟩
  | .local _ .vmem, ⟨4, _⟩ => ⟨S512x2048, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4224x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ToutRefIdeal.lean ====
abbrev S4224x2048 : Shape := ⟨2, ![4224, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S_, .f32⟩
  | .hbm, ⟨3, _⟩ => ⟨S2048x2048, .f32⟩
  | .hbm, ⟨4, _⟩ => ⟨S4224x2048, .f32⟩
  | .hbm, ⟨5, _⟩ => ⟨S4224x2048, .f32⟩
  | .hbm, ⟨6, _⟩ => ⟨S4224x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Hid.lean ====
abbrev S4224x2048 : Shape := ⟨2, ![4224, 2048]⟩
abbrev S5632x2048 : Shape := ⟨2, ![5632, 2048]⟩
abbrev S4224x5632 : Shape := ⟨2, ![4224, 5632]⟩
abbrev S1056x2048 : Shape := ⟨2, ![1056, 2048]⟩
abbrev S512x2048 : Shape := ⟨2, ![512, 2048]⟩
abbrev S1056x512 : Shape := ⟨2, ![1056, 512]⟩

abbrev nBuf : Space → Nat
  | .hbm => 6
  | .vmem => 12
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S4224x5632, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .local _ .vmem, ⟨0, _⟩ => ⟨S1056x2048, .bf16⟩
  | .local _ .vmem, ⟨1, _⟩ => ⟨S1056x2048, .bf16⟩
  | .local _ .vmem, ⟨2, _⟩ => ⟨S512x2048, .bf16⟩
  | .local _ .vmem, ⟨3, _⟩ => ⟨S512x2048, .bf16⟩
  | .local _ .vmem, ⟨4, _⟩ => ⟨S1056x512, .bf16⟩
  | .local _ .vmem, ⟨5, _⟩ => ⟨S1056x512, .bf16⟩
  | .local _ .vmem, ⟨6, _⟩ => ⟨S1056x512, .bf16⟩
  | .local _ .vmem, ⟨7, _⟩ => ⟨S1056x512, .bf16⟩
  | .local _ .vmem, ⟨8, _⟩ => ⟨S1056x512, .bf16⟩
  | .local _ .vmem, ⟨9, _⟩ => ⟨S1056x512, .bf16⟩
  | .local _ .vmem, ⟨10, _⟩ => ⟨S1056x512, .bf16⟩
  | .local _ .vmem, ⟨11, _⟩ => ⟨S1056x512, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1056x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== HidRefIdeal.lean ====
abbrev S4224x2048 : Shape := ⟨2, ![4224, 2048]⟩
abbrev S5632x2048 : Shape := ⟨2, ![5632, 2048]⟩
abbrev S4224x5632 : Shape := ⟨2, ![4224, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S4224x5632, .bf16⟩
  | .hbm, ⟨3, _⟩ => ⟨S4224x5632, .bf16⟩
  | .hbm, ⟨4, _⟩ => ⟨S4224x5632, .f32⟩
  | .hbm, ⟨5, _⟩ => ⟨S4224x5632, .f32⟩
  | .hbm, ⟨6, _⟩ => ⟨S5632x2048, .f32⟩
  | .hbm, ⟨7, _⟩ => ⟨S4224x5632, .f32⟩
  | .hbm, ⟨8, _⟩ => ⟨S4224x5632, .f32⟩
  | .hbm, ⟨9, _⟩ => ⟨S_, .f32⟩
  | .hbm, ⟨10, _⟩ => ⟨S4224x5632, .f32⟩
  | .hbm, ⟨11, _⟩ => ⟨S4224x5632, .f32⟩
  | .hbm, ⟨12, _⟩ => ⟨S_, .f32⟩
  | .hbm, ⟨13, _⟩ => ⟨S4224x5632, .f32⟩
  | .hbm, ⟨14, _⟩ => ⟨S4224x5632, .f32⟩
  | .hbm, ⟨15, _⟩ => ⟨S_, .f32⟩
  | .hbm, ⟨16, _⟩ => ⟨S4224x5632, .f32⟩
  | .hbm, ⟨17, _⟩ => ⟨S4224x5632, .f32⟩
  | .hbm, ⟨18, _⟩ => ⟨S4224x5632, .f32⟩
  | .hbm, ⟨19, _⟩ => ⟨S4224x5632, .f32⟩
  | .hbm, ⟨20, _⟩ => ⟨S4224x5632, .f32⟩
  | .hbm, ⟨21, _⟩ => ⟨S4224x2048, .f32⟩
  | .hbm, ⟨22, _⟩ => ⟨S4224x2048, .f32⟩
  | .hbm, ⟨23, _⟩ => ⟨S4224x5632, .f32⟩
  | .hbm, ⟨24, _⟩ => ⟨S4224x5632, .f32⟩
  | .hbm, ⟨25, _⟩ => ⟨S4224x5632, .f32⟩
  | .hbm, ⟨26, _⟩ => ⟨S4224x5632, .f32⟩
  | .hbm, ⟨27, _⟩ => ⟨S4224x5632, .f32⟩
  | .hbm, ⟨28, _⟩ => ⟨S4224x5632, .f32⟩
  | .hbm, ⟨29, _⟩ => ⟨S4224x5632, .f32⟩
  | .hbm, ⟨30, _⟩ => ⟨S4224x5632, .bf16⟩
  | .hbm, ⟨31, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Gup.lean ====
abbrev S4224x2048 : Shape := ⟨2, ![4224, 2048]⟩
abbrev S5632x2048 : Shape := ⟨2, ![5632, 2048]⟩
abbrev S4224x5632 : Shape := ⟨2, ![4224, 5632]⟩
abbrev S1056x2048 : Shape := ⟨2, ![1056, 2048]⟩
abbrev S512x2048 : Shape := ⟨2, ![512, 2048]⟩
abbrev S1056x512 : Shape := ⟨2, ![1056, 512]⟩

abbrev nBuf : Space → Nat
  | .hbm => 6
  | .vmem => 12
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S5632x2048, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .local _ .vmem, ⟨0, _⟩ => ⟨S1056x2048, .bf16⟩
  | .local _ .vmem, ⟨1, _⟩ => ⟨S1056x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1056x512, .bf16⟩
  | .local _ .vmem, ⟨7, _⟩ => ⟨S1056x512, .bf16⟩
  | .local _ .vmem, ⟨8, _⟩ => ⟨S1056x512, .bf16⟩
  | .local _ .vmem, ⟨9, _⟩ => ⟨S1056x512, .bf16⟩
  | .local _ .vmem, ⟨10, _⟩ => ⟨S1056x512, .bf16⟩
  | .local _ .vmem, ⟨11, _⟩ => ⟨S1056x512, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1056x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GupRefIdeal.lean ====
abbrev S4224x2048 : Shape := ⟨2, ![4224, 2048]⟩
abbrev S5632x2048 : Shape := ⟨2, ![5632, 2048]⟩
abbrev S2048x5632 : Shape := ⟨2, ![2048, 5632]⟩
abbrev S4224x5632 : Shape := ⟨2, ![4224, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S5632x2048, .bf16⟩
  | .hbm, ⟨3, _⟩ => ⟨S4224x2048, .f32⟩
  | .hbm, ⟨4, _⟩ => ⟨S5632x2048, .f32⟩
  | .hbm, ⟨5, _⟩ => ⟨S2048x5632, .f32⟩
  | .hbm, ⟨6, _⟩ => ⟨S4224x5632, .f32⟩
  | .hbm, ⟨7, _⟩ => ⟨S5632x2048, .f32⟩
  | .hbm, ⟨8, _⟩ => ⟨S2048x5632, .f32⟩
  | .hbm, ⟨9, _⟩ => ⟨S4224x5632, .f32⟩
  | .hbm, ⟨10, _⟩ => ⟨S4224x5632, .bf16⟩
  | .hbm, ⟨11, _⟩ => ⟨S4224x5632, .bf16⟩
  | .hbm, ⟨12, _⟩ => ⟨S4224x5632, .f32⟩
  | .hbm, ⟨13, _⟩ => ⟨S4224x5632, .f32⟩
  | .hbm, ⟨14, _⟩ => ⟨S_, .f32⟩
  | .hbm, ⟨15, _⟩ => ⟨S4224x5632, .f32⟩
  | .hbm, ⟨16, _⟩ => ⟨S4224x5632, .f32⟩
  | .hbm, ⟨17, _⟩ => ⟨S_, .f32⟩
  | .hbm, ⟨18, _⟩ => ⟨S4224x5632, .f32⟩
  | .hbm, ⟨19, _⟩ => ⟨S4224x5632, .f32⟩
  | .hbm, ⟨20, _⟩ => ⟨S4224x5632, .f32⟩
  | .hbm, ⟨21, _⟩ => ⟨S4224x5632, .f32⟩
  | .hbm, ⟨22, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Ntg.lean ====
abbrev S4224x2048 : Shape := ⟨2, ![4224, 2048]⟩
abbrev S5632x2048 : Shape := ⟨2, ![5632, 2048]⟩
abbrev S4224x5632 : Shape := ⟨2, ![4224, 5632]⟩
abbrev S1056x2048 : Shape := ⟨2, ![1056, 2048]⟩
abbrev S512x2048 : Shape := ⟨2, ![512, 2048]⟩
abbrev S1056x512 : Shape := ⟨2, ![1056, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S4224x5632, .bf16⟩
  | .local _ .vmem, ⟨0, _⟩ => ⟨S1056x2048, .bf16⟩
  | .local _ .vmem, ⟨1, _⟩ => ⟨S1056x2048, .bf16⟩
  | .local _ .vmem, ⟨2, _⟩ => ⟨S512x2048, .bf16⟩
  | .local _ .vmem, ⟨3, _⟩ => ⟨S512x2048, .bf16⟩
  | .local _ .vmem, ⟨4, _⟩ => ⟨S1056x512, .bf16⟩
  | .local _ .vmem, ⟨5, _⟩ => ⟨S1056x512, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NtgRefIdeal.lean ====
abbrev S4224x2048 : Shape := ⟨2, ![4224, 2048]⟩
abbrev S5632x2048 : Shape := ⟨2, ![5632, 2048]⟩
abbrev S2048x5632 : Shape := ⟨2, ![2048, 5632]⟩
abbrev S4224x5632 : Shape := ⟨2, ![4224, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S4224x2048, .f32⟩
  | .hbm, ⟨3, _⟩ => ⟨S5632x2048, .f32⟩
  | .hbm, ⟨4, _⟩ => ⟨S2048x5632, .f32⟩
  | .hbm, ⟨5, _⟩ => ⟨S4224x5632, .f32⟩
  | .hbm, ⟨6, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Nti.lean ====
abbrev S4224x2048 : Shape := ⟨2, ![4224, 2048]⟩
abbrev S5120x2048 : Shape := ⟨2, ![5120, 2048]⟩
abbrev S4224x5120 : Shape := ⟨2, ![4224, 5120]⟩
abbrev S1056x2048 : Shape := ⟨2, ![1056, 2048]⟩
abbrev S512x2048 : Shape := ⟨2, ![512, 2048]⟩
abbrev S1056x512 : Shape := ⟨2, ![1056, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S5120x2048, .bf16⟩
  | .hbm, ⟨2, _⟩ => ⟨S4224x5120, .f32⟩
  | .local _ .vmem, ⟨0, _⟩ => ⟨S1056x2048, .bf16⟩
  | .local _ .vmem, ⟨1, _⟩ => ⟨S1056x2048, .bf16⟩
  | .local _ .vmem, ⟨2, _⟩ => ⟨S512x2048, .bf16⟩
  | .local _ .vmem, ⟨3, _⟩ => ⟨S512x2048, .bf16⟩
  | .local _ .vmem, ⟨4, _⟩ => ⟨S1056x512, .f32⟩
  | .local _ .vmem, ⟨5, _⟩ => ⟨S1056x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NtiRefIdeal.lean ====
abbrev S4224x2048 : Shape := ⟨2, ![4224, 2048]⟩
abbrev S5120x2048 : Shape := ⟨2, ![5120, 2048]⟩
abbrev S2048x5120 : Shape := ⟨2, ![2048, 5120]⟩
abbrev S4224x5120 : Shape := ⟨2, ![4224, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S5120x2048, .bf16⟩
  | .hbm, ⟨2, _⟩ => ⟨S4224x2048, .f32⟩
  | .hbm, ⟨3, _⟩ => ⟨S5120x2048, .f32⟩
  | .hbm, ⟨4, _⟩ => ⟨S2048x5120, .f32⟩
  | .hbm, ⟨5, _⟩ => ⟨S4224x5120, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up.lean ====
abbrev S4224x2048 : Shape := ⟨2, ![4224, 2048]⟩
abbrev S5632x2048 : Shape := ⟨2, ![5632, 2048]⟩
abbrev S4224x5632 : Shape := ⟨2, ![4224, 5632]⟩
abbrev S1056x2048 : Shape := ⟨2, ![1056, 2048]⟩
abbrev S512x2048 : Shape := ⟨2, ![512, 2048]⟩
abbrev S1056x512 : Shape := ⟨2, ![1056, 512]⟩

abbrev nBuf : Space → Nat
  | .hbm => 5
  | .vmem => 10
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S4224x5632, .bf16⟩
  | .hbm, ⟨3, _⟩ => ⟨S4224x5632, .bf16⟩
  | .hbm, ⟨4, _⟩ => ⟨S4224x5632, .bf16⟩
  | .local _ .vmem, ⟨0, _⟩ => ⟨S1056x2048, .bf16⟩
  | .local _ .vmem, ⟨1, _⟩ => ⟨S1056x2048, .bf16⟩
  | .local _ .vmem, ⟨2, _⟩ => ⟨S512x2048, .bf16⟩
  | .local _ .vmem, ⟨3, _⟩ => ⟨S512x2048, .bf16⟩
  | .local _ .vmem, ⟨4, _⟩ => ⟨S1056x512, .bf16⟩
  | .local _ .vmem, ⟨5, _⟩ => ⟨S1056x512, .bf16⟩
  | .local _ .vmem, ⟨6, _⟩ => ⟨S1056x512, .bf16⟩
  | .local _ .vmem, ⟨7, _⟩ => ⟨S1056x512, .bf16⟩
  | .local _ .vmem, ⟨8, _⟩ => ⟨S1056x512, .bf16⟩
  | .local _ .vmem, ⟨9, _⟩ => ⟨S1056x512, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1056x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpRefIdeal.lean ====
abbrev S4224x2048 : Shape := ⟨2, ![4224, 2048]⟩
abbrev S5632x2048 : Shape := ⟨2, ![5632, 2048]⟩
abbrev S4224x5632 : Shape := ⟨2, ![4224, 5632]⟩
abbrev S2048x5632 : Shape := ⟨2, ![2048, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S5632x2048, .bf16⟩
  | .hbm, ⟨2, _⟩ => ⟨S4224x5632, .bf16⟩
  | .hbm, ⟨3, _⟩ => ⟨S4224x2048, .f32⟩
  | .hbm, ⟨4, _⟩ => ⟨S5632x2048, .f32⟩
  | .hbm, ⟨5, _⟩ => ⟨S2048x5632, .f32⟩
  | .hbm, ⟨6, _⟩ => ⟨S4224x5632, .f32⟩
  | .hbm, ⟨7, _⟩ => ⟨S4224x5632, .bf16⟩
  | .hbm, ⟨8, _⟩ => ⟨S4224x5632, .f32⟩
  | .hbm, ⟨9, _⟩ => ⟨S4224x5632, .f32⟩
  | .hbm, ⟨10, _⟩ => ⟨S4224x5632, .f32⟩
  | .hbm, ⟨11, _⟩ => ⟨S_, .f32⟩
  | .hbm, ⟨12, _⟩ => ⟨S4224x5632, .f32⟩
  | .hbm, ⟨13, _⟩ => ⟨S4224x5632, .f32⟩
  | .hbm, ⟨14, _⟩ => ⟨S_, .f32⟩
  | .hbm, ⟨15, _⟩ => ⟨S4224x5632, .f32⟩
  | .hbm, ⟨16, _⟩ => ⟨S4224x5632, .f32⟩
  | .hbm, ⟨17, _⟩ => ⟨S4224x5632, .f32⟩
  | .hbm, ⟨18, _⟩ => ⟨S4224x5632, .f32⟩
  | .hbm, ⟨19, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Obwd.lean ====
abbrev S4224x2048 : Shape := ⟨2, ![4224, 2048]⟩
abbrev S1x2048 : Shape := ⟨2, ![1, 2048]⟩
abbrev S2048x2048 : Shape := ⟨2, ![2048, 2048]⟩
abbrev S528x2048 : Shape := ⟨2, ![528, 2048]⟩
abbrev S528 : Shape := ⟨1, ![528]⟩
abbrev S528x1 : Shape := ⟨2, ![528, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S2048x2048, .bf16⟩
  | .hbm, ⟨4, _⟩ => ⟨S4224x2048, .bf16⟩
  | .hbm, ⟨5, _⟩ => ⟨S1x2048, .f32⟩
  | .hbm, ⟨6, _⟩ => ⟨S4224x2048, .f32⟩
  | .local _ .vmem, ⟨0, _⟩ => ⟨S528x2048, .f32⟩
  | .local _ .vmem, ⟨1, _⟩ => ⟨S528x2048, .f32⟩
  | .local _ .vmem, ⟨2, _⟩ => ⟨S1x2048, .f32⟩
  | .local _ .vmem, ⟨3, _⟩ => ⟨S528x2048, .f32⟩
  | .local _ .vmem, ⟨4, _⟩ => ⟨S528x2048, .f32⟩
  | .local _ .vmem, ⟨5, _⟩ => ⟨S2048x2048, .bf16⟩
  | .local _ .vmem, ⟨6, _⟩ => ⟨S528x2048, .bf16⟩
  | .local _ .vmem, ⟨7, _⟩ => ⟨S528x2048, .bf16⟩
  | .local _ .vmem, ⟨8, _⟩ => ⟨S1x2048, .f32⟩
  | .local _ .vmem, ⟨9, _⟩ => ⟨S528x2048, .f32⟩
  | .local _ .vmem, ⟨10, _⟩ => ⟨S528x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S528x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S528x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S528x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ObwdRefIdeal.lean ====
abbrev S4224x2048 : Shape := ⟨2, ![4224, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S4224 : Shape := ⟨1, ![4224]⟩
abbrev S4224x1 : Shape := ⟨2, ![4224, 1]⟩

abbrev nBuf : Space → Nat
  | .hbm => 57
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S2048x2048, .bf16⟩
  | .hbm, ⟨4, _⟩ => ⟨S2048, .f32⟩
  | .hbm, ⟨5, _⟩ => ⟨S4224x2048, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x2048, .f32⟩
  | .hbm, ⟨21, _⟩ => ⟨S4224x2048, .f32⟩
  | .hbm, ⟨22, _⟩ => ⟨S1x2048, .f32⟩
  | .hbm, ⟨23, _⟩ => ⟨S4224x2048, .f32⟩
  | .hbm, ⟨24, _⟩ => ⟨S4224x2048, .f32⟩
  | .hbm, ⟨25, _⟩ => ⟨S4224x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4224x2048, .f32⟩
  | .hbm, ⟨30, _⟩ => ⟨S4224x2048, .f32⟩
  | .hbm, ⟨31, _⟩ => ⟨S_, .f32⟩
  | .hbm, ⟨32, _⟩ => ⟨S2048, .f32⟩
  | .hbm, ⟨33, _⟩ => ⟨S4224x2048, .f32⟩
  | .hbm, ⟨34, _⟩ => ⟨S_, .f32⟩
  | .hbm, ⟨35, _⟩ => ⟨S4224, .f32⟩
  | .hbm, ⟨36, _⟩ => ⟨S4224x1, .f32⟩
  | .hbm, ⟨37, _⟩ => ⟨S4224x2048, .f32⟩
  | .hbm, ⟨38, _⟩ => ⟨S4224x2048, .f32⟩
  | .hbm, ⟨39, _⟩ => ⟨S4224x1, .f32⟩
  | .hbm, ⟨40, _⟩ => ⟨S_, .f32⟩
  | .hbm, ⟨41, _⟩ => ⟨S4224x1, .f32⟩
  | .hbm, ⟨42, _⟩ => ⟨S4224x1, .f32⟩
  | .hbm, ⟨43, _⟩ => ⟨S_, .f32⟩
  | .hbm, ⟨44, _⟩ => ⟨S4224, .f32⟩
  | .hbm, ⟨45, _⟩ => ⟨S4224x2048, .f32⟩
  | .hbm, ⟨46, _⟩ => ⟨S4224x2048, .f32⟩
  | .hbm, ⟨47, _⟩ => ⟨S4224x2048, .f32⟩
  | .hbm, ⟨48, _⟩ => ⟨S4224x2048, .f32⟩
  | .hbm, ⟨49, _⟩ => ⟨S4224x2048, .f32⟩
  | .hbm, ⟨50, _⟩ => ⟨S1x2048, .f32⟩
  | .hbm, ⟨51, _⟩ => ⟨S_, .f32⟩
  | .hbm, ⟨52, _⟩ => ⟨S4224x2048, .f32⟩
  | .hbm, ⟨53, _⟩ => ⟨S2048x2048, .f32⟩
  | .hbm, ⟨54, _⟩ => ⟨S4224x2048, .f32⟩
  | .hbm, ⟨55, _⟩ => ⟨S4224x2048, .f32⟩
  | .hbm, ⟨56, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Dx.lean ====
abbrev S4224x5632 : Shape := ⟨2, ![4224, 5632]⟩
abbrev S5632x2048 : Shape := ⟨2, ![5632, 2048]⟩
abbrev S4224x2048 : Shape := ⟨2, ![4224, 2048]⟩
abbrev S1x2048 : Shape := ⟨2, ![1, 2048]⟩
abbrev S_ : Shape := ⟨0, ![]⟩
abbrev S528x512 : Shape := ⟨2, ![528, 512]⟩
abbrev S512x2048 : Shape := ⟨2, ![512, 2048]⟩
abbrev S528x2048 : Shape := ⟨2, ![528, 2048]⟩
abbrev S1x528x2048 : Shape := ⟨3, ![1, 528, 2048]⟩
abbrev S528 : Shape := ⟨1, ![528]⟩
abbrev S528x1 : Shape := ⟨2, ![528, 1]⟩
abbrev S2048 : Shape := ⟨1, ![2048]⟩

abbrev nBuf : Space → Nat
  | .hbm => 11
  | .vmem => 18
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x5632, .bf16⟩
  | .hbm, ⟨3, _⟩ => ⟨S5632x2048, .bf16⟩
  | .hbm, ⟨4, _⟩ => ⟨S4224x2048, .f32⟩
  | .hbm, ⟨5, _⟩ => ⟨S1x2048, .f32⟩
  | .hbm, ⟨6, _⟩ => ⟨S4224x2048, .f32⟩
  | .hbm, ⟨7, _⟩ => ⟨S_, .f32⟩
  | .hbm, ⟨8, _⟩ => ⟨S1x2048, .f32⟩
  | .hbm, ⟨9, _⟩ => ⟨S4224x2048, .f32⟩
  | .hbm, ⟨10, _⟩ => ⟨S1x2048, .f32⟩
  | .local _ .vmem, ⟨0, _⟩ => ⟨S528x512, .bf16⟩
  | .local _ .vmem, ⟨1, _⟩ => ⟨S528x512, .bf16⟩
  | .local _ .vmem, ⟨2, _⟩ => ⟨S512x2048, .bf16⟩
  | .local _ .vmem, ⟨3, _⟩ => ⟨S512x2048, .bf16⟩
  | .local _ .vmem, ⟨4, _⟩ => ⟨S528x512, .bf16⟩
  | .local _ .vmem, ⟨5, _⟩ => ⟨S528x512, .bf16⟩
  | .local _ .vmem, ⟨6, _⟩ => ⟨S512x2048, .bf16⟩
  | .local _ .vmem, ⟨7, _⟩ => ⟨S512x2048, .bf16⟩
  | .local _ .vmem, ⟨8, _⟩ => ⟨S528x2048, .f32⟩
  | .local _ .vmem, ⟨9, _⟩ => ⟨S528x2048, .f32⟩
  | .local _ .vmem, ⟨10, _⟩ => ⟨S1x2048, .f32⟩
  | .local _ .vmem, ⟨11, _⟩ => ⟨S528x2048, .f32⟩
  | .local _ .vmem, ⟨12, _⟩ => ⟨S528x2048, .f32⟩
  | .local _ .vmem, ⟨13, _⟩ => ⟨S1x2048, .f32⟩
  | .local _ .vmem, ⟨14, _⟩ => ⟨S528x2048, .f32⟩
  | .local _ .vmem, ⟨15, _⟩ => ⟨S528x2048, .f32⟩
  | .local _ .vmem, ⟨16, _⟩ => ⟨S1x2048, .f32⟩
  | .local _ .vmem, ⟨17, _⟩ => ⟨S1x528x2048, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg1 : BitVec 32 := BitVec.ofNat 32 (i 1).val
  let c0_i32_3 : BitVec 32 := 0#32
  let v7 : BitVec 1 := Scalar.cmpi .eq arg1 c0_i32_3
  let v8 : BitVec 32 := Scalar.extui v7
  let c0_i32_4 : BitVec 32 := 0#32
  let v9 : BitVec 1 := Scalar.cmpi .ne v8 c0_i32_4
  v9

def k0_off1 (i : grid0.Coords) : Fin 3 → Nat :=
  let arg2 : BitVec 32 := BitVec.ofNat 32 (i 2).val
  let v36 : Index := Scalar.indexCast arg2
  let c0_23 : Index := 0#32
  let c0_24 : Index := 0#32
  ![v36.toNat, 0, 0]
def k0_off2 (i : grid0.Coords) : Fin 3 → Nat :=
  let arg2 : BitVec 32 := BitVec.ofNat 32 (i 2).val
  let v10 : Index := Scalar.indexCast arg2
  let c0 : Index := 0#32
  let c0_5 : Index := 0#32
  ![v10.toNat, 0, 0]
def k0_cond3 (i : grid0.Coords) : BitVec 1 :=
  let arg1 : BitVec 32 := BitVec.ofNat 32 (i 1).val
  let c10_i32 : BitVec 32 := 10#32
  let v32 : BitVec 1 := Scalar.cmpi .eq arg1 c10_i32
  let v33 : BitVec 32 := Scalar.extui v32
  let c0_i32_21 : BitVec 32 := 0#32
  let v34 : BitVec 1 := Scalar.cmpi .ne v33 c0_i32_21
  v34

def k0_off3 (i : grid0.Coords) : Fin 3 → Nat :=
  let arg2 : BitVec 32 := BitVec.ofNat 32 (i 2).val
  let v37 : Index := Scalar.indexCast arg2
  let c0_26 : Index := 0#32
  let c0_27 : Index := 0#32
  ![v37.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S528x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S528x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S528x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S528x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S528x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== DxRefIdeal.lean ====
abbrev S4224x5632 : Shape := ⟨2, ![4224, 5632]⟩
abbrev S5632x2048 : Shape := ⟨2, ![5632, 2048]⟩
abbrev S4224x2048 : Shape := ⟨2, ![4224, 2048]⟩
abbrev S1x2048 : Shape := ⟨2, ![1, 2048]⟩
abbrev S2048 : Shape := ⟨1, ![2048]⟩
abbrev S2048x5632 : Shape := ⟨2, ![2048, 5632]⟩
abbrev S_ : Shape := ⟨0, ![]⟩
abbrev S4224 : Shape := ⟨1, ![4224]⟩
abbrev S4224x1 : Shape := ⟨2, ![4224, 1]⟩

abbrev nBuf : Space → Nat
  | .hbm => 66
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x5632, .bf16⟩
  | .hbm, ⟨3, _⟩ => ⟨S5632x2048, .bf16⟩
  | .hbm, ⟨4, _⟩ => ⟨S4224x2048, .f32⟩
  | .hbm, ⟨5, _⟩ => ⟨S1x2048, .f32⟩
  | .hbm, ⟨6, _⟩ => ⟨S4224x2048, .f32⟩
  | .hbm, ⟨7, _⟩ => ⟨S2048, .f32⟩
  | .hbm, ⟨8, _⟩ => ⟨S5632x2048, .f32⟩
  | .hbm, ⟨9, _⟩ => ⟨S2048x5632, .f32⟩
  | .hbm, ⟨10, _⟩ => ⟨S5632x2048, .f32⟩
  | .hbm, ⟨11, _⟩ => ⟨S2048x5632, .f32⟩
  | .hbm, ⟨12, _⟩ => ⟨S4224x2048, .f32⟩
  | .hbm, ⟨13, _⟩ => ⟨S_, .f32⟩
  | .hbm, ⟨14, _⟩ => ⟨S4224, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1, .f32⟩
  | .hbm, ⟨23, _⟩ => ⟨S4224x1, .f32⟩
  | .hbm, ⟨24, _⟩ => ⟨S_, .f32⟩
  | .hbm, ⟨25, _⟩ => ⟨S4224x1, .f32⟩
  | .hbm, ⟨26, _⟩ => ⟨S4224x1, .f32⟩
  | .hbm, ⟨27, _⟩ => ⟨S4224x2048, .f32⟩
  | .hbm, ⟨28, _⟩ => ⟨S4224x2048, .f32⟩
  | .hbm, ⟨29, _⟩ => ⟨S1x2048, .f32⟩
  | .hbm, ⟨30, _⟩ => ⟨S4224x2048, .f32⟩
  | .hbm, ⟨31, _⟩ => ⟨S4224x2048, .f32⟩
  | .hbm, ⟨32, _⟩ => ⟨S4224x5632, .f32⟩
  | .hbm, ⟨33, _⟩ => ⟨S4224x5632, .f32⟩
  | .hbm, ⟨34, _⟩ => ⟨S4224x5632, .f32⟩
  | .hbm, ⟨35, _⟩ => ⟨S4224x5632, .f32⟩
  | .hbm, ⟨36, _⟩ => ⟨S4224x2048, .f32⟩
  | .hbm, ⟨37, _⟩ => ⟨S4224x2048, .f32⟩
  | .hbm, ⟨38, _⟩ => ⟨S4224x2048, .f32⟩
  | .hbm, ⟨39, _⟩ => ⟨S4224x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4224x2048, .f32⟩
  | .hbm, ⟨44, _⟩ => ⟨S4224x2048, .f32⟩
  | .hbm, ⟨45, _⟩ => ⟨S_, .f32⟩
  | .hbm, ⟨46, _⟩ => ⟨S2048, .f32⟩
  | .hbm, ⟨47, _⟩ => ⟨S4224x2048, .f32⟩
  | .hbm, ⟨48, _⟩ => ⟨S_, .f32⟩
  | .hbm, ⟨49, _⟩ => ⟨S4224, .f32⟩
  | .hbm, ⟨50, _⟩ => ⟨S4224x1, .f32⟩
  | .hbm, ⟨51, _⟩ => ⟨S4224x2048, .f32⟩
  | .hbm, ⟨52, _⟩ => ⟨S4224x2048, .f32⟩
  | .hbm, ⟨53, _⟩ => ⟨S4224x2048, .f32⟩
  | .hbm, ⟨54, _⟩ => ⟨S4224x1, .f32⟩
  | .hbm, ⟨55, _⟩ => ⟨S_, .f32⟩
  | .hbm, ⟨56, _⟩ => ⟨S4224x1, .f32⟩
  | .hbm, ⟨57, _⟩ => ⟨S4224x1, .f32⟩
  | .hbm, ⟨58, _⟩ => ⟨S_, .f32⟩
  | .hbm, ⟨59, _⟩ => ⟨S4224, .f32⟩
  | .hbm, ⟨60, _⟩ => ⟨S4224x2048, .f32⟩
  | .hbm, ⟨61, _⟩ => ⟨S4224x2048, .f32⟩
  | .hbm, ⟨62, _⟩ => ⟨S4224x2048, .f32⟩
  | .hbm, ⟨63, _⟩ => ⟨S4224x2048, .f32⟩
  | .hbm, ⟨64, _⟩ => ⟨S4224x2048, .f32⟩
  | .hbm, ⟨65, _⟩ => ⟨S1x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Fxa.lean ====
abbrev S4224x5632 : Shape := ⟨2, ![4224, 5632]⟩
abbrev S5632x2048 : Shape := ⟨2, ![5632, 2048]⟩
abbrev S4224x2048 : Shape := ⟨2, ![4224, 2048]⟩
abbrev S1x2048 : Shape := ⟨2, ![1, 2048]⟩
abbrev S_ : Shape := ⟨0, ![]⟩
abbrev S2112x2048 : Shape := ⟨2, ![2112, 2048]⟩
abbrev S528x512 : Shape := ⟨2, ![528, 512]⟩
abbrev S512x2048 : Shape := ⟨2, ![512, 2048]⟩
abbrev S528x2048 : Shape := ⟨2, ![528, 2048]⟩
abbrev S1x528x2048 : Shape := ⟨3, ![1, 528, 2048]⟩
abbrev S528 : Shape := ⟨1, ![528]⟩
abbrev S528x1 : Shape := ⟨2, ![528, 1]⟩
abbrev S2048 : Shape := ⟨1, ![2048]⟩

abbrev nBuf : Space → Nat
  | .hbm => 11
  | .vmem => 18
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x5632, .bf16⟩
  | .hbm, ⟨3, _⟩ => ⟨S5632x2048, .bf16⟩
  | .hbm, ⟨4, _⟩ => ⟨S4224x2048, .f32⟩
  | .hbm, ⟨5, _⟩ => ⟨S1x2048, .f32⟩
  | .hbm, ⟨6, _⟩ => ⟨S4224x2048, .f32⟩
  | .hbm, ⟨7, _⟩ => ⟨S_, .f32⟩
  | .hbm, ⟨8, _⟩ => ⟨S1x2048, .f32⟩
  | .hbm, ⟨9, _⟩ => ⟨S2112x2048, .f32⟩
  | .hbm, ⟨10, _⟩ => ⟨S1x2048, .f32⟩
  | .local _ .vmem, ⟨0, _⟩ => ⟨S528x512, .bf16⟩
  | .local _ .vmem, ⟨1, _⟩ => ⟨S528x512, .bf16⟩
  | .local _ .vmem, ⟨2, _⟩ => ⟨S512x2048, .bf16⟩
  | .local _ .vmem, ⟨3, _⟩ => ⟨S512x2048, .bf16⟩
  | .local _ .vmem, ⟨4, _⟩ => ⟨S528x512, .bf16⟩
  | .local _ .vmem, ⟨5, _⟩ => ⟨S528x512, .bf16⟩
  | .local _ .vmem, ⟨6, _⟩ => ⟨S512x2048, .bf16⟩
  | .local _ .vmem, ⟨7, _⟩ => ⟨S512x2048, .bf16⟩
  | .local _ .vmem, ⟨8, _⟩ => ⟨S528x2048, .f32⟩
  | .local _ .vmem, ⟨9, _⟩ => ⟨S528x2048, .f32⟩
  | .local _ .vmem, ⟨10, _⟩ => ⟨S1x2048, .f32⟩
  | .local _ .vmem, ⟨11, _⟩ => ⟨S528x2048, .f32⟩
  | .local _ .vmem, ⟨12, _⟩ => ⟨S528x2048, .f32⟩
  | .local _ .vmem, ⟨13, _⟩ => ⟨S1x2048, .f32⟩
  | .local _ .vmem, ⟨14, _⟩ => ⟨S528x2048, .f32⟩
  | .local _ .vmem, ⟨15, _⟩ => ⟨S528x2048, .f32⟩
  | .local _ .vmem, ⟨16, _⟩ => ⟨S1x2048, .f32⟩
  | .local _ .vmem, ⟨17, _⟩ => ⟨S1x528x2048, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨3, ![4, 11, 1], ![false, false, false]⟩

def k0_cond2 (i : grid0.Coords) : BitVec 1 :=
  let arg1 : BitVec 32 := BitVec.ofNat 32 (i 1).val
  let c0_i32_3 : BitVec 32 := 0#32
  let v7 : BitVec 1 := Scalar.cmpi .eq arg1 c0_i32_3
  let v8 : BitVec 32 := Scalar.extui v7
  let c0_i32_4 : BitVec 32 := 0#32
  let v9 : BitVec 1 := Scalar.cmpi .ne v8 c0_i32_4
  v9

def k0_off1 (i : grid0.Coords) : Fin 3 → Nat :=
  let arg2 : BitVec 32 := BitVec.ofNat 32 (i 2).val
  let v36 : Index := Scalar.indexCast arg2
  let c0_23 : Index := 0#32
  let c0_24 : Index := 0#32
  ![v36.toNat, 0, 0]
def k0_off2 (i : grid0.Coords) : Fin 3 → Nat :=
  let arg2 : BitVec 32 := BitVec.ofNat 32 (i 2).val
  let v10 : Index := Scalar.indexCast arg2
  let c0 : Index := 0#32
  let c0_5 : Index := 0#32
  ![v10.toNat, 0, 0]
def k0_cond3 (i : grid0.Coords) : BitVec 1 :=
  let arg1 : BitVec 32 := BitVec.ofNat 32 (i 1).val
  let c10_i32 : BitVec 32 := 10#32
  let v32 : BitVec 1 := Scalar.cmpi .eq arg1 c10_i32
  let v33 : BitVec 32 := Scalar.extui v32
  let c0_i32_21 : BitVec 32 := 0#32
  let v34 : BitVec 1 := Scalar.cmpi .ne v33 c0_i32_21
  v34

def k0_off3 (i : grid0.Coords) : Fin 3 → Nat :=
  let arg2 : BitVec 32 := BitVec.ofNat 32 (i 2).val
  let v37 : Index := Scalar.indexCast arg2
  let c0_26 : Index := 0#32
  let c0_27 : Index := 0#32
  ![v37.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S528x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S528x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S528x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S528x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S528x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== FxaRefIdeal.lean ====
abbrev S4224x5632 : Shape := ⟨2, ![4224, 5632]⟩
abbrev S5632x2048 : Shape := ⟨2, ![5632, 2048]⟩
abbrev S4224x2048 : Shape := ⟨2, ![4224, 2048]⟩
abbrev S1x2048 : Shape := ⟨2, ![1, 2048]⟩
abbrev S2112x5632 : Shape := ⟨2, ![2112, 5632]⟩
abbrev S2112x2048 : Shape := ⟨2, ![2112, 2048]⟩
abbrev S2048 : Shape := ⟨1, ![2048]⟩
abbrev S2048x5632 : Shape := ⟨2, ![2048, 5632]⟩
abbrev S_ : Shape := ⟨0, ![]⟩
abbrev S2112 : Shape := ⟨1, ![2112]⟩
abbrev S2112x1 : Shape := ⟨2, ![2112, 1]⟩

abbrev nBuf : Space → Nat
  | .hbm => 70
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x5632, .bf16⟩
  | .hbm, ⟨3, _⟩ => ⟨S5632x2048, .bf16⟩
  | .hbm, ⟨4, _⟩ => ⟨S4224x2048, .f32⟩
  | .hbm, ⟨5, _⟩ => ⟨S1x2048, .f32⟩
  | .hbm, ⟨6, _⟩ => ⟨S4224x2048, .f32⟩
  | .hbm, ⟨7, _⟩ => ⟨S2112x5632, .bf16⟩
  | .hbm, ⟨8, _⟩ => ⟨S2112x5632, .bf16⟩
  | .hbm, ⟨9, _⟩ => ⟨S2112x2048, .f32⟩
  | .hbm, ⟨10, _⟩ => ⟨S2112x2048, .f32⟩
  | .hbm, ⟨11, _⟩ => ⟨S2048, .f32⟩
  | .hbm, ⟨12, _⟩ => ⟨S5632x2048, .f32⟩
  | .hbm, ⟨13, _⟩ => ⟨S2048x5632, .f32⟩
  | .hbm, ⟨14, _⟩ => ⟨S5632x2048, .f32⟩
  | .hbm, ⟨15, _⟩ => ⟨S2048x5632, .f32⟩
  | .hbm, ⟨16, _⟩ => ⟨S2112x2048, .f32⟩
  | .hbm, ⟨17, _⟩ => ⟨S_, .f32⟩
  | .hbm, ⟨18, _⟩ => ⟨S2112, .f32⟩
  | .hbm, ⟨19, _⟩ => ⟨S2112x1, .f32⟩
  | .hbm, ⟨20, _⟩ => ⟨S_, .f32⟩
  | .hbm, ⟨21, _⟩ => ⟨S2112x1, .f32⟩
  | .hbm, ⟨22, _⟩ => ⟨S2112x1, .f32⟩
  | .hbm, ⟨23, _⟩ => ⟨S_, .f32⟩
  | .hbm, ⟨24, _⟩ => ⟨S2112x1, .f32⟩
  | .hbm, ⟨25, _⟩ => ⟨S2112x1, .f32⟩
  | .hbm, ⟨26, _⟩ => ⟨S2112x1, .f32⟩
  | .hbm, ⟨27, _⟩ => ⟨S2112x1, .f32⟩
  | .hbm, ⟨28, _⟩ => ⟨S_, .f32⟩
  | .hbm, ⟨29, _⟩ => ⟨S2112x1, .f32⟩
  | .hbm, ⟨30, _⟩ => ⟨S2112x1, .f32⟩
  | .hbm, ⟨31, _⟩ => ⟨S2112x2048, .f32⟩
  | .hbm, ⟨32, _⟩ => ⟨S2112x2048, .f32⟩
  | .hbm, ⟨33, _⟩ => ⟨S1x2048, .f32⟩
  | .hbm, ⟨34, _⟩ => ⟨S2112x2048, .f32⟩
  | .hbm, ⟨35, _⟩ => ⟨S2112x2048, .f32⟩
  | .hbm, ⟨36, _⟩ => ⟨S2112x5632, .f32⟩
  | .hbm, ⟨37, _⟩ => ⟨S2112x5632, .f32⟩
  | .hbm, ⟨38, _⟩ => ⟨S2112x5632, .f32⟩
  | .hbm, ⟨39, _⟩ => ⟨S2112x5632, .f32⟩
  | .hbm, ⟨40, _⟩ => ⟨S2112x2048, .f32⟩
  | .hbm, ⟨41, _⟩ => ⟨S2112x2048, .f32⟩
  | .hbm, ⟨42, _⟩ => ⟨S2112x2048, .f32⟩
  | .hbm, ⟨43, _⟩ => ⟨S2112x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S2112x2048, .f32⟩
  | .hbm, ⟨48, _⟩ => ⟨S2112x2048, .f32⟩
  | .hbm, ⟨49, _⟩ => ⟨S_, .f32⟩
  | .hbm, ⟨50, _⟩ => ⟨S2048, .f32⟩
  | .hbm, ⟨51, _⟩ => ⟨S2112x2048, .f32⟩
  | .hbm, ⟨52, _⟩ => ⟨S_, .f32⟩
  | .hbm, ⟨53, _⟩ => ⟨S2112, .f32⟩
  | .hbm, ⟨54, _⟩ => ⟨S2112x1, .f32⟩
  | .hbm, ⟨55, _⟩ => ⟨S2112x2048, .f32⟩
  | .hbm, ⟨56, _⟩ => ⟨S2112x2048, .f32⟩
  | .hbm, ⟨57, _⟩ => ⟨S2112x2048, .f32⟩
  | .hbm, ⟨58, _⟩ => ⟨S2112x1, .f32⟩
  | .hbm, ⟨59, _⟩ => ⟨S_, .f32⟩
  | .hbm, ⟨60, _⟩ => ⟨S2112x1, .f32⟩
  | .hbm, ⟨61, _⟩ => ⟨S2112x1, .f32⟩
  | .hbm, ⟨62, _⟩ => ⟨S_, .f32⟩
  | .hbm, ⟨63, _⟩ => ⟨S2112, .f32⟩
  | .hbm, ⟨64, _⟩ => ⟨S2112x2048, .f32⟩
  | .hbm, ⟨65, _⟩ => ⟨S2112x2048, .f32⟩
  | .hbm, ⟨66, _⟩ => ⟨S2112x2048, .f32⟩
  | .hbm, ⟨67, _⟩ => ⟨S2112x2048, .f32⟩
  | .hbm, ⟨68, _⟩ => ⟨S2112x2048, .f32⟩
  | .hbm, ⟨69, _⟩ => ⟨S1x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Fxb.lean ====
abbrev S4224x5632 : Shape := ⟨2, ![4224, 5632]⟩
abbrev S5632x2048 : Shape := ⟨2, ![5632, 2048]⟩
abbrev S4224x2048 : Shape := ⟨2, ![4224, 2048]⟩
abbrev S1x2048 : Shape := ⟨2, ![1, 2048]⟩
abbrev S2112x2048 : Shape := ⟨2, ![2112, 2048]⟩
abbrev S528x512 : Shape := ⟨2, ![528, 512]⟩
abbrev S512x2048 : Shape := ⟨2, ![512, 2048]⟩
abbrev S528x2048 : Shape := ⟨2, ![528, 2048]⟩
abbrev S1x528x2048 : Shape := ⟨3, ![1, 528, 2048]⟩
abbrev S528 : Shape := ⟨1, ![528]⟩
abbrev S528x1 : Shape := ⟨2, ![528, 1]⟩
abbrev S2048 : Shape := ⟨1, ![2048]⟩

abbrev nBuf : Space → Nat
  | .hbm => 10
  | .vmem => 18
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x5632, .bf16⟩
  | .hbm, ⟨3, _⟩ => ⟨S5632x2048, .bf16⟩
  | .hbm, ⟨4, _⟩ => ⟨S4224x2048, .f32⟩
  | .hbm, ⟨5, _⟩ => ⟨S1x2048, .f32⟩
  | .hbm, ⟨6, _⟩ => ⟨S4224x2048, .f32⟩
  | .hbm, ⟨7, _⟩ => ⟨S1x2048, .f32⟩
  | .hbm, ⟨8, _⟩ => ⟨S2112x2048, .f32⟩
  | .hbm, ⟨9, _⟩ => ⟨S1x2048, .f32⟩
  | .local _ .vmem, ⟨0, _⟩ => ⟨S528x512, .bf16⟩
  | .local _ .vmem, ⟨1, _⟩ => ⟨S528x512, .bf16⟩
  | .local _ .vmem, ⟨2, _⟩ => ⟨S512x2048, .bf16⟩
  | .local _ .vmem, ⟨3, _⟩ => ⟨S512x2048, .bf16⟩
  | .local _ .vmem, ⟨4, _⟩ => ⟨S528x512, .bf16⟩
  | .local _ .vmem, ⟨5, _⟩ => ⟨S528x512, .bf16⟩
  | .local _ .vmem, ⟨6, _⟩ => ⟨S512x2048, .bf16⟩
  | .local _ .vmem, ⟨7, _⟩ => ⟨S512x2048, .bf16⟩
  | .local _ .vmem, ⟨8, _⟩ => ⟨S528x2048, .f32⟩
  | .local _ .vmem, ⟨9, _⟩ => ⟨S528x2048, .f32⟩
  | .local _ .vmem, ⟨10, _⟩ => ⟨S1x2048, .f32⟩
  | .local _ .vmem, ⟨11, _⟩ => ⟨S528x2048, .f32⟩
  | .local _ .vmem, ⟨12, _⟩ => ⟨S528x2048, .f32⟩
  | .local _ .vmem, ⟨13, _⟩ => ⟨S1x2048, .f32⟩
  | .local _ .vmem, ⟨14, _⟩ => ⟨S528x2048, .f32⟩
  | .local _ .vmem, ⟨15, _⟩ => ⟨S528x2048, .f32⟩
  | .local _ .vmem, ⟨16, _⟩ => ⟨S1x2048, .f32⟩
  | .local _ .vmem, ⟨17, _⟩ => ⟨S1x528x2048, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨3, ![4, 11, 1], ![false, false, false]⟩

def k0_cond2 (i : grid0.Coords) : BitVec 1 :=
  let arg1 : BitVec 32 := BitVec.ofNat 32 (i 1).val
  let c0_i32_3 : BitVec 32 := 0#32
  let v7 : BitVec 1 := Scalar.cmpi .eq arg1 c0_i32_3
  let v8 : BitVec 32 := Scalar.extui v7
  let c0_i32_4 : BitVec 32 := 0#32
  let v9 : BitVec 1 := Scalar.cmpi .ne v8 c0_i32_4
  v9

def k0_off1 (i : grid0.Coords) : Fin 3 → Nat :=
  let arg2 : BitVec 32 := BitVec.ofNat 32 (i 2).val
  let v36 : Index := Scalar.indexCast arg2
  let c0_23 : Index := 0#32
  let c0_24 : Index := 0#32
  ![v36.toNat, 0, 0]
def k0_off2 (i : grid0.Coords) : Fin 3 → Nat :=
  let arg2 : BitVec 32 := BitVec.ofNat 32 (i 2).val
  let v10 : Index := Scalar.indexCast arg2
  let c0 : Index := 0#32
  let c0_5 : Index := 0#32
  ![v10.toNat, 0, 0]
def k0_cond3 (i : grid0.Coords) : BitVec 1 :=
  let arg1 : BitVec 32 := BitVec.ofNat 32 (i 1).val
  let c10_i32 : BitVec 32 := 10#32
  let v32 : BitVec 1 := Scalar.cmpi .eq arg1 c10_i32
  let v33 : BitVec 32 := Scalar.extui v32
  let c0_i32_21 : BitVec 32 := 0#32
  let v34 : BitVec 1 := Scalar.cmpi .ne v33 c0_i32_21
  v34

def k0_off3 (i : grid0.Coords) : Fin 3 → Nat :=
  let arg2 : BitVec 32 := BitVec.ofNat 32 (i 2).val
  let v37 : Index := Scalar.indexCast arg2
  let c0_26 : Index := 0#32
  let c0_27 : Index := 0#32
  ![v37.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c4_i32 : BitVec 32 := 4#32
  let v1 : BitVec 32 := Scalar.addi c4_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c4_i32 : BitVec 32 := 4#32
  let v1 : BitVec 32 := Scalar.addi c4_i32 v0
  let v2 : BitVec 32 := Scalar.addi v1 arg2
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c4_i32 : BitVec 32 := 4#32
  let v4 : BitVec 32 := Scalar.addi c4_i32 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c4_i32 : BitVec 32 := 4#32
  let v4 : BitVec 32 := Scalar.addi c4_i32 v3
  let c0_i32_0 : BitVec 32 := 0#32
  let c0_i32_1 : BitVec 32 := 0#32
  ![v4.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S528x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S528x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S528x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S528x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S528x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== FxbRefIdeal.lean ====
abbrev S4224x5632 : Shape := ⟨2, ![4224, 5632]⟩
abbrev S5632x2048 : Shape := ⟨2, ![5632, 2048]⟩
abbrev S4224x2048 : Shape := ⟨2, ![4224, 2048]⟩
abbrev S1x2048 : Shape := ⟨2, ![1, 2048]⟩
abbrev S2112x5632 : Shape := ⟨2, ![2112, 5632]⟩
abbrev S2112x2048 : Shape := ⟨2, ![2112, 2048]⟩
abbrev S2048 : Shape := ⟨1, ![2048]⟩
abbrev S2048x5632 : Shape := ⟨2, ![2048, 5632]⟩
abbrev S_ : Shape := ⟨0, ![]⟩
abbrev S2112 : Shape := ⟨1, ![2112]⟩
abbrev S2112x1 : Shape := ⟨2, ![2112, 1]⟩

abbrev nBuf : Space → Nat
  | .hbm => 72
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x5632, .bf16⟩
  | .hbm, ⟨3, _⟩ => ⟨S5632x2048, .bf16⟩
  | .hbm, ⟨4, _⟩ => ⟨S4224x2048, .f32⟩
  | .hbm, ⟨5, _⟩ => ⟨S1x2048, .f32⟩
  | .hbm, ⟨6, _⟩ => ⟨S4224x2048, .f32⟩
  | .hbm, ⟨7, _⟩ => ⟨S1x2048, .f32⟩
  | .hbm, ⟨8, _⟩ => ⟨S2112x5632, .bf16⟩
  | .hbm, ⟨9, _⟩ => ⟨S2112x5632, .bf16⟩
  | .hbm, ⟨10, _⟩ => ⟨S2112x2048, .f32⟩
  | .hbm, ⟨11, _⟩ => ⟨S2112x2048, .f32⟩
  | .hbm, ⟨12, _⟩ => ⟨S2048, .f32⟩
  | .hbm, ⟨13, _⟩ => ⟨S5632x2048, .f32⟩
  | .hbm, ⟨14, _⟩ => ⟨S2048x5632, .f32⟩
  | .hbm, ⟨15, _⟩ => ⟨S5632x2048, .f32⟩
  | .hbm, ⟨16, _⟩ => ⟨S2048x5632, .f32⟩
  | .hbm, ⟨17, _⟩ => ⟨S2112x2048, .f32⟩
  | .hbm, ⟨18, _⟩ => ⟨S_, .f32⟩
  | .hbm, ⟨19, _⟩ => ⟨S2112, .f32⟩
  | .hbm, ⟨20, _⟩ => ⟨S2112x1, .f32⟩
  | .hbm, ⟨21, _⟩ => ⟨S_, .f32⟩
  | .hbm, ⟨22, _⟩ => ⟨S2112x1, .f32⟩
  | .hbm, ⟨23, _⟩ => ⟨S2112x1, .f32⟩
  | .hbm, ⟨24, _⟩ => ⟨S_, .f32⟩
  | .hbm, ⟨25, _⟩ => ⟨S2112x1, .f32⟩
  | .hbm, ⟨26, _⟩ => ⟨S2112x1, .f32⟩
  | .hbm, ⟨27, _⟩ => ⟨S2112x1, .f32⟩
  | .hbm, ⟨28, _⟩ => ⟨S2112x1, .f32⟩
  | .hbm, ⟨29, _⟩ => ⟨S_, .f32⟩
  | .hbm, ⟨30, _⟩ => ⟨S2112x1, .f32⟩
  | .hbm, ⟨31, _⟩ => ⟨S2112x1, .f32⟩
  | .hbm, ⟨32, _⟩ => ⟨S2112x2048, .f32⟩
  | .hbm, ⟨33, _⟩ => ⟨S2112x2048, .f32⟩
  | .hbm, ⟨34, _⟩ => ⟨S1x2048, .f32⟩
  | .hbm, ⟨35, _⟩ => ⟨S2112x2048, .f32⟩
  | .hbm, ⟨36, _⟩ => ⟨S2112x2048, .f32⟩
  | .hbm, ⟨37, _⟩ => ⟨S2112x5632, .f32⟩
  | .hbm, ⟨38, _⟩ => ⟨S2112x5632, .f32⟩
  | .hbm, ⟨39, _⟩ => ⟨S2112x5632, .f32⟩
  | .hbm, ⟨40, _⟩ => ⟨S2112x5632, .f32⟩
  | .hbm, ⟨41, _⟩ => ⟨S2112x2048, .f32⟩
  | .hbm, ⟨42, _⟩ => ⟨S2112x2048, .f32⟩
  | .hbm, ⟨43, _⟩ => ⟨S2112x2048, .f32⟩
  | .hbm, ⟨44, _⟩ => ⟨S2112x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S2112x2048, .f32⟩
  | .hbm, ⟨49, _⟩ => ⟨S2112x2048, .f32⟩
  | .hbm, ⟨50, _⟩ => ⟨S_, .f32⟩
  | .hbm, ⟨51, _⟩ => ⟨S2048, .f32⟩
  | .hbm, ⟨52, _⟩ => ⟨S2112x2048, .f32⟩
  | .hbm, ⟨53, _⟩ => ⟨S_, .f32⟩
  | .hbm, ⟨54, _⟩ => ⟨S2112, .f32⟩
  | .hbm, ⟨55, _⟩ => ⟨S2112x1, .f32⟩
  | .hbm, ⟨56, _⟩ => ⟨S2112x2048, .f32⟩
  | .hbm, ⟨57, _⟩ => ⟨S2112x2048, .f32⟩
  | .hbm, ⟨58, _⟩ => ⟨S2112x2048, .f32⟩
  | .hbm, ⟨59, _⟩ => ⟨S2112x1, .f32⟩
  | .hbm, ⟨60, _⟩ => ⟨S_, .f32⟩
  | .hbm, ⟨61, _⟩ => ⟨S2112x1, .f32⟩
  | .hbm, ⟨62, _⟩ => ⟨S2112x1, .f32⟩
  | .hbm, ⟨63, _⟩ => ⟨S_, .f32⟩
  | .hbm, ⟨64, _⟩ => ⟨S2112, .f32⟩
  | .hbm, ⟨65, _⟩ => ⟨S2112x2048, .f32⟩
  | .hbm, ⟨66, _⟩ => ⟨S2112x2048, .f32⟩
  | .hbm, ⟨67, _⟩ => ⟨S2112x2048, .f32⟩
  | .hbm, ⟨68, _⟩ => ⟨S2112x2048, .f32⟩
  | .hbm, ⟨69, _⟩ => ⟨S2112x2048, .f32⟩
  | .hbm, ⟨70, _⟩ => ⟨S1x2048, .f32⟩
  | .hbm, ⟨71, _⟩ => ⟨S1x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Mdx.lean ====
abbrev S4224x5120 : Shape := ⟨2, ![4224, 5120]⟩
abbrev S5120x2048 : Shape := ⟨2, ![5120, 2048]⟩
abbrev S4224x2048 : Shape := ⟨2, ![4224, 2048]⟩
abbrev S1x2048 : Shape := ⟨2, ![1, 2048]⟩
abbrev S_ : Shape := ⟨0, ![]⟩
abbrev S528x512 : Shape := ⟨2, ![528, 512]⟩
abbrev S512x2048 : Shape := ⟨2, ![512, 2048]⟩
abbrev S528x2048 : Shape := ⟨2, ![528, 2048]⟩
abbrev S1x528x2048 : Shape := ⟨3, ![1, 528, 2048]⟩
abbrev S528 : Shape := ⟨1, ![528]⟩
abbrev S528x1 : Shape := ⟨2, ![528, 1]⟩
abbrev S2048 : Shape := ⟨1, ![2048]⟩

abbrev nBuf : Space → Nat
  | .hbm => 13
  | .vmem => 20
  | .smem => 0
  | _ => 0

abbrev bufTy : (tb : Table) → Fin (tcTables nBuf tb) → BufTy
  | .hbm, ⟨0, _⟩ => ⟨S4224x5120, .bf16⟩
  | .hbm, ⟨1, _⟩ => ⟨S5120x2048, .bf16⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S4224x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S4224x2048, .f32⟩
  | .hbm, ⟨10, _⟩ => ⟨S1x2048, .f32⟩
  | .hbm, ⟨11, _⟩ => ⟨S4224x2048, .bf16⟩
  | .hbm, ⟨12, _⟩ => ⟨S1x2048, .f32⟩
  | .local _ .vmem, ⟨0, _⟩ => ⟨S528x512, .bf16⟩
  | .local _ .vmem, ⟨1, _⟩ => ⟨S528x512, .bf16⟩
  | .local _ .vmem, ⟨2, _⟩ => ⟨S512x2048, .bf16⟩
  | .local _ .vmem, ⟨3, _⟩ => ⟨S512x2048, .bf16⟩
  | .local _ .vmem, ⟨4, _⟩ => ⟨S528x2048, .f32⟩
  | .local _ .vmem, ⟨5, _⟩ => ⟨S528x2048, .f32⟩
  | .local _ .vmem, ⟨6, _⟩ => ⟨S1x2048, .f32⟩
  | .local _ .vmem, ⟨7, _⟩ => ⟨S528x2048, .f32⟩
  | .local _ .vmem, ⟨8, _⟩ => ⟨S528x2048, .f32⟩
  | .local _ .vmem, ⟨9, _⟩ => ⟨S1x2048, .f32⟩
  | .local _ .vmem, ⟨10, _⟩ => ⟨S528x2048, .f32⟩
  | .local _ .vmem, ⟨11, _⟩ => ⟨S528x2048, .f32⟩
  | .local _ .vmem, ⟨12, _⟩ => ⟨S1x2048, .f32⟩
  | .local _ .vmem, ⟨13, _⟩ => ⟨S528x2048, .f32⟩
  | .local _ .vmem, ⟨14, _⟩ => ⟨S528x2048, .f32⟩
  | .local _ .vmem, ⟨15, _⟩ => ⟨S1x2048, .f32⟩
  | .local _ .vmem, ⟨16, _⟩ => ⟨S528x2048, .bf16⟩
  | .local _ .vmem, ⟨17, _⟩ => ⟨S528x2048, .bf16⟩
  | .local _ .vmem, ⟨18, _⟩ => ⟨S1x2048, .f32⟩
  | .local _ .vmem, ⟨19, _⟩ => ⟨S1x528x2048, .f32⟩
  | _, _ => ⟨S4224x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨3, ![8, 10, 1], ![false, false, false]⟩

def k0_cond2 (i : grid0.Coords) : BitVec 1 :=
  let arg1 : BitVec 32 := BitVec.ofNat 32 (i 1).val
  let c0_i32_3 : BitVec 32 := 0#32
  let v7 : BitVec 1 := Scalar.cmpi .eq arg1 c0_i32_3
  let v8 : BitVec 32 := Scalar.extui v7
  let c0_i32_4 : BitVec 32 := 0#32
  let v9 : BitVec 1 := Scalar.cmpi .ne v8 c0_i32_4
  v9

def k0_off1 (i : grid0.Coords) : Fin 3 → Nat :=
  let arg2 : BitVec 32 := BitVec.ofNat 32 (i 2).val
  let v25 : Index := Scalar.indexCast arg2
  let c0_14 : Index := 0#32
  let c0_15 : Index := 0#32
  ![v25.toNat, 0, 0]
def k0_off2 (i : grid0.Coords) : Fin 3 → Nat :=
  let arg2 : BitVec 32 := BitVec.ofNat 32 (i 2).val
  let v10 : Index := Scalar.indexCast arg2
  let c0 : Index := 0#32
  let c0_5 : Index := 0#32
  ![v10.toNat, 0, 0]
def k0_cond3 (i : grid0.Coords) : BitVec 1 :=
  let arg1 : BitVec 32 := BitVec.ofNat 32 (i 1).val
  let c9_i32 : BitVec 32 := 9#32
  let v21 : BitVec 1 := Scalar.cmpi .eq arg1 c9_i32
  let v22 : BitVec 32 := Scalar.extui v21
  let c0_i32_12 : BitVec 32 := 0#32
  let v23 : BitVec 1 := Scalar.cmpi .ne v22 c0_i32_12
  v23

def k0_off3 (i : grid0.Coords) : Fin 3 → Nat :=
  let arg2 : BitVec 32 := BitVec.ofNat 32 (i 2).val
  let v26 : Index := Scalar.indexCast arg2
  let c0_17 : Index := 0#32
  let c0_18 : Index := 0#32
  ![v26.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c9_i32 : BitVec 32 := 9#32
  let v1 : BitVec 1 := Scalar.cmpi .eq arg1 c9_i32
  let c0_i32 : BitVec 32 := 0#32
  let v2 : BitVec 32 := Scalar.select v1 arg2 c0_i32
  let v3 : BitVec 32 := Scalar.addi v0 v2
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c9_i32 : BitVec 32 := 9#32
  let v1 : BitVec 1 := Scalar.cmpi .eq arg1 c9_i32
  let c0_i32 : BitVec 32 := 0#32
  let v2 : BitVec 32 := Scalar.select v1 arg2 c0_i32
  let v3 : BitVec 32 := Scalar.addi v0 v2
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c9_i32 : BitVec 32 := 9#32
  let v1 : BitVec 1 := Scalar.cmpi .eq arg1 c9_i32
  let c0_i32 : BitVec 32 := 0#32
  let v2 : BitVec 32 := Scalar.select v1 arg2 c0_i32
  let v3 : BitVec 32 := Scalar.addi v0 v2
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c9_i32 : BitVec 32 := 9#32
  let v1 : BitVec 1 := Scalar.cmpi .eq arg1 c9_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c9_i32 : BitVec 32 := 9#32
  let v1 : BitVec 1 := Scalar.cmpi .eq arg1 c9_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S528x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S528x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S528x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S528x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S528x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S528x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]
-- ==== MdxRefIdeal.lean ====
abbrev S4224x5120 : Shape := ⟨2, ![4224, 5120]⟩
abbrev S5120x2048 : Shape := ⟨2, ![5120, 2048]⟩
abbrev S4224x2048 : Shape := ⟨2, ![4224, 2048]⟩
abbrev S1x2048 : Shape := ⟨2, ![1, 2048]⟩
abbrev S2048 : Shape := ⟨1, ![2048]⟩
abbrev S2048x5120 : Shape := ⟨2, ![2048, 5120]⟩
abbrev S_ : Shape := ⟨0, ![]⟩
abbrev S4224 : Shape := ⟨1, ![4224]⟩
abbrev S4224x1 : Shape := ⟨2, ![4224, 1]⟩

abbrev nBuf : Space → Nat
  | .hbm => 114
  | .vmem => 0
  | .smem => 0
  | _ => 0

abbrev bufTy : (tb : Table) → Fin (tcTables nBuf tb) → BufTy
  | .hbm, ⟨0, _⟩ => ⟨S4224x5120, .bf16⟩
  | .hbm, ⟨1, _⟩ => ⟨S5120x2048, .bf16⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S4224x2048, .f32⟩
  | .hbm, ⟨6, _⟩ => ⟨S1x2048, .f32⟩
  | .hbm, ⟨7, _⟩ => ⟨S2048, .f32⟩
  | .hbm, ⟨8, _⟩ => ⟨S5120x2048, .f32⟩
  | .hbm, ⟨9, _⟩ => ⟨S2048x5120, .f32⟩
  | .hbm, ⟨10, _⟩ => ⟨S4224x2048, .f32⟩
  | .hbm, ⟨11, _⟩ => ⟨S_, .f32⟩
  | .hbm, ⟨12, _⟩ => ⟨S4224, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1, .f32⟩
  | .hbm, ⟨21, _⟩ => ⟨S4224x1, .f32⟩
  | .hbm, ⟨22, _⟩ => ⟨S_, .f32⟩
  | .hbm, ⟨23, _⟩ => ⟨S4224x1, .f32⟩
  | .hbm, ⟨24, _⟩ => ⟨S4224x1, .f32⟩
  | .hbm, ⟨25, _⟩ => ⟨S4224x2048, .f32⟩
  | .hbm, ⟨26, _⟩ => ⟨S4224x2048, .f32⟩
  | .hbm, ⟨27, _⟩ => ⟨S1x2048, .f32⟩
  | .hbm, ⟨28, _⟩ => ⟨S4224x2048, .f32⟩
  | .hbm, ⟨29, _⟩ => ⟨S4224x2048, .f32⟩
  | .hbm, ⟨30, _⟩ => ⟨S4224x5120, .f32⟩
  | .hbm, ⟨31, _⟩ => ⟨S4224x5120, .f32⟩
  | .hbm, ⟨32, _⟩ => ⟨S4224x2048, .f32⟩
  | .hbm, ⟨33, _⟩ => ⟨S4224x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4224x2048, .f32⟩
  | .hbm, ⟨38, _⟩ => ⟨S4224x2048, .f32⟩
  | .hbm, ⟨39, _⟩ => ⟨S_, .f32⟩
  | .hbm, ⟨40, _⟩ => ⟨S2048, .f32⟩
  | .hbm, ⟨41, _⟩ => ⟨S4224x2048, .f32⟩
  | .hbm, ⟨42, _⟩ => ⟨S_, .f32⟩
  | .hbm, ⟨43, _⟩ => ⟨S4224, .f32⟩
  | .hbm, ⟨44, _⟩ => ⟨S4224x1, .f32⟩
  | .hbm, ⟨45, _⟩ => ⟨S4224x2048, .f32⟩
  | .hbm, ⟨46, _⟩ => ⟨S4224x2048, .f32⟩
  | .hbm, ⟨47, _⟩ => ⟨S4224x2048, .f32⟩
  | .hbm, ⟨48, _⟩ => ⟨S4224x1, .f32⟩
  | .hbm, ⟨49, _⟩ => ⟨S_, .f32⟩
  | .hbm, ⟨50, _⟩ => ⟨S4224x1, .f32⟩
  | .hbm, ⟨51, _⟩ => ⟨S4224x1, .f32⟩
  | .hbm, ⟨52, _⟩ => ⟨S_, .f32⟩
  | .hbm, ⟨53, _⟩ => ⟨S4224, .f32⟩
  | .hbm, ⟨54, _⟩ => ⟨S4224x2048, .f32⟩
  | .hbm, ⟨55, _⟩ => ⟨S4224x2048, .f32⟩
  | .hbm, ⟨56, _⟩ => ⟨S4224x2048, .f32⟩
  | .hbm, ⟨57, _⟩ => ⟨S4224x2048, .f32⟩
  | .hbm, ⟨58, _⟩ => ⟨S4224x2048, .f32⟩
  | .hbm, ⟨59, _⟩ => ⟨S1x2048, .f32⟩
  | .hbm, ⟨60, _⟩ => ⟨S2048, .f32⟩
  | .hbm, ⟨61, _⟩ => ⟨S4224x2048, .f32⟩
  | .hbm, ⟨62, _⟩ => ⟨S_, .f32⟩
  | .hbm, ⟨63, _⟩ => ⟨S4224, .f32⟩
  | .hbm, ⟨64, _⟩ => ⟨S4224x1, .f32⟩
  | .hbm, ⟨65, _⟩ => ⟨S_, .f32⟩
  | .hbm, ⟨66, _⟩ => ⟨S4224x1, .f32⟩
  | .hbm, ⟨67, _⟩ => ⟨S4224x1, .f32⟩
  | .hbm, ⟨68, _⟩ => ⟨S_, .f32⟩
  | .hbm, ⟨69, _⟩ => ⟨S4224x1, .f32⟩
  | .hbm, ⟨70, _⟩ => ⟨S4224x1, .f32⟩
  | .hbm, ⟨71, _⟩ => ⟨S4224x1, .f32⟩
  | .hbm, ⟨72, _⟩ => ⟨S4224x1, .f32⟩
  | .hbm, ⟨73, _⟩ => ⟨S_, .f32⟩
  | .hbm, ⟨74, _⟩ => ⟨S4224x1, .f32⟩
  | .hbm, ⟨75, _⟩ => ⟨S4224x1, .f32⟩
  | .hbm, ⟨76, _⟩ => ⟨S4224x2048, .f32⟩
  | .hbm, ⟨77, _⟩ => ⟨S4224x2048, .f32⟩
  | .hbm, ⟨78, _⟩ => ⟨S1x2048, .f32⟩
  | .hbm, ⟨79, _⟩ => ⟨S4224x2048, .f32⟩
  | .hbm, ⟨80, _⟩ => ⟨S4224x2048, .f32⟩
  | .hbm, ⟨81, _⟩ => ⟨S_, .f32⟩
  | .hbm, ⟨82, _⟩ => ⟨S4224x2048, .f32⟩
  | .hbm, ⟨83, _⟩ => ⟨S4224x2048, .f32⟩
  | .hbm, ⟨84, _⟩ => ⟨S_, .f32⟩
  | .hbm, ⟨85, _⟩ => ⟨S4224x2048, .f32⟩
  | .hbm, ⟨86, _⟩ => ⟨S4224x2048, .f32⟩
  | .hbm, ⟨87, _⟩ => ⟨S4224x2048, .f32⟩
  | .hbm, ⟨88, _⟩ => ⟨S_, .f32⟩
  | .hbm, ⟨89, _⟩ => ⟨S2048, .f32⟩
  | .hbm, ⟨90, _⟩ => ⟨S1x2048, .f32⟩
  | .hbm, ⟨91, _⟩ => ⟨S4224x2048, .f32⟩
  | .hbm, ⟨92, _⟩ => ⟨S4224x2048, .f32⟩
  | .hbm, ⟨93, _⟩ => ⟨S_, .f32⟩
  | .hbm, ⟨94, _⟩ => ⟨S2048, .f32⟩
  | .hbm, ⟨95, _⟩ => ⟨S4224x2048, .f32⟩
  | .hbm, ⟨96, _⟩ => ⟨S_, .f32⟩
  | .hbm, ⟨97, _⟩ => ⟨S4224, .f32⟩
  | .hbm, ⟨98, _⟩ => ⟨S4224x1, .f32⟩
  | .hbm, ⟨99, _⟩ => ⟨S4224x2048, .f32⟩
  | .hbm, ⟨100, _⟩ => ⟨S4224x2048, .f32⟩
  | .hbm, ⟨101, _⟩ => ⟨S4224x1, .f32⟩
  | .hbm, ⟨102, _⟩ => ⟨S_, .f32⟩
  | .hbm, ⟨103, _⟩ => ⟨S4224x1, .f32⟩
  | .hbm, ⟨104, _⟩ => ⟨S4224x1, .f32⟩
  | .hbm, ⟨105, _⟩ => ⟨S_, .f32⟩
  | .hbm, ⟨106, _⟩ => ⟨S4224, .f32⟩
  | .hbm, ⟨107, _⟩ => ⟨S4224x2048, .f32⟩
  | .hbm, ⟨108, _⟩ => ⟨S4224x2048, .f32⟩
  | .hbm, ⟨109, _⟩ => ⟨S4224x2048, .f32⟩
  | .hbm, ⟨110, _⟩ => ⟨S4224x2048, .f32⟩
  | .hbm, ⟨111, _⟩ => ⟨S4224x2048, .f32⟩
  | .hbm, ⟨112, _⟩ => ⟨S1x2048, .f32⟩
  | .hbm, ⟨113, _⟩ => ⟨S4224x2048, .bf16⟩
  | _, _ => ⟨S4224x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_v71 : Ref sig .tc := ⟨.hbm, 95, rfl⟩
abbrev main_cst_16 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_v77 : Ref sig .tc := ⟨.hbm, 103, rfl⟩
abbrev main_v78 : Ref sig .tc := ⟨.hbm, 104, rfl⟩
abbrev main_cst_18 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩

abbrev nD : Nat := 1
abbrev τ : Topo := Topo.v7x

variable {F : FTy → Type} [FloatOps F]
-- ==== Fdn.lean ====
abbrev S4224x5632 : Shape := ⟨2, ![4224, 5632]⟩
abbrev S5632x2048 : Shape := ⟨2, ![5632, 2048]⟩
abbrev S4224x2048 : Shape := ⟨2, ![4224, 2048]⟩
abbrev S1x2048 : Shape := ⟨2, ![1, 2048]⟩
abbrev S528x512 : Shape := ⟨2, ![528, 512]⟩
abbrev S512x2048 : Shape := ⟨2, ![512, 2048]⟩
abbrev S528x2048 : Shape := ⟨2, ![528, 2048]⟩
abbrev S1x528x2048 : Shape := ⟨3, ![1, 528, 2048]⟩
abbrev S528 : Shape := ⟨1, ![528]⟩
abbrev S528x1 : Shape := ⟨2, ![528, 1]⟩

abbrev nBuf : Space → Nat
  | .hbm => 8
  | .vmem => 15
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .hbm, ⟨3, _⟩ => ⟨S1x2048, .f32⟩
  | .hbm, ⟨4, _⟩ => ⟨S1x2048, .f32⟩
  | .hbm, ⟨5, _⟩ => ⟨S4224x2048, .f32⟩
  | .hbm, ⟨6, _⟩ => ⟨S4224x2048, .f32⟩
  | .hbm, ⟨7, _⟩ => ⟨S4224x2048, .bf16⟩
  | .local _ .vmem, ⟨0, _⟩ => ⟨S528x512, .bf16⟩
  | .local _ .vmem, ⟨1, _⟩ => ⟨S528x512, .bf16⟩
  | .local _ .vmem, ⟨2, _⟩ => ⟨S512x2048, .bf16⟩
  | .local _ .vmem, ⟨3, _⟩ => ⟨S512x2048, .bf16⟩
  | .local _ .vmem, ⟨4, _⟩ => ⟨S528x2048, .f32⟩
  | .local _ .vmem, ⟨5, _⟩ => ⟨S528x2048, .f32⟩
  | .local _ .vmem, ⟨6, _⟩ => ⟨S1x2048, .f32⟩
  | .local _ .vmem, ⟨7, _⟩ => ⟨S1x2048, .f32⟩
  | .local _ .vmem, ⟨8, _⟩ => ⟨S528x2048, .f32⟩
  | .local _ .vmem, ⟨9, _⟩ => ⟨S528x2048, .f32⟩
  | .local _ .vmem, ⟨10, _⟩ => ⟨S528x2048, .f32⟩
  | .local _ .vmem, ⟨11, _⟩ => ⟨S528x2048, .f32⟩
  | .local _ .vmem, ⟨12, _⟩ => ⟨S528x2048, .bf16⟩
  | .local _ .vmem, ⟨13, _⟩ => ⟨S528x2048, .bf16⟩
  | .local _ .vmem, ⟨14, _⟩ => ⟨S1x528x2048, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 11, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v18 : Index := Scalar.indexCast arg2
  let c0_10 : Index := 0#32
  let c0_11 : Index := 0#32
  ![v18.toNat, 0, 0]
def k0_off2 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def k0_cond2 (i : grid0.Coords) : BitVec 1 :=
  let arg1 : BitVec 32 := BitVec.ofNat 32 (i 1).val
  let c10_i32 : BitVec 32 := 10#32
  let v14 : BitVec 1 := Scalar.cmpi .eq arg1 c10_i32
  let v15 : BitVec 32 := Scalar.extui v14
  let c0_i32_8 : BitVec 32 := 0#32
  let v16 : BitVec 1 := Scalar.cmpi .ne v15 c0_i32_8
  v16

def k0_off3 (i : grid0.Coords) : Fin 3 → Nat :=
  let arg2 : BitVec 32 := BitVec.ofNat 32 (i 2).val
  let v17 : Index := Scalar.indexCast arg2
  let c0_9 : Index := 0#32
  let c0_10 : Index := 0#32
  ![v17.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

abbrev stage0_0 : Fin 2 → Memref sig .tc .vmem S528x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S528x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S528x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S528x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S528x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== FdnRefIdeal.lean ====
abbrev S4224x5632 : Shape := ⟨2, ![4224, 5632]⟩
abbrev S5632x2048 : Shape := ⟨2, ![5632, 2048]⟩
abbrev S4224x2048 : Shape := ⟨2, ![4224, 2048]⟩
abbrev S1x2048 : Shape := ⟨2, ![1, 2048]⟩
abbrev S2048 : Shape := ⟨1, ![2048]⟩
abbrev S_ : Shape := ⟨0, ![]⟩
abbrev S4224 : Shape := ⟨1, ![4224]⟩
abbrev S4224x1 : Shape := ⟨2, ![4224, 1]⟩

abbrev nBuf : Space → Nat
  | .hbm => 47
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .hbm, ⟨3, _⟩ => ⟨S1x2048, .f32⟩
  | .hbm, ⟨4, _⟩ => ⟨S1x2048, .f32⟩
  | .hbm, ⟨5, _⟩ => ⟨S4224x5632, .f32⟩
  | .hbm, ⟨6, _⟩ => ⟨S5632x2048, .f32⟩
  | .hbm, ⟨7, _⟩ => ⟨S4224x2048, .f32⟩
  | .hbm, ⟨8, _⟩ => ⟨S2048, .f32⟩
  | .hbm, ⟨9, _⟩ => ⟨S4224x2048, .f32⟩
  | .hbm, ⟨10, _⟩ => ⟨S_, .f32⟩
  | .hbm, ⟨11, _⟩ => ⟨S4224, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x1, .f32⟩
  | .hbm, ⟨20, _⟩ => ⟨S4224x2048, .f32⟩
  | .hbm, ⟨21, _⟩ => ⟨S4224x2048, .f32⟩
  | .hbm, ⟨22, _⟩ => ⟨S1x2048, .f32⟩
  | .hbm, ⟨23, _⟩ => ⟨S4224x2048, .f32⟩
  | .hbm, ⟨24, _⟩ => ⟨S4224x2048, .f32⟩
  | .hbm, ⟨25, _⟩ => ⟨S_, .f32⟩
  | .hbm, ⟨26, _⟩ => ⟨S4224x2048, .f32⟩
  | .hbm, ⟨27, _⟩ => ⟨S4224x2048, .f32⟩
  | .hbm, ⟨28, _⟩ => ⟨S4224x2048, .f32⟩
  | .hbm, ⟨29, _⟩ => ⟨S2048, .f32⟩
  | .hbm, ⟨30, _⟩ => ⟨S4224x2048, .f32⟩
  | .hbm, ⟨31, _⟩ => ⟨S_, .f32⟩
  | .hbm, ⟨32, _⟩ => ⟨S4224, .f32⟩
  | .hbm, ⟨33, _⟩ => ⟨S4224x1, .f32⟩
  | .hbm, ⟨34, _⟩ => ⟨S_, .f32⟩
  | .hbm, ⟨35, _⟩ => ⟨S4224x1, .f32⟩
  | .hbm, ⟨36, _⟩ => ⟨S4224x1, .f32⟩
  | .hbm, ⟨37, _⟩ => ⟨S_, .f32⟩
  | .hbm, ⟨38, _⟩ => ⟨S4224x1, .f32⟩
  | .hbm, ⟨39, _⟩ => ⟨S4224x1, .f32⟩
  | .hbm, ⟨40, _⟩ => ⟨S4224x1, .f32⟩
  | .hbm, ⟨41, _⟩ => ⟨S4224x2048, .f32⟩
  | .hbm, ⟨42, _⟩ => ⟨S4224x2048, .f32⟩
  | .hbm, ⟨43, _⟩ => ⟨S1x2048, .f32⟩
  | .hbm, ⟨44, _⟩ => ⟨S4224x2048, .f32⟩
  | .hbm, ⟨45, _⟩ => ⟨S4224x2048, .f32⟩
  | .hbm, ⟨46, _⟩ => ⟨S4224x2048, .bf16⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Mop.lean ====
abbrev S4224x2048 : Shape := ⟨2, ![4224, 2048]⟩
abbrev S2048x2048 : Shape := ⟨2, ![2048, 2048]⟩
abbrev S1x2048 : Shape := ⟨2, ![1, 2048]⟩
abbrev S528x512 : Shape := ⟨2, ![528, 512]⟩
abbrev S512x2048 : Shape := ⟨2, ![512, 2048]⟩
abbrev S528x2048 : Shape := ⟨2, ![528, 2048]⟩
abbrev S1x528x2048 : Shape := ⟨3, ![1, 528, 2048]⟩
abbrev S528 : Shape := ⟨1, ![528]⟩
abbrev S528x1 : Shape := ⟨2, ![528, 1]⟩

abbrev nBuf : Space → Nat
  | .hbm => 8
  | .vmem => 15
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S1x2048, .f32⟩
  | .hbm, ⟨4, _⟩ => ⟨S1x2048, .f32⟩
  | .hbm, ⟨5, _⟩ => ⟨S4224x2048, .f32⟩
  | .hbm, ⟨6, _⟩ => ⟨S4224x2048, .f32⟩
  | .hbm, ⟨7, _⟩ => ⟨S4224x2048, .bf16⟩
  | .local _ .vmem, ⟨0, _⟩ => ⟨S528x512, .bf16⟩
  | .local _ .vmem, ⟨1, _⟩ => ⟨S528x512, .bf16⟩
  | .local _ .vmem, ⟨2, _⟩ => ⟨S512x2048, .bf16⟩
  | .local _ .vmem, ⟨3, _⟩ => ⟨S512x2048, .bf16⟩
  | .local _ .vmem, ⟨4, _⟩ => ⟨S528x2048, .f32⟩
  | .local _ .vmem, ⟨5, _⟩ => ⟨S528x2048, .f32⟩
  | .local _ .vmem, ⟨6, _⟩ => ⟨S1x2048, .f32⟩
  | .local _ .vmem, ⟨7, _⟩ => ⟨S1x2048, .f32⟩
  | .local _ .vmem, ⟨8, _⟩ => ⟨S528x2048, .f32⟩
  | .local _ .vmem, ⟨9, _⟩ => ⟨S528x2048, .f32⟩
  | .local _ .vmem, ⟨10, _⟩ => ⟨S528x2048, .f32⟩
  | .local _ .vmem, ⟨11, _⟩ => ⟨S528x2048, .f32⟩
  | .local _ .vmem, ⟨12, _⟩ => ⟨S528x2048, .bf16⟩
  | .local _ .vmem, ⟨13, _⟩ => ⟨S528x2048, .bf16⟩
  | .local _ .vmem, ⟨14, _⟩ => ⟨S1x528x2048, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v18 : Index := Scalar.indexCast arg2
  let c0_10 : Index := 0#32
  let c0_11 : Index := 0#32
  ![v18.toNat, 0, 0]
def k0_off2 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def k0_off3 (i : grid0.Coords) : Fin 3 → Nat :=
  let arg2 : BitVec 32 := BitVec.ofNat 32 (i 2).val
  let v17 : Index := Scalar.indexCast arg2
  let c0_9 : Index := 0#32
  let c0_10 : Index := 0#32
  ![v17.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c3_i32 : BitVec 32 := 3#32
  let v1 : BitVec 1 := Scalar.cmpi .eq arg1 c3_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c3_i32 : BitVec 32 := 3#32
  let v1 : BitVec 1 := Scalar.cmpi .eq arg1 c3_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c3_i32 : BitVec 32 := 3#32
  let v1 : BitVec 1 := Scalar.cmpi .eq arg1 c3_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c3_i32 : BitVec 32 := 3#32
  let v1 : BitVec 1 := Scalar.cmpi .eq arg1 c3_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

abbrev stage0_0 : Fin 2 → Memref sig .tc .vmem S528x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S528x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S528x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S528x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S528x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== MopRefIdeal.lean ====
abbrev S4224x2048 : Shape := ⟨2, ![4224, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4224 : Shape := ⟨1, ![4224]⟩
abbrev S4224x1 : Shape := ⟨2, ![4224, 1]⟩

abbrev nBuf : Space → Nat
  | .hbm => 44
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S1x2048, .f32⟩
  | .hbm, ⟨4, _⟩ => ⟨S1x2048, .f32⟩
  | .hbm, ⟨5, _⟩ => ⟨S4224x2048, .f32⟩
  | .hbm, ⟨6, _⟩ => ⟨S2048x2048, .f32⟩
  | .hbm, ⟨7, _⟩ => ⟨S4224x2048, .f32⟩
  | .hbm, ⟨8, _⟩ => ⟨S2048, .f32⟩
  | .hbm, ⟨9, _⟩ => ⟨S4224x2048, .f32⟩
  | .hbm, ⟨10, _⟩ => ⟨S_, .f32⟩
  | .hbm, ⟨11, _⟩ => ⟨S4224, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x1, .f32⟩
  | .hbm, ⟨20, _⟩ => ⟨S4224x2048, .f32⟩
  | .hbm, ⟨21, _⟩ => ⟨S4224x2048, .f32⟩
  | .hbm, ⟨22, _⟩ => ⟨S1x2048, .f32⟩
  | .hbm, ⟨23, _⟩ => ⟨S4224x2048, .f32⟩
  | .hbm, ⟨24, _⟩ => ⟨S4224x2048, .f32⟩
  | .hbm, ⟨25, _⟩ => ⟨S4224x2048, .f32⟩
  | .hbm, ⟨26, _⟩ => ⟨S2048, .f32⟩
  | .hbm, ⟨27, _⟩ => ⟨S4224x2048, .f32⟩
  | .hbm, ⟨28, _⟩ => ⟨S_, .f32⟩
  | .hbm, ⟨29, _⟩ => ⟨S4224, .f32⟩
  | .hbm, ⟨30, _⟩ => ⟨S4224x1, .f32⟩
  | .hbm, ⟨31, _⟩ => ⟨S_, .f32⟩
  | .hbm, ⟨32, _⟩ => ⟨S4224x1, .f32⟩
  | .hbm, ⟨33, _⟩ => ⟨S4224x1, .f32⟩
  | .hbm, ⟨34, _⟩ => ⟨S_, .f32⟩
  | .hbm, ⟨35, _⟩ => ⟨S4224x1, .f32⟩
  | .hbm, ⟨36, _⟩ => ⟨S4224x1, .f32⟩
  | .hbm, ⟨37, _⟩ => ⟨S4224x1, .f32⟩
  | .hbm, ⟨38, _⟩ => ⟨S4224x2048, .f32⟩
  | .hbm, ⟨39, _⟩ => ⟨S4224x2048, .f32⟩
  | .hbm, ⟨40, _⟩ => ⟨S1x2048, .f32⟩
  | .hbm, ⟨41, _⟩ => ⟨S4224x2048, .f32⟩
  | .hbm, ⟨42, _⟩ => ⟨S4224x2048, .f32⟩
  | .hbm, ⟨43, _⟩ => ⟨S4224x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Los.lean ====
abbrev S4224x5632 : Shape := ⟨2, ![4224, 5632]⟩
abbrev S5632x2048 : Shape := ⟨2, ![5632, 2048]⟩
abbrev S4224x2048 : Shape := ⟨2, ![4224, 2048]⟩
abbrev S1x2048 : Shape := ⟨2, ![1, 2048]⟩
abbrev S1x1 : Shape := ⟨2, ![1, 1]⟩
abbrev S528x512 : Shape := ⟨2, ![528, 512]⟩
abbrev S512x2048 : Shape := ⟨2, ![512, 2048]⟩
abbrev S528x2048 : Shape := ⟨2, ![528, 2048]⟩
abbrev S1x528x2048 : Shape := ⟨3, ![1, 528, 2048]⟩
abbrev S528 : Shape := ⟨1, ![528]⟩
abbrev S528x1 : Shape := ⟨2, ![528, 1]⟩
abbrev S1 : Shape := ⟨1, ![1]⟩
abbrev S2048 : Shape := ⟨1, ![2048]⟩

abbrev nBuf : Space → Nat
  | .hbm => 9
  | .vmem => 16
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S4224x2048, .f32⟩
  | .hbm, ⟨6, _⟩ => ⟨S4224x2048, .bf16⟩
  | .hbm, ⟨7, _⟩ => ⟨S1x2048, .f32⟩
  | .hbm, ⟨8, _⟩ => ⟨S1x1, .f32⟩
  | .local _ .vmem, ⟨0, _⟩ => ⟨S528x512, .bf16⟩
  | .local _ .vmem, ⟨1, _⟩ => ⟨S528x512, .bf16⟩
  | .local _ .vmem, ⟨2, _⟩ => ⟨S512x2048, .bf16⟩
  | .local _ .vmem, ⟨3, _⟩ => ⟨S512x2048, .bf16⟩
  | .local _ .vmem, ⟨4, _⟩ => ⟨S528x2048, .f32⟩
  | .local _ .vmem, ⟨5, _⟩ => ⟨S528x2048, .f32⟩
  | .local _ .vmem, ⟨6, _⟩ => ⟨S1x2048, .f32⟩
  | .local _ .vmem, ⟨7, _⟩ => ⟨S528x2048, .f32⟩
  | .local _ .vmem, ⟨8, _⟩ => ⟨S528x2048, .f32⟩
  | .local _ .vmem, ⟨9, _⟩ => ⟨S528x2048, .f32⟩
  | .local _ .vmem, ⟨10, _⟩ => ⟨S528x2048, .f32⟩
  | .local _ .vmem, ⟨11, _⟩ => ⟨S528x2048, .bf16⟩
  | .local _ .vmem, ⟨12, _⟩ => ⟨S528x2048, .bf16⟩
  | .local _ .vmem, ⟨13, _⟩ => ⟨S1x2048, .f32⟩
  | .local _ .vmem, ⟨14, _⟩ => ⟨S1x1, .f32⟩
  | .local _ .vmem, ⟨15, _⟩ => ⟨S1x528x2048, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg1 : BitVec 32 := BitVec.ofNat 32 (i 1).val
  let c0_i32_3 : BitVec 32 := 0#32
  let v7 : BitVec 1 := Scalar.cmpi .eq arg1 c0_i32_3
  let v8 : BitVec 32 := Scalar.extui v7
  let c0_i32_4 : BitVec 32 := 0#32
  let v9 : BitVec 1 := Scalar.cmpi .ne v8 c0_i32_4
  v9

def k0_off1 (i : grid0.Coords) : Fin 3 → Nat :=
  let arg2 : BitVec 32 := BitVec.ofNat 32 (i 2).val
  let v25 : Index := Scalar.indexCast arg2
  let c0_14 : Index := 0#32
  let c0_15 : Index := 0#32
  ![v25.toNat, 0, 0]
def k0_off2 (i : grid0.Coords) : Fin 3 → Nat :=
  let arg2 : BitVec 32 := BitVec.ofNat 32 (i 2).val
  let v10 : Index := Scalar.indexCast arg2
  let c0 : Index := 0#32
  let c0_5 : Index := 0#32
  ![v10.toNat, 0, 0]
def k0_cond3 (i : grid0.Coords) : BitVec 1 :=
  let arg1 : BitVec 32 := BitVec.ofNat 32 (i 1).val
  let c10_i32 : BitVec 32 := 10#32
  let v21 : BitVec 1 := Scalar.cmpi .eq arg1 c10_i32
  let v22 : BitVec 32 := Scalar.extui v21
  let c0_i32_12 : BitVec 32 := 0#32
  let v23 : BitVec 1 := Scalar.cmpi .ne v22 c0_i32_12
  v23

def k0_off3 (i : grid0.Coords) : Fin 3 → Nat :=
  let arg2 : BitVec 32 := BitVec.ofNat 32 (i 2).val
  let v24 : Index := Scalar.indexCast arg2
  let c0_13 : Index := 0#32
  let c0_14 : Index := 0#32
  ![v24.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c10_i32 : BitVec 32 := 10#32
  let v1 : BitVec 1 := Scalar.cmpi .eq arg1 c10_i32
  let c0_i32 : BitVec 32 := 0#32
  let v2 : BitVec 32 := Scalar.select v1 arg2 c0_i32
  let v3 : BitVec 32 := Scalar.addi v0 v2
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S528x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S528x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S528x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S528x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S528x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== LosRefIdeal.lean ====
abbrev S4224x5632 : Shape := ⟨2, ![4224, 5632]⟩
abbrev S5632x2048 : Shape := ⟨2, ![5632, 2048]⟩
abbrev S4224x2048 : Shape := ⟨2, ![4224, 2048]⟩
abbrev S1x2048 : Shape := ⟨2, ![1, 2048]⟩
abbrev S2048 : Shape := ⟨1, ![2048]⟩
abbrev S4096x2048 : Shape := ⟨2, ![4096, 2048]⟩
abbrev S_ : Shape := ⟨0, ![]⟩
abbrev S4224 : Shape := ⟨1, ![4224]⟩
abbrev S4224x1 : Shape := ⟨2, ![4224, 1]⟩
abbrev S4096 : Shape := ⟨1, ![4096]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S4224x5632, .f32⟩
  | .hbm, ⟨6, _⟩ => ⟨S5632x2048, .f32⟩
  | .hbm, ⟨7, _⟩ => ⟨S4224x2048, .f32⟩
  | .hbm, ⟨8, _⟩ => ⟨S2048, .f32⟩
  | .hbm, ⟨9, _⟩ => ⟨S4096x2048, .f32⟩
  | .hbm, ⟨10, _⟩ => ⟨S4224x2048, .f32⟩
  | .hbm, ⟨11, _⟩ => ⟨S_, .f32⟩
  | .hbm, ⟨12, _⟩ => ⟨S4224, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1, .f32⟩
  | .hbm, ⟨21, _⟩ => ⟨S4224x1, .f32⟩
  | .hbm, ⟨22, _⟩ => ⟨S_, .f32⟩
  | .hbm, ⟨23, _⟩ => ⟨S4224x1, .f32⟩
  | .hbm, ⟨24, _⟩ => ⟨S4224x1, .f32⟩
  | .hbm, ⟨25, _⟩ => ⟨S4224x2048, .f32⟩
  | .hbm, ⟨26, _⟩ => ⟨S4224x2048, .f32⟩
  | .hbm, ⟨27, _⟩ => ⟨S1x2048, .f32⟩
  | .hbm, ⟨28, _⟩ => ⟨S4224x2048, .f32⟩
  | .hbm, ⟨29, _⟩ => ⟨S4224x2048, .f32⟩
  | .hbm, ⟨30, _⟩ => ⟨S_, .f32⟩
  | .hbm, ⟨31, _⟩ => ⟨S4224x2048, .f32⟩
  | .hbm, ⟨32, _⟩ => ⟨S4224x2048, .f32⟩
  | .hbm, ⟨33, _⟩ => ⟨S4224x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4224x2048, .f32⟩
  | .hbm, ⟨60, _⟩ => ⟨S_, .f32⟩
  | .hbm, ⟨61, _⟩ => ⟨S4224x2048, .f32⟩
  | .hbm, ⟨62, _⟩ => ⟨S4224x2048, .f32⟩
  | .hbm, ⟨63, _⟩ => ⟨S4224x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S4224x2048, .f32⟩
  | .hbm, ⟨68, _⟩ => ⟨S4224x2048, .f32⟩
  | .hbm, ⟨69, _⟩ => ⟨S_, .f32⟩
  | .hbm, ⟨70, _⟩ => ⟨S2048, .f32⟩
  | .hbm, ⟨71, _⟩ => ⟨S4224x2048, .f32⟩
  | .hbm, ⟨72, _⟩ => ⟨S_, .f32⟩
  | .hbm, ⟨73, _⟩ => ⟨S4224, .f32⟩
  | .hbm, ⟨74, _⟩ => ⟨S4224x1, .f32⟩
  | .hbm, ⟨75, _⟩ => ⟨S4224x2048, .f32⟩
  | .hbm, ⟨76, _⟩ => ⟨S4224x2048, .f32⟩
  | .hbm, ⟨77, _⟩ => ⟨S4224x1, .f32⟩
  | .hbm, ⟨78, _⟩ => ⟨S_, .f32⟩
  | .hbm, ⟨79, _⟩ => ⟨S4224x1, .f32⟩
  | .hbm, ⟨80, _⟩ => ⟨S4224x1, .f32⟩
  | .hbm, ⟨81, _⟩ => ⟨S_, .f32⟩
  | .hbm, ⟨82, _⟩ => ⟨S4224, .f32⟩
  | .hbm, ⟨83, _⟩ => ⟨S4224x2048, .f32⟩
  | .hbm, ⟨84, _⟩ => ⟨S4224x2048, .f32⟩
  | .hbm, ⟨85, _⟩ => ⟨S4224x2048, .f32⟩
  | .hbm, ⟨86, _⟩ => ⟨S4224x2048, .f32⟩
  | .hbm, ⟨87, _⟩ => ⟨S4224x2048, .f32⟩
  | .hbm, ⟨88, _⟩ => ⟨S1x2048, .f32⟩
  | .hbm, ⟨89, _⟩ => ⟨S4224x2048, .bf16⟩
  | .hbm, ⟨90, _⟩ => ⟨S1x1, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_cst_9 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_17 : Ref sig .tc := ⟨.hbm, 78, rfl⟩
abbrev main_v55 : Ref sig .tc := ⟨.hbm, 79, rfl⟩
abbrev main_v56 : Ref sig .tc := ⟨.hbm, 80, rfl⟩
abbrev main_cst_18 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]
-- ==== Awi.lean ====
abbrev S2048x640 : Shape := ⟨2, ![2048, 640]⟩
abbrev S256x640 : Shape := ⟨2, ![256, 640]⟩

abbrev nBuf : Space → Nat
  | .hbm => 7
  | .vmem => 14
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S2048x640, .f32⟩
  | .hbm, ⟨5, _⟩ => ⟨S2048x640, .f32⟩
  | .hbm, ⟨6, _⟩ => ⟨S2048x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AwiRefIdeal.lean ====
abbrev S2048x640 : Shape := ⟨2, ![2048, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S2048x640, .f32⟩
  | .hbm, ⟨4, _⟩ => ⟨S_, .f32⟩
  | .hbm, ⟨5, _⟩ => ⟨S2048x640, .f32⟩
  | .hbm, ⟨6, _⟩ => ⟨S2048x640, .f32⟩
  | .hbm, ⟨7, _⟩ => ⟨S_, .f32⟩
  | .hbm, ⟨8, _⟩ => ⟨S2048x640, .f32⟩
  | .hbm, ⟨9, _⟩ => ⟨S2048x640, .f32⟩
  | .hbm, ⟨10, _⟩ => ⟨S2048x640, .f32⟩
  | .hbm, ⟨11, _⟩ => ⟨S_, .f32⟩
  | .hbm, ⟨12, _⟩ => ⟨S2048x640, .f32⟩
  | .hbm, ⟨13, _⟩ => ⟨S2048x640, .f32⟩
  | .hbm, ⟨14, _⟩ => ⟨S2048x640, .f32⟩
  | .hbm, ⟨15, _⟩ => ⟨S_, .f32⟩
  | .hbm, ⟨16, _⟩ => ⟨S2048x640, .f32⟩
  | .hbm, ⟨17, _⟩ => ⟨S2048x640, .f32⟩
  | .hbm, ⟨18, _⟩ => ⟨S2048x640, .f32⟩
  | .hbm, ⟨19, _⟩ => ⟨S_, .f32⟩
  | .hbm, ⟨20, _⟩ => ⟨S2048x640, .f32⟩
  | .hbm, ⟨21, _⟩ => ⟨S2048x640, .f32⟩
  | .hbm, ⟨22, _⟩ => ⟨S_, .f32⟩
  | .hbm, ⟨23, _⟩ => ⟨S2048x640, .f32⟩
  | .hbm, ⟨24, _⟩ => ⟨S2048x640, .f32⟩
  | .hbm, ⟨25, _⟩ => ⟨S2048x640, .f32⟩
  | .hbm, ⟨26, _⟩ => ⟨S_, .f32⟩
  | .hbm, ⟨27, _⟩ => ⟨S2048x640, .f32⟩
  | .hbm, ⟨28, _⟩ => ⟨S2048x640, .f32⟩
  | .hbm, ⟨29, _⟩ => ⟨S2048x640, .f32⟩
  | .hbm, ⟨30, _⟩ => ⟨S_, .f32⟩
  | .hbm, ⟨31, _⟩ => ⟨S2048x640, .f32⟩
  | .hbm, ⟨32, _⟩ => ⟨S2048x640, .f32⟩
  | .hbm, ⟨33, _⟩ => ⟨S2048x640, .f32⟩
  | .hbm, ⟨34, _⟩ => ⟨S_, .f32⟩
  | .hbm, ⟨35, _⟩ => ⟨S2048x640, .f32⟩
  | .hbm, ⟨36, _⟩ => ⟨S2048x640, .f32⟩
  | _, _ => ⟨S2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Asm.lean ====
abbrev S1280x128 : Shape := ⟨2, ![1280, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S1280x128, .f32⟩
  | .hbm, ⟨5, _⟩ => ⟨S1280x128, .f32⟩
  | .hbm, ⟨6, _⟩ => ⟨S1280x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AsmRefIdeal.lean ====
abbrev S1280x128 : Shape := ⟨2, ![1280, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S1280x128, .f32⟩
  | .hbm, ⟨4, _⟩ => ⟨S_, .f32⟩
  | .hbm, ⟨5, _⟩ => ⟨S1280x128, .f32⟩
  | .hbm, ⟨6, _⟩ => ⟨S1280x128, .f32⟩
  | .hbm, ⟨7, _⟩ => ⟨S_, .f32⟩
  | .hbm, ⟨8, _⟩ => ⟨S1280x128, .f32⟩
  | .hbm, ⟨9, _⟩ => ⟨S1280x128, .f32⟩
  | .hbm, ⟨10, _⟩ => ⟨S1280x128, .f32⟩
  | .hbm, ⟨11, _⟩ => ⟨S_, .f32⟩
  | .hbm, ⟨12, _⟩ => ⟨S1280x128, .f32⟩
  | .hbm, ⟨13, _⟩ => ⟨S1280x128, .f32⟩
  | .hbm, ⟨14, _⟩ => ⟨S1280x128, .f32⟩
  | .hbm, ⟨15, _⟩ => ⟨S_, .f32⟩
  | .hbm, ⟨16, _⟩ => ⟨S1280x128, .f32⟩
  | .hbm, ⟨17, _⟩ => ⟨S1280x128, .f32⟩
  | .hbm, ⟨18, _⟩ => ⟨S1280x128, .f32⟩
  | .hbm, ⟨19, _⟩ => ⟨S_, .f32⟩
  | .hbm, ⟨20, _⟩ => ⟨S1280x128, .f32⟩
  | .hbm, ⟨21, _⟩ => ⟨S1280x128, .f32⟩
  | .hbm, ⟨22, _⟩ => ⟨S_, .f32⟩
  | .hbm, ⟨23, _⟩ => ⟨S1280x128, .f32⟩
  | .hbm, ⟨24, _⟩ => ⟨S1280x128, .f32⟩
  | .hbm, ⟨25, _⟩ => ⟨S1280x128, .f32⟩
  | .hbm, ⟨26, _⟩ => ⟨S_, .f32⟩
  | .hbm, ⟨27, _⟩ => ⟨S1280x128, .f32⟩
  | .hbm, ⟨28, _⟩ => ⟨S1280x128, .f32⟩
  | .hbm, ⟨29, _⟩ => ⟨S1280x128, .f32⟩
  | .hbm, ⟨30, _⟩ => ⟨S_, .f32⟩
  | .hbm, ⟨31, _⟩ => ⟨S1280x128, .f32⟩
  | .hbm, ⟨32, _⟩ => ⟨S1280x128, .f32⟩
  | .hbm, ⟨33, _⟩ => ⟨S1280x128, .f32⟩
  | .hbm, ⟨34, _⟩ => ⟨S_, .f32⟩
  | .hbm, ⟨35, _⟩ => ⟨S1280x128, .f32⟩
  | .hbm, ⟨36, _⟩ => ⟨S1280x128, .f32⟩
  | _, _ => ⟨S1280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Swi.lean ====
abbrev S5120x2048 : Shape := ⟨2, ![5120, 2048]⟩
abbrev S4x640x2048 : Shape := ⟨3, ![4, 640, 2048]⟩
abbrev S3x640x2048 : Shape := ⟨3, ![3, 640, 2048]⟩
abbrev S_ : Shape := ⟨0, ![]⟩
abbrev S1 : Shape := ⟨1, ![1]⟩
abbrev S8 : Shape := ⟨1, ![8]⟩
abbrev S640x2048 : Shape := ⟨2, ![640, 2048]⟩
abbrev S640x512 : Shape := ⟨2, ![640, 512]⟩
abbrev S1x640x512 : Shape := ⟨3, ![1, 640, 512]⟩
abbrev S3x640x512 : Shape := ⟨3, ![3, 640, 512]⟩

abbrev nBuf : Space → Nat
  | .hbm => 20
  | .vmem => 8
  | .smem => 1
  | _ => 0

abbrev bufTy : (tb : Table) → Fin (tcTables nBuf tb) → BufTy
  | .hbm, ⟨0, _⟩ => ⟨S5120x2048, .bf16⟩
  | .hbm, ⟨1, _⟩ => ⟨S4x640x2048, .bf16⟩
  | .hbm, ⟨2, _⟩ => ⟨S3x640x2048, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S1, .i32⟩
  | .hbm, ⟨13, _⟩ => ⟨S1, .i32⟩
  | .hbm, ⟨14, _⟩ => ⟨S1, .i32⟩
  | .hbm, ⟨15, _⟩ => ⟨S1, .i32⟩
  | .hbm, ⟨16, _⟩ => ⟨S1, .i32⟩
  | .hbm, ⟨17, _⟩ => ⟨S1, .i32⟩
  | .hbm, ⟨18, _⟩ => ⟨S1, .i32⟩
  | .hbm, ⟨19, _⟩ => ⟨S640x2048, .f32⟩
  | .local _ .vmem, ⟨0, _⟩ => ⟨S640x512, .bf16⟩
  | .local _ .vmem, ⟨1, _⟩ => ⟨S640x512, .bf16⟩
  | .local _ .vmem, ⟨2, _⟩ => ⟨S1x640x512, .bf16⟩
  | .local _ .vmem, ⟨3, _⟩ => ⟨S1x640x512, .bf16⟩
  | .local _ .vmem, ⟨4, _⟩ => ⟨S3x640x512, .bf16⟩
  | .local _ .vmem, ⟨5, _⟩ => ⟨S3x640x512, .bf16⟩
  | .local _ .vmem, ⟨6, _⟩ => ⟨S640x512, .f32⟩
  | .local _ .vmem, ⟨7, _⟩ => ⟨S640x512, .f32⟩
  | .local _ .smem, ⟨0, _⟩ => ⟨S8, .i32⟩
  | _, _ => ⟨S5120x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v9 : Ref sig .tc := ⟨.hbm, 19, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S8_S1_0 : ∀ a, (![0] : Fin 1 → Nat) a + S1.size a ≤ S8.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S8) ![0] S1.size inb_S8_S1_0) numel1_S1
  let c0_i32 : BitVec 32 := 0#32
  ![v0.toNat, arg0.toNat]

def cc0_transform_1 (inb_S8_S1_4 : ∀ a, (![4] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S8) ![4] S1.size inb_S8_S1_4) numel1_S1
  let c0_i32 : BitVec 32 := 0#32
  let c0_i32_0 : BitVec 32 := 0#32
  ![v0.toNat, c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SwiRefIdeal.lean ====
abbrev S5120x2048 : Shape := ⟨2, ![5120, 2048]⟩
abbrev S4x640x2048 : Shape := ⟨3, ![4, 640, 2048]⟩
abbrev S3x640x2048 : Shape := ⟨3, ![3, 640, 2048]⟩
abbrev S640x2048 : Shape := ⟨2, ![640, 2048]⟩
abbrev S1x640x2048 : Shape := ⟨3, ![1, 640, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S5120x2048, .bf16⟩
  | .hbm, ⟨1, _⟩ => ⟨S4x640x2048, .bf16⟩
  | .hbm, ⟨2, _⟩ => ⟨S3x640x2048, .bf16⟩
  | .hbm, ⟨3, _⟩ => ⟨S640x2048, .bf16⟩
  | .hbm, ⟨4, _⟩ => ⟨S640x2048, .f32⟩
  | .hbm, ⟨5, _⟩ => ⟨S1x640x2048, .bf16⟩
  | .hbm, ⟨6, _⟩ => ⟨S640x2048, .bf16⟩
  | .hbm, ⟨7, _⟩ => ⟨S640x2048, .f32⟩
  | .hbm, ⟨8, _⟩ => ⟨S640x2048, .f32⟩
  | .hbm, ⟨9, _⟩ => ⟨S3x640x2048, .f32⟩
  | .hbm, ⟨10, _⟩ => ⟨S_, .f32⟩
  | .hbm, ⟨11, _⟩ => ⟨S640x2048, .f32⟩
  | .hbm, ⟨12, _⟩ => ⟨S640x2048, .f32⟩
  | _, _ => ⟨S5120x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Upo.lean ====
abbrev S2048x2048 : Shape := ⟨2, ![2048, 2048]⟩
abbrev S4x256x2048 : Shape := ⟨3, ![4, 256, 2048]⟩
abbrev S3x256x2048 : Shape := ⟨3, ![3, 256, 2048]⟩
abbrev S256x2048 : Shape := ⟨2, ![256, 2048]⟩
abbrev S_ : Shape := ⟨0, ![]⟩
abbrev S1 : Shape := ⟨1, ![1]⟩
abbrev S8 : Shape := ⟨1, ![8]⟩
abbrev S256x512 : Shape := ⟨2, ![256, 512]⟩
abbrev S1x256x512 : Shape := ⟨3, ![1, 256, 512]⟩
abbrev S3x256x512 : Shape := ⟨3, ![3, 256, 512]⟩

abbrev nBuf : Space → Nat
  | .hbm => 26
  | .vmem => 20
  | .smem => 1
  | _ => 0

abbrev bufTy : (tb : Table) → Fin (tcTables nBuf tb) → BufTy
  | .hbm, ⟨0, _⟩ => ⟨S2048x2048, .bf16⟩
  | .hbm, ⟨1, _⟩ => ⟨S4x256x2048, .bf16⟩
  | .hbm, ⟨2, _⟩ => ⟨S3x256x2048, .bf16⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S1, .i32⟩
  | .hbm, ⟨17, _⟩ => ⟨S1, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1, .i32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S256x2048, .f32⟩
  | .local _ .vmem, ⟨0, _⟩ => ⟨S256x512, .bf16⟩
  | .local _ .vmem, ⟨1, _⟩ => ⟨S256x512, .bf16⟩
  | .local _ .vmem, ⟨2, _⟩ => ⟨S1x256x512, .bf16⟩
  | .local _ .vmem, ⟨3, _⟩ => ⟨S1x256x512, .bf16⟩
  | .local _ .vmem, ⟨4, _⟩ => ⟨S3x256x512, .bf16⟩
  | .local _ .vmem, ⟨5, _⟩ => ⟨S3x256x512, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .smem, ⟨0, _⟩ => ⟨S8, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_c_6 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S8_S1_0 : ∀ a, (![0] : Fin 1 → Nat) a + S1.size a ≤ S8.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S8) ![0] S1.size inb_S8_S1_0) numel1_S1
  let c0_i32 : BitVec 32 := 0#32
  ![v0.toNat, arg0.toNat]

def cc0_transform_1 (inb_S8_S1_4 : ∀ a, (![4] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S8) ![4] S1.size inb_S8_S1_4) numel1_S1
  let c0_i32 : BitVec 32 := 0#32
  let c0_i32_0 : BitVec 32 := 0#32
  ![v0.toNat, c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== UpoRefIdeal.lean ====
abbrev S2048x2048 : Shape := ⟨2, ![2048, 2048]⟩
abbrev S4x256x2048 : Shape := ⟨3, ![4, 256, 2048]⟩
abbrev S3x256x2048 : Shape := ⟨3, ![3, 256, 2048]⟩
abbrev S256x2048 : Shape := ⟨2, ![256, 2048]⟩
abbrev S1x256x2048 : Shape := ⟨3, ![1, 256, 2048]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x256x2048, .bf16⟩
  | .hbm, ⟨2, _⟩ => ⟨S3x256x2048, .bf16⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .bf16⟩
  | .hbm, ⟨7, _⟩ => ⟨S256x2048, .f32⟩
  | .hbm, ⟨8, _⟩ => ⟨S1x256x2048, .bf16⟩
  | .hbm, ⟨9, _⟩ => ⟨S256x2048, .bf16⟩
  | .hbm, ⟨10, _⟩ => ⟨S256x2048, .f32⟩
  | .hbm, ⟨11, _⟩ => ⟨S256x2048, .f32⟩
  | .hbm, ⟨12, _⟩ => ⟨S3x256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S_, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S_, .f32⟩
  | .hbm, ⟨47, _⟩ => ⟨S256x2048, .f32⟩
  | .hbm, ⟨48, _⟩ => ⟨S256x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Sst.lean ====
abbrev S640x2048 : Shape := ⟨2, ![640, 2048]⟩
abbrev S80x2048 : Shape := ⟨2, ![80, 2048]⟩

abbrev nBuf : Space → Nat
  | .hbm => 2
  | .vmem => 2
  | .smem => 0
  | _ => 0

abbrev bufTy : (tb : Table) → Fin (tcTables nBuf tb) → BufTy
  | .hbm, ⟨0, _⟩ => ⟨S640x2048, .f32⟩
  | .hbm, ⟨1, _⟩ => ⟨S80x2048, .f32⟩
  | .local _ .vmem, ⟨0, _⟩ => ⟨S640x2048, .f32⟩
  | .local _ .vmem, ⟨1, _⟩ => ⟨S80x2048, .f32⟩
  | _, _ => ⟨S640x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S640x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SstRefIdeal.lean ====
abbrev S640x2048 : Shape := ⟨2, ![640, 2048]⟩
abbrev S8x80x2048 : Shape := ⟨3, ![8, 80, 2048]⟩
abbrev S_ : Shape := ⟨0, ![]⟩
abbrev S80x2048 : Shape := ⟨2, ![80, 2048]⟩

abbrev nBuf : Space → Nat
  | .hbm => 4
  | .vmem => 0
  | .smem => 0
  | _ => 0

abbrev bufTy : (tb : Table) → Fin (tcTables nBuf tb) → BufTy
  | .hbm, ⟨0, _⟩ => ⟨S640x2048, .f32⟩
  | .hbm, ⟨1, _⟩ => ⟨S8x80x2048, .f32⟩
  | .hbm, ⟨2, _⟩ => ⟨S_, .f32⟩
  | .hbm, ⟨3, _⟩ => ⟨S80x2048, .f32⟩
  | _, _ => ⟨S640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.TnValue.lean ====
/-
  Hand-written, untrusted. THE WEIGHT GRADIENT OF A PRODUCT, `xᵀ · ct`: the kernel makes it one block of 512 rows at a time,
  every block one product over all rows of `x` and `ct`; the reference is the derivative of `x @ w` in `w`, which sums the
  same products with their factors in the other order and transposes.
-/
module

public import proofs.«01_k».proof.Defs
public import proofs.«01_k».proof.Proof.Gen.TnIdeal.Frame
public import proofs.«01_k».proof.Proof.Gen.TnRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.TnIdeal.Value

open Cert.TnIdeal Cert.TnIdeal.Gen

variable (m : (ℓ : Loc nD τ sig) → Buf (Elt Ideal) ℓ)

/-- The reference's result as a term of the two arguments. -/
abbrev REF (x : FVec Ideal S4224x5632 .bf16) (ct : FVec Ideal S4224x2048 .bf16) : FVec Ideal S5632x2048 .bf16 :=
  truncf .bf16 (transpose Cert.TnRefIdeal.S5632x2048 [1, 0] (Host.dotGeneral
    Cert.TnRefIdeal.dot_S4224x2048_S4224x5632_S2048x5632_0_0_1_1_n_n none (extf .f32 ct Cert.TnRefIdeal.Gen.bitsLt_bf16_f32)
    (extf .f32 x Cert.TnRefIdeal.Gen.bitsLt_bf16_f32)) Cert.TnRefIdeal.Gen.transposes_S2048x5632_S5632x2048_1_0)
    Cert.TnRefIdeal.Gen.bitsLt_bf16_f32

/-- Where the blocks sit: point `t` takes the columns from `512 t` on, and writes the rows from `512 t` on. -/
theorem idx : ∀ t : Fin cfg0.N, win0_0.index t = ![0, t.val] ∧ win0_1.index t = ![0, 0] ∧ win0_2.index t = ![t.val, 0] :=
  (by decide +kernel : ∀ t : Fin grid0.N, _)

/-- What the body stores at an index of its block is the reference's value at the array's index. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine Finset.sum_congr rfl fun k _ => (mul_comm _ _).trans ?_
  blk_point [iblk, V, idx t]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.TnIdeal.Value

end
-- ==== Proof.TnClaims.lean ====
/-
  Hand-written, untrusted. The claims about `Tn`, proved: the generated frames, and the value claim from `Proof/TnValue.lean`.
-/
module

public import proofs.«01_k».proof.Defs
public import proofs.«01_k».proof.Proof.Gen.Tn.Frame
public import proofs.«01_k».proof.Proof.Gen.TnIdeal.Value
public import proofs.«01_k».proof.Proof.TnValue

@[expose] public section

set_option maxRecDepth 16384

noncomputable section

namespace Cert.Proof.Tn

open Idealize.ShloMosaic Idealize.SL.Sem

theorem kernel : Cert.quiescent_Tn (hTn := Cert.Tn.Gen.facts) := fun m ρ _ => Cert.Tn.Gen.frame m ρ

theorem ideal : Cert.quiescent_TnIdeal (hTnIdeal := Cert.TnIdeal.Gen.facts) := fun m ρ _ => Cert.TnIdeal.Gen.frame m ρ

theorem reference : Cert.quiescent_TnRefIdeal (hTnRefIdeal := Cert.TnRefIdeal.Gen.facts) := fun m ρ _ =>
  (θ_run Cert.TnRefIdeal.defs _ _).mono (fun r h => ⟨fun c => (h c).2, sem_eq_zero_of_no_sems (by decide) r.2⟩)
    (Cert.TnRefIdeal.Value.run (F := Ideal) m ρ)

/-- From equal arguments the kernel and the reference end with equal results. -/
theorem value : Cert.algebraic_TnIdeal_TnRefIdeal (hTnIdeal := Cert.TnIdeal.Gen.facts) (hTnRefIdeal := Cert.TnRefIdeal.Gen.facts) := by
  intro m g m' g' hp hargs
  refine ⟨_, Cert.TnIdeal.Value.run_blocks m g, ?_⟩
  refine (θ_run Cert.TnRefIdeal.defs _ _).mono (fun r h c => ⟨(h c).1.trans ?_, (h c).2⟩) (Cert.TnRefIdeal.Value.run (F := Ideal) m' g')
  · rw [(hargs c).1, (hargs c).2]
    exact (Cert.TnIdeal.Value.final m c).symm

end Cert.Proof.Tn

end
-- ==== Proof.TinValue.lean ====
/-
  Hand-written, untrusted. THE GRADIENT OF THE INPUT PROJECTION'S WEIGHT, `dzᵀ · un`: the kernel makes it one block of 512 rows at a time, every
  block one product over all rows; the reference is the derivative of `un @ wᵀ` in the transposed weight `w`.
-/
module

public import proofs.«01_k».proof.Defs
public import proofs.«01_k».proof.Proof.Gen.TinIdeal.Frame
public import proofs.«01_k».proof.Proof.Gen.TinRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.TinIdeal.Value

open Cert.TinIdeal Cert.TinIdeal.Gen

variable (m : (ℓ : Loc nD τ sig) → Buf (Elt Ideal) ℓ)

/-- The reference's result as a term of the two arguments. -/
abbrev REF (x : FVec Ideal S4224x5120 .bf16) (y : FVec Ideal S4224x2048 .bf16) : FVec Ideal S5120x2048 .bf16 :=
  truncf .bf16 (transpose Cert.TinRefIdeal.S5120x2048 [1, 0] (transpose Cert.TinRefIdeal.S2048x5120 [1, 0] (Host.dotGeneral
    Cert.TinRefIdeal.dot_S4224x5120_S4224x2048_S5120x2048_0_0_1_1_n_n none (extf .f32 x Cert.TinRefIdeal.Gen.bitsLt_bf16_f32)
    (extf .f32 y Cert.TinRefIdeal.Gen.bitsLt_bf16_f32)) Cert.TinRefIdeal.Gen.transposes_S5120x2048_S2048x5120_1_0) Cert.TinRefIdeal.Gen.transposes_S2048x5120_S5120x2048_1_0) Cert.TinRefIdeal.Gen.bitsLt_bf16_f32

/-- Where the blocks sit. -/
theorem idx : ∀ t : Fin cfg0.N, win0_0.index t = ![0, t.val] ∧ win0_1.index t = ![0, 0] ∧ win0_2.index t = ![t.val, 0] :=
  (by decide +kernel : ∀ t : Fin grid0.N, _)

/-- What the body stores at an index of its block is the reference's value at the array's index. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine Finset.sum_congr rfl fun k _ => ?_
  blk_point [iblk, V, idx t]

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.TinIdeal.Value

end
-- ==== Proof.TinClaims.lean ====
/-
  Hand-written, untrusted. The claims about `Tin`, proved: the generated frames, and the value claim from `Proof/TinValue.lean`.
-/
module

public import proofs.«01_k».proof.Defs
public import proofs.«01_k».proof.Proof.Gen.Tin.Frame
public import proofs.«01_k».proof.Proof.Gen.TinIdeal.Value
public import proofs.«01_k».proof.Proof.TinValue

@[expose] public section

set_option maxRecDepth 16384

noncomputable section

namespace Cert.Proof.Tin

open Idealize.ShloMosaic Idealize.SL.Sem

theorem kernel : Cert.quiescent_Tin (hTin := Cert.Tin.Gen.facts) := fun m ρ _ => Cert.Tin.Gen.frame m ρ

theorem ideal : Cert.quiescent_TinIdeal (hTinIdeal := Cert.TinIdeal.Gen.facts) := fun m ρ _ => Cert.TinIdeal.Gen.frame m ρ

theorem reference : Cert.quiescent_TinRefIdeal (hTinRefIdeal := Cert.TinRefIdeal.Gen.facts) := fun m ρ _ =>
  (θ_run Cert.TinRefIdeal.defs _ _).mono (fun r h => ⟨fun c => (h c).2, sem_eq_zero_of_no_sems (by decide) r.2⟩)
    (Cert.TinRefIdeal.Value.run (F := Ideal) m ρ)

/-- From equal arguments the kernel and the reference end with equal results. -/
theorem value : Cert.algebraic_TinIdeal_TinRefIdeal (hTinIdeal := Cert.TinIdeal.Gen.facts) (hTinRefIdeal := Cert.TinRefIdeal.Gen.facts) := by
  intro m g m' g' hp hargs
  refine ⟨_, Cert.TinIdeal.Value.run_blocks m g, ?_⟩
  refine (θ_run Cert.TinRefIdeal.defs _ _).mono (fun r h c => ⟨(h c).1.trans ?_, (h c).2⟩) (Cert.TinRefIdeal.Value.run (F := Ideal) m' g')
  · rw [(hargs c).1, (hargs c).2]
    exact (Cert.TinIdeal.Value.final m c).symm

end Cert.Proof.Tin

end
-- ==== Proof.ToutValue.lean ====
/-
  Hand-written, untrusted. THE WEIGHT GRADIENT OF A PRODUCT, `xᵀ · ct`: the kernel makes it one block of 512 rows at a time,
  every block one product over all rows of `x` and `ct`; the reference is the derivative of `x @ w` in `w`, which sums the
  same products with their factors in the other order and transposes.
-/
module

public import proofs.«01_k».proof.Defs
public import proofs.«01_k».proof.Proof.Gen.ToutIdeal.Frame
public import proofs.«01_k».proof.Proof.Gen.ToutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ToutIdeal.Value

open Cert.ToutIdeal Cert.ToutIdeal.Gen

variable (m : (ℓ : Loc nD τ sig) → Buf (Elt Ideal) ℓ)

/-- The reference's result as a term of the two arguments. -/
abbrev REF (x : FVec Ideal S4224x2048 .bf16) (ct : FVec Ideal S4224x2048 .bf16) : FVec Ideal S2048x2048 .bf16 :=
  truncf .bf16 (transpose Cert.ToutRefIdeal.S2048x2048 [1, 0] (Host.dotGeneral
    Cert.ToutRefIdeal.dot_S4224x2048_S4224x2048_S2048x2048_0_0_1_1_n_n none (extf .f32 ct Cert.ToutRefIdeal.Gen.bitsLt_bf16_f32)
    (extf .f32 x Cert.ToutRefIdeal.Gen.bitsLt_bf16_f32)) Cert.ToutRefIdeal.Gen.transposes_S2048x2048_S2048x2048_1_0)
    Cert.ToutRefIdeal.Gen.bitsLt_bf16_f32

/-- Where the blocks sit: point `t` takes the columns from `512 t` on, and writes the rows from `512 t` on. -/
theorem idx : ∀ t : Fin cfg0.N, win0_0.index t = ![0, t.val] ∧ win0_1.index t = ![0, 0] ∧ win0_2.index t = ![t.val, 0] :=
  (by decide +kernel : ∀ t : Fin grid0.N, _)

/-- What the body stores at an index of its block is the reference's value at the array's index. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine Finset.sum_congr rfl fun k _ => (mul_comm _ _).trans ?_
  blk_point [iblk, V, idx t]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ToutIdeal.Value

end
-- ==== Proof.ToutClaims.lean ====
/-
  Hand-written, untrusted. The claims about `Tout`, proved: the generated frames, and the value claim from `Proof/ToutValue.lean`.
-/
module

public import proofs.«01_k».proof.Defs
public import proofs.«01_k».proof.Proof.Gen.Tout.Frame
public import proofs.«01_k».proof.Proof.Gen.ToutIdeal.Value
public import proofs.«01_k».proof.Proof.ToutValue

@[expose] public section

set_option maxRecDepth 16384

noncomputable section

namespace Cert.Proof.Tout

open Idealize.ShloMosaic Idealize.SL.Sem

theorem kernel : Cert.quiescent_Tout (hTout := Cert.Tout.Gen.facts) := fun m ρ _ => Cert.Tout.Gen.frame m ρ

theorem ideal : Cert.quiescent_ToutIdeal (hToutIdeal := Cert.ToutIdeal.Gen.facts) := fun m ρ _ => Cert.ToutIdeal.Gen.frame m ρ

theorem reference : Cert.quiescent_ToutRefIdeal (hToutRefIdeal := Cert.ToutRefIdeal.Gen.facts) := fun m ρ _ =>
  (θ_run Cert.ToutRefIdeal.defs _ _).mono (fun r h => ⟨fun c => (h c).2, sem_eq_zero_of_no_sems (by decide) r.2⟩)
    (Cert.ToutRefIdeal.Value.run (F := Ideal) m ρ)

/-- From equal arguments the kernel and the reference end with equal results. -/
theorem value : Cert.algebraic_ToutIdeal_ToutRefIdeal (hToutIdeal := Cert.ToutIdeal.Gen.facts) (hToutRefIdeal := Cert.ToutRefIdeal.Gen.facts) := by
  intro m g m' g' hp hargs
  refine ⟨_, Cert.ToutIdeal.Value.run_blocks m g, ?_⟩
  refine (θ_run Cert.ToutRefIdeal.defs _ _).mono (fun r h c => ⟨(h c).1.trans ?_, (h c).2⟩) (Cert.ToutRefIdeal.Value.run (F := Ideal) m' g')
  · rw [(hargs c).1, (hargs c).2]
    exact (Cert.ToutIdeal.Value.final m c).symm

end Cert.Proof.Tout

end
-- ==== Proof.Reals.lean ====
/-
  Hand-written, untrusted. FINITE VALUES: an extended real that is a real number, and how the operations the calls use act on
  such values. The preconditions say that every element of an array is finite; from here on the sums and products are reals'.
-/
module

public import Idealize.ShloMosaic.Lib.Pipeline.ValueKit
public import Idealize.ShloMosaic.Lib.ReduceAll

@[expose] public section

noncomputable section

open Idealize.ShloMosaic

namespace Cert.Reals

/-- `x` is a real number. -/
def Fin (x : EReal) : Prop := ∃ r : ℝ, x = (r : EReal)

theorem Fin.coe (r : ℝ) : Fin (r : EReal) := ⟨r, rfl⟩

theorem Fin.add {x y : EReal} : Fin x → Fin y → Fin (x + y) := by
  rintro ⟨a, rfl⟩ ⟨b, rfl⟩
  exact ⟨a + b, (EReal.coe_add a b).symm⟩

theorem Fin.mul {x y : EReal} : Fin x → Fin y → Fin (x * y) := by
  rintro ⟨a, rfl⟩ ⟨b, rfl⟩
  exact ⟨a * b, (EReal.coe_mul a b).symm⟩

theorem Fin.sum {ι : Type} (s : Finset ι) (f : ι → EReal) (h : ∀ i, Fin (f i)) : Fin (∑ i ∈ s, f i) := by
  classical
  induction s using Finset.induction with
  | empty => exact ⟨0, by simp⟩
  | insert a s ha ih => rw [Finset.sum_insert ha]; exact (h a).add ih

/-- A sum of reals, taken in the extended reals. -/
theorem coe_sum {ι : Type} (s : Finset ι) (f : ι → ℝ) : (∑ i ∈ s, (f i : EReal)) = ((∑ i ∈ s, f i : ℝ) : EReal) := by
  classical
  induction s using Finset.induction with
  | empty => simp
  | insert a s ha ih => rw [Finset.sum_insert ha, Finset.sum_insert ha, ih, EReal.coe_add]

/-- What a precondition tests of an element: its absolute value is below infinity. -/
theorem fin_of_abs_lt {x : EReal} (h : Ideal.cmp .olt (max x (-x)) (Ideal.ofBits .f32 0x7F800000#32) = 1#1) : Fin x := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- A quotient of reals with a divisor that is not zero. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

theorem logistic_coe (r : ℝ) : Ideal.logistic (r : EReal) = ((1 / (1 + Real.exp (-r)) : ℝ) : EReal) := by
  rw [Ideal.logistic, ← EReal.coe_neg]
  show Ideal.div 1 (1 + (Real.exp (-r) : EReal)) = _
  rw [← EReal.coe_one, ← EReal.coe_add, div_coe _ _ (by positivity)]

theorem logistic_bot : Ideal.logistic ⊥ = 0 := by
  rw [Ideal.logistic, EReal.neg_bot]
  show Ideal.div 1 (1 + ⊤) = 0
  have h : (1 : EReal) + ⊤ = ⊤ := by rw [← EReal.coe_one]; exact EReal.coe_add_top 1
  rw [h, Ideal.div, if_neg EReal.top_ne_zero]
  simp

theorem logistic_top : Ideal.logistic ⊤ = 1 := by
  rw [Ideal.logistic, EReal.neg_top]
  show Ideal.div 1 (1 + 0) = 1
  rw [Ideal.div, if_neg (by simp)]
  simp

/-- The derivative of `silu g * u` in `g`, once as the kernel forms it and once as the chain rule does: the same number for
    finite `d` and `u` and for every `g`, infinite ones included. -/
theorem silu_grad {d u : EReal} (hd : Fin d) (hu : Fin u) (g : EReal) :
    d * (u * (Ideal.logistic g * (1 + g * (1 - Ideal.logistic g))))
      = d * u * Ideal.logistic g + g * (d * u) * (Ideal.logistic g * (1 - Ideal.logistic g)) := by
  obtain ⟨d, rfl⟩ := hd
  obtain ⟨u, rfl⟩ := hu
  induction g using EReal.rec with
  | bot => simp [logistic_bot]
  | top =>
    have h : (1 : EReal) - 1 = 0 := by rw [← EReal.coe_one, ← EReal.coe_sub]; simp
    simp [logistic_top, h]
  | coe g =>
    rw [logistic_coe, ← EReal.coe_one]
    norm_cast
    ring

end Cert.Reals

end
-- ==== Proof.HidValue.lean ====
/-
  Hand-written, untrusted. THE GRADIENT OF A FEED-FORWARD'S HIDDEN LAYER: from `da = dfo · wdᵀ` the two gradients of `silu g * u`, block by block of
  1056 rows and 512 columns. The kernel factors the derivative of `silu` as `s * (1 + g * (1 - s))`, the chain rule gives a
  sum; the two are equal where `da` and `u` are finite.
-/
module

public import proofs.«01_k».proof.Defs
public import proofs.«01_k».proof.Proof.Gen.HidIdeal.Frame
public import proofs.«01_k».proof.Proof.Gen.HidRefIdeal.Run
public import proofs.«01_k».proof.Pre_hid_finite
public import proofs.«01_k».proof.Proof.Gen.Pre_hid_finite
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.HidIdeal.Value

open Cert.HidIdeal Cert.HidIdeal.Gen

variable (m : (ℓ : Loc nD τ sig) → Buf (Elt Ideal) ℓ)

open Cert.Reals (fin_of_abs_lt silu_grad)

/-- `da`, as the reference makes it. -/
abbrev DA (x : FVec Ideal S4224x2048 .bf16) (w : FVec Ideal S5632x2048 .bf16) : FVec Ideal S4224x5632 .f32 :=
  Host.dotGeneral Cert.HidRefIdeal.dot_S4224x2048_S5632x2048_S4224x5632_1_1_0_0_n_n none (extf .f32 x Cert.HidRefIdeal.Gen.bitsLt_bf16_f32) (extf .f32 w Cert.HidRefIdeal.Gen.bitsLt_bf16_f32)

/-- The logistic of the gate, as the reference makes it. -/
abbrev SIG (g : FVec Ideal S4224x5632 .bf16) : FVec Ideal S4224x5632 .f32 :=
  Host.divf (broadcastInDim Cert.HidRefIdeal.S4224x5632 ![] Cert.HidRefIdeal.Gen.bcast_S_S4224x5632 (constant Cert.HidRefIdeal.S_ .f32 0x3F800000#32))
    (addf (broadcastInDim Cert.HidRefIdeal.S4224x5632 ![] Cert.HidRefIdeal.Gen.bcast_S_S4224x5632 (constant Cert.HidRefIdeal.S_ .f32 0x3F800000#32)) (Host.exp (Host.negf (extf .f32 g Cert.HidRefIdeal.Gen.bitsLt_bf16_f32))))

/-- The gradient of the gate, as the reference makes it. -/
abbrev DG (x : FVec Ideal S4224x2048 .bf16) (w : FVec Ideal S5632x2048 .bf16) (g u : FVec Ideal S4224x5632 .bf16) :
    FVec Ideal S4224x5632 .bf16 :=
  truncf .bf16 (addf (mulf (mulf (DA x w) (extf .f32 u Cert.HidRefIdeal.Gen.bitsLt_bf16_f32)) (SIG g))
    (mulf (mulf (extf .f32 g Cert.HidRefIdeal.Gen.bitsLt_bf16_f32) (mulf (DA x w) (extf .f32 u Cert.HidRefIdeal.Gen.bitsLt_bf16_f32)))
      (mulf (SIG g) (subf (broadcastInDim Cert.HidRefIdeal.S4224x5632 ![] Cert.HidRefIdeal.Gen.bcast_S_S4224x5632 (constant Cert.HidRefIdeal.S_ .f32 0x3F800000#32)) (SIG g))))) Cert.HidRefIdeal.Gen.bitsLt_bf16_f32

/-- The gradient of the second factor, as the reference makes it. -/
abbrev DU (x : FVec Ideal S4224x2048 .bf16) (w : FVec Ideal S5632x2048 .bf16) (g : FVec Ideal S4224x5632 .bf16) :
    FVec Ideal S4224x5632 .bf16 :=
  truncf .bf16 (mulf (mulf (extf .f32 g Cert.HidRefIdeal.Gen.bitsLt_bf16_f32) (SIG g)) (DA x w)) Cert.HidRefIdeal.Gen.bitsLt_bf16_f32

theorem one_at : Ideal.ofBits .f32 0x3F800000#32 = 1 := by simp [Ideal.ofBits, Ideal.ieee, -EReal.coe_mul]; norm_num
theorem one_bf : Ideal.ofBits .bf16 0x3F80#16 = 1 := by simp [Ideal.ofBits, Ideal.ieee, -EReal.coe_mul]; norm_num

theorem sig_at (g : FVec Ideal S4224x5632 .bf16) (i) : SIG g i = Ideal.logistic (g i) := by
  pointwise [SIG]
  rfl

theorem dg_at (x w) (g u : FVec Ideal S4224x5632 .bf16) (i) : DG x w g u i
    = DA x w i * u i * Ideal.logistic (g i) + g i * (DA x w i * u i) * (Ideal.logistic (g i) * (1 - Ideal.logistic (g i))) := by
  rw [← sig_at]
  show _ * _ * _ + _ * _ * (_ * (Ideal.ofBits .f32 0x3F800000#32 - _)) = _
  rw [one_at]
  rfl

theorem du_at (x w) (g : FVec Ideal S4224x5632 .bf16) (i) : DU x w g i = g i * Ideal.logistic (g i) * DA x w i := by
  rw [← sig_at]
  rfl

theorem da_fin (x : FVec Ideal S4224x2048 .bf16) (w : FVec Ideal S5632x2048 .bf16) (hx : ∀ i, Cert.Reals.Fin (x i)) (hw : ∀ i, Cert.Reals.Fin (w i)) (i) :
    Cert.Reals.Fin (DA x w i) := by
  pointwise [DA]
  exact Cert.Reals.Fin.sum _ _ fun k => (hx _).mul (hw _)

/-- Where the blocks sit. -/
theorem idx : ∀ t : Fin cfg0.N, win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11] :=
  (by decide +kernel : ∀ t : Fin grid0.N, _)

variable (c : Dev nD)

/-- `da` at an index of a block. -/
theorem da (t : Fin cfg0.N) (y) : k0_pay1 (F := Ideal) (iblk m c 0 t) (iblk m c 1 t) y
    = DA (m ((c : Thread nD τ).loc main_arg0)) (m ((c : Thread nD τ).loc main_arg1)) (((cfg0.win 4).blk t).view.emb y) := by
  pointwise [k0_pay1, DA]
  refine Finset.sum_congr rfl fun k _ => ?_
  blk_point [iblk, V, idx t]

theorem gate (t : Fin cfg0.N) (y) : iblk m c 2 t y = m ((c : Thread nD τ).loc main_arg2) (((cfg0.win 4).blk t).view.emb y) := by
  blk_point [iblk, V, idx t]

theorem up (t : Fin cfg0.N) (y) : iblk m c 3 t y = m ((c : Thread nD τ).loc main_arg3) (((cfg0.win 4).blk t).view.emb y) := by
  blk_point [iblk, V, idx t]

/-- The two output windows put a block's index at the same place. -/
theorem same (t : Fin cfg0.N) (y) : ((cfg0.win 4).blk t).view.emb y = ((cfg0.win 5).blk t).view.emb y := by
  blk_ext [iblk, V, idx t]

/-- The gradient of the gate after the run is the reference's, where `dfo`, `wd` and `u` are finite. -/
theorem final4 (h0 : ∀ i, Cert.Reals.Fin (m ((c : Thread nD τ).loc main_arg0) i)) (h1 : ∀ i, Cert.Reals.Fin (m ((c : Thread nD τ).loc main_arg1) i))
    (h3 : ∀ i, Cert.Reals.Fin (m ((c : Thread nD τ).loc main_arg3) i)) :
    (dats m 0 c).arrAt 4 (cfgs 0).N = DG (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  refine Eq.trans ?_ (dg_at _ _ _ _ _).symm
  refine Eq.trans ?_ (silu_grad (da_fin _ _ h0 h1 _) (h3 _) _)
  refine Eq.trans ?_ (congrArg₂ (· * ·) (da m c t y) (congrArg₂ (· * ·) (up m c t y) (congrArg (fun g => Ideal.logistic g * (1 + g * (1 - Ideal.logistic g))) (gate m c t y))))
  show _ * (_ * (_ * (Ideal.ofBits .bf16 0x3F80#16 + _ * (Ideal.ofBits .bf16 0x3F80#16 - _)))) = _
  rw [one_bf]
  rfl

/-- The gradient of the second factor after the run is the reference's. -/
theorem final5 : (dats m 0 c).arrAt 5 (cfgs 0).N = DU (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  refine Eq.trans ?_ (du_at _ _ _ _).symm
  refine Eq.trans ?_ (mul_comm (G := EReal) _ _)
  have hd := da m c t y
  have hg := gate m c t y
  rw [same t y] at hd hg
  exact congrArg₂ (· * ·) hd (congrArg (fun g => g * Ideal.logistic g) hg)

/-- What the precondition says: `dfo`, `wd` and `u` are finite. -/
theorem finite (h : Cert.Pre_HidIdeal_hid_finite (hPre_hid_finite := Cert.Pre_hid_finite.Gen.facts) m) (c : Dev nD) :
    (∀ i, Cert.Reals.Fin (m ((c : Thread nD τ).loc main_arg0) i)) ∧ (∀ i, Cert.Reals.Fin (m ((c : Thread nD τ).loc main_arg1) i))
      ∧ ∀ i, Cert.Reals.Fin (m ((c : Thread nD τ).loc main_arg3) i) := by
  have e := congrFun (h c) (fun a => a.elim0)
  obtain ⟨e, e3⟩ := IntOp.andi_eq_one.1 e
  obtain ⟨e0, e1⟩ := IntOp.andi_eq_one.1 e
  exact ⟨fun i => fin_of_abs_lt (Host.reduce_andi_eq_one _ _ _ _ _ e0 i (funext fun a => a.elim0)),
    fun i => fin_of_abs_lt (Host.reduce_andi_eq_one _ _ _ _ _ e1 i (funext fun a => a.elim0)),
    fun i => fin_of_abs_lt (Host.reduce_andi_eq_one _ _ _ _ _ e3 i (funext fun a => a.elim0))⟩

end Cert.HidIdeal.Value

end
-- ==== Proof.HidClaims.lean ====
/-
  Hand-written, untrusted. The claims about `Hid`, proved: the generated frames, and the value claim from `Proof/HidValue.lean`.
-/
module

public import proofs.«01_k».proof.Defs
public import proofs.«01_k».proof.Proof.Gen.Hid.Frame
public import proofs.«01_k».proof.Proof.Gen.HidIdeal.Value
public import proofs.«01_k».proof.Pre_hid_finite
public import proofs.«01_k».proof.Proof.Gen.Pre_hid_finite
public import proofs.«01_k».proof.Proof.HidValue

@[expose] public section

set_option maxRecDepth 16384

noncomputable section

namespace Cert.Proof.Hid

open Idealize.ShloMosaic Idealize.SL.Sem

theorem kernel : Cert.quiescent_Hid (hHid := Cert.Hid.Gen.facts) := fun m ρ _ => Cert.Hid.Gen.frame m ρ

theorem ideal : Cert.quiescent_HidIdeal (hHidIdeal := Cert.HidIdeal.Gen.facts) := fun m ρ _ => Cert.HidIdeal.Gen.frame m ρ

theorem reference : Cert.quiescent_HidRefIdeal (hHidRefIdeal := Cert.HidRefIdeal.Gen.facts) := fun m ρ _ =>
  (θ_run Cert.HidRefIdeal.defs _ _).mono (fun r h => ⟨fun c => (h c).2.2, sem_eq_zero_of_no_sems (by decide) r.2⟩)
    (Cert.HidRefIdeal.Value.run (F := Ideal) m ρ)

theorem ideal_pre : Cert.quiescent_HidIdeal_pre_hid_finite (hHidIdeal := Cert.HidIdeal.Gen.facts) (hPre_hid_finite := Cert.Pre_hid_finite.Gen.facts) := fun m ρ _ => Cert.HidIdeal.Gen.frame m ρ

theorem reference_pre : Cert.quiescent_HidRefIdeal_pre_hid_finite (hHidRefIdeal := Cert.HidRefIdeal.Gen.facts) (hPre_hid_finite := Cert.Pre_hid_finite.Gen.facts) := fun m ρ _ =>
  (θ_run Cert.HidRefIdeal.defs _ _).mono (fun r h => ⟨fun c => (h c).2.2, sem_eq_zero_of_no_sems (by decide) r.2⟩)
    (Cert.HidRefIdeal.Value.run (F := Ideal) m ρ)

/-- From equal arguments the kernel and the reference end with equal results. -/
theorem value : Cert.algebraic_HidIdeal_HidRefIdeal_pre_hid_finite (hHidIdeal := Cert.HidIdeal.Gen.facts) (hHidRefIdeal := Cert.HidRefIdeal.Gen.facts) (hPre_hid_finite := Cert.Pre_hid_finite.Gen.facts) := by
  intro m g m' g' hp hargs
  have hf := fun c => Cert.HidIdeal.Value.finite m hp c
  refine ⟨_, _, Cert.HidIdeal.Value.run_blocks m g, ?_⟩
  refine (θ_run Cert.HidRefIdeal.defs _ _).mono (fun r h c => ⟨(h c).1.trans ?_, (h c).2.1.trans ?_, (h c).2.2⟩) (Cert.HidRefIdeal.Value.run (F := Ideal) m' g')
  · try rw [(hargs c).1]
    try rw [(hargs c).2.1]
    try rw [(hargs c).2.2.1]
    try rw [(hargs c).2.2.2]
    exact (Cert.HidIdeal.Value.final4 m c (hf c).1 (hf c).2.1 (hf c).2.2).symm
  · try rw [(hargs c).1]
    try rw [(hargs c).2.1]
    try rw [(hargs c).2.2.1]
    try rw [(hargs c).2.2.2]
    exact (Cert.HidIdeal.Value.final5 m c).symm

end Cert.Proof.Hid

end
-- ==== Proof.GupValue.lean ====
/-
  Hand-written, untrusted. THE TWO PRODUCTS OF A FEED-FORWARD AND ITS HIDDEN LAYER: `g = n · wgᵀ`, `u = n · wuᵀ` and `silu g * u`, block by block
  of 1056 rows and 512 columns.
-/
module

public import proofs.«01_k».proof.Defs
public import proofs.«01_k».proof.Proof.Gen.GupIdeal.Frame
public import proofs.«01_k».proof.Proof.Gen.GupRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GupIdeal.Value

open Cert.GupIdeal Cert.GupIdeal.Gen

variable (m : (ℓ : Loc nD τ sig) → Buf (Elt Ideal) ℓ)

/-- A product with a transposed weight, as the reference makes it. -/
abbrev MM (x : FVec Ideal S4224x2048 .bf16) (w : FVec Ideal S5632x2048 .bf16) : FVec Ideal S4224x5632 .f32 :=
  Host.dotGeneral Cert.GupRefIdeal.dot_S4224x2048_S2048x5632_S4224x5632_1_0_0_1_n_n none (extf .f32 x Cert.GupRefIdeal.Gen.bitsLt_bf16_f32)
    (transpose Cert.GupRefIdeal.S2048x5632 [1, 0] (extf .f32 w Cert.GupRefIdeal.Gen.bitsLt_bf16_f32) Cert.GupRefIdeal.Gen.transposes_S5632x2048_S2048x5632_1_0)

/-- The hidden layer, as the reference makes it: `g * (1 / (1 + exp (-g))) * u`. -/
abbrev ACT (g u : FVec Ideal S4224x5632 .f32) : FVec Ideal S4224x5632 .bf16 :=
  truncf .bf16 (mulf (mulf g (Host.divf (broadcastInDim Cert.GupRefIdeal.S4224x5632 ![] Cert.GupRefIdeal.Gen.bcast_S_S4224x5632 (constant Cert.GupRefIdeal.S_ .f32 0x3F800000#32))
    (addf (broadcastInDim Cert.GupRefIdeal.S4224x5632 ![] Cert.GupRefIdeal.Gen.bcast_S_S4224x5632 (constant Cert.GupRefIdeal.S_ .f32 0x3F800000#32)) (Host.exp (Host.negf g))))) u) Cert.GupRefIdeal.Gen.bitsLt_bf16_f32

/-- The hidden layer at an index. -/
theorem act_at (g u : FVec Ideal S4224x5632 .f32) (i) : ACT g u i = g i * Ideal.logistic (g i) * u i := by
  pointwise [ACT]
  rfl

/-- Where the blocks sit. -/
theorem idx : ∀ t : Fin cfg0.N, win0_0.index t = ![t.val / 11, 0] ∧ win0_1.index t = ![t.val % 11, 0] ∧ win0_2.index t = ![t.val % 11, 0]
    ∧ win0_3.index t = ![t.val / 11, t.val % 11] ∧ win0_4.index t = ![t.val / 11, t.val % 11] ∧ win0_5.index t = ![t.val / 11, t.val % 11] :=
  (by decide +kernel : ∀ t : Fin grid0.N, _)

variable (c : Dev nD)

/-- The first product at an index of a block. -/
theorem gate (t : Fin cfg0.N) (y) : k0_pay1 (F := Ideal) (iblk m c 0 t) (iblk m c 1 t) y
    = MM (m ((c : Thread nD τ).loc main_arg0)) (m ((c : Thread nD τ).loc main_arg1)) (((cfg0.win 3).blk t).view.emb y) := by
  pointwise [k0_pay1, MM]
  refine Finset.sum_congr rfl fun k _ => ?_
  blk_point [iblk, V, idx t]

/-- The second product at an index of a block. -/
theorem up (t : Fin cfg0.N) (y) : k0_pay2 (F := Ideal) (iblk m c 0 t) (iblk m c 2 t) y
    = MM (m ((c : Thread nD τ).loc main_arg0)) (m ((c : Thread nD τ).loc main_arg2)) (((cfg0.win 4).blk t).view.emb y) := by
  pointwise [k0_pay2, MM]
  refine Finset.sum_congr rfl fun k _ => ?_
  blk_point [iblk, V, idx t]

/-- The three output windows put a block's index at the same place. -/
theorem same (t : Fin cfg0.N) (y) : ((cfg0.win 3).blk t).view.emb y = ((cfg0.win 5).blk t).view.emb y
    ∧ ((cfg0.win 4).blk t).view.emb y = ((cfg0.win 5).blk t).view.emb y := by
  constructor <;> blk_ext [iblk, V, idx t]

theorem act (t : Fin cfg0.N) (y) : k0_pay5 (F := Ideal) (iblk m c 0 t) (iblk m c 1 t) (iblk m c 2 t) y
    = ACT (MM (m ((c : Thread nD τ).loc main_arg0)) (m ((c : Thread nD τ).loc main_arg1)))
        (MM (m ((c : Thread nD τ).loc main_arg0)) (m ((c : Thread nD τ).loc main_arg2))) (((cfg0.win 5).blk t).view.emb y) := by
  have hg := gate m c t y
  have hu := up m c t y
  rw [(same t y).1] at hg
  rw [(same t y).2] at hu
  refine Eq.trans ?_ (act_at _ _ _).symm
  rw [← hg, ← hu]
  pointwise [k0_pay5]

/-- The three result arrays after the run are the reference's. -/
theorem final3 : (dats m 0 c).arrAt 3 (cfgs 0).N = truncf .bf16 (MM (m ((c : Thread nD τ).loc main_arg0)) (m ((c : Thread nD τ).loc main_arg1))) Cert.GupRefIdeal.Gen.bitsLt_bf16_f32 := by
  refine (dats m 0 c).arrAt_eq_of_covers 3 _ (by decide +kernel) fun t _ y => ?_
  blk_simp
  rw [after0_3]; frame_out
  exact gate m c t y

theorem final4 : (dats m 0 c).arrAt 4 (cfgs 0).N = truncf .bf16 (MM (m ((c : Thread nD τ).loc main_arg0)) (m ((c : Thread nD τ).loc main_arg2))) Cert.GupRefIdeal.Gen.bitsLt_bf16_f32 := by
  refine (dats m 0 c).arrAt_eq_of_covers 4 _ (by decide +kernel) fun t _ y => ?_
  blk_simp
  rw [after0_4]; frame_out
  exact up m c t y

theorem final5 : (dats m 0 c).arrAt 5 (cfgs 0).N = ACT (MM (m ((c : Thread nD τ).loc main_arg0)) (m ((c : Thread nD τ).loc main_arg1))) (MM (m ((c : Thread nD τ).loc main_arg0)) (m ((c : Thread nD τ).loc main_arg2))) := by
  refine (dats m 0 c).arrAt_eq_of_covers 5 _ (by decide +kernel) fun t _ y => ?_
  blk_simp
  rw [after0_5]; frame_out
  exact act m c t y

end Cert.GupIdeal.Value

end
-- ==== Proof.GupClaims.lean ====
/-
  Hand-written, untrusted. The claims about `Gup`, proved: the generated frames, and the value claim from `Proof/GupValue.lean`.
-/
module

public import proofs.«01_k».proof.Defs
public import proofs.«01_k».proof.Proof.Gen.Gup.Frame
public import proofs.«01_k».proof.Proof.Gen.GupIdeal.Value
public import proofs.«01_k».proof.Proof.GupValue

@[expose] public section

set_option maxRecDepth 16384

noncomputable section

namespace Cert.Proof.Gup

open Idealize.ShloMosaic Idealize.SL.Sem

theorem kernel : Cert.quiescent_Gup (hGup := Cert.Gup.Gen.facts) := fun m ρ _ => Cert.Gup.Gen.frame m ρ

theorem ideal : Cert.quiescent_GupIdeal (hGupIdeal := Cert.GupIdeal.Gen.facts) := fun m ρ _ => Cert.GupIdeal.Gen.frame m ρ

theorem reference : Cert.quiescent_GupRefIdeal (hGupRefIdeal := Cert.GupRefIdeal.Gen.facts) := fun m ρ _ =>
  (θ_run Cert.GupRefIdeal.defs _ _).mono (fun r h => ⟨fun c => (h c).2.2.2, sem_eq_zero_of_no_sems (by decide) r.2⟩)
    (Cert.GupRefIdeal.Value.run (F := Ideal) m ρ)

/-- From equal arguments the kernel and the reference end with equal results. -/
theorem value : Cert.algebraic_GupIdeal_GupRefIdeal (hGupIdeal := Cert.GupIdeal.Gen.facts) (hGupRefIdeal := Cert.GupRefIdeal.Gen.facts) := by
  intro m g m' g' hp hargs
  refine ⟨_, _, _, Cert.GupIdeal.Value.run_blocks m g, ?_⟩
  refine (θ_run Cert.GupRefIdeal.defs _ _).mono (fun r h c => ⟨(h c).1.trans ?_, (h c).2.1.trans ?_, (h c).2.2.1.trans ?_, (h c).2.2.2⟩) (Cert.GupRefIdeal.Value.run (F := Ideal) m' g')
  · try rw [(hargs c).1]
    try rw [(hargs c).2.1]
    try rw [(hargs c).2.2]
    exact (Cert.GupIdeal.Value.final3 m c).symm
  · try rw [(hargs c).1]
    try rw [(hargs c).2.1]
    try rw [(hargs c).2.2]
    exact (Cert.GupIdeal.Value.final4 m c).symm
  · try rw [(hargs c).1]
    try rw [(hargs c).2.1]
    try rw [(hargs c).2.2]
    exact (Cert.GupIdeal.Value.final5 m c).symm

end Cert.Proof.Gup

end
-- ==== Proof.NtgValue.lean ====
/-
  Hand-written, untrusted. THE GATE PRODUCT OF THE FIRST FEED-FORWARD, `n · wgᵀ`, block by block of 1056 rows and 512 columns.
-/
module

public import proofs.«01_k».proof.Defs
public import proofs.«01_k».proof.Proof.Gen.NtgIdeal.Frame
public import proofs.«01_k».proof.Proof.Gen.NtgRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NtgIdeal.Value

open Cert.NtgIdeal Cert.NtgIdeal.Gen

variable (m : (ℓ : Loc nD τ sig) → Buf (Elt Ideal) ℓ)

/-- The reference's result as a term of the two arguments. -/
abbrev REF (x : FVec Ideal S4224x2048 .bf16) (w : FVec Ideal S5632x2048 .bf16) : FVec Ideal S4224x5632 .bf16 :=
  truncf .bf16 (Host.dotGeneral Cert.NtgRefIdeal.dot_S4224x2048_S2048x5632_S4224x5632_1_0_0_1_n_n none (extf .f32 x Cert.NtgRefIdeal.Gen.bitsLt_bf16_f32)
    (transpose Cert.NtgRefIdeal.S2048x5632 [1, 0] (extf .f32 w Cert.NtgRefIdeal.Gen.bitsLt_bf16_f32) Cert.NtgRefIdeal.Gen.transposes_S5632x2048_S2048x5632_1_0)) Cert.NtgRefIdeal.Gen.bitsLt_bf16_f32

/-- Where the blocks sit. -/
theorem idx : ∀ t : Fin cfg0.N, win0_0.index t = ![t.val / 11, 0] ∧ win0_1.index t = ![t.val % 11, 0] ∧ win0_2.index t = ![t.val / 11, t.val % 11] :=
  (by decide +kernel : ∀ t : Fin grid0.N, _)

/-- What the body stores at an index of its block is the reference's value at the array's index. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine Finset.sum_congr rfl fun k _ => ?_
  blk_point [iblk, V, idx t]

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NtgIdeal.Value

end
-- ==== Proof.NtgClaims.lean ====
/-
  Hand-written, untrusted. The claims about `Ntg`, proved: the generated frames, and the value claim from `Proof/NtgValue.lean`.
-/
module

public import proofs.«01_k».proof.Defs
public import proofs.«01_k».proof.Proof.Gen.Ntg.Frame
public import proofs.«01_k».proof.Proof.Gen.NtgIdeal.Value
public import proofs.«01_k».proof.Proof.NtgValue

@[expose] public section

set_option maxRecDepth 16384

noncomputable section

namespace Cert.Proof.Ntg

open Idealize.ShloMosaic Idealize.SL.Sem

theorem kernel : Cert.quiescent_Ntg (hNtg := Cert.Ntg.Gen.facts) := fun m ρ _ => Cert.Ntg.Gen.frame m ρ

theorem ideal : Cert.quiescent_NtgIdeal (hNtgIdeal := Cert.NtgIdeal.Gen.facts) := fun m ρ _ => Cert.NtgIdeal.Gen.frame m ρ

theorem reference : Cert.quiescent_NtgRefIdeal (hNtgRefIdeal := Cert.NtgRefIdeal.Gen.facts) := fun m ρ _ =>
  (θ_run Cert.NtgRefIdeal.defs _ _).mono (fun r h => ⟨fun c => (h c).2, sem_eq_zero_of_no_sems (by decide) r.2⟩)
    (Cert.NtgRefIdeal.Value.run (F := Ideal) m ρ)

/-- From equal arguments the kernel and the reference end with equal results. -/
theorem value : Cert.algebraic_NtgIdeal_NtgRefIdeal (hNtgIdeal := Cert.NtgIdeal.Gen.facts) (hNtgRefIdeal := Cert.NtgRefIdeal.Gen.facts) := by
  intro m g m' g' hp hargs
  refine ⟨_, Cert.NtgIdeal.Value.run_blocks m g, ?_⟩
  refine (θ_run Cert.NtgRefIdeal.defs _ _).mono (fun r h c => ⟨(h c).1.trans ?_, (h c).2⟩) (Cert.NtgRefIdeal.Value.run (F := Ideal) m' g')
  · rw [(hargs c).1, (hargs c).2]
    exact (Cert.NtgIdeal.Value.final m c).symm

end Cert.Proof.Ntg

end
-- ==== Proof.NtiValue.lean ====
/-
  Hand-written, untrusted. THE INPUT PROJECTION OF THE MIXER, `un · w_inᵀ`, block by block of 1056 rows and 512 columns.
-/
module

public import proofs.«01_k».proof.Defs
public import proofs.«01_k».proof.Proof.Gen.NtiIdeal.Frame
public import proofs.«01_k».proof.Proof.Gen.NtiRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NtiIdeal.Value

open Cert.NtiIdeal Cert.NtiIdeal.Gen

variable (m : (ℓ : Loc nD τ sig) → Buf (Elt Ideal) ℓ)

/-- The reference's result as a term of the two arguments. -/
abbrev REF (x : FVec Ideal S4224x2048 .bf16) (w : FVec Ideal S5120x2048 .bf16) : FVec Ideal S4224x5120 .f32 :=
  Host.dotGeneral Cert.NtiRefIdeal.dot_S4224x2048_S2048x5120_S4224x5120_1_0_0_1_n_n none (extf .f32 x Cert.NtiRefIdeal.Gen.bitsLt_bf16_f32)
    (transpose Cert.NtiRefIdeal.S2048x5120 [1, 0] (extf .f32 w Cert.NtiRefIdeal.Gen.bitsLt_bf16_f32) Cert.NtiRefIdeal.Gen.transposes_S5120x2048_S2048x5120_1_0)

/-- Where the blocks sit. -/
theorem idx : ∀ t : Fin cfg0.N, win0_0.index t = ![t.val / 10, 0] ∧ win0_1.index t = ![t.val % 10, 0] ∧ win0_2.index t = ![t.val / 10, t.val % 10] :=
  (by decide +kernel : ∀ t : Fin grid0.N, _)

/-- What the body stores at an index of its block is the reference's value at the array's index. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine Finset.sum_congr rfl fun k _ => ?_
  blk_point [iblk, V, idx t]

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NtiIdeal.Value

end
-- ==== Proof.NtiClaims.lean ====
/-
  Hand-written, untrusted. The claims about `Nti`, proved: the generated frames, and the value claim from `Proof/NtiValue.lean`.
-/
module

public import proofs.«01_k».proof.Defs
public import proofs.«01_k».proof.Proof.Gen.Nti.Frame
public import proofs.«01_k».proof.Proof.Gen.NtiIdeal.Value
public import proofs.«01_k».proof.Proof.NtiValue

@[expose] public section

set_option maxRecDepth 16384

noncomputable section

namespace Cert.Proof.Nti

open Idealize.ShloMosaic Idealize.SL.Sem

theorem kernel : Cert.quiescent_Nti (hNti := Cert.Nti.Gen.facts) := fun m ρ _ => Cert.Nti.Gen.frame m ρ

theorem ideal : Cert.quiescent_NtiIdeal (hNtiIdeal := Cert.NtiIdeal.Gen.facts) := fun m ρ _ => Cert.NtiIdeal.Gen.frame m ρ

theorem reference : Cert.quiescent_NtiRefIdeal (hNtiRefIdeal := Cert.NtiRefIdeal.Gen.facts) := fun m ρ _ =>
  (θ_run Cert.NtiRefIdeal.defs _ _).mono (fun r h => ⟨fun c => (h c).2, sem_eq_zero_of_no_sems (by decide) r.2⟩)
    (Cert.NtiRefIdeal.Value.run (F := Ideal) m ρ)

/-- From equal arguments the kernel and the reference end with equal results. -/
theorem value : Cert.algebraic_NtiIdeal_NtiRefIdeal (hNtiIdeal := Cert.NtiIdeal.Gen.facts) (hNtiRefIdeal := Cert.NtiRefIdeal.Gen.facts) := by
  intro m g m' g' hp hargs
  refine ⟨_, Cert.NtiIdeal.Value.run_blocks m g, ?_⟩
  refine (θ_run Cert.NtiRefIdeal.defs _ _).mono (fun r h c => ⟨(h c).1.trans ?_, (h c).2⟩) (Cert.NtiRefIdeal.Value.run (F := Ideal) m' g')
  · rw [(hargs c).1, (hargs c).2]
    exact (Cert.NtiIdeal.Value.final m c).symm

end Cert.Proof.Nti

end
-- ==== Proof.UpValue.lean ====
/-
  Hand-written, untrusted. THE SECOND PRODUCT OF A FEED-FORWARD AND ITS HIDDEN LAYER: `u = n · wuᵀ` and `silu g * u` from the gate `g` made before,
  block by block of 1056 rows and 512 columns.
-/
module

public import proofs.«01_k».proof.Defs
public import proofs.«01_k».proof.Proof.Gen.UpIdeal.Frame
public import proofs.«01_k».proof.Proof.Gen.UpRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen

variable (m : (ℓ : Loc nD τ sig) → Buf (Elt Ideal) ℓ)

/-- A product with a transposed weight, as the reference makes it. -/
abbrev MM (x : FVec Ideal S4224x2048 .bf16) (w : FVec Ideal S5632x2048 .bf16) : FVec Ideal S4224x5632 .f32 :=
  Host.dotGeneral Cert.UpRefIdeal.dot_S4224x2048_S2048x5632_S4224x5632_1_0_0_1_n_n none (extf .f32 x Cert.UpRefIdeal.Gen.bitsLt_bf16_f32)
    (transpose Cert.UpRefIdeal.S2048x5632 [1, 0] (extf .f32 w Cert.UpRefIdeal.Gen.bitsLt_bf16_f32) Cert.UpRefIdeal.Gen.transposes_S5632x2048_S2048x5632_1_0)

/-- The hidden layer, as the reference makes it: `g * (1 / (1 + exp (-g))) * u`. -/
abbrev ACT (g : FVec Ideal S4224x5632 .bf16) (u : FVec Ideal S4224x5632 .f32) : FVec Ideal S4224x5632 .bf16 :=
  truncf .bf16 (mulf (mulf (extf .f32 g Cert.UpRefIdeal.Gen.bitsLt_bf16_f32) (Host.divf (broadcastInDim Cert.UpRefIdeal.S4224x5632 ![] Cert.UpRefIdeal.Gen.bcast_S_S4224x5632 (constant Cert.UpRefIdeal.S_ .f32 0x3F800000#32))
    (addf (broadcastInDim Cert.UpRefIdeal.S4224x5632 ![] Cert.UpRefIdeal.Gen.bcast_S_S4224x5632 (constant Cert.UpRefIdeal.S_ .f32 0x3F800000#32)) (Host.exp (Host.negf (extf .f32 g Cert.UpRefIdeal.Gen.bitsLt_bf16_f32)))))) u) Cert.UpRefIdeal.Gen.bitsLt_bf16_f32

/-- The hidden layer at an index. -/
theorem act_at (g : FVec Ideal S4224x5632 .bf16) (u : FVec Ideal S4224x5632 .f32) (i) : ACT g u i = g i * Ideal.logistic (g i) * u i := by
  pointwise [ACT]
  rfl

/-- Where the blocks sit. -/
theorem idx : ∀ t : Fin cfg0.N, win0_0.index t = ![t.val / 11, 0] ∧ win0_1.index t = ![t.val % 11, 0]
    ∧ win0_2.index t = ![t.val / 11, t.val % 11] ∧ win0_3.index t = ![t.val / 11, t.val % 11] ∧ win0_4.index t = ![t.val / 11, t.val % 11] :=
  (by decide +kernel : ∀ t : Fin grid0.N, _)

variable (c : Dev nD)

/-- The product at an index of a block. -/
theorem up (t : Fin cfg0.N) (y) : k0_pay1 (F := Ideal) (iblk m c 0 t) (iblk m c 1 t) y
    = MM (m ((c : Thread nD τ).loc main_arg0)) (m ((c : Thread nD τ).loc main_arg1)) (((cfg0.win 3).blk t).view.emb y) := by
  pointwise [k0_pay1, MM]
  refine Finset.sum_congr rfl fun k _ => ?_
  blk_point [iblk, V, idx t]

/-- The two output windows put a block's index at the same place. -/
theorem same (t : Fin cfg0.N) (y) : ((cfg0.win 3).blk t).view.emb y = ((cfg0.win 4).blk t).view.emb y := by
  blk_ext [iblk, V, idx t]

/-- The gate's block at an index of a block. -/
theorem gate (t : Fin cfg0.N) (y) : iblk m c 2 t y = m ((c : Thread nD τ).loc main_arg2) (((cfg0.win 4).blk t).view.emb y) := by
  blk_point [iblk, V, idx t]

theorem act (t : Fin cfg0.N) (y) : k0_pay3 (F := Ideal) (iblk m c 0 t) (iblk m c 1 t) (iblk m c 2 t) y
    = ACT (m ((c : Thread nD τ).loc main_arg2))
        (MM (m ((c : Thread nD τ).loc main_arg0)) (m ((c : Thread nD τ).loc main_arg1))) (((cfg0.win 4).blk t).view.emb y) := by
  have hu := up m c t y
  have hg := gate m c t y
  rw [same t y] at hu
  refine Eq.trans ?_ (act_at _ _ _).symm
  rw [← hu, ← hg]
  pointwise [k0_pay3]

/-- The two result arrays after the run are the reference's. -/
theorem final3 : (dats m 0 c).arrAt 3 (cfgs 0).N = truncf .bf16 (MM (m ((c : Thread nD τ).loc main_arg0)) (m ((c : Thread nD τ).loc main_arg1))) Cert.UpRefIdeal.Gen.bitsLt_bf16_f32 := by
  refine (dats m 0 c).arrAt_eq_of_covers 3 _ (by decide +kernel) fun t _ y => ?_
  blk_simp
  rw [after0_3]; frame_out
  exact up m c t y

theorem final4 : (dats m 0 c).arrAt 4 (cfgs 0).N = ACT (m ((c : Thread nD τ).loc main_arg2)) (MM (m ((c : Thread nD τ).loc main_arg0)) (m ((c : Thread nD τ).loc main_arg1))) := by
  refine (dats m 0 c).arrAt_eq_of_covers 4 _ (by decide +kernel) fun t _ y => ?_
  blk_simp
  rw [after0_4]; frame_out
  exact act m c t y

end Cert.UpIdeal.Value

end
-- ==== Proof.UpClaims.lean ====
/-
  Hand-written, untrusted. The claims about `Up`, proved: the generated frames, and the value claim from `Proof/UpValue.lean`.
-/
module

public import proofs.«01_k».proof.Defs
public import proofs.«01_k».proof.Proof.Gen.Up.Frame
public import proofs.«01_k».proof.Proof.Gen.UpIdeal.Value
public import proofs.«01_k».proof.Proof.UpValue

@[expose] public section

set_option maxRecDepth 16384

noncomputable section

namespace Cert.Proof.Up

open Idealize.ShloMosaic Idealize.SL.Sem

theorem kernel : Cert.quiescent_Up (hUp := Cert.Up.Gen.facts) := fun m ρ _ => Cert.Up.Gen.frame m ρ

theorem ideal : Cert.quiescent_UpIdeal (hUpIdeal := Cert.UpIdeal.Gen.facts) := fun m ρ _ => Cert.UpIdeal.Gen.frame m ρ

theorem reference : Cert.quiescent_UpRefIdeal (hUpRefIdeal := Cert.UpRefIdeal.Gen.facts) := fun m ρ _ =>
  (θ_run Cert.UpRefIdeal.defs _ _).mono (fun r h => ⟨fun c => (h c).2.2, sem_eq_zero_of_no_sems (by decide) r.2⟩)
    (Cert.UpRefIdeal.Value.run (F := Ideal) m ρ)

/-- From equal arguments the kernel and the reference end with equal results. -/
theorem value : Cert.algebraic_UpIdeal_UpRefIdeal (hUpIdeal := Cert.UpIdeal.Gen.facts) (hUpRefIdeal := Cert.UpRefIdeal.Gen.facts) := by
  intro m g m' g' hp hargs
  refine ⟨_, _, Cert.UpIdeal.Value.run_blocks m g, ?_⟩
  refine (θ_run Cert.UpRefIdeal.defs _ _).mono (fun r h c => ⟨(h c).1.trans ?_, (h c).2.1.trans ?_, (h c).2.2⟩) (Cert.UpRefIdeal.Value.run (F := Ideal) m' g')
  · try rw [(hargs c).1]
    try rw [(hargs c).2.1]
    try rw [(hargs c).2.2]
    exact (Cert.UpIdeal.Value.final3 m c).symm
  · try rw [(hargs c).1]
    try rw [(hargs c).2.1]
    try rw [(hargs c).2.2]
    exact (Cert.UpIdeal.Value.final4 m c).symm

end Cert.Proof.Up

end
-- ==== Proof.Norm.lean ====
/-
  Hand-written, untrusted. THE GRADIENT OF A NORM, one row of 2048 numbers: `x * rsqrt (mean x² + ε) * g`. The kernel forms the gradient as
  `r * (p * g - x r * mean (p * g * (x r)))`, the chain rule through the square, the mean and the reciprocal root. The two are equal, whatever
  the row, the weights and the incoming gradient hold: a finite row has a positive reciprocal root, over which sums distribute, and a row
  that is not finite has the reciprocal root 0, with which both forms are 0.
-/
module

public import proofs.«01_k».proof.Proof.Reals

@[expose] public section

noncomputable section

open Idealize.ShloMosaic

namespace Cert.Norm

open Cert.Reals

/-- The row's length, as the programs write it. -/
abbrev len : EReal := Ideal.ofBits .f32 0x45000000#32

/-- The norm's ε, as the programs write it. -/
abbrev eps : EReal := Ideal.ofBits .f32 0x358637BD#32

/-- `-1/2`, as the derivative of the reciprocal root writes it. -/
abbrev mhalf : EReal := Ideal.ofBits .f32 0xBF000000#32

/-- `1/2`, as the programs write it. -/
abbrev onehalf : EReal := Ideal.ofBits .f32 0x3F000000#32

theorem onehalf_eq : onehalf = ((1 / 2 : ℝ) : EReal) := by simp [Ideal.ofBits, Ideal.ieee, -EReal.coe_mul]; norm_num
theorem one_eq : Ideal.ofBits .f32 0x3F800000#32 = 1 := by simp [Ideal.ofBits, Ideal.ieee, -EReal.coe_mul]; norm_num
theorem len_eq : len = ((2048 : ℝ) : EReal) := by simp [Ideal.ofBits, Ideal.ieee, -EReal.coe_mul]; norm_num
theorem mhalf_eq : mhalf = ((-1 / 2 : ℝ) : EReal) := by simp [Ideal.ofBits, Ideal.ieee, -EReal.coe_mul]; norm_num
theorem eps_eq : ∃ e : ℝ, 0 < e ∧ eps = (e : EReal) := by
  refine ⟨8796093 / 2 ^ 43, by norm_num, ?_⟩
  simp [Ideal.ofBits, Ideal.ieee, -EReal.coe_mul]; norm_num

/-- The mean square and ε. -/
def var (x : _root_.Fin 2048 → EReal) : EReal := Ideal.div (∑ k, x k * x k) len + eps

/-- The reciprocal root. -/
def rstd (x : _root_.Fin 2048 → EReal) : EReal := Ideal.rsqrt (var x)

/-- The norm. -/
def nrm (x g : _root_.Fin 2048 → EReal) (j : _root_.Fin 2048) : EReal := x j * rstd x * g j

theorem nrm_congr {x x' g g' : _root_.Fin 2048 → EReal} {j j' : _root_.Fin 2048} (hx : ∀ k, x k = x' k) (hg : ∀ k, g k = g' k) (hj : j = j') :
    nrm x g j = nrm x' g' j' := by
  rw [funext hx, funext hg, hj]

/-- The gradient of the row as the kernel forms it. -/
def kdx (x g p : _root_.Fin 2048 → EReal) (j : _root_.Fin 2048) : EReal :=
  rstd x * (p j * g j - x j * rstd x * Ideal.div (∑ k, p k * g k * (x k * rstd x)) len)

/-- What the chain rule multiplies the row by: half the derivative of the mean square. -/
def half (x g p : _root_.Fin 2048 → EReal) : EReal :=
  Ideal.div ((∑ k, x k * (p k * g k)) * (mhalf * Ideal.div (rstd x) (var x))) len

/-- The gradient of the row as the chain rule forms it. -/
def vdx (x g p : _root_.Fin 2048 → EReal) (j : _root_.Fin 2048) : EReal :=
  p j * g j * rstd x + x j * half x g p + half x g p * x j

theorem rsqrt_coe {r : ℝ} (h : 0 < r) : Ideal.rsqrt (r : EReal) = ((√r)⁻¹ : ℝ) := by
  show (if r < 0 then ⊥ else if r = 0 then ⊤ else (((√r)⁻¹ : ℝ) : EReal)) = _
  rw [if_neg (not_lt.mpr h.le), if_neg h.ne']

/-- A finite row's mean square and ε: a positive number. -/
theorem var_coe (a : _root_.Fin 2048 → ℝ) : ∃ v : ℝ, 0 < v ∧ var (fun k => (a k : EReal)) = (v : EReal) := by
  obtain ⟨e, he, hee⟩ := eps_eq
  refine ⟨(∑ k, a k * a k) / 2048 + e, ?_, ?_⟩
  · have : 0 ≤ ∑ k, a k * a k := Finset.sum_nonneg fun k _ => mul_self_nonneg _
    positivity
  · show Ideal.div (∑ k, (a k : EReal) * (a k : EReal)) len + eps = _
    simp only [← EReal.coe_mul]
    rw [coe_sum, len_eq, hee, div_coe _ _ (by norm_num), ← EReal.coe_add]

/-- A number that is not negative is multiplied into a sum term by term. -/
theorem sum_mul_coe {ι : Type} (s : Finset ι) (f : ι → EReal) {r : ℝ} (hr : 0 ≤ r) : (∑ k ∈ s, f k) * (r : EReal) = ∑ k ∈ s, f k * (r : EReal) := by
  classical
  induction s using Finset.induction with
  | empty => simp
  | insert a s ha ih =>
    rw [Finset.sum_insert ha, Finset.sum_insert ha, EReal.right_distrib_of_nonneg_of_ne_top (by exact_mod_cast hr) (EReal.coe_ne_top r), ih]

theorem add_self (z : EReal) : z + z = ((2 : ℝ) : EReal) * z := by
  have h : (1 + 1) * z = 1 * z + 1 * z := EReal.right_distrib_of_nonneg zero_le_one zero_le_one
  rw [one_mul, ← EReal.coe_one, ← EReal.coe_add] at h
  rw [← h]
  norm_num

theorem div_len (z : EReal) : Ideal.div z len = z * ((2048⁻¹ : ℝ) : EReal) := by
  rw [len_eq, Ideal.div, if_neg (by norm_cast), ← EReal.coe_inv]

/-- A square of an infinite number is infinite. -/
theorem mul_self_top {y : EReal} (h : ¬Reals.Fin y) : y * y = ⊤ := by
  induction y using EReal.rec with
  | bot => rfl
  | coe r => exact absurd (Reals.Fin.coe r) h
  | top => rfl

theorem mul_self_nonneg (y : EReal) : 0 ≤ y * y := by
  induction y using EReal.rec with
  | bot => exact le_top
  | coe r => exact_mod_cast _root_.mul_self_nonneg r
  | top => exact le_top

/-- A row that is not finite has an infinite mean square. -/
theorem var_top {x : _root_.Fin 2048 → EReal} {k : _root_.Fin 2048} (h : ¬Reals.Fin (x k)) : var x = ⊤ := by
  obtain ⟨e, he, hee⟩ := eps_eq
  have hs : ∑ k, x k * x k = ⊤ := by
    refine top_le_iff.mp ?_
    rw [← mul_self_top h]
    exact Finset.single_le_sum (f := fun k => x k * x k) (fun k _ => mul_self_nonneg (x k)) (Finset.mem_univ k)
  rw [var, hs, div_len, hee, EReal.top_mul_coe_of_pos (by norm_num), EReal.top_add_coe]

theorem kdx_eq_vdx (x g p : _root_.Fin 2048 → EReal) (j : _root_.Fin 2048) : kdx x g p j = vdx x g p j := by
  by_cases hx : ∀ k, Reals.Fin (x k)
  · choose a ha using hx
    obtain rfl : x = fun k => (a k : EReal) := funext ha
    obtain ⟨v, hv, hve⟩ := var_coe a
    have hs : √v * √v = v := Real.mul_self_sqrt hv.le
    have hw : 0 < √v := Real.sqrt_pos.mpr hv
    have hr : rstd (fun k => (a k : EReal)) = ((√v)⁻¹ : ℝ) := by rw [rstd, hve, rsqrt_coe hv]
    have hr0 : 0 ≤ (√v)⁻¹ := (inv_pos.mpr hw).le
    have hk : (∑ k, p k * g k * ((a k : EReal) * ((√v)⁻¹ : ℝ))) = (∑ k, (a k : EReal) * (p k * g k)) * ((√v)⁻¹ : ℝ) := by
      rw [sum_mul_coe _ _ hr0]
      exact Finset.sum_congr rfl fun k _ => by rw [← mul_assoc, mul_comm (p k * g k)]
    rw [kdx, vdx, half, hr, hve, div_len, div_len, mhalf_eq, div_coe _ _ hv.ne', hk]
    generalize (∑ k, (a k : EReal) * (p k * g k)) = s
    generalize p j * g j = q
    rw [sub_eq_add_neg, EReal.left_distrib_of_nonneg_of_ne_top (by exact_mod_cast hr0) (EReal.coe_ne_top _), mul_comm _ q, add_assoc]
    refine congrArg (q * ((√v)⁻¹ : ℝ) + ·) ?_
    rw [mul_comm _ (a j : EReal), add_self, ← EReal.neg_mul]
    rw [show s * ((√v)⁻¹ : ℝ) * ((2048⁻¹ : ℝ) : EReal) = (((√v)⁻¹ * 2048⁻¹ : ℝ) : EReal) * s by rw [mul_assoc, ← EReal.coe_mul, mul_comm],
      show s * (((-1 / 2 : ℝ) : EReal) * (((√v)⁻¹ / v : ℝ) : EReal)) * ((2048⁻¹ : ℝ) : EReal) = (((-1 / 2 * ((√v)⁻¹ / v)) * 2048⁻¹ : ℝ) : EReal) * s by
        rw [← EReal.coe_mul, mul_assoc, ← EReal.coe_mul, mul_comm]]
    simp only [← mul_assoc, ← EReal.coe_mul, ← EReal.coe_neg]
    refine congrArg (· * s) (congrArg _ ?_)
    generalize √v = w at hs hw
    subst hs
    field_simp
  · obtain ⟨k, hk⟩ := not_forall.mp hx
    have hv := var_top hk
    have hr : rstd x = 0 := by rw [rstd, hv]; rfl
    have hd : Ideal.div 0 ⊤ = 0 := by rw [Ideal.div, if_neg EReal.top_ne_zero, zero_mul]
    rw [kdx, vdx, half, hr, hv, hd, div_len, div_len]
    simp

theorem kdx_congr {x x' g g' p p' : _root_.Fin 2048 → EReal} {j j' : _root_.Fin 2048} (hx : ∀ k, x k = x' k) (hg : ∀ k, g k = g' k) (hp : ∀ k, p k = p' k)
    (hj : j = j') : kdx x g p j = kdx x' g' p' j' := by
  rw [funext hx, funext hg, funext hp, hj]

/-- One row's part of the gradient of the norm's weight. -/
theorem dg_congr {x x' p p' : _root_.Fin 2048 → EReal} {j j' : _root_.Fin 2048} (hx : ∀ k, x k = x' k) (hp : ∀ k, p k = p' k) (hj : j = j') :
    p j * (x j * rstd x) = x' j' * rstd x' * p' j' := by
  rw [funext hx, funext hp, hj, mul_comm]

end Cert.Norm

end
-- ==== Proof.ObwdValue.lean ====
/-
  Hand-written, untrusted. THE GRADIENT OF THE MIXER'S OUTPUT NORM AND PROJECTION, block by block of 528 rows: the norm's gradient in its row
  (`Norm.lean`), its product with the projection's weight, and the gradient of the norm's weight, added up over the eight blocks.
-/
module

public import proofs.«01_k».proof.Defs
public import proofs.«01_k».proof.Proof.Gen.ObwdIdeal.Frame
public import proofs.«01_k».proof.Proof.Gen.ObwdRefIdeal.Run
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ObwdIdeal.Value

open Cert.ObwdIdeal Cert.ObwdIdeal.Gen

/-! ## The reference's arrays -/

/-- The mean squares and ε. -/
def VAR (x : FVec Ideal S4224x2048 .f32) : FVec Ideal Cert.ObwdRefIdeal.S4224x1 .f32 :=
  addf (Host.divf (broadcastInDim Cert.ObwdRefIdeal.S4224x1 ![0] Cert.ObwdRefIdeal.Gen.bcast_S4224_S4224x1_0 (Host.reduceAdd (mulf x x) (constant Cert.ObwdRefIdeal.S_ .f32 0x00000000#32) Cert.ObwdRefIdeal.Gen.reducesTo_S4224x2048_S4224_d1 Cert.ObwdRefIdeal.Gen.h_S_)) (broadcastInDim Cert.ObwdRefIdeal.S4224x1 ![] Cert.ObwdRefIdeal.Gen.bcast_S_S4224x1 (constant Cert.ObwdRefIdeal.S_ .f32 0x45000000#32))) (broadcastInDim Cert.ObwdRefIdeal.S4224x1 ![] Cert.ObwdRefIdeal.Gen.bcast_S_S4224x1 (constant Cert.ObwdRefIdeal.S_ .f32 0x358637BD#32))

/-- The reciprocal roots. -/
def RSTD (x : FVec Ideal S4224x2048 .f32) : FVec Ideal Cert.ObwdRefIdeal.S4224x1 .f32 := Host.rsqrt (VAR x)

/-- The incoming gradient times the norm's weight. -/
def PG (g : FVec Ideal S1x2048 .f32) (p : FVec Ideal S4224x2048 .f32) : FVec Ideal S4224x2048 .f32 :=
  mulf p (broadcastInDim Cert.ObwdRefIdeal.S4224x2048 ![0, 1] Cert.ObwdRefIdeal.Gen.bcast_S1x2048_S4224x2048_0_1 (broadcastInDim Cert.ObwdRefIdeal.S1x2048 ![1] Cert.ObwdRefIdeal.Gen.bcast_S2048_S1x2048_1 (shapeCast _ g Cert.ObwdRefIdeal.Gen.shapeCasts_S1x2048_S2048)))

/-- Half the derivative of the mean squares. -/
def HALF (x : FVec Ideal S4224x2048 .f32) (g : FVec Ideal S1x2048 .f32) (p : FVec Ideal S4224x2048 .f32) : FVec Ideal S4224x2048 .f32 :=
  broadcastInDim Cert.ObwdRefIdeal.S4224x2048 ![0] Cert.ObwdRefIdeal.Gen.bcast_S4224_S4224x2048_0 (Host.reduceAdd (Host.divf (mulf (shapeCast _ (Host.reduceAdd (mulf x (PG g p)) (constant Cert.ObwdRefIdeal.S_ .f32 0x00000000#32) Cert.ObwdRefIdeal.Gen.reducesTo_S4224x2048_S4224_d1 Cert.ObwdRefIdeal.Gen.h_S_) Cert.ObwdRefIdeal.Gen.shapeCasts_S4224_S4224x1) (mulf (broadcastInDim Cert.ObwdRefIdeal.S4224x1 ![] Cert.ObwdRefIdeal.Gen.bcast_S_S4224x1 (constant Cert.ObwdRefIdeal.S_ .f32 0xBF000000#32)) (Host.divf (RSTD x) (VAR x)))) (broadcastInDim Cert.ObwdRefIdeal.S4224x1 ![] Cert.ObwdRefIdeal.Gen.bcast_S_S4224x1 (constant Cert.ObwdRefIdeal.S_ .f32 0x45000000#32))) (constant Cert.ObwdRefIdeal.S_ .f32 0x00000000#32) Cert.ObwdRefIdeal.Gen.reducesTo_S4224x1_S4224_d1 Cert.ObwdRefIdeal.Gen.h_S_)

/-- The gradient of the rows. -/
def DX (x : FVec Ideal S4224x2048 .f32) (g : FVec Ideal S1x2048 .f32) (p : FVec Ideal S4224x2048 .f32) : FVec Ideal S4224x2048 .f32 :=
  addf (addf (mulf (PG g p) (broadcastInDim Cert.ObwdRefIdeal.S4224x2048 ![0, 1] Cert.ObwdRefIdeal.Gen.bcast_S4224x1_S4224x2048_0_1 (RSTD x))) (mulf x (HALF x g p))) (mulf (HALF x g p) x)

/-- The gradient of the norm's weight. -/
def DG (x p : FVec Ideal S4224x2048 .f32) : FVec Ideal S1x2048 .f32 :=
  broadcastInDim Cert.ObwdRefIdeal.S1x2048 ![1] Cert.ObwdRefIdeal.Gen.bcast_S2048_S1x2048_1 (Host.reduceAdd (shapeCast _ (Host.reduceAdd (mulf (mulf x (broadcastInDim Cert.ObwdRefIdeal.S4224x2048 ![0, 1] Cert.ObwdRefIdeal.Gen.bcast_S4224x1_S4224x2048_0_1 (RSTD x))) p) (constant Cert.ObwdRefIdeal.S_ .f32 0x00000000#32) Cert.ObwdRefIdeal.Gen.reducesTo_S4224x2048_S2048_d0 Cert.ObwdRefIdeal.Gen.h_S_) Cert.ObwdRefIdeal.Gen.shapeCasts_S2048_S1x2048) (constant Cert.ObwdRefIdeal.S_ .f32 0x00000000#32) Cert.ObwdRefIdeal.Gen.reducesTo_S1x2048_S2048_d0 Cert.ObwdRefIdeal.Gen.h_S_)

/-- The gradient of the rows, rounded. -/
abbrev DO (x : FVec Ideal S4224x2048 .f32) (g : FVec Ideal S1x2048 .f32) (p : FVec Ideal S4224x2048 .f32) : FVec Ideal S4224x2048 .bf16 :=
  truncf .bf16 (DX x g p) Cert.ObwdRefIdeal.Gen.bitsLt_bf16_f32

/-- The gradient of the rows times the projection's weight. -/
def DM (x : FVec Ideal S4224x2048 .f32) (g : FVec Ideal S1x2048 .f32) (p : FVec Ideal S4224x2048 .f32) (w : FVec Ideal S2048x2048 .bf16) : FVec Ideal S4224x2048 .f32 :=
  Host.dotGeneral Cert.ObwdRefIdeal.dot_S4224x2048_S2048x2048_S4224x2048_1_1_0_0_n_n none (DX x g p) (extf .f32 w Cert.ObwdRefIdeal.Gen.bitsLt_bf16_f32)

theorem ref0 (m : (ℓ : Loc Cert.ObwdRefIdeal.nD Cert.ObwdRefIdeal.τ Cert.ObwdRefIdeal.sig) → Buf (Elt Ideal) ℓ) (c : Dev Cert.ObwdRefIdeal.nD) :
    Cert.ObwdRefIdeal.Value.res_out0 m c = DO (m ((c : Thread Cert.ObwdRefIdeal.nD Cert.ObwdRefIdeal.τ).loc Cert.ObwdRefIdeal.main_arg0)) (m ((c : Thread Cert.ObwdRefIdeal.nD Cert.ObwdRefIdeal.τ).loc Cert.ObwdRefIdeal.main_arg1)) (m ((c : Thread Cert.ObwdRefIdeal.nD Cert.ObwdRefIdeal.τ).loc Cert.ObwdRefIdeal.main_arg2)) := rfl

theorem ref2 (m : (ℓ : Loc Cert.ObwdRefIdeal.nD Cert.ObwdRefIdeal.τ Cert.ObwdRefIdeal.sig) → Buf (Elt Ideal) ℓ) (c : Dev Cert.ObwdRefIdeal.nD) :
    Cert.ObwdRefIdeal.Value.res_out2 m c = DM (m ((c : Thread Cert.ObwdRefIdeal.nD Cert.ObwdRefIdeal.τ).loc Cert.ObwdRefIdeal.main_arg0)) (m ((c : Thread Cert.ObwdRefIdeal.nD Cert.ObwdRefIdeal.τ).loc Cert.ObwdRefIdeal.main_arg1)) (m ((c : Thread Cert.ObwdRefIdeal.nD Cert.ObwdRefIdeal.τ).loc Cert.ObwdRefIdeal.main_arg2)) (m ((c : Thread Cert.ObwdRefIdeal.nD Cert.ObwdRefIdeal.τ).loc Cert.ObwdRefIdeal.main_arg3)) := rfl

/-! ## … at an index -/

theorem var_at (x : FVec Ideal S4224x2048 .f32) (i) : VAR x i = Norm.var fun k => x (ix2 (i 0) k) := by
  pointwise [VAR]
  rfl

theorem rstd_at (x : FVec Ideal S4224x2048 .f32) (i) : RSTD x i = Norm.rstd fun k => x (ix2 (i 0) k) :=
  congrArg Ideal.rsqrt (var_at x i)

theorem pg_at (g p i) : PG g p i = p i * g (ix2 0 (i 1)) := by
  pointwise [PG]

theorem half_at (x g p i) : HALF x g p i = Norm.half (fun k => x (ix2 (i 0) k)) (fun k => g (ix2 0 k)) fun k => p (ix2 (i 0) k) := by
  pointwise [HALF, pg_at, var_at, rstd_at]
  exact Fin.sum_univ_one _

theorem dx_at (x g p i) : DX x g p i = Norm.vdx (fun k => x (ix2 (i 0) k)) (fun k => g (ix2 0 k)) (fun k => p (ix2 (i 0) k)) (i 1) := by
  pointwise [DX, pg_at, half_at, rstd_at, Norm.vdx]
  blk_ext

theorem dg_at (x p i) : DG x p i = ∑ l : Fin 4224, x (ix2 l (i 1)) * Norm.rstd (fun k => x (ix2 l k)) * p (ix2 l (i 1)) := by
  pointwise [DG, rstd_at]
  exact Fin.sum_univ_one _

theorem dm_at (x g p w i) : DM x g p w i = ∑ k : Fin 2048, DX x g p (ix2 (i 0) k) * w (ix2 (i 1) k) := by
  pointwise [DM]

/-! ## The kernel's block -/

theorem pay4_at (x : Vec Ideal S528x2048 .f32) (i) : k0_pay4 x i = Norm.rstd fun k => x (ix2 (i 0) k) := by
  pointwise [k0_pay4]
  rfl

theorem pay5_at (x : Vec Ideal S528x2048 .f32) (i) : k0_pay5 x i = x i * Norm.rstd fun k => x (ix2 (i 0) k) := by
  pointwise [k0_pay5, pay4_at]

theorem pay6_at (x : Vec Ideal S528x2048 .f32) (g p i) :
    k0_pay6 x g p i = Norm.kdx (fun k => x (ix2 (i 0) k)) (fun k => g (ix2 0 k)) (fun k => p (ix2 (i 0) k)) (i 1) := by
  pointwise [k0_pay6, k0_pay3, pay4_at, pay5_at, Norm.kdx]
  blk_ext

theorem pay7_at (x p : Vec Ideal S528x2048 .f32) (acc i) :
    k0_pay7 x p acc i = acc i + ∑ a : Fin 528, p (ix2 a (i 1)) * (x (ix2 a (i 1)) * Norm.rstd fun k => x (ix2 a k)) := by
  pointwise [k0_pay7, k0_pay3, pay5_at]

theorem pay2_at (i) : k0_pay2 (F := Ideal) i = 0 := by pointwise [k0_pay2]

theorem pay1_at (x : FVec Ideal S528x2048 .bf16) (w i) : k0_pay1 x w i = ∑ k : Fin 2048, x (ix2 (i 0) k) * w (ix2 (i 1) k) := by
  pointwise [k0_pay1]

/-! ## Block against array -/

variable (m : (ℓ : Loc nD τ sig) → Buf (Elt Ideal) ℓ)

/-- Where the blocks sit. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] :=
  (by decide +kernel : ∀ t : Fin grid0.N, _)

theorem row0 (c : Dev nD) (t : Fin cfg0.N) (a : Fin 528) (b : Fin 4224) (h : b.val = t.val * 528 + a.val) (k : Fin 2048) :
    (iblk m c 0 t : Vec Ideal S528x2048 .f32) (ix2 a k) = (m ((c : Thread nD τ).loc main_arg0) : Vec Ideal S4224x2048 .f32) (ix2 b k) := by
  blk_ext [iblk, V, idx t]

theorem row2 (c : Dev nD) (t : Fin cfg0.N) (a : Fin 528) (b : Fin 4224) (h : b.val = t.val * 528 + a.val) (k : Fin 2048) :
    (iblk m c 2 t : Vec Ideal S528x2048 .f32) (ix2 a k) = (m ((c : Thread nD τ).loc main_arg2) : Vec Ideal S4224x2048 .f32) (ix2 b k) := by
  blk_ext [iblk, V, idx t]

theorem row1 (c : Dev nD) (t : Fin cfg0.N) (k : Fin 2048) :
    (iblk m c 1 t : Vec Ideal S1x2048 .f32) (ix2 0 k) = (m ((c : Thread nD τ).loc main_arg1) : Vec Ideal S1x2048 .f32) (ix2 0 k) := by
  blk_ext [iblk, V, idx t]

theorem row3 (c : Dev nD) (t : Fin cfg0.N) (j k : Fin 2048) :
    (iblk m c 3 t : Vec Ideal S2048x2048 .bf16) (ix2 j k) = (m ((c : Thread nD τ).loc main_arg3) : Vec Ideal S2048x2048 .bf16) (ix2 j k) := by
  blk_ext [iblk, V, idx t]

variable (c : Dev nD)

/-- What the body stores at an index of its block of rows is the reference's value at the array's index. -/
theorem core (t : Fin cfg0.N) (y : S528x2048.Idx) (i : S4224x2048.Idx) (hi : (i 0).val = t.val * 528 + (y 0).val) (hj : (i 1).val = (y 1).val) :
    k0_pay6 (iblk m c 0 t) (iblk m c 1 t) (iblk m c 2 t) y
      = DX (m ((c : Thread nD τ).loc main_arg0)) (m ((c : Thread nD τ).loc main_arg1)) (m ((c : Thread nD τ).loc main_arg2)) i := by
  refine (pay6_at _ _ _ _).trans (Eq.trans ?_ (dx_at _ _ _ _).symm)
  refine Eq.trans ?_ (Norm.kdx_eq_vdx _ _ _ _)
  exact Norm.kdx_congr (row0 m c t (y 0) (i 0) hi) (row1 m c t) (row2 m c t (y 0) (i 0) hi) (Fin.ext hj.symm)

theorem final4 : (dats m 0 c).arrAt 4 (cfgs 0).N
    = DO (m ((c : Thread nD τ).loc main_arg0)) (m ((c : Thread nD τ).loc main_arg1)) (m ((c : Thread nD τ).loc main_arg2)) := by
  refine (dats m 0 c).arrAt_eq_of_covers 4 _ (by decide +kernel) fun t _ y => ?_
  have e0 : (((cfg0.win 4).blk t).view.emb y 0).val = t.val * 528 + (y 0).val := by blk_simp [idx t]
  have e1 : (((cfg0.win 4).blk t).view.emb y 1).val = (y 1).val := by blk_simp [idx t]
  blk_simp
  rw [after0_4]
  by_cases h : t.val % 8 = 0
  · rw [outsAt0_A m c t h]; frame_out
    exact core m c t y _ e0 e1
  · rw [outsAt0_B m c t h]; frame_out
    exact core m c t y _ e0 e1

theorem final6 : (dats m 0 c).arrAt 6 (cfgs 0).N
    = DM (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  have e0 : (((cfg0.win 6).blk t).view.emb y 0).val = t.val * 528 + (y 0).val := by blk_simp [idx t]
  have e1 : (((cfg0.win 6).blk t).view.emb y 1).val = (y 1).val := by blk_simp [idx t]
  have key : k0_pay1 (k0_pay6 (iblk m c 0 t) (iblk m c 1 t) (iblk m c 2 t)) (iblk m c 3 t) y
      = DM (m ((c : Thread nD τ).loc main_arg0)) (m ((c : Thread nD τ).loc main_arg1)) (m ((c : Thread nD τ).loc main_arg2)) (m ((c : Thread nD τ).loc main_arg3)) (((cfg0.win 6).blk t).view.emb y) := by
    refine (pay1_at _ _ _).trans (Eq.trans ?_ (dm_at _ _ _ _ _).symm)
    refine Finset.sum_congr rfl fun k _ => congrArg₂ (· * ·) (core m c t _ _ e0 rfl) ((row3 m c t _ _).trans ?_)
    rw [show y 1 = ((cfg0.win 6).blk t).view.emb y 1 from Fin.ext e1.symm]
  blk_simp
  rw [after0_6]
  by_cases h : t.val % 8 = 0
  · rw [outsAt0_A m c t h]; frame_out
    exact key
  · rw [outsAt0_B m c t h]; frame_out
    exact key

theorem final5 : (dats m 0 c).arrAt 5 (cfgs 0).N = DG (m ((c : Thread nD τ).loc main_arg0)) (m ((c : Thread nD τ).loc main_arg2)) := by
  refine (dats m 0 c).arrAt_eq_of_covers 5 _ (by decide +kernel) fun t hf y => ?_
  have e1 : (((cfg0.win 5).blk t).view.emb y 1).val = (y 1).val := by blk_simp [idx t]
  blk_simp
  rw [after0_5, Pipeline.eq_sum_fin_of_reset_step_apply_of_flush (fun n h => (outsAt0 m c n h).2.1) 8 (fun _ => 0) _
    (fun t h j => by rw [outsAt0_A m c t h]; frame_out; rw [pay7_at, pay2_at])
    (fun t h j => by rw [outsAt0_B m c t h]; frame_out; rw [pay7_at])
    t ((flush0_5 t).mp hf) _, zero_add, dg_at]
  refine Fin.sum_mul_add_congr fun s a hl => ?_
  have ht : t.val < 8 := lt_of_lt_of_eq t.isLt N_0
  have hs : s.val * 528 + a.val = (8 * (t.val / 8) + s.val) * 528 + a.val := by omega
  exact Norm.dg_congr (row0 m c ⟨8 * (t.val / 8) + s.val, _⟩ a ⟨s * 528 + a, hl⟩ hs) (row2 m c ⟨8 * (t.val / 8) + s.val, _⟩ a ⟨s * 528 + a, hl⟩ hs) (Fin.ext e1.symm)

end Cert.ObwdIdeal.Value

end
-- ==== Proof.ObwdClaims.lean ====
/-
  Hand-written, untrusted. The claims about `Obwd`, proved: the generated frames, and the value claim from `Proof/ObwdValue.lean`.
-/
module

public import proofs.«01_k».proof.Defs
public import proofs.«01_k».proof.Proof.Gen.Obwd.Frame
public import proofs.«01_k».proof.Proof.Gen.ObwdIdeal.Value
public import proofs.«01_k».proof.Proof.ObwdValue

@[expose] public section

set_option maxRecDepth 16384

noncomputable section

namespace Cert.Proof.Obwd

open Idealize.ShloMosaic Idealize.SL.Sem

theorem kernel : Cert.quiescent_Obwd (hObwd := Cert.Obwd.Gen.facts) := fun m ρ _ => Cert.Obwd.Gen.frame m ρ

theorem ideal : Cert.quiescent_ObwdIdeal (hObwdIdeal := Cert.ObwdIdeal.Gen.facts) := fun m ρ _ => Cert.ObwdIdeal.Gen.frame m ρ

theorem reference : Cert.quiescent_ObwdRefIdeal (hObwdRefIdeal := Cert.ObwdRefIdeal.Gen.facts) := fun m ρ _ =>
  (θ_run Cert.ObwdRefIdeal.defs _ _).mono (fun r h => ⟨fun c => (h c).2.2.2, sem_eq_zero_of_no_sems (by decide) r.2⟩)
    (Cert.ObwdRefIdeal.Value.run (F := Ideal) m ρ)

/-- From equal arguments the kernel and the reference end with equal results. -/
theorem value : Cert.algebraic_ObwdIdeal_ObwdRefIdeal (hObwdIdeal := Cert.ObwdIdeal.Gen.facts) (hObwdRefIdeal := Cert.ObwdRefIdeal.Gen.facts) := by
  intro m g m' g' _ hargs
  refine ⟨_, _, _, Cert.ObwdIdeal.Value.run_blocks m g, ?_⟩
  refine (θ_run Cert.ObwdRefIdeal.defs _ _).mono (fun r h c => ⟨(h c).1.trans ?_, (h c).2.1.trans ?_, (h c).2.2.1.trans ?_, (h c).2.2.2⟩) (Cert.ObwdRefIdeal.Value.run (F := Ideal) m' g')
  · refine (Cert.ObwdIdeal.Value.ref0 m' c).trans ?_
    try rw [(hargs c).1]
    try rw [(hargs c).2.1]
    try rw [(hargs c).2.2.1]
    try rw [(hargs c).2.2.2]
    exact (Cert.ObwdIdeal.Value.final4 m c).symm
  · try rw [(hargs c).1]
    try rw [(hargs c).2.1]
    try rw [(hargs c).2.2.1]
    try rw [(hargs c).2.2.2]
    exact (Cert.ObwdIdeal.Value.final5 m c).symm
  · refine (Cert.ObwdIdeal.Value.ref2 m' c).trans ?_
    try rw [(hargs c).1]
    try rw [(hargs c).2.1]
    try rw [(hargs c).2.2.1]
    try rw [(hargs c).2.2.2]
    exact (Cert.ObwdIdeal.Value.final6 m c).symm

end Cert.Proof.Obwd

end
-- ==== Proof.DxRef.lean ====
/-
  Hand-written, untrusted. The reference's arrays for ffn2_dx: the gradient of `h ↦ (h, norm h · w_gate, norm h · w_up)` for 4224 rows,
  with the terms it is made of, and what each is at an index.
-/
module

public import proofs.«01_k».proof.Proof.Gen.DxRefIdeal.Run
public import proofs.«01_k».proof.Proof.Norm
public import Idealize.ShloMosaic.Lib.Pipeline.ValueKit

@[expose] public section

set_option maxRecDepth 16384

noncomputable section

open Idealize.ShloMosaic Idealize.ShloMosaic.TcCoe

namespace Cert.DxRefIdeal.Arrays

open Cert.DxRefIdeal Cert.DxRefIdeal.Gen

/-- The norm's own gradient: the sum of the two products' gradients in their left factor. -/
def DN (dg : FVec Ideal S4224x5632 .bf16) (wg : FVec Ideal S5632x2048 .bf16) (du : FVec Ideal S4224x5632 .bf16) (wu : FVec Ideal S5632x2048 .bf16) :
    FVec Ideal S4224x2048 .f32 :=
  addf (Host.dotGeneral dot_S4224x5632_S2048x5632_S4224x2048_1_1_0_0_n_n none (extf .f32 du bitsLt_bf16_f32) (transpose S2048x5632 [1, 0] (extf .f32 wu bitsLt_bf16_f32) transposes_S5632x2048_S2048x5632_1_0))
    (Host.dotGeneral dot_S4224x5632_S2048x5632_S4224x2048_1_1_0_0_n_n none (extf .f32 dg bitsLt_bf16_f32) (transpose S2048x5632 [1, 0] (extf .f32 wg bitsLt_bf16_f32) transposes_S5632x2048_S2048x5632_1_0))

/-- The mean squares and ε. -/
def VAR (x : FVec Ideal S4224x2048 .f32) : FVec Ideal S4224x1 .f32 :=
  addf (Host.divf (broadcastInDim S4224x1 ![0] bcast_S4224_S4224x1_0 (Host.reduceAdd (mulf x x) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32))

/-- The reciprocal roots. -/
def RSTD (x : FVec Ideal S4224x2048 .f32) : FVec Ideal S4224x1 .f32 := Host.rsqrt (VAR x)

/-- The norm's gradient times its weight. -/
def PG (g : FVec Ideal S1x2048 .f32) (p : FVec Ideal S4224x2048 .f32) : FVec Ideal S4224x2048 .f32 :=
  mulf p (broadcastInDim S4224x2048 ![0, 1] bcast_S1x2048_S4224x2048_0_1 (broadcastInDim S1x2048 ![1] bcast_S2048_S1x2048_1 (shapeCast _ g shapeCasts_S1x2048_S2048)))

/-- Half the derivative of the mean squares. -/
def HALF (x : FVec Ideal S4224x2048 .f32) (g : FVec Ideal S1x2048 .f32) (p : FVec Ideal S4224x2048 .f32) : FVec Ideal S4224x2048 .f32 :=
  broadcastInDim S4224x2048 ![0] bcast_S4224_S4224x2048_0 (Host.reduceAdd (Host.divf (mulf (shapeCast _ (Host.reduceAdd (mulf x (PG g p)) (constant S_ .f32 0x00000000#32) reducesTo_S4224x2048_S4224_d1 h_S_) shapeCasts_S4224_S4224x1) (mulf (broadcastInDim S4224x1 ![] bcast_S_S4224x1 (constant S_ .f32 0xBF000000#32)) (Host.divf (RSTD x) (VAR x)))) (broadcastInDim S4224x1 ![] bcast_S_S4224x1 (constant S_ .f32 0x45000000#32))) (constant S_ .f32 0x00000000#32) reducesTo_S4224x1_S4224_d1 h_S_)

/-- The gradient of the rows: `up`, which passes by the norm, and what comes through it. -/
def DX (x : FVec Ideal S4224x2048 .f32) (g : FVec Ideal S1x2048 .f32) (p up : FVec Ideal S4224x2048 .f32) : FVec Ideal S4224x2048 .f32 :=
  addf (addf (addf up (mulf (PG g p) (broadcastInDim S4224x2048 ![0, 1] bcast_S4224x1_S4224x2048_0_1 (RSTD x)))) (mulf x (HALF x g p))) (mulf (HALF x g p) x)

/-- The gradient of the norm's weight. -/
def DG (x p : FVec Ideal S4224x2048 .f32) : FVec Ideal S1x2048 .f32 :=
  broadcastInDim S1x2048 ![1] bcast_S2048_S1x2048_1 (Host.reduceAdd (shapeCast _ (Host.reduceAdd (mulf (mulf x (broadcastInDim S4224x2048 ![0, 1] bcast_S4224x1_S4224x2048_0_1 (RSTD x))) p) (constant S_ .f32 0x00000000#32) reducesTo_S4224x2048_S2048_d0 h_S_) shapeCasts_S2048_S1x2048) (constant S_ .f32 0x00000000#32) reducesTo_S1x2048_S2048_d0 h_S_)

theorem dn_at (dg wg du wu i) : DN dg wg du wu i
    = (∑ k : Fin 5632, dg (ix2 (i 0) k) * wg (ix2 k (i 1))) + ∑ k : Fin 5632, du (ix2 (i 0) k) * wu (ix2 k (i 1)) := by
  rw [add_comm]
  pointwise [DN]

theorem var_at (x i) : VAR x i = Norm.var fun k => x (ix2 (i 0) k) := by
  pointwise [VAR]
  rfl

theorem rstd_at (x i) : RSTD x i = Norm.rstd fun k => x (ix2 (i 0) k) := congrArg Ideal.rsqrt (var_at x i)

theorem pg_at (g p i) : PG g p i = p i * g (ix2 0 (i 1)) := by
  pointwise [PG]

theorem half_at (x g p i) : HALF x g p i = Norm.half (fun k => x (ix2 (i 0) k)) (fun k => g (ix2 0 k)) fun k => p (ix2 (i 0) k) := by
  pointwise [HALF, pg_at, var_at, rstd_at]
  exact Fin.sum_univ_one _

theorem dx_at (x g p up i) :
    DX x g p up i = up i + Norm.vdx (fun k => x (ix2 (i 0) k)) (fun k => g (ix2 0 k)) (fun k => p (ix2 (i 0) k)) (i 1) := by
  pointwise [DX, pg_at, half_at, rstd_at, Norm.vdx, add_assoc]
  blk_ext

theorem dg_at (x p i) : DG x p i = ∑ l : Fin 4224, x (ix2 l (i 1)) * Norm.rstd (fun k => x (ix2 l k)) * p (ix2 l (i 1)) := by
  pointwise [DG, rstd_at]
  exact Fin.sum_univ_one _

end Cert.DxRefIdeal.Arrays

end
-- ==== Proof.DxRun.lean ====
/-
  One run of the body of `ffn2_dx`. Whatever its blocks hold, the body leaves its inputs as they were, and in its two
  output blocks and its accumulator what `newDx`, `newDg` and `newAcc` name: the accumulator, zeroed first at the first
  tile of the contraction, plus the products of the two pairs of blocks; at the last tile the gradient of the norm, and the
  row's part of the gradient of the gain added to the running sum.
-/
module

public import proofs.«01_k».proof.Proof.Gen.DxIdeal.Frame
public import proofs.«01_k».proof.Proof.Gen.DxIdeal.Skeleton
public import Idealize.ShloMosaic.Lib.WritesUnit
public import Idealize.ShloMosaic.Lib.Pipeline.FrameBody
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.DxIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.DxIdeal.Gen

variable {F : FTy → Type} [FloatOps F]

local notation "𝕄" => MT nD τ sig Unit (Elt F) ℕ (UR sig nD τ) ℕ

/-- The accumulator after a point's two products, from what it holds when they begin. -/
def mulAcc (x0 : Vec F S528x512 .bf16) (x1 : Vec F S512x2048 .bf16) (x2 : Vec F S528x512 .bf16) (x3 : Vec F S512x2048 .bf16)
    (a : Vec F S1x528x2048 .f32) : Vec F S1x528x2048 .f32 :=
  k0_pay1 (k0_pay10 (k0_pay9 a x0 x1) x2 x3)

/-- There is one row of blocks in a group, so that every access to the accumulator is at its start. -/
theorem off1 (i : grid0.Coords) : k0_off1 i = ![0, 0, 0] := by
  rw [k0_off1_eq, show (i 2).val = 0 from Nat.lt_one_iff.mp (i 2).isLt]
theorem off2 (i : grid0.Coords) : k0_off2 i = ![0, 0, 0] := by
  rw [k0_off2_eq, show (i 2).val = 0 from Nat.lt_one_iff.mp (i 2).isLt]
theorem off3 (i : grid0.Coords) : k0_off3 i = ![0, 0, 0] := by
  rw [k0_off3_eq, show (i 2).val = 0 from Nat.lt_one_iff.mp (i 2).isLt]

/-- A store over a whole buffer is what is read back, whatever was stored before. -/
theorem read_whole {sp : Space} {s : Shape} {e : EltTy} (v : View sig .tc sp s e) (f : v.ty.Contents (Elt F))
    {off : Fin s.rank → ℕ} (inb : ∀ a, off a + s.size a ≤ s.size a) (w : s.Idx → Elt F e)
    (L : List (View.Piece (Elt F) s e)) (h : ∀ j, off j = 0) :
    v.read (Elt F) (v.writes (Elt F) f ((⟨Rect.unit off (no_index s.size) inb, w⟩ : View.Piece (Elt F) s e) :: L)) = w := by
  funext y
  exact View.read_writes_cons_unit_of_mem v f inb w L y y (funext h) fun a => (Nat.zero_add _).symm

variable (i : grid0.Coords)
  (arg3 : Memref sig .tc .vmem S528x512 .bf16) (harg3 : arg3.IsWhole)
  (arg4 : Memref sig .tc .vmem S512x2048 .bf16) (harg4 : arg4.IsWhole)
  (arg5 : Memref sig .tc .vmem S528x512 .bf16) (harg5 : arg5.IsWhole)
  (arg6 : Memref sig .tc .vmem S512x2048 .bf16) (harg6 : arg6.IsWhole)
  (arg7 : Memref sig .tc .vmem S528x2048 .f32) (harg7 : arg7.IsWhole)
  (arg8 : Memref sig .tc .vmem S1x2048 .f32) (harg8 : arg8.IsWhole)
  (arg9 : Memref sig .tc .vmem S528x2048 .f32) (harg9 : arg9.IsWhole)
  (arg10 : Memref sig .tc .vmem S1x2048 .f32) (harg10 : arg10.IsWhole)
  (arg11 : Memref sig .tc .vmem S528x2048 .f32) (harg11 : arg11.IsWhole)
  (arg12 : Memref sig .tc .vmem S1x2048 .f32) (harg12 : arg12.IsWhole)
  (arg13 : Memref sig .tc .vmem S1x528x2048 .f32) (harg13 : arg13.IsWhole)
  (x0 : Vec F S528x512 .bf16) (x1 : Vec F S512x2048 .bf16) (x2 : Vec F S528x512 .bf16) (x3 : Vec F S512x2048 .bf16) (x4 : Vec F S528x2048 .f32) (x5 : Vec F S1x2048 .f32) (x6 : Vec F S528x2048 .f32) (x7 : Vec F S1x2048 .f32)
  (o8 : Vec F S528x2048 .f32) (o9 : Vec F S1x2048 .f32) (a : Vec F S1x528x2048 .f32)

/-- What the body leaves in the accumulator: -/
def newAcc : Vec F S1x528x2048 .f32 :=
  mulAcc x0 x1 x2 x3 (if k0_cond2 i = 1#1 then k0_pay8 else a)

/-- in the block of the gradient of the norm's argument: -/
def newDx : Vec F S528x2048 .f32 :=
  if k0_cond3 i = 1#1 then k0_pay5 x4 x5 (newAcc i x0 x1 x2 x3 a) x6 else o8

/-- and in the block of the gradient of the gain. -/
def newDg : Vec F S1x2048 .f32 :=
  if k0_cond3 i = 1#1 then
    k0_pay6 x4 (newAcc i x0 x1 x2 x3 a) (if k0_cond1 i = 1#1 then k0_pay7 x7 else o9)
  else if k0_cond1 i = 1#1 then k0_pay7 x7 else o9

set_option maxHeartbeats 1000000 in
/-- The body run on whole buffers, each of its three conditions holding or not. -/
theorem run (c : Dev nD) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
        ∗ owns (c : Thread nD τ) arg11 fullShare o8 ∗ owns (c : Thread nD τ) arg12 fullShare o9 ∗ owns (c : Thread nD τ) arg13 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
            ∗ owns (c : Thread nD τ) arg11 fullShare (newDx i x0 x1 x2 x3 x4 x5 x6 o8 a) ∗ owns (c : Thread nD τ) arg12 fullShare (newDg i x0 x1 x2 x3 x4 x7 o9 a)
            ∗ owns (c : Thread nD τ) arg13 fullShare (newAcc i x0 x1 x2 x3 a)) -∗ K ⟨⟩))
      ⊢ wp frame (wpE (defs₀ (F := F)) Variants.none c none) E (cc0_ffn2_dx i arg3 harg3 arg4 harg4 arg5 harg5 arg6 harg6 arg7 harg7 arg8 harg8 arg9 harg9 arg10 harg10 arg11 harg11 arg12 harg12 arg13 harg13) K := by
  simp only [cc0_ffn2_dx_eq_skeleton]; unfold cc0_ffn2_dx_skel
  simp only [k0_part1_eq_skeleton, off1, off2, off3]
  unfold newDx newDg newAcc mulAcc
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
  by_cases h1 : k0_cond1 i = 1#1 <;> by_cases h2 : k0_cond2 i = 1#1 <;> by_cases h3 : k0_cond3 i = 1#1 <;>
    simp only [h1, h2, h3, if_true, if_false]
  all_goals
    sl_exec (disch := first | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; · iexact H8
      ipureintro
      first
        | with_reducible exact hf8
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    isplitl [H9]
    · iexists _; isplitr; swap; · iexact H9
      ipureintro
      first
        | with_reducible exact hf9
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    iexists _; isplitr; swap; · iexact H10
    ipureintro
    frame_open
    simp (disch := first | (intro j; simp only [off1, off2, off3]; revert j; decide) | decide) only [read_whole,
      View.ld_unit_lit', View.readCov_unit_lit', View.readCov_cons_unit_lit', View.readAt_eq_ld,
      Memref.IsWhole.read_unread]

end Cert.DxIdeal.Run

end
-- ==== Proof.DxFrame.lean ====
/-
  The frame of `ffn2_dx`: the blocks after each of its 88 points by recursion over the points (`st`), the body's
  obligation from the run of Proof/DxRun.lean, and the launch.
-/
module

public import proofs.«01_k».proof.Proof.DxRun

@[expose] public section

set_option maxRecDepth 16384

noncomputable section

namespace Cert.DxIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.DxIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points meet the body's conditions, and where the outputs' blocks are written -/

theorem first_iff : ∀ t : Fin cfg0.N, k0_cond1 (grid0.coords t) = 1#1 ↔ t.val = 0 := by decide +kernel
theorem start_iff : ∀ t : Fin cfg0.N, k0_cond2 (grid0.coords t) = 1#1 ↔ t.val % 11 = 0 := by decide +kernel
theorem last_iff : ∀ t : Fin cfg0.N, k0_cond3 (grid0.coords t) = 1#1 ↔ t.val % 11 = 10 := by decide +kernel

theorem idle8 : ∀ t : Fin cfg0.N, ¬k0_cond3 (grid0.coords t) = 1#1 →
    cfg0.idle 8 (grid0.coords t) = true ∧ (cfg0.win 8).flush t = false := by decide +kernel
theorem live8 : ∀ t : Fin cfg0.N, k0_cond3 (grid0.coords t) = 1#1 → cfg0.idle 8 (grid0.coords t) = false := by decide +kernel
theorem idle9 : ∀ t : Fin cfg0.N, ¬k0_cond1 (grid0.coords t) = 1#1 → ¬k0_cond3 (grid0.coords t) = 1#1 →
    cfg0.idle 9 (grid0.coords t) = true ∧ (cfg0.win 9).flush t = false := by decide +kernel
theorem live9 : ∀ t : Fin cfg0.N, k0_cond1 (grid0.coords t) = 1#1 ∨ k0_cond3 (grid0.coords t) = 1#1 →
    cfg0.idle 9 (grid0.coords t) = false := by decide +kernel

/-- The gain's block holds nothing of the body's before the first point, and after the last, where it is written back. -/
def unset : ℕ → Bool := fun n => n == 0 || n == 88
theorem unset_step : ∀ t : Fin cfg0.N,
    unset (t.val + 1) = ((cfg0.win 9).flush t || (cfg0.idle 9 (cfg0.grid.coords t) && unset t.val)) := by decide +kernel
theorem fresh9 (t : Fin cfg0.N) (h : t.val ≠ 0) : cfg0.fresh 9 t.val = false := by
  rw [Pipeline.Cfg.fresh_tab cfg0 9 unset rfl unset_step t.val (Nat.le_of_lt t.isLt)]
  have ht : t.val < 88 := lt_of_lt_of_eq t.isLt N_0
  simp only [unset, Bool.or_eq_false_iff, beq_eq_false_iff_ne]
  omega

/-! ## The blocks after each point -/

/-- One point: from the two outputs' blocks and the accumulator before it, those after it. -/
def step (c : Dev nD) (t : Fin cfg0.N) (p : Vec F S528x2048 .f32 × Vec F S1x2048 .f32 × Vec F S1x528x2048 .f32) :
    Vec F S528x2048 .f32 × Vec F S1x2048 .f32 × Vec F S1x528x2048 .f32 :=
  (newDx (grid0.coords t) (iblk m c 0 t) (iblk m c 1 t) (iblk m c 2 t) (iblk m c 3 t) (iblk m c 4 t) (iblk m c 5 t) (iblk m c 6 t) p.1 p.2.2,
    newDg (grid0.coords t) (iblk m c 0 t) (iblk m c 1 t) (iblk m c 2 t) (iblk m c 3 t) (iblk m c 4 t) (iblk m c 7 t) p.2.1 p.2.2,
    newAcc (grid0.coords t) (iblk m c 0 t) (iblk m c 1 t) (iblk m c 2 t) (iblk m c 3 t) p.2.2)

/-- The blocks and the accumulator after point `n`; what the first point starts from does not matter. -/
def st (c : Dev nD) : (n : ℕ) → n < cfg0.N → Vec F S528x2048 .f32 × Vec F S1x2048 .f32 × Vec F S1x528x2048 .f32
  | 0, h => step m c ⟨0, h⟩ (iblk m c 4 ⟨0, h⟩, iblk m c 5 ⟨0, h⟩, k0_pay8)
  | n + 1, h => step m c ⟨n + 1, h⟩ (st c n (Nat.lt_of_succ_lt h))

theorem st_pos (c : Dev nD) (t : Fin cfg0.N) (h : t.val ≠ 0) :
    st m c t.val t.isLt = step m c t (st m c (t.val - 1) (by omega)) := by
  obtain ⟨n, hn⟩ := t
  cases n with
  | zero => exact absurd rfl h
  | succ n => rfl

/-- The accumulator after a point: at the first point of a row of blocks it does not matter what it held before. -/
theorem st_acc (c : Dev nD) (t : Fin cfg0.N) (a : Vec F S1x528x2048 .f32)
    (ha : (h : t.val ≠ 0) → a = (st m c (t.val - 1) (by omega)).2.2) :
    newAcc (grid0.coords t) (iblk m c 0 t) (iblk m c 1 t) (iblk m c 2 t) (iblk m c 3 t) a = (st m c t.val t.isLt).2.2 := by
  by_cases h : t.val = 0
  · obtain ⟨n, hn⟩ := t
    cases n with
    | zero =>
      have h2 : k0_cond2 (grid0.coords ⟨0, hn⟩) = 1#1 := (start_iff ⟨0, hn⟩).mpr (Nat.zero_mod _)
      show newAcc _ _ _ _ _ a = newAcc _ _ _ _ _ _
      unfold newAcc
      rw [if_pos h2, if_pos h2]
    | succ n => exact absurd h (Nat.succ_ne_zero n)
  · rw [ha h, st_pos m c t h]
    rfl

/-- The gradient's block after the last point of a row of blocks. -/
theorem st_dx (c : Dev nD) (t : Fin cfg0.N) (h3 : k0_cond3 (grid0.coords t) = 1#1) :
    (st m c t.val t.isLt).1
      = k0_pay5 (iblk m c 4 t) (iblk m c 5 t) (st m c t.val t.isLt).2.2 (iblk m c 6 t) := by
  have h : t.val ≠ 0 := by have := (last_iff t).mp h3; omega
  rw [st_pos m c t h]
  show newDx _ _ _ _ _ _ _ _ _ _ = _
  unfold newDx
  rw [if_pos h3]
  rfl

/-- The gain's block after the first point, -/
theorem st_dg_first (c : Dev nD) (t : Fin cfg0.N) (h1 : k0_cond1 (grid0.coords t) = 1#1) :
    (st m c t.val t.isLt).2.1 = k0_pay7 (iblk m c 7 t) := by
  have h : t.val = 0 := (first_iff t).mp h1
  have h3 : ¬k0_cond3 (grid0.coords t) = 1#1 := fun e => by have := (last_iff t).mp e; omega
  obtain ⟨n, hn⟩ := t
  cases n with
  | zero =>
    show newDg _ _ _ _ _ _ _ _ _ = _
    unfold newDg
    rw [if_neg h3, if_pos h1]
  | succ n => exact absurd h (Nat.succ_ne_zero n)

/-- after the last point of a row of blocks, -/
theorem st_dg_last (c : Dev nD) (t : Fin cfg0.N) (h3 : k0_cond3 (grid0.coords t) = 1#1) :
    (st m c t.val t.isLt).2.1
      = k0_pay6 (iblk m c 4 t) (st m c t.val t.isLt).2.2 (st m c (t.val - 1) (by omega)).2.1 := by
  have h : t.val ≠ 0 := by have := (last_iff t).mp h3; omega
  have h1 : ¬k0_cond1 (grid0.coords t) = 1#1 := fun e => h ((first_iff t).mp e)
  rw [st_pos m c t h]
  show newDg _ _ _ _ _ _ _ _ _ = _
  unfold newDg
  rw [if_pos h3, if_neg h1]
  rfl

/-- and after any other. -/
theorem st_dg_keep (c : Dev nD) (t : Fin cfg0.N) (h1 : ¬k0_cond1 (grid0.coords t) = 1#1) (h3 : ¬k0_cond3 (grid0.coords t) = 1#1) :
    (st m c t.val t.isLt).2.1 = (st m c (t.val - 1) (by omega)).2.1 := by
  have h : t.val ≠ 0 := fun e => h1 ((first_iff t).mpr e)
  rw [st_pos m c t h]
  show newDg _ _ _ _ _ _ _ _ _ = _
  unfold newDg
  rw [if_neg h3, if_neg h1]

/-! ## The pipeline's data -/

/-- The accumulator as a memref of its own. -/
abbrev acc : Memref sig .tc .vmem S1x528x2048 .f32 := Memref.whole cc0_scratch0

/-- Before the first point the accumulator holds anything, afterwards what the point before left. -/
def inv (c : Dev nD) : (n : ℕ) → n ≤ cfg0.N → sProp 𝕄
  | 0, _ => Pipeline.ΦA spec0 c
  | n + 1, h => iprop(owns (c : Thread nD τ) acc fullShare ((st m c n h).2.2) ∗ (∃ r, prngReg c r))

theorem free_eq (c : Dev nD) : (Pipeline.ΦA spec0 c : sProp 𝕄)
    = iprop((∃ d, owns (c : Thread nD τ) acc fullShare d) ∗ (∃ r, prngReg c r)) := by
  unfold Pipeline.ΦA; rw [scopedRest0_eq]; simp only [acc, owns_whole]; try rfl

/-- The pipeline's data: the arrays as launched, each input's buffer at its block, the outputs' at `st`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (st m c t.val t.isLt).1
    | ⟨9, _⟩ => (st m c t.val t.isLt).2.1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (st m c t.val t.isLt).1 := by dsimp only [dats]
theorem after0_9 (c : Dev nD) (t : Fin cfg0.N) : (dats m 0 c).after 9 t = (st m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- A point other than the first finds in the gain's block what the point before left. -/
theorem before9 (c : Dev nD) (t : Fin cfg0.N) (h : t.val ≠ 0) (d) :
    (dats m 0 c).before 9 t d = (st m c (t.val - 1) (by omega)).2.1 := by
  have keep : ∀ (t : Fin cfg0.N) (_ : t.val ≠ 0), cfg0.idle 9 (grid0.coords t) = true → cfg0.fresh 9 t.val = false →
      (dats m 0 c).after 9 t = (dats m 0 c).after 9 ⟨t.val - 1, by omega⟩ := by
    intro t _ hi _
    have h1 : ¬k0_cond1 (grid0.coords t) = 1#1 := fun e =>
      Bool.false_ne_true ((live9 t (.inl e)).symm.trans hi)
    have h3 : ¬k0_cond3 (grid0.coords t) = 1#1 := fun e =>
      Bool.false_ne_true ((live9 t (.inr e)).symm.trans hi)
    rw [after0_9, after0_9, st_dg_keep m c t h1 h3]
  rw [Dat.before_out_traj _ 9 rfl (fun _ _ => rfl) keep t.val t rfl d, if_neg (by rw [fresh9 t h]; exact Bool.false_ne_true)]
  dsimp only [dats]

/-! ## The body's obligation -/

/-- What the run leaves in the gradient's block is what the data say of it. -/
theorem leave8 (c : Dev nD) (t : Fin cfg0.N) (a : Vec F S1x528x2048 .f32) (ha : newAcc (grid0.coords t) (iblk m c 0 t) (iblk m c 1 t) (iblk m c 2 t) (iblk m c 3 t) a = (st m c t.val t.isLt).2.2) (d) :
    owns (c : Thread nD τ) (win0_8.stage (cfg0.slots t 8)) fullShare (newDx (grid0.coords t) (iblk m c 0 t) (iblk m c 1 t) (iblk m c 2 t) (iblk m c 3 t) (iblk m c 4 t) (iblk m c 5 t) (iblk m c 6 t) ((dats m 0 c).before 8 t d) a)
      ⊢ (dats m 0 c).leavesExact 8 t := by
  by_cases h3 : k0_cond3 (grid0.coords t) = 1#1
  · rw [show (dats m 0 c).leavesExact 8 t = owns (c : Thread nD τ) (win0_8.stage (cfg0.slots t 8)) fullShare ((dats m 0 c).after 8 t) from by
      unfold Dat.leavesExact; rw [live8 t h3], after0_8, st_dx m c t h3, ← ha]
    unfold newDx
    rw [if_pos h3]
  · rw [Dat.leavesExact_idle (dats m 0 c) 8 t (idle8 t h3).1 (idle8 t h3).2]
    unfold newDx
    rw [if_neg h3]
    iintro H
    iexists d
    iexact H

/-- The same of the gain's block. -/
theorem leave9 (c : Dev nD) (t : Fin cfg0.N) (a : Vec F S1x528x2048 .f32) (ha : newAcc (grid0.coords t) (iblk m c 0 t) (iblk m c 1 t) (iblk m c 2 t) (iblk m c 3 t) a = (st m c t.val t.isLt).2.2) (d) :
    owns (c : Thread nD τ) (win0_9.stage (cfg0.slots t 9)) fullShare (newDg (grid0.coords t) (iblk m c 0 t) (iblk m c 1 t) (iblk m c 2 t) (iblk m c 3 t) (iblk m c 4 t) (iblk m c 7 t) ((dats m 0 c).before 9 t d) a)
      ⊢ (dats m 0 c).leavesExact 9 t := by
  by_cases h3 : k0_cond3 (grid0.coords t) = 1#1
  · have h : t.val ≠ 0 := by have := (last_iff t).mp h3; omega
    have h1 : ¬k0_cond1 (grid0.coords t) = 1#1 := fun e => h ((first_iff t).mp e)
    rw [show (dats m 0 c).leavesExact 9 t = owns (c : Thread nD τ) (win0_9.stage (cfg0.slots t 9)) fullShare ((dats m 0 c).after 9 t) from by
      unfold Dat.leavesExact; rw [live9 t (.inr h3)], after0_9, st_dg_last m c t h3, ← ha, before9 m c t h]
    unfold newDg
    rw [if_pos h3, if_neg h1]
  · by_cases h1 : k0_cond1 (grid0.coords t) = 1#1
    · rw [show (dats m 0 c).leavesExact 9 t = owns (c : Thread nD τ) (win0_9.stage (cfg0.slots t 9)) fullShare ((dats m 0 c).after 9 t) from by
        unfold Dat.leavesExact; rw [live9 t (.inl h1)], after0_9, st_dg_first m c t h1]
      unfold newDg
      rw [if_neg h3, if_pos h1]
    · rw [Dat.leavesExact_idle (dats m 0 c) 9 t (idle9 t h1 h3).1 (idle9 t h1 h3).2]
      unfold newDg
      rw [if_neg h3, if_neg h1]
      iintro H
      iexists d
      iexact H

/-- The invariant hands over the accumulator at contents from which the point's own follow. -/
theorem inv_open (c : Dev nD) (t : Fin cfg0.N) :
    inv m c t.val (Nat.le_of_lt t.isLt) ⊢ iprop(∃ a, ⌜newAcc (grid0.coords t) (iblk m c 0 t) (iblk m c 1 t) (iblk m c 2 t) (iblk m c 3 t) a = (st m c t.val t.isLt).2.2⌝
      ∗ owns (c : Thread nD τ) acc fullShare a ∗ (∃ r, prngReg c r)) := by
  obtain ⟨n, hn⟩ := t
  cases n with
  | zero =>
    rw [show inv m c (⟨0, hn⟩ : Fin cfg0.N).val (Nat.le_of_lt hn) = Pipeline.ΦA spec0 c from rfl, free_eq]
    iintro ⟨⟨%a, H⟩, Hg⟩
    iexists a
    isplitr
    · ipureintro; exact st_acc m c ⟨0, hn⟩ a fun h => absurd rfl h
    isplitl [H]; · iexact H
    iexact Hg
  | succ n =>
    rw [show inv m c (⟨n + 1, hn⟩ : Fin cfg0.N).val (Nat.le_of_lt hn)
      = iprop(owns (c : Thread nD τ) acc fullShare ((st m c n (Nat.lt_of_succ_lt hn)).2.2) ∗ (∃ r, prngReg c r)) from rfl]
    iintro ⟨H, Hg⟩
    iexists _
    isplitr
    · ipureintro; exact st_acc m c ⟨n + 1, hn⟩ _ fun _ => rfl
    isplitl [H]; · iexact H
    iexact Hg

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.castSucc = inv m c t.val (Nat.le_of_lt t.isLt) from rfl,
    show (dats m 0 c).Φ t.succ = iprop(owns (c : Thread nD τ) acc fullShare ((st m c t.val t.isLt).2.2) ∗ (∃ r, prngReg c r)) from rfl]
  rw [show (dats m 0 c).leavesExact 0 t = owns (c : Thread nD τ) (win0_0.stage (cfg0.slots t 0)) fullShare ((dats m 0 c).after 0 t) from by
    unfold Dat.leavesExact; rw [show cfg0.idle 0 (cfg0.grid.coords t) = false from rfl], after0_0]
  rw [show (dats m 0 c).leavesExact 1 t = owns (c : Thread nD τ) (win0_1.stage (cfg0.slots t 1)) fullShare ((dats m 0 c).after 1 t) from by
    unfold Dat.leavesExact; rw [show cfg0.idle 1 (cfg0.grid.coords t) = false from rfl], after0_1]
  rw [show (dats m 0 c).leavesExact 2 t = owns (c : Thread nD τ) (win0_2.stage (cfg0.slots t 2)) fullShare ((dats m 0 c).after 2 t) from by
    unfold Dat.leavesExact; rw [show cfg0.idle 2 (cfg0.grid.coords t) = false from rfl], after0_2]
  rw [show (dats m 0 c).leavesExact 3 t = owns (c : Thread nD τ) (win0_3.stage (cfg0.slots t 3)) fullShare ((dats m 0 c).after 3 t) from by
    unfold Dat.leavesExact; rw [show cfg0.idle 3 (cfg0.grid.coords t) = false from rfl], after0_3]
  rw [show (dats m 0 c).leavesExact 4 t = owns (c : Thread nD τ) (win0_4.stage (cfg0.slots t 4)) fullShare ((dats m 0 c).after 4 t) from by
    unfold Dat.leavesExact; rw [show cfg0.idle 4 (cfg0.grid.coords t) = false from rfl], after0_4]
  rw [show (dats m 0 c).leavesExact 5 t = owns (c : Thread nD τ) (win0_5.stage (cfg0.slots t 5)) fullShare ((dats m 0 c).after 5 t) from by
    unfold Dat.leavesExact; rw [show cfg0.idle 5 (cfg0.grid.coords t) = false from rfl], after0_5]
  rw [show (dats m 0 c).leavesExact 6 t = owns (c : Thread nD τ) (win0_6.stage (cfg0.slots t 6)) fullShare ((dats m 0 c).after 6 t) from by
    unfold Dat.leavesExact; rw [show cfg0.idle 6 (cfg0.grid.coords t) = false from rfl], after0_6]
  rw [show (dats m 0 c).leavesExact 7 t = owns (c : Thread nD τ) (win0_7.stage (cfg0.slots t 7)) fullShare ((dats m 0 c).after 7 t) from by
    unfold Dat.leavesExact; rw [show cfg0.idle 7 (cfg0.grid.coords t) = false from rfl], after0_7]
  refine (sep_mono_left (inv_open m c t)).trans ?_
  iintro ⟨⟨%a, %ha, HA, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)
    ((dats m 0 c).before 8 t d8) ((dats m 0 c).before 9 t d9) a c Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  rw [ha]
  iintro ⟨H0, H1, H2, H3, H4, H5, H6, H7, H8, H9, HA⟩
  isplitl [HA Hg]
  · isplitl [HA]; · iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leave8 m c t a ha d8); iexact H8
  iapply (leave9 m c t a ha d9); iexact H9

theorem row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N)
    = iprop(owns (c : Thread nD τ) acc fullShare ((st m c 87 (by rw [show cfg0.N = 88 from N_0]; omega)).2.2) ∗ (∃ r, prngReg c r)) from rfl, free_eq]
  iintro ⟨H, Hg⟩
  isplitl [H]
  · iexists _; iexact H
  iexact Hg

/-! ## The launch -/

set_option backward.isDefEq.respectTransparency.types false in
/-- Every execution ends, with the arrays at what the data say and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_quiet m ρ))

end Cert.DxIdeal.Run

end
-- ==== Proof.DxValue.lean ====
/-
  Hand-written, untrusted. THE VALUES OF `ffn2_dx`, block by block of 528 rows. The accumulator collects, over the eleven blocks of 512 columns, the two
  products that make the norm's gradient; at the last of them the body forms the rows' gradient (`Norm.lean`) and adds the block's part to the
  gradient of the norm's weight.
-/
module

public import proofs.«01_k».proof.Defs
public import proofs.«01_k».proof.Proof.DxFrame
public import proofs.«01_k».proof.Proof.DxRef

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen Cert.DxIdeal.Run
open Cert.DxRefIdeal.Arrays (DN DX DG dn_at dx_at dg_at)

/-! ## What the body computes, at an index -/

theorem pay3_at (x : Vec Ideal S528x2048 .f32) (i) : k0_pay3 x i = Norm.rstd fun k => x (ix2 (i 0) k) := by
  pointwise [k0_pay3]
  rfl

theorem pay4_at (x : Vec Ideal S528x2048 .f32) (i) : k0_pay4 x i = x i * Norm.rstd fun k => x (ix2 (i 0) k) := by
  pointwise [k0_pay4, pay3_at]

theorem pay5_at (x : Vec Ideal S528x2048 .f32) (g) (p : Vec Ideal S1x528x2048 .f32) (up i) : k0_pay5 x g p up i
    = up i + Norm.kdx (fun k => x (ix2 (i 0) k)) (fun k => g (ix2 0 k)) (fun k => p (ix3 0 (i 0) k)) (i 1) := by
  pointwise [k0_pay5, k0_pay2, pay3_at, pay4_at, Norm.kdx]
  blk_ext

theorem pay6_at (x : Vec Ideal S528x2048 .f32) (p : Vec Ideal S1x528x2048 .f32) (acc i) : k0_pay6 x p acc i
    = acc i + ∑ a : Fin 528, p (ix3 0 a (i 1)) * (x (ix2 a (i 1)) * Norm.rstd fun k => x (ix2 a k)) := by
  pointwise [k0_pay6, k0_pay2, pay4_at]

theorem pay7_at (x : Vec Ideal S1x2048 .f32) (i) : k0_pay7 x i = x i := by
  pointwise [k0_pay7]

theorem pay8_at (i) : k0_pay8 (F := Ideal) i = 0 := by pointwise [k0_pay8]

theorem mul_at (x0 : Vec Ideal S528x512 .bf16) (x1 : Vec Ideal S512x2048 .bf16) (x2 : Vec Ideal S528x512 .bf16) (x3 : Vec Ideal S512x2048 .bf16)
    (a : Vec Ideal S1x528x2048 .f32) (i) : mulAcc x0 x1 x2 x3 a i
      = a i + ((∑ k : Fin 512, x0 (ix2 (i 1) k) * x1 (ix2 k (i 2))) + ∑ k : Fin 512, x2 (ix2 (i 1) k) * x3 (ix2 k (i 2))) := by
  pointwise [mulAcc, k0_pay1, k0_pay9, k0_pay10, add_assoc]

variable (m : (ℓ : Loc nD τ sig) → Buf (Elt Ideal) ℓ)

/-! ## The accumulator -/

/-- The inputs' blocks at a point. -/
abbrev X0 (c : Dev nD) (t : Fin cfg0.N) : Vec Ideal S528x512 .bf16 := iblk m c 0 t
abbrev X1 (c : Dev nD) (t : Fin cfg0.N) : Vec Ideal S512x2048 .bf16 := iblk m c 1 t
abbrev X2 (c : Dev nD) (t : Fin cfg0.N) : Vec Ideal S528x512 .bf16 := iblk m c 2 t
abbrev X3 (c : Dev nD) (t : Fin cfg0.N) : Vec Ideal S512x2048 .bf16 := iblk m c 3 t
abbrev X4 (c : Dev nD) (t : Fin cfg0.N) : Vec Ideal S528x2048 .f32 := iblk m c 4 t
abbrev X5 (c : Dev nD) (t : Fin cfg0.N) : Vec Ideal S1x2048 .f32 := iblk m c 5 t
abbrev X6 (c : Dev nD) (t : Fin cfg0.N) : Vec Ideal S528x2048 .f32 := iblk m c 6 t
abbrev X7 (c : Dev nD) (t : Fin cfg0.N) : Vec Ideal S1x2048 .f32 := iblk m c 7 t

/-- What one point adds to the accumulator. -/
def term (c : Dev nD) (t : Fin cfg0.N) (i : S1x528x2048.Idx) : EReal :=
  (∑ k : Fin 512, X0 m c t (ix2 (i 1) k) * X1 m c t (ix2 k (i 2)))
    + ∑ k : Fin 512, X2 m c t (ix2 (i 1) k) * X3 m c t (ix2 k (i 2))

theorem acc_start (c : Dev nD) (t : Fin cfg0.N) (h : t.val % 11 = 0) (i) : (st m c t.val t.isLt).2.2 i = 0 + term m c t i := by
  have h2 := (start_iff t).mpr h
  have e : ∀ a, newAcc (grid0.coords t) (iblk m c 0 t) (iblk m c 1 t) (iblk m c 2 t) (iblk m c 3 t) a = mulAcc (iblk m c 0 t) (iblk m c 1 t) (iblk m c 2 t) (iblk m c 3 t) (k0_pay8 (F := Ideal)) := fun a => by
    unfold newAcc
    rw [if_pos h2]
  have s : (st m c t.val t.isLt).2.2 = mulAcc (iblk m c 0 t) (iblk m c 1 t) (iblk m c 2 t) (iblk m c 3 t) (k0_pay8 (F := Ideal)) := by
    by_cases h0 : t.val = 0
    · exact (st_acc m c t (k0_pay8 (F := Ideal)) fun h' => absurd h0 h').symm.trans (e _)
    · exact (st_acc m c t (st m c (t.val - 1) (by omega)).2.2 fun _ => rfl).symm.trans (e _)
  rw [s, mul_at, pay8_at]
  rfl

theorem acc_step (c : Dev nD) (t : Fin cfg0.N) (h : ¬t.val % 11 = 0) (i) :
    (st m c t.val t.isLt).2.2 i = (st m c (t.val - 1) (Nat.lt_of_le_of_lt (Nat.sub_le _ _) t.isLt)).2.2 i + term m c t i := by
  have h2 : ¬k0_cond2 (grid0.coords t) = 1#1 := fun e => h ((start_iff t).mp e)
  have e : ∀ a, newAcc (grid0.coords t) (iblk m c 0 t) (iblk m c 1 t) (iblk m c 2 t) (iblk m c 3 t) a = mulAcc (iblk m c 0 t) (iblk m c 1 t) (iblk m c 2 t) (iblk m c 3 t) a := fun a => by
    unfold newAcc
    rw [if_neg h2]
  rw [((st_acc m c t (st m c (t.val - 1) (by omega)).2.2 fun _ => rfl).symm.trans (e _)), mul_at]
  rfl

/-! ## Block against array -/

/-- Where the blocks sit. -/
theorem idx : ∀ t : Fin cfg0.N, win0_0.index t = ![t.val / 11, t.val % 11] ∧ win0_1.index t = ![t.val % 11, 0] ∧ win0_2.index t = ![t.val / 11, t.val % 11]
    ∧ win0_3.index t = ![t.val % 11, 0] ∧ win0_4.index t = ![t.val / 11, 0] ∧ win0_5.index t = ![0, 0] ∧ win0_6.index t = ![t.val / 11, 0]
    ∧ win0_7.index t = ![0, 0] ∧ win0_8.index t = ![t.val / 11, 0] ∧ win0_9.index t = ![0, 0] :=
  (by decide +kernel : ∀ t : Fin grid0.N, _)

variable (c : Dev nD)

abbrev A0 : FVec Ideal Cert.DxRefIdeal.S4224x5632 .bf16 := m ((c : Thread nD τ).loc main_arg0)
abbrev A1 : FVec Ideal Cert.DxRefIdeal.S5632x2048 .bf16 := m ((c : Thread nD τ).loc main_arg1)
abbrev A2 : FVec Ideal Cert.DxRefIdeal.S4224x5632 .bf16 := m ((c : Thread nD τ).loc main_arg2)
abbrev A3 : FVec Ideal Cert.DxRefIdeal.S5632x2048 .bf16 := m ((c : Thread nD τ).loc main_arg3)
abbrev A4 : FVec Ideal Cert.DxRefIdeal.S4224x2048 .f32 := m ((c : Thread nD τ).loc main_arg4)
abbrev A5 : FVec Ideal Cert.DxRefIdeal.S1x2048 .f32 := m ((c : Thread nD τ).loc main_arg5)
abbrev A6 : FVec Ideal Cert.DxRefIdeal.S4224x2048 .f32 := m ((c : Thread nD τ).loc main_arg6)

theorem row0 (t : Fin cfg0.N) (a : Fin 528) (b : Fin 4224) (h : b.val = t.val / 11 * 528 + a.val) (k : Fin 512) (l : Fin 5632)
    (hl : l.val = t.val % 11 * 512 + k.val) : X0 m c t (ix2 a k) = A0 m c (ix2 b l) := by
  unfold X0 iblk
  show View.read _ ((cfg0.win 0).blk t).view (V m c main_arg0) _ = _
  rw [V_main_arg0]
  blk_ext [A0, idx t]

theorem row2 (t : Fin cfg0.N) (a : Fin 528) (b : Fin 4224) (h : b.val = t.val / 11 * 528 + a.val) (k : Fin 512) (l : Fin 5632)
    (hl : l.val = t.val % 11 * 512 + k.val) : X2 m c t (ix2 a k) = A2 m c (ix2 b l) := by
  unfold X2 iblk
  show View.read _ ((cfg0.win 2).blk t).view (V m c main_arg2) _ = _
  rw [V_main_arg2]
  blk_ext [A2, idx t]

theorem row1 (t : Fin cfg0.N) (k : Fin 512) (l : Fin 5632) (hl : l.val = t.val % 11 * 512 + k.val) (j j' : Fin 2048) (hj : j = j') :
    X1 m c t (ix2 k j) = A1 m c (ix2 l j') := by
  subst hj
  unfold X1 iblk
  show View.read _ ((cfg0.win 1).blk t).view (V m c main_arg1) _ = _
  rw [V_main_arg1]
  blk_ext [A1, idx t]

theorem row3 (t : Fin cfg0.N) (k : Fin 512) (l : Fin 5632) (hl : l.val = t.val % 11 * 512 + k.val) (j j' : Fin 2048) (hj : j = j') :
    X3 m c t (ix2 k j) = A3 m c (ix2 l j') := by
  subst hj
  unfold X3 iblk
  show View.read _ ((cfg0.win 3).blk t).view (V m c main_arg3) _ = _
  rw [V_main_arg3]
  blk_ext [A3, idx t]

theorem row4 (t : Fin cfg0.N) (a : Fin 528) (b : Fin 4224) (h : b.val = t.val / 11 * 528 + a.val) (k : Fin 2048) :
    X4 m c t (ix2 a k) = A4 m c (ix2 b k) := by
  unfold X4 iblk
  show View.read _ ((cfg0.win 4).blk t).view (V m c main_arg4) _ = _
  rw [V_main_arg4]
  blk_ext [A4, idx t]

theorem row6 (t : Fin cfg0.N) (a : Fin 528) (b : Fin 4224) (h : b.val = t.val / 11 * 528 + a.val) (k : Fin 2048) :
    X6 m c t (ix2 a k) = A6 m c (ix2 b k) := by
  unfold X6 iblk
  show View.read _ ((cfg0.win 6).blk t).view (V m c main_arg6) _ = _
  rw [V_main_arg6]
  blk_ext [A6, idx t]

theorem row5 (t : Fin cfg0.N) (k : Fin 2048) : X5 m c t (ix2 0 k) = A5 m c (ix2 0 k) := by
  unfold X5 iblk
  show View.read _ ((cfg0.win 5).blk t).view (V m c main_arg5) _ = _
  rw [V_main_arg5]
  blk_ext [A5, idx t]

/-- The gain's block starts from zeros. -/
theorem row7 (t : Fin cfg0.N) (j : Fin 2048) : X7 m c t (ix2 0 j) = 0 := by
  have e : V m c main_v0 = (broadcastInDim S1x2048 ![] bcast_S_S1x2048 (constant S_ .f32 0x00000000#32) : FVec Ideal S1x2048 .f32) := by after_results_simp <;> rfl
  unfold X7 iblk
  show View.read _ ((cfg0.win 7).blk t).view (V m c main_v0) _ = _
  rw [e]
  have z : ∀ i, (broadcastInDim S1x2048 ![] bcast_S_S1x2048 (constant S_ .f32 0x00000000#32) : FVec Ideal S1x2048 .f32) i = 0 := fun i => by pointwise
  exact z (((cfg0.win 7).blk t).view.emb (ix2 0 j))

/-- At the last point of a row of blocks the accumulator holds the norm's gradient. -/
theorem acc_last (t : Fin cfg0.N) (h : t.val % 11 = 10) (a : Fin 528) (b : Fin 4224) (hb : b.val = t.val / 11 * 528 + a.val) (j j' : Fin 2048) (hj : j = j') :
    (st m c t.val t.isLt).2.2 (ix3 0 a j) = DN (A0 m c) (A1 m c) (A2 m c) (A3 m c) (ix2 b j') := by
  have ht : t.val < 88 := lt_of_lt_of_eq t.isLt N_0
  rw [Pipeline.eq_sum_fin_of_reset_step_apply_of_flush (fun n h => (st m c n h).2.2) 11 (fun _ => 0) (term m c)
    (acc_start m c) (acc_step m c) t h _, zero_add, dn_at]
  simp only [term]
  rw [Finset.sum_add_distrib]
  refine congrArg₂ (· + ·) (Fin.sum_mul_add_congr fun s k hl => ?_) (Fin.sum_mul_add_congr fun s k hl => ?_)
  · exact congrArg₂ (· * ·) (row0 m c ⟨11 * (t.val / 11) + s.val, _⟩ a b (by show _ = (11 * (t.val / 11) + s.val) / 11 * 528 + _; omega) k ⟨s * 512 + k, hl⟩ (by show s.val * 512 + k.val = (11 * (t.val / 11) + s.val) % 11 * 512 + k.val; omega))
      (row1 m c ⟨11 * (t.val / 11) + s.val, _⟩ k ⟨s * 512 + k, hl⟩ (by show s.val * 512 + k.val = (11 * (t.val / 11) + s.val) % 11 * 512 + k.val; omega) j j' hj)
  · exact congrArg₂ (· * ·) (row2 m c ⟨11 * (t.val / 11) + s.val, _⟩ a b (by show _ = (11 * (t.val / 11) + s.val) / 11 * 528 + _; omega) k ⟨s * 512 + k, hl⟩ (by show s.val * 512 + k.val = (11 * (t.val / 11) + s.val) % 11 * 512 + k.val; omega))
      (row3 m c ⟨11 * (t.val / 11) + s.val, _⟩ k ⟨s * 512 + k, hl⟩ (by show s.val * 512 + k.val = (11 * (t.val / 11) + s.val) % 11 * 512 + k.val; omega) j j' hj)

/-! ## The gradient of the norm's weight -/

theorem st_congr {n n' : ℕ} {h : n < cfg0.N} {h' : n' < cfg0.N} (e : n = n') : st m c n h = st m c n' h' := by
  subst e
  rfl

/-- Between the first and the last point of a row of blocks its block stays, -/
theorem keep (n s : ℕ) (hs : s ≤ 9) (h : 11 * n + s < cfg0.N) :
    (st m c (11 * n + s) h).2.1 = (st m c (11 * n) (by omega)).2.1 := by
  induction s with
  | zero => rfl
  | succ s ih =>
    refine (st_dg_keep m c ⟨11 * n + (s + 1), h⟩ (fun e => ?_) (fun e => ?_)).trans (ih (by omega) (by omega))
    · have e' : 11 * n + (s + 1) = 0 := (first_iff ⟨11 * n + (s + 1), h⟩).mp e
      omega
    · have e' : (11 * n + (s + 1)) % 11 = 10 := (last_iff ⟨11 * n + (s + 1), h⟩).mp e
      omega

/-- and at its last point the block's part is added. -/
theorem dg_last (n : ℕ) (h : 11 * n + 10 < cfg0.N) (i) : (st m c (11 * n + 10) h).2.1 i
    = (st m c (11 * n) (by omega)).2.1 i + ∑ a : Fin 528, (st m c (11 * n + 10) h).2.2 (ix3 0 a (i 1))
        * (X4 m c ⟨11 * n + 10, h⟩ (ix2 a (i 1)) * Norm.rstd fun k => X4 m c ⟨11 * n + 10, h⟩ (ix2 a k)) := by
  have e := st_dg_last m c ⟨11 * n + 10, h⟩ ((last_iff ⟨11 * n + 10, h⟩).mpr (by show (11 * n + 10) % 11 = 10; omega))
  have e' : (st m c (11 * n + 10 - 1) (by omega)).2.1 = (st m c (11 * n) (by omega)).2.1 := keep m c n 9 (by omega) (by omega)
  refine (congrFun e i).trans ?_
  rw [pay6_at]
  exact congrArg (· + _) (congrFun e' i)

/-- What a row of blocks adds. -/
def part (n : Fin 8) (i : S1x2048.Idx) : EReal :=
  ∑ a : Fin 528, (st m c (11 * n.val + 10) (by have := n.isLt; rw [show cfg0.N = 88 from N_0]; omega)).2.2 (ix3 0 a (i 1))
    * (X4 m c ⟨11 * n.val + 10, by have := n.isLt; rw [show cfg0.N = 88 from N_0]; omega⟩ (ix2 a (i 1))
      * Norm.rstd fun k => X4 m c ⟨11 * n.val + 10, by have := n.isLt; rw [show cfg0.N = 88 from N_0]; omega⟩ (ix2 a k))

theorem zero_lt : 0 < cfg0.N := by rw [show cfg0.N = 88 from N_0]; omega

theorem dg_total (i) : (st m c 87 (by rw [show cfg0.N = 88 from N_0]; omega)).2.1 i
    = X7 m c ⟨0, zero_lt⟩ i + ∑ n : Fin 8, part m c n i := by
  have hN : cfg0.N = 88 := N_0
  refine Pipeline.eq_sum_fin_of_reset_step_apply_last (N := 8) (fun n h => (st m c (11 * n + 10) (by rw [hN]; omega)).2.1) 8
    (fun i => X7 m c ⟨0, zero_lt⟩ i) (part m c) (fun t h i => ?_) (fun t h i => ?_) (le_refl _) ⟨7, by omega⟩ rfl i
  · obtain ⟨n, hn⟩ := t
    have h' : n = 0 := by have : n % 8 = 0 := h; omega
    subst h'
    refine (dg_last m c 0 (by rw [hN]; omega) i).trans (congrArg (· + _) ?_)
    refine (congrFun (st_dg_first m c ⟨0, zero_lt⟩ ((first_iff ⟨0, zero_lt⟩).mpr rfl)) i).trans ?_
    rw [pay7_at]
  · obtain ⟨n, hn⟩ := t
    have h' : n ≠ 0 := fun e => h (by subst e; rfl)
    refine (dg_last m c n (by rw [hN]; omega) i).trans (congrArg (· + _) ?_)
    have hl : 11 * n < cfg0.N := by rw [hN]; omega
    have e := st_dg_keep m c ⟨11 * n, hl⟩ (fun e => by have : 11 * n = 0 := (first_iff ⟨11 * n, hl⟩).mp e; omega)
      (fun e => by have : 11 * n % 11 = 10 := (last_iff ⟨11 * n, hl⟩).mp e; omega)
    refine (congrFun e i).trans ?_
    have q : 11 * n - 1 = 11 * (n - 1) + 10 := by omega
    exact congrFun (congrArg (fun p => p.2.1) (st_congr m c q)) i

/-! ## The results -/

theorem final8 : (dats m 0 c).arrAt 8 (cfgs 0).N = DX (A4 m c) (A5 m c) (DN (A0 m c) (A1 m c) (A2 m c) (A3 m c)) (A6 m c) := by
  refine (dats m 0 c).arrAt_eq_of_covers 8 _ (by decide +kernel) fun t hf y => ?_
  have hl : t.val % 11 = 10 := (flush0_8 t).mp hf
  have e0 : (((cfg0.win 8).blk t).view.emb y 0).val = t.val / 11 * 528 + (y 0).val := by blk_simp [idx t]
  have e1 : (((cfg0.win 8).blk t).view.emb y 1).val = (y 1).val := by blk_simp [idx t]
  blk_simp
  rw [after0_8, st_dx m c t ((last_iff t).mpr hl)]
  refine (pay5_at _ _ _ _ _).trans (Eq.trans ?_ (dx_at _ _ _ _ _).symm)
  refine congrArg₂ (· + ·) ?_ ?_
  · have := row6 m c t (y 0) (((cfg0.win 8).blk t).view.emb y 0) e0 (y 1)
    rw [show y = ix2 (y 0) (y 1) from by blk_ext]
    refine this.trans (congrArg _ ?_)
    blk_ext [idx t]
  · refine Eq.trans ?_ (Norm.kdx_eq_vdx _ _ _ _)
    exact Norm.kdx_congr (row4 m c t (y 0) (((cfg0.win 8).blk t).view.emb y 0) e0) (row5 m c t)
      (fun k => acc_last m c t hl (y 0) (((cfg0.win 8).blk t).view.emb y 0) e0 k k rfl) (Fin.ext e1.symm)

theorem final9 : (dats m 0 c).arrAt 9 (cfgs 0).N = DG (A4 m c) (DN (A0 m c) (A1 m c) (A2 m c) (A3 m c)) := by
  refine (dats m 0 c).arrAt_eq_of_covers 9 _ (by decide +kernel) fun t hf y => ?_
  have hN : cfg0.N = 88 := N_0
  have ht : t.val = 87 := by have := (flush0_9 t).mp hf; have := t.isLt; omega
  have e1 : (((cfg0.win 9).blk t).view.emb y 1).val = (y 1).val := by blk_simp [idx t]
  blk_simp
  rw [after0_9]
  obtain ⟨n, hn⟩ := t
  have ht' : n = 87 := ht
  subst ht'
  refine (dg_total m c y).trans ?_
  have e7 := (congrArg (X7 m c ⟨0, zero_lt⟩) (show y = ix2 0 (y 1) from by blk_ext)).trans (row7 m c ⟨0, zero_lt⟩ (y 1))
  refine (congrArg (· + _) e7).trans ?_
  rw [zero_add, dg_at]
  refine Fin.sum_mul_add_congr (n := 528) fun s a hl => ?_
  have hs : 11 * s.val + 10 < cfg0.N := by have := s.isLt; omega
  exact Norm.dg_congr (row4 m c ⟨11 * s.val + 10, hs⟩ a ⟨s * 528 + a, hl⟩ (by show s.val * 528 + a.val = (11 * s.val + 10) / 11 * 528 + a.val; omega))
    (fun k => acc_last m c ⟨11 * s.val + 10, hs⟩ (by show (11 * s.val + 10) % 11 = 10; omega) a ⟨s * 528 + a, hl⟩ (by show s.val * 528 + a.val = (11 * s.val + 10) / 11 * 528 + a.val; omega) k k rfl)
    (Fin.ext e1.symm)

/-! ## The run, and the reference's results -/

/-- The kernel's run, its two results named. -/
theorem run_blocks (ρ : Dev nD → PrngReg) : θ_run defs (onTc (τ := τ) (main (F := Ideal))) ⟨m, fun _ => 0, ρ⟩ fun r => ∀ c : Dev nD,
    r.2.mem ((c.tc : Thread nD τ).loc main_v1_0) = (dats m 0 c).arrAt 8 cfg0.N
      ∧ r.2.mem ((c.tc : Thread nD τ).loc main_v1_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1 8, (h c).1 9,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c)))⟩) (run_main m ρ)

end Cert.DxIdeal.Value

end
-- ==== Proof.DxClaims.lean ====
/-
  Hand-written, untrusted. The claims about `Dx`, proved: the frames from `Proof/DxFrame.lean`, and the value claim from `Proof/DxValue.lean`.
-/
module

public import proofs.«01_k».proof.Defs
public import proofs.«01_k».proof.Proof.Gen.Dx
public import proofs.«01_k».proof.Proof.Gen.DxRefIdeal.Run
public import proofs.«01_k».proof.Proof.DxRef
public import proofs.«01_k».proof.Proof.DxValue

@[expose] public section

set_option maxRecDepth 16384

noncomputable section

namespace Cert.Proof.Dx

open Idealize.ShloMosaic Idealize.ShloMosaic.TcCoe Idealize.SL.Sem
open Cert.DxRefIdeal.Arrays (DN DX DG)

/-! ## The frames

The printed kernel and its idealisation have the same text, so the frame proved for every interpretation of the floats serves both. -/

theorem defs₀_eq : Cert.Dx.defs₀ (F := Bits) = Cert.DxIdeal.defs₀ (F := Bits) := by
  refine congrArg Defs.onTc ?_
  funext l x
  match l, x with
  | 0, (t, s) => rfl
  | ⟨n + 1, h⟩, _ => exact absurd h (Nat.not_lt.2 (Nat.le_add_left _ _))

theorem defs_eq : Cert.Dx.defs (F := Bits) = Cert.DxIdeal.defs (F := Bits) := congrArg (Pipeline.defs Cert.DxIdeal.pcfgs) defs₀_eq

theorem kernel : Cert.quiescent_Dx (hDx := Cert.Dx.Gen.facts) := fun m ρ _ => by
  have e := Cert.DxIdeal.Run.frame (F := Bits) m ρ
  rw [← defs_eq] at e
  exact e

theorem ideal : Cert.quiescent_DxIdeal (hDxIdeal := Cert.DxIdeal.Gen.facts) := fun m ρ _ => Cert.DxIdeal.Run.frame (F := Ideal) m ρ

theorem reference : Cert.quiescent_DxRefIdeal (hDxRefIdeal := Cert.DxRefIdeal.Gen.facts) := fun m ρ _ =>
  (θ_run Cert.DxRefIdeal.defs _ _).mono (fun r h => ⟨fun c => (h c).2.2, sem_eq_zero_of_no_sems (by decide) r.2⟩)
    (Cert.DxRefIdeal.Value.run (F := Ideal) m ρ)

/-! ## The values -/

/-- The reference's first result is the gradient of the rows. -/
theorem ref0 (m' : (ℓ : Loc Cert.DxRefIdeal.nD Cert.DxRefIdeal.τ Cert.DxRefIdeal.sig) → Buf (Elt Ideal) ℓ) (c : Dev Cert.DxRefIdeal.nD) :
    Cert.DxRefIdeal.Value.res_main_v48 m' c = DX (m' ((c : Thread Cert.DxRefIdeal.nD Cert.DxRefIdeal.τ).loc Cert.DxRefIdeal.main_arg4)) (m' ((c : Thread Cert.DxRefIdeal.nD Cert.DxRefIdeal.τ).loc Cert.DxRefIdeal.main_arg5)) (DN (m' ((c : Thread Cert.DxRefIdeal.nD Cert.DxRefIdeal.τ).loc Cert.DxRefIdeal.main_arg0)) (m' ((c : Thread Cert.DxRefIdeal.nD Cert.DxRefIdeal.τ).loc Cert.DxRefIdeal.main_arg1)) (m' ((c : Thread Cert.DxRefIdeal.nD Cert.DxRefIdeal.τ).loc Cert.DxRefIdeal.main_arg2)) (m' ((c : Thread Cert.DxRefIdeal.nD Cert.DxRefIdeal.τ).loc Cert.DxRefIdeal.main_arg3))) (m' ((c : Thread Cert.DxRefIdeal.nD Cert.DxRefIdeal.τ).loc Cert.DxRefIdeal.main_arg6)) := rfl

/-- From equal arguments the kernel and the reference end with equal results. -/
theorem value : Cert.algebraic_DxIdeal_DxRefIdeal (hDxIdeal := Cert.DxIdeal.Gen.facts) (hDxRefIdeal := Cert.DxRefIdeal.Gen.facts) := by
  intro m g m' g' _ hargs
  refine ⟨_, _, Cert.DxIdeal.Value.run_blocks m g, ?_⟩
  refine (θ_run Cert.DxRefIdeal.defs _ _).mono (fun r h c => ⟨(h c).1.trans ?_, (h c).2.1.trans ?_, (h c).2.2⟩) (Cert.DxRefIdeal.Value.run (F := Ideal) m' g')
  · refine (ref0 m' c).trans ?_
    try rw [(hargs c).1]
    try rw [(hargs c).2.1]
    try rw [(hargs c).2.2.1]
    try rw [(hargs c).2.2.2.1]
    try rw [(hargs c).2.2.2.2.1]
    try rw [(hargs c).2.2.2.2.2.1]
    try rw [(hargs c).2.2.2.2.2.2]
    exact (Cert.DxIdeal.Value.final8 m c).symm
  · show DG (m' ((c : Thread Cert.DxRefIdeal.nD Cert.DxRefIdeal.τ).loc Cert.DxRefIdeal.main_arg4)) (DN (m' ((c : Thread Cert.DxRefIdeal.nD Cert.DxRefIdeal.τ).loc Cert.DxRefIdeal.main_arg0)) (m' ((c : Thread Cert.DxRefIdeal.nD Cert.DxRefIdeal.τ).loc Cert.DxRefIdeal.main_arg1)) (m' ((c : Thread Cert.DxRefIdeal.nD Cert.DxRefIdeal.τ).loc Cert.DxRefIdeal.main_arg2)) (m' ((c : Thread Cert.DxRefIdeal.nD Cert.DxRefIdeal.τ).loc Cert.DxRefIdeal.main_arg3))) = _
    try rw [(hargs c).1]
    try rw [(hargs c).2.1]
    try rw [(hargs c).2.2.1]
    try rw [(hargs c).2.2.2.1]
    try rw [(hargs c).2.2.2.2.1]
    try rw [(hargs c).2.2.2.2.2.1]
    try rw [(hargs c).2.2.2.2.2.2]
    exact (Cert.DxIdeal.Value.final9 m c).symm

end Cert.Proof.Dx

end
-- ==== Proof.FxRef.lean ====
/-
  Hand-written, untrusted. The reference's arrays for ffn1_dx_a and ffn1_dx_b: the gradient of `h ↦ (h, norm h · w_gate, norm h · w_up)` for 2112 rows,
  with the terms it is made of, and what each is at an index.
-/
module

public import proofs.«01_k».proof.Proof.Gen.FxaRefIdeal.Run
public import proofs.«01_k».proof.Proof.Norm
public import Idealize.ShloMosaic.Lib.Pipeline.ValueKit

@[expose] public section

set_option maxRecDepth 16384

noncomputable section

open Idealize.ShloMosaic Idealize.ShloMosaic.TcCoe

namespace Cert.FxaRefIdeal.Arrays

open Cert.FxaRefIdeal Cert.FxaRefIdeal.Gen

/-- The norm's own gradient: the sum of the two products' gradients in their left factor. -/
def DN (dg : FVec Ideal S2112x5632 .bf16) (wg : FVec Ideal S5632x2048 .bf16) (du : FVec Ideal S2112x5632 .bf16) (wu : FVec Ideal S5632x2048 .bf16) :
    FVec Ideal S2112x2048 .f32 :=
  addf (Host.dotGeneral dot_S2112x5632_S2048x5632_S2112x2048_1_1_0_0_n_n none (extf .f32 du bitsLt_bf16_f32) (transpose S2048x5632 [1, 0] (extf .f32 wu bitsLt_bf16_f32) transposes_S5632x2048_S2048x5632_1_0))
    (Host.dotGeneral dot_S2112x5632_S2048x5632_S2112x2048_1_1_0_0_n_n none (extf .f32 dg bitsLt_bf16_f32) (transpose S2048x5632 [1, 0] (extf .f32 wg bitsLt_bf16_f32) transposes_S5632x2048_S2048x5632_1_0))

/-- The mean squares and ε. -/
def VAR (x : FVec Ideal S2112x2048 .f32) : FVec Ideal S2112x1 .f32 :=
  addf (Host.divf (broadcastInDim S2112x1 ![0] bcast_S2112_S2112x1_0 (Host.reduceAdd (mulf x x) (constant S_ .f32 0x00000000#32) reducesTo_S2112x2048_S2112_d1 h_S_)) (broadcastInDim S2112x1 ![] bcast_S_S2112x1 (constant S_ .f32 0x45000000#32))) (broadcastInDim S2112x1 ![] bcast_S_S2112x1 (constant S_ .f32 0x358637BD#32))

/-- The reciprocal roots. -/
def RSTD (x : FVec Ideal S2112x2048 .f32) : FVec Ideal S2112x1 .f32 := Host.rsqrt (VAR x)

/-- The norm's gradient times its weight. -/
def PG (g : FVec Ideal S1x2048 .f32) (p : FVec Ideal S2112x2048 .f32) : FVec Ideal S2112x2048 .f32 :=
  mulf p (broadcastInDim S2112x2048 ![0, 1] bcast_S1x2048_S2112x2048_0_1 (broadcastInDim S1x2048 ![1] bcast_S2048_S1x2048_1 (shapeCast _ g shapeCasts_S1x2048_S2048)))

/-- Half the derivative of the mean squares. -/
def HALF (x : FVec Ideal S2112x2048 .f32) (g : FVec Ideal S1x2048 .f32) (p : FVec Ideal S2112x2048 .f32) : FVec Ideal S2112x2048 .f32 :=
  broadcastInDim S2112x2048 ![0] bcast_S2112_S2112x2048_0 (Host.reduceAdd (Host.divf (mulf (shapeCast _ (Host.reduceAdd (mulf x (PG g p)) (constant S_ .f32 0x00000000#32) reducesTo_S2112x2048_S2112_d1 h_S_) shapeCasts_S2112_S2112x1) (mulf (broadcastInDim S2112x1 ![] bcast_S_S2112x1 (constant S_ .f32 0xBF000000#32)) (Host.divf (RSTD x) (VAR x)))) (broadcastInDim S2112x1 ![] bcast_S_S2112x1 (constant S_ .f32 0x45000000#32))) (constant S_ .f32 0x00000000#32) reducesTo_S2112x1_S2112_d1 h_S_)

/-- The gradient of the rows: `up`, which passes by the norm, and what comes through it. -/
def DX (x : FVec Ideal S2112x2048 .f32) (g : FVec Ideal S1x2048 .f32) (p up : FVec Ideal S2112x2048 .f32) : FVec Ideal S2112x2048 .f32 :=
  addf (addf (addf up (mulf (PG g p) (broadcastInDim S2112x2048 ![0, 1] bcast_S2112x1_S2112x2048_0_1 (RSTD x)))) (mulf x (HALF x g p))) (mulf (HALF x g p) x)

/-- The gradient of the norm's weight. -/
def DG (x p : FVec Ideal S2112x2048 .f32) : FVec Ideal S1x2048 .f32 :=
  broadcastInDim S1x2048 ![1] bcast_S2048_S1x2048_1 (Host.reduceAdd (shapeCast _ (Host.reduceAdd (mulf (mulf x (broadcastInDim S2112x2048 ![0, 1] bcast_S2112x1_S2112x2048_0_1 (RSTD x))) p) (constant S_ .f32 0x00000000#32) reducesTo_S2112x2048_S2048_d0 h_S_) shapeCasts_S2048_S1x2048) (constant S_ .f32 0x00000000#32) reducesTo_S1x2048_S2048_d0 h_S_)

theorem dn_at (dg wg du wu i) : DN dg wg du wu i
    = (∑ k : Fin 5632, dg (ix2 (i 0) k) * wg (ix2 k (i 1))) + ∑ k : Fin 5632, du (ix2 (i 0) k) * wu (ix2 k (i 1)) := by
  rw [add_comm]
  pointwise [DN]

theorem var_at (x i) : VAR x i = Norm.var fun k => x (ix2 (i 0) k) := by
  pointwise [VAR]
  rfl

theorem rstd_at (x i) : RSTD x i = Norm.rstd fun k => x (ix2 (i 0) k) := congrArg Ideal.rsqrt (var_at x i)

theorem pg_at (g p i) : PG g p i = p i * g (ix2 0 (i 1)) := by
  pointwise [PG]

theorem half_at (x g p i) : HALF x g p i = Norm.half (fun k => x (ix2 (i 0) k)) (fun k => g (ix2 0 k)) fun k => p (ix2 (i 0) k) := by
  pointwise [HALF, pg_at, var_at, rstd_at]
  exact Fin.sum_univ_one _

theorem dx_at (x g p up i) :
    DX x g p up i = up i + Norm.vdx (fun k => x (ix2 (i 0) k)) (fun k => g (ix2 0 k)) (fun k => p (ix2 (i 0) k)) (i 1) := by
  pointwise [DX, pg_at, half_at, rstd_at, Norm.vdx, add_assoc]
  blk_ext

theorem dg_at (x p i) : DG x p i = ∑ l : Fin 2112, x (ix2 l (i 1)) * Norm.rstd (fun k => x (ix2 l k)) * p (ix2 l (i 1)) := by
  pointwise [DG, rstd_at]
  exact Fin.sum_univ_one _

end Cert.FxaRefIdeal.Arrays

end
-- ==== Proof.FxaRun.lean ====
/-
  One run of the body of `ffn1_dx_a`. Whatever its blocks hold, the body leaves its inputs as they were, and in its two
  output blocks and its accumulator what `newDx`, `newDg` and `newAcc` name: the accumulator, zeroed first at the first
  tile of the contraction, plus the products of the two pairs of blocks; at the last tile the gradient of the norm, and the
  row's part of the gradient of the gain added to the running sum.
-/
module

public import proofs.«01_k».proof.Proof.Gen.FxaIdeal.Frame
public import proofs.«01_k».proof.Proof.Gen.FxaIdeal.Skeleton
public import Idealize.ShloMosaic.Lib.WritesUnit
public import Idealize.ShloMosaic.Lib.Pipeline.FrameBody
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.FxaIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FxaIdeal.Gen

variable {F : FTy → Type} [FloatOps F]

local notation "𝕄" => MT nD τ sig Unit (Elt F) ℕ (UR sig nD τ) ℕ

/-- The accumulator after a point's two products, from what it holds when they begin. -/
def mulAcc (x0 : Vec F S528x512 .bf16) (x1 : Vec F S512x2048 .bf16) (x2 : Vec F S528x512 .bf16) (x3 : Vec F S512x2048 .bf16)
    (a : Vec F S1x528x2048 .f32) : Vec F S1x528x2048 .f32 :=
  k0_pay1 (k0_pay10 (k0_pay9 a x0 x1) x2 x3)

/-- There is one row of blocks in a group, so that every access to the accumulator is at its start. -/
theorem off1 (i : grid0.Coords) : k0_off1 i = ![0, 0, 0] := by
  rw [k0_off1_eq, show (i 2).val = 0 from Nat.lt_one_iff.mp (i 2).isLt]
theorem off2 (i : grid0.Coords) : k0_off2 i = ![0, 0, 0] := by
  rw [k0_off2_eq, show (i 2).val = 0 from Nat.lt_one_iff.mp (i 2).isLt]
theorem off3 (i : grid0.Coords) : k0_off3 i = ![0, 0, 0] := by
  rw [k0_off3_eq, show (i 2).val = 0 from Nat.lt_one_iff.mp (i 2).isLt]

/-- A store over a whole buffer is what is read back, whatever was stored before. -/
theorem read_whole {sp : Space} {s : Shape} {e : EltTy} (v : View sig .tc sp s e) (f : v.ty.Contents (Elt F))
    {off : Fin s.rank → ℕ} (inb : ∀ a, off a + s.size a ≤ s.size a) (w : s.Idx → Elt F e)
    (L : List (View.Piece (Elt F) s e)) (h : ∀ j, off j = 0) :
    v.read (Elt F) (v.writes (Elt F) f ((⟨Rect.unit off (no_index s.size) inb, w⟩ : View.Piece (Elt F) s e) :: L)) = w := by
  funext y
  exact View.read_writes_cons_unit_of_mem v f inb w L y y (funext h) fun a => (Nat.zero_add _).symm

variable (i : grid0.Coords)
  (arg3 : Memref sig .tc .vmem S528x512 .bf16) (harg3 : arg3.IsWhole)
  (arg4 : Memref sig .tc .vmem S512x2048 .bf16) (harg4 : arg4.IsWhole)
  (arg5 : Memref sig .tc .vmem S528x512 .bf16) (harg5 : arg5.IsWhole)
  (arg6 : Memref sig .tc .vmem S512x2048 .bf16) (harg6 : arg6.IsWhole)
  (arg7 : Memref sig .tc .vmem S528x2048 .f32) (harg7 : arg7.IsWhole)
  (arg8 : Memref sig .tc .vmem S1x2048 .f32) (harg8 : arg8.IsWhole)
  (arg9 : Memref sig .tc .vmem S528x2048 .f32) (harg9 : arg9.IsWhole)
  (arg10 : Memref sig .tc .vmem S1x2048 .f32) (harg10 : arg10.IsWhole)
  (arg11 : Memref sig .tc .vmem S528x2048 .f32) (harg11 : arg11.IsWhole)
  (arg12 : Memref sig .tc .vmem S1x2048 .f32) (harg12 : arg12.IsWhole)
  (arg13 : Memref sig .tc .vmem S1x528x2048 .f32) (harg13 : arg13.IsWhole)
  (x0 : Vec F S528x512 .bf16) (x1 : Vec F S512x2048 .bf16) (x2 : Vec F S528x512 .bf16) (x3 : Vec F S512x2048 .bf16) (x4 : Vec F S528x2048 .f32) (x5 : Vec F S1x2048 .f32) (x6 : Vec F S528x2048 .f32) (x7 : Vec F S1x2048 .f32)
  (o8 : Vec F S528x2048 .f32) (o9 : Vec F S1x2048 .f32) (a : Vec F S1x528x2048 .f32)

/-- What the body leaves in the accumulator: -/
def newAcc : Vec F S1x528x2048 .f32 :=
  mulAcc x0 x1 x2 x3 (if k0_cond2 i = 1#1 then k0_pay8 else a)

/-- in the block of the gradient of the norm's argument: -/
def newDx : Vec F S528x2048 .f32 :=
  if k0_cond3 i = 1#1 then k0_pay5 x4 x5 (newAcc i x0 x1 x2 x3 a) x6 else o8

/-- and in the block of the gradient of the gain. -/
def newDg : Vec F S1x2048 .f32 :=
  if k0_cond3 i = 1#1 then
    k0_pay6 x4 (newAcc i x0 x1 x2 x3 a) (if k0_cond1 i = 1#1 then k0_pay7 x7 else o9)
  else if k0_cond1 i = 1#1 then k0_pay7 x7 else o9

set_option maxHeartbeats 1000000 in
/-- The body run on whole buffers, each of its three conditions holding or not. -/
theorem run (c : Dev nD) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
        ∗ owns (c : Thread nD τ) arg11 fullShare o8 ∗ owns (c : Thread nD τ) arg12 fullShare o9 ∗ owns (c : Thread nD τ) arg13 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
            ∗ owns (c : Thread nD τ) arg11 fullShare (newDx i x0 x1 x2 x3 x4 x5 x6 o8 a) ∗ owns (c : Thread nD τ) arg12 fullShare (newDg i x0 x1 x2 x3 x4 x7 o9 a)
            ∗ owns (c : Thread nD τ) arg13 fullShare (newAcc i x0 x1 x2 x3 a)) -∗ K ⟨⟩))
      ⊢ wp frame (wpE (defs₀ (F := F)) Variants.none c none) E (cc0_ffn1_dx_a i arg3 harg3 arg4 harg4 arg5 harg5 arg6 harg6 arg7 harg7 arg8 harg8 arg9 harg9 arg10 harg10 arg11 harg11 arg12 harg12 arg13 harg13) K := by
  simp only [cc0_ffn1_dx_a_eq_skeleton]; unfold cc0_ffn1_dx_a_skel
  simp only [k0_part1_eq_skeleton, off1, off2, off3]
  unfold newDx newDg newAcc mulAcc
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
  by_cases h1 : k0_cond1 i = 1#1 <;> by_cases h2 : k0_cond2 i = 1#1 <;> by_cases h3 : k0_cond3 i = 1#1 <;>
    simp only [h1, h2, h3, if_true, if_false]
  all_goals
    sl_exec (disch := first | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; · iexact H8
      ipureintro
      first
        | with_reducible exact hf8
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    isplitl [H9]
    · iexists _; isplitr; swap; · iexact H9
      ipureintro
      first
        | with_reducible exact hf9
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    iexists _; isplitr; swap; · iexact H10
    ipureintro
    frame_open
    simp (disch := first | (intro j; simp only [off1, off2, off3]; revert j; decide) | decide) only [read_whole,
      View.ld_unit_lit', View.readCov_unit_lit', View.readCov_cons_unit_lit', View.readAt_eq_ld,
      Memref.IsWhole.read_unread]

end Cert.FxaIdeal.Run

end
-- ==== Proof.FxaFrame.lean ====
/-
  The frame of `ffn1_dx_a`: the blocks after each of its 44 points by recursion over the points (`st`), the body's
  obligation from the run of Proof/FxaRun.lean, and the launch.
-/
module

public import proofs.«01_k».proof.Proof.FxaRun

@[expose] public section

set_option maxRecDepth 16384

noncomputable section

namespace Cert.FxaIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.FxaIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points meet the body's conditions, and where the outputs' blocks are written -/

theorem first_iff : ∀ t : Fin cfg0.N, k0_cond1 (grid0.coords t) = 1#1 ↔ t.val = 0 := by decide +kernel
theorem start_iff : ∀ t : Fin cfg0.N, k0_cond2 (grid0.coords t) = 1#1 ↔ t.val % 11 = 0 := by decide +kernel
theorem last_iff : ∀ t : Fin cfg0.N, k0_cond3 (grid0.coords t) = 1#1 ↔ t.val % 11 = 10 := by decide +kernel

theorem idle8 : ∀ t : Fin cfg0.N, ¬k0_cond3 (grid0.coords t) = 1#1 →
    cfg0.idle 8 (grid0.coords t) = true ∧ (cfg0.win 8).flush t = false := by decide +kernel
theorem live8 : ∀ t : Fin cfg0.N, k0_cond3 (grid0.coords t) = 1#1 → cfg0.idle 8 (grid0.coords t) = false := by decide +kernel
theorem idle9 : ∀ t : Fin cfg0.N, ¬k0_cond1 (grid0.coords t) = 1#1 → ¬k0_cond3 (grid0.coords t) = 1#1 →
    cfg0.idle 9 (grid0.coords t) = true ∧ (cfg0.win 9).flush t = false := by decide +kernel
theorem live9 : ∀ t : Fin cfg0.N, k0_cond1 (grid0.coords t) = 1#1 ∨ k0_cond3 (grid0.coords t) = 1#1 →
    cfg0.idle 9 (grid0.coords t) = false := by decide +kernel

/-- The gain's block holds nothing of the body's before the first point, and after the last, where it is written back. -/
def unset : ℕ → Bool := fun n => n == 0 || n == 44
theorem unset_step : ∀ t : Fin cfg0.N,
    unset (t.val + 1) = ((cfg0.win 9).flush t || (cfg0.idle 9 (cfg0.grid.coords t) && unset t.val)) := by decide +kernel
theorem fresh9 (t : Fin cfg0.N) (h : t.val ≠ 0) : cfg0.fresh 9 t.val = false := by
  rw [Pipeline.Cfg.fresh_tab cfg0 9 unset rfl unset_step t.val (Nat.le_of_lt t.isLt)]
  have ht : t.val < 44 := lt_of_lt_of_eq t.isLt N_0
  simp only [unset, Bool.or_eq_false_iff, beq_eq_false_iff_ne]
  omega

/-! ## The blocks after each point -/

/-- One point: from the two outputs' blocks and the accumulator before it, those after it. -/
def step (c : Dev nD) (t : Fin cfg0.N) (p : Vec F S528x2048 .f32 × Vec F S1x2048 .f32 × Vec F S1x528x2048 .f32) :
    Vec F S528x2048 .f32 × Vec F S1x2048 .f32 × Vec F S1x528x2048 .f32 :=
  (newDx (grid0.coords t) (iblk m c 0 t) (iblk m c 1 t) (iblk m c 2 t) (iblk m c 3 t) (iblk m c 4 t) (iblk m c 5 t) (iblk m c 6 t) p.1 p.2.2,
    newDg (grid0.coords t) (iblk m c 0 t) (iblk m c 1 t) (iblk m c 2 t) (iblk m c 3 t) (iblk m c 4 t) (iblk m c 7 t) p.2.1 p.2.2,
    newAcc (grid0.coords t) (iblk m c 0 t) (iblk m c 1 t) (iblk m c 2 t) (iblk m c 3 t) p.2.2)

/-- The blocks and the accumulator after point `n`; what the first point starts from does not matter. -/
def st (c : Dev nD) : (n : ℕ) → n < cfg0.N → Vec F S528x2048 .f32 × Vec F S1x2048 .f32 × Vec F S1x528x2048 .f32
  | 0, h => step m c ⟨0, h⟩ (iblk m c 4 ⟨0, h⟩, iblk m c 5 ⟨0, h⟩, k0_pay8)
  | n + 1, h => step m c ⟨n + 1, h⟩ (st c n (Nat.lt_of_succ_lt h))

theorem st_pos (c : Dev nD) (t : Fin cfg0.N) (h : t.val ≠ 0) :
    st m c t.val t.isLt = step m c t (st m c (t.val - 1) (by omega)) := by
  obtain ⟨n, hn⟩ := t
  cases n with
  | zero => exact absurd rfl h
  | succ n => rfl

/-- The accumulator after a point: at the first point of a row of blocks it does not matter what it held before. -/
theorem st_acc (c : Dev nD) (t : Fin cfg0.N) (a : Vec F S1x528x2048 .f32)
    (ha : (h : t.val ≠ 0) → a = (st m c (t.val - 1) (by omega)).2.2) :
    newAcc (grid0.coords t) (iblk m c 0 t) (iblk m c 1 t) (iblk m c 2 t) (iblk m c 3 t) a = (st m c t.val t.isLt).2.2 := by
  by_cases h : t.val = 0
  · obtain ⟨n, hn⟩ := t
    cases n with
    | zero =>
      have h2 : k0_cond2 (grid0.coords ⟨0, hn⟩) = 1#1 := (start_iff ⟨0, hn⟩).mpr (Nat.zero_mod _)
      show newAcc _ _ _ _ _ a = newAcc _ _ _ _ _ _
      unfold newAcc
      rw [if_pos h2, if_pos h2]
    | succ n => exact absurd h (Nat.succ_ne_zero n)
  · rw [ha h, st_pos m c t h]
    rfl

/-- The gradient's block after the last point of a row of blocks. -/
theorem st_dx (c : Dev nD) (t : Fin cfg0.N) (h3 : k0_cond3 (grid0.coords t) = 1#1) :
    (st m c t.val t.isLt).1
      = k0_pay5 (iblk m c 4 t) (iblk m c 5 t) (st m c t.val t.isLt).2.2 (iblk m c 6 t) := by
  have h : t.val ≠ 0 := by have := (last_iff t).mp h3; omega
  rw [st_pos m c t h]
  show newDx _ _ _ _ _ _ _ _ _ _ = _
  unfold newDx
  rw [if_pos h3]
  rfl

/-- The gain's block after the first point, -/
theorem st_dg_first (c : Dev nD) (t : Fin cfg0.N) (h1 : k0_cond1 (grid0.coords t) = 1#1) :
    (st m c t.val t.isLt).2.1 = k0_pay7 (iblk m c 7 t) := by
  have h : t.val = 0 := (first_iff t).mp h1
  have h3 : ¬k0_cond3 (grid0.coords t) = 1#1 := fun e => by have := (last_iff t).mp e; omega
  obtain ⟨n, hn⟩ := t
  cases n with
  | zero =>
    show newDg _ _ _ _ _ _ _ _ _ = _
    unfold newDg
    rw [if_neg h3, if_pos h1]
  | succ n => exact absurd h (Nat.succ_ne_zero n)

/-- after the last point of a row of blocks, -/
theorem st_dg_last (c : Dev nD) (t : Fin cfg0.N) (h3 : k0_cond3 (grid0.coords t) = 1#1) :
    (st m c t.val t.isLt).2.1
      = k0_pay6 (iblk m c 4 t) (st m c t.val t.isLt).2.2 (st m c (t.val - 1) (by omega)).2.1 := by
  have h : t.val ≠ 0 := by have := (last_iff t).mp h3; omega
  have h1 : ¬k0_cond1 (grid0.coords t) = 1#1 := fun e => h ((first_iff t).mp e)
  rw [st_pos m c t h]
  show newDg _ _ _ _ _ _ _ _ _ = _
  unfold newDg
  rw [if_pos h3, if_neg h1]
  rfl

/-- and after any other. -/
theorem st_dg_keep (c : Dev nD) (t : Fin cfg0.N) (h1 : ¬k0_cond1 (grid0.coords t) = 1#1) (h3 : ¬k0_cond3 (grid0.coords t) = 1#1) :
    (st m c t.val t.isLt).2.1 = (st m c (t.val - 1) (by omega)).2.1 := by
  have h : t.val ≠ 0 := fun e => h1 ((first_iff t).mpr e)
  rw [st_pos m c t h]
  show newDg _ _ _ _ _ _ _ _ _ = _
  unfold newDg
  rw [if_neg h3, if_neg h1]

/-! ## The pipeline's data -/

/-- The accumulator as a memref of its own. -/
abbrev acc : Memref sig .tc .vmem S1x528x2048 .f32 := Memref.whole cc0_scratch0

/-- Before the first point the accumulator holds anything, afterwards what the point before left. -/
def inv (c : Dev nD) : (n : ℕ) → n ≤ cfg0.N → sProp 𝕄
  | 0, _ => Pipeline.ΦA spec0 c
  | n + 1, h => iprop(owns (c : Thread nD τ) acc fullShare ((st m c n h).2.2) ∗ (∃ r, prngReg c r))

theorem free_eq (c : Dev nD) : (Pipeline.ΦA spec0 c : sProp 𝕄)
    = iprop((∃ d, owns (c : Thread nD τ) acc fullShare d) ∗ (∃ r, prngReg c r)) := by
  unfold Pipeline.ΦA; rw [scopedRest0_eq]; simp only [acc, owns_whole]; try rfl

/-- The pipeline's data: the arrays as launched, each input's buffer at its block, the outputs' at `st`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (st m c t.val t.isLt).1
    | ⟨9, _⟩ => (st m c t.val t.isLt).2.1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (st m c t.val t.isLt).1 := by dsimp only [dats]
theorem after0_9 (c : Dev nD) (t : Fin cfg0.N) : (dats m 0 c).after 9 t = (st m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- A point other than the first finds in the gain's block what the point before left. -/
theorem before9 (c : Dev nD) (t : Fin cfg0.N) (h : t.val ≠ 0) (d) :
    (dats m 0 c).before 9 t d = (st m c (t.val - 1) (by omega)).2.1 := by
  have keep : ∀ (t : Fin cfg0.N) (_ : t.val ≠ 0), cfg0.idle 9 (grid0.coords t) = true → cfg0.fresh 9 t.val = false →
      (dats m 0 c).after 9 t = (dats m 0 c).after 9 ⟨t.val - 1, by omega⟩ := by
    intro t _ hi _
    have h1 : ¬k0_cond1 (grid0.coords t) = 1#1 := fun e =>
      Bool.false_ne_true ((live9 t (.inl e)).symm.trans hi)
    have h3 : ¬k0_cond3 (grid0.coords t) = 1#1 := fun e =>
      Bool.false_ne_true ((live9 t (.inr e)).symm.trans hi)
    rw [after0_9, after0_9, st_dg_keep m c t h1 h3]
  rw [Dat.before_out_traj _ 9 rfl (fun _ _ => rfl) keep t.val t rfl d, if_neg (by rw [fresh9 t h]; exact Bool.false_ne_true)]
  dsimp only [dats]

/-! ## The body's obligation -/

/-- What the run leaves in the gradient's block is what the data say of it. -/
theorem leave8 (c : Dev nD) (t : Fin cfg0.N) (a : Vec F S1x528x2048 .f32) (ha : newAcc (grid0.coords t) (iblk m c 0 t) (iblk m c 1 t) (iblk m c 2 t) (iblk m c 3 t) a = (st m c t.val t.isLt).2.2) (d) :
    owns (c : Thread nD τ) (win0_8.stage (cfg0.slots t 8)) fullShare (newDx (grid0.coords t) (iblk m c 0 t) (iblk m c 1 t) (iblk m c 2 t) (iblk m c 3 t) (iblk m c 4 t) (iblk m c 5 t) (iblk m c 6 t) ((dats m 0 c).before 8 t d) a)
      ⊢ (dats m 0 c).leavesExact 8 t := by
  by_cases h3 : k0_cond3 (grid0.coords t) = 1#1
  · rw [show (dats m 0 c).leavesExact 8 t = owns (c : Thread nD τ) (win0_8.stage (cfg0.slots t 8)) fullShare ((dats m 0 c).after 8 t) from by
      unfold Dat.leavesExact; rw [live8 t h3], after0_8, st_dx m c t h3, ← ha]
    unfold newDx
    rw [if_pos h3]
  · rw [Dat.leavesExact_idle (dats m 0 c) 8 t (idle8 t h3).1 (idle8 t h3).2]
    unfold newDx
    rw [if_neg h3]
    iintro H
    iexists d
    iexact H

/-- The same of the gain's block. -/
theorem leave9 (c : Dev nD) (t : Fin cfg0.N) (a : Vec F S1x528x2048 .f32) (ha : newAcc (grid0.coords t) (iblk m c 0 t) (iblk m c 1 t) (iblk m c 2 t) (iblk m c 3 t) a = (st m c t.val t.isLt).2.2) (d) :
    owns (c : Thread nD τ) (win0_9.stage (cfg0.slots t 9)) fullShare (newDg (grid0.coords t) (iblk m c 0 t) (iblk m c 1 t) (iblk m c 2 t) (iblk m c 3 t) (iblk m c 4 t) (iblk m c 7 t) ((dats m 0 c).before 9 t d) a)
      ⊢ (dats m 0 c).leavesExact 9 t := by
  by_cases h3 : k0_cond3 (grid0.coords t) = 1#1
  · have h : t.val ≠ 0 := by have := (last_iff t).mp h3; omega
    have h1 : ¬k0_cond1 (grid0.coords t) = 1#1 := fun e => h ((first_iff t).mp e)
    rw [show (dats m 0 c).leavesExact 9 t = owns (c : Thread nD τ) (win0_9.stage (cfg0.slots t 9)) fullShare ((dats m 0 c).after 9 t) from by
      unfold Dat.leavesExact; rw [live9 t (.inr h3)], after0_9, st_dg_last m c t h3, ← ha, before9 m c t h]
    unfold newDg
    rw [if_pos h3, if_neg h1]
  · by_cases h1 : k0_cond1 (grid0.coords t) = 1#1
    · rw [show (dats m 0 c).leavesExact 9 t = owns (c : Thread nD τ) (win0_9.stage (cfg0.slots t 9)) fullShare ((dats m 0 c).after 9 t) from by
        unfold Dat.leavesExact; rw [live9 t (.inl h1)], after0_9, st_dg_first m c t h1]
      unfold newDg
      rw [if_neg h3, if_pos h1]
    · rw [Dat.leavesExact_idle (dats m 0 c) 9 t (idle9 t h1 h3).1 (idle9 t h1 h3).2]
      unfold newDg
      rw [if_neg h3, if_neg h1]
      iintro H
      iexists d
      iexact H

/-- The invariant hands over the accumulator at contents from which the point's own follow. -/
theorem inv_open (c : Dev nD) (t : Fin cfg0.N) :
    inv m c t.val (Nat.le_of_lt t.isLt) ⊢ iprop(∃ a, ⌜newAcc (grid0.coords t) (iblk m c 0 t) (iblk m c 1 t) (iblk m c 2 t) (iblk m c 3 t) a = (st m c t.val t.isLt).2.2⌝
      ∗ owns (c : Thread nD τ) acc fullShare a ∗ (∃ r, prngReg c r)) := by
  obtain ⟨n, hn⟩ := t
  cases n with
  | zero =>
    rw [show inv m c (⟨0, hn⟩ : Fin cfg0.N).val (Nat.le_of_lt hn) = Pipeline.ΦA spec0 c from rfl, free_eq]
    iintro ⟨⟨%a, H⟩, Hg⟩
    iexists a
    isplitr
    · ipureintro; exact st_acc m c ⟨0, hn⟩ a fun h => absurd rfl h
    isplitl [H]; · iexact H
    iexact Hg
  | succ n =>
    rw [show inv m c (⟨n + 1, hn⟩ : Fin cfg0.N).val (Nat.le_of_lt hn)
      = iprop(owns (c : Thread nD τ) acc fullShare ((st m c n (Nat.lt_of_succ_lt hn)).2.2) ∗ (∃ r, prngReg c r)) from rfl]
    iintro ⟨H, Hg⟩
    iexists _
    isplitr
    · ipureintro; exact st_acc m c ⟨n + 1, hn⟩ _ fun _ => rfl
    isplitl [H]; · iexact H
    iexact Hg

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.castSucc = inv m c t.val (Nat.le_of_lt t.isLt) from rfl,
    show (dats m 0 c).Φ t.succ = iprop(owns (c : Thread nD τ) acc fullShare ((st m c t.val t.isLt).2.2) ∗ (∃ r, prngReg c r)) from rfl]
  rw [show (dats m 0 c).leavesExact 0 t = owns (c : Thread nD τ) (win0_0.stage (cfg0.slots t 0)) fullShare ((dats m 0 c).after 0 t) from by
    unfold Dat.leavesExact; rw [show cfg0.idle 0 (cfg0.grid.coords t) = false from rfl], after0_0]
  rw [show (dats m 0 c).leavesExact 1 t = owns (c : Thread nD τ) (win0_1.stage (cfg0.slots t 1)) fullShare ((dats m 0 c).after 1 t) from by
    unfold Dat.leavesExact; rw [show cfg0.idle 1 (cfg0.grid.coords t) = false from rfl], after0_1]
  rw [show (dats m 0 c).leavesExact 2 t = owns (c : Thread nD τ) (win0_2.stage (cfg0.slots t 2)) fullShare ((dats m 0 c).after 2 t) from by
    unfold Dat.leavesExact; rw [show cfg0.idle 2 (cfg0.grid.coords t) = false from rfl], after0_2]
  rw [show (dats m 0 c).leavesExact 3 t = owns (c : Thread nD τ) (win0_3.stage (cfg0.slots t 3)) fullShare ((dats m 0 c).after 3 t) from by
    unfold Dat.leavesExact; rw [show cfg0.idle 3 (cfg0.grid.coords t) = false from rfl], after0_3]
  rw [show (dats m 0 c).leavesExact 4 t = owns (c : Thread nD τ) (win0_4.stage (cfg0.slots t 4)) fullShare ((dats m 0 c).after 4 t) from by
    unfold Dat.leavesExact; rw [show cfg0.idle 4 (cfg0.grid.coords t) = false from rfl], after0_4]
  rw [show (dats m 0 c).leavesExact 5 t = owns (c : Thread nD τ) (win0_5.stage (cfg0.slots t 5)) fullShare ((dats m 0 c).after 5 t) from by
    unfold Dat.leavesExact; rw [show cfg0.idle 5 (cfg0.grid.coords t) = false from rfl], after0_5]
  rw [show (dats m 0 c).leavesExact 6 t = owns (c : Thread nD τ) (win0_6.stage (cfg0.slots t 6)) fullShare ((dats m 0 c).after 6 t) from by
    unfold Dat.leavesExact; rw [show cfg0.idle 6 (cfg0.grid.coords t) = false from rfl], after0_6]
  rw [show (dats m 0 c).leavesExact 7 t = owns (c : Thread nD τ) (win0_7.stage (cfg0.slots t 7)) fullShare ((dats m 0 c).after 7 t) from by
    unfold Dat.leavesExact; rw [show cfg0.idle 7 (cfg0.grid.coords t) = false from rfl], after0_7]
  refine (sep_mono_left (inv_open m c t)).trans ?_
  iintro ⟨⟨%a, %ha, HA, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)
    ((dats m 0 c).before 8 t d8) ((dats m 0 c).before 9 t d9) a c Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  rw [ha]
  iintro ⟨H0, H1, H2, H3, H4, H5, H6, H7, H8, H9, HA⟩
  isplitl [HA Hg]
  · isplitl [HA]; · iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leave8 m c t a ha d8); iexact H8
  iapply (leave9 m c t a ha d9); iexact H9

theorem row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N)
    = iprop(owns (c : Thread nD τ) acc fullShare ((st m c 43 (by rw [show cfg0.N = 44 from N_0]; omega)).2.2) ∗ (∃ r, prngReg c r)) from rfl, free_eq]
  iintro ⟨H, Hg⟩
  isplitl [H]
  · iexists _; iexact H
  iexact Hg

/-! ## The launch -/

set_option backward.isDefEq.respectTransparency.types false in
/-- Every execution ends, with the arrays at what the data say and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_quiet m ρ))

end Cert.FxaIdeal.Run

end
-- ==== Proof.FxaValue.lean ====
/-
  Hand-written, untrusted. THE VALUES OF `ffn1_dx_a`, block by block of 528 rows. The accumulator collects, over the eleven blocks of 512 columns, the two
  products that make the norm's gradient; at the last of them the body forms the rows' gradient (`Norm.lean`) and adds the block's part to the
  gradient of the norm's weight.
-/
module

public import proofs.«01_k».proof.Defs
public import proofs.«01_k».proof.Proof.FxaFrame
public import proofs.«01_k».proof.Proof.FxRef
public import proofs.«01_k».proof.Proof.DxValue

@[expose] public section

set_option maxRecDepth 16384

noncomputable section

open Idealize.ShloMosaic Idealize.ShloMosaic.TcCoe Idealize.SL.Sem
open Idealize.ShloMosaic.Pipeline (Dat)

namespace Cert.FxaIdeal.Value

open Cert.FxaIdeal Cert.FxaIdeal.Gen Cert.FxaIdeal.Run
open Cert.FxaRefIdeal.Arrays (DN DX DG dn_at dx_at dg_at)

/-! ## What the body computes, at an index -/

theorem pay5_at (x : Vec Ideal S528x2048 .f32) (g) (p : Vec Ideal S1x528x2048 .f32) (up i) : k0_pay5 x g p up i
    = up i + Norm.kdx (fun k => x (ix2 (i 0) k)) (fun k => g (ix2 0 k)) (fun k => p (ix3 0 (i 0) k)) (i 1) := Cert.DxIdeal.Value.pay5_at x g p up i

theorem pay6_at (x : Vec Ideal S528x2048 .f32) (p : Vec Ideal S1x528x2048 .f32) (acc i) : k0_pay6 x p acc i
    = acc i + ∑ a : Fin 528, p (ix3 0 a (i 1)) * (x (ix2 a (i 1)) * Norm.rstd fun k => x (ix2 a k)) := Cert.DxIdeal.Value.pay6_at x p acc i

theorem pay7_at (x : Vec Ideal S1x2048 .f32) (i) : k0_pay7 x i = x i := Cert.DxIdeal.Value.pay7_at x i

theorem pay8_at (i) : k0_pay8 (F := Ideal) i = 0 := Cert.DxIdeal.Value.pay8_at i

theorem mul_at (x0 : Vec Ideal S528x512 .bf16) (x1 : Vec Ideal S512x2048 .bf16) (x2 : Vec Ideal S528x512 .bf16) (x3 : Vec Ideal S512x2048 .bf16)
    (a : Vec Ideal S1x528x2048 .f32) (i) : mulAcc x0 x1 x2 x3 a i
      = a i + ((∑ k : Fin 512, x0 (ix2 (i 1) k) * x1 (ix2 k (i 2))) + ∑ k : Fin 512, x2 (ix2 (i 1) k) * x3 (ix2 k (i 2))) :=
  Cert.DxIdeal.Value.mul_at x0 x1 x2 x3 a i

variable (m : (ℓ : Loc nD τ sig) → Buf (Elt Ideal) ℓ)

/-! ## The accumulator -/

/-- The inputs' blocks at a point. -/
abbrev X0 (c : Dev nD) (t : Fin cfg0.N) : Vec Ideal S528x512 .bf16 := iblk m c 0 t
abbrev X1 (c : Dev nD) (t : Fin cfg0.N) : Vec Ideal S512x2048 .bf16 := iblk m c 1 t
abbrev X2 (c : Dev nD) (t : Fin cfg0.N) : Vec Ideal S528x512 .bf16 := iblk m c 2 t
abbrev X3 (c : Dev nD) (t : Fin cfg0.N) : Vec Ideal S512x2048 .bf16 := iblk m c 3 t
abbrev X4 (c : Dev nD) (t : Fin cfg0.N) : Vec Ideal S528x2048 .f32 := iblk m c 4 t
abbrev X5 (c : Dev nD) (t : Fin cfg0.N) : Vec Ideal S1x2048 .f32 := iblk m c 5 t
abbrev X6 (c : Dev nD) (t : Fin cfg0.N) : Vec Ideal S528x2048 .f32 := iblk m c 6 t
abbrev X7 (c : Dev nD) (t : Fin cfg0.N) : Vec Ideal S1x2048 .f32 := iblk m c 7 t

/-- What one point adds to the accumulator. -/
def term (c : Dev nD) (t : Fin cfg0.N) (i : S1x528x2048.Idx) : EReal :=
  (∑ k : Fin 512, X0 m c t (ix2 (i 1) k) * X1 m c t (ix2 k (i 2)))
    + ∑ k : Fin 512, X2 m c t (ix2 (i 1) k) * X3 m c t (ix2 k (i 2))

theorem acc_start (c : Dev nD) (t : Fin cfg0.N) (h : t.val % 11 = 0) (i) : (st m c t.val t.isLt).2.2 i = 0 + term m c t i := by
  have h2 := (start_iff t).mpr h
  have e : ∀ a, newAcc (grid0.coords t) (iblk m c 0 t) (iblk m c 1 t) (iblk m c 2 t) (iblk m c 3 t) a = mulAcc (iblk m c 0 t) (iblk m c 1 t) (iblk m c 2 t) (iblk m c 3 t) (k0_pay8 (F := Ideal)) := fun a => by
    unfold newAcc
    rw [if_pos h2]
  have s : (st m c t.val t.isLt).2.2 = mulAcc (iblk m c 0 t) (iblk m c 1 t) (iblk m c 2 t) (iblk m c 3 t) (k0_pay8 (F := Ideal)) := by
    by_cases h0 : t.val = 0
    · exact (st_acc m c t (k0_pay8 (F := Ideal)) fun h' => absurd h0 h').symm.trans (e _)
    · exact (st_acc m c t (st m c (t.val - 1) (by omega)).2.2 fun _ => rfl).symm.trans (e _)
  rw [s, mul_at, pay8_at]
  rfl

theorem acc_step (c : Dev nD) (t : Fin cfg0.N) (h : ¬t.val % 11 = 0) (i) :
    (st m c t.val t.isLt).2.2 i = (st m c (t.val - 1) (Nat.lt_of_le_of_lt (Nat.sub_le _ _) t.isLt)).2.2 i + term m c t i := by
  have h2 : ¬k0_cond2 (grid0.coords t) = 1#1 := fun e => h ((start_iff t).mp e)
  have e : ∀ a, newAcc (grid0.coords t) (iblk m c 0 t) (iblk m c 1 t) (iblk m c 2 t) (iblk m c 3 t) a = mulAcc (iblk m c 0 t) (iblk m c 1 t) (iblk m c 2 t) (iblk m c 3 t) a := fun a => by
    unfold newAcc
    rw [if_neg h2]
  rw [((st_acc m c t (st m c (t.val - 1) (by omega)).2.2 fun _ => rfl).symm.trans (e _)), mul_at]
  rfl

/-! ## Block against array -/

/-- Where the blocks sit. -/
theorem idx : ∀ t : Fin cfg0.N, win0_0.index t = ![t.val / 11, t.val % 11] ∧ win0_1.index t = ![t.val % 11, 0] ∧ win0_2.index t = ![t.val / 11, t.val % 11]
    ∧ win0_3.index t = ![t.val % 11, 0] ∧ win0_4.index t = ![t.val / 11, 0] ∧ win0_5.index t = ![0, 0] ∧ win0_6.index t = ![t.val / 11, 0]
    ∧ win0_7.index t = ![0, 0] ∧ win0_8.index t = ![t.val / 11, 0] ∧ win0_9.index t = ![0, 0] :=
  (by decide +kernel : ∀ t : Fin grid0.N, _)

variable (c : Dev nD)

abbrev A0 : FVec Ideal Cert.FxaRefIdeal.S2112x5632 .bf16 := extractStridedSlice Cert.FxaRefIdeal.S2112x5632 ![0, 0] (m ((c : Thread nD τ).loc main_arg0)) Cert.FxaRefIdeal.Gen.slices_S4224x5632_S2112x5632_0_0
abbrev A1 : FVec Ideal Cert.FxaRefIdeal.S5632x2048 .bf16 := m ((c : Thread nD τ).loc main_arg1)
abbrev A2 : FVec Ideal Cert.FxaRefIdeal.S2112x5632 .bf16 := extractStridedSlice Cert.FxaRefIdeal.S2112x5632 ![0, 0] (m ((c : Thread nD τ).loc main_arg2)) Cert.FxaRefIdeal.Gen.slices_S4224x5632_S2112x5632_0_0
abbrev A3 : FVec Ideal Cert.FxaRefIdeal.S5632x2048 .bf16 := m ((c : Thread nD τ).loc main_arg3)
abbrev A4 : FVec Ideal Cert.FxaRefIdeal.S2112x2048 .f32 := extractStridedSlice Cert.FxaRefIdeal.S2112x2048 ![0, 0] (m ((c : Thread nD τ).loc main_arg4)) Cert.FxaRefIdeal.Gen.slices_S4224x2048_S2112x2048_0_0
abbrev A5 : FVec Ideal Cert.FxaRefIdeal.S1x2048 .f32 := m ((c : Thread nD τ).loc main_arg5)
abbrev A6 : FVec Ideal Cert.FxaRefIdeal.S2112x2048 .f32 := extractStridedSlice Cert.FxaRefIdeal.S2112x2048 ![0, 0] (m ((c : Thread nD τ).loc main_arg6)) Cert.FxaRefIdeal.Gen.slices_S4224x2048_S2112x2048_0_0

theorem row0 (t : Fin cfg0.N) (a : Fin 528) (b : Fin 2112) (h : b.val = t.val / 11 * 528 + a.val) (k : Fin 512) (l : Fin 5632)
    (hl : l.val = t.val % 11 * 512 + k.val) : X0 m c t (ix2 a k) = A0 m c (ix2 b l) := by
  unfold X0 iblk
  show View.read _ ((cfg0.win 0).blk t).view (V m c main_arg0) _ = _
  rw [V_main_arg0]
  blk_ext [A0, idx t]
  · show t.val / 11 * 528 + a.val = b.val
    omega
  · exact hl.symm

theorem row2 (t : Fin cfg0.N) (a : Fin 528) (b : Fin 2112) (h : b.val = t.val / 11 * 528 + a.val) (k : Fin 512) (l : Fin 5632)
    (hl : l.val = t.val % 11 * 512 + k.val) : X2 m c t (ix2 a k) = A2 m c (ix2 b l) := by
  unfold X2 iblk
  show View.read _ ((cfg0.win 2).blk t).view (V m c main_arg2) _ = _
  rw [V_main_arg2]
  blk_ext [A2, idx t]
  · show t.val / 11 * 528 + a.val = b.val
    omega
  · exact hl.symm

theorem row1 (t : Fin cfg0.N) (k : Fin 512) (l : Fin 5632) (hl : l.val = t.val % 11 * 512 + k.val) (j j' : Fin 2048) (hj : j = j') :
    X1 m c t (ix2 k j) = A1 m c (ix2 l j') := by
  subst hj
  unfold X1 iblk
  show View.read _ ((cfg0.win 1).blk t).view (V m c main_arg1) _ = _
  rw [V_main_arg1]
  blk_ext [A1, idx t]

theorem row3 (t : Fin cfg0.N) (k : Fin 512) (l : Fin 5632) (hl : l.val = t.val % 11 * 512 + k.val) (j j' : Fin 2048) (hj : j = j') :
    X3 m c t (ix2 k j) = A3 m c (ix2 l j') := by
  subst hj
  unfold X3 iblk
  show View.read _ ((cfg0.win 3).blk t).view (V m c main_arg3) _ = _
  rw [V_main_arg3]
  blk_ext [A3, idx t]

theorem row4 (t : Fin cfg0.N) (a : Fin 528) (b : Fin 2112) (h : b.val = t.val / 11 * 528 + a.val) (k : Fin 2048) :
    X4 m c t (ix2 a k) = A4 m c (ix2 b k) := by
  unfold X4 iblk
  show View.read _ ((cfg0.win 4).blk t).view (V m c main_arg4) _ = _
  rw [V_main_arg4]
  blk_ext [A4, idx t]
  · show t.val / 11 * 528 + a.val = b.val
    omega
  · exact rfl

theorem row6 (t : Fin cfg0.N) (a : Fin 528) (b : Fin 2112) (h : b.val = t.val / 11 * 528 + a.val) (k : Fin 2048) :
    X6 m c t (ix2 a k) = A6 m c (ix2 b k) := by
  unfold X6 iblk
  show View.read _ ((cfg0.win 6).blk t).view (V m c main_arg6) _ = _
  rw [V_main_arg6]
  blk_ext [A6, idx t]
  · show t.val / 11 * 528 + a.val = b.val
    omega
  · exact rfl

theorem row5 (t : Fin cfg0.N) (k : Fin 2048) : X5 m c t (ix2 0 k) = A5 m c (ix2 0 k) := by
  unfold X5 iblk
  show View.read _ ((cfg0.win 5).blk t).view (V m c main_arg5) _ = _
  rw [V_main_arg5]
  blk_ext [A5, idx t]

/-- The gain's block starts from zeros. -/
theorem row7 (t : Fin cfg0.N) (j : Fin 2048) : X7 m c t (ix2 0 j) = 0 := by
  have e : V m c main_v0 = (broadcastInDim S1x2048 ![] bcast_S_S1x2048 (constant S_ .f32 0x00000000#32) : FVec Ideal S1x2048 .f32) := by after_results_simp <;> rfl
  unfold X7 iblk
  show View.read _ ((cfg0.win 7).blk t).view (V m c main_v0) _ = _
  rw [e]
  have z : ∀ i, (broadcastInDim S1x2048 ![] bcast_S_S1x2048 (constant S_ .f32 0x00000000#32) : FVec Ideal S1x2048 .f32) i = 0 := fun i => by pointwise
  exact z (((cfg0.win 7).blk t).view.emb (ix2 0 j))

/-- At the last point of a row of blocks the accumulator holds the norm's gradient. -/
theorem acc_last (t : Fin cfg0.N) (h : t.val % 11 = 10) (a : Fin 528) (b : Fin 2112) (hb : b.val = t.val / 11 * 528 + a.val) (j j' : Fin 2048) (hj : j = j') :
    (st m c t.val t.isLt).2.2 (ix3 0 a j) = DN (A0 m c) (A1 m c) (A2 m c) (A3 m c) (ix2 b j') := by
  have ht : t.val < 44 := lt_of_lt_of_eq t.isLt N_0
  rw [Pipeline.eq_sum_fin_of_reset_step_apply_of_flush (fun n h => (st m c n h).2.2) 11 (fun _ => 0) (term m c)
    (acc_start m c) (acc_step m c) t h _, zero_add, dn_at]
  simp only [term]
  rw [Finset.sum_add_distrib]
  refine congrArg₂ (· + ·) (Fin.sum_mul_add_congr fun s k hl => ?_) (Fin.sum_mul_add_congr fun s k hl => ?_)
  · exact congrArg₂ (· * ·) (row0 m c ⟨11 * (t.val / 11) + s.val, _⟩ a b (by show _ = (11 * (t.val / 11) + s.val) / 11 * 528 + _; omega) k ⟨s * 512 + k, hl⟩ (by show s.val * 512 + k.val = (11 * (t.val / 11) + s.val) % 11 * 512 + k.val; omega))
      (row1 m c ⟨11 * (t.val / 11) + s.val, _⟩ k ⟨s * 512 + k, hl⟩ (by show s.val * 512 + k.val = (11 * (t.val / 11) + s.val) % 11 * 512 + k.val; omega) j j' hj)
  · exact congrArg₂ (· * ·) (row2 m c ⟨11 * (t.val / 11) + s.val, _⟩ a b (by show _ = (11 * (t.val / 11) + s.val) / 11 * 528 + _; omega) k ⟨s * 512 + k, hl⟩ (by show s.val * 512 + k.val = (11 * (t.val / 11) + s.val) % 11 * 512 + k.val; omega))
      (row3 m c ⟨11 * (t.val / 11) + s.val, _⟩ k ⟨s * 512 + k, hl⟩ (by show s.val * 512 + k.val = (11 * (t.val / 11) + s.val) % 11 * 512 + k.val; omega) j j' hj)

/-! ## The gradient of the norm's weight -/

theorem st_congr {n n' : ℕ} {h : n < cfg0.N} {h' : n' < cfg0.N} (e : n = n') : st m c n h = st m c n' h' := by
  subst e
  rfl

/-- Between the first and the last point of a row of blocks its block stays, -/
theorem keep (n s : ℕ) (hs : s ≤ 9) (h : 11 * n + s < cfg0.N) :
    (st m c (11 * n + s) h).2.1 = (st m c (11 * n) (by omega)).2.1 := by
  induction s with
  | zero => rfl
  | succ s ih =>
    refine (st_dg_keep m c ⟨11 * n + (s + 1), h⟩ (fun e => ?_) (fun e => ?_)).trans (ih (by omega) (by omega))
    · have e' : 11 * n + (s + 1) = 0 := (first_iff ⟨11 * n + (s + 1), h⟩).mp e
      omega
    · have e' : (11 * n + (s + 1)) % 11 = 10 := (last_iff ⟨11 * n + (s + 1), h⟩).mp e
      omega

/-- and at its last point the block's part is added. -/
theorem dg_last (n : ℕ) (h : 11 * n + 10 < cfg0.N) (i) : (st m c (11 * n + 10) h).2.1 i
    = (st m c (11 * n) (by omega)).2.1 i + ∑ a : Fin 528, (st m c (11 * n + 10) h).2.2 (ix3 0 a (i 1))
        * (X4 m c ⟨11 * n + 10, h⟩ (ix2 a (i 1)) * Norm.rstd fun k => X4 m c ⟨11 * n + 10, h⟩ (ix2 a k)) := by
  have e := st_dg_last m c ⟨11 * n + 10, h⟩ ((last_iff ⟨11 * n + 10, h⟩).mpr (by show (11 * n + 10) % 11 = 10; omega))
  have e' : (st m c (11 * n + 10 - 1) (by omega)).2.1 = (st m c (11 * n) (by omega)).2.1 := keep m c n 9 (by omega) (by omega)
  refine (congrFun e i).trans ?_
  rw [pay6_at]
  exact congrArg (· + _) (congrFun e' i)

/-- What a row of blocks adds. -/
def part (n : Fin 4) (i : S1x2048.Idx) : EReal :=
  ∑ a : Fin 528, (st m c (11 * n.val + 10) (by have := n.isLt; rw [show cfg0.N = 44 from N_0]; omega)).2.2 (ix3 0 a (i 1))
    * (X4 m c ⟨11 * n.val + 10, by have := n.isLt; rw [show cfg0.N = 44 from N_0]; omega⟩ (ix2 a (i 1))
      * Norm.rstd fun k => X4 m c ⟨11 * n.val + 10, by have := n.isLt; rw [show cfg0.N = 44 from N_0]; omega⟩ (ix2 a k))

theorem zero_lt : 0 < cfg0.N := by rw [show cfg0.N = 44 from N_0]; omega

theorem dg_total (i) : (st m c 43 (by rw [show cfg0.N = 44 from N_0]; omega)).2.1 i
    = X7 m c ⟨0, zero_lt⟩ i + ∑ n : Fin 4, part m c n i := by
  have hN : cfg0.N = 44 := N_0
  refine Pipeline.eq_sum_fin_of_reset_step_apply_last (N := 4) (fun n h => (st m c (11 * n + 10) (by rw [hN]; omega)).2.1) 4
    (fun i => X7 m c ⟨0, zero_lt⟩ i) (part m c) (fun t h i => ?_) (fun t h i => ?_) (le_refl _) ⟨3, by omega⟩ rfl i
  · obtain ⟨n, hn⟩ := t
    have h' : n = 0 := by have : n % 4 = 0 := h; omega
    subst h'
    refine (dg_last m c 0 (by rw [hN]; omega) i).trans (congrArg (· + _) ?_)
    refine (congrFun (st_dg_first m c ⟨0, zero_lt⟩ ((first_iff ⟨0, zero_lt⟩).mpr rfl)) i).trans ?_
    rw [pay7_at]
  · obtain ⟨n, hn⟩ := t
    have h' : n ≠ 0 := fun e => h (by subst e; rfl)
    refine (dg_last m c n (by rw [hN]; omega) i).trans (congrArg (· + _) ?_)
    have hl : 11 * n < cfg0.N := by rw [hN]; omega
    have e := st_dg_keep m c ⟨11 * n, hl⟩ (fun e => by have : 11 * n = 0 := (first_iff ⟨11 * n, hl⟩).mp e; omega)
      (fun e => by have : 11 * n % 11 = 10 := (last_iff ⟨11 * n, hl⟩).mp e; omega)
    refine (congrFun e i).trans ?_
    have q : 11 * n - 1 = 11 * (n - 1) + 10 := by omega
    exact congrFun (congrArg (fun p => p.2.1) (st_congr m c q)) i

/-! ## The results -/

theorem final8 : (dats m 0 c).arrAt 8 (cfgs 0).N = DX (A4 m c) (A5 m c) (DN (A0 m c) (A1 m c) (A2 m c) (A3 m c)) (A6 m c) := by
  refine (dats m 0 c).arrAt_eq_of_covers 8 _ (by decide +kernel) fun t hf y => ?_
  have hl : t.val % 11 = 10 := (flush0_8 t).mp hf
  have e0 : (((cfg0.win 8).blk t).view.emb y 0).val = t.val / 11 * 528 + (y 0).val := by blk_simp [idx t]
  have e1 : (((cfg0.win 8).blk t).view.emb y 1).val = (y 1).val := by blk_simp [idx t]
  blk_simp
  rw [after0_8, st_dx m c t ((last_iff t).mpr hl)]
  refine (pay5_at _ _ _ _ _).trans (Eq.trans ?_ (dx_at _ _ _ _ _).symm)
  refine congrArg₂ (· + ·) ?_ ?_
  · have := row6 m c t (y 0) (((cfg0.win 8).blk t).view.emb y 0) e0 (y 1)
    rw [show y = ix2 (y 0) (y 1) from by blk_ext]
    refine this.trans (congrArg _ ?_)
    blk_ext [idx t]
  · refine Eq.trans ?_ (Norm.kdx_eq_vdx _ _ _ _)
    exact Norm.kdx_congr (row4 m c t (y 0) (((cfg0.win 8).blk t).view.emb y 0) e0) (row5 m c t)
      (fun k => acc_last m c t hl (y 0) (((cfg0.win 8).blk t).view.emb y 0) e0 k k rfl) (Fin.ext e1.symm)

theorem final9 : (dats m 0 c).arrAt 9 (cfgs 0).N = DG (A4 m c) (DN (A0 m c) (A1 m c) (A2 m c) (A3 m c)) := by
  refine (dats m 0 c).arrAt_eq_of_covers 9 _ (by decide +kernel) fun t hf y => ?_
  have hN : cfg0.N = 44 := N_0
  have ht : t.val = 43 := by have := (flush0_9 t).mp hf; have := t.isLt; omega
  have e1 : (((cfg0.win 9).blk t).view.emb y 1).val = (y 1).val := by blk_simp [idx t]
  blk_simp
  rw [after0_9]
  obtain ⟨n, hn⟩ := t
  have ht' : n = 43 := ht
  subst ht'
  refine (dg_total m c y).trans ?_
  have e7 := (congrArg (X7 m c ⟨0, zero_lt⟩) (show y = ix2 0 (y 1) from by blk_ext)).trans (row7 m c ⟨0, zero_lt⟩ (y 1))
  refine (congrArg (· + _) e7).trans ?_
  rw [zero_add, dg_at]
  refine Fin.sum_mul_add_congr (n := 528) fun s a hl => ?_
  have hs : 11 * s.val + 10 < cfg0.N := by have := s.isLt; omega
  exact Norm.dg_congr (row4 m c ⟨11 * s.val + 10, hs⟩ a ⟨s * 528 + a, hl⟩ (by show s.val * 528 + a.val = (11 * s.val + 10) / 11 * 528 + a.val; omega))
    (fun k => acc_last m c ⟨11 * s.val + 10, hs⟩ (by show (11 * s.val + 10) % 11 = 10; omega) a ⟨s * 528 + a, hl⟩ (by show s.val * 528 + a.val = (11 * s.val + 10) / 11 * 528 + a.val; omega) k k rfl)
    (Fin.ext e1.symm)

/-! ## The run, and the reference's results -/

/-- The kernel's run, its two results named. -/
theorem run_blocks (ρ : Dev nD → PrngReg) : θ_run defs (onTc (τ := τ) (main (F := Ideal))) ⟨m, fun _ => 0, ρ⟩ fun r => ∀ c : Dev nD,
    r.2.mem ((c.tc : Thread nD τ).loc main_v1_0) = (dats m 0 c).arrAt 8 cfg0.N
      ∧ r.2.mem ((c.tc : Thread nD τ).loc main_v1_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1 8, (h c).1 9,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c)))⟩) (run_main m ρ)

end Cert.FxaIdeal.Value

end
-- ==== Proof.FxaClaims.lean ====
/-
  Hand-written, untrusted. The claims about `Fxa`, proved: the frames from `Proof/FxaFrame.lean`, and the value claim from `Proof/FxaValue.lean`.
-/
module

public import proofs.«01_k».proof.Defs
public import proofs.«01_k».proof.Proof.Gen.Fxa
public import proofs.«01_k».proof.Proof.Gen.FxaRefIdeal.Run
public import proofs.«01_k».proof.Proof.FxRef
public import proofs.«01_k».proof.Proof.FxaValue

@[expose] public section

set_option maxRecDepth 16384

noncomputable section

namespace Cert.Proof.Fxa

open Idealize.ShloMosaic Idealize.ShloMosaic.TcCoe Idealize.SL.Sem
open Cert.FxaRefIdeal.Arrays (DN DX DG)

/-! ## The frames

The printed kernel and its idealisation have the same text, so the frame proved for every interpretation of the floats serves both. -/

theorem defs₀_eq : Cert.Fxa.defs₀ (F := Bits) = Cert.FxaIdeal.defs₀ (F := Bits) := by
  refine congrArg Defs.onTc ?_
  funext l x
  match l, x with
  | 0, (t, s) => rfl
  | ⟨n + 1, h⟩, _ => exact absurd h (Nat.not_lt.2 (Nat.le_add_left _ _))

theorem defs_eq : Cert.Fxa.defs (F := Bits) = Cert.FxaIdeal.defs (F := Bits) := congrArg (Pipeline.defs Cert.FxaIdeal.pcfgs) defs₀_eq

theorem kernel : Cert.quiescent_Fxa (hFxa := Cert.Fxa.Gen.facts) := fun m ρ _ => by
  have e := Cert.FxaIdeal.Run.frame (F := Bits) m ρ
  rw [← defs_eq] at e
  exact e

theorem ideal : Cert.quiescent_FxaIdeal (hFxaIdeal := Cert.FxaIdeal.Gen.facts) := fun m ρ _ => Cert.FxaIdeal.Run.frame (F := Ideal) m ρ

theorem reference : Cert.quiescent_FxaRefIdeal (hFxaRefIdeal := Cert.FxaRefIdeal.Gen.facts) := fun m ρ _ =>
  (θ_run Cert.FxaRefIdeal.defs _ _).mono (fun r h => ⟨fun c => (h c).2.2, sem_eq_zero_of_no_sems (by decide) r.2⟩)
    (Cert.FxaRefIdeal.Value.run (F := Ideal) m ρ)

/-! ## The values -/

/-- The reference's first result is the gradient of the rows. -/
theorem ref0 (m' : (ℓ : Loc Cert.FxaRefIdeal.nD Cert.FxaRefIdeal.τ Cert.FxaRefIdeal.sig) → Buf (Elt Ideal) ℓ) (c : Dev Cert.FxaRefIdeal.nD) :
    Cert.FxaRefIdeal.Value.res_main_v52 m' c = DX (extractStridedSlice Cert.FxaRefIdeal.S2112x2048 ![0, 0] (m' ((c : Thread Cert.FxaRefIdeal.nD Cert.FxaRefIdeal.τ).loc Cert.FxaRefIdeal.main_arg4)) Cert.FxaRefIdeal.Gen.slices_S4224x2048_S2112x2048_0_0) (m' ((c : Thread Cert.FxaRefIdeal.nD Cert.FxaRefIdeal.τ).loc Cert.FxaRefIdeal.main_arg5)) (DN (extractStridedSlice Cert.FxaRefIdeal.S2112x5632 ![0, 0] (m' ((c : Thread Cert.FxaRefIdeal.nD Cert.FxaRefIdeal.τ).loc Cert.FxaRefIdeal.main_arg0)) Cert.FxaRefIdeal.Gen.slices_S4224x5632_S2112x5632_0_0) (m' ((c : Thread Cert.FxaRefIdeal.nD Cert.FxaRefIdeal.τ).loc Cert.FxaRefIdeal.main_arg1)) (extractStridedSlice Cert.FxaRefIdeal.S2112x5632 ![0, 0] (m' ((c : Thread Cert.FxaRefIdeal.nD Cert.FxaRefIdeal.τ).loc Cert.FxaRefIdeal.main_arg2)) Cert.FxaRefIdeal.Gen.slices_S4224x5632_S2112x5632_0_0) (m' ((c : Thread Cert.FxaRefIdeal.nD Cert.FxaRefIdeal.τ).loc Cert.FxaRefIdeal.main_arg3))) (extractStridedSlice Cert.FxaRefIdeal.S2112x2048 ![0, 0] (m' ((c : Thread Cert.FxaRefIdeal.nD Cert.FxaRefIdeal.τ).loc Cert.FxaRefIdeal.main_arg6)) Cert.FxaRefIdeal.Gen.slices_S4224x2048_S2112x2048_0_0) := rfl

/-- From equal arguments the kernel and the reference end with equal results. -/
theorem value : Cert.algebraic_FxaIdeal_FxaRefIdeal (hFxaIdeal := Cert.FxaIdeal.Gen.facts) (hFxaRefIdeal := Cert.FxaRefIdeal.Gen.facts) := by
  intro m g m' g' _ hargs
  refine ⟨_, _, Cert.FxaIdeal.Value.run_blocks m g, ?_⟩
  refine (θ_run Cert.FxaRefIdeal.defs _ _).mono (fun r h c => ⟨(h c).1.trans ?_, (h c).2.1.trans ?_, (h c).2.2⟩) (Cert.FxaRefIdeal.Value.run (F := Ideal) m' g')
  · refine (ref0 m' c).trans ?_
    try rw [(hargs c).1]
    try rw [(hargs c).2.1]
    try rw [(hargs c).2.2.1]
    try rw [(hargs c).2.2.2.1]
    try rw [(hargs c).2.2.2.2.1]
    try rw [(hargs c).2.2.2.2.2.1]
    try rw [(hargs c).2.2.2.2.2.2]
    exact (Cert.FxaIdeal.Value.final8 m c).symm
  · show DG (extractStridedSlice Cert.FxaRefIdeal.S2112x2048 ![0, 0] (m' ((c : Thread Cert.FxaRefIdeal.nD Cert.FxaRefIdeal.τ).loc Cert.FxaRefIdeal.main_arg4)) Cert.FxaRefIdeal.Gen.slices_S4224x2048_S2112x2048_0_0) (DN (extractStridedSlice Cert.FxaRefIdeal.S2112x5632 ![0, 0] (m' ((c : Thread Cert.FxaRefIdeal.nD Cert.FxaRefIdeal.τ).loc Cert.FxaRefIdeal.main_arg0)) Cert.FxaRefIdeal.Gen.slices_S4224x5632_S2112x5632_0_0) (m' ((c : Thread Cert.FxaRefIdeal.nD Cert.FxaRefIdeal.τ).loc Cert.FxaRefIdeal.main_arg1)) (extractStridedSlice Cert.FxaRefIdeal.S2112x5632 ![0, 0] (m' ((c : Thread Cert.FxaRefIdeal.nD Cert.FxaRefIdeal.τ).loc Cert.FxaRefIdeal.main_arg2)) Cert.FxaRefIdeal.Gen.slices_S4224x5632_S2112x5632_0_0) (m' ((c : Thread Cert.FxaRefIdeal.nD Cert.FxaRefIdeal.τ).loc Cert.FxaRefIdeal.main_arg3))) = _
    try rw [(hargs c).1]
    try rw [(hargs c).2.1]
    try rw [(hargs c).2.2.1]
    try rw [(hargs c).2.2.2.1]
    try rw [(hargs c).2.2.2.2.1]
    try rw [(hargs c).2.2.2.2.2.1]
    try rw [(hargs c).2.2.2.2.2.2]
    exact (Cert.FxaIdeal.Value.final9 m c).symm

end Cert.Proof.Fxa

end
-- ==== Proof.FxbRun.lean ====
/-
  One run of the body of `ffn1_dx_b`. Whatever its blocks hold, the body leaves its inputs as they were, and in its two
  output blocks and its accumulator what `newDx`, `newDg` and `newAcc` name: the accumulator, zeroed first at the first
  tile of the contraction, plus the products of the two pairs of blocks; at the last tile the gradient of the norm, and the
  row's part of the gradient of the gain added to the running sum.
-/
module

public import proofs.«01_k».proof.Proof.Gen.FxbIdeal.Frame
public import proofs.«01_k».proof.Proof.Gen.FxbIdeal.Skeleton
public import Idealize.ShloMosaic.Lib.WritesUnit
public import Idealize.ShloMosaic.Lib.Pipeline.FrameBody
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.FxbIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FxbIdeal.Gen

variable {F : FTy → Type} [FloatOps F]

local notation "𝕄" => MT nD τ sig Unit (Elt F) ℕ (UR sig nD τ) ℕ

/-- The accumulator after a point's two products, from what it holds when they begin. -/
def mulAcc (x0 : Vec F S528x512 .bf16) (x1 : Vec F S512x2048 .bf16) (x2 : Vec F S528x512 .bf16) (x3 : Vec F S512x2048 .bf16)
    (a : Vec F S1x528x2048 .f32) : Vec F S1x528x2048 .f32 :=
  k0_pay1 (k0_pay9 (k0_pay8 a x0 x1) x2 x3)

/-- There is one row of blocks in a group, so that every access to the accumulator is at its start. -/
theorem off1 (i : grid0.Coords) : k0_off1 i = ![0, 0, 0] := by
  rw [k0_off1_eq, show (i 2).val = 0 from Nat.lt_one_iff.mp (i 2).isLt]
theorem off2 (i : grid0.Coords) : k0_off2 i = ![0, 0, 0] := by
  rw [k0_off2_eq, show (i 2).val = 0 from Nat.lt_one_iff.mp (i 2).isLt]
theorem off3 (i : grid0.Coords) : k0_off3 i = ![0, 0, 0] := by
  rw [k0_off3_eq, show (i 2).val = 0 from Nat.lt_one_iff.mp (i 2).isLt]

/-- A store over a whole buffer is what is read back, whatever was stored before. -/
theorem read_whole {sp : Space} {s : Shape} {e : EltTy} (v : View sig .tc sp s e) (f : v.ty.Contents (Elt F))
    {off : Fin s.rank → ℕ} (inb : ∀ a, off a + s.size a ≤ s.size a) (w : s.Idx → Elt F e)
    (L : List (View.Piece (Elt F) s e)) (h : ∀ j, off j = 0) :
    v.read (Elt F) (v.writes (Elt F) f ((⟨Rect.unit off (no_index s.size) inb, w⟩ : View.Piece (Elt F) s e) :: L)) = w := by
  funext y
  exact View.read_writes_cons_unit_of_mem v f inb w L y y (funext h) fun a => (Nat.zero_add _).symm

variable (i : grid0.Coords)
  (arg3 : Memref sig .tc .vmem S528x512 .bf16) (harg3 : arg3.IsWhole)
  (arg4 : Memref sig .tc .vmem S512x2048 .bf16) (harg4 : arg4.IsWhole)
  (arg5 : Memref sig .tc .vmem S528x512 .bf16) (harg5 : arg5.IsWhole)
  (arg6 : Memref sig .tc .vmem S512x2048 .bf16) (harg6 : arg6.IsWhole)
  (arg7 : Memref sig .tc .vmem S528x2048 .f32) (harg7 : arg7.IsWhole)
  (arg8 : Memref sig .tc .vmem S1x2048 .f32) (harg8 : arg8.IsWhole)
  (arg9 : Memref sig .tc .vmem S528x2048 .f32) (harg9 : arg9.IsWhole)
  (arg10 : Memref sig .tc .vmem S1x2048 .f32) (harg10 : arg10.IsWhole)
  (arg11 : Memref sig .tc .vmem S528x2048 .f32) (harg11 : arg11.IsWhole)
  (arg12 : Memref sig .tc .vmem S1x2048 .f32) (harg12 : arg12.IsWhole)
  (arg13 : Memref sig .tc .vmem S1x528x2048 .f32) (harg13 : arg13.IsWhole)
  (x0 : Vec F S528x512 .bf16) (x1 : Vec F S512x2048 .bf16) (x2 : Vec F S528x512 .bf16) (x3 : Vec F S512x2048 .bf16) (x4 : Vec F S528x2048 .f32) (x5 : Vec F S1x2048 .f32) (x6 : Vec F S528x2048 .f32) (x7 : Vec F S1x2048 .f32)
  (o8 : Vec F S528x2048 .f32) (o9 : Vec F S1x2048 .f32) (a : Vec F S1x528x2048 .f32)

/-- What the body leaves in the accumulator: -/
def newAcc : Vec F S1x528x2048 .f32 :=
  mulAcc x0 x1 x2 x3 (if k0_cond2 i = 1#1 then k0_pay7 else a)

/-- in the block of the gradient of the norm's argument: -/
def newDx : Vec F S528x2048 .f32 :=
  if k0_cond3 i = 1#1 then k0_pay5 x4 x5 (newAcc i x0 x1 x2 x3 a) x6 else o8

/-- and in the block of the gradient of the gain. -/
def newDg : Vec F S1x2048 .f32 :=
  if k0_cond3 i = 1#1 then
    k0_pay6 x4 (newAcc i x0 x1 x2 x3 a) (if k0_cond1 i = 1#1 then x7 else o9)
  else if k0_cond1 i = 1#1 then x7 else o9

set_option maxHeartbeats 1000000 in
/-- The body run on whole buffers, each of its three conditions holding or not. -/
theorem run (c : Dev nD) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
        ∗ owns (c : Thread nD τ) arg11 fullShare o8 ∗ owns (c : Thread nD τ) arg12 fullShare o9 ∗ owns (c : Thread nD τ) arg13 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
            ∗ owns (c : Thread nD τ) arg11 fullShare (newDx i x0 x1 x2 x3 x4 x5 x6 o8 a) ∗ owns (c : Thread nD τ) arg12 fullShare (newDg i x0 x1 x2 x3 x4 x7 o9 a)
            ∗ owns (c : Thread nD τ) arg13 fullShare (newAcc i x0 x1 x2 x3 a)) -∗ K ⟨⟩))
      ⊢ wp frame (wpE (defs₀ (F := F)) Variants.none c none) E (cc0_ffn1_dx_b i arg3 harg3 arg4 harg4 arg5 harg5 arg6 harg6 arg7 harg7 arg8 harg8 arg9 harg9 arg10 harg10 arg11 harg11 arg12 harg12 arg13 harg13) K := by
  simp only [cc0_ffn1_dx_b_eq_skeleton]; unfold cc0_ffn1_dx_b_skel
  simp only [k0_part1_eq_skeleton, off1, off2, off3]
  unfold newDx newDg newAcc mulAcc
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
  by_cases h1 : k0_cond1 i = 1#1 <;> by_cases h2 : k0_cond2 i = 1#1 <;> by_cases h3 : k0_cond3 i = 1#1 <;>
    simp only [h1, h2, h3, if_true, if_false]
  all_goals
    sl_exec (disch := first | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; · iexact H8
      ipureintro
      first
        | with_reducible exact hf8
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    isplitl [H9]
    · iexists _; isplitr; swap; · iexact H9
      ipureintro
      first
        | with_reducible exact hf9
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    iexists _; isplitr; swap; · iexact H10
    ipureintro
    frame_open
    simp (disch := first | (intro j; simp only [off1, off2, off3]; revert j; decide) | decide) only [read_whole,
      View.ld_unit_lit', View.readCov_unit_lit', View.readCov_cons_unit_lit', View.readAt_eq_ld,
      Memref.IsWhole.read_unread]

end Cert.FxbIdeal.Run

end
-- ==== Proof.FxbFrame.lean ====
/-
  The frame of `ffn1_dx_b`: the blocks after each of its 44 points by recursion over the points (`st`), the body's
  obligation from the run of Proof/FxbRun.lean, and the launch.
-/
module

public import proofs.«01_k».proof.Proof.FxbRun

@[expose] public section

set_option maxRecDepth 16384

noncomputable section

namespace Cert.FxbIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.FxbIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points meet the body's conditions, and where the outputs' blocks are written -/

theorem first_iff : ∀ t : Fin cfg0.N, k0_cond1 (grid0.coords t) = 1#1 ↔ t.val = 0 := by decide +kernel
theorem start_iff : ∀ t : Fin cfg0.N, k0_cond2 (grid0.coords t) = 1#1 ↔ t.val % 11 = 0 := by decide +kernel
theorem last_iff : ∀ t : Fin cfg0.N, k0_cond3 (grid0.coords t) = 1#1 ↔ t.val % 11 = 10 := by decide +kernel

theorem idle8 : ∀ t : Fin cfg0.N, ¬k0_cond3 (grid0.coords t) = 1#1 →
    cfg0.idle 8 (grid0.coords t) = true ∧ (cfg0.win 8).flush t = false := by decide +kernel
theorem live8 : ∀ t : Fin cfg0.N, k0_cond3 (grid0.coords t) = 1#1 → cfg0.idle 8 (grid0.coords t) = false := by decide +kernel
theorem idle9 : ∀ t : Fin cfg0.N, ¬k0_cond1 (grid0.coords t) = 1#1 → ¬k0_cond3 (grid0.coords t) = 1#1 →
    cfg0.idle 9 (grid0.coords t) = true ∧ (cfg0.win 9).flush t = false := by decide +kernel
theorem live9 : ∀ t : Fin cfg0.N, k0_cond1 (grid0.coords t) = 1#1 ∨ k0_cond3 (grid0.coords t) = 1#1 →
    cfg0.idle 9 (grid0.coords t) = false := by decide +kernel

/-- The gain's block holds nothing of the body's before the first point, and after the last, where it is written back. -/
def unset : ℕ → Bool := fun n => n == 0 || n == 44
theorem unset_step : ∀ t : Fin cfg0.N,
    unset (t.val + 1) = ((cfg0.win 9).flush t || (cfg0.idle 9 (cfg0.grid.coords t) && unset t.val)) := by decide +kernel
theorem fresh9 (t : Fin cfg0.N) (h : t.val ≠ 0) : cfg0.fresh 9 t.val = false := by
  rw [Pipeline.Cfg.fresh_tab cfg0 9 unset rfl unset_step t.val (Nat.le_of_lt t.isLt)]
  have ht : t.val < 44 := lt_of_lt_of_eq t.isLt N_0
  simp only [unset, Bool.or_eq_false_iff, beq_eq_false_iff_ne]
  omega

/-! ## The blocks after each point -/

/-- One point: from the two outputs' blocks and the accumulator before it, those after it. -/
def step (c : Dev nD) (t : Fin cfg0.N) (p : Vec F S528x2048 .f32 × Vec F S1x2048 .f32 × Vec F S1x528x2048 .f32) :
    Vec F S528x2048 .f32 × Vec F S1x2048 .f32 × Vec F S1x528x2048 .f32 :=
  (newDx (grid0.coords t) (iblk m c 0 t) (iblk m c 1 t) (iblk m c 2 t) (iblk m c 3 t) (iblk m c 4 t) (iblk m c 5 t) (iblk m c 6 t) p.1 p.2.2,
    newDg (grid0.coords t) (iblk m c 0 t) (iblk m c 1 t) (iblk m c 2 t) (iblk m c 3 t) (iblk m c 4 t) (iblk m c 7 t) p.2.1 p.2.2,
    newAcc (grid0.coords t) (iblk m c 0 t) (iblk m c 1 t) (iblk m c 2 t) (iblk m c 3 t) p.2.2)

/-- The blocks and the accumulator after point `n`; what the first point starts from does not matter. -/
def st (c : Dev nD) : (n : ℕ) → n < cfg0.N → Vec F S528x2048 .f32 × Vec F S1x2048 .f32 × Vec F S1x528x2048 .f32
  | 0, h => step m c ⟨0, h⟩ (iblk m c 4 ⟨0, h⟩, iblk m c 5 ⟨0, h⟩, k0_pay7)
  | n + 1, h => step m c ⟨n + 1, h⟩ (st c n (Nat.lt_of_succ_lt h))

theorem st_pos (c : Dev nD) (t : Fin cfg0.N) (h : t.val ≠ 0) :
    st m c t.val t.isLt = step m c t (st m c (t.val - 1) (by omega)) := by
  obtain ⟨n, hn⟩ := t
  cases n with
  | zero => exact absurd rfl h
  | succ n => rfl

/-- The accumulator after a point: at the first point of a row of blocks it does not matter what it held before. -/
theorem st_acc (c : Dev nD) (t : Fin cfg0.N) (a : Vec F S1x528x2048 .f32)
    (ha : (h : t.val ≠ 0) → a = (st m c (t.val - 1) (by omega)).2.2) :
    newAcc (grid0.coords t) (iblk m c 0 t) (iblk m c 1 t) (iblk m c 2 t) (iblk m c 3 t) a = (st m c t.val t.isLt).2.2 := by
  by_cases h : t.val = 0
  · obtain ⟨n, hn⟩ := t
    cases n with
    | zero =>
      have h2 : k0_cond2 (grid0.coords ⟨0, hn⟩) = 1#1 := (start_iff ⟨0, hn⟩).mpr (Nat.zero_mod _)
      show newAcc _ _ _ _ _ a = newAcc _ _ _ _ _ _
      unfold newAcc
      rw [if_pos h2, if_pos h2]
    | succ n => exact absurd h (Nat.succ_ne_zero n)
  · rw [ha h, st_pos m c t h]
    rfl

/-- The gradient's block after the last point of a row of blocks. -/
theorem st_dx (c : Dev nD) (t : Fin cfg0.N) (h3 : k0_cond3 (grid0.coords t) = 1#1) :
    (st m c t.val t.isLt).1
      = k0_pay5 (iblk m c 4 t) (iblk m c 5 t) (st m c t.val t.isLt).2.2 (iblk m c 6 t) := by
  have h : t.val ≠ 0 := by have := (last_iff t).mp h3; omega
  rw [st_pos m c t h]
  show newDx _ _ _ _ _ _ _ _ _ _ = _
  unfold newDx
  rw [if_pos h3]
  rfl

/-- The gain's block after the first point, -/
theorem st_dg_first (c : Dev nD) (t : Fin cfg0.N) (h1 : k0_cond1 (grid0.coords t) = 1#1) :
    (st m c t.val t.isLt).2.1 = iblk m c 7 t := by
  have h : t.val = 0 := (first_iff t).mp h1
  have h3 : ¬k0_cond3 (grid0.coords t) = 1#1 := fun e => by have := (last_iff t).mp e; omega
  obtain ⟨n, hn⟩ := t
  cases n with
  | zero =>
    show newDg _ _ _ _ _ _ _ _ _ = _
    unfold newDg
    rw [if_neg h3, if_pos h1]
  | succ n => exact absurd h (Nat.succ_ne_zero n)

/-- after the last point of a row of blocks, -/
theorem st_dg_last (c : Dev nD) (t : Fin cfg0.N) (h3 : k0_cond3 (grid0.coords t) = 1#1) :
    (st m c t.val t.isLt).2.1
      = k0_pay6 (iblk m c 4 t) (st m c t.val t.isLt).2.2 (st m c (t.val - 1) (by omega)).2.1 := by
  have h : t.val ≠ 0 := by have := (last_iff t).mp h3; omega
  have h1 : ¬k0_cond1 (grid0.coords t) = 1#1 := fun e => h ((first_iff t).mp e)
  rw [st_pos m c t h]
  show newDg _ _ _ _ _ _ _ _ _ = _
  unfold newDg
  rw [if_pos h3, if_neg h1]
  rfl

/-- and after any other. -/
theorem st_dg_keep (c : Dev nD) (t : Fin cfg0.N) (h1 : ¬k0_cond1 (grid0.coords t) = 1#1) (h3 : ¬k0_cond3 (grid0.coords t) = 1#1) :
    (st m c t.val t.isLt).2.1 = (st m c (t.val - 1) (by omega)).2.1 := by
  have h : t.val ≠ 0 := fun e => h1 ((first_iff t).mpr e)
  rw [st_pos m c t h]
  show newDg _ _ _ _ _ _ _ _ _ = _
  unfold newDg
  rw [if_neg h3, if_neg h1]

/-! ## The pipeline's data -/

/-- The accumulator as a memref of its own. -/
abbrev acc : Memref sig .tc .vmem S1x528x2048 .f32 := Memref.whole cc0_scratch0

/-- Before the first point the accumulator holds anything, afterwards what the point before left. -/
def inv (c : Dev nD) : (n : ℕ) → n ≤ cfg0.N → sProp 𝕄
  | 0, _ => Pipeline.ΦA spec0 c
  | n + 1, h => iprop(owns (c : Thread nD τ) acc fullShare ((st m c n h).2.2) ∗ (∃ r, prngReg c r))

theorem free_eq (c : Dev nD) : (Pipeline.ΦA spec0 c : sProp 𝕄)
    = iprop((∃ d, owns (c : Thread nD τ) acc fullShare d) ∗ (∃ r, prngReg c r)) := by
  unfold Pipeline.ΦA; rw [scopedRest0_eq]; simp only [acc, owns_whole]; try rfl

/-- The pipeline's data: the arrays as launched, each input's buffer at its block, the outputs' at `st`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (st m c t.val t.isLt).1
    | ⟨9, _⟩ => (st m c t.val t.isLt).2.1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (st m c t.val t.isLt).1 := by dsimp only [dats]
theorem after0_9 (c : Dev nD) (t : Fin cfg0.N) : (dats m 0 c).after 9 t = (st m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- A point other than the first finds in the gain's block what the point before left. -/
theorem before9 (c : Dev nD) (t : Fin cfg0.N) (h : t.val ≠ 0) (d) :
    (dats m 0 c).before 9 t d = (st m c (t.val - 1) (by omega)).2.1 := by
  have keep : ∀ (t : Fin cfg0.N) (_ : t.val ≠ 0), cfg0.idle 9 (grid0.coords t) = true → cfg0.fresh 9 t.val = false →
      (dats m 0 c).after 9 t = (dats m 0 c).after 9 ⟨t.val - 1, by omega⟩ := by
    intro t _ hi _
    have h1 : ¬k0_cond1 (grid0.coords t) = 1#1 := fun e =>
      Bool.false_ne_true ((live9 t (.inl e)).symm.trans hi)
    have h3 : ¬k0_cond3 (grid0.coords t) = 1#1 := fun e =>
      Bool.false_ne_true ((live9 t (.inr e)).symm.trans hi)
    rw [after0_9, after0_9, st_dg_keep m c t h1 h3]
  rw [Dat.before_out_traj _ 9 rfl (fun _ _ => rfl) keep t.val t rfl d, if_neg (by rw [fresh9 t h]; exact Bool.false_ne_true)]
  dsimp only [dats]

/-! ## The body's obligation -/

/-- What the run leaves in the gradient's block is what the data say of it. -/
theorem leave8 (c : Dev nD) (t : Fin cfg0.N) (a : Vec F S1x528x2048 .f32) (ha : newAcc (grid0.coords t) (iblk m c 0 t) (iblk m c 1 t) (iblk m c 2 t) (iblk m c 3 t) a = (st m c t.val t.isLt).2.2) (d) :
    owns (c : Thread nD τ) (win0_8.stage (cfg0.slots t 8)) fullShare (newDx (grid0.coords t) (iblk m c 0 t) (iblk m c 1 t) (iblk m c 2 t) (iblk m c 3 t) (iblk m c 4 t) (iblk m c 5 t) (iblk m c 6 t) ((dats m 0 c).before 8 t d) a)
      ⊢ (dats m 0 c).leavesExact 8 t := by
  by_cases h3 : k0_cond3 (grid0.coords t) = 1#1
  · rw [show (dats m 0 c).leavesExact 8 t = owns (c : Thread nD τ) (win0_8.stage (cfg0.slots t 8)) fullShare ((dats m 0 c).after 8 t) from by
      unfold Dat.leavesExact; rw [live8 t h3], after0_8, st_dx m c t h3, ← ha]
    unfold newDx
    rw [if_pos h3]
  · rw [Dat.leavesExact_idle (dats m 0 c) 8 t (idle8 t h3).1 (idle8 t h3).2]
    unfold newDx
    rw [if_neg h3]
    iintro H
    iexists d
    iexact H

/-- The same of the gain's block. -/
theorem leave9 (c : Dev nD) (t : Fin cfg0.N) (a : Vec F S1x528x2048 .f32) (ha : newAcc (grid0.coords t) (iblk m c 0 t) (iblk m c 1 t) (iblk m c 2 t) (iblk m c 3 t) a = (st m c t.val t.isLt).2.2) (d) :
    owns (c : Thread nD τ) (win0_9.stage (cfg0.slots t 9)) fullShare (newDg (grid0.coords t) (iblk m c 0 t) (iblk m c 1 t) (iblk m c 2 t) (iblk m c 3 t) (iblk m c 4 t) (iblk m c 7 t) ((dats m 0 c).before 9 t d) a)
      ⊢ (dats m 0 c).leavesExact 9 t := by
  by_cases h3 : k0_cond3 (grid0.coords t) = 1#1
  · have h : t.val ≠ 0 := by have := (last_iff t).mp h3; omega
    have h1 : ¬k0_cond1 (grid0.coords t) = 1#1 := fun e => h ((first_iff t).mp e)
    rw [show (dats m 0 c).leavesExact 9 t = owns (c : Thread nD τ) (win0_9.stage (cfg0.slots t 9)) fullShare ((dats m 0 c).after 9 t) from by
      unfold Dat.leavesExact; rw [live9 t (.inr h3)], after0_9, st_dg_last m c t h3, ← ha, before9 m c t h]
    unfold newDg
    rw [if_pos h3, if_neg h1]
  · by_cases h1 : k0_cond1 (grid0.coords t) = 1#1
    · rw [show (dats m 0 c).leavesExact 9 t = owns (c : Thread nD τ) (win0_9.stage (cfg0.slots t 9)) fullShare ((dats m 0 c).after 9 t) from by
        unfold Dat.leavesExact; rw [live9 t (.inl h1)], after0_9, st_dg_first m c t h1]
      unfold newDg
      rw [if_neg h3, if_pos h1]
    · rw [Dat.leavesExact_idle (dats m 0 c) 9 t (idle9 t h1 h3).1 (idle9 t h1 h3).2]
      unfold newDg
      rw [if_neg h3, if_neg h1]
      iintro H
      iexists d
      iexact H

/-- The invariant hands over the accumulator at contents from which the point's own follow. -/
theorem inv_open (c : Dev nD) (t : Fin cfg0.N) :
    inv m c t.val (Nat.le_of_lt t.isLt) ⊢ iprop(∃ a, ⌜newAcc (grid0.coords t) (iblk m c 0 t) (iblk m c 1 t) (iblk m c 2 t) (iblk m c 3 t) a = (st m c t.val t.isLt).2.2⌝
      ∗ owns (c : Thread nD τ) acc fullShare a ∗ (∃ r, prngReg c r)) := by
  obtain ⟨n, hn⟩ := t
  cases n with
  | zero =>
    rw [show inv m c (⟨0, hn⟩ : Fin cfg0.N).val (Nat.le_of_lt hn) = Pipeline.ΦA spec0 c from rfl, free_eq]
    iintro ⟨⟨%a, H⟩, Hg⟩
    iexists a
    isplitr
    · ipureintro; exact st_acc m c ⟨0, hn⟩ a fun h => absurd rfl h
    isplitl [H]; · iexact H
    iexact Hg
  | succ n =>
    rw [show inv m c (⟨n + 1, hn⟩ : Fin cfg0.N).val (Nat.le_of_lt hn)
      = iprop(owns (c : Thread nD τ) acc fullShare ((st m c n (Nat.lt_of_succ_lt hn)).2.2) ∗ (∃ r, prngReg c r)) from rfl]
    iintro ⟨H, Hg⟩
    iexists _
    isplitr
    · ipureintro; exact st_acc m c ⟨n + 1, hn⟩ _ fun _ => rfl
    isplitl [H]; · iexact H
    iexact Hg

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.castSucc = inv m c t.val (Nat.le_of_lt t.isLt) from rfl,
    show (dats m 0 c).Φ t.succ = iprop(owns (c : Thread nD τ) acc fullShare ((st m c t.val t.isLt).2.2) ∗ (∃ r, prngReg c r)) from rfl]
  rw [show (dats m 0 c).leavesExact 0 t = owns (c : Thread nD τ) (win0_0.stage (cfg0.slots t 0)) fullShare ((dats m 0 c).after 0 t) from by
    unfold Dat.leavesExact; rw [show cfg0.idle 0 (cfg0.grid.coords t) = false from rfl], after0_0]
  rw [show (dats m 0 c).leavesExact 1 t = owns (c : Thread nD τ) (win0_1.stage (cfg0.slots t 1)) fullShare ((dats m 0 c).after 1 t) from by
    unfold Dat.leavesExact; rw [show cfg0.idle 1 (cfg0.grid.coords t) = false from rfl], after0_1]
  rw [show (dats m 0 c).leavesExact 2 t = owns (c : Thread nD τ) (win0_2.stage (cfg0.slots t 2)) fullShare ((dats m 0 c).after 2 t) from by
    unfold Dat.leavesExact; rw [show cfg0.idle 2 (cfg0.grid.coords t) = false from rfl], after0_2]
  rw [show (dats m 0 c).leavesExact 3 t = owns (c : Thread nD τ) (win0_3.stage (cfg0.slots t 3)) fullShare ((dats m 0 c).after 3 t) from by
    unfold Dat.leavesExact; rw [show cfg0.idle 3 (cfg0.grid.coords t) = false from rfl], after0_3]
  rw [show (dats m 0 c).leavesExact 4 t = owns (c : Thread nD τ) (win0_4.stage (cfg0.slots t 4)) fullShare ((dats m 0 c).after 4 t) from by
    unfold Dat.leavesExact; rw [show cfg0.idle 4 (cfg0.grid.coords t) = false from rfl], after0_4]
  rw [show (dats m 0 c).leavesExact 5 t = owns (c : Thread nD τ) (win0_5.stage (cfg0.slots t 5)) fullShare ((dats m 0 c).after 5 t) from by
    unfold Dat.leavesExact; rw [show cfg0.idle 5 (cfg0.grid.coords t) = false from rfl], after0_5]
  rw [show (dats m 0 c).leavesExact 6 t = owns (c : Thread nD τ) (win0_6.stage (cfg0.slots t 6)) fullShare ((dats m 0 c).after 6 t) from by
    unfold Dat.leavesExact; rw [show cfg0.idle 6 (cfg0.grid.coords t) = false from rfl], after0_6]
  rw [show (dats m 0 c).leavesExact 7 t = owns (c : Thread nD τ) (win0_7.stage (cfg0.slots t 7)) fullShare ((dats m 0 c).after 7 t) from by
    unfold Dat.leavesExact; rw [show cfg0.idle 7 (cfg0.grid.coords t) = false from rfl], after0_7]
  refine (sep_mono_left (inv_open m c t)).trans ?_
  iintro ⟨⟨%a, %ha, HA, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)
    ((dats m 0 c).before 8 t d8) ((dats m 0 c).before 9 t d9) a c Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  rw [ha]
  iintro ⟨H0, H1, H2, H3, H4, H5, H6, H7, H8, H9, HA⟩
  isplitl [HA Hg]
  · isplitl [HA]; · iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leave8 m c t a ha d8); iexact H8
  iapply (leave9 m c t a ha d9); iexact H9

theorem row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N)
    = iprop(owns (c : Thread nD τ) acc fullShare ((st m c 43 (by rw [show cfg0.N = 44 from N_0]; omega)).2.2) ∗ (∃ r, prngReg c r)) from rfl, free_eq]
  iintro ⟨H, Hg⟩
  isplitl [H]
  · iexists _; iexact H
  iexact Hg

/-! ## The launch -/

set_option backward.isDefEq.respectTransparency.types false in
/-- Every execution ends, with the arrays at what the data say and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_quiet m ρ))

end Cert.FxbIdeal.Run

end
-- ==== Proof.FxbValue.lean ====
/-
  Hand-written, untrusted. THE VALUES OF `ffn1_dx_b`, block by block of 528 rows. The accumulator collects, over the eleven blocks of 512 columns, the two
  products that make the norm's gradient; at the last of them the body forms the rows' gradient (`Norm.lean`) and adds the block's part to the
  gradient of the norm's weight.
-/
module

public import proofs.«01_k».proof.Defs
public import proofs.«01_k».proof.Proof.FxbFrame
public import proofs.«01_k».proof.Proof.FxRef
public import proofs.«01_k».proof.Proof.DxValue
public import proofs.«01_k».proof.Proof.Gen.FxbRefIdeal.Run

@[expose] public section

set_option maxRecDepth 16384

noncomputable section

open Idealize.ShloMosaic Idealize.ShloMosaic.TcCoe Idealize.SL.Sem
open Idealize.ShloMosaic.Pipeline (Dat)

namespace Cert.FxbIdeal.Value

open Cert.FxbIdeal Cert.FxbIdeal.Gen Cert.FxbIdeal.Run
open Cert.FxaRefIdeal.Arrays (DN DX DG dn_at dx_at dg_at)

/-! ## What the body computes, at an index -/

theorem pay5_at (x : Vec Ideal S528x2048 .f32) (g) (p : Vec Ideal S1x528x2048 .f32) (up i) : k0_pay5 x g p up i
    = up i + Norm.kdx (fun k => x (ix2 (i 0) k)) (fun k => g (ix2 0 k)) (fun k => p (ix3 0 (i 0) k)) (i 1) := Cert.DxIdeal.Value.pay5_at x g p up i

theorem pay6_at (x : Vec Ideal S528x2048 .f32) (p : Vec Ideal S1x528x2048 .f32) (acc i) : k0_pay6 x p acc i
    = acc i + ∑ a : Fin 528, p (ix3 0 a (i 1)) * (x (ix2 a (i 1)) * Norm.rstd fun k => x (ix2 a k)) := Cert.DxIdeal.Value.pay6_at x p acc i

theorem pay7_at (i) : k0_pay7 (F := Ideal) i = 0 := Cert.DxIdeal.Value.pay8_at i

theorem mul_at (x0 : Vec Ideal S528x512 .bf16) (x1 : Vec Ideal S512x2048 .bf16) (x2 : Vec Ideal S528x512 .bf16) (x3 : Vec Ideal S512x2048 .bf16)
    (a : Vec Ideal S1x528x2048 .f32) (i) : mulAcc x0 x1 x2 x3 a i
      = a i + ((∑ k : Fin 512, x0 (ix2 (i 1) k) * x1 (ix2 k (i 2))) + ∑ k : Fin 512, x2 (ix2 (i 1) k) * x3 (ix2 k (i 2))) :=
  Cert.DxIdeal.Value.mul_at x0 x1 x2 x3 a i

variable (m : (ℓ : Loc nD τ sig) → Buf (Elt Ideal) ℓ)

/-! ## The accumulator -/

/-- The inputs' blocks at a point. -/
abbrev X0 (c : Dev nD) (t : Fin cfg0.N) : Vec Ideal S528x512 .bf16 := iblk m c 0 t
abbrev X1 (c : Dev nD) (t : Fin cfg0.N) : Vec Ideal S512x2048 .bf16 := iblk m c 1 t
abbrev X2 (c : Dev nD) (t : Fin cfg0.N) : Vec Ideal S528x512 .bf16 := iblk m c 2 t
abbrev X3 (c : Dev nD) (t : Fin cfg0.N) : Vec Ideal S512x2048 .bf16 := iblk m c 3 t
abbrev X4 (c : Dev nD) (t : Fin cfg0.N) : Vec Ideal S528x2048 .f32 := iblk m c 4 t
abbrev X5 (c : Dev nD) (t : Fin cfg0.N) : Vec Ideal S1x2048 .f32 := iblk m c 5 t
abbrev X6 (c : Dev nD) (t : Fin cfg0.N) : Vec Ideal S528x2048 .f32 := iblk m c 6 t
abbrev X7 (c : Dev nD) (t : Fin cfg0.N) : Vec Ideal S1x2048 .f32 := iblk m c 7 t

/-- What one point adds to the accumulator. -/
def term (c : Dev nD) (t : Fin cfg0.N) (i : S1x528x2048.Idx) : EReal :=
  (∑ k : Fin 512, X0 m c t (ix2 (i 1) k) * X1 m c t (ix2 k (i 2)))
    + ∑ k : Fin 512, X2 m c t (ix2 (i 1) k) * X3 m c t (ix2 k (i 2))

theorem acc_start (c : Dev nD) (t : Fin cfg0.N) (h : t.val % 11 = 0) (i) : (st m c t.val t.isLt).2.2 i = 0 + term m c t i := by
  have h2 := (start_iff t).mpr h
  have e : ∀ a, newAcc (grid0.coords t) (iblk m c 0 t) (iblk m c 1 t) (iblk m c 2 t) (iblk m c 3 t) a = mulAcc (iblk m c 0 t) (iblk m c 1 t) (iblk m c 2 t) (iblk m c 3 t) (k0_pay7 (F := Ideal)) := fun a => by
    unfold newAcc
    rw [if_pos h2]
  have s : (st m c t.val t.isLt).2.2 = mulAcc (iblk m c 0 t) (iblk m c 1 t) (iblk m c 2 t) (iblk m c 3 t) (k0_pay7 (F := Ideal)) := by
    by_cases h0 : t.val = 0
    · exact (st_acc m c t (k0_pay7 (F := Ideal)) fun h' => absurd h0 h').symm.trans (e _)
    · exact (st_acc m c t (st m c (t.val - 1) (by omega)).2.2 fun _ => rfl).symm.trans (e _)
  rw [s, mul_at, pay7_at]
  rfl

theorem acc_step (c : Dev nD) (t : Fin cfg0.N) (h : ¬t.val % 11 = 0) (i) :
    (st m c t.val t.isLt).2.2 i = (st m c (t.val - 1) (Nat.lt_of_le_of_lt (Nat.sub_le _ _) t.isLt)).2.2 i + term m c t i := by
  have h2 : ¬k0_cond2 (grid0.coords t) = 1#1 := fun e => h ((start_iff t).mp e)
  have e : ∀ a, newAcc (grid0.coords t) (iblk m c 0 t) (iblk m c 1 t) (iblk m c 2 t) (iblk m c 3 t) a = mulAcc (iblk m c 0 t) (iblk m c 1 t) (iblk m c 2 t) (iblk m c 3 t) a := fun a => by
    unfold newAcc
    rw [if_neg h2]
  rw [((st_acc m c t (st m c (t.val - 1) (by omega)).2.2 fun _ => rfl).symm.trans (e _)), mul_at]
  rfl

/-! ## Block against array -/

/-- Where the blocks sit. -/
theorem idx : ∀ t : Fin cfg0.N, win0_0.index t = ![t.val / 11 + 4, t.val % 11] ∧ win0_1.index t = ![t.val % 11, 0] ∧ win0_2.index t = ![t.val / 11 + 4, t.val % 11]
    ∧ win0_3.index t = ![t.val % 11, 0] ∧ win0_4.index t = ![t.val / 11 + 4, 0] ∧ win0_5.index t = ![0, 0] ∧ win0_6.index t = ![t.val / 11 + 4, 0]
    ∧ win0_7.index t = ![0, 0] ∧ win0_8.index t = ![t.val / 11, 0] ∧ win0_9.index t = ![0, 0] :=
  (by decide +kernel : ∀ t : Fin grid0.N, _)

variable (c : Dev nD)

abbrev A0 : FVec Ideal Cert.FxaRefIdeal.S2112x5632 .bf16 := extractStridedSlice Cert.FxaRefIdeal.S2112x5632 ![2112, 0] (m ((c : Thread nD τ).loc main_arg0)) Cert.FxbRefIdeal.Gen.slices_S4224x5632_S2112x5632_2112_0
abbrev A1 : FVec Ideal Cert.FxaRefIdeal.S5632x2048 .bf16 := m ((c : Thread nD τ).loc main_arg1)
abbrev A2 : FVec Ideal Cert.FxaRefIdeal.S2112x5632 .bf16 := extractStridedSlice Cert.FxaRefIdeal.S2112x5632 ![2112, 0] (m ((c : Thread nD τ).loc main_arg2)) Cert.FxbRefIdeal.Gen.slices_S4224x5632_S2112x5632_2112_0
abbrev A3 : FVec Ideal Cert.FxaRefIdeal.S5632x2048 .bf16 := m ((c : Thread nD τ).loc main_arg3)
abbrev A4 : FVec Ideal Cert.FxaRefIdeal.S2112x2048 .f32 := extractStridedSlice Cert.FxaRefIdeal.S2112x2048 ![2112, 0] (m ((c : Thread nD τ).loc main_arg4)) Cert.FxbRefIdeal.Gen.slices_S4224x2048_S2112x2048_2112_0
abbrev A5 : FVec Ideal Cert.FxaRefIdeal.S1x2048 .f32 := m ((c : Thread nD τ).loc main_arg5)
abbrev A6 : FVec Ideal Cert.FxaRefIdeal.S2112x2048 .f32 := extractStridedSlice Cert.FxaRefIdeal.S2112x2048 ![2112, 0] (m ((c : Thread nD τ).loc main_arg6)) Cert.FxbRefIdeal.Gen.slices_S4224x2048_S2112x2048_2112_0

theorem row0 (t : Fin cfg0.N) (a : Fin 528) (b : Fin 2112) (h : b.val = t.val / 11 * 528 + a.val) (k : Fin 512) (l : Fin 5632)
    (hl : l.val = t.val % 11 * 512 + k.val) : X0 m c t (ix2 a k) = A0 m c (ix2 b l) := by
  unfold X0 iblk
  show View.read _ ((cfg0.win 0).blk t).view (V m c main_arg0) _ = _
  rw [V_main_arg0]
  blk_ext [A0, idx t]
  · show (t.val / 11 + 4) * 528 + a.val = 2112 + b.val
    omega
  · exact hl.symm

theorem row2 (t : Fin cfg0.N) (a : Fin 528) (b : Fin 2112) (h : b.val = t.val / 11 * 528 + a.val) (k : Fin 512) (l : Fin 5632)
    (hl : l.val = t.val % 11 * 512 + k.val) : X2 m c t (ix2 a k) = A2 m c (ix2 b l) := by
  unfold X2 iblk
  show View.read _ ((cfg0.win 2).blk t).view (V m c main_arg2) _ = _
  rw [V_main_arg2]
  blk_ext [A2, idx t]
  · show (t.val / 11 + 4) * 528 + a.val = 2112 + b.val
    omega
  · exact hl.symm

theorem row1 (t : Fin cfg0.N) (k : Fin 512) (l : Fin 5632) (hl : l.val = t.val % 11 * 512 + k.val) (j j' : Fin 2048) (hj : j = j') :
    X1 m c t (ix2 k j) = A1 m c (ix2 l j') := by
  subst hj
  unfold X1 iblk
  show View.read _ ((cfg0.win 1).blk t).view (V m c main_arg1) _ = _
  rw [V_main_arg1]
  blk_ext [A1, idx t]

theorem row3 (t : Fin cfg0.N) (k : Fin 512) (l : Fin 5632) (hl : l.val = t.val % 11 * 512 + k.val) (j j' : Fin 2048) (hj : j = j') :
    X3 m c t (ix2 k j) = A3 m c (ix2 l j') := by
  subst hj
  unfold X3 iblk
  show View.read _ ((cfg0.win 3).blk t).view (V m c main_arg3) _ = _
  rw [V_main_arg3]
  blk_ext [A3, idx t]

theorem row4 (t : Fin cfg0.N) (a : Fin 528) (b : Fin 2112) (h : b.val = t.val / 11 * 528 + a.val) (k : Fin 2048) :
    X4 m c t (ix2 a k) = A4 m c (ix2 b k) := by
  unfold X4 iblk
  show View.read _ ((cfg0.win 4).blk t).view (V m c main_arg4) _ = _
  rw [V_main_arg4]
  blk_ext [A4, idx t]
  · show (t.val / 11 + 4) * 528 + a.val = 2112 + b.val
    omega
  · exact rfl

theorem row6 (t : Fin cfg0.N) (a : Fin 528) (b : Fin 2112) (h : b.val = t.val / 11 * 528 + a.val) (k : Fin 2048) :
    X6 m c t (ix2 a k) = A6 m c (ix2 b k) := by
  unfold X6 iblk
  show View.read _ ((cfg0.win 6).blk t).view (V m c main_arg6) _ = _
  rw [V_main_arg6]
  blk_ext [A6, idx t]
  · show (t.val / 11 + 4) * 528 + a.val = 2112 + b.val
    omega
  · exact rfl

theorem row5 (t : Fin cfg0.N) (k : Fin 2048) : X5 m c t (ix2 0 k) = A5 m c (ix2 0 k) := by
  unfold X5 iblk
  show View.read _ ((cfg0.win 5).blk t).view (V m c main_arg5) _ = _
  rw [V_main_arg5]
  blk_ext [A5, idx t]

/-- The gain's block starts from the last argument. -/
theorem row7 (t : Fin cfg0.N) (j : Fin 2048) : X7 m c t (ix2 0 j) = (m ((c : Thread nD τ).loc main_arg7) : Vec Ideal S1x2048 .f32) (ix2 0 j) := by
  unfold X7 iblk
  show View.read _ ((cfg0.win 7).blk t).view (V m c main_arg7) _ = _
  rw [V_main_arg7]
  blk_ext [idx t]

/-- At the last point of a row of blocks the accumulator holds the norm's gradient. -/
theorem acc_last (t : Fin cfg0.N) (h : t.val % 11 = 10) (a : Fin 528) (b : Fin 2112) (hb : b.val = t.val / 11 * 528 + a.val) (j j' : Fin 2048) (hj : j = j') :
    (st m c t.val t.isLt).2.2 (ix3 0 a j) = DN (A0 m c) (A1 m c) (A2 m c) (A3 m c) (ix2 b j') := by
  have ht : t.val < 44 := lt_of_lt_of_eq t.isLt N_0
  rw [Pipeline.eq_sum_fin_of_reset_step_apply_of_flush (fun n h => (st m c n h).2.2) 11 (fun _ => 0) (term m c)
    (acc_start m c) (acc_step m c) t h _, zero_add, dn_at]
  simp only [term]
  rw [Finset.sum_add_distrib]
  refine congrArg₂ (· + ·) (Fin.sum_mul_add_congr fun s k hl => ?_) (Fin.sum_mul_add_congr fun s k hl => ?_)
  · exact congrArg₂ (· * ·) (row0 m c ⟨11 * (t.val / 11) + s.val, _⟩ a b (by show _ = (11 * (t.val / 11) + s.val) / 11 * 528 + _; omega) k ⟨s * 512 + k, hl⟩ (by show s.val * 512 + k.val = (11 * (t.val / 11) + s.val) % 11 * 512 + k.val; omega))
      (row1 m c ⟨11 * (t.val / 11) + s.val, _⟩ k ⟨s * 512 + k, hl⟩ (by show s.val * 512 + k.val = (11 * (t.val / 11) + s.val) % 11 * 512 + k.val; omega) j j' hj)
  · exact congrArg₂ (· * ·) (row2 m c ⟨11 * (t.val / 11) + s.val, _⟩ a b (by show _ = (11 * (t.val / 11) + s.val) / 11 * 528 + _; omega) k ⟨s * 512 + k, hl⟩ (by show s.val * 512 + k.val = (11 * (t.val / 11) + s.val) % 11 * 512 + k.val; omega))
      (row3 m c ⟨11 * (t.val / 11) + s.val, _⟩ k ⟨s * 512 + k, hl⟩ (by show s.val * 512 + k.val = (11 * (t.val / 11) + s.val) % 11 * 512 + k.val; omega) j j' hj)

/-! ## The gradient of the norm's weight -/

theorem st_congr {n n' : ℕ} {h : n < cfg0.N} {h' : n' < cfg0.N} (e : n = n') : st m c n h = st m c n' h' := by
  subst e
  rfl

/-- Between the first and the last point of a row of blocks its block stays, -/
theorem keep (n s : ℕ) (hs : s ≤ 9) (h : 11 * n + s < cfg0.N) :
    (st m c (11 * n + s) h).2.1 = (st m c (11 * n) (by omega)).2.1 := by
  induction s with
  | zero => rfl
  | succ s ih =>
    refine (st_dg_keep m c ⟨11 * n + (s + 1), h⟩ (fun e => ?_) (fun e => ?_)).trans (ih (by omega) (by omega))
    · have e' : 11 * n + (s + 1) = 0 := (first_iff ⟨11 * n + (s + 1), h⟩).mp e
      omega
    · have e' : (11 * n + (s + 1)) % 11 = 10 := (last_iff ⟨11 * n + (s + 1), h⟩).mp e
      omega

/-- and at its last point the block's part is added. -/
theorem dg_last (n : ℕ) (h : 11 * n + 10 < cfg0.N) (i) : (st m c (11 * n + 10) h).2.1 i
    = (st m c (11 * n) (by omega)).2.1 i + ∑ a : Fin 528, (st m c (11 * n + 10) h).2.2 (ix3 0 a (i 1))
        * (X4 m c ⟨11 * n + 10, h⟩ (ix2 a (i 1)) * Norm.rstd fun k => X4 m c ⟨11 * n + 10, h⟩ (ix2 a k)) := by
  have e := st_dg_last m c ⟨11 * n + 10, h⟩ ((last_iff ⟨11 * n + 10, h⟩).mpr (by show (11 * n + 10) % 11 = 10; omega))
  have e' : (st m c (11 * n + 10 - 1) (by omega)).2.1 = (st m c (11 * n) (by omega)).2.1 := keep m c n 9 (by omega) (by omega)
  refine (congrFun e i).trans ?_
  rw [pay6_at]
  exact congrArg (· + _) (congrFun e' i)

/-- What a row of blocks adds. -/
def part (n : Fin 4) (i : S1x2048.Idx) : EReal :=
  ∑ a : Fin 528, (st m c (11 * n.val + 10) (by have := n.isLt; rw [show cfg0.N = 44 from N_0]; omega)).2.2 (ix3 0 a (i 1))
    * (X4 m c ⟨11 * n.val + 10, by have := n.isLt; rw [show cfg0.N = 44 from N_0]; omega⟩ (ix2 a (i 1))
      * Norm.rstd fun k => X4 m c ⟨11 * n.val + 10, by have := n.isLt; rw [show cfg0.N = 44 from N_0]; omega⟩ (ix2 a k))

theorem zero_lt : 0 < cfg0.N := by rw [show cfg0.N = 44 from N_0]; omega

theorem dg_total (i) : (st m c 43 (by rw [show cfg0.N = 44 from N_0]; omega)).2.1 i
    = X7 m c ⟨0, zero_lt⟩ i + ∑ n : Fin 4, part m c n i := by
  have hN : cfg0.N = 44 := N_0
  refine Pipeline.eq_sum_fin_of_reset_step_apply_last (N := 4) (fun n h => (st m c (11 * n + 10) (by rw [hN]; omega)).2.1) 4
    (fun i => X7 m c ⟨0, zero_lt⟩ i) (part m c) (fun t h i => ?_) (fun t h i => ?_) (le_refl _) ⟨3, by omega⟩ rfl i
  · obtain ⟨n, hn⟩ := t
    have h' : n = 0 := by have : n % 4 = 0 := h; omega
    subst h'
    refine (dg_last m c 0 (by rw [hN]; omega) i).trans (congrArg (· + _) ?_)
    refine (congrFun (st_dg_first m c ⟨0, zero_lt⟩ ((first_iff ⟨0, zero_lt⟩).mpr rfl)) i).trans ?_
    rfl
  · obtain ⟨n, hn⟩ := t
    have h' : n ≠ 0 := fun e => h (by subst e; rfl)
    refine (dg_last m c n (by rw [hN]; omega) i).trans (congrArg (· + _) ?_)
    have hl : 11 * n < cfg0.N := by rw [hN]; omega
    have e := st_dg_keep m c ⟨11 * n, hl⟩ (fun e => by have : 11 * n = 0 := (first_iff ⟨11 * n, hl⟩).mp e; omega)
      (fun e => by have : 11 * n % 11 = 10 := (last_iff ⟨11 * n, hl⟩).mp e; omega)
    refine (congrFun e i).trans ?_
    have q : 11 * n - 1 = 11 * (n - 1) + 10 := by omega
    exact congrFun (congrArg (fun p => p.2.1) (st_congr m c q)) i

/-! ## The results -/

theorem final8 : (dats m 0 c).arrAt 8 (cfgs 0).N = DX (A4 m c) (A5 m c) (DN (A0 m c) (A1 m c) (A2 m c) (A3 m c)) (A6 m c) := by
  refine (dats m 0 c).arrAt_eq_of_covers 8 _ (by decide +kernel) fun t hf y => ?_
  have hl : t.val % 11 = 10 := (flush0_8 t).mp hf
  have e0 : (((cfg0.win 8).blk t).view.emb y 0).val = t.val / 11 * 528 + (y 0).val := by blk_simp [idx t]
  have e1 : (((cfg0.win 8).blk t).view.emb y 1).val = (y 1).val := by blk_simp [idx t]
  blk_simp
  rw [after0_8, st_dx m c t ((last_iff t).mpr hl)]
  refine (pay5_at _ _ _ _ _).trans (Eq.trans ?_ (dx_at _ _ _ _ _).symm)
  refine congrArg₂ (· + ·) ?_ ?_
  · have := row6 m c t (y 0) (((cfg0.win 8).blk t).view.emb y 0) e0 (y 1)
    rw [show y = ix2 (y 0) (y 1) from by blk_ext]
    refine this.trans (congrArg _ ?_)
    blk_ext [idx t]
  · refine Eq.trans ?_ (Norm.kdx_eq_vdx _ _ _ _)
    exact Norm.kdx_congr (row4 m c t (y 0) (((cfg0.win 8).blk t).view.emb y 0) e0) (row5 m c t)
      (fun k => acc_last m c t hl (y 0) (((cfg0.win 8).blk t).view.emb y 0) e0 k k rfl) (Fin.ext e1.symm)

theorem final9 : (dats m 0 c).arrAt 9 (cfgs 0).N = addf (m ((c : Thread nD τ).loc main_arg7)) (DG (A4 m c) (DN (A0 m c) (A1 m c) (A2 m c) (A3 m c))) := by
  refine (dats m 0 c).arrAt_eq_of_covers 9 _ (by decide +kernel) fun t hf y => ?_
  have hN : cfg0.N = 44 := N_0
  have ht : t.val = 43 := by have := (flush0_9 t).mp hf; have := t.isLt; omega
  have e1 : (((cfg0.win 9).blk t).view.emb y 1).val = (y 1).val := by blk_simp [idx t]
  have ey : ix2 0 (y 1) = ((cfg0.win 9).blk t).view.emb y := by blk_ext [idx t]
  blk_simp
  rw [after0_9]
  obtain ⟨n, hn⟩ := t
  have ht' : n = 43 := ht
  subst ht'
  refine (dg_total m c y).trans ?_
  have e7 := (congrArg (X7 m c ⟨0, zero_lt⟩) (show y = ix2 0 (y 1) from by blk_ext)).trans (row7 m c ⟨0, zero_lt⟩ (y 1))
  refine (congrArg (· + _) e7).trans ?_
  show _ = @HAdd.hAdd EReal EReal EReal _ ((m ((c : Thread nD τ).loc main_arg7) : Vec Ideal S1x2048 .f32) (((cfg0.win 9).blk ⟨43, hn⟩).view.emb y))
    (DG (A4 m c) (DN (A0 m c) (A1 m c) (A2 m c) (A3 m c)) (((cfg0.win 9).blk ⟨43, hn⟩).view.emb y))
  refine congrArg₂ (· + ·) (congrArg _ ?_) (Eq.trans ?_ (dg_at _ _ _).symm)
  · exact ey
  refine Fin.sum_mul_add_congr (n := 528) fun s a hl => ?_
  have hs : 11 * s.val + 10 < cfg0.N := by have := s.isLt; omega
  exact Norm.dg_congr (row4 m c ⟨11 * s.val + 10, hs⟩ a ⟨s * 528 + a, hl⟩ (by show s.val * 528 + a.val = (11 * s.val + 10) / 11 * 528 + a.val; omega))
    (fun k => acc_last m c ⟨11 * s.val + 10, hs⟩ (by show (11 * s.val + 10) % 11 = 10; omega) a ⟨s * 528 + a, hl⟩ (by show s.val * 528 + a.val = (11 * s.val + 10) / 11 * 528 + a.val; omega) k k rfl)
    (Fin.ext e1.symm)

/-! ## The run, and the reference's results -/

/-- The kernel's run, its two results named. -/
theorem run_blocks (ρ : Dev nD → PrngReg) : θ_run defs (onTc (τ := τ) (main (F := Ideal))) ⟨m, fun _ => 0, ρ⟩ fun r => ∀ c : Dev nD,
    r.2.mem ((c.tc : Thread nD τ).loc main_v0_0) = (dats m 0 c).arrAt 8 cfg0.N
      ∧ r.2.mem ((c.tc : Thread nD τ).loc main_v0_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1 8, (h c).1 9,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c)))⟩) (run_main m ρ)

end Cert.FxbIdeal.Value

end
-- ==== Proof.FxbClaims.lean ====
/-
  Hand-written, untrusted. The claims about `Fxb`, proved: the frames from `Proof/FxbFrame.lean`, and the value claim from `Proof/FxbValue.lean`.
-/
module

public import proofs.«01_k».proof.Defs
public import proofs.«01_k».proof.Proof.Gen.Fxb
public import proofs.«01_k».proof.Proof.Gen.FxbRefIdeal.Run
public import proofs.«01_k».proof.Proof.FxRef
public import proofs.«01_k».proof.Proof.FxbValue

@[expose] public section

set_option maxRecDepth 16384

noncomputable section

namespace Cert.Proof.Fxb

open Idealize.ShloMosaic Idealize.ShloMosaic.TcCoe Idealize.SL.Sem
open Cert.FxaRefIdeal.Arrays (DN DX DG)

/-! ## The frames

The printed kernel and its idealisation have the same text, so the frame proved for every interpretation of the floats serves both. -/

theorem defs₀_eq : Cert.Fxb.defs₀ (F := Bits) = Cert.FxbIdeal.defs₀ (F := Bits) := by
  refine congrArg Defs.onTc ?_
  funext l x
  match l, x with
  | 0, (t, s) => rfl
  | ⟨n + 1, h⟩, _ => exact absurd h (Nat.not_lt.2 (Nat.le_add_left _ _))

theorem defs_eq : Cert.Fxb.defs (F := Bits) = Cert.FxbIdeal.defs (F := Bits) := congrArg (Pipeline.defs Cert.FxbIdeal.pcfgs) defs₀_eq

theorem kernel : Cert.quiescent_Fxb (hFxb := Cert.Fxb.Gen.facts) := fun m ρ _ => by
  have e := Cert.FxbIdeal.Run.frame (F := Bits) m ρ
  rw [← defs_eq] at e
  exact e

theorem ideal : Cert.quiescent_FxbIdeal (hFxbIdeal := Cert.FxbIdeal.Gen.facts) := fun m ρ _ => Cert.FxbIdeal.Run.frame (F := Ideal) m ρ

theorem reference : Cert.quiescent_FxbRefIdeal (hFxbRefIdeal := Cert.FxbRefIdeal.Gen.facts) := fun m ρ _ =>
  (θ_run Cert.FxbRefIdeal.defs _ _).mono (fun r h => ⟨fun c => (h c).2.2, sem_eq_zero_of_no_sems (by decide) r.2⟩)
    (Cert.FxbRefIdeal.Value.run (F := Ideal) m ρ)

/-! ## The values -/

/-- The reference's first result is the gradient of the rows. -/
theorem ref0 (m' : (ℓ : Loc Cert.FxbRefIdeal.nD Cert.FxbRefIdeal.τ Cert.FxbRefIdeal.sig) → Buf (Elt Ideal) ℓ) (c : Dev Cert.FxbRefIdeal.nD) :
    Cert.FxbRefIdeal.Value.res_main_v52 m' c = DX (extractStridedSlice Cert.FxaRefIdeal.S2112x2048 ![2112, 0] (m' ((c : Thread Cert.FxbRefIdeal.nD Cert.FxbRefIdeal.τ).loc Cert.FxbRefIdeal.main_arg4)) Cert.FxbRefIdeal.Gen.slices_S4224x2048_S2112x2048_2112_0) (m' ((c : Thread Cert.FxbRefIdeal.nD Cert.FxbRefIdeal.τ).loc Cert.FxbRefIdeal.main_arg5)) (DN (extractStridedSlice Cert.FxaRefIdeal.S2112x5632 ![2112, 0] (m' ((c : Thread Cert.FxbRefIdeal.nD Cert.FxbRefIdeal.τ).loc Cert.FxbRefIdeal.main_arg0)) Cert.FxbRefIdeal.Gen.slices_S4224x5632_S2112x5632_2112_0) (m' ((c : Thread Cert.FxbRefIdeal.nD Cert.FxbRefIdeal.τ).loc Cert.FxbRefIdeal.main_arg1)) (extractStridedSlice Cert.FxaRefIdeal.S2112x5632 ![2112, 0] (m' ((c : Thread Cert.FxbRefIdeal.nD Cert.FxbRefIdeal.τ).loc Cert.FxbRefIdeal.main_arg2)) Cert.FxbRefIdeal.Gen.slices_S4224x5632_S2112x5632_2112_0) (m' ((c : Thread Cert.FxbRefIdeal.nD Cert.FxbRefIdeal.τ).loc Cert.FxbRefIdeal.main_arg3))) (extractStridedSlice Cert.FxaRefIdeal.S2112x2048 ![2112, 0] (m' ((c : Thread Cert.FxbRefIdeal.nD Cert.FxbRefIdeal.τ).loc Cert.FxbRefIdeal.main_arg6)) Cert.FxbRefIdeal.Gen.slices_S4224x2048_S2112x2048_2112_0) := rfl

/-- From equal arguments the kernel and the reference end with equal results. -/
theorem value : Cert.algebraic_FxbIdeal_FxbRefIdeal (hFxbIdeal := Cert.FxbIdeal.Gen.facts) (hFxbRefIdeal := Cert.FxbRefIdeal.Gen.facts) := by
  intro m g m' g' _ hargs
  refine ⟨_, _, Cert.FxbIdeal.Value.run_blocks m g, ?_⟩
  refine (θ_run Cert.FxbRefIdeal.defs _ _).mono (fun r h c => ⟨(h c).1.trans ?_, (h c).2.1.trans ?_, (h c).2.2⟩) (Cert.FxbRefIdeal.Value.run (F := Ideal) m' g')
  · refine (ref0 m' c).trans ?_
    try rw [(hargs c).1]
    try rw [(hargs c).2.1]
    try rw [(hargs c).2.2.1]
    try rw [(hargs c).2.2.2.1]
    try rw [(hargs c).2.2.2.2.1]
    try rw [(hargs c).2.2.2.2.2.1]
    try rw [(hargs c).2.2.2.2.2.2.1]
    try rw [(hargs c).2.2.2.2.2.2.2]
    exact (Cert.FxbIdeal.Value.final8 m c).symm
  · show addf (m' ((c : Thread Cert.FxbRefIdeal.nD Cert.FxbRefIdeal.τ).loc Cert.FxbRefIdeal.main_arg7)) (DG (extractStridedSlice Cert.FxaRefIdeal.S2112x2048 ![2112, 0] (m' ((c : Thread Cert.FxbRefIdeal.nD Cert.FxbRefIdeal.τ).loc Cert.FxbRefIdeal.main_arg4)) Cert.FxbRefIdeal.Gen.slices_S4224x2048_S2112x2048_2112_0) (DN (extractStridedSlice Cert.FxaRefIdeal.S2112x5632 ![2112, 0] (m' ((c : Thread Cert.FxbRefIdeal.nD Cert.FxbRefIdeal.τ).loc Cert.FxbRefIdeal.main_arg0)) Cert.FxbRefIdeal.Gen.slices_S4224x5632_S2112x5632_2112_0) (m' ((c : Thread Cert.FxbRefIdeal.nD Cert.FxbRefIdeal.τ).loc Cert.FxbRefIdeal.main_arg1)) (extractStridedSlice Cert.FxaRefIdeal.S2112x5632 ![2112, 0] (m' ((c : Thread Cert.FxbRefIdeal.nD Cert.FxbRefIdeal.τ).loc Cert.FxbRefIdeal.main_arg2)) Cert.FxbRefIdeal.Gen.slices_S4224x5632_S2112x5632_2112_0) (m' ((c : Thread Cert.FxbRefIdeal.nD Cert.FxbRefIdeal.τ).loc Cert.FxbRefIdeal.main_arg3)))) = _
    try rw [(hargs c).1]
    try rw [(hargs c).2.1]
    try rw [(hargs c).2.2.1]
    try rw [(hargs c).2.2.2.1]
    try rw [(hargs c).2.2.2.2.1]
    try rw [(hargs c).2.2.2.2.2.1]
    try rw [(hargs c).2.2.2.2.2.2.1]
    try rw [(hargs c).2.2.2.2.2.2.2]
    exact (Cert.FxbIdeal.Value.final9 m c).symm

end Cert.Proof.Fxb

end
-- ==== Proof.MdxRef.lean ====
/-
  Hand-written, untrusted. The reference's arrays for mix_dx: the gradient of `h ↦ (h, norm h · w_in)` for 4224 rows, and the gradient of the
  feed-forward's `0.5 * norm f` that made those rows, with the terms they are made of, and what each is at an index.
-/
module

public import proofs.«01_k».proof.Proof.Gen.MdxRefIdeal.Run
public import proofs.«01_k».proof.Proof.Norm
public import Idealize.ShloMosaic.Lib.Pipeline.ValueKit

@[expose] public section

set_option maxRecDepth 16384

noncomputable section

open Idealize.ShloMosaic Idealize.ShloMosaic.TcCoe

namespace Cert.MdxRefIdeal.Arrays

open Cert.MdxRefIdeal Cert.MdxRefIdeal.Gen

/-- The norm's own gradient: the product's gradient in its left factor. -/
def DN (dz : FVec Ideal S4224x5120 .bf16) (w : FVec Ideal S5120x2048 .bf16) : FVec Ideal S4224x2048 .f32 :=
  Host.dotGeneral dot_S4224x5120_S2048x5120_S4224x2048_1_1_0_0_n_n none (extf .f32 dz bitsLt_bf16_f32) (transpose S2048x5120 [1, 0] (extf .f32 w bitsLt_bf16_f32) transposes_S5120x2048_S2048x5120_1_0)

/-- The mean squares and ε. -/
def VAR (x : FVec Ideal S4224x2048 .f32) : FVec Ideal S4224x1 .f32 :=
  addf (Host.divf (broadcastInDim S4224x1 ![0] bcast_S4224_S4224x1_0 (Host.reduceAdd (mulf x x) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32))

/-- The reciprocal roots. -/
def RSTD (x : FVec Ideal S4224x2048 .f32) : FVec Ideal S4224x1 .f32 := Host.rsqrt (VAR x)

/-- The norm's gradient times its weight. -/
def PG (g : FVec Ideal S1x2048 .f32) (p : FVec Ideal S4224x2048 .f32) : FVec Ideal S4224x2048 .f32 :=
  mulf p (broadcastInDim S4224x2048 ![0, 1] bcast_S1x2048_S4224x2048_0_1 (broadcastInDim S1x2048 ![1] bcast_S2048_S1x2048_1 (shapeCast _ g shapeCasts_S1x2048_S2048)))

/-- Half the derivative of the mean squares. -/
def HALF (x : FVec Ideal S4224x2048 .f32) (g : FVec Ideal S1x2048 .f32) (p : FVec Ideal S4224x2048 .f32) : FVec Ideal S4224x2048 .f32 :=
  broadcastInDim S4224x2048 ![0] bcast_S4224_S4224x2048_0 (Host.reduceAdd (Host.divf (mulf (shapeCast _ (Host.reduceAdd (mulf x (PG g p)) (constant S_ .f32 0x00000000#32) reducesTo_S4224x2048_S4224_d1 h_S_) shapeCasts_S4224_S4224x1) (mulf (broadcastInDim S4224x1 ![] bcast_S_S4224x1 (constant S_ .f32 0xBF000000#32)) (Host.divf (RSTD x) (VAR x)))) (broadcastInDim S4224x1 ![] bcast_S_S4224x1 (constant S_ .f32 0x45000000#32))) (constant S_ .f32 0x00000000#32) reducesTo_S4224x1_S4224_d1 h_S_)

/-- The gradient of the rows: `up`, which passes by the norm, and what comes through it. -/
def DX (x : FVec Ideal S4224x2048 .f32) (g : FVec Ideal S1x2048 .f32) (p up : FVec Ideal S4224x2048 .f32) : FVec Ideal S4224x2048 .f32 :=
  addf (addf (addf up (mulf (PG g p) (broadcastInDim S4224x2048 ![0, 1] bcast_S4224x1_S4224x2048_0_1 (RSTD x)))) (mulf x (HALF x g p))) (mulf (HALF x g p) x)

/-- Half of it, which comes through the residual's factor. -/
def HALVED (p : FVec Ideal S4224x2048 .f32) : FVec Ideal S4224x2048 .f32 :=
  mulf (broadcastInDim S4224x2048 ![] bcast_S_S4224x2048 (constant S_ .f32 0x3F000000#32)) p

/-- The gradient through a norm alone, rounded. -/
def DF (x : FVec Ideal S4224x2048 .f32) (g : FVec Ideal S1x2048 .f32) (p : FVec Ideal S4224x2048 .f32) : FVec Ideal S4224x2048 .bf16 :=
  truncf .bf16 (addf (addf (mulf (PG g p) (broadcastInDim S4224x2048 ![0, 1] bcast_S4224x1_S4224x2048_0_1 (RSTD x))) (mulf x (HALF x g p))) (mulf (HALF x g p) x)) bitsLt_bf16_f32

/-- The gradient of a norm's weight. -/
def DG (x p : FVec Ideal S4224x2048 .f32) : FVec Ideal S1x2048 .f32 :=
  broadcastInDim S1x2048 ![1] bcast_S2048_S1x2048_1 (Host.reduceAdd (shapeCast _ (Host.reduceAdd (mulf (mulf x (broadcastInDim S4224x2048 ![0, 1] bcast_S4224x1_S4224x2048_0_1 (RSTD x))) p) (constant S_ .f32 0x00000000#32) reducesTo_S4224x2048_S2048_d0 h_S_) shapeCasts_S2048_S1x2048) (constant S_ .f32 0x00000000#32) reducesTo_S1x2048_S2048_d0 h_S_)

theorem dn_at (dz w i) : DN dz w i = ∑ k : Fin 5120, dz (ix2 (i 0) k) * w (ix2 k (i 1)) := by
  pointwise [DN]

theorem var_at (x i) : VAR x i = Norm.var fun k => x (ix2 (i 0) k) := by
  pointwise [VAR]
  rfl

theorem rstd_at (x i) : RSTD x i = Norm.rstd fun k => x (ix2 (i 0) k) := congrArg Ideal.rsqrt (var_at x i)

theorem pg_at (g p i) : PG g p i = p i * g (ix2 0 (i 1)) := by
  pointwise [PG]

theorem half_at (x g p i) : HALF x g p i = Norm.half (fun k => x (ix2 (i 0) k)) (fun k => g (ix2 0 k)) fun k => p (ix2 (i 0) k) := by
  pointwise [HALF, pg_at, var_at, rstd_at]
  exact Fin.sum_univ_one _

theorem dx_at (x g p up i) :
    DX x g p up i = up i + Norm.vdx (fun k => x (ix2 (i 0) k)) (fun k => g (ix2 0 k)) (fun k => p (ix2 (i 0) k)) (i 1) := by
  pointwise [DX, pg_at, half_at, rstd_at, Norm.vdx, add_assoc]
  blk_ext

theorem halved_at (p i) : HALVED p i = Norm.onehalf * p i := by
  pointwise [HALVED, Norm.onehalf]

theorem df_at (x g p i) : DF x g p i = Norm.vdx (fun k => x (ix2 (i 0) k)) (fun k => g (ix2 0 k)) (fun k => p (ix2 (i 0) k)) (i 1) := by
  pointwise [DF, pg_at, half_at, rstd_at, Norm.vdx]
  blk_ext

theorem dg_at (x p i) : DG x p i = ∑ l : Fin 4224, x (ix2 l (i 1)) * Norm.rstd (fun k => x (ix2 l k)) * p (ix2 l (i 1)) := by
  pointwise [DG, rstd_at]
  exact Fin.sum_univ_one _

end Cert.MdxRefIdeal.Arrays

end
-- ==== Proof.MdxRun.lean ====
/-
  Hand-written, untrusted. ONE RUN OF THE BODY of `mix_dx`, whatever its blocks hold: the inputs stay, the accumulator, zeroed at the first tile
  of the contraction, gains the product of the two blocks, and the results' blocks hold what `new8` to `new11` say.
-/
module

public import proofs.«01_k».proof.Proof.Gen.MdxIdeal.Frame
public import proofs.«01_k».proof.Proof.Gen.MdxIdeal.Skeleton
public import Idealize.ShloMosaic.Lib.WritesUnit
public import Idealize.ShloMosaic.Lib.Pipeline.FrameBody
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.MdxIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MdxIdeal.Gen

variable {F : FTy → Type} [FloatOps F]

local notation "𝕄" => MT nD τ sig Unit (Elt F) ℕ (UR sig nD τ) ℕ

/-- There is one row of blocks in a group, so that every access to the accumulator is at its start. -/
theorem off1 (i : grid0.Coords) : k0_off1 i = ![0, 0, 0] := by
  rw [k0_off1_eq, show (i 2).val = 0 from Nat.lt_one_iff.mp (i 2).isLt]
theorem off2 (i : grid0.Coords) : k0_off2 i = ![0, 0, 0] := by
  rw [k0_off2_eq, show (i 2).val = 0 from Nat.lt_one_iff.mp (i 2).isLt]
theorem off3 (i : grid0.Coords) : k0_off3 i = ![0, 0, 0] := by
  rw [k0_off3_eq, show (i 2).val = 0 from Nat.lt_one_iff.mp (i 2).isLt]

/-- A store over a whole buffer is what is read back, whatever was stored before. -/
theorem read_whole {sp : Space} {s : Shape} {e : EltTy} (v : View sig .tc sp s e) (f : v.ty.Contents (Elt F))
    {off : Fin s.rank → ℕ} (inb : ∀ a, off a + s.size a ≤ s.size a) (w : s.Idx → Elt F e)
    (L : List (View.Piece (Elt F) s e)) (h : ∀ j, off j = 0) :
    v.read (Elt F) (v.writes (Elt F) f ((⟨Rect.unit off (no_index s.size) inb, w⟩ : View.Piece (Elt F) s e) :: L)) = w := by
  funext y
  exact View.read_writes_cons_unit_of_mem v f inb w L y y (funext h) fun a => (Nat.zero_add _).symm

variable (i : grid0.Coords)

/-- The accumulator after a point, from what it holds before. -/
def newAcc (x0 : Vec F S528x512 .bf16) (x1 : Vec F S512x2048 .bf16) (a : Vec F S1x528x2048 .f32) : Vec F S1x528x2048 .f32 :=
  k0_pay4 (if k0_cond2 i = 1#1 then k0_pay3 else a) x0 x1

/-- The block of rows of result 0: formed at the last tile of the contraction. -/
def new8 (x0 : Vec F S528x512 .bf16) (x1 : Vec F S512x2048 .bf16) (x2 : Vec F S528x2048 .f32) (x3 : Vec F S1x2048 .f32) (x4 : Vec F S528x2048 .f32) (x5 : Vec F S1x2048 .f32) (x6 : Vec F S528x2048 .f32) (x7 : Vec F S1x2048 .f32) (o8 : Vec F S528x2048 .f32) (a : Vec F S1x528x2048 .f32) : Vec F S528x2048 .f32 :=
  if k0_cond3 i = 1#1 then k0_pay13 x2 x3 (newAcc i x0 x1 a) x4 else o8

/-- The block of result 1, which is carried from point to point: set at the first point, added to at the last tile of the contraction. -/
def new9 (x0 : Vec F S528x512 .bf16) (x1 : Vec F S512x2048 .bf16) (x2 : Vec F S528x2048 .f32) (x3 : Vec F S1x2048 .f32) (x4 : Vec F S528x2048 .f32) (x5 : Vec F S1x2048 .f32) (x6 : Vec F S528x2048 .f32) (x7 : Vec F S1x2048 .f32) (o9 : Vec F S1x2048 .f32) (a : Vec F S1x528x2048 .f32) : Vec F S1x2048 .f32 :=
  if k0_cond3 i = 1#1 then k0_pay14 x2 (newAcc i x0 x1 a) (if k0_cond1 i = 1#1 then k0_pay1 x5 else o9) else if k0_cond1 i = 1#1 then k0_pay1 x5 else o9

/-- The block of rows of result 2: formed at the last tile of the contraction. -/
def new10 (x0 : Vec F S528x512 .bf16) (x1 : Vec F S512x2048 .bf16) (x2 : Vec F S528x2048 .f32) (x3 : Vec F S1x2048 .f32) (x4 : Vec F S528x2048 .f32) (x5 : Vec F S1x2048 .f32) (x6 : Vec F S528x2048 .f32) (x7 : Vec F S1x2048 .f32) (o10 : Vec F S528x2048 .bf16) (a : Vec F S1x528x2048 .f32) : Vec F S528x2048 .bf16 :=
  if k0_cond3 i = 1#1 then k0_pay8 (k0_pay13 x2 x3 (newAcc i x0 x1 a) x4) x6 x7 else o10

/-- The block of result 3, which is carried from point to point: set at the first point, added to at the last tile of the contraction. -/
def new11 (x0 : Vec F S528x512 .bf16) (x1 : Vec F S512x2048 .bf16) (x2 : Vec F S528x2048 .f32) (x3 : Vec F S1x2048 .f32) (x4 : Vec F S528x2048 .f32) (x5 : Vec F S1x2048 .f32) (x6 : Vec F S528x2048 .f32) (x7 : Vec F S1x2048 .f32) (o11 : Vec F S1x2048 .f32) (a : Vec F S1x528x2048 .f32) : Vec F S1x2048 .f32 :=
  if k0_cond3 i = 1#1 then k0_pay9 (k0_pay13 x2 x3 (newAcc i x0 x1 a) x4) x6 (if k0_cond1 i = 1#1 then k0_pay2 else o11) else if k0_cond1 i = 1#1 then k0_pay2 else o11

variable
  (arg3 : Memref sig .tc .vmem S528x512 .bf16) (harg3 : arg3.IsWhole)
  (arg4 : Memref sig .tc .vmem S512x2048 .bf16) (harg4 : arg4.IsWhole)
  (arg5 : Memref sig .tc .vmem S528x2048 .f32) (harg5 : arg5.IsWhole)
  (arg6 : Memref sig .tc .vmem S1x2048 .f32) (harg6 : arg6.IsWhole)
  (arg7 : Memref sig .tc .vmem S528x2048 .f32) (harg7 : arg7.IsWhole)
  (arg8 : Memref sig .tc .vmem S1x2048 .f32) (harg8 : arg8.IsWhole)
  (arg9 : Memref sig .tc .vmem S528x2048 .f32) (harg9 : arg9.IsWhole)
  (arg10 : Memref sig .tc .vmem S1x2048 .f32) (harg10 : arg10.IsWhole)
  (arg11 : Memref sig .tc .vmem S528x2048 .f32) (harg11 : arg11.IsWhole)
  (arg12 : Memref sig .tc .vmem S1x2048 .f32) (harg12 : arg12.IsWhole)
  (arg13 : Memref sig .tc .vmem S528x2048 .bf16) (harg13 : arg13.IsWhole)
  (arg14 : Memref sig .tc .vmem S1x2048 .f32) (harg14 : arg14.IsWhole)
  (arg15 : Memref sig .tc .vmem S1x528x2048 .f32) (harg15 : arg15.IsWhole)
  (x0 : Vec F S528x512 .bf16) (x1 : Vec F S512x2048 .bf16) (x2 : Vec F S528x2048 .f32) (x3 : Vec F S1x2048 .f32) (x4 : Vec F S528x2048 .f32) (x5 : Vec F S1x2048 .f32) (x6 : Vec F S528x2048 .f32) (x7 : Vec F S1x2048 .f32)
  (o8 : Vec F S528x2048 .f32) (o9 : Vec F S1x2048 .f32) (o10 : Vec F S528x2048 .bf16) (o11 : Vec F S1x2048 .f32) (a : Vec F S1x528x2048 .f32)

set_option maxHeartbeats 1600000 in
/-- The body run on whole buffers, each of its conditions holding or not. -/
theorem run (c : Dev nD) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
        ∗ owns (c : Thread nD τ) arg11 fullShare o8 ∗ owns (c : Thread nD τ) arg12 fullShare o9 ∗ owns (c : Thread nD τ) arg13 fullShare o10 ∗ owns (c : Thread nD τ) arg14 fullShare o11 ∗ owns (c : Thread nD τ) arg15 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
            ∗ owns (c : Thread nD τ) arg11 fullShare (new8 i x0 x1 x2 x3 x4 x5 x6 x7 o8 a) ∗ owns (c : Thread nD τ) arg12 fullShare (new9 i x0 x1 x2 x3 x4 x5 x6 x7 o9 a) ∗ owns (c : Thread nD τ) arg13 fullShare (new10 i x0 x1 x2 x3 x4 x5 x6 x7 o10 a) ∗ owns (c : Thread nD τ) arg14 fullShare (new11 i x0 x1 x2 x3 x4 x5 x6 x7 o11 a)
            ∗ owns (c : Thread nD τ) arg15 fullShare (newAcc i x0 x1 a)) -∗ K ⟨⟩))
      ⊢ wp frame (wpE (defs₀ (F := F)) Variants.none c none) E (cc0_mix_dx i arg3 harg3 arg4 harg4 arg5 harg5 arg6 harg6 arg7 harg7 arg8 harg8 arg9 harg9 arg10 harg10 arg11 harg11 arg12 harg12 arg13 harg13 arg14 harg14 arg15 harg15) K := by
  simp only [cc0_mix_dx_eq_skeleton]; unfold cc0_mix_dx_skel
  simp only [k0_part1_eq_skeleton, off1, off2, off3]
  unfold new8 new9 new10 new11 newAcc
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
  by_cases h1 : k0_cond1 i = 1#1 <;> by_cases h2 : k0_cond2 i = 1#1 <;> by_cases h3 : k0_cond3 i = 1#1 <;>
    simp only [h1, h2, h3, if_true, if_false]
  all_goals
    sl_exec (disch := first | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; swap; · iexact H8
      ipureintro
      first
        | with_reducible exact hf8
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    isplitl [H9]
    · iexists _; isplitr; swap; · iexact H9
      ipureintro
      first
        | with_reducible exact hf9
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    isplitl [H10]
    · iexists _; isplitr; swap; · iexact H10
      ipureintro
      first
        | with_reducible exact hf10
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    isplitl [H11]
    · iexists _; isplitr; swap; · iexact H11
      ipureintro
      first
        | with_reducible exact hf11
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    iexists _; isplitr; swap; · iexact H12
    ipureintro
    frame_open
    simp (disch := first | (intro j; simp only [off1, off2, off3]; revert j; decide) | decide) only [read_whole,
             View.ld_unit_lit', View.readCov_unit_lit', View.readCov_cons_unit_lit', View.readAt_eq_ld,
             Memref.IsWhole.read_unread]

end Cert.MdxIdeal.Run

end
-- ==== Proof.MdxFrame.lean ====
/-
  Hand-written, untrusted. THE FRAME of `mix_dx`: the blocks after each of its 80 points by recursion over the points (`st`), the body's
  obligation from the run of Proof/MdxRun.lean, and the launch.
-/
module

public import proofs.«01_k».proof.Proof.MdxRun

@[expose] public section

set_option maxRecDepth 16384

noncomputable section

namespace Cert.MdxIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.MdxIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points meet the body's conditions, and where the results' blocks are written -/

theorem first_iff : ∀ t : Fin cfg0.N, k0_cond1 (grid0.coords t) = 1#1 ↔ t.val = 0 := by decide +kernel
theorem start_iff : ∀ t : Fin cfg0.N, k0_cond2 (grid0.coords t) = 1#1 ↔ t.val % 10 = 0 := by decide +kernel
theorem last_iff : ∀ t : Fin cfg0.N, k0_cond3 (grid0.coords t) = 1#1 ↔ t.val % 10 = 9 := by decide +kernel

theorem idle8 : ∀ t : Fin cfg0.N, ¬k0_cond3 (grid0.coords t) = 1#1 →
    cfg0.idle 8 (grid0.coords t) = true ∧ (cfg0.win 8).flush t = false := by decide +kernel
theorem live8 : ∀ t : Fin cfg0.N, k0_cond3 (grid0.coords t) = 1#1 → cfg0.idle 8 (grid0.coords t) = false := by decide +kernel
theorem idle10 : ∀ t : Fin cfg0.N, ¬k0_cond3 (grid0.coords t) = 1#1 →
    cfg0.idle 10 (grid0.coords t) = true ∧ (cfg0.win 10).flush t = false := by decide +kernel
theorem live10 : ∀ t : Fin cfg0.N, k0_cond3 (grid0.coords t) = 1#1 → cfg0.idle 10 (grid0.coords t) = false := by decide +kernel
theorem idle9 : ∀ t : Fin cfg0.N, ¬k0_cond1 (grid0.coords t) = 1#1 → ¬k0_cond3 (grid0.coords t) = 1#1 →
    cfg0.idle 9 (grid0.coords t) = true ∧ (cfg0.win 9).flush t = false := by decide +kernel
theorem live9 : ∀ t : Fin cfg0.N, k0_cond1 (grid0.coords t) = 1#1 ∨ k0_cond3 (grid0.coords t) = 1#1 →
    cfg0.idle 9 (grid0.coords t) = false := by decide +kernel
theorem idle11 : ∀ t : Fin cfg0.N, ¬k0_cond1 (grid0.coords t) = 1#1 → ¬k0_cond3 (grid0.coords t) = 1#1 →
    cfg0.idle 11 (grid0.coords t) = true ∧ (cfg0.win 11).flush t = false := by decide +kernel
theorem live11 : ∀ t : Fin cfg0.N, k0_cond1 (grid0.coords t) = 1#1 ∨ k0_cond3 (grid0.coords t) = 1#1 →
    cfg0.idle 11 (grid0.coords t) = false := by decide +kernel

/-- A carried block holds nothing of the body's before the first point, and after the last, where it is written back. -/
def unset : ℕ → Bool := fun n => n == 0 || n == 80
theorem unset_step9 : ∀ t : Fin cfg0.N,
    unset (t.val + 1) = ((cfg0.win 9).flush t || (cfg0.idle 9 (cfg0.grid.coords t) && unset t.val)) := by decide +kernel
theorem fresh9 (t : Fin cfg0.N) (h : t.val ≠ 0) : cfg0.fresh 9 t.val = false := by
  rw [Pipeline.Cfg.fresh_tab cfg0 9 unset rfl unset_step9 t.val (Nat.le_of_lt t.isLt)]
  have ht : t.val < 80 := lt_of_lt_of_eq t.isLt N_0
  simp only [unset, Bool.or_eq_false_iff, beq_eq_false_iff_ne]
  omega
theorem unset_step11 : ∀ t : Fin cfg0.N,
    unset (t.val + 1) = ((cfg0.win 11).flush t || (cfg0.idle 11 (cfg0.grid.coords t) && unset t.val)) := by decide +kernel
theorem fresh11 (t : Fin cfg0.N) (h : t.val ≠ 0) : cfg0.fresh 11 t.val = false := by
  rw [Pipeline.Cfg.fresh_tab cfg0 11 unset rfl unset_step11 t.val (Nat.le_of_lt t.isLt)]
  have ht : t.val < 80 := lt_of_lt_of_eq t.isLt N_0
  simp only [unset, Bool.or_eq_false_iff, beq_eq_false_iff_ne]
  omega

/-! ## The blocks after each point -/

/-- The results' blocks and the accumulator. -/
structure St (F : FTy → Type) [FloatOps F] where
  o8 : Vec F S528x2048 .f32
  o9 : Vec F S1x2048 .f32
  o10 : Vec F S528x2048 .bf16
  o11 : Vec F S1x2048 .f32
  acc : Vec F S1x528x2048 .f32

/-- One point: from the blocks before it, those after it. -/
def step (c : Dev nD) (t : Fin cfg0.N) (p : St F) : St F where
  o8 := new8 (grid0.coords t) (iblk m c 0 t) (iblk m c 1 t) (iblk m c 2 t) (iblk m c 3 t) (iblk m c 4 t) (iblk m c 5 t) (iblk m c 6 t) (iblk m c 7 t) p.o8 p.acc
  o9 := new9 (grid0.coords t) (iblk m c 0 t) (iblk m c 1 t) (iblk m c 2 t) (iblk m c 3 t) (iblk m c 4 t) (iblk m c 5 t) (iblk m c 6 t) (iblk m c 7 t) p.o9 p.acc
  o10 := new10 (grid0.coords t) (iblk m c 0 t) (iblk m c 1 t) (iblk m c 2 t) (iblk m c 3 t) (iblk m c 4 t) (iblk m c 5 t) (iblk m c 6 t) (iblk m c 7 t) p.o10 p.acc
  o11 := new11 (grid0.coords t) (iblk m c 0 t) (iblk m c 1 t) (iblk m c 2 t) (iblk m c 3 t) (iblk m c 4 t) (iblk m c 5 t) (iblk m c 6 t) (iblk m c 7 t) p.o11 p.acc
  acc := newAcc (grid0.coords t) (iblk m c 0 t) (iblk m c 1 t) p.acc

/-- The blocks after point `n`; what the first point starts from does not matter. -/
def st (c : Dev nD) : (n : ℕ) → n < cfg0.N → St F
  | 0, h => step m c ⟨0, h⟩ ⟨constant S528x2048 .f32 0x0#32, constant S1x2048 .f32 0x0#32, constant S528x2048 .bf16 0x0#16, constant S1x2048 .f32 0x0#32, constant S1x528x2048 .f32 0x0#32⟩
  | n + 1, h => step m c ⟨n + 1, h⟩ (st c n (Nat.lt_of_succ_lt h))

theorem st_pos (c : Dev nD) (t : Fin cfg0.N) (h : t.val ≠ 0) :
    (st m c t.val t.isLt) = step m c t (st m c (t.val - 1) (by omega)) := by
  obtain ⟨n, hn⟩ := t
  cases n with
  | zero => exact absurd rfl h
  | succ n => rfl

/-- The accumulator after a point: at the first point of a row of blocks it does not matter what it held before. -/
theorem st_acc (c : Dev nD) (t : Fin cfg0.N) (a : Vec F S1x528x2048 .f32)
    (ha : (h : t.val ≠ 0) → a = (st m c (t.val - 1) (by omega)).acc) :
    newAcc (grid0.coords t) (iblk m c 0 t) (iblk m c 1 t) a = (st m c t.val t.isLt).acc := by
  by_cases h : t.val = 0
  · obtain ⟨n, hn⟩ := t
    cases n with
    | zero =>
      have h2 : k0_cond2 (grid0.coords ⟨0, hn⟩) = 1#1 := (start_iff ⟨0, hn⟩).mpr (Nat.zero_mod _)
      show newAcc _ _ _ a = newAcc _ _ _ _
      unfold newAcc
      rw [if_pos h2, if_pos h2]
    | succ n => exact absurd h (Nat.succ_ne_zero n)
  · rw [ha h, st_pos m c t h]
    rfl

/-! The results' blocks: those of rows after the last point of a row of blocks, the carried ones after the first point, after the last of a row of blocks, and after any other. -/

theorem st_row8 (c : Dev nD) (t : Fin cfg0.N) (h3 : k0_cond3 (grid0.coords t) = 1#1) :
    (st m c t.val t.isLt).o8 = k0_pay13 (iblk m c 2 t) (iblk m c 3 t) (st m c t.val t.isLt).acc (iblk m c 4 t) := by
  have h : t.val ≠ 0 := by have := (last_iff t).mp h3; omega
  rw [st_pos m c t h]
  dsimp only [step]
  unfold new8
  rw [if_pos h3]

theorem st_row10 (c : Dev nD) (t : Fin cfg0.N) (h3 : k0_cond3 (grid0.coords t) = 1#1) :
    (st m c t.val t.isLt).o10 = k0_pay8 (k0_pay13 (iblk m c 2 t) (iblk m c 3 t) (st m c t.val t.isLt).acc (iblk m c 4 t)) (iblk m c 6 t) (iblk m c 7 t) := by
  have h : t.val ≠ 0 := by have := (last_iff t).mp h3; omega
  rw [st_pos m c t h]
  dsimp only [step]
  unfold new10
  rw [if_pos h3]

theorem st_first9 (c : Dev nD) (t : Fin cfg0.N) (h1 : k0_cond1 (grid0.coords t) = 1#1) :
    (st m c t.val t.isLt).o9 = k0_pay1 (iblk m c 5 t) := by
  have h : t.val = 0 := (first_iff t).mp h1
  have h3 : ¬k0_cond3 (grid0.coords t) = 1#1 := fun e => by have := (last_iff t).mp e; omega
  obtain ⟨n, hn⟩ := t
  cases n with
  | zero =>
    show (step m c ⟨0, hn⟩ _).o9 = _
    dsimp only [step]
    unfold new9
    rw [if_neg h3, if_pos h1]
  | succ n => exact absurd h (Nat.succ_ne_zero n)

theorem st_last9 (c : Dev nD) (t : Fin cfg0.N) (h3 : k0_cond3 (grid0.coords t) = 1#1) :
    (st m c t.val t.isLt).o9 = k0_pay14 (iblk m c 2 t) (st m c t.val t.isLt).acc (st m c (t.val - 1) (by omega)).o9 := by
  have h : t.val ≠ 0 := by have := (last_iff t).mp h3; omega
  have h1 : ¬k0_cond1 (grid0.coords t) = 1#1 := fun e => h ((first_iff t).mp e)
  rw [st_pos m c t h]
  dsimp only [step]
  unfold new9
  rw [if_pos h3, if_neg h1]

theorem st_keep9 (c : Dev nD) (t : Fin cfg0.N) (h1 : ¬k0_cond1 (grid0.coords t) = 1#1) (h3 : ¬k0_cond3 (grid0.coords t) = 1#1) :
    (st m c t.val t.isLt).o9 = (st m c (t.val - 1) (by omega)).o9 := by
  have h : t.val ≠ 0 := fun e => h1 ((first_iff t).mpr e)
  rw [st_pos m c t h]
  dsimp only [step]
  unfold new9
  rw [if_neg h3, if_neg h1]

theorem st_first11 (c : Dev nD) (t : Fin cfg0.N) (h1 : k0_cond1 (grid0.coords t) = 1#1) :
    (st m c t.val t.isLt).o11 = k0_pay2 := by
  have h : t.val = 0 := (first_iff t).mp h1
  have h3 : ¬k0_cond3 (grid0.coords t) = 1#1 := fun e => by have := (last_iff t).mp e; omega
  obtain ⟨n, hn⟩ := t
  cases n with
  | zero =>
    show (step m c ⟨0, hn⟩ _).o11 = _
    dsimp only [step]
    unfold new11
    rw [if_neg h3, if_pos h1]
  | succ n => exact absurd h (Nat.succ_ne_zero n)

theorem st_last11 (c : Dev nD) (t : Fin cfg0.N) (h3 : k0_cond3 (grid0.coords t) = 1#1) :
    (st m c t.val t.isLt).o11 = k0_pay9 (k0_pay13 (iblk m c 2 t) (iblk m c 3 t) (st m c t.val t.isLt).acc (iblk m c 4 t)) (iblk m c 6 t) (st m c (t.val - 1) (by omega)).o11 := by
  have h : t.val ≠ 0 := by have := (last_iff t).mp h3; omega
  have h1 : ¬k0_cond1 (grid0.coords t) = 1#1 := fun e => h ((first_iff t).mp e)
  rw [st_pos m c t h]
  dsimp only [step]
  unfold new11
  rw [if_pos h3, if_neg h1]

theorem st_keep11 (c : Dev nD) (t : Fin cfg0.N) (h1 : ¬k0_cond1 (grid0.coords t) = 1#1) (h3 : ¬k0_cond3 (grid0.coords t) = 1#1) :
    (st m c t.val t.isLt).o11 = (st m c (t.val - 1) (by omega)).o11 := by
  have h : t.val ≠ 0 := fun e => h1 ((first_iff t).mpr e)
  rw [st_pos m c t h]
  dsimp only [step]
  unfold new11
  rw [if_neg h3, if_neg h1]

/-! ## The pipeline's data -/

/-- The accumulator as a memref of its own. -/
abbrev acc : Memref sig .tc .vmem S1x528x2048 .f32 := Memref.whole cc0_scratch0

/-- Before the first point the accumulator holds anything, afterwards what the point before left. -/
def inv (c : Dev nD) : (n : ℕ) → n ≤ cfg0.N → sProp 𝕄
  | 0, _ => Pipeline.ΦA spec0 c
  | n + 1, h => iprop(owns (c : Thread nD τ) acc fullShare ((st m c n h).acc) ∗ (∃ r, prngReg c r))

theorem free_eq (c : Dev nD) : (Pipeline.ΦA spec0 c : sProp 𝕄)
    = iprop((∃ d, owns (c : Thread nD τ) acc fullShare d) ∗ (∃ r, prngReg c r)) := by
  unfold Pipeline.ΦA; rw [scopedRest0_eq]; simp only [acc, owns_whole]; try rfl

/-- The pipeline's data: the arrays as launched, each input's buffer at its block, the results' at `st`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (st m c t.val t.isLt).o8
    | ⟨9, _⟩ => (st m c t.val t.isLt).o9
    | ⟨10, _⟩ => (st m c t.val t.isLt).o10
    | ⟨11, _⟩ => (st m c t.val t.isLt).o11
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (st m c t.val t.isLt).o8 := by dsimp only [dats]
theorem after0_9 (c : Dev nD) (t : Fin cfg0.N) : (dats m 0 c).after 9 t = (st m c t.val t.isLt).o9 := by dsimp only [dats]
theorem after0_10 (c : Dev nD) (t : Fin cfg0.N) : (dats m 0 c).after 10 t = (st m c t.val t.isLt).o10 := by dsimp only [dats]
theorem after0_11 (c : Dev nD) (t : Fin cfg0.N) : (dats m 0 c).after 11 t = (st m c t.val t.isLt).o11 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- A point other than the first finds in a carried block what the point before left. -/
theorem before9 (c : Dev nD) (t : Fin cfg0.N) (h : t.val ≠ 0) (d) :
    (dats m 0 c).before 9 t d = (st m c (t.val - 1) (by omega)).o9 := by
  have keep : ∀ (t : Fin cfg0.N) (_ : t.val ≠ 0), cfg0.idle 9 (grid0.coords t) = true → cfg0.fresh 9 t.val = false →
      (dats m 0 c).after 9 t = (dats m 0 c).after 9 ⟨t.val - 1, by omega⟩ := by
    intro t _ hi _
    have h1 : ¬k0_cond1 (grid0.coords t) = 1#1 := fun e =>
      Bool.false_ne_true ((live9 t (.inl e)).symm.trans hi)
    have h3 : ¬k0_cond3 (grid0.coords t) = 1#1 := fun e =>
      Bool.false_ne_true ((live9 t (.inr e)).symm.trans hi)
    rw [after0_9, after0_9, st_keep9 m c t h1 h3]
  rw [Dat.before_out_traj _ 9 rfl (fun _ _ => rfl) keep t.val t rfl d, if_neg (by rw [fresh9 t h]; exact Bool.false_ne_true)]
  dsimp only [dats]

/-- A point other than the first finds in a carried block what the point before left. -/
theorem before11 (c : Dev nD) (t : Fin cfg0.N) (h : t.val ≠ 0) (d) :
    (dats m 0 c).before 11 t d = (st m c (t.val - 1) (by omega)).o11 := by
  have keep : ∀ (t : Fin cfg0.N) (_ : t.val ≠ 0), cfg0.idle 11 (grid0.coords t) = true → cfg0.fresh 11 t.val = false →
      (dats m 0 c).after 11 t = (dats m 0 c).after 11 ⟨t.val - 1, by omega⟩ := by
    intro t _ hi _
    have h1 : ¬k0_cond1 (grid0.coords t) = 1#1 := fun e =>
      Bool.false_ne_true ((live11 t (.inl e)).symm.trans hi)
    have h3 : ¬k0_cond3 (grid0.coords t) = 1#1 := fun e =>
      Bool.false_ne_true ((live11 t (.inr e)).symm.trans hi)
    rw [after0_11, after0_11, st_keep11 m c t h1 h3]
  rw [Dat.before_out_traj _ 11 rfl (fun _ _ => rfl) keep t.val t rfl d, if_neg (by rw [fresh11 t h]; exact Bool.false_ne_true)]
  dsimp only [dats]

/-! ## The body's obligation: what the run leaves in a result's block is what the data say of it -/

theorem leave8 (c : Dev nD) (t : Fin cfg0.N) (a : Vec F S1x528x2048 .f32) (ha : newAcc (grid0.coords t) (iblk m c 0 t) (iblk m c 1 t) a = (st m c t.val t.isLt).acc) (d) :
    owns (c : Thread nD τ) (win0_8.stage (cfg0.slots t 8)) fullShare (new8 (grid0.coords t) (iblk m c 0 t) (iblk m c 1 t) (iblk m c 2 t) (iblk m c 3 t) (iblk m c 4 t) (iblk m c 5 t) (iblk m c 6 t) (iblk m c 7 t) ((dats m 0 c).before 8 t d) a)
      ⊢ (dats m 0 c).leavesExact 8 t := by
  by_cases h3 : k0_cond3 (grid0.coords t) = 1#1
  · rw [show (dats m 0 c).leavesExact 8 t = owns (c : Thread nD τ) (win0_8.stage (cfg0.slots t 8)) fullShare ((dats m 0 c).after 8 t) from by
      unfold Dat.leavesExact; rw [live8 t h3], after0_8, st_row8 m c t h3, ← ha]
    unfold new8
    rw [if_pos h3]
  · rw [Dat.leavesExact_idle (dats m 0 c) 8 t (idle8 t h3).1 (idle8 t h3).2]
    unfold new8
    rw [if_neg h3]
    iintro H
    iexists d
    iexact H

theorem leave10 (c : Dev nD) (t : Fin cfg0.N) (a : Vec F S1x528x2048 .f32) (ha : newAcc (grid0.coords t) (iblk m c 0 t) (iblk m c 1 t) a = (st m c t.val t.isLt).acc) (d) :
    owns (c : Thread nD τ) (win0_10.stage (cfg0.slots t 10)) fullShare (new10 (grid0.coords t) (iblk m c 0 t) (iblk m c 1 t) (iblk m c 2 t) (iblk m c 3 t) (iblk m c 4 t) (iblk m c 5 t) (iblk m c 6 t) (iblk m c 7 t) ((dats m 0 c).before 10 t d) a)
      ⊢ (dats m 0 c).leavesExact 10 t := by
  by_cases h3 : k0_cond3 (grid0.coords t) = 1#1
  · rw [show (dats m 0 c).leavesExact 10 t = owns (c : Thread nD τ) (win0_10.stage (cfg0.slots t 10)) fullShare ((dats m 0 c).after 10 t) from by
      unfold Dat.leavesExact; rw [live10 t h3], after0_10, st_row10 m c t h3, ← ha]
    unfold new10
    rw [if_pos h3]
  · rw [Dat.leavesExact_idle (dats m 0 c) 10 t (idle10 t h3).1 (idle10 t h3).2]
    unfold new10
    rw [if_neg h3]
    iintro H
    iexists d
    iexact H

theorem leave9 (c : Dev nD) (t : Fin cfg0.N) (a : Vec F S1x528x2048 .f32) (ha : newAcc (grid0.coords t) (iblk m c 0 t) (iblk m c 1 t) a = (st m c t.val t.isLt).acc) (d) :
    owns (c : Thread nD τ) (win0_9.stage (cfg0.slots t 9)) fullShare (new9 (grid0.coords t) (iblk m c 0 t) (iblk m c 1 t) (iblk m c 2 t) (iblk m c 3 t) (iblk m c 4 t) (iblk m c 5 t) (iblk m c 6 t) (iblk m c 7 t) ((dats m 0 c).before 9 t d) a)
      ⊢ (dats m 0 c).leavesExact 9 t := by
  by_cases h3 : k0_cond3 (grid0.coords t) = 1#1
  · have h : t.val ≠ 0 := by have := (last_iff t).mp h3; omega
    have h1 : ¬k0_cond1 (grid0.coords t) = 1#1 := fun e => h ((first_iff t).mp e)
    rw [show (dats m 0 c).leavesExact 9 t = owns (c : Thread nD τ) (win0_9.stage (cfg0.slots t 9)) fullShare ((dats m 0 c).after 9 t) from by
      unfold Dat.leavesExact; rw [live9 t (.inr h3)], after0_9, st_last9 m c t h3, ← ha, before9 m c t h]
    unfold new9
    rw [if_pos h3, if_neg h1]
  · by_cases h1 : k0_cond1 (grid0.coords t) = 1#1
    · rw [show (dats m 0 c).leavesExact 9 t = owns (c : Thread nD τ) (win0_9.stage (cfg0.slots t 9)) fullShare ((dats m 0 c).after 9 t) from by
        unfold Dat.leavesExact; rw [live9 t (.inl h1)], after0_9, st_first9 m c t h1]
      unfold new9
      rw [if_neg h3, if_pos h1]
    · rw [Dat.leavesExact_idle (dats m 0 c) 9 t (idle9 t h1 h3).1 (idle9 t h1 h3).2]
      unfold new9
      rw [if_neg h3, if_neg h1]
      iintro H
      iexists d
      iexact H

theorem leave11 (c : Dev nD) (t : Fin cfg0.N) (a : Vec F S1x528x2048 .f32) (ha : newAcc (grid0.coords t) (iblk m c 0 t) (iblk m c 1 t) a = (st m c t.val t.isLt).acc) (d) :
    owns (c : Thread nD τ) (win0_11.stage (cfg0.slots t 11)) fullShare (new11 (grid0.coords t) (iblk m c 0 t) (iblk m c 1 t) (iblk m c 2 t) (iblk m c 3 t) (iblk m c 4 t) (iblk m c 5 t) (iblk m c 6 t) (iblk m c 7 t) ((dats m 0 c).before 11 t d) a)
      ⊢ (dats m 0 c).leavesExact 11 t := by
  by_cases h3 : k0_cond3 (grid0.coords t) = 1#1
  · have h : t.val ≠ 0 := by have := (last_iff t).mp h3; omega
    have h1 : ¬k0_cond1 (grid0.coords t) = 1#1 := fun e => h ((first_iff t).mp e)
    rw [show (dats m 0 c).leavesExact 11 t = owns (c : Thread nD τ) (win0_11.stage (cfg0.slots t 11)) fullShare ((dats m 0 c).after 11 t) from by
      unfold Dat.leavesExact; rw [live11 t (.inr h3)], after0_11, st_last11 m c t h3, ← ha, before11 m c t h]
    unfold new11
    rw [if_pos h3, if_neg h1]
  · by_cases h1 : k0_cond1 (grid0.coords t) = 1#1
    · rw [show (dats m 0 c).leavesExact 11 t = owns (c : Thread nD τ) (win0_11.stage (cfg0.slots t 11)) fullShare ((dats m 0 c).after 11 t) from by
        unfold Dat.leavesExact; rw [live11 t (.inl h1)], after0_11, st_first11 m c t h1]
      unfold new11
      rw [if_neg h3, if_pos h1]
    · rw [Dat.leavesExact_idle (dats m 0 c) 11 t (idle11 t h1 h3).1 (idle11 t h1 h3).2]
      unfold new11
      rw [if_neg h3, if_neg h1]
      iintro H
      iexists d
      iexact H

/-- The invariant hands over the accumulator at contents from which the point's own follow. -/
theorem inv_open (c : Dev nD) (t : Fin cfg0.N) :
    inv m c t.val (Nat.le_of_lt t.isLt) ⊢ iprop(∃ a, ⌜newAcc (grid0.coords t) (iblk m c 0 t) (iblk m c 1 t) a = (st m c t.val t.isLt).acc⌝
      ∗ owns (c : Thread nD τ) acc fullShare a ∗ (∃ r, prngReg c r)) := by
  obtain ⟨n, hn⟩ := t
  cases n with
  | zero =>
    rw [show inv m c (⟨0, hn⟩ : Fin cfg0.N).val (Nat.le_of_lt hn) = Pipeline.ΦA spec0 c from rfl, free_eq]
    iintro ⟨⟨%a, H⟩, Hg⟩
    iexists a
    isplitr
    · ipureintro; exact st_acc m c ⟨0, hn⟩ a fun h => absurd rfl h
    isplitl [H]; · iexact H
    iexact Hg
  | succ n =>
    rw [show inv m c (⟨n + 1, hn⟩ : Fin cfg0.N).val (Nat.le_of_lt hn)
      = iprop(owns (c : Thread nD τ) acc fullShare ((st m c n (Nat.lt_of_succ_lt hn)).acc) ∗ (∃ r, prngReg c r)) from rfl]
    iintro ⟨H, Hg⟩
    iexists _
    isplitr
    · ipureintro; exact st_acc m c ⟨n + 1, hn⟩ _ fun _ => rfl
    isplitl [H]; · iexact H
    iexact Hg

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.castSucc = inv m c t.val (Nat.le_of_lt t.isLt) from rfl,
    show (dats m 0 c).Φ t.succ = iprop(owns (c : Thread nD τ) acc fullShare ((st m c t.val t.isLt).acc) ∗ (∃ r, prngReg c r)) from rfl]
  rw [show (dats m 0 c).leavesExact 0 t = owns (c : Thread nD τ) (win0_0.stage (cfg0.slots t 0)) fullShare ((dats m 0 c).after 0 t) from by
    unfold Dat.leavesExact; rw [show cfg0.idle 0 (cfg0.grid.coords t) = false from rfl], after0_0]
  rw [show (dats m 0 c).leavesExact 1 t = owns (c : Thread nD τ) (win0_1.stage (cfg0.slots t 1)) fullShare ((dats m 0 c).after 1 t) from by
    unfold Dat.leavesExact; rw [show cfg0.idle 1 (cfg0.grid.coords t) = false from rfl], after0_1]
  rw [show (dats m 0 c).leavesExact 2 t = owns (c : Thread nD τ) (win0_2.stage (cfg0.slots t 2)) fullShare ((dats m 0 c).after 2 t) from by
    unfold Dat.leavesExact; rw [show cfg0.idle 2 (cfg0.grid.coords t) = false from rfl], after0_2]
  rw [show (dats m 0 c).leavesExact 3 t = owns (c : Thread nD τ) (win0_3.stage (cfg0.slots t 3)) fullShare ((dats m 0 c).after 3 t) from by
    unfold Dat.leavesExact; rw [show cfg0.idle 3 (cfg0.grid.coords t) = false from rfl], after0_3]
  rw [show (dats m 0 c).leavesExact 4 t = owns (c : Thread nD τ) (win0_4.stage (cfg0.slots t 4)) fullShare ((dats m 0 c).after 4 t) from by
    unfold Dat.leavesExact; rw [show cfg0.idle 4 (cfg0.grid.coords t) = false from rfl], after0_4]
  rw [show (dats m 0 c).leavesExact 5 t = owns (c : Thread nD τ) (win0_5.stage (cfg0.slots t 5)) fullShare ((dats m 0 c).after 5 t) from by
    unfold Dat.leavesExact; rw [show cfg0.idle 5 (cfg0.grid.coords t) = false from rfl], after0_5]
  rw [show (dats m 0 c).leavesExact 6 t = owns (c : Thread nD τ) (win0_6.stage (cfg0.slots t 6)) fullShare ((dats m 0 c).after 6 t) from by
    unfold Dat.leavesExact; rw [show cfg0.idle 6 (cfg0.grid.coords t) = false from rfl], after0_6]
  rw [show (dats m 0 c).leavesExact 7 t = owns (c : Thread nD τ) (win0_7.stage (cfg0.slots t 7)) fullShare ((dats m 0 c).after 7 t) from by
    unfold Dat.leavesExact; rw [show cfg0.idle 7 (cfg0.grid.coords t) = false from rfl], after0_7]
  refine (sep_mono_left (inv_open m c t)).trans ?_
  iintro ⟨⟨%a, %ha, HA, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)
    ((dats m 0 c).before 8 t d8) ((dats m 0 c).before 9 t d9) ((dats m 0 c).before 10 t d10) ((dats m 0 c).before 11 t d11) a c Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HA]; · iexact HA
  rw [ha]
  iintro ⟨H0, H1, H2, H3, H4, H5, H6, H7, H8, H9, H10, H11, HA⟩
  isplitl [HA Hg]
  · isplitl [HA]; · iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leave8 m c t a ha d8); iexact H8
  isplitl [H9]
  · iapply (leave9 m c t a ha d9); iexact H9
  isplitl [H10]
  · iapply (leave10 m c t a ha d10); iexact H10
  iapply (leave11 m c t a ha d11); iexact H11

theorem row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N)
    = iprop(owns (c : Thread nD τ) acc fullShare ((st m c 79 (by rw [show cfg0.N = 80 from N_0]; omega)).acc) ∗ (∃ r, prngReg c r)) from rfl, free_eq]
  iintro ⟨H, Hg⟩
  isplitl [H]
  · iexists _; iexact H
  iexact Hg

/-! ## The launch -/

set_option backward.isDefEq.respectTransparency.types false in
/-- Every execution ends, with the arrays at what the data say and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_quiet m ρ))

end Cert.MdxIdeal.Run

end
-- ==== Proof.MdxValue.lean ====
/-
  Hand-written, untrusted. THE VALUES OF `mix_dx`, block by block of 528 rows. The accumulator collects, over the ten blocks of 512 columns, the
  product that makes the norm's gradient; at the last of them the body forms the rows' gradient (`Norm.lean`) and, from half of it, the gradient
  of the feed-forward's result; both norms' weights collect their gradients over the blocks of rows.
-/
module

public import proofs.«01_k».proof.Defs
public import proofs.«01_k».proof.Proof.MdxFrame
public import proofs.«01_k».proof.Proof.MdxRef

@[expose] public section

set_option maxRecDepth 16384

noncomputable section

open Idealize.ShloMosaic Idealize.ShloMosaic.TcCoe Idealize.SL.Sem
open Idealize.ShloMosaic.Pipeline (Dat)

namespace Cert.MdxIdeal.Value

open Cert.MdxIdeal Cert.MdxIdeal.Gen Cert.MdxIdeal.Run
open Cert.MdxRefIdeal.Arrays (DN DX DG DF HALVED dn_at dx_at dg_at df_at halved_at)
/-! ## What the body computes, at an index -/

theorem zero_at (i) : k0_pay3 (F := Ideal) i = 0 := by pointwise [k0_pay3]

theorem mul_at (a : Vec Ideal S1x528x2048 .f32) (x0 : Vec Ideal S528x512 .bf16) (x1 : Vec Ideal S512x2048 .bf16) (i) : k0_pay4 a x0 x1 i
    = a i + ∑ k : Fin 512, x0 (ix2 (i 1) k) * x1 (ix2 k (i 2)) := by
  pointwise [k0_pay4]

theorem pay1_at (x : Vec Ideal S1x2048 .f32) (i) : k0_pay1 x i = x i := by
  pointwise [k0_pay1]

theorem pay2_at (i) : k0_pay2 (F := Ideal) i = 0 := by pointwise [k0_pay2]

theorem pay5_at (x : FVec Ideal S528x2048 .f32) (i) : k0_pay5 x i = Norm.onehalf * x i := by
  pointwise [k0_pay5, Norm.onehalf]

theorem pay6_at (x : Vec Ideal S528x2048 .f32) (i) : k0_pay6 x i = Norm.rstd fun k => x (ix2 (i 0) k) := by
  pointwise [k0_pay6]
  rfl

theorem pay7_at (x : Vec Ideal S528x2048 .f32) (i) : k0_pay7 x i = x i * Norm.rstd fun k => x (ix2 (i 0) k) := by
  pointwise [k0_pay7, pay6_at]

theorem pay8_at (p : FVec Ideal S528x2048 .f32) (x : Vec Ideal S528x2048 .f32) (g : Vec Ideal S1x2048 .f32) (i) : k0_pay8 p x g i
    = Norm.kdx (fun k => x (ix2 (i 0) k)) (fun k => g (ix2 0 k)) (fun k => Norm.onehalf * p (ix2 (i 0) k)) (i 1) := by
  pointwise [k0_pay8, pay5_at, pay6_at, pay7_at, Norm.kdx]
  blk_ext

theorem pay9_at (p : FVec Ideal S528x2048 .f32) (x : Vec Ideal S528x2048 .f32) (acc : Vec Ideal S1x2048 .f32) (i) : k0_pay9 p x acc i
    = acc i + ∑ a : Fin 528, Norm.onehalf * p (ix2 a (i 1)) * (x (ix2 a (i 1)) * Norm.rstd fun k => x (ix2 a k)) := by
  pointwise [k0_pay9, pay5_at, pay7_at]

theorem pay11_at (x : Vec Ideal S528x2048 .f32) (i) : k0_pay11 x i = Norm.rstd fun k => x (ix2 (i 0) k) := by
  pointwise [k0_pay11]
  rfl

theorem pay12_at (x : Vec Ideal S528x2048 .f32) (i) : k0_pay12 x i = x i * Norm.rstd fun k => x (ix2 (i 0) k) := by
  pointwise [k0_pay12, pay11_at]

theorem pay13_at (x : Vec Ideal S528x2048 .f32) (g) (p : Vec Ideal S1x528x2048 .f32) (up i) : k0_pay13 x g p up i
    = up i + Norm.kdx (fun k => x (ix2 (i 0) k)) (fun k => g (ix2 0 k)) (fun k => p (ix3 0 (i 0) k)) (i 1) := by
  pointwise [k0_pay13, k0_pay10, pay11_at, pay12_at, Norm.kdx]
  blk_ext

theorem pay14_at (x : Vec Ideal S528x2048 .f32) (p : Vec Ideal S1x528x2048 .f32) (acc i) : k0_pay14 x p acc i
    = acc i + ∑ a : Fin 528, p (ix3 0 a (i 1)) * (x (ix2 a (i 1)) * Norm.rstd fun k => x (ix2 a k)) := by
  pointwise [k0_pay14, k0_pay10, pay12_at]

variable (m : (ℓ : Loc nD τ sig) → Buf (Elt Ideal) ℓ)

/-! ## The accumulator -/

/-- The inputs' blocks at a point. -/
abbrev X0 (c : Dev nD) (t : Fin cfg0.N) : Vec Ideal S528x512 .bf16 := iblk m c 0 t
abbrev X1 (c : Dev nD) (t : Fin cfg0.N) : Vec Ideal S512x2048 .bf16 := iblk m c 1 t
abbrev X2 (c : Dev nD) (t : Fin cfg0.N) : Vec Ideal S528x2048 .f32 := iblk m c 2 t
abbrev X3 (c : Dev nD) (t : Fin cfg0.N) : Vec Ideal S1x2048 .f32 := iblk m c 3 t
abbrev X4 (c : Dev nD) (t : Fin cfg0.N) : Vec Ideal S528x2048 .f32 := iblk m c 4 t
abbrev X5 (c : Dev nD) (t : Fin cfg0.N) : Vec Ideal S1x2048 .f32 := iblk m c 5 t
abbrev X6 (c : Dev nD) (t : Fin cfg0.N) : Vec Ideal S528x2048 .f32 := iblk m c 6 t
abbrev X7 (c : Dev nD) (t : Fin cfg0.N) : Vec Ideal S1x2048 .f32 := iblk m c 7 t

/-- What one point adds to the accumulator. -/
def term (c : Dev nD) (t : Fin cfg0.N) (i : S1x528x2048.Idx) : EReal := ∑ k : Fin 512, X0 m c t (ix2 (i 1) k) * X1 m c t (ix2 k (i 2))

theorem acc_start (c : Dev nD) (t : Fin cfg0.N) (h : t.val % 10 = 0) (i) : (st m c t.val t.isLt).acc i = 0 + term m c t i := by
  have h2 := (start_iff t).mpr h
  have e : ∀ a, newAcc (grid0.coords t) (iblk m c 0 t) (iblk m c 1 t) a = k0_pay4 (k0_pay3 (F := Ideal)) (iblk m c 0 t) (iblk m c 1 t) := fun a => by
    unfold newAcc
    rw [if_pos h2]
  have s : (st m c t.val t.isLt).acc = k0_pay4 (k0_pay3 (F := Ideal)) (iblk m c 0 t) (iblk m c 1 t) := by
    by_cases h0 : t.val = 0
    · exact (st_acc m c t (k0_pay3 (F := Ideal)) fun h' => absurd h0 h').symm.trans (e _)
    · exact (st_acc m c t (st m c (t.val - 1) (by omega)).acc fun _ => rfl).symm.trans (e _)
  rw [s, mul_at, zero_at]
  rfl

theorem acc_step (c : Dev nD) (t : Fin cfg0.N) (h : ¬t.val % 10 = 0) (i) :
    (st m c t.val t.isLt).acc i = (st m c (t.val - 1) (Nat.lt_of_le_of_lt (Nat.sub_le _ _) t.isLt)).acc i + term m c t i := by
  have h2 : ¬k0_cond2 (grid0.coords t) = 1#1 := fun e => h ((start_iff t).mp e)
  have e : ∀ a, newAcc (grid0.coords t) (iblk m c 0 t) (iblk m c 1 t) a = k0_pay4 a (iblk m c 0 t) (iblk m c 1 t) := fun a => by
    unfold newAcc
    rw [if_neg h2]
  rw [((st_acc m c t (st m c (t.val - 1) (by omega)).acc fun _ => rfl).symm.trans (e _)), mul_at]
  rfl

/-! ## Block against array -/

/-- Where the blocks sit. -/
theorem idx : ∀ t : Fin cfg0.N, win0_0.index t = ![t.val / 10, t.val % 10] ∧ win0_1.index t = ![t.val % 10, 0] ∧ win0_2.index t = ![t.val / 10, 0]
    ∧ win0_3.index t = ![0, 0] ∧ win0_4.index t = ![t.val / 10, 0] ∧ win0_5.index t = ![0, 0] ∧ win0_6.index t = ![t.val / 10, 0]
    ∧ win0_7.index t = ![0, 0] ∧ win0_8.index t = ![t.val / 10, 0] ∧ win0_9.index t = ![0, 0] ∧ win0_10.index t = ![t.val / 10, 0]
    ∧ win0_11.index t = ![0, 0] :=
  (by decide +kernel : ∀ t : Fin grid0.N, _)

variable (c : Dev nD)

abbrev A0 : FVec Ideal Cert.MdxRefIdeal.S4224x5120 .bf16 := m ((c : Thread nD τ).loc main_arg0)
abbrev A1 : FVec Ideal Cert.MdxRefIdeal.S5120x2048 .bf16 := m ((c : Thread nD τ).loc main_arg1)
abbrev A2 : FVec Ideal Cert.MdxRefIdeal.S4224x2048 .f32 := m ((c : Thread nD τ).loc main_arg2)
abbrev A3 : FVec Ideal Cert.MdxRefIdeal.S1x2048 .f32 := m ((c : Thread nD τ).loc main_arg3)
abbrev A4 : FVec Ideal Cert.MdxRefIdeal.S4224x2048 .f32 := m ((c : Thread nD τ).loc main_arg4)
abbrev A5 : FVec Ideal Cert.MdxRefIdeal.S4224x2048 .f32 := m ((c : Thread nD τ).loc main_arg5)
abbrev A6 : FVec Ideal Cert.MdxRefIdeal.S1x2048 .f32 := m ((c : Thread nD τ).loc main_arg6)

theorem row0 (t : Fin cfg0.N) (a : Fin 528) (b : Fin 4224) (h : b.val = t.val / 10 * 528 + a.val) (k : Fin 512) (l : Fin 5120)
    (hl : l.val = t.val % 10 * 512 + k.val) : X0 m c t (ix2 a k) = A0 m c (ix2 b l) := by
  unfold X0 iblk
  show View.read _ ((cfg0.win 0).blk t).view (V m c main_arg0) _ = _
  rw [V_main_arg0]
  blk_ext [A0, idx t]

theorem row1 (t : Fin cfg0.N) (k : Fin 512) (l : Fin 5120) (hl : l.val = t.val % 10 * 512 + k.val) (j j' : Fin 2048) (hj : j = j') :
    X1 m c t (ix2 k j) = A1 m c (ix2 l j') := by
  subst hj
  unfold X1 iblk
  show View.read _ ((cfg0.win 1).blk t).view (V m c main_arg1) _ = _
  rw [V_main_arg1]
  blk_ext [A1, idx t]

theorem row2 (t : Fin cfg0.N) (a : Fin 528) (b : Fin 4224) (h : b.val = t.val / 10 * 528 + a.val) (k : Fin 2048) :
    X2 m c t (ix2 a k) = A2 m c (ix2 b k) := by
  unfold X2 iblk
  show View.read _ ((cfg0.win 2).blk t).view (V m c main_arg2) _ = _
  rw [V_main_arg2]
  blk_ext [A2, idx t]

theorem row3 (t : Fin cfg0.N) (k : Fin 2048) : X3 m c t (ix2 0 k) = A3 m c (ix2 0 k) := by
  unfold X3 iblk
  show View.read _ ((cfg0.win 3).blk t).view (V m c main_arg3) _ = _
  rw [V_main_arg3]
  blk_ext [A3, idx t]

theorem row4 (t : Fin cfg0.N) (a : Fin 528) (b : Fin 4224) (h : b.val = t.val / 10 * 528 + a.val) (k : Fin 2048) :
    X4 m c t (ix2 a k) = A4 m c (ix2 b k) := by
  unfold X4 iblk
  show View.read _ ((cfg0.win 4).blk t).view (V m c main_arg4) _ = _
  rw [V_main_arg4]
  blk_ext [A4, idx t]

/-- The weight's gradient starts from zeros. -/
theorem row5 (t : Fin cfg0.N) (j : Fin 2048) : X5 m c t (ix2 0 j) = 0 := by
  have e : V m c main_v0 = (broadcastInDim S1x2048 ![] bcast_S_S1x2048 (constant S_ .f32 0x00000000#32) : FVec Ideal S1x2048 .f32) := by after_results_simp <;> rfl
  unfold X5 iblk
  show View.read _ ((cfg0.win 5).blk t).view (V m c main_v0) _ = _
  rw [e]
  have z : ∀ i, (broadcastInDim S1x2048 ![] bcast_S_S1x2048 (constant S_ .f32 0x00000000#32) : FVec Ideal S1x2048 .f32) i = 0 := fun i => by pointwise
  exact z (((cfg0.win 5).blk t).view.emb (ix2 0 j))

theorem row6 (t : Fin cfg0.N) (a : Fin 528) (b : Fin 4224) (h : b.val = t.val / 10 * 528 + a.val) (k : Fin 2048) :
    X6 m c t (ix2 a k) = A5 m c (ix2 b k) := by
  unfold X6 iblk
  show View.read _ ((cfg0.win 6).blk t).view (V m c main_arg5) _ = _
  rw [V_main_arg5]
  blk_ext [A5, idx t]

theorem row7 (t : Fin cfg0.N) (k : Fin 2048) : X7 m c t (ix2 0 k) = A6 m c (ix2 0 k) := by
  unfold X7 iblk
  show View.read _ ((cfg0.win 7).blk t).view (V m c main_arg6) _ = _
  rw [V_main_arg6]
  blk_ext [A6, idx t]

/-- The norm's gradient, and the rows'. -/
abbrev NO := DN (A0 m c) (A1 m c)
abbrev HO := DX (A2 m c) (A3 m c) (NO m c) (A4 m c)

/-- At the last point of a row of blocks the accumulator holds the norm's gradient. -/
theorem acc_last (t : Fin cfg0.N) (h : t.val % 10 = 9) (a : Fin 528) (b : Fin 4224) (hb : b.val = t.val / 10 * 528 + a.val) (j j' : Fin 2048) (hj : j = j') :
    (st m c t.val t.isLt).acc (ix3 0 a j) = NO m c (ix2 b j') := by
  have ht : t.val < 80 := lt_of_lt_of_eq t.isLt N_0
  rw [Pipeline.eq_sum_fin_of_reset_step_apply_of_flush (fun n h => (st m c n h).acc) 10 (fun _ => 0) (term m c)
    (acc_start m c) (acc_step m c) t h _, zero_add]
  refine Eq.trans ?_ (dn_at _ _ _).symm
  refine Fin.sum_mul_add_congr fun s k hl => ?_
  exact congrArg₂ (· * ·) (row0 m c ⟨10 * (t.val / 10) + s.val, _⟩ a b (by show _ = (10 * (t.val / 10) + s.val) / 10 * 528 + _; omega) k ⟨s * 512 + k, hl⟩ (by show s.val * 512 + k.val = (10 * (t.val / 10) + s.val) % 10 * 512 + k.val; omega))
    (row1 m c ⟨10 * (t.val / 10) + s.val, _⟩ k ⟨s * 512 + k, hl⟩ (by show s.val * 512 + k.val = (10 * (t.val / 10) + s.val) % 10 * 512 + k.val; omega) j j' hj)

/-- There the body forms the rows' gradient. -/
theorem rows_last (t : Fin cfg0.N) (h : t.val % 10 = 9) (a : Fin 528) (b : Fin 4224) (hb : b.val = t.val / 10 * 528 + a.val) (j j' : Fin 2048) (hj : j = j') :
    k0_pay13 (X2 m c t) (X3 m c t) (st m c t.val t.isLt).acc (X4 m c t) (ix2 a j) = HO m c (ix2 b j') := by
  subst hj
  refine (pay13_at _ _ _ _ _).trans (Eq.trans ?_ (dx_at _ _ _ _ _).symm)
  refine congrArg₂ (· + ·) (row4 m c t a b hb j) (Eq.trans ?_ (Norm.kdx_eq_vdx _ _ _ _))
  exact Norm.kdx_congr (row2 m c t a b hb) (row3 m c t) (fun k => acc_last m c t h a b hb k k rfl) rfl

theorem st_congr {n n' : ℕ} {h : n < cfg0.N} {h' : n' < cfg0.N} (e : n = n') : st m c n h = st m c n' h' := by
  subst e
  rfl

theorem zero_lt : 0 < cfg0.N := by rw [show cfg0.N = 80 from N_0]; omega

/-! ## The gradients of the weights -/

/-! The weight of the norm before the mixer. -/

/-- Between the first and the last point of a row of blocks its block stays, -/
theorem keep9 (n s : ℕ) (hs : s ≤ 8) (h : 10 * n + s < cfg0.N) :
    (st m c (10 * n + s) h).o9 = (st m c (10 * n) (by omega)).o9 := by
  induction s with
  | zero => rfl
  | succ s ih =>
    refine (st_keep9 m c ⟨10 * n + (s + 1), h⟩ (fun e => ?_) (fun e => ?_)).trans (ih (by omega) (by omega))
    · have e' : 10 * n + (s + 1) = 0 := (first_iff ⟨10 * n + (s + 1), h⟩).mp e
      omega
    · have e' : (10 * n + (s + 1)) % 10 = 9 := (last_iff ⟨10 * n + (s + 1), h⟩).mp e
      omega

/-- What a row of blocks adds to it. -/
def part9 (n : ℕ) (h : 10 * n + 9 < cfg0.N) (i : S1x2048.Idx) : EReal :=
  ∑ a : Fin 528, (st m c (10 * n + 9) h).acc (ix3 0 a (i 1)) * (X2 m c ⟨10 * n + 9, h⟩ (ix2 a (i 1)) * Norm.rstd fun k => X2 m c ⟨10 * n + 9, h⟩ (ix2 a k))

/-- It is added at the last point. -/
theorem last9 (n : ℕ) (h : 10 * n + 9 < cfg0.N) (i) : (st m c (10 * n + 9) h).o9 i
    = (st m c (10 * n) (by omega)).o9 i + part9 m c n h i := by
  have e := st_last9 m c ⟨10 * n + 9, h⟩ ((last_iff ⟨10 * n + 9, h⟩).mpr (by show (10 * n + 9) % 10 = 9; omega))
  have e' : (st m c (10 * n + 9 - 1) (by omega)).o9 = (st m c (10 * n) (by omega)).o9 := keep9 m c n 8 (by omega) (by omega)
  refine (congrFun e i).trans ?_
  rw [pay14_at]
  exact congrArg (· + _) (congrFun e' i)

theorem total9 (i) : (st m c 79 (by rw [show cfg0.N = 80 from N_0]; omega)).o9 i
    = X5 m c ⟨0, zero_lt⟩ i + ∑ n : Fin 8, part9 m c n.val (by have := n.isLt; rw [show cfg0.N = 80 from N_0]; omega) i := by
  have hN : cfg0.N = 80 := N_0
  refine Pipeline.eq_sum_fin_of_reset_step_apply_last (N := 8) (fun n h => (st m c (10 * n + 9) (by rw [hN]; omega)).o9) 8
    (fun i => X5 m c ⟨0, zero_lt⟩ i) (fun n i => part9 m c n.val (by have := n.isLt; rw [hN]; omega) i) (fun t h i => ?_) (fun t h i => ?_) (le_refl _) ⟨7, by omega⟩ rfl i
  · obtain ⟨n, hn⟩ := t
    have h' : n = 0 := by have : n % 8 = 0 := h; omega
    subst h'
    refine (last9 m c 0 (by rw [hN]; omega) i).trans (congrArg (· + _) ?_)
    refine (congrFun (st_first9 m c ⟨0, zero_lt⟩ ((first_iff ⟨0, zero_lt⟩).mpr rfl)) i).trans ?_
    rw [pay1_at]
  · obtain ⟨n, hn⟩ := t
    have h' : n ≠ 0 := fun e => h (by subst e; rfl)
    refine (last9 m c n (by rw [hN]; omega) i).trans (congrArg (· + _) ?_)
    have hl : 10 * n < cfg0.N := by rw [hN]; omega
    have e := st_keep9 m c ⟨10 * n, hl⟩ (fun e => by have : 10 * n = 0 := (first_iff ⟨10 * n, hl⟩).mp e; omega)
      (fun e => by have : 10 * n % 10 = 9 := (last_iff ⟨10 * n, hl⟩).mp e; omega)
    refine (congrFun e i).trans ?_
    have q : 10 * n - 1 = 10 * (n - 1) + 9 := by omega
    exact congrFun (congrArg St.o9 (st_congr m c q)) i

/-! The weight of the norm after the feed-forward. -/

/-- Between the first and the last point of a row of blocks its block stays, -/
theorem keep11 (n s : ℕ) (hs : s ≤ 8) (h : 10 * n + s < cfg0.N) :
    (st m c (10 * n + s) h).o11 = (st m c (10 * n) (by omega)).o11 := by
  induction s with
  | zero => rfl
  | succ s ih =>
    refine (st_keep11 m c ⟨10 * n + (s + 1), h⟩ (fun e => ?_) (fun e => ?_)).trans (ih (by omega) (by omega))
    · have e' : 10 * n + (s + 1) = 0 := (first_iff ⟨10 * n + (s + 1), h⟩).mp e
      omega
    · have e' : (10 * n + (s + 1)) % 10 = 9 := (last_iff ⟨10 * n + (s + 1), h⟩).mp e
      omega

/-- What a row of blocks adds to it. -/
def part11 (n : ℕ) (h : 10 * n + 9 < cfg0.N) (i : S1x2048.Idx) : EReal :=
  ∑ a : Fin 528, Norm.onehalf * k0_pay13 (X2 m c ⟨10 * n + 9, h⟩) (X3 m c ⟨10 * n + 9, h⟩) (st m c (10 * n + 9) h).acc (X4 m c ⟨10 * n + 9, h⟩) (ix2 a (i 1)) * (X6 m c ⟨10 * n + 9, h⟩ (ix2 a (i 1)) * Norm.rstd fun k => X6 m c ⟨10 * n + 9, h⟩ (ix2 a k))

/-- It is added at the last point. -/
theorem last11 (n : ℕ) (h : 10 * n + 9 < cfg0.N) (i) : (st m c (10 * n + 9) h).o11 i
    = (st m c (10 * n) (by omega)).o11 i + part11 m c n h i := by
  have e := st_last11 m c ⟨10 * n + 9, h⟩ ((last_iff ⟨10 * n + 9, h⟩).mpr (by show (10 * n + 9) % 10 = 9; omega))
  have e' : (st m c (10 * n + 9 - 1) (by omega)).o11 = (st m c (10 * n) (by omega)).o11 := keep11 m c n 8 (by omega) (by omega)
  refine (congrFun e i).trans ?_
  rw [pay9_at]
  exact congrArg (· + _) (congrFun e' i)

theorem total11 (i) : (st m c 79 (by rw [show cfg0.N = 80 from N_0]; omega)).o11 i
    = 0 + ∑ n : Fin 8, part11 m c n.val (by have := n.isLt; rw [show cfg0.N = 80 from N_0]; omega) i := by
  have hN : cfg0.N = 80 := N_0
  refine Pipeline.eq_sum_fin_of_reset_step_apply_last (N := 8) (fun n h => (st m c (10 * n + 9) (by rw [hN]; omega)).o11) 8
    (fun i => 0) (fun n i => part11 m c n.val (by have := n.isLt; rw [hN]; omega) i) (fun t h i => ?_) (fun t h i => ?_) (le_refl _) ⟨7, by omega⟩ rfl i
  · obtain ⟨n, hn⟩ := t
    have h' : n = 0 := by have : n % 8 = 0 := h; omega
    subst h'
    refine (last11 m c 0 (by rw [hN]; omega) i).trans (congrArg (· + _) ?_)
    refine (congrFun (st_first11 m c ⟨0, zero_lt⟩ ((first_iff ⟨0, zero_lt⟩).mpr rfl)) i).trans ?_
    rw [pay2_at]
  · obtain ⟨n, hn⟩ := t
    have h' : n ≠ 0 := fun e => h (by subst e; rfl)
    refine (last11 m c n (by rw [hN]; omega) i).trans (congrArg (· + _) ?_)
    have hl : 10 * n < cfg0.N := by rw [hN]; omega
    have e := st_keep11 m c ⟨10 * n, hl⟩ (fun e => by have : 10 * n = 0 := (first_iff ⟨10 * n, hl⟩).mp e; omega)
      (fun e => by have : 10 * n % 10 = 9 := (last_iff ⟨10 * n, hl⟩).mp e; omega)
    refine (congrFun e i).trans ?_
    have q : 10 * n - 1 = 10 * (n - 1) + 9 := by omega
    exact congrFun (congrArg St.o11 (st_congr m c q)) i

/-! ## The results -/

theorem final8 : (dats m 0 c).arrAt 8 (cfgs 0).N = HO m c := by
  refine (dats m 0 c).arrAt_eq_of_covers 8 _ (by decide +kernel) fun t hf y => ?_
  have hl : t.val % 10 = 9 := (flush0_8 t).mp hf
  have e0 : (((cfg0.win 8).blk t).view.emb y 0).val = t.val / 10 * 528 + (y 0).val := by blk_simp [idx t]
  have e1 : (((cfg0.win 8).blk t).view.emb y 1).val = (y 1).val := by blk_simp [idx t]
  have ey : ix2 (((cfg0.win 8).blk t).view.emb y 0) (((cfg0.win 8).blk t).view.emb y 1) = ((cfg0.win 8).blk t).view.emb y := by blk_ext
  have hy : y = ix2 (y 0) (y 1) := by blk_ext
  blk_simp
  rw [after0_8, st_row8 m c t ((last_iff t).mpr hl)]
  refine (congrArg _ hy).trans ?_
  exact (rows_last m c t hl (y 0) (((cfg0.win 8).blk t).view.emb y 0) e0 (y 1) (((cfg0.win 8).blk t).view.emb y 1) (Fin.ext e1.symm)).trans (congrArg _ ey)

theorem final10 : (dats m 0 c).arrAt 10 (cfgs 0).N = DF (A5 m c) (A6 m c) (HALVED (HO m c)) := by
  refine (dats m 0 c).arrAt_eq_of_covers 10 _ (by decide +kernel) fun t hf y => ?_
  have hl : t.val % 10 = 9 := (flush0_10 t).mp hf
  have e0 : (((cfg0.win 10).blk t).view.emb y 0).val = t.val / 10 * 528 + (y 0).val := by blk_simp [idx t]
  have e1 : (((cfg0.win 10).blk t).view.emb y 1).val = (y 1).val := by blk_simp [idx t]
  have ey : ix2 (((cfg0.win 10).blk t).view.emb y 0) (((cfg0.win 10).blk t).view.emb y 1) = ((cfg0.win 10).blk t).view.emb y := by blk_ext
  have hy : y = ix2 (y 0) (y 1) := by blk_ext
  blk_simp
  rw [after0_10, st_row10 m c t ((last_iff t).mpr hl)]
  refine (pay8_at _ _ _ _).trans (Eq.trans ?_ (df_at _ _ _ _).symm)
  refine Eq.trans ?_ (Norm.kdx_eq_vdx _ _ _ _)
  refine Norm.kdx_congr (row6 m c t (y 0) (((cfg0.win 10).blk t).view.emb y 0) e0) (row7 m c t) (fun k => ?_) (Fin.ext e1.symm)
  rw [halved_at]
  exact congrArg (Norm.onehalf * ·) (rows_last m c t hl (y 0) (((cfg0.win 10).blk t).view.emb y 0) e0 k k rfl)

theorem final9 : (dats m 0 c).arrAt 9 (cfgs 0).N = DG (A2 m c) (NO m c) := by
  refine (dats m 0 c).arrAt_eq_of_covers 9 _ (by decide +kernel) fun t hf y => ?_
  have hN : cfg0.N = 80 := N_0
  have ht : t.val = 79 := by have := (flush0_9 t).mp hf; have := t.isLt; omega
  have e1 : (((cfg0.win 9).blk t).view.emb y 1).val = (y 1).val := by blk_simp [idx t]
  blk_simp
  rw [after0_9]
  obtain ⟨n, hn⟩ := t
  have ht' : n = 79 := ht
  subst ht'
  refine (total9 m c y).trans ?_
  have e7 := (congrArg (X5 m c ⟨0, zero_lt⟩) (show y = ix2 0 (y 1) from by blk_ext)).trans (row5 m c ⟨0, zero_lt⟩ (y 1))
  refine (congrArg (· + _) e7).trans ?_
  rw [zero_add, dg_at]
  refine Fin.sum_mul_add_congr (n := 528) fun s a hl => ?_
  have hs : 10 * s.val + 9 < cfg0.N := by have := s.isLt; omega
  exact Norm.dg_congr (row2 m c ⟨10 * s.val + 9, hs⟩ a ⟨s * 528 + a, hl⟩ (by show s.val * 528 + a.val = (10 * s.val + 9) / 10 * 528 + a.val; omega)) (fun k => acc_last m c ⟨10 * s.val + 9, hs⟩ (by show (10 * s.val + 9) % 10 = 9; omega) a ⟨s * 528 + a, hl⟩ (by show s.val * 528 + a.val = (10 * s.val + 9) / 10 * 528 + a.val; omega) k k rfl) (Fin.ext e1.symm)

theorem final11 : (dats m 0 c).arrAt 11 (cfgs 0).N = DG (A5 m c) (HALVED (HO m c)) := by
  refine (dats m 0 c).arrAt_eq_of_covers 11 _ (by decide +kernel) fun t hf y => ?_
  have hN : cfg0.N = 80 := N_0
  have ht : t.val = 79 := by have := (flush0_11 t).mp hf; have := t.isLt; omega
  have e1 : (((cfg0.win 11).blk t).view.emb y 1).val = (y 1).val := by blk_simp [idx t]
  blk_simp
  rw [after0_11]
  obtain ⟨n, hn⟩ := t
  have ht' : n = 79 := ht
  subst ht'
  refine (total11 m c y).trans ?_
  rw [zero_add, dg_at]
  refine Fin.sum_mul_add_congr (n := 528) fun s a hl => ?_
  have hs : 10 * s.val + 9 < cfg0.N := by have := s.isLt; omega
  refine Norm.dg_congr (p := fun k => Norm.onehalf * k0_pay13 (X2 m c ⟨10 * s.val + 9, hs⟩) (X3 m c ⟨10 * s.val + 9, hs⟩) (st m c (10 * s.val + 9) hs).acc (X4 m c ⟨10 * s.val + 9, hs⟩) (ix2 a k))
    (p' := fun k => HALVED (HO m c) (ix2 ⟨s * 528 + a, hl⟩ k)) (row6 m c ⟨10 * s.val + 9, hs⟩ a ⟨s * 528 + a, hl⟩ (by show s.val * 528 + a.val = (10 * s.val + 9) / 10 * 528 + a.val; omega)) (fun k => ?_) (Fin.ext e1.symm)
  rw [halved_at]
  exact congrArg (Norm.onehalf * ·) (rows_last m c ⟨10 * s.val + 9, hs⟩ (by show (10 * s.val + 9) % 10 = 9; omega) a ⟨s * 528 + a, hl⟩ (by show s.val * 528 + a.val = (10 * s.val + 9) / 10 * 528 + a.val; omega) k k rfl)

/-! ## The run -/

/-- The kernel's run, its results named. -/
theorem run_blocks (ρ : Dev nD → PrngReg) : θ_run defs (onTc (τ := τ) (main (F := Ideal))) ⟨m, fun _ => 0, ρ⟩ fun r => ∀ c : Dev nD,
    r.2.mem ((c.tc : Thread nD τ).loc main_v1_0) = (dats m 0 c).arrAt 8 cfg0.N
      ∧ r.2.mem ((c.tc : Thread nD τ).loc main_v1_1) = (dats m 0 c).arrAt 9 cfg0.N
      ∧ r.2.mem ((c.tc : Thread nD τ).loc main_v1_2) = (dats m 0 c).arrAt 10 cfg0.N
      ∧ r.2.mem ((c.tc : Thread nD τ).loc main_v1_3) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1 8, (h c).1 9, (h c).1 10, (h c).1 11,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 6).trans (((dats m 0 c).arrAt_in 6 rfl _).trans ((A_eq m c 6).trans (V_main_arg5 m c))),
    ((h c).1 7).trans (((dats m 0 c).arrAt_in 7 rfl _).trans ((A_eq m c 7).trans (V_main_arg6 m c)))⟩) (run_main m ρ)

end Cert.MdxIdeal.Value

end
-- ==== Proof.MdxClaims.lean ====
/-
  Hand-written, untrusted. The claims about `Mdx`, proved: the frames from `Proof/MdxFrame.lean`, and the value claim from `Proof/MdxValue.lean`.
-/
module

public import proofs.«01_k».proof.Defs
public import proofs.«01_k».proof.Proof.Gen.Mdx
public import proofs.«01_k».proof.Proof.Gen.MdxRefIdeal.Run
public import proofs.«01_k».proof.Proof.MdxRef
public import proofs.«01_k».proof.Proof.MdxValue

@[expose] public section

set_option maxRecDepth 16384

noncomputable section

namespace Cert.Proof.Mdx

open Idealize.ShloMosaic Idealize.ShloMosaic.TcCoe Idealize.SL.Sem
open Cert.MdxRefIdeal.Arrays (DN DX DG DF HALVED)

/-! ## The frames

The printed kernel and its idealisation have the same text, so the frame proved for every interpretation of the floats serves both. -/

theorem defs₀_eq : Cert.Mdx.defs₀ (F := Bits) = Cert.MdxIdeal.defs₀ (F := Bits) := by
  refine congrArg Defs.onTc ?_
  funext l x
  match l, x with
  | 0, (t, s) => rfl
  | ⟨n + 1, h⟩, _ => exact absurd h (Nat.not_lt.2 (Nat.le_add_left _ _))

theorem defs_eq : Cert.Mdx.defs (F := Bits) = Cert.MdxIdeal.defs (F := Bits) := congrArg (Pipeline.defs Cert.MdxIdeal.pcfgs) defs₀_eq

theorem kernel : Cert.quiescent_Mdx (hMdx := Cert.Mdx.Gen.facts) := fun m ρ _ => by
  have e := Cert.MdxIdeal.Run.frame (F := Bits) m ρ
  rw [← defs_eq] at e
  exact e

theorem ideal : Cert.quiescent_MdxIdeal (hMdxIdeal := Cert.MdxIdeal.Gen.facts) := fun m ρ _ => Cert.MdxIdeal.Run.frame (F := Ideal) m ρ

theorem reference : Cert.quiescent_MdxRefIdeal (hMdxRefIdeal := Cert.MdxRefIdeal.Gen.facts) := fun m ρ _ =>
  (θ_run Cert.MdxRefIdeal.defs _ _).mono (fun r h => ⟨fun c => (h c).2.2.2.2, sem_eq_zero_of_no_sems (by decide) r.2⟩)
    (Cert.MdxRefIdeal.Value.run (F := Ideal) m ρ)

/-! ## The values -/

/-! The reference's results are the arrays of `Proof/MdxRef.lean`. -/

theorem ref0 (m' : (ℓ : Loc Cert.MdxRefIdeal.nD Cert.MdxRefIdeal.τ Cert.MdxRefIdeal.sig) → Buf (Elt Ideal) ℓ) (c : Dev Cert.MdxRefIdeal.nD) :
    Cert.MdxRefIdeal.Value.res_main_v42 m' c = DX (m' ((c : Thread Cert.MdxRefIdeal.nD Cert.MdxRefIdeal.τ).loc Cert.MdxRefIdeal.main_arg2)) (m' ((c : Thread Cert.MdxRefIdeal.nD Cert.MdxRefIdeal.τ).loc Cert.MdxRefIdeal.main_arg3)) (DN (m' ((c : Thread Cert.MdxRefIdeal.nD Cert.MdxRefIdeal.τ).loc Cert.MdxRefIdeal.main_arg0)) (m' ((c : Thread Cert.MdxRefIdeal.nD Cert.MdxRefIdeal.τ).loc Cert.MdxRefIdeal.main_arg1))) (m' ((c : Thread Cert.MdxRefIdeal.nD Cert.MdxRefIdeal.τ).loc Cert.MdxRefIdeal.main_arg4)) := rfl

theorem ref2 (m' : (ℓ : Loc Cert.MdxRefIdeal.nD Cert.MdxRefIdeal.τ Cert.MdxRefIdeal.sig) → Buf (Elt Ideal) ℓ) (c : Dev Cert.MdxRefIdeal.nD) :
    Cert.MdxRefIdeal.Value.res_main_v86 m' c = DF (m' ((c : Thread Cert.MdxRefIdeal.nD Cert.MdxRefIdeal.τ).loc Cert.MdxRefIdeal.main_arg5)) (m' ((c : Thread Cert.MdxRefIdeal.nD Cert.MdxRefIdeal.τ).loc Cert.MdxRefIdeal.main_arg6)) (HALVED (DX (m' ((c : Thread Cert.MdxRefIdeal.nD Cert.MdxRefIdeal.τ).loc Cert.MdxRefIdeal.main_arg2)) (m' ((c : Thread Cert.MdxRefIdeal.nD Cert.MdxRefIdeal.τ).loc Cert.MdxRefIdeal.main_arg3)) (DN (m' ((c : Thread Cert.MdxRefIdeal.nD Cert.MdxRefIdeal.τ).loc Cert.MdxRefIdeal.main_arg0)) (m' ((c : Thread Cert.MdxRefIdeal.nD Cert.MdxRefIdeal.τ).loc Cert.MdxRefIdeal.main_arg1))) (m' ((c : Thread Cert.MdxRefIdeal.nD Cert.MdxRefIdeal.τ).loc Cert.MdxRefIdeal.main_arg4)))) := rfl

theorem ref3 (m' : (ℓ : Loc Cert.MdxRefIdeal.nD Cert.MdxRefIdeal.τ Cert.MdxRefIdeal.sig) → Buf (Elt Ideal) ℓ) (c : Dev Cert.MdxRefIdeal.nD) :
    Cert.MdxRefIdeal.Value.res_main_v85 m' c = DG (m' ((c : Thread Cert.MdxRefIdeal.nD Cert.MdxRefIdeal.τ).loc Cert.MdxRefIdeal.main_arg5)) (HALVED (DX (m' ((c : Thread Cert.MdxRefIdeal.nD Cert.MdxRefIdeal.τ).loc Cert.MdxRefIdeal.main_arg2)) (m' ((c : Thread Cert.MdxRefIdeal.nD Cert.MdxRefIdeal.τ).loc Cert.MdxRefIdeal.main_arg3)) (DN (m' ((c : Thread Cert.MdxRefIdeal.nD Cert.MdxRefIdeal.τ).loc Cert.MdxRefIdeal.main_arg0)) (m' ((c : Thread Cert.MdxRefIdeal.nD Cert.MdxRefIdeal.τ).loc Cert.MdxRefIdeal.main_arg1))) (m' ((c : Thread Cert.MdxRefIdeal.nD Cert.MdxRefIdeal.τ).loc Cert.MdxRefIdeal.main_arg4)))) := rfl

/-- From equal arguments the kernel and the reference end with equal results. -/
theorem value : Cert.algebraic_MdxIdeal_MdxRefIdeal (hMdxIdeal := Cert.MdxIdeal.Gen.facts) (hMdxRefIdeal := Cert.MdxRefIdeal.Gen.facts) := by
  intro m g m' g' _ hargs
  refine ⟨_, _, _, _, Cert.MdxIdeal.Value.run_blocks m g, ?_⟩
  refine (θ_run Cert.MdxRefIdeal.defs _ _).mono (fun r h c => ⟨(h c).1.trans ?_, (h c).2.1.trans ?_, (h c).2.2.1.trans ?_, (h c).2.2.2.1.trans ?_, (h c).2.2.2.2⟩) (Cert.MdxRefIdeal.Value.run (F := Ideal) m' g')
  · refine (ref0 m' c).trans ?_
    try rw [(hargs c).1]
    try rw [(hargs c).2.1]
    try rw [(hargs c).2.2.1]
    try rw [(hargs c).2.2.2.1]
    try rw [(hargs c).2.2.2.2.1]
    try rw [(hargs c).2.2.2.2.2.1]
    try rw [(hargs c).2.2.2.2.2.2]
    exact (Cert.MdxIdeal.Value.final8 m c).symm
  · show DG (m' ((c : Thread Cert.MdxRefIdeal.nD Cert.MdxRefIdeal.τ).loc Cert.MdxRefIdeal.main_arg2)) (DN (m' ((c : Thread Cert.MdxRefIdeal.nD Cert.MdxRefIdeal.τ).loc Cert.MdxRefIdeal.main_arg0)) (m' ((c : Thread Cert.MdxRefIdeal.nD Cert.MdxRefIdeal.τ).loc Cert.MdxRefIdeal.main_arg1))) = _
    try rw [(hargs c).1]
    try rw [(hargs c).2.1]
    try rw [(hargs c).2.2.1]
    try rw [(hargs c).2.2.2.1]
    try rw [(hargs c).2.2.2.2.1]
    try rw [(hargs c).2.2.2.2.2.1]
    try rw [(hargs c).2.2.2.2.2.2]
    exact (Cert.MdxIdeal.Value.final9 m c).symm
  · refine (ref2 m' c).trans ?_
    try rw [(hargs c).1]
    try rw [(hargs c).2.1]
    try rw [(hargs c).2.2.1]
    try rw [(hargs c).2.2.2.1]
    try rw [(hargs c).2.2.2.2.1]
    try rw [(hargs c).2.2.2.2.2.1]
    try rw [(hargs c).2.2.2.2.2.2]
    exact (Cert.MdxIdeal.Value.final10 m c).symm
  · refine (ref3 m' c).trans ?_
    try rw [(hargs c).1]
    try rw [(hargs c).2.1]
    try rw [(hargs c).2.2.1]
    try rw [(hargs c).2.2.2.1]
    try rw [(hargs c).2.2.2.2.1]
    try rw [(hargs c).2.2.2.2.2.1]
    try rw [(hargs c).2.2.2.2.2.2]
    exact (Cert.MdxIdeal.Value.final11 m c).symm

end Cert.Proof.Mdx

end
-- ==== Proof.FdnRef.lean ====
/-
  Hand-written, untrusted. The reference's arrays for ffn1_down: the product `f`, the rows `h` with `0.5 * norm f` added to them, and their norm,
  and what each is at an index.
-/
module

public import proofs.«01_k».proof.Proof.Gen.FdnRefIdeal.Run
public import proofs.«01_k».proof.Proof.Norm
public import Idealize.ShloMosaic.Lib.Pipeline.ValueKit

@[expose] public section

set_option maxRecDepth 16384

noncomputable section

open Idealize.ShloMosaic Idealize.ShloMosaic.TcCoe

namespace Cert.FdnRefIdeal.Arrays

open Cert.FdnRefIdeal Cert.FdnRefIdeal.Gen

/-- The product. -/
def PROD (a : FVec Ideal S4224x5632 .bf16) (w : FVec Ideal S5632x2048 .bf16) : FVec Ideal S4224x2048 .f32 :=
  Host.dotGeneral dot_S4224x5632_S5632x2048_S4224x2048_1_0_0_1_n_n none (extf .f32 a bitsLt_bf16_f32) (extf .f32 w bitsLt_bf16_f32)

/-- The reciprocal roots of the mean squares. -/
def RSTD (x : FVec Ideal S4224x2048 .f32) : FVec Ideal S4224x1 .f32 :=
  Host.rsqrt (addf (Host.divf (broadcastInDim S4224x1 ![0] bcast_S4224_S4224x1_0 (Host.reduceAdd (mulf x x) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))

/-- The norm of the rows. -/
def NORM (x : FVec Ideal S4224x2048 .f32) (g : FVec Ideal S1x2048 .f32) : FVec Ideal S4224x2048 .f32 :=
  mulf (mulf x (broadcastInDim S4224x2048 ![0, 1] bcast_S4224x1_S4224x2048_0_1 (RSTD x))) (broadcastInDim S4224x2048 ![0, 1] bcast_S1x2048_S4224x2048_0_1 (broadcastInDim S1x2048 ![1] bcast_S2048_S1x2048_1 (shapeCast _ g shapeCasts_S1x2048_S2048)))

/-- The rows with the norm of the product added. -/
def RES (f h : FVec Ideal S4224x2048 .f32) (g : FVec Ideal S1x2048 .f32) : FVec Ideal S4224x2048 .f32 :=
  addf h (mulf (broadcastInDim S4224x2048 ![] bcast_S_S4224x2048 (constant S_ .f32 0x3F000000#32)) (NORM f g))

/-- The norm of the rows, rounded. -/
def OUT (h : FVec Ideal S4224x2048 .f32) (g : FVec Ideal S1x2048 .f32) : FVec Ideal S4224x2048 .bf16 := truncf .bf16 (NORM h g) bitsLt_bf16_f32

theorem prod_at (a w i) : PROD a w i = ∑ k : Fin 5632, a (ix2 (i 0) k) * w (ix2 k (i 1)) := by
  pointwise [PROD]

theorem rstd_at (x i) : RSTD x i = Norm.rstd fun k => x (ix2 (i 0) k) := by
  pointwise [RSTD]
  rfl

theorem norm_at (x g i) : NORM x g i = Norm.nrm (fun k => x (ix2 (i 0) k)) (fun k => g (ix2 0 k)) (i 1) := by
  pointwise [NORM, rstd_at, Norm.nrm]
  blk_ext

theorem res_at (f h g i) : RES f h g i = h i + Norm.onehalf * Norm.nrm (fun k => f (ix2 (i 0) k)) (fun k => g (ix2 0 k)) (i 1) := by
  pointwise [RES, norm_at, Norm.onehalf]

theorem out_at (h g i) : OUT h g i = Norm.nrm (fun k => h (ix2 (i 0) k)) (fun k => g (ix2 0 k)) (i 1) := norm_at h g i

end Cert.FdnRefIdeal.Arrays

end
-- ==== Proof.FdnRun.lean ====
/-
  Hand-written, untrusted. ONE RUN OF THE BODY of `ffn1_down`, whatever its blocks hold: the inputs stay, the accumulator, zeroed at the first tile
  of the contraction, gains the product of the two blocks, and the results' blocks hold what `new5` to `new7` say.
-/
module

public import proofs.«01_k».proof.Proof.Gen.FdnIdeal.Frame
public import proofs.«01_k».proof.Proof.Gen.FdnIdeal.Skeleton
public import Idealize.ShloMosaic.Lib.WritesUnit
public import Idealize.ShloMosaic.Lib.Pipeline.FrameBody
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.FdnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FdnIdeal.Gen

variable {F : FTy → Type} [FloatOps F]

local notation "𝕄" => MT nD τ sig Unit (Elt F) ℕ (UR sig nD τ) ℕ

/-- There is one row of blocks in a group, so that every access to the accumulator is at its start. -/
theorem off1 (i : grid0.Coords) : k0_off1 i = ![0, 0, 0] := by
  rw [k0_off1_eq, show (i 2).val = 0 from Nat.lt_one_iff.mp (i 2).isLt]
theorem off2 (i : grid0.Coords) : k0_off2 i = ![0, 0, 0] := by
  rw [k0_off2_eq, show (i 2).val = 0 from Nat.lt_one_iff.mp (i 2).isLt]
theorem off3 (i : grid0.Coords) : k0_off3 i = ![0, 0, 0] := by
  rw [k0_off3_eq, show (i 2).val = 0 from Nat.lt_one_iff.mp (i 2).isLt]

/-- A store over a whole buffer is what is read back, whatever was stored before. -/
theorem read_whole {sp : Space} {s : Shape} {e : EltTy} (v : View sig .tc sp s e) (f : v.ty.Contents (Elt F))
    {off : Fin s.rank → ℕ} (inb : ∀ a, off a + s.size a ≤ s.size a) (w : s.Idx → Elt F e)
    (L : List (View.Piece (Elt F) s e)) (h : ∀ j, off j = 0) :
    v.read (Elt F) (v.writes (Elt F) f ((⟨Rect.unit off (no_index s.size) inb, w⟩ : View.Piece (Elt F) s e) :: L)) = w := by
  funext y
  exact View.read_writes_cons_unit_of_mem v f inb w L y y (funext h) fun a => (Nat.zero_add _).symm

variable (i : grid0.Coords)

/-- The accumulator after a point, from what it holds before. -/
def newAcc (x0 : Vec F S528x512 .bf16) (x1 : Vec F S512x2048 .bf16) (a : Vec F S1x528x2048 .f32) : Vec F S1x528x2048 .f32 :=
  k0_pay2 (if k0_cond1 i = 1#1 then k0_pay1 else a) x0 x1

/-- The block of rows of result 0: formed at the last tile of the contraction. -/
def new5 (x0 : Vec F S528x512 .bf16) (x1 : Vec F S512x2048 .bf16) (x2 : Vec F S528x2048 .f32) (x3 : Vec F S1x2048 .f32) (x4 : Vec F S1x2048 .f32) (o5 : Vec F S528x2048 .f32) (a : Vec F S1x528x2048 .f32) : Vec F S528x2048 .f32 :=
  if k0_cond2 i = 1#1 then k0_pay3 (newAcc i x0 x1 a) else o5

/-- The block of rows of result 1: formed at the last tile of the contraction. -/
def new6 (x0 : Vec F S528x512 .bf16) (x1 : Vec F S512x2048 .bf16) (x2 : Vec F S528x2048 .f32) (x3 : Vec F S1x2048 .f32) (x4 : Vec F S1x2048 .f32) (o6 : Vec F S528x2048 .f32) (a : Vec F S1x528x2048 .f32) : Vec F S528x2048 .f32 :=
  if k0_cond2 i = 1#1 then k0_pay4 (newAcc i x0 x1 a) x2 x3 else o6

/-- The block of rows of result 2: formed at the last tile of the contraction. -/
def new7 (x0 : Vec F S528x512 .bf16) (x1 : Vec F S512x2048 .bf16) (x2 : Vec F S528x2048 .f32) (x3 : Vec F S1x2048 .f32) (x4 : Vec F S1x2048 .f32) (o7 : Vec F S528x2048 .bf16) (a : Vec F S1x528x2048 .f32) : Vec F S528x2048 .bf16 :=
  if k0_cond2 i = 1#1 then k0_pay5 (newAcc i x0 x1 a) x2 x3 x4 else o7

variable
  (arg3 : Memref sig .tc .vmem S528x512 .bf16) (harg3 : arg3.IsWhole)
  (arg4 : Memref sig .tc .vmem S512x2048 .bf16) (harg4 : arg4.IsWhole)
  (arg5 : Memref sig .tc .vmem S528x2048 .f32) (harg5 : arg5.IsWhole)
  (arg6 : Memref sig .tc .vmem S1x2048 .f32) (harg6 : arg6.IsWhole)
  (arg7 : Memref sig .tc .vmem S1x2048 .f32) (harg7 : arg7.IsWhole)
  (arg8 : Memref sig .tc .vmem S528x2048 .f32) (harg8 : arg8.IsWhole)
  (arg9 : Memref sig .tc .vmem S528x2048 .f32) (harg9 : arg9.IsWhole)
  (arg10 : Memref sig .tc .vmem S528x2048 .bf16) (harg10 : arg10.IsWhole)
  (arg11 : Memref sig .tc .vmem S1x528x2048 .f32) (harg11 : arg11.IsWhole)
  (x0 : Vec F S528x512 .bf16) (x1 : Vec F S512x2048 .bf16) (x2 : Vec F S528x2048 .f32) (x3 : Vec F S1x2048 .f32) (x4 : Vec F S1x2048 .f32)
  (o5 : Vec F S528x2048 .f32) (o6 : Vec F S528x2048 .f32) (o7 : Vec F S528x2048 .bf16) (a : Vec F S1x528x2048 .f32)

set_option maxHeartbeats 1600000 in
/-- The body run on whole buffers, each of its conditions holding or not. -/
theorem run (c : Dev nD) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ owns (c : Thread nD τ) arg8 fullShare o5 ∗ owns (c : Thread nD τ) arg9 fullShare o6 ∗ owns (c : Thread nD τ) arg10 fullShare o7 ∗ owns (c : Thread nD τ) arg11 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (new5 i x0 x1 x2 x3 x4 o5 a) ∗ owns (c : Thread nD τ) arg9 fullShare (new6 i x0 x1 x2 x3 x4 o6 a) ∗ owns (c : Thread nD τ) arg10 fullShare (new7 i x0 x1 x2 x3 x4 o7 a)
            ∗ owns (c : Thread nD τ) arg11 fullShare (newAcc i x0 x1 a)) -∗ K ⟨⟩))
      ⊢ wp frame (wpE (defs₀ (F := F)) Variants.none c none) E (cc0_ffn1_down i arg3 harg3 arg4 harg4 arg5 harg5 arg6 harg6 arg7 harg7 arg8 harg8 arg9 harg9 arg10 harg10 arg11 harg11) K := by
  simp only [cc0_ffn1_down_eq_skeleton]; unfold cc0_ffn1_down_skel
  simp only [k0_part1_eq_skeleton, off1, off2, off3]
  unfold new5 new6 new7 newAcc
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  by_cases h1 : k0_cond1 i = 1#1 <;> by_cases h2 : k0_cond2 i = 1#1 <;>
    simp only [h1, h2, if_true, if_false]
  all_goals
    sl_exec (disch := first | sl_exact h1 | sl_exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      first
        | with_reducible exact hf5
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    isplitl [H6]
    · iexists _; isplitr; swap; · iexact H6
      ipureintro
      first
        | with_reducible exact hf6
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    isplitl [H7]
    · iexists _; isplitr; swap; · iexact H7
      ipureintro
      first
        | with_reducible exact hf7
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    iexists _; isplitr; swap; · iexact H8
    ipureintro
    frame_open
    simp (disch := first | (intro j; simp only [off1, off2, off3]; revert j; decide) | decide) only [read_whole,
             View.ld_unit_lit', View.readCov_unit_lit', View.readCov_cons_unit_lit', View.readAt_eq_ld,
             Memref.IsWhole.read_unread]

end Cert.FdnIdeal.Run

end
-- ==== Proof.FdnFrame.lean ====
/-
  Hand-written, untrusted. THE FRAME of `ffn1_down`: the blocks after each of its 88 points by recursion over the points (`st`), the body's
  obligation from the run of Proof/FdnRun.lean, and the launch.
-/
module

public import proofs.«01_k».proof.Proof.FdnRun

@[expose] public section

set_option maxRecDepth 16384

noncomputable section

namespace Cert.FdnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.FdnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points meet the body's conditions, and where the results' blocks are written -/

theorem start_iff : ∀ t : Fin cfg0.N, k0_cond1 (grid0.coords t) = 1#1 ↔ t.val % 11 = 0 := by decide +kernel
theorem last_iff : ∀ t : Fin cfg0.N, k0_cond2 (grid0.coords t) = 1#1 ↔ t.val % 11 = 10 := by decide +kernel

theorem idle5 : ∀ t : Fin cfg0.N, ¬k0_cond2 (grid0.coords t) = 1#1 →
    cfg0.idle 5 (grid0.coords t) = true ∧ (cfg0.win 5).flush t = false := by decide +kernel
theorem live5 : ∀ t : Fin cfg0.N, k0_cond2 (grid0.coords t) = 1#1 → cfg0.idle 5 (grid0.coords t) = false := by decide +kernel
theorem idle6 : ∀ t : Fin cfg0.N, ¬k0_cond2 (grid0.coords t) = 1#1 →
    cfg0.idle 6 (grid0.coords t) = true ∧ (cfg0.win 6).flush t = false := by decide +kernel
theorem live6 : ∀ t : Fin cfg0.N, k0_cond2 (grid0.coords t) = 1#1 → cfg0.idle 6 (grid0.coords t) = false := by decide +kernel
theorem idle7 : ∀ t : Fin cfg0.N, ¬k0_cond2 (grid0.coords t) = 1#1 →
    cfg0.idle 7 (grid0.coords t) = true ∧ (cfg0.win 7).flush t = false := by decide +kernel
theorem live7 : ∀ t : Fin cfg0.N, k0_cond2 (grid0.coords t) = 1#1 → cfg0.idle 7 (grid0.coords t) = false := by decide +kernel

/-! ## The blocks after each point -/

/-- The results' blocks and the accumulator. -/
structure St (F : FTy → Type) [FloatOps F] where
  o5 : Vec F S528x2048 .f32
  o6 : Vec F S528x2048 .f32
  o7 : Vec F S528x2048 .bf16
  acc : Vec F S1x528x2048 .f32

/-- One point: from the blocks before it, those after it. -/
def step (c : Dev nD) (t : Fin cfg0.N) (p : St F) : St F where
  o5 := new5 (grid0.coords t) (iblk m c 0 t) (iblk m c 1 t) (iblk m c 2 t) (iblk m c 3 t) (iblk m c 4 t) p.o5 p.acc
  o6 := new6 (grid0.coords t) (iblk m c 0 t) (iblk m c 1 t) (iblk m c 2 t) (iblk m c 3 t) (iblk m c 4 t) p.o6 p.acc
  o7 := new7 (grid0.coords t) (iblk m c 0 t) (iblk m c 1 t) (iblk m c 2 t) (iblk m c 3 t) (iblk m c 4 t) p.o7 p.acc
  acc := newAcc (grid0.coords t) (iblk m c 0 t) (iblk m c 1 t) p.acc

/-- The blocks after point `n`; what the first point starts from does not matter. -/
def st (c : Dev nD) : (n : ℕ) → n < cfg0.N → St F
  | 0, h => step m c ⟨0, h⟩ ⟨constant S528x2048 .f32 0x0#32, constant S528x2048 .f32 0x0#32, constant S528x2048 .bf16 0x0#16, constant S1x528x2048 .f32 0x0#32⟩
  | n + 1, h => step m c ⟨n + 1, h⟩ (st c n (Nat.lt_of_succ_lt h))

theorem st_pos (c : Dev nD) (t : Fin cfg0.N) (h : t.val ≠ 0) :
    (st m c t.val t.isLt) = step m c t (st m c (t.val - 1) (by omega)) := by
  obtain ⟨n, hn⟩ := t
  cases n with
  | zero => exact absurd rfl h
  | succ n => rfl

/-- The accumulator after a point: at the first point of a row of blocks it does not matter what it held before. -/
theorem st_acc (c : Dev nD) (t : Fin cfg0.N) (a : Vec F S1x528x2048 .f32)
    (ha : (h : t.val ≠ 0) → a = (st m c (t.val - 1) (by omega)).acc) :
    newAcc (grid0.coords t) (iblk m c 0 t) (iblk m c 1 t) a = (st m c t.val t.isLt).acc := by
  by_cases h : t.val = 0
  · obtain ⟨n, hn⟩ := t
    cases n with
    | zero =>
      have h2 : k0_cond1 (grid0.coords ⟨0, hn⟩) = 1#1 := (start_iff ⟨0, hn⟩).mpr (Nat.zero_mod _)
      show newAcc _ _ _ a = newAcc _ _ _ _
      unfold newAcc
      rw [if_pos h2, if_pos h2]
    | succ n => exact absurd h (Nat.succ_ne_zero n)
  · rw [ha h, st_pos m c t h]
    rfl

/-! The results' blocks: those of rows after the last point of a row of blocks. -/

theorem st_row5 (c : Dev nD) (t : Fin cfg0.N) (h3 : k0_cond2 (grid0.coords t) = 1#1) :
    (st m c t.val t.isLt).o5 = k0_pay3 (st m c t.val t.isLt).acc := by
  have h : t.val ≠ 0 := by have := (last_iff t).mp h3; omega
  rw [st_pos m c t h]
  dsimp only [step]
  unfold new5
  rw [if_pos h3]

theorem st_row6 (c : Dev nD) (t : Fin cfg0.N) (h3 : k0_cond2 (grid0.coords t) = 1#1) :
    (st m c t.val t.isLt).o6 = k0_pay4 (st m c t.val t.isLt).acc (iblk m c 2 t) (iblk m c 3 t) := by
  have h : t.val ≠ 0 := by have := (last_iff t).mp h3; omega
  rw [st_pos m c t h]
  dsimp only [step]
  unfold new6
  rw [if_pos h3]

theorem st_row7 (c : Dev nD) (t : Fin cfg0.N) (h3 : k0_cond2 (grid0.coords t) = 1#1) :
    (st m c t.val t.isLt).o7 = k0_pay5 (st m c t.val t.isLt).acc (iblk m c 2 t) (iblk m c 3 t) (iblk m c 4 t) := by
  have h : t.val ≠ 0 := by have := (last_iff t).mp h3; omega
  rw [st_pos m c t h]
  dsimp only [step]
  unfold new7
  rw [if_pos h3]

/-! ## The pipeline's data -/

/-- The accumulator as a memref of its own. -/
abbrev acc : Memref sig .tc .vmem S1x528x2048 .f32 := Memref.whole cc0_scratch0

/-- Before the first point the accumulator holds anything, afterwards what the point before left. -/
def inv (c : Dev nD) : (n : ℕ) → n ≤ cfg0.N → sProp 𝕄
  | 0, _ => Pipeline.ΦA spec0 c
  | n + 1, h => iprop(owns (c : Thread nD τ) acc fullShare ((st m c n h).acc) ∗ (∃ r, prngReg c r))

theorem free_eq (c : Dev nD) : (Pipeline.ΦA spec0 c : sProp 𝕄)
    = iprop((∃ d, owns (c : Thread nD τ) acc fullShare d) ∗ (∃ r, prngReg c r)) := by
  unfold Pipeline.ΦA; rw [scopedRest0_eq]; simp only [acc, owns_whole]; try rfl

/-- The pipeline's data: the arrays as launched, each input's buffer at its block, the results' at `st`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (st m c t.val t.isLt).o5
    | ⟨6, _⟩ => (st m c t.val t.isLt).o6
    | ⟨7, _⟩ => (st m c t.val t.isLt).o7
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (st m c t.val t.isLt).o5 := by dsimp only [dats]
theorem after0_6 (c : Dev nD) (t : Fin cfg0.N) : (dats m 0 c).after 6 t = (st m c t.val t.isLt).o6 := by dsimp only [dats]
theorem after0_7 (c : Dev nD) (t : Fin cfg0.N) : (dats m 0 c).after 7 t = (st m c t.val t.isLt).o7 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body's obligation: what the run leaves in a result's block is what the data say of it -/

theorem leave5 (c : Dev nD) (t : Fin cfg0.N) (a : Vec F S1x528x2048 .f32) (ha : newAcc (grid0.coords t) (iblk m c 0 t) (iblk m c 1 t) a = (st m c t.val t.isLt).acc) (d) :
    owns (c : Thread nD τ) (win0_5.stage (cfg0.slots t 5)) fullShare (new5 (grid0.coords t) (iblk m c 0 t) (iblk m c 1 t) (iblk m c 2 t) (iblk m c 3 t) (iblk m c 4 t) ((dats m 0 c).before 5 t d) a)
      ⊢ (dats m 0 c).leavesExact 5 t := by
  by_cases h3 : k0_cond2 (grid0.coords t) = 1#1
  · rw [show (dats m 0 c).leavesExact 5 t = owns (c : Thread nD τ) (win0_5.stage (cfg0.slots t 5)) fullShare ((dats m 0 c).after 5 t) from by
      unfold Dat.leavesExact; rw [live5 t h3], after0_5, st_row5 m c t h3, ← ha]
    unfold new5
    rw [if_pos h3]
  · rw [Dat.leavesExact_idle (dats m 0 c) 5 t (idle5 t h3).1 (idle5 t h3).2]
    unfold new5
    rw [if_neg h3]
    iintro H
    iexists d
    iexact H

theorem leave6 (c : Dev nD) (t : Fin cfg0.N) (a : Vec F S1x528x2048 .f32) (ha : newAcc (grid0.coords t) (iblk m c 0 t) (iblk m c 1 t) a = (st m c t.val t.isLt).acc) (d) :
    owns (c : Thread nD τ) (win0_6.stage (cfg0.slots t 6)) fullShare (new6 (grid0.coords t) (iblk m c 0 t) (iblk m c 1 t) (iblk m c 2 t) (iblk m c 3 t) (iblk m c 4 t) ((dats m 0 c).before 6 t d) a)
      ⊢ (dats m 0 c).leavesExact 6 t := by
  by_cases h3 : k0_cond2 (grid0.coords t) = 1#1
  · rw [show (dats m 0 c).leavesExact 6 t = owns (c : Thread nD τ) (win0_6.stage (cfg0.slots t 6)) fullShare ((dats m 0 c).after 6 t) from by
      unfold Dat.leavesExact; rw [live6 t h3], after0_6, st_row6 m c t h3, ← ha]
    unfold new6
    rw [if_pos h3]
  · rw [Dat.leavesExact_idle (dats m 0 c) 6 t (idle6 t h3).1 (idle6 t h3).2]
    unfold new6
    rw [if_neg h3]
    iintro H
    iexists d
    iexact H

theorem leave7 (c : Dev nD) (t : Fin cfg0.N) (a : Vec F S1x528x2048 .f32) (ha : newAcc (grid0.coords t) (iblk m c 0 t) (iblk m c 1 t) a = (st m c t.val t.isLt).acc) (d) :
    owns (c : Thread nD τ) (win0_7.stage (cfg0.slots t 7)) fullShare (new7 (grid0.coords t) (iblk m c 0 t) (iblk m c 1 t) (iblk m c 2 t) (iblk m c 3 t) (iblk m c 4 t) ((dats m 0 c).before 7 t d) a)
      ⊢ (dats m 0 c).leavesExact 7 t := by
  by_cases h3 : k0_cond2 (grid0.coords t) = 1#1
  · rw [show (dats m 0 c).leavesExact 7 t = owns (c : Thread nD τ) (win0_7.stage (cfg0.slots t 7)) fullShare ((dats m 0 c).after 7 t) from by
      unfold Dat.leavesExact; rw [live7 t h3], after0_7, st_row7 m c t h3, ← ha]
    unfold new7
    rw [if_pos h3]
  · rw [Dat.leavesExact_idle (dats m 0 c) 7 t (idle7 t h3).1 (idle7 t h3).2]
    unfold new7
    rw [if_neg h3]
    iintro H
    iexists d
    iexact H

/-- The invariant hands over the accumulator at contents from which the point's own follow. -/
theorem inv_open (c : Dev nD) (t : Fin cfg0.N) :
    inv m c t.val (Nat.le_of_lt t.isLt) ⊢ iprop(∃ a, ⌜newAcc (grid0.coords t) (iblk m c 0 t) (iblk m c 1 t) a = (st m c t.val t.isLt).acc⌝
      ∗ owns (c : Thread nD τ) acc fullShare a ∗ (∃ r, prngReg c r)) := by
  obtain ⟨n, hn⟩ := t
  cases n with
  | zero =>
    rw [show inv m c (⟨0, hn⟩ : Fin cfg0.N).val (Nat.le_of_lt hn) = Pipeline.ΦA spec0 c from rfl, free_eq]
    iintro ⟨⟨%a, H⟩, Hg⟩
    iexists a
    isplitr
    · ipureintro; exact st_acc m c ⟨0, hn⟩ a fun h => absurd rfl h
    isplitl [H]; · iexact H
    iexact Hg
  | succ n =>
    rw [show inv m c (⟨n + 1, hn⟩ : Fin cfg0.N).val (Nat.le_of_lt hn)
      = iprop(owns (c : Thread nD τ) acc fullShare ((st m c n (Nat.lt_of_succ_lt hn)).acc) ∗ (∃ r, prngReg c r)) from rfl]
    iintro ⟨H, Hg⟩
    iexists _
    isplitr
    · ipureintro; exact st_acc m c ⟨n + 1, hn⟩ _ fun _ => rfl
    isplitl [H]; · iexact H
    iexact Hg

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.castSucc = inv m c t.val (Nat.le_of_lt t.isLt) from rfl,
    show (dats m 0 c).Φ t.succ = iprop(owns (c : Thread nD τ) acc fullShare ((st m c t.val t.isLt).acc) ∗ (∃ r, prngReg c r)) from rfl]
  rw [show (dats m 0 c).leavesExact 0 t = owns (c : Thread nD τ) (win0_0.stage (cfg0.slots t 0)) fullShare ((dats m 0 c).after 0 t) from by
    unfold Dat.leavesExact; rw [show cfg0.idle 0 (cfg0.grid.coords t) = false from rfl], after0_0]
  rw [show (dats m 0 c).leavesExact 1 t = owns (c : Thread nD τ) (win0_1.stage (cfg0.slots t 1)) fullShare ((dats m 0 c).after 1 t) from by
    unfold Dat.leavesExact; rw [show cfg0.idle 1 (cfg0.grid.coords t) = false from rfl], after0_1]
  rw [show (dats m 0 c).leavesExact 2 t = owns (c : Thread nD τ) (win0_2.stage (cfg0.slots t 2)) fullShare ((dats m 0 c).after 2 t) from by
    unfold Dat.leavesExact; rw [show cfg0.idle 2 (cfg0.grid.coords t) = false from rfl], after0_2]
  rw [show (dats m 0 c).leavesExact 3 t = owns (c : Thread nD τ) (win0_3.stage (cfg0.slots t 3)) fullShare ((dats m 0 c).after 3 t) from by
    unfold Dat.leavesExact; rw [show cfg0.idle 3 (cfg0.grid.coords t) = false from rfl], after0_3]
  rw [show (dats m 0 c).leavesExact 4 t = owns (c : Thread nD τ) (win0_4.stage (cfg0.slots t 4)) fullShare ((dats m 0 c).after 4 t) from by
    unfold Dat.leavesExact; rw [show cfg0.idle 4 (cfg0.grid.coords t) = false from rfl], after0_4]
  refine (sep_mono_left (inv_open m c t)).trans ?_
  iintro ⟨⟨%a, %ha, HA, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run (grid0.coords t) _ _ _ _ _ _ _ _ _ _ _ _ _ _ _ _ _ _ (iblk m c 0 t) (iblk m c 1 t) (iblk m c 2 t) (iblk m c 3 t) (iblk m c 4 t)
    ((dats m 0 c).before 5 t d5) ((dats m 0 c).before 6 t d6) ((dats m 0 c).before 7 t d7) a c Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexact HA
  rw [ha]
  iintro ⟨H0, H1, H2, H3, H4, H5, H6, H7, HA⟩
  isplitl [HA Hg]
  · isplitl [HA]; · iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (leave5 m c t a ha d5); iexact H5
  isplitl [H6]
  · iapply (leave6 m c t a ha d6); iexact H6
  iapply (leave7 m c t a ha d7); iexact H7

theorem row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N)
    = iprop(owns (c : Thread nD τ) acc fullShare ((st m c 87 (by rw [show cfg0.N = 88 from N_0]; omega)).acc) ∗ (∃ r, prngReg c r)) from rfl, free_eq]
  iintro ⟨H, Hg⟩
  isplitl [H]
  · iexists _; iexact H
  iexact Hg

/-! ## The launch -/

set_option backward.isDefEq.respectTransparency.types false in
/-- Every execution ends, with the arrays at what the data say and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiet m ρ))

end Cert.FdnIdeal.Run

end
-- ==== Proof.FdnValue.lean ====
/-
  Hand-written, untrusted. THE VALUES OF `ffn1_down`, block by block of 528 rows. The accumulator collects the product over the 11 blocks of 512 columns;
  at the last of them the body writes it, adds its norm to the rows, and writes them and their norm.
-/
module

public import proofs.«01_k».proof.Defs
public import proofs.«01_k».proof.Proof.FdnFrame
public import proofs.«01_k».proof.Proof.FdnRef

@[expose] public section

set_option maxRecDepth 16384

noncomputable section

open Idealize.ShloMosaic Idealize.ShloMosaic.TcCoe Idealize.SL.Sem
open Idealize.ShloMosaic.Pipeline (Dat)

namespace Cert.FdnIdeal.Value

open Cert.FdnIdeal Cert.FdnIdeal.Gen Cert.FdnIdeal.Run
open Cert.FdnRefIdeal.Arrays (PROD RES OUT prod_at res_at out_at)

/-! ## What the body computes, at an index -/

theorem pay1_at (i) : k0_pay1 (F := Ideal) i = 0 := by pointwise [k0_pay1]

theorem mul_at (a : Vec Ideal S1x528x2048 .f32) (x0 : Vec Ideal S528x512 .bf16) (x1 : Vec Ideal S512x2048 .bf16) (i) : k0_pay2 a x0 x1 i
    = a i + ∑ k : Fin 512, x0 (ix2 (i 1) k) * x1 (ix2 k (i 2)) := by
  pointwise [k0_pay2]

theorem pay3_at (a : Vec Ideal S1x528x2048 .f32) (i) : k0_pay3 a i = a (ix3 0 (i 0) (i 1)) := by
  pointwise [k0_pay3]

theorem pay4_at (a : Vec Ideal S1x528x2048 .f32) (h : Vec Ideal S528x2048 .f32) (g : Vec Ideal S1x2048 .f32) (i) : k0_pay4 a h g i
    = h i + Norm.onehalf * Norm.nrm (fun k => a (ix3 0 (i 0) k)) (fun k => g (ix2 0 k)) (i 1) := by
  pointwise [k0_pay4, pay3_at, Norm.nrm, Norm.rstd, Norm.var, Norm.onehalf]
  try rfl

theorem pay5_at (a : Vec Ideal S1x528x2048 .f32) (h : Vec Ideal S528x2048 .f32) (g g' : Vec Ideal S1x2048 .f32) (i) : k0_pay5 a h g g' i
    = Norm.nrm (fun k => k0_pay4 a h g (ix2 (i 0) k)) (fun k => g' (ix2 0 k)) (i 1) := by
  pointwise [k0_pay5, Norm.nrm, Norm.rstd, Norm.var]
  blk_ext

variable (m : (ℓ : Loc nD τ sig) → Buf (Elt Ideal) ℓ)

/-! ## The accumulator -/

/-- The inputs' blocks at a point. -/
abbrev X0 (c : Dev nD) (t : Fin cfg0.N) : Vec Ideal S528x512 .bf16 := iblk m c 0 t
abbrev X1 (c : Dev nD) (t : Fin cfg0.N) : Vec Ideal S512x2048 .bf16 := iblk m c 1 t
abbrev X2 (c : Dev nD) (t : Fin cfg0.N) : Vec Ideal S528x2048 .f32 := iblk m c 2 t
abbrev X3 (c : Dev nD) (t : Fin cfg0.N) : Vec Ideal S1x2048 .f32 := iblk m c 3 t
abbrev X4 (c : Dev nD) (t : Fin cfg0.N) : Vec Ideal S1x2048 .f32 := iblk m c 4 t

/-- What one point adds to the accumulator. -/
def term (c : Dev nD) (t : Fin cfg0.N) (i : S1x528x2048.Idx) : EReal := ∑ k : Fin 512, X0 m c t (ix2 (i 1) k) * X1 m c t (ix2 k (i 2))

theorem acc_start (c : Dev nD) (t : Fin cfg0.N) (h : t.val % 11 = 0) (i) : (st m c t.val t.isLt).acc i = 0 + term m c t i := by
  have h2 := (start_iff t).mpr h
  have e : ∀ a, newAcc (grid0.coords t) (iblk m c 0 t) (iblk m c 1 t) a = k0_pay2 (k0_pay1 (F := Ideal)) (iblk m c 0 t) (iblk m c 1 t) := fun a => by
    unfold newAcc
    rw [if_pos h2]
  have s : (st m c t.val t.isLt).acc = k0_pay2 (k0_pay1 (F := Ideal)) (iblk m c 0 t) (iblk m c 1 t) := by
    by_cases h0 : t.val = 0
    · exact (st_acc m c t (k0_pay1 (F := Ideal)) fun h' => absurd h0 h').symm.trans (e _)
    · exact (st_acc m c t (st m c (t.val - 1) (by omega)).acc fun _ => rfl).symm.trans (e _)
  rw [s, mul_at, pay1_at]
  rfl

theorem acc_step (c : Dev nD) (t : Fin cfg0.N) (h : ¬t.val % 11 = 0) (i) :
    (st m c t.val t.isLt).acc i = (st m c (t.val - 1) (Nat.lt_of_le_of_lt (Nat.sub_le _ _) t.isLt)).acc i + term m c t i := by
  have h2 : ¬k0_cond1 (grid0.coords t) = 1#1 := fun e => h ((start_iff t).mp e)
  have e : ∀ a, newAcc (grid0.coords t) (iblk m c 0 t) (iblk m c 1 t) a = k0_pay2 a (iblk m c 0 t) (iblk m c 1 t) := fun a => by
    unfold newAcc
    rw [if_neg h2]
  rw [((st_acc m c t (st m c (t.val - 1) (by omega)).acc fun _ => rfl).symm.trans (e _)), mul_at]
  rfl

/-! ## Block against array -/

/-- Where the blocks sit. -/
theorem idx : ∀ t : Fin cfg0.N, win0_0.index t = ![t.val / 11, t.val % 11] ∧ win0_1.index t = ![t.val % 11, 0] ∧ win0_2.index t = ![t.val / 11, 0]
    ∧ win0_3.index t = ![0, 0] ∧ win0_4.index t = ![0, 0] ∧ win0_5.index t = ![t.val / 11, 0] ∧ win0_6.index t = ![t.val / 11, 0]
    ∧ win0_7.index t = ![t.val / 11, 0] :=
  (by decide +kernel : ∀ t : Fin grid0.N, _)

variable (c : Dev nD)

abbrev A0 : FVec Ideal Cert.FdnRefIdeal.S4224x5632 .bf16 := m ((c : Thread nD τ).loc main_arg0)
abbrev A1 : FVec Ideal Cert.FdnRefIdeal.S5632x2048 .bf16 := m ((c : Thread nD τ).loc main_arg1)
abbrev A2 : FVec Ideal Cert.FdnRefIdeal.S4224x2048 .f32 := m ((c : Thread nD τ).loc main_arg2)
abbrev A3 : FVec Ideal Cert.FdnRefIdeal.S1x2048 .f32 := m ((c : Thread nD τ).loc main_arg3)
abbrev A4 : FVec Ideal Cert.FdnRefIdeal.S1x2048 .f32 := m ((c : Thread nD τ).loc main_arg4)

theorem row0 (t : Fin cfg0.N) (a : Fin 528) (b : Fin 4224) (h : b.val = t.val / 11 * 528 + a.val) (k : Fin 512) (l : Fin 5632)
    (hl : l.val = t.val % 11 * 512 + k.val) : X0 m c t (ix2 a k) = A0 m c (ix2 b l) := by
  unfold X0 iblk
  show View.read _ ((cfg0.win 0).blk t).view (V m c main_arg0) _ = _
  rw [V_main_arg0]
  blk_ext [A0, idx t]

theorem row1 (t : Fin cfg0.N) (k : Fin 512) (l : Fin 5632) (hl : l.val = t.val % 11 * 512 + k.val) (j j' : Fin 2048) (hj : j = j') :
    X1 m c t (ix2 k j) = A1 m c (ix2 l j') := by
  subst hj
  unfold X1 iblk
  show View.read _ ((cfg0.win 1).blk t).view (V m c main_arg1) _ = _
  rw [V_main_arg1]
  blk_ext [A1, idx t]

theorem row2 (t : Fin cfg0.N) (a : Fin 528) (b : Fin 4224) (h : b.val = t.val / 11 * 528 + a.val) (k : Fin 2048) :
    X2 m c t (ix2 a k) = A2 m c (ix2 b k) := by
  unfold X2 iblk
  show View.read _ ((cfg0.win 2).blk t).view (V m c main_arg2) _ = _
  rw [V_main_arg2]
  blk_ext [A2, idx t]

theorem row3 (t : Fin cfg0.N) (k : Fin 2048) : X3 m c t (ix2 0 k) = A3 m c (ix2 0 k) := by
  unfold X3 iblk
  show View.read _ ((cfg0.win 3).blk t).view (V m c main_arg3) _ = _
  rw [V_main_arg3]
  blk_ext [A3, idx t]

theorem row4 (t : Fin cfg0.N) (k : Fin 2048) : X4 m c t (ix2 0 k) = A4 m c (ix2 0 k) := by
  unfold X4 iblk
  show View.read _ ((cfg0.win 4).blk t).view (V m c main_arg4) _ = _
  rw [V_main_arg4]
  blk_ext [A4, idx t]

/-- The product, and the rows after it. -/
abbrev FO := PROD (A0 m c) (A1 m c)
abbrev HO := RES (FO m c) (A2 m c) (A3 m c)

/-- At the last point of a row of blocks the accumulator holds the product. -/
theorem acc_last (t : Fin cfg0.N) (h : t.val % 11 = 10) (a : Fin 528) (b : Fin 4224) (hb : b.val = t.val / 11 * 528 + a.val) (j j' : Fin 2048) (hj : j = j') :
    (st m c t.val t.isLt).acc (ix3 0 a j) = FO m c (ix2 b j') := by
  have ht : t.val < 88 := lt_of_lt_of_eq t.isLt N_0
  rw [Pipeline.eq_sum_fin_of_reset_step_apply_of_flush (fun n h => (st m c n h).acc) 11 (fun _ => 0) (term m c)
    (acc_start m c) (acc_step m c) t h _, zero_add]
  refine Eq.trans ?_ (prod_at _ _ _).symm
  refine Fin.sum_mul_add_congr fun s k hl => ?_
  exact congrArg₂ (· * ·) (row0 m c ⟨11 * (t.val / 11) + s.val, _⟩ a b (by show _ = (11 * (t.val / 11) + s.val) / 11 * 528 + _; omega) k ⟨s * 512 + k, hl⟩ (by show s.val * 512 + k.val = (11 * (t.val / 11) + s.val) % 11 * 512 + k.val; omega))
    (row1 m c ⟨11 * (t.val / 11) + s.val, _⟩ k ⟨s * 512 + k, hl⟩ (by show s.val * 512 + k.val = (11 * (t.val / 11) + s.val) % 11 * 512 + k.val; omega) j j' hj)

/-- There the body forms the rows with the product's norm added. -/
theorem rows_last (t : Fin cfg0.N) (h : t.val % 11 = 10) (a : Fin 528) (b : Fin 4224) (hb : b.val = t.val / 11 * 528 + a.val) (j j' : Fin 2048) (hj : j = j') :
    k0_pay4 (st m c t.val t.isLt).acc (X2 m c t) (X3 m c t) (ix2 a j) = HO m c (ix2 b j') := by
  subst hj
  refine (pay4_at _ _ _ _).trans (Eq.trans ?_ (res_at _ _ _ _).symm)
  refine congrArg₂ (· + ·) (row2 m c t a b hb j) ?_
  refine congrArg (Norm.onehalf * ·) ?_
  exact Norm.nrm_congr (fun k => acc_last m c t h a b hb k k rfl) (row3 m c t) rfl

/-! ## The results -/

theorem final5 : (dats m 0 c).arrAt 5 (cfgs 0).N = FO m c := by
  refine (dats m 0 c).arrAt_eq_of_covers 5 _ (by decide +kernel) fun t hf y => ?_
  have hl : t.val % 11 = 10 := (flush0_5 t).mp hf
  have e0 : (((cfg0.win 5).blk t).view.emb y 0).val = t.val / 11 * 528 + (y 0).val := by blk_simp [idx t]
  have e1 : (((cfg0.win 5).blk t).view.emb y 1).val = (y 1).val := by blk_simp [idx t]
  have ey : ix2 (((cfg0.win 5).blk t).view.emb y 0) (((cfg0.win 5).blk t).view.emb y 1) = ((cfg0.win 5).blk t).view.emb y := by blk_ext
  blk_simp
  rw [after0_5, st_row5 m c t ((last_iff t).mpr hl)]
  refine (pay3_at _ _).trans ?_
  exact (acc_last m c t hl (y 0) (((cfg0.win 5).blk t).view.emb y 0) e0 (y 1) (((cfg0.win 5).blk t).view.emb y 1) (Fin.ext e1.symm)).trans (congrArg _ ey)

theorem final6 : (dats m 0 c).arrAt 6 (cfgs 0).N = HO m c := by
  refine (dats m 0 c).arrAt_eq_of_covers 6 _ (by decide +kernel) fun t hf y => ?_
  have hl : t.val % 11 = 10 := (flush0_6 t).mp hf
  have e0 : (((cfg0.win 6).blk t).view.emb y 0).val = t.val / 11 * 528 + (y 0).val := by blk_simp [idx t]
  have e1 : (((cfg0.win 6).blk t).view.emb y 1).val = (y 1).val := by blk_simp [idx t]
  have ey : ix2 (((cfg0.win 6).blk t).view.emb y 0) (((cfg0.win 6).blk t).view.emb y 1) = ((cfg0.win 6).blk t).view.emb y := by blk_ext
  have hy : y = ix2 (y 0) (y 1) := by blk_ext
  blk_simp
  rw [after0_6, st_row6 m c t ((last_iff t).mpr hl)]
  refine (congrArg _ hy).trans ?_
  exact (rows_last m c t hl (y 0) (((cfg0.win 6).blk t).view.emb y 0) e0 (y 1) (((cfg0.win 6).blk t).view.emb y 1) (Fin.ext e1.symm)).trans (congrArg _ ey)

theorem final7 : (dats m 0 c).arrAt 7 (cfgs 0).N = OUT (HO m c) (A4 m c) := by
  refine (dats m 0 c).arrAt_eq_of_covers 7 _ (by decide +kernel) fun t hf y => ?_
  have hl : t.val % 11 = 10 := (flush0_7 t).mp hf
  have e0 : (((cfg0.win 7).blk t).view.emb y 0).val = t.val / 11 * 528 + (y 0).val := by blk_simp [idx t]
  have e1 : (((cfg0.win 7).blk t).view.emb y 1).val = (y 1).val := by blk_simp [idx t]
  blk_simp
  rw [after0_7, st_row7 m c t ((last_iff t).mpr hl)]
  refine (pay5_at _ _ _ _ _).trans (Eq.trans ?_ (out_at _ _ _).symm)
  exact Norm.nrm_congr (fun k => rows_last m c t hl (y 0) (((cfg0.win 7).blk t).view.emb y 0) e0 k k rfl) (row4 m c t) (Fin.ext e1.symm)

/-! ## The run -/

/-- The kernel's run, its three results named. -/
theorem run_blocks (ρ : Dev nD → PrngReg) : θ_run defs (onTc (τ := τ) (main (F := Ideal))) ⟨m, fun _ => 0, ρ⟩ fun r => ∀ c : Dev nD,
    r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1 5, (h c).1 6, (h c).1 7,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩) (run_main m ρ)

end Cert.FdnIdeal.Value

end
-- ==== Proof.FdnClaims.lean ====
/-
  Hand-written, untrusted. The claims about `Fdn`, proved: the frames from `Proof/FdnFrame.lean`, and the value claim from `Proof/FdnValue.lean`.
-/
module

public import proofs.«01_k».proof.Defs
public import proofs.«01_k».proof.Proof.Gen.Fdn
public import proofs.«01_k».proof.Proof.Gen.FdnRefIdeal.Run
public import proofs.«01_k».proof.Proof.FdnRef
public import proofs.«01_k».proof.Proof.FdnValue

@[expose] public section

set_option maxRecDepth 16384

noncomputable section

namespace Cert.Proof.Fdn

open Idealize.ShloMosaic Idealize.ShloMosaic.TcCoe Idealize.SL.Sem
open Cert.FdnRefIdeal.Arrays (PROD RES OUT)

/-! ## The frames

The printed kernel and its idealisation have the same text, so the frame proved for every interpretation of the floats serves both. -/

theorem defs₀_eq : Cert.Fdn.defs₀ (F := Bits) = Cert.FdnIdeal.defs₀ (F := Bits) := by
  refine congrArg Defs.onTc ?_
  funext l x
  match l, x with
  | 0, (t, s) => rfl
  | ⟨n + 1, h⟩, _ => exact absurd h (Nat.not_lt.2 (Nat.le_add_left _ _))

theorem defs_eq : Cert.Fdn.defs (F := Bits) = Cert.FdnIdeal.defs (F := Bits) := congrArg (Pipeline.defs Cert.FdnIdeal.pcfgs) defs₀_eq

theorem kernel : Cert.quiescent_Fdn (hFdn := Cert.Fdn.Gen.facts) := fun m ρ _ => by
  have e := Cert.FdnIdeal.Run.frame (F := Bits) m ρ
  rw [← defs_eq] at e
  exact e

theorem ideal : Cert.quiescent_FdnIdeal (hFdnIdeal := Cert.FdnIdeal.Gen.facts) := fun m ρ _ => Cert.FdnIdeal.Run.frame (F := Ideal) m ρ

theorem reference : Cert.quiescent_FdnRefIdeal (hFdnRefIdeal := Cert.FdnRefIdeal.Gen.facts) := fun m ρ _ =>
  (θ_run Cert.FdnRefIdeal.defs _ _).mono (fun r h => ⟨fun c => (h c).2.2.2, sem_eq_zero_of_no_sems (by decide) r.2⟩)
    (Cert.FdnRefIdeal.Value.run (F := Ideal) m ρ)

/-! ## The values -/

/-- The reference's last result is the norm of the rows. -/
theorem ref2 (m' : (ℓ : Loc Cert.FdnRefIdeal.nD Cert.FdnRefIdeal.τ Cert.FdnRefIdeal.sig) → Buf (Elt Ideal) ℓ) (c : Dev Cert.FdnRefIdeal.nD) :
    Cert.FdnRefIdeal.Value.res_main_v34 m' c = OUT (RES (PROD (m' ((c : Thread Cert.FdnRefIdeal.nD Cert.FdnRefIdeal.τ).loc Cert.FdnRefIdeal.main_arg0)) (m' ((c : Thread Cert.FdnRefIdeal.nD Cert.FdnRefIdeal.τ).loc Cert.FdnRefIdeal.main_arg1))) (m' ((c : Thread Cert.FdnRefIdeal.nD Cert.FdnRefIdeal.τ).loc Cert.FdnRefIdeal.main_arg2)) (m' ((c : Thread Cert.FdnRefIdeal.nD Cert.FdnRefIdeal.τ).loc Cert.FdnRefIdeal.main_arg3))) (m' ((c : Thread Cert.FdnRefIdeal.nD Cert.FdnRefIdeal.τ).loc Cert.FdnRefIdeal.main_arg4)) := rfl

/-- From equal arguments the kernel and the reference end with equal results. -/
theorem value : Cert.algebraic_FdnIdeal_FdnRefIdeal (hFdnIdeal := Cert.FdnIdeal.Gen.facts) (hFdnRefIdeal := Cert.FdnRefIdeal.Gen.facts) := by
  intro m g m' g' _ hargs
  refine ⟨_, _, _, Cert.FdnIdeal.Value.run_blocks m g, ?_⟩
  refine (θ_run Cert.FdnRefIdeal.defs _ _).mono (fun r h c => ⟨(h c).1.trans ?_, (h c).2.1.trans ?_, (h c).2.2.1.trans ?_, (h c).2.2.2⟩) (Cert.FdnRefIdeal.Value.run (F := Ideal) m' g')
  · show PROD (m' ((c : Thread Cert.FdnRefIdeal.nD Cert.FdnRefIdeal.τ).loc Cert.FdnRefIdeal.main_arg0)) (m' ((c : Thread Cert.FdnRefIdeal.nD Cert.FdnRefIdeal.τ).loc Cert.FdnRefIdeal.main_arg1)) = _
    try rw [(hargs c).1]
    try rw [(hargs c).2.1]
    try rw [(hargs c).2.2.1]
    try rw [(hargs c).2.2.2.1]
    try rw [(hargs c).2.2.2.2]
    exact (Cert.FdnIdeal.Value.final5 m c).symm
  · show RES (PROD (m' ((c : Thread Cert.FdnRefIdeal.nD Cert.FdnRefIdeal.τ).loc Cert.FdnRefIdeal.main_arg0)) (m' ((c : Thread Cert.FdnRefIdeal.nD Cert.FdnRefIdeal.τ).loc Cert.FdnRefIdeal.main_arg1))) (m' ((c : Thread Cert.FdnRefIdeal.nD Cert.FdnRefIdeal.τ).loc Cert.FdnRefIdeal.main_arg2)) (m' ((c : Thread Cert.FdnRefIdeal.nD Cert.FdnRefIdeal.τ).loc Cert.FdnRefIdeal.main_arg3)) = _
    try rw [(hargs c).1]
    try rw [(hargs c).2.1]
    try rw [(hargs c).2.2.1]
    try rw [(hargs c).2.2.2.1]
    try rw [(hargs c).2.2.2.2]
    exact (Cert.FdnIdeal.Value.final6 m c).symm
  · refine (ref2 m' c).trans ?_
    try rw [(hargs c).1]
    try rw [(hargs c).2.1]
    try rw [(hargs c).2.2.1]
    try rw [(hargs c).2.2.2.1]
    try rw [(hargs c).2.2.2.2]
    exact (Cert.FdnIdeal.Value.final7 m c).symm

end Cert.Proof.Fdn

end
-- ==== Proof.MopRef.lean ====
/-
  Hand-written, untrusted. The reference's arrays for mix_out_proj: the product `f`, the rows `h` with `norm f` added to them, and their norm,
  and what each is at an index.
-/
module

public import proofs.«01_k».proof.Proof.Gen.MopRefIdeal.Run
public import proofs.«01_k».proof.Proof.Norm
public import Idealize.ShloMosaic.Lib.Pipeline.ValueKit

@[expose] public section

set_option maxRecDepth 16384

noncomputable section

open Idealize.ShloMosaic Idealize.ShloMosaic.TcCoe

namespace Cert.MopRefIdeal.Arrays

open Cert.MopRefIdeal Cert.MopRefIdeal.Gen

/-- The product. -/
def PROD (a : FVec Ideal S4224x2048 .bf16) (w : FVec Ideal S2048x2048 .bf16) : FVec Ideal S4224x2048 .f32 :=
  Host.dotGeneral dot_S4224x2048_S2048x2048_S4224x2048_1_0_0_1_n_n none (extf .f32 a bitsLt_bf16_f32) (extf .f32 w bitsLt_bf16_f32)

/-- The reciprocal roots of the mean squares. -/
def RSTD (x : FVec Ideal S4224x2048 .f32) : FVec Ideal S4224x1 .f32 :=
  Host.rsqrt (addf (Host.divf (broadcastInDim S4224x1 ![0] bcast_S4224_S4224x1_0 (Host.reduceAdd (mulf x x) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32)))

/-- The norm of the rows. -/
def NORM (x : FVec Ideal S4224x2048 .f32) (g : FVec Ideal S1x2048 .f32) : FVec Ideal S4224x2048 .f32 :=
  mulf (mulf x (broadcastInDim S4224x2048 ![0, 1] bcast_S4224x1_S4224x2048_0_1 (RSTD x))) (broadcastInDim S4224x2048 ![0, 1] bcast_S1x2048_S4224x2048_0_1 (broadcastInDim S1x2048 ![1] bcast_S2048_S1x2048_1 (shapeCast _ g shapeCasts_S1x2048_S2048)))

/-- The rows with the norm of the product added. -/
def RES (f h : FVec Ideal S4224x2048 .f32) (g : FVec Ideal S1x2048 .f32) : FVec Ideal S4224x2048 .f32 :=
  addf h (NORM f g)

/-- The norm of the rows, rounded. -/
def OUT (h : FVec Ideal S4224x2048 .f32) (g : FVec Ideal S1x2048 .f32) : FVec Ideal S4224x2048 .bf16 := truncf .bf16 (NORM h g) bitsLt_bf16_f32

theorem prod_at (a w i) : PROD a w i = ∑ k : Fin 2048, a (ix2 (i 0) k) * w (ix2 k (i 1)) := by
  pointwise [PROD]

theorem rstd_at (x i) : RSTD x i = Norm.rstd fun k => x (ix2 (i 0) k) := by
  pointwise [RSTD]
  rfl

theorem norm_at (x g i) : NORM x g i = Norm.nrm (fun k => x (ix2 (i 0) k)) (fun k => g (ix2 0 k)) (i 1) := by
  pointwise [NORM, rstd_at, Norm.nrm]
  blk_ext

theorem res_at (f h g i) : RES f h g i = h i + Norm.nrm (fun k => f (ix2 (i 0) k)) (fun k => g (ix2 0 k)) (i 1) := by
  pointwise [RES, norm_at, Norm.onehalf]

theorem out_at (h g i) : OUT h g i = Norm.nrm (fun k => h (ix2 (i 0) k)) (fun k => g (ix2 0 k)) (i 1) := norm_at h g i

end Cert.MopRefIdeal.Arrays

end
-- ==== Proof.MopRun.lean ====
/-
  Hand-written, untrusted. ONE RUN OF THE BODY of `mix_out_proj`, whatever its blocks hold: the inputs stay, the accumulator, zeroed at the first tile
  of the contraction, gains the product of the two blocks, and the results' blocks hold what `new5` to `new7` say.
-/
module

public import proofs.«01_k».proof.Proof.Gen.MopIdeal.Frame
public import proofs.«01_k».proof.Proof.Gen.MopIdeal.Skeleton
public import Idealize.ShloMosaic.Lib.WritesUnit
public import Idealize.ShloMosaic.Lib.Pipeline.FrameBody
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.MopIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MopIdeal.Gen

variable {F : FTy → Type} [FloatOps F]

local notation "𝕄" => MT nD τ sig Unit (Elt F) ℕ (UR sig nD τ) ℕ

/-- There is one row of blocks in a group, so that every access to the accumulator is at its start. -/
theorem off1 (i : grid0.Coords) : k0_off1 i = ![0, 0, 0] := by
  rw [k0_off1_eq, show (i 2).val = 0 from Nat.lt_one_iff.mp (i 2).isLt]
theorem off2 (i : grid0.Coords) : k0_off2 i = ![0, 0, 0] := by
  rw [k0_off2_eq, show (i 2).val = 0 from Nat.lt_one_iff.mp (i 2).isLt]
theorem off3 (i : grid0.Coords) : k0_off3 i = ![0, 0, 0] := by
  rw [k0_off3_eq, show (i 2).val = 0 from Nat.lt_one_iff.mp (i 2).isLt]

/-- A store over a whole buffer is what is read back, whatever was stored before. -/
theorem read_whole {sp : Space} {s : Shape} {e : EltTy} (v : View sig .tc sp s e) (f : v.ty.Contents (Elt F))
    {off : Fin s.rank → ℕ} (inb : ∀ a, off a + s.size a ≤ s.size a) (w : s.Idx → Elt F e)
    (L : List (View.Piece (Elt F) s e)) (h : ∀ j, off j = 0) :
    v.read (Elt F) (v.writes (Elt F) f ((⟨Rect.unit off (no_index s.size) inb, w⟩ : View.Piece (Elt F) s e) :: L)) = w := by
  funext y
  exact View.read_writes_cons_unit_of_mem v f inb w L y y (funext h) fun a => (Nat.zero_add _).symm

variable (i : grid0.Coords)

/-- The accumulator after a point, from what it holds before. -/
def newAcc (x0 : Vec F S528x512 .bf16) (x1 : Vec F S512x2048 .bf16) (a : Vec F S1x528x2048 .f32) : Vec F S1x528x2048 .f32 :=
  k0_pay2 (if k0_cond1 i = 1#1 then k0_pay1 else a) x0 x1

/-- The block of rows of result 0: formed at the last tile of the contraction. -/
def new5 (x0 : Vec F S528x512 .bf16) (x1 : Vec F S512x2048 .bf16) (x2 : Vec F S528x2048 .f32) (x3 : Vec F S1x2048 .f32) (x4 : Vec F S1x2048 .f32) (o5 : Vec F S528x2048 .f32) (a : Vec F S1x528x2048 .f32) : Vec F S528x2048 .f32 :=
  if k0_cond2 i = 1#1 then k0_pay3 (newAcc i x0 x1 a) else o5

/-- The block of rows of result 1: formed at the last tile of the contraction. -/
def new6 (x0 : Vec F S528x512 .bf16) (x1 : Vec F S512x2048 .bf16) (x2 : Vec F S528x2048 .f32) (x3 : Vec F S1x2048 .f32) (x4 : Vec F S1x2048 .f32) (o6 : Vec F S528x2048 .f32) (a : Vec F S1x528x2048 .f32) : Vec F S528x2048 .f32 :=
  if k0_cond2 i = 1#1 then k0_pay4 (newAcc i x0 x1 a) x2 x3 else o6

/-- The block of rows of result 2: formed at the last tile of the contraction. -/
def new7 (x0 : Vec F S528x512 .bf16) (x1 : Vec F S512x2048 .bf16) (x2 : Vec F S528x2048 .f32) (x3 : Vec F S1x2048 .f32) (x4 : Vec F S1x2048 .f32) (o7 : Vec F S528x2048 .bf16) (a : Vec F S1x528x2048 .f32) : Vec F S528x2048 .bf16 :=
  if k0_cond2 i = 1#1 then k0_pay5 (newAcc i x0 x1 a) x2 x3 x4 else o7

variable
  (arg3 : Memref sig .tc .vmem S528x512 .bf16) (harg3 : arg3.IsWhole)
  (arg4 : Memref sig .tc .vmem S512x2048 .bf16) (harg4 : arg4.IsWhole)
  (arg5 : Memref sig .tc .vmem S528x2048 .f32) (harg5 : arg5.IsWhole)
  (arg6 : Memref sig .tc .vmem S1x2048 .f32) (harg6 : arg6.IsWhole)
  (arg7 : Memref sig .tc .vmem S1x2048 .f32) (harg7 : arg7.IsWhole)
  (arg8 : Memref sig .tc .vmem S528x2048 .f32) (harg8 : arg8.IsWhole)
  (arg9 : Memref sig .tc .vmem S528x2048 .f32) (harg9 : arg9.IsWhole)
  (arg10 : Memref sig .tc .vmem S528x2048 .bf16) (harg10 : arg10.IsWhole)
  (arg11 : Memref sig .tc .vmem S1x528x2048 .f32) (harg11 : arg11.IsWhole)
  (x0 : Vec F S528x512 .bf16) (x1 : Vec F S512x2048 .bf16) (x2 : Vec F S528x2048 .f32) (x3 : Vec F S1x2048 .f32) (x4 : Vec F S1x2048 .f32)
  (o5 : Vec F S528x2048 .f32) (o6 : Vec F S528x2048 .f32) (o7 : Vec F S528x2048 .bf16) (a : Vec F S1x528x2048 .f32)

set_option maxHeartbeats 1600000 in
/-- The body run on whole buffers, each of its conditions holding or not. -/
theorem run (c : Dev nD) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ owns (c : Thread nD τ) arg8 fullShare o5 ∗ owns (c : Thread nD τ) arg9 fullShare o6 ∗ owns (c : Thread nD τ) arg10 fullShare o7 ∗ owns (c : Thread nD τ) arg11 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (new5 i x0 x1 x2 x3 x4 o5 a) ∗ owns (c : Thread nD τ) arg9 fullShare (new6 i x0 x1 x2 x3 x4 o6 a) ∗ owns (c : Thread nD τ) arg10 fullShare (new7 i x0 x1 x2 x3 x4 o7 a)
            ∗ owns (c : Thread nD τ) arg11 fullShare (newAcc i x0 x1 a)) -∗ K ⟨⟩))
      ⊢ wp frame (wpE (defs₀ (F := F)) Variants.none c none) E (cc0_mix_out_proj i arg3 harg3 arg4 harg4 arg5 harg5 arg6 harg6 arg7 harg7 arg8 harg8 arg9 harg9 arg10 harg10 arg11 harg11) K := by
  simp only [cc0_mix_out_proj_eq_skeleton]; unfold cc0_mix_out_proj_skel
  simp only [k0_part1_eq_skeleton, off1, off2, off3]
  unfold new5 new6 new7 newAcc
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  by_cases h1 : k0_cond1 i = 1#1 <;> by_cases h2 : k0_cond2 i = 1#1 <;>
    simp only [h1, h2, if_true, if_false]
  all_goals
    sl_exec (disch := first | sl_exact h1 | sl_exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      first
        | with_reducible exact hf5
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    isplitl [H6]
    · iexists _; isplitr; swap; · iexact H6
      ipureintro
      first
        | with_reducible exact hf6
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    isplitl [H7]
    · iexists _; isplitr; swap; · iexact H7
      ipureintro
      first
        | with_reducible exact hf7
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    iexists _; isplitr; swap; · iexact H8
    ipureintro
    frame_open
    simp (disch := first | (intro j; simp only [off1, off2, off3]; revert j; decide) | decide) only [read_whole,
             View.ld_unit_lit', View.readCov_unit_lit', View.readCov_cons_unit_lit', View.readAt_eq_ld,
             Memref.IsWhole.read_unread]

end Cert.MopIdeal.Run

end
-- ==== Proof.MopFrame.lean ====
/-
  Hand-written, untrusted. THE FRAME of `mix_out_proj`: the blocks after each of its 32 points by recursion over the points (`st`), the body's
  obligation from the run of Proof/MopRun.lean, and the launch.
-/
module

public import proofs.«01_k».proof.Proof.MopRun

@[expose] public section

set_option maxRecDepth 16384

noncomputable section

namespace Cert.MopIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.MopIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points meet the body's conditions, and where the results' blocks are written -/

theorem start_iff : ∀ t : Fin cfg0.N, k0_cond1 (grid0.coords t) = 1#1 ↔ t.val % 4 = 0 := by decide +kernel
theorem last_iff : ∀ t : Fin cfg0.N, k0_cond2 (grid0.coords t) = 1#1 ↔ t.val % 4 = 3 := by decide +kernel

theorem idle5 : ∀ t : Fin cfg0.N, ¬k0_cond2 (grid0.coords t) = 1#1 →
    cfg0.idle 5 (grid0.coords t) = true ∧ (cfg0.win 5).flush t = false := by decide +kernel
theorem live5 : ∀ t : Fin cfg0.N, k0_cond2 (grid0.coords t) = 1#1 → cfg0.idle 5 (grid0.coords t) = false := by decide +kernel
theorem idle6 : ∀ t : Fin cfg0.N, ¬k0_cond2 (grid0.coords t) = 1#1 →
    cfg0.idle 6 (grid0.coords t) = true ∧ (cfg0.win 6).flush t = false := by decide +kernel
theorem live6 : ∀ t : Fin cfg0.N, k0_cond2 (grid0.coords t) = 1#1 → cfg0.idle 6 (grid0.coords t) = false := by decide +kernel
theorem idle7 : ∀ t : Fin cfg0.N, ¬k0_cond2 (grid0.coords t) = 1#1 →
    cfg0.idle 7 (grid0.coords t) = true ∧ (cfg0.win 7).flush t = false := by decide +kernel
theorem live7 : ∀ t : Fin cfg0.N, k0_cond2 (grid0.coords t) = 1#1 → cfg0.idle 7 (grid0.coords t) = false := by decide +kernel

/-! ## The blocks after each point -/

/-- The results' blocks and the accumulator. -/
structure St (F : FTy → Type) [FloatOps F] where
  o5 : Vec F S528x2048 .f32
  o6 : Vec F S528x2048 .f32
  o7 : Vec F S528x2048 .bf16
  acc : Vec F S1x528x2048 .f32

/-- One point: from the blocks before it, those after it. -/
def step (c : Dev nD) (t : Fin cfg0.N) (p : St F) : St F where
  o5 := new5 (grid0.coords t) (iblk m c 0 t) (iblk m c 1 t) (iblk m c 2 t) (iblk m c 3 t) (iblk m c 4 t) p.o5 p.acc
  o6 := new6 (grid0.coords t) (iblk m c 0 t) (iblk m c 1 t) (iblk m c 2 t) (iblk m c 3 t) (iblk m c 4 t) p.o6 p.acc
  o7 := new7 (grid0.coords t) (iblk m c 0 t) (iblk m c 1 t) (iblk m c 2 t) (iblk m c 3 t) (iblk m c 4 t) p.o7 p.acc
  acc := newAcc (grid0.coords t) (iblk m c 0 t) (iblk m c 1 t) p.acc

/-- The blocks after point `n`; what the first point starts from does not matter. -/
def st (c : Dev nD) : (n : ℕ) → n < cfg0.N → St F
  | 0, h => step m c ⟨0, h⟩ ⟨constant S528x2048 .f32 0x0#32, constant S528x2048 .f32 0x0#32, constant S528x2048 .bf16 0x0#16, constant S1x528x2048 .f32 0x0#32⟩
  | n + 1, h => step m c ⟨n + 1, h⟩ (st c n (Nat.lt_of_succ_lt h))

theorem st_pos (c : Dev nD) (t : Fin cfg0.N) (h : t.val ≠ 0) :
    (st m c t.val t.isLt) = step m c t (st m c (t.val - 1) (by omega)) := by
  obtain ⟨n, hn⟩ := t
  cases n with
  | zero => exact absurd rfl h
  | succ n => rfl

/-- The accumulator after a point: at the first point of a row of blocks it does not matter what it held before. -/
theorem st_acc (c : Dev nD) (t : Fin cfg0.N) (a : Vec F S1x528x2048 .f32)
    (ha : (h : t.val ≠ 0) → a = (st m c (t.val - 1) (by omega)).acc) :
    newAcc (grid0.coords t) (iblk m c 0 t) (iblk m c 1 t) a = (st m c t.val t.isLt).acc := by
  by_cases h : t.val = 0
  · obtain ⟨n, hn⟩ := t
    cases n with
    | zero =>
      have h2 : k0_cond1 (grid0.coords ⟨0, hn⟩) = 1#1 := (start_iff ⟨0, hn⟩).mpr (Nat.zero_mod _)
      show newAcc _ _ _ a = newAcc _ _ _ _
      unfold newAcc
      rw [if_pos h2, if_pos h2]
    | succ n => exact absurd h (Nat.succ_ne_zero n)
  · rw [ha h, st_pos m c t h]
    rfl

/-! The results' blocks: those of rows after the last point of a row of blocks. -/

theorem st_row5 (c : Dev nD) (t : Fin cfg0.N) (h3 : k0_cond2 (grid0.coords t) = 1#1) :
    (st m c t.val t.isLt).o5 = k0_pay3 (st m c t.val t.isLt).acc := by
  have h : t.val ≠ 0 := by have := (last_iff t).mp h3; omega
  rw [st_pos m c t h]
  dsimp only [step]
  unfold new5
  rw [if_pos h3]

theorem st_row6 (c : Dev nD) (t : Fin cfg0.N) (h3 : k0_cond2 (grid0.coords t) = 1#1) :
    (st m c t.val t.isLt).o6 = k0_pay4 (st m c t.val t.isLt).acc (iblk m c 2 t) (iblk m c 3 t) := by
  have h : t.val ≠ 0 := by have := (last_iff t).mp h3; omega
  rw [st_pos m c t h]
  dsimp only [step]
  unfold new6
  rw [if_pos h3]

theorem st_row7 (c : Dev nD) (t : Fin cfg0.N) (h3 : k0_cond2 (grid0.coords t) = 1#1) :
    (st m c t.val t.isLt).o7 = k0_pay5 (st m c t.val t.isLt).acc (iblk m c 2 t) (iblk m c 3 t) (iblk m c 4 t) := by
  have h : t.val ≠ 0 := by have := (last_iff t).mp h3; omega
  rw [st_pos m c t h]
  dsimp only [step]
  unfold new7
  rw [if_pos h3]

/-! ## The pipeline's data -/

/-- The accumulator as a memref of its own. -/
abbrev acc : Memref sig .tc .vmem S1x528x2048 .f32 := Memref.whole cc0_scratch0

/-- Before the first point the accumulator holds anything, afterwards what the point before left. -/
def inv (c : Dev nD) : (n : ℕ) → n ≤ cfg0.N → sProp 𝕄
  | 0, _ => Pipeline.ΦA spec0 c
  | n + 1, h => iprop(owns (c : Thread nD τ) acc fullShare ((st m c n h).acc) ∗ (∃ r, prngReg c r))

theorem free_eq (c : Dev nD) : (Pipeline.ΦA spec0 c : sProp 𝕄)
    = iprop((∃ d, owns (c : Thread nD τ) acc fullShare d) ∗ (∃ r, prngReg c r)) := by
  unfold Pipeline.ΦA; rw [scopedRest0_eq]; simp only [acc, owns_whole]; try rfl

/-- The pipeline's data: the arrays as launched, each input's buffer at its block, the results' at `st`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (st m c t.val t.isLt).o5
    | ⟨6, _⟩ => (st m c t.val t.isLt).o6
    | ⟨7, _⟩ => (st m c t.val t.isLt).o7
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (st m c t.val t.isLt).o5 := by dsimp only [dats]
theorem after0_6 (c : Dev nD) (t : Fin cfg0.N) : (dats m 0 c).after 6 t = (st m c t.val t.isLt).o6 := by dsimp only [dats]
theorem after0_7 (c : Dev nD) (t : Fin cfg0.N) : (dats m 0 c).after 7 t = (st m c t.val t.isLt).o7 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body's obligation: what the run leaves in a result's block is what the data say of it -/

theorem leave5 (c : Dev nD) (t : Fin cfg0.N) (a : Vec F S1x528x2048 .f32) (ha : newAcc (grid0.coords t) (iblk m c 0 t) (iblk m c 1 t) a = (st m c t.val t.isLt).acc) (d) :
    owns (c : Thread nD τ) (win0_5.stage (cfg0.slots t 5)) fullShare (new5 (grid0.coords t) (iblk m c 0 t) (iblk m c 1 t) (iblk m c 2 t) (iblk m c 3 t) (iblk m c 4 t) ((dats m 0 c).before 5 t d) a)
      ⊢ (dats m 0 c).leavesExact 5 t := by
  by_cases h3 : k0_cond2 (grid0.coords t) = 1#1
  · rw [show (dats m 0 c).leavesExact 5 t = owns (c : Thread nD τ) (win0_5.stage (cfg0.slots t 5)) fullShare ((dats m 0 c).after 5 t) from by
      unfold Dat.leavesExact; rw [live5 t h3], after0_5, st_row5 m c t h3, ← ha]
    unfold new5
    rw [if_pos h3]
  · rw [Dat.leavesExact_idle (dats m 0 c) 5 t (idle5 t h3).1 (idle5 t h3).2]
    unfold new5
    rw [if_neg h3]
    iintro H
    iexists d
    iexact H

theorem leave6 (c : Dev nD) (t : Fin cfg0.N) (a : Vec F S1x528x2048 .f32) (ha : newAcc (grid0.coords t) (iblk m c 0 t) (iblk m c 1 t) a = (st m c t.val t.isLt).acc) (d) :
    owns (c : Thread nD τ) (win0_6.stage (cfg0.slots t 6)) fullShare (new6 (grid0.coords t) (iblk m c 0 t) (iblk m c 1 t) (iblk m c 2 t) (iblk m c 3 t) (iblk m c 4 t) ((dats m 0 c).before 6 t d) a)
      ⊢ (dats m 0 c).leavesExact 6 t := by
  by_cases h3 : k0_cond2 (grid0.coords t) = 1#1
  · rw [show (dats m 0 c).leavesExact 6 t = owns (c : Thread nD τ) (win0_6.stage (cfg0.slots t 6)) fullShare ((dats m 0 c).after 6 t) from by
      unfold Dat.leavesExact; rw [live6 t h3], after0_6, st_row6 m c t h3, ← ha]
    unfold new6
    rw [if_pos h3]
  · rw [Dat.leavesExact_idle (dats m 0 c) 6 t (idle6 t h3).1 (idle6 t h3).2]
    unfold new6
    rw [if_neg h3]
    iintro H
    iexists d
    iexact H

theorem leave7 (c : Dev nD) (t : Fin cfg0.N) (a : Vec F S1x528x2048 .f32) (ha : newAcc (grid0.coords t) (iblk m c 0 t) (iblk m c 1 t) a = (st m c t.val t.isLt).acc) (d) :
    owns (c : Thread nD τ) (win0_7.stage (cfg0.slots t 7)) fullShare (new7 (grid0.coords t) (iblk m c 0 t) (iblk m c 1 t) (iblk m c 2 t) (iblk m c 3 t) (iblk m c 4 t) ((dats m 0 c).before 7 t d) a)
      ⊢ (dats m 0 c).leavesExact 7 t := by
  by_cases h3 : k0_cond2 (grid0.coords t) = 1#1
  · rw [show (dats m 0 c).leavesExact 7 t = owns (c : Thread nD τ) (win0_7.stage (cfg0.slots t 7)) fullShare ((dats m 0 c).after 7 t) from by
      unfold Dat.leavesExact; rw [live7 t h3], after0_7, st_row7 m c t h3, ← ha]
    unfold new7
    rw [if_pos h3]
  · rw [Dat.leavesExact_idle (dats m 0 c) 7 t (idle7 t h3).1 (idle7 t h3).2]
    unfold new7
    rw [if_neg h3]
    iintro H
    iexists d
    iexact H

/-- The invariant hands over the accumulator at contents from which the point's own follow. -/
theorem inv_open (c : Dev nD) (t : Fin cfg0.N) :
    inv m c t.val (Nat.le_of_lt t.isLt) ⊢ iprop(∃ a, ⌜newAcc (grid0.coords t) (iblk m c 0 t) (iblk m c 1 t) a = (st m c t.val t.isLt).acc⌝
      ∗ owns (c : Thread nD τ) acc fullShare a ∗ (∃ r, prngReg c r)) := by
  obtain ⟨n, hn⟩ := t
  cases n with
  | zero =>
    rw [show inv m c (⟨0, hn⟩ : Fin cfg0.N).val (Nat.le_of_lt hn) = Pipeline.ΦA spec0 c from rfl, free_eq]
    iintro ⟨⟨%a, H⟩, Hg⟩
    iexists a
    isplitr
    · ipureintro; exact st_acc m c ⟨0, hn⟩ a fun h => absurd rfl h
    isplitl [H]; · iexact H
    iexact Hg
  | succ n =>
    rw [show inv m c (⟨n + 1, hn⟩ : Fin cfg0.N).val (Nat.le_of_lt hn)
      = iprop(owns (c : Thread nD τ) acc fullShare ((st m c n (Nat.lt_of_succ_lt hn)).acc) ∗ (∃ r, prngReg c r)) from rfl]
    iintro ⟨H, Hg⟩
    iexists _
    isplitr
    · ipureintro; exact st_acc m c ⟨n + 1, hn⟩ _ fun _ => rfl
    isplitl [H]; · iexact H
    iexact Hg

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.castSucc = inv m c t.val (Nat.le_of_lt t.isLt) from rfl,
    show (dats m 0 c).Φ t.succ = iprop(owns (c : Thread nD τ) acc fullShare ((st m c t.val t.isLt).acc) ∗ (∃ r, prngReg c r)) from rfl]
  rw [show (dats m 0 c).leavesExact 0 t = owns (c : Thread nD τ) (win0_0.stage (cfg0.slots t 0)) fullShare ((dats m 0 c).after 0 t) from by
    unfold Dat.leavesExact; rw [show cfg0.idle 0 (cfg0.grid.coords t) = false from rfl], after0_0]
  rw [show (dats m 0 c).leavesExact 1 t = owns (c : Thread nD τ) (win0_1.stage (cfg0.slots t 1)) fullShare ((dats m 0 c).after 1 t) from by
    unfold Dat.leavesExact; rw [show cfg0.idle 1 (cfg0.grid.coords t) = false from rfl], after0_1]
  rw [show (dats m 0 c).leavesExact 2 t = owns (c : Thread nD τ) (win0_2.stage (cfg0.slots t 2)) fullShare ((dats m 0 c).after 2 t) from by
    unfold Dat.leavesExact; rw [show cfg0.idle 2 (cfg0.grid.coords t) = false from rfl], after0_2]
  rw [show (dats m 0 c).leavesExact 3 t = owns (c : Thread nD τ) (win0_3.stage (cfg0.slots t 3)) fullShare ((dats m 0 c).after 3 t) from by
    unfold Dat.leavesExact; rw [show cfg0.idle 3 (cfg0.grid.coords t) = false from rfl], after0_3]
  rw [show (dats m 0 c).leavesExact 4 t = owns (c : Thread nD τ) (win0_4.stage (cfg0.slots t 4)) fullShare ((dats m 0 c).after 4 t) from by
    unfold Dat.leavesExact; rw [show cfg0.idle 4 (cfg0.grid.coords t) = false from rfl], after0_4]
  refine (sep_mono_left (inv_open m c t)).trans ?_
  iintro ⟨⟨%a, %ha, HA, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run (grid0.coords t) _ _ _ _ _ _ _ _ _ _ _ _ _ _ _ _ _ _ (iblk m c 0 t) (iblk m c 1 t) (iblk m c 2 t) (iblk m c 3 t) (iblk m c 4 t)
    ((dats m 0 c).before 5 t d5) ((dats m 0 c).before 6 t d6) ((dats m 0 c).before 7 t d7) a c Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexact HA
  rw [ha]
  iintro ⟨H0, H1, H2, H3, H4, H5, H6, H7, HA⟩
  isplitl [HA Hg]
  · isplitl [HA]; · iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (leave5 m c t a ha d5); iexact H5
  isplitl [H6]
  · iapply (leave6 m c t a ha d6); iexact H6
  iapply (leave7 m c t a ha d7); iexact H7

theorem row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N)
    = iprop(owns (c : Thread nD τ) acc fullShare ((st m c 31 (by rw [show cfg0.N = 32 from N_0]; omega)).acc) ∗ (∃ r, prngReg c r)) from rfl, free_eq]
  iintro ⟨H, Hg⟩
  isplitl [H]
  · iexists _; iexact H
  iexact Hg

/-! ## The launch -/

set_option backward.isDefEq.respectTransparency.types false in
/-- Every execution ends, with the arrays at what the data say and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiet m ρ))

end Cert.MopIdeal.Run

end
-- ==== Proof.MopValue.lean ====
/-
  Hand-written, untrusted. THE VALUES OF `mix_out_proj`, block by block of 528 rows. The accumulator collects the product over the 4 blocks of 512 columns;
  at the last of them the body writes it, adds its norm to the rows, and writes them and their norm.
-/
module

public import proofs.«01_k».proof.Defs
public import proofs.«01_k».proof.Proof.MopFrame
public import proofs.«01_k».proof.Proof.MopRef

@[expose] public section

set_option maxRecDepth 16384

noncomputable section

open Idealize.ShloMosaic Idealize.ShloMosaic.TcCoe Idealize.SL.Sem
open Idealize.ShloMosaic.Pipeline (Dat)

namespace Cert.MopIdeal.Value

open Cert.MopIdeal Cert.MopIdeal.Gen Cert.MopIdeal.Run
open Cert.MopRefIdeal.Arrays (PROD RES OUT prod_at res_at out_at)

/-! ## What the body computes, at an index -/

theorem pay1_at (i) : k0_pay1 (F := Ideal) i = 0 := by pointwise [k0_pay1]

theorem mul_at (a : Vec Ideal S1x528x2048 .f32) (x0 : Vec Ideal S528x512 .bf16) (x1 : Vec Ideal S512x2048 .bf16) (i) : k0_pay2 a x0 x1 i
    = a i + ∑ k : Fin 512, x0 (ix2 (i 1) k) * x1 (ix2 k (i 2)) := by
  pointwise [k0_pay2]

theorem pay3_at (a : Vec Ideal S1x528x2048 .f32) (i) : k0_pay3 a i = a (ix3 0 (i 0) (i 1)) := by
  pointwise [k0_pay3]

theorem pay4_at (a : Vec Ideal S1x528x2048 .f32) (h : Vec Ideal S528x2048 .f32) (g : Vec Ideal S1x2048 .f32) (i) : k0_pay4 a h g i
    = h i + Norm.nrm (fun k => a (ix3 0 (i 0) k)) (fun k => g (ix2 0 k)) (i 1) := by
  pointwise [k0_pay4, pay3_at, Norm.nrm, Norm.rstd, Norm.var, Norm.onehalf, Norm.one_eq, one_mul]
  try rfl

theorem pay5_at (a : Vec Ideal S1x528x2048 .f32) (h : Vec Ideal S528x2048 .f32) (g g' : Vec Ideal S1x2048 .f32) (i) : k0_pay5 a h g g' i
    = Norm.nrm (fun k => k0_pay4 a h g (ix2 (i 0) k)) (fun k => g' (ix2 0 k)) (i 1) := by
  pointwise [k0_pay5, Norm.nrm, Norm.rstd, Norm.var]
  blk_ext

variable (m : (ℓ : Loc nD τ sig) → Buf (Elt Ideal) ℓ)

/-! ## The accumulator -/

/-- The inputs' blocks at a point. -/
abbrev X0 (c : Dev nD) (t : Fin cfg0.N) : Vec Ideal S528x512 .bf16 := iblk m c 0 t
abbrev X1 (c : Dev nD) (t : Fin cfg0.N) : Vec Ideal S512x2048 .bf16 := iblk m c 1 t
abbrev X2 (c : Dev nD) (t : Fin cfg0.N) : Vec Ideal S528x2048 .f32 := iblk m c 2 t
abbrev X3 (c : Dev nD) (t : Fin cfg0.N) : Vec Ideal S1x2048 .f32 := iblk m c 3 t
abbrev X4 (c : Dev nD) (t : Fin cfg0.N) : Vec Ideal S1x2048 .f32 := iblk m c 4 t

/-- What one point adds to the accumulator. -/
def term (c : Dev nD) (t : Fin cfg0.N) (i : S1x528x2048.Idx) : EReal := ∑ k : Fin 512, X0 m c t (ix2 (i 1) k) * X1 m c t (ix2 k (i 2))

theorem acc_start (c : Dev nD) (t : Fin cfg0.N) (h : t.val % 4 = 0) (i) : (st m c t.val t.isLt).acc i = 0 + term m c t i := by
  have h2 := (start_iff t).mpr h
  have e : ∀ a, newAcc (grid0.coords t) (iblk m c 0 t) (iblk m c 1 t) a = k0_pay2 (k0_pay1 (F := Ideal)) (iblk m c 0 t) (iblk m c 1 t) := fun a => by
    unfold newAcc
    rw [if_pos h2]
  have s : (st m c t.val t.isLt).acc = k0_pay2 (k0_pay1 (F := Ideal)) (iblk m c 0 t) (iblk m c 1 t) := by
    by_cases h0 : t.val = 0
    · exact (st_acc m c t (k0_pay1 (F := Ideal)) fun h' => absurd h0 h').symm.trans (e _)
    · exact (st_acc m c t (st m c (t.val - 1) (by omega)).acc fun _ => rfl).symm.trans (e _)
  rw [s, mul_at, pay1_at]
  rfl

theorem acc_step (c : Dev nD) (t : Fin cfg0.N) (h : ¬t.val % 4 = 0) (i) :
    (st m c t.val t.isLt).acc i = (st m c (t.val - 1) (Nat.lt_of_le_of_lt (Nat.sub_le _ _) t.isLt)).acc i + term m c t i := by
  have h2 : ¬k0_cond1 (grid0.coords t) = 1#1 := fun e => h ((start_iff t).mp e)
  have e : ∀ a, newAcc (grid0.coords t) (iblk m c 0 t) (iblk m c 1 t) a = k0_pay2 a (iblk m c 0 t) (iblk m c 1 t) := fun a => by
    unfold newAcc
    rw [if_neg h2]
  rw [((st_acc m c t (st m c (t.val - 1) (by omega)).acc fun _ => rfl).symm.trans (e _)), mul_at]
  rfl

/-! ## Block against array -/

/-- Where the blocks sit. -/
theorem idx : ∀ t : Fin cfg0.N, win0_0.index t = ![t.val / 4, t.val % 4] ∧ win0_1.index t = ![t.val % 4, 0] ∧ win0_2.index t = ![t.val / 4, 0]
    ∧ win0_3.index t = ![0, 0] ∧ win0_4.index t = ![0, 0] ∧ win0_5.index t = ![t.val / 4, 0] ∧ win0_6.index t = ![t.val / 4, 0]
    ∧ win0_7.index t = ![t.val / 4, 0] :=
  (by decide +kernel : ∀ t : Fin grid0.N, _)

variable (c : Dev nD)

abbrev A0 : FVec Ideal Cert.MopRefIdeal.S4224x2048 .bf16 := m ((c : Thread nD τ).loc main_arg0)
abbrev A1 : FVec Ideal Cert.MopRefIdeal.S2048x2048 .bf16 := m ((c : Thread nD τ).loc main_arg1)
abbrev A2 : FVec Ideal Cert.MopRefIdeal.S4224x2048 .f32 := m ((c : Thread nD τ).loc main_arg2)
abbrev A3 : FVec Ideal Cert.MopRefIdeal.S1x2048 .f32 := m ((c : Thread nD τ).loc main_arg3)
abbrev A4 : FVec Ideal Cert.MopRefIdeal.S1x2048 .f32 := m ((c : Thread nD τ).loc main_arg4)

theorem row0 (t : Fin cfg0.N) (a : Fin 528) (b : Fin 4224) (h : b.val = t.val / 4 * 528 + a.val) (k : Fin 512) (l : Fin 2048)
    (hl : l.val = t.val % 4 * 512 + k.val) : X0 m c t (ix2 a k) = A0 m c (ix2 b l) := by
  unfold X0 iblk
  show View.read _ ((cfg0.win 0).blk t).view (V m c main_arg0) _ = _
  rw [V_main_arg0]
  blk_ext [A0, idx t]

theorem row1 (t : Fin cfg0.N) (k : Fin 512) (l : Fin 2048) (hl : l.val = t.val % 4 * 512 + k.val) (j j' : Fin 2048) (hj : j = j') :
    X1 m c t (ix2 k j) = A1 m c (ix2 l j') := by
  subst hj
  unfold X1 iblk
  show View.read _ ((cfg0.win 1).blk t).view (V m c main_arg1) _ = _
  rw [V_main_arg1]
  blk_ext [A1, idx t]

theorem row2 (t : Fin cfg0.N) (a : Fin 528) (b : Fin 4224) (h : b.val = t.val / 4 * 528 + a.val) (k : Fin 2048) :
    X2 m c t (ix2 a k) = A2 m c (ix2 b k) := by
  unfold X2 iblk
  show View.read _ ((cfg0.win 2).blk t).view (V m c main_arg2) _ = _
  rw [V_main_arg2]
  blk_ext [A2, idx t]

theorem row3 (t : Fin cfg0.N) (k : Fin 2048) : X3 m c t (ix2 0 k) = A3 m c (ix2 0 k) := by
  unfold X3 iblk
  show View.read _ ((cfg0.win 3).blk t).view (V m c main_arg3) _ = _
  rw [V_main_arg3]
  blk_ext [A3, idx t]

theorem row4 (t : Fin cfg0.N) (k : Fin 2048) : X4 m c t (ix2 0 k) = A4 m c (ix2 0 k) := by
  unfold X4 iblk
  show View.read _ ((cfg0.win 4).blk t).view (V m c main_arg4) _ = _
  rw [V_main_arg4]
  blk_ext [A4, idx t]

/-- The product, and the rows after it. -/
abbrev FO := PROD (A0 m c) (A1 m c)
abbrev HO := RES (FO m c) (A2 m c) (A3 m c)

/-- At the last point of a row of blocks the accumulator holds the product. -/
theorem acc_last (t : Fin cfg0.N) (h : t.val % 4 = 3) (a : Fin 528) (b : Fin 4224) (hb : b.val = t.val / 4 * 528 + a.val) (j j' : Fin 2048) (hj : j = j') :
    (st m c t.val t.isLt).acc (ix3 0 a j) = FO m c (ix2 b j') := by
  have ht : t.val < 32 := lt_of_lt_of_eq t.isLt N_0
  rw [Pipeline.eq_sum_fin_of_reset_step_apply_of_flush (fun n h => (st m c n h).acc) 4 (fun _ => 0) (term m c)
    (acc_start m c) (acc_step m c) t h _, zero_add]
  refine Eq.trans ?_ (prod_at _ _ _).symm
  refine Fin.sum_mul_add_congr fun s k hl => ?_
  exact congrArg₂ (· * ·) (row0 m c ⟨4 * (t.val / 4) + s.val, _⟩ a b (by show _ = (4 * (t.val / 4) + s.val) / 4 * 528 + _; omega) k ⟨s * 512 + k, hl⟩ (by show s.val * 512 + k.val = (4 * (t.val / 4) + s.val) % 4 * 512 + k.val; omega))
    (row1 m c ⟨4 * (t.val / 4) + s.val, _⟩ k ⟨s * 512 + k, hl⟩ (by show s.val * 512 + k.val = (4 * (t.val / 4) + s.val) % 4 * 512 + k.val; omega) j j' hj)

/-- There the body forms the rows with the product's norm added. -/
theorem rows_last (t : Fin cfg0.N) (h : t.val % 4 = 3) (a : Fin 528) (b : Fin 4224) (hb : b.val = t.val / 4 * 528 + a.val) (j j' : Fin 2048) (hj : j = j') :
    k0_pay4 (st m c t.val t.isLt).acc (X2 m c t) (X3 m c t) (ix2 a j) = HO m c (ix2 b j') := by
  subst hj
  refine (pay4_at _ _ _ _).trans (Eq.trans ?_ (res_at _ _ _ _).symm)
  refine congrArg₂ (· + ·) (row2 m c t a b hb j) ?_

  exact Norm.nrm_congr (fun k => acc_last m c t h a b hb k k rfl) (row3 m c t) rfl

/-! ## The results -/

theorem final5 : (dats m 0 c).arrAt 5 (cfgs 0).N = FO m c := by
  refine (dats m 0 c).arrAt_eq_of_covers 5 _ (by decide +kernel) fun t hf y => ?_
  have hl : t.val % 4 = 3 := (flush0_5 t).mp hf
  have e0 : (((cfg0.win 5).blk t).view.emb y 0).val = t.val / 4 * 528 + (y 0).val := by blk_simp [idx t]
  have e1 : (((cfg0.win 5).blk t).view.emb y 1).val = (y 1).val := by blk_simp [idx t]
  have ey : ix2 (((cfg0.win 5).blk t).view.emb y 0) (((cfg0.win 5).blk t).view.emb y 1) = ((cfg0.win 5).blk t).view.emb y := by blk_ext
  blk_simp
  rw [after0_5, st_row5 m c t ((last_iff t).mpr hl)]
  refine (pay3_at _ _).trans ?_
  exact (acc_last m c t hl (y 0) (((cfg0.win 5).blk t).view.emb y 0) e0 (y 1) (((cfg0.win 5).blk t).view.emb y 1) (Fin.ext e1.symm)).trans (congrArg _ ey)

theorem final6 : (dats m 0 c).arrAt 6 (cfgs 0).N = HO m c := by
  refine (dats m 0 c).arrAt_eq_of_covers 6 _ (by decide +kernel) fun t hf y => ?_
  have hl : t.val % 4 = 3 := (flush0_6 t).mp hf
  have e0 : (((cfg0.win 6).blk t).view.emb y 0).val = t.val / 4 * 528 + (y 0).val := by blk_simp [idx t]
  have e1 : (((cfg0.win 6).blk t).view.emb y 1).val = (y 1).val := by blk_simp [idx t]
  have ey : ix2 (((cfg0.win 6).blk t).view.emb y 0) (((cfg0.win 6).blk t).view.emb y 1) = ((cfg0.win 6).blk t).view.emb y := by blk_ext
  have hy : y = ix2 (y 0) (y 1) := by blk_ext
  blk_simp
  rw [after0_6, st_row6 m c t ((last_iff t).mpr hl)]
  refine (congrArg _ hy).trans ?_
  exact (rows_last m c t hl (y 0) (((cfg0.win 6).blk t).view.emb y 0) e0 (y 1) (((cfg0.win 6).blk t).view.emb y 1) (Fin.ext e1.symm)).trans (congrArg _ ey)

theorem final7 : (dats m 0 c).arrAt 7 (cfgs 0).N = OUT (HO m c) (A4 m c) := by
  refine (dats m 0 c).arrAt_eq_of_covers 7 _ (by decide +kernel) fun t hf y => ?_
  have hl : t.val % 4 = 3 := (flush0_7 t).mp hf
  have e0 : (((cfg0.win 7).blk t).view.emb y 0).val = t.val / 4 * 528 + (y 0).val := by blk_simp [idx t]
  have e1 : (((cfg0.win 7).blk t).view.emb y 1).val = (y 1).val := by blk_simp [idx t]
  blk_simp
  rw [after0_7, st_row7 m c t ((last_iff t).mpr hl)]
  refine (pay5_at _ _ _ _ _).trans (Eq.trans ?_ (out_at _ _ _).symm)
  exact Norm.nrm_congr (fun k => rows_last m c t hl (y 0) (((cfg0.win 7).blk t).view.emb y 0) e0 k k rfl) (row4 m c t) (Fin.ext e1.symm)

/-! ## The run -/

/-- The kernel's run, its three results named. -/
theorem run_blocks (ρ : Dev nD → PrngReg) : θ_run defs (onTc (τ := τ) (main (F := Ideal))) ⟨m, fun _ => 0, ρ⟩ fun r => ∀ c : Dev nD,
    r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1 5, (h c).1 6, (h c).1 7,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩) (run_main m ρ)

end Cert.MopIdeal.Value

end
-- ==== Proof.MopClaims.lean ====
/-
  Hand-written, untrusted. The claims about `Mop`, proved: the frames from `Proof/MopFrame.lean`, and the value claim from `Proof/MopValue.lean`.
-/
module

public import proofs.«01_k».proof.Defs
public import proofs.«01_k».proof.Proof.Gen.Mop
public import proofs.«01_k».proof.Proof.Gen.MopRefIdeal.Run
public import proofs.«01_k».proof.Proof.MopRef
public import proofs.«01_k».proof.Proof.MopValue

@[expose] public section

set_option maxRecDepth 16384

noncomputable section

namespace Cert.Proof.Mop

open Idealize.ShloMosaic Idealize.ShloMosaic.TcCoe Idealize.SL.Sem
open Cert.MopRefIdeal.Arrays (PROD RES OUT)

/-! ## The frames

The printed kernel and its idealisation have the same text, so the frame proved for every interpretation of the floats serves both. -/

theorem defs₀_eq : Cert.Mop.defs₀ (F := Bits) = Cert.MopIdeal.defs₀ (F := Bits) := by
  refine congrArg Defs.onTc ?_
  funext l x
  match l, x with
  | 0, (t, s) => rfl
  | ⟨n + 1, h⟩, _ => exact absurd h (Nat.not_lt.2 (Nat.le_add_left _ _))

theorem defs_eq : Cert.Mop.defs (F := Bits) = Cert.MopIdeal.defs (F := Bits) := congrArg (Pipeline.defs Cert.MopIdeal.pcfgs) defs₀_eq

theorem kernel : Cert.quiescent_Mop (hMop := Cert.Mop.Gen.facts) := fun m ρ _ => by
  have e := Cert.MopIdeal.Run.frame (F := Bits) m ρ
  rw [← defs_eq] at e
  exact e

theorem ideal : Cert.quiescent_MopIdeal (hMopIdeal := Cert.MopIdeal.Gen.facts) := fun m ρ _ => Cert.MopIdeal.Run.frame (F := Ideal) m ρ

theorem reference : Cert.quiescent_MopRefIdeal (hMopRefIdeal := Cert.MopRefIdeal.Gen.facts) := fun m ρ _ =>
  (θ_run Cert.MopRefIdeal.defs _ _).mono (fun r h => ⟨fun c => (h c).2.2.2, sem_eq_zero_of_no_sems (by decide) r.2⟩)
    (Cert.MopRefIdeal.Value.run (F := Ideal) m ρ)

/-! ## The values -/

/-- The reference's last result is the norm of the rows. -/
theorem ref2 (m' : (ℓ : Loc Cert.MopRefIdeal.nD Cert.MopRefIdeal.τ Cert.MopRefIdeal.sig) → Buf (Elt Ideal) ℓ) (c : Dev Cert.MopRefIdeal.nD) :
    Cert.MopRefIdeal.Value.res_main_v32 m' c = OUT (RES (PROD (m' ((c : Thread Cert.MopRefIdeal.nD Cert.MopRefIdeal.τ).loc Cert.MopRefIdeal.main_arg0)) (m' ((c : Thread Cert.MopRefIdeal.nD Cert.MopRefIdeal.τ).loc Cert.MopRefIdeal.main_arg1))) (m' ((c : Thread Cert.MopRefIdeal.nD Cert.MopRefIdeal.τ).loc Cert.MopRefIdeal.main_arg2)) (m' ((c : Thread Cert.MopRefIdeal.nD Cert.MopRefIdeal.τ).loc Cert.MopRefIdeal.main_arg3))) (m' ((c : Thread Cert.MopRefIdeal.nD Cert.MopRefIdeal.τ).loc Cert.MopRefIdeal.main_arg4)) := rfl

/-- From equal arguments the kernel and the reference end with equal results. -/
theorem value : Cert.algebraic_MopIdeal_MopRefIdeal (hMopIdeal := Cert.MopIdeal.Gen.facts) (hMopRefIdeal := Cert.MopRefIdeal.Gen.facts) := by
  intro m g m' g' _ hargs
  refine ⟨_, _, _, Cert.MopIdeal.Value.run_blocks m g, ?_⟩
  refine (θ_run Cert.MopRefIdeal.defs _ _).mono (fun r h c => ⟨(h c).1.trans ?_, (h c).2.1.trans ?_, (h c).2.2.1.trans ?_, (h c).2.2.2⟩) (Cert.MopRefIdeal.Value.run (F := Ideal) m' g')
  · show PROD (m' ((c : Thread Cert.MopRefIdeal.nD Cert.MopRefIdeal.τ).loc Cert.MopRefIdeal.main_arg0)) (m' ((c : Thread Cert.MopRefIdeal.nD Cert.MopRefIdeal.τ).loc Cert.MopRefIdeal.main_arg1)) = _
    try rw [(hargs c).1]
    try rw [(hargs c).2.1]
    try rw [(hargs c).2.2.1]
    try rw [(hargs c).2.2.2.1]
    try rw [(hargs c).2.2.2.2]
    exact (Cert.MopIdeal.Value.final5 m c).symm
  · show RES (PROD (m' ((c : Thread Cert.MopRefIdeal.nD Cert.MopRefIdeal.τ).loc Cert.MopRefIdeal.main_arg0)) (m' ((c : Thread Cert.MopRefIdeal.nD Cert.MopRefIdeal.τ).loc Cert.MopRefIdeal.main_arg1))) (m' ((c : Thread Cert.MopRefIdeal.nD Cert.MopRefIdeal.τ).loc Cert.MopRefIdeal.main_arg2)) (m' ((c : Thread Cert.MopRefIdeal.nD Cert.MopRefIdeal.τ).loc Cert.MopRefIdeal.main_arg3)) = _
    try rw [(hargs c).1]
    try rw [(hargs c).2.1]
    try rw [(hargs c).2.2.1]
    try rw [(hargs c).2.2.2.1]
    try rw [(hargs c).2.2.2.2]
    exact (Cert.MopIdeal.Value.final6 m c).symm
  · refine (ref2 m' c).trans ?_
    try rw [(hargs c).1]
    try rw [(hargs c).2.1]
    try rw [(hargs c).2.2.1]
    try rw [(hargs c).2.2.2.1]
    try rw [(hargs c).2.2.2.2]
    exact (Cert.MopIdeal.Value.final7 m c).symm

end Cert.Proof.Mop

end
-- ==== Proof.LosRef.lean ====
/-
  Hand-written, untrusted. The reference's arrays for ffn2_down_loss: the product `f`, the rows `h + 0.5 * norm f` with the leading ones dropped,
  their difference to the target, the loss, its gradient in the rows and the gradients it sends through the norm; and what each is at an index.
-/
module

public import proofs.«01_k».proof.Proof.Gen.LosRefIdeal.Run
public import proofs.«01_k».proof.Proof.Norm
public import Idealize.ShloMosaic.Lib.KernelVsHost
public import Idealize.ShloMosaic.Lib.Pipeline.ValueKit

@[expose] public section

set_option maxRecDepth 16384

noncomputable section

open Idealize.ShloMosaic Idealize.ShloMosaic.TcCoe

namespace Cert.LosRefIdeal.Arrays

open Cert.LosRefIdeal Cert.LosRefIdeal.Gen

/-- The word for 1/2048. -/
abbrev inv : EReal := Ideal.ofBits .f32 0x3A000000#32

theorem inv_eq : inv = ((2048⁻¹ : ℝ) : EReal) := by simp [Ideal.ofBits, Ideal.ieee, -EReal.coe_mul]; norm_num
theorem two_eq : Ideal.ofBits .f32 0x40000000#32 = ((2 : ℝ) : EReal) := by simp [Ideal.ofBits, Ideal.ieee, -EReal.coe_mul]; norm_num

/-- One row's difference to its target. -/
def err (f h g t : Fin 2048 → EReal) (j : Fin 2048) : EReal := h j + Norm.onehalf * Norm.nrm f g j - t j

theorem err_congr {f f' h h' g g' t t' : Fin 2048 → EReal} {j j' : Fin 2048} (hf : ∀ k, f k = f' k) (hh : ∀ k, h k = h' k) (hg : ∀ k, g k = g' k)
    (ht : ∀ k, t k = t' k) (hj : j = j') : err f h g t j = err f' h' g' t' j' := by
  rw [funext hf, funext hh, funext hg, funext ht, hj]

/-- The leading 128 rows have no target. -/
def msk (b : ℕ) (z : EReal) : EReal := if 128 ≤ b then z else 0

/-- The chain rule through the half, the mean and the square: one multiplication by 1/2048. -/
theorem scale (e : EReal) : Ideal.div (Norm.onehalf * Ideal.ofBits .f32 0x3F800000#32) Norm.len * (Ideal.ofBits .f32 0x40000000#32 * e) = e * inv := by
  rw [Norm.one_eq, mul_one, Norm.div_len, Norm.onehalf_eq, two_eq, inv_eq, ← mul_assoc, ← EReal.coe_mul, ← EReal.coe_mul, mul_comm e]
  refine congrArg (fun r : ℝ => (r : EReal) * e) ?_
  norm_num

/-- A sum over all rows whose leading terms are 0 is the sum over the others. -/
theorem sum_lead (u : Fin 4224 → EReal) (h : ∀ b, b.val < 128 → u b = 0) : ∑ b, u b = ∑ l : Fin 4096, u ⟨128 + l.val, by omega⟩ := by
  refine (Fin.sum_univ_add (a := 128) (b := 4096) u).trans ?_
  rw [Finset.sum_eq_zero fun b _ => h _ b.isLt, zero_add]
  rfl

/-- Halves of numbers add to half their sum. -/
theorem half_sum {ι : Type} (s : Finset ι) (u : ι → EReal) : ∑ k ∈ s, Norm.onehalf * u k = Norm.onehalf * ∑ k ∈ s, u k := by
  rw [mul_comm, Norm.onehalf_eq, Norm.sum_mul_coe _ _ (by norm_num)]
  exact Finset.sum_congr rfl fun k _ => mul_comm _ _

/-- The product. -/
def PROD (a : FVec Ideal S4224x5632 .bf16) (w : FVec Ideal S5632x2048 .bf16) : FVec Ideal S4224x2048 .f32 :=
  Host.dotGeneral dot_S4224x5632_S5632x2048_S4224x2048_1_0_0_1_n_n none (extf .f32 a bitsLt_bf16_f32) (extf .f32 w bitsLt_bf16_f32)

/-- The mean squares and ε. -/
def VAR (x : FVec Ideal S4224x2048 .f32) : FVec Ideal S4224x1 .f32 :=
  addf (Host.divf (broadcastInDim S4224x1 ![0] bcast_S4224_S4224x1_0 (Host.reduceAdd (mulf x x) (constant S_ .f32 0x00000000#32) reducesTo_S4224x2048_S4224_d1 h_S_)) (broadcastInDim S4224x1 ![] bcast_S_S4224x1 (constant S_ .f32 0x45000000#32))) (broadcastInDim S4224x1 ![] bcast_S_S4224x1 (constant S_ .f32 0x358637BD#32))

/-- The reciprocal roots. -/
def RSTD (x : FVec Ideal S4224x2048 .f32) : FVec Ideal S4224x1 .f32 := Host.rsqrt (VAR x)

/-- The norm's gradient times its weight. -/
def PG (g : FVec Ideal S1x2048 .f32) (p : FVec Ideal S4224x2048 .f32) : FVec Ideal S4224x2048 .f32 :=
  mulf p (broadcastInDim S4224x2048 ![0, 1] bcast_S1x2048_S4224x2048_0_1 (broadcastInDim S1x2048 ![1] bcast_S2048_S1x2048_1 (shapeCast _ g shapeCasts_S1x2048_S2048)))

/-- Half the derivative of the mean squares. -/
def HALF (x : FVec Ideal S4224x2048 .f32) (g : FVec Ideal S1x2048 .f32) (p : FVec Ideal S4224x2048 .f32) : FVec Ideal S4224x2048 .f32 :=
  broadcastInDim S4224x2048 ![0] bcast_S4224_S4224x2048_0 (Host.reduceAdd (Host.divf (mulf (shapeCast _ (Host.reduceAdd (mulf x (PG g p)) (constant S_ .f32 0x00000000#32) reducesTo_S4224x2048_S4224_d1 h_S_) shapeCasts_S4224_S4224x1) (mulf (broadcastInDim S4224x1 ![] bcast_S_S4224x1 (constant S_ .f32 0xBF000000#32)) (Host.divf (RSTD x) (VAR x)))) (broadcastInDim S4224x1 ![] bcast_S_S4224x1 (constant S_ .f32 0x45000000#32))) (constant S_ .f32 0x00000000#32) reducesTo_S4224x1_S4224_d1 h_S_)

/-- The norms. -/
def NORM (x : FVec Ideal S4224x2048 .f32) (g : FVec Ideal S1x2048 .f32) : FVec Ideal S4224x2048 .f32 :=
  mulf (mulf x (broadcastInDim S4224x2048 ![0, 1] bcast_S4224x1_S4224x2048_0_1 (RSTD x))) (broadcastInDim S4224x2048 ![0, 1] bcast_S1x2048_S4224x2048_0_1 (broadcastInDim S1x2048 ![1] bcast_S2048_S1x2048_1 (shapeCast _ g shapeCasts_S1x2048_S2048)))

/-- The rows. -/
def RES (f h : FVec Ideal S4224x2048 .f32) (g : FVec Ideal S1x2048 .f32) : FVec Ideal S4224x2048 .f32 :=
  addf h (mulf (broadcastInDim S4224x2048 ![] bcast_S_S4224x2048 (constant S_ .f32 0x3F000000#32)) (NORM f g))

/-- Their differences to the target, the leading rows dropped. -/
def ERR (f h : FVec Ideal S4224x2048 .f32) (g : FVec Ideal S1x2048 .f32) (t : FVec Ideal S4224x2048 .f32) : FVec Ideal S4096x2048 .f32 :=
  subf (extractStridedSlice S4096x2048 ![128, 0] (RES f h g) slices_S4224x2048_S4096x2048_128_0) (extractStridedSlice S4096x2048 ![128, 0] t slices_S4224x2048_S4096x2048_128_0)

/-- The loss's gradient in the rows that have a target. -/
def GRAD (f h : FVec Ideal S4224x2048 .f32) (g : FVec Ideal S1x2048 .f32) (t : FVec Ideal S4224x2048 .f32) : FVec Ideal S4096x2048 .f32 :=
  mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (ERR f h g t))

/-- The loss's gradient in all rows. -/
def DY (f h : FVec Ideal S4224x2048 .f32) (g : FVec Ideal S1x2048 .f32) (t : FVec Ideal S4224x2048 .f32) : FVec Ideal S4224x2048 .f32 :=
  pad S4224x2048 ![128, 0] ![0, 0] ![0, 0] (GRAD f h g t) (constant S_ .f32 0x00000000#32) pads_S4096x2048_S4224x2048_12800_000 h_S_

/-- The loss. -/
def LOSS (f h : FVec Ideal S4224x2048 .f32) (g : FVec Ideal S1x2048 .f32) (t : FVec Ideal S4224x2048 .f32) : FVec Ideal S1x1 .f32 :=
  shapeCast _ (mulf (constant S_ .f32 0x3F000000#32) (Host.reduceAdd (Host.divf (Host.reduceAdd (mulf (ERR f h g t) (ERR f h g t)) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_)) shapeCasts_S_S1x1

/-- Half of a gradient, which comes through the residual's factor. -/
def HALVED (p : FVec Ideal S4224x2048 .f32) : FVec Ideal S4224x2048 .f32 :=
  mulf (broadcastInDim S4224x2048 ![] bcast_S_S4224x2048 (constant S_ .f32 0x3F000000#32)) p

/-- The gradient through a norm alone, rounded. -/
def DF (x : FVec Ideal S4224x2048 .f32) (g : FVec Ideal S1x2048 .f32) (p : FVec Ideal S4224x2048 .f32) : FVec Ideal S4224x2048 .bf16 :=
  truncf .bf16 (addf (addf (mulf (PG g p) (broadcastInDim S4224x2048 ![0, 1] bcast_S4224x1_S4224x2048_0_1 (RSTD x))) (mulf x (HALF x g p))) (mulf (HALF x g p) x)) bitsLt_bf16_f32

/-- The gradient of a norm's weight. -/
def DG (x p : FVec Ideal S4224x2048 .f32) : FVec Ideal S1x2048 .f32 :=
  broadcastInDim S1x2048 ![1] bcast_S2048_S1x2048_1 (Host.reduceAdd (shapeCast _ (Host.reduceAdd (mulf (mulf x (broadcastInDim S4224x2048 ![0, 1] bcast_S4224x1_S4224x2048_0_1 (RSTD x))) p) (constant S_ .f32 0x00000000#32) reducesTo_S4224x2048_S2048_d0 h_S_) shapeCasts_S2048_S1x2048) (constant S_ .f32 0x00000000#32) reducesTo_S1x2048_S2048_d0 h_S_)

theorem prod_at (a w i) : PROD a w i = ∑ k : Fin 5632, a (ix2 (i 0) k) * w (ix2 k (i 1)) := by
  pointwise [PROD]

theorem var_at (x i) : VAR x i = Norm.var fun k => x (ix2 (i 0) k) := by
  pointwise [VAR]
  rfl

theorem rstd_at (x i) : RSTD x i = Norm.rstd fun k => x (ix2 (i 0) k) := congrArg Ideal.rsqrt (var_at x i)

theorem pg_at (g p i) : PG g p i = p i * g (ix2 0 (i 1)) := by
  pointwise [PG]

theorem half_at (x g p i) : HALF x g p i = Norm.half (fun k => x (ix2 (i 0) k)) (fun k => g (ix2 0 k)) fun k => p (ix2 (i 0) k) := by
  pointwise [HALF, pg_at, var_at, rstd_at]
  exact Fin.sum_univ_one _

theorem norm_at (x g i) : NORM x g i = Norm.nrm (fun k => x (ix2 (i 0) k)) (fun k => g (ix2 0 k)) (i 1) := by
  pointwise [NORM, rstd_at, Norm.nrm]
  blk_ext

theorem res_at (f h g i) : RES f h g i = h i + Norm.onehalf * Norm.nrm (fun k => f (ix2 (i 0) k)) (fun k => g (ix2 0 k)) (i 1) := by
  pointwise [RES, norm_at, Norm.onehalf]

/-- Row `b` of the differences. -/
abbrev rowErr (f h : FVec Ideal S4224x2048 .f32) (g : FVec Ideal S1x2048 .f32) (t : FVec Ideal S4224x2048 .f32) (b : Fin 4224) : Fin 2048 → EReal :=
  err (fun k => f (ix2 b k)) (fun k => h (ix2 b k)) (fun k => g (ix2 0 k)) (fun k => t (ix2 b k))

theorem lead_at (x : FVec Ideal S4224x2048 .f32) (i : S4096x2048.Idx) (b : Fin 4224) (hb : b.val = 128 + (i 0).val) :
    (extractStridedSlice S4096x2048 ![128, 0] x slices_S4224x2048_S4096x2048_128_0 : FVec Ideal S4096x2048 .f32) i = x (ix2 b (i 1)) := by
  pointwise
  blk_ext

theorem err_at (f h g t) (l : Fin 4096) (b : Fin 4224) (hb : b.val = 128 + l.val) (j : Fin 2048) : ERR f h g t (ix2 l j) = rowErr f h g t b j := by
  have e := lead_at (RES f h g) (ix2 l j) b hb
  have e' := lead_at t (ix2 l j) b hb
  exact congrArg₂ (· - ·) (e.trans (res_at f h g _)) e'

theorem grad_at (f h g t i) : GRAD f h g t i = ERR f h g t i * inv := by
  refine Eq.trans ?_ (scale _)
  pointwise [GRAD]

theorem dy_at (f h g t) (b : Fin 4224) (j : Fin 2048) : DY f h g t (ix2 b j) = msk b.val (rowErr f h g t b j) * inv := by
  by_cases hb : 128 ≤ b.val
  · have hl : b.val - 128 < 4096 := by omega
    refine (pad_apply_of_inside _ _ _ _ _ _ _ (ix2 b j) (ix2 ⟨b.val - 128, hl⟩ j) fun a => ?_).trans ?_
    · match a with
      | 0 => show b.val = 128 + (b.val - 128) * 1; omega
      | 1 => show j.val = 0 + j.val * 1; omega
    · rw [grad_at, err_at f h g t ⟨b.val - 128, hl⟩ b (by show b.val = 128 + (b.val - 128); omega) j, msk, if_pos hb]
  · refine (pad_apply_of_not_inside _ _ _ _ _ _ _ (ix2 b j) 0 fun e => hb e.1).trans ?_
    rw [msk, if_neg hb, zero_mul]
    exact Ideal.ofBits_zero .f32

/-- The loss, as a sum over all rows. -/
theorem loss_at (f h g t i) : LOSS f h g t i
    = Norm.onehalf * ∑ b : Fin 4224, (∑ k : Fin 2048, msk b.val (rowErr f h g t b k) * msk b.val (rowErr f h g t b k)) * inv := by
  have e : LOSS f h g t i = Norm.onehalf * ∑ l : Fin 4096, Ideal.div (∑ k : Fin 2048, ERR f h g t (ix2 l k) * ERR f h g t (ix2 l k)) Norm.len := by
    pointwise [LOSS]
  rw [e, sum_lead]
  · refine congrArg (Norm.onehalf * ·) (Finset.sum_congr rfl fun l _ => ?_)
    rw [Norm.div_len, inv_eq]
    refine congrArg (· * _) (Finset.sum_congr rfl fun k _ => ?_)
    rw [err_at f h g t l ⟨128 + l.val, by omega⟩ rfl, msk, if_pos (Nat.le_add_right 128 l.val)]
  · intro b hb
    simp [msk, Nat.not_le.mpr hb]

theorem halved_at (p i) : HALVED p i = Norm.onehalf * p i := by
  pointwise [HALVED, Norm.onehalf]

theorem df_at (x g p i) : DF x g p i = Norm.vdx (fun k => x (ix2 (i 0) k)) (fun k => g (ix2 0 k)) (fun k => p (ix2 (i 0) k)) (i 1) := by
  pointwise [DF, pg_at, half_at, rstd_at, Norm.vdx]
  blk_ext

theorem dg_at (x p i) : DG x p i = ∑ l : Fin 4224, x (ix2 l (i 1)) * Norm.rstd (fun k => x (ix2 l k)) * p (ix2 l (i 1)) := by
  pointwise [DG, rstd_at]
  exact Fin.sum_univ_one _

end Cert.LosRefIdeal.Arrays

end
-- ==== Proof.LosRun.lean ====
/-
  Hand-written, untrusted. ONE RUN OF THE BODY of `ffn2_down_loss`, whatever its blocks hold: the inputs stay, the accumulator, zeroed at the first tile
  of the contraction, gains the product of the two blocks, and the results' blocks hold what `new5` to `new8` say.
-/
module

public import proofs.«01_k».proof.Proof.Gen.LosIdeal.Frame
public import proofs.«01_k».proof.Proof.Gen.LosIdeal.Skeleton
public import Idealize.ShloMosaic.Lib.WritesUnit
public import Idealize.ShloMosaic.Lib.Pipeline.FrameBody
public import Idealize.ShloMosaic.Lib.Pipeline.TableIdle
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.LosIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LosIdeal.Gen

variable {F : FTy → Type} [FloatOps F]

local notation "𝕄" => MT nD τ sig Unit (Elt F) ℕ (UR sig nD τ) ℕ

/-- There is one row of blocks in a group, so that every access to the accumulator is at its start. -/
theorem off1 (i : grid0.Coords) : k0_off1 i = ![0, 0, 0] := by
  rw [k0_off1_eq, show (i 2).val = 0 from Nat.lt_one_iff.mp (i 2).isLt]
theorem off2 (i : grid0.Coords) : k0_off2 i = ![0, 0, 0] := by
  rw [k0_off2_eq, show (i 2).val = 0 from Nat.lt_one_iff.mp (i 2).isLt]
theorem off3 (i : grid0.Coords) : k0_off3 i = ![0, 0, 0] := by
  rw [k0_off3_eq, show (i 2).val = 0 from Nat.lt_one_iff.mp (i 2).isLt]

/-- A store over a whole buffer is what is read back, whatever was stored before. -/
theorem read_whole {sp : Space} {s : Shape} {e : EltTy} (v : View sig .tc sp s e) (f : v.ty.Contents (Elt F))
    {off : Fin s.rank → ℕ} (inb : ∀ a, off a + s.size a ≤ s.size a) (w : s.Idx → Elt F e)
    (L : List (View.Piece (Elt F) s e)) (h : ∀ j, off j = 0) :
    v.read (Elt F) (v.writes (Elt F) f ((⟨Rect.unit off (no_index s.size) inb, w⟩ : View.Piece (Elt F) s e) :: L)) = w := by
  funext y
  exact View.read_writes_cons_unit_of_mem v f inb w L y y (funext h) fun a => (Nat.zero_add _).symm

variable (i : grid0.Coords)

/-- The accumulator after a point, from what it holds before. -/
def newAcc (x0 : Vec F S528x512 .bf16) (x1 : Vec F S512x2048 .bf16) (a : Vec F S1x528x2048 .f32) : Vec F S1x528x2048 .f32 :=
  k0_pay4 (if k0_cond2 i = 1#1 then k0_pay3 else a) x0 x1

/-- The block of rows of result 0: formed at the last tile of the contraction. -/
def new5 (x0 : Vec F S528x512 .bf16) (x1 : Vec F S512x2048 .bf16) (x2 : Vec F S528x2048 .f32) (x3 : Vec F S1x2048 .f32) (x4 : Vec F S528x2048 .f32) (o5 : Vec F S528x2048 .f32) (a : Vec F S1x528x2048 .f32) : Vec F S528x2048 .f32 :=
  if k0_cond3 i = 1#1 then k0_pay13 (BitVec.ofNat 32 (i 0).val) (BitVec.ofNat 32 (i 2).val) (newAcc i x0 x1 a) x3 x2 x4 else o5

/-- The block of rows of result 1: formed at the last tile of the contraction. -/
def new6 (x0 : Vec F S528x512 .bf16) (x1 : Vec F S512x2048 .bf16) (x2 : Vec F S528x2048 .f32) (x3 : Vec F S1x2048 .f32) (x4 : Vec F S528x2048 .f32) (o6 : Vec F S528x2048 .bf16) (a : Vec F S1x528x2048 .f32) : Vec F S528x2048 .bf16 :=
  if k0_cond3 i = 1#1 then k0_pay7 x3 (k0_pay10 (newAcc i x0 x1 a)) (k0_pay11 (newAcc i x0 x1 a)) (k0_pay13 (BitVec.ofNat 32 (i 0).val) (BitVec.ofNat 32 (i 2).val) (newAcc i x0 x1 a) x3 x2 x4) else o6

/-- The block of result 2, which is carried from point to point: set at the first point, added to at the last tile of the contraction. -/
def new7 (x0 : Vec F S528x512 .bf16) (x1 : Vec F S512x2048 .bf16) (x2 : Vec F S528x2048 .f32) (x3 : Vec F S1x2048 .f32) (x4 : Vec F S528x2048 .f32) (o7 : Vec F S1x2048 .f32) (a : Vec F S1x528x2048 .f32) : Vec F S1x2048 .f32 :=
  if k0_cond3 i = 1#1 then k0_pay8 (k0_pay11 (newAcc i x0 x1 a)) (k0_pay13 (BitVec.ofNat 32 (i 0).val) (BitVec.ofNat 32 (i 2).val) (newAcc i x0 x1 a) x3 x2 x4) (if k0_cond1 i = 1#1 then k0_pay1 else o7) else if k0_cond1 i = 1#1 then k0_pay1 else o7

/-- The block of result 3, which is carried from point to point: set at the first point, added to at the last tile of the contraction. -/
def new8 (x0 : Vec F S528x512 .bf16) (x1 : Vec F S512x2048 .bf16) (x2 : Vec F S528x2048 .f32) (x3 : Vec F S1x2048 .f32) (x4 : Vec F S528x2048 .f32) (o8 : Vec F S1x1 .f32) (a : Vec F S1x528x2048 .f32) : Vec F S1x1 .f32 :=
  if k0_cond3 i = 1#1 then k0_pay5 (k0_pay12 (BitVec.ofNat 32 (i 0).val) (BitVec.ofNat 32 (i 2).val) (newAcc i x0 x1 a) x3 x2 x4) (if k0_cond1 i = 1#1 then k0_pay2 else o8) else if k0_cond1 i = 1#1 then k0_pay2 else o8

variable
  (arg3 : Memref sig .tc .vmem S528x512 .bf16) (harg3 : arg3.IsWhole)
  (arg4 : Memref sig .tc .vmem S512x2048 .bf16) (harg4 : arg4.IsWhole)
  (arg5 : Memref sig .tc .vmem S528x2048 .f32) (harg5 : arg5.IsWhole)
  (arg6 : Memref sig .tc .vmem S1x2048 .f32) (harg6 : arg6.IsWhole)
  (arg7 : Memref sig .tc .vmem S528x2048 .f32) (harg7 : arg7.IsWhole)
  (arg8 : Memref sig .tc .vmem S528x2048 .f32) (harg8 : arg8.IsWhole)
  (arg9 : Memref sig .tc .vmem S528x2048 .bf16) (harg9 : arg9.IsWhole)
  (arg10 : Memref sig .tc .vmem S1x2048 .f32) (harg10 : arg10.IsWhole)
  (arg11 : Memref sig .tc .vmem S1x1 .f32) (harg11 : arg11.IsWhole)
  (arg12 : Memref sig .tc .vmem S1x528x2048 .f32) (harg12 : arg12.IsWhole)
  (x0 : Vec F S528x512 .bf16) (x1 : Vec F S512x2048 .bf16) (x2 : Vec F S528x2048 .f32) (x3 : Vec F S1x2048 .f32) (x4 : Vec F S528x2048 .f32)
  (o5 : Vec F S528x2048 .f32) (o6 : Vec F S528x2048 .bf16) (o7 : Vec F S1x2048 .f32) (o8 : Vec F S1x1 .f32) (a : Vec F S1x528x2048 .f32)

set_option maxHeartbeats 1600000 in
/-- The body run on whole buffers, each of its conditions holding or not. -/
theorem run (c : Dev nD) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ owns (c : Thread nD τ) arg8 fullShare o5 ∗ owns (c : Thread nD τ) arg9 fullShare o6 ∗ owns (c : Thread nD τ) arg10 fullShare o7 ∗ owns (c : Thread nD τ) arg11 fullShare o8 ∗ owns (c : Thread nD τ) arg12 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (new5 i x0 x1 x2 x3 x4 o5 a) ∗ owns (c : Thread nD τ) arg9 fullShare (new6 i x0 x1 x2 x3 x4 o6 a) ∗ owns (c : Thread nD τ) arg10 fullShare (new7 i x0 x1 x2 x3 x4 o7 a) ∗ owns (c : Thread nD τ) arg11 fullShare (new8 i x0 x1 x2 x3 x4 o8 a)
            ∗ owns (c : Thread nD τ) arg12 fullShare (newAcc i x0 x1 a)) -∗ K ⟨⟩))
      ⊢ wp frame (wpE (defs₀ (F := F)) Variants.none c none) E (cc0_ffn2_down_loss i arg3 harg3 arg4 harg4 arg5 harg5 arg6 harg6 arg7 harg7 arg8 harg8 arg9 harg9 arg10 harg10 arg11 harg11 arg12 harg12) K := by
  simp only [cc0_ffn2_down_loss_eq_skeleton]; unfold cc0_ffn2_down_loss_skel
  simp only [k0_part1_eq_skeleton, off1, off2, off3]
  unfold new5 new6 new7 new8 newAcc
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
  by_cases h1 : k0_cond1 i = 1#1 <;> by_cases h2 : k0_cond2 i = 1#1 <;> by_cases h3 : k0_cond3 i = 1#1 <;>
    simp only [h1, h2, h3, if_true, if_false]
  all_goals
    sl_exec (disch := first | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      first
        | with_reducible exact hf5
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    isplitl [H6]
    · iexists _; isplitr; swap; · iexact H6
      ipureintro
      first
        | with_reducible exact hf6
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    isplitl [H7]
    · iexists _; isplitr; swap; · iexact H7
      ipureintro
      first
        | with_reducible exact hf7
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    isplitl [H8]
    · iexists _; isplitr; swap; · iexact H8
      ipureintro
      first
        | with_reducible exact hf8
        | (frame_open
           simp (disch := first | (intro j; simp only [off1, off2, off3]; revert j; decide) | decide) only [read_whole,
             View.ld_unit_lit', View.readCov_unit_lit', View.readCov_cons_unit_lit', View.readAt_eq_ld,
             Memref.IsWhole.read_unread])
    iexists _; isplitr; swap; · iexact H9
    ipureintro
    frame_open
    simp (disch := first | (intro j; simp only [off1, off2, off3]; revert j; decide) | decide) only [read_whole,
             View.ld_unit_lit', View.readCov_unit_lit', View.readCov_cons_unit_lit', View.readAt_eq_ld,
             Memref.IsWhole.read_unread]

end Cert.LosIdeal.Run

end
-- ==== Proof.LosFrame.lean ====
/-
  Hand-written, untrusted. THE FRAME of `ffn2_down_loss`: the blocks after each of its 88 points by recursion over the points (`st`), the body's
  obligation from the run of Proof/LosRun.lean, and the launch.
-/
module

public import proofs.«01_k».proof.Proof.LosRun

@[expose] public section

set_option maxRecDepth 16384

noncomputable section

namespace Cert.LosIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.LosIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points meet the body's conditions, and where the results' blocks are written -/

theorem first_iff : ∀ t : Fin cfg0.N, k0_cond1 (grid0.coords t) = 1#1 ↔ t.val = 0 := by decide +kernel
theorem start_iff : ∀ t : Fin cfg0.N, k0_cond2 (grid0.coords t) = 1#1 ↔ t.val % 11 = 0 := by decide +kernel
theorem last_iff : ∀ t : Fin cfg0.N, k0_cond3 (grid0.coords t) = 1#1 ↔ t.val % 11 = 10 := by decide +kernel

theorem idle5 : ∀ t : Fin cfg0.N, ¬k0_cond3 (grid0.coords t) = 1#1 →
    cfg0.idle 5 (grid0.coords t) = true ∧ (cfg0.win 5).flush t = false := by decide +kernel
theorem live5 : ∀ t : Fin cfg0.N, k0_cond3 (grid0.coords t) = 1#1 → cfg0.idle 5 (grid0.coords t) = false := by decide +kernel
theorem idle6 : ∀ t : Fin cfg0.N, ¬k0_cond3 (grid0.coords t) = 1#1 →
    cfg0.idle 6 (grid0.coords t) = true ∧ (cfg0.win 6).flush t = false := by decide +kernel
theorem live6 : ∀ t : Fin cfg0.N, k0_cond3 (grid0.coords t) = 1#1 → cfg0.idle 6 (grid0.coords t) = false := by decide +kernel
theorem idle7 : ∀ t : Fin cfg0.N, ¬k0_cond1 (grid0.coords t) = 1#1 → ¬k0_cond3 (grid0.coords t) = 1#1 →
    cfg0.idle 7 (grid0.coords t) = true ∧ (cfg0.win 7).flush t = false := by decide +kernel
theorem live7 : ∀ t : Fin cfg0.N, k0_cond1 (grid0.coords t) = 1#1 ∨ k0_cond3 (grid0.coords t) = 1#1 →
    cfg0.idle 7 (grid0.coords t) = false := by decide +kernel
theorem idle8 : ∀ t : Fin cfg0.N, ¬k0_cond1 (grid0.coords t) = 1#1 → ¬k0_cond3 (grid0.coords t) = 1#1 →
    cfg0.idle 8 (grid0.coords t) = true ∧ (cfg0.win 8).flush t = false := by decide +kernel
theorem live8 : ∀ t : Fin cfg0.N, k0_cond1 (grid0.coords t) = 1#1 ∨ k0_cond3 (grid0.coords t) = 1#1 →
    cfg0.idle 8 (grid0.coords t) = false := by decide +kernel

/-- A carried block holds nothing of the body's before the first point, and after the last, where it is written back. -/
def unset : ℕ → Bool := fun n => n == 0 || n == 88
theorem unset_step7 : ∀ t : Fin cfg0.N,
    unset (t.val + 1) = ((cfg0.win 7).flush t || (cfg0.idle 7 (cfg0.grid.coords t) && unset t.val)) := by decide +kernel
theorem fresh7 (t : Fin cfg0.N) (h : t.val ≠ 0) : cfg0.fresh 7 t.val = false := by
  rw [Pipeline.Cfg.fresh_tab cfg0 7 unset rfl unset_step7 t.val (Nat.le_of_lt t.isLt)]
  have ht : t.val < 88 := lt_of_lt_of_eq t.isLt N_0
  simp only [unset, Bool.or_eq_false_iff, beq_eq_false_iff_ne]
  omega
theorem unset_step8 : ∀ t : Fin cfg0.N,
    unset (t.val + 1) = ((cfg0.win 8).flush t || (cfg0.idle 8 (cfg0.grid.coords t) && unset t.val)) := by decide +kernel
theorem fresh8 (t : Fin cfg0.N) (h : t.val ≠ 0) : cfg0.fresh 8 t.val = false := by
  rw [Pipeline.Cfg.fresh_tab cfg0 8 unset rfl unset_step8 t.val (Nat.le_of_lt t.isLt)]
  have ht : t.val < 88 := lt_of_lt_of_eq t.isLt N_0
  simp only [unset, Bool.or_eq_false_iff, beq_eq_false_iff_ne]
  omega

/-! ## The blocks after each point -/

/-- The results' blocks and the accumulator. -/
structure St (F : FTy → Type) [FloatOps F] where
  o5 : Vec F S528x2048 .f32
  o6 : Vec F S528x2048 .bf16
  o7 : Vec F S1x2048 .f32
  o8 : Vec F S1x1 .f32
  acc : Vec F S1x528x2048 .f32

/-- One point: from the blocks before it, those after it. -/
def step (c : Dev nD) (t : Fin cfg0.N) (p : St F) : St F where
  o5 := new5 (grid0.coords t) (iblk m c 0 t) (iblk m c 1 t) (iblk m c 2 t) (iblk m c 3 t) (iblk m c 4 t) p.o5 p.acc
  o6 := new6 (grid0.coords t) (iblk m c 0 t) (iblk m c 1 t) (iblk m c 2 t) (iblk m c 3 t) (iblk m c 4 t) p.o6 p.acc
  o7 := new7 (grid0.coords t) (iblk m c 0 t) (iblk m c 1 t) (iblk m c 2 t) (iblk m c 3 t) (iblk m c 4 t) p.o7 p.acc
  o8 := new8 (grid0.coords t) (iblk m c 0 t) (iblk m c 1 t) (iblk m c 2 t) (iblk m c 3 t) (iblk m c 4 t) p.o8 p.acc
  acc := newAcc (grid0.coords t) (iblk m c 0 t) (iblk m c 1 t) p.acc

/-- The blocks after point `n`; what the first point starts from does not matter. -/
def st (c : Dev nD) : (n : ℕ) → n < cfg0.N → St F
  | 0, h => step m c ⟨0, h⟩ ⟨constant S528x2048 .f32 0x0#32, constant S528x2048 .bf16 0x0#16, constant S1x2048 .f32 0x0#32, constant S1x1 .f32 0x0#32, constant S1x528x2048 .f32 0x0#32⟩
  | n + 1, h => step m c ⟨n + 1, h⟩ (st c n (Nat.lt_of_succ_lt h))

theorem st_pos (c : Dev nD) (t : Fin cfg0.N) (h : t.val ≠ 0) :
    (st m c t.val t.isLt) = step m c t (st m c (t.val - 1) (by omega)) := by
  obtain ⟨n, hn⟩ := t
  cases n with
  | zero => exact absurd rfl h
  | succ n => rfl

/-- The accumulator after a point: at the first point of a row of blocks it does not matter what it held before. -/
theorem st_acc (c : Dev nD) (t : Fin cfg0.N) (a : Vec F S1x528x2048 .f32)
    (ha : (h : t.val ≠ 0) → a = (st m c (t.val - 1) (by omega)).acc) :
    newAcc (grid0.coords t) (iblk m c 0 t) (iblk m c 1 t) a = (st m c t.val t.isLt).acc := by
  by_cases h : t.val = 0
  · obtain ⟨n, hn⟩ := t
    cases n with
    | zero =>
      have h2 : k0_cond2 (grid0.coords ⟨0, hn⟩) = 1#1 := (start_iff ⟨0, hn⟩).mpr (Nat.zero_mod _)
      show newAcc _ _ _ a = newAcc _ _ _ _
      unfold newAcc
      rw [if_pos h2, if_pos h2]
    | succ n => exact absurd h (Nat.succ_ne_zero n)
  · rw [ha h, st_pos m c t h]
    rfl

/-! The results' blocks: those of rows after the last point of a row of blocks, the carried ones after the first point, after the last of a row of blocks, and after any other. -/

theorem st_row5 (c : Dev nD) (t : Fin cfg0.N) (h3 : k0_cond3 (grid0.coords t) = 1#1) :
    (st m c t.val t.isLt).o5 = k0_pay13 (BitVec.ofNat 32 (grid0.coords t 0).val) (BitVec.ofNat 32 (grid0.coords t 2).val) (st m c t.val t.isLt).acc (iblk m c 3 t) (iblk m c 2 t) (iblk m c 4 t) := by
  have h : t.val ≠ 0 := by have := (last_iff t).mp h3; omega
  rw [st_pos m c t h]
  dsimp only [step]
  unfold new5
  rw [if_pos h3]

theorem st_row6 (c : Dev nD) (t : Fin cfg0.N) (h3 : k0_cond3 (grid0.coords t) = 1#1) :
    (st m c t.val t.isLt).o6 = k0_pay7 (iblk m c 3 t) (k0_pay10 (st m c t.val t.isLt).acc) (k0_pay11 (st m c t.val t.isLt).acc) (k0_pay13 (BitVec.ofNat 32 (grid0.coords t 0).val) (BitVec.ofNat 32 (grid0.coords t 2).val) (st m c t.val t.isLt).acc (iblk m c 3 t) (iblk m c 2 t) (iblk m c 4 t)) := by
  have h : t.val ≠ 0 := by have := (last_iff t).mp h3; omega
  rw [st_pos m c t h]
  dsimp only [step]
  unfold new6
  rw [if_pos h3]

theorem st_first7 (c : Dev nD) (t : Fin cfg0.N) (h1 : k0_cond1 (grid0.coords t) = 1#1) :
    (st m c t.val t.isLt).o7 = k0_pay1 := by
  have h : t.val = 0 := (first_iff t).mp h1
  have h3 : ¬k0_cond3 (grid0.coords t) = 1#1 := fun e => by have := (last_iff t).mp e; omega
  obtain ⟨n, hn⟩ := t
  cases n with
  | zero =>
    show (step m c ⟨0, hn⟩ _).o7 = _
    dsimp only [step]
    unfold new7
    rw [if_neg h3, if_pos h1]
  | succ n => exact absurd h (Nat.succ_ne_zero n)

theorem st_last7 (c : Dev nD) (t : Fin cfg0.N) (h3 : k0_cond3 (grid0.coords t) = 1#1) :
    (st m c t.val t.isLt).o7 = k0_pay8 (k0_pay11 (st m c t.val t.isLt).acc) (k0_pay13 (BitVec.ofNat 32 (grid0.coords t 0).val) (BitVec.ofNat 32 (grid0.coords t 2).val) (st m c t.val t.isLt).acc (iblk m c 3 t) (iblk m c 2 t) (iblk m c 4 t)) (st m c (t.val - 1) (by omega)).o7 := by
  have h : t.val ≠ 0 := by have := (last_iff t).mp h3; omega
  have h1 : ¬k0_cond1 (grid0.coords t) = 1#1 := fun e => h ((first_iff t).mp e)
  rw [st_pos m c t h]
  dsimp only [step]
  unfold new7
  rw [if_pos h3, if_neg h1]

theorem st_keep7 (c : Dev nD) (t : Fin cfg0.N) (h1 : ¬k0_cond1 (grid0.coords t) = 1#1) (h3 : ¬k0_cond3 (grid0.coords t) = 1#1) :
    (st m c t.val t.isLt).o7 = (st m c (t.val - 1) (by omega)).o7 := by
  have h : t.val ≠ 0 := fun e => h1 ((first_iff t).mpr e)
  rw [st_pos m c t h]
  dsimp only [step]
  unfold new7
  rw [if_neg h3, if_neg h1]

theorem st_first8 (c : Dev nD) (t : Fin cfg0.N) (h1 : k0_cond1 (grid0.coords t) = 1#1) :
    (st m c t.val t.isLt).o8 = k0_pay2 := by
  have h : t.val = 0 := (first_iff t).mp h1
  have h3 : ¬k0_cond3 (grid0.coords t) = 1#1 := fun e => by have := (last_iff t).mp e; omega
  obtain ⟨n, hn⟩ := t
  cases n with
  | zero =>
    show (step m c ⟨0, hn⟩ _).o8 = _
    dsimp only [step]
    unfold new8
    rw [if_neg h3, if_pos h1]
  | succ n => exact absurd h (Nat.succ_ne_zero n)

theorem st_last8 (c : Dev nD) (t : Fin cfg0.N) (h3 : k0_cond3 (grid0.coords t) = 1#1) :
    (st m c t.val t.isLt).o8 = k0_pay5 (k0_pay12 (BitVec.ofNat 32 (grid0.coords t 0).val) (BitVec.ofNat 32 (grid0.coords t 2).val) (st m c t.val t.isLt).acc (iblk m c 3 t) (iblk m c 2 t) (iblk m c 4 t)) (st m c (t.val - 1) (by omega)).o8 := by
  have h : t.val ≠ 0 := by have := (last_iff t).mp h3; omega
  have h1 : ¬k0_cond1 (grid0.coords t) = 1#1 := fun e => h ((first_iff t).mp e)
  rw [st_pos m c t h]
  dsimp only [step]
  unfold new8
  rw [if_pos h3, if_neg h1]

theorem st_keep8 (c : Dev nD) (t : Fin cfg0.N) (h1 : ¬k0_cond1 (grid0.coords t) = 1#1) (h3 : ¬k0_cond3 (grid0.coords t) = 1#1) :
    (st m c t.val t.isLt).o8 = (st m c (t.val - 1) (by omega)).o8 := by
  have h : t.val ≠ 0 := fun e => h1 ((first_iff t).mpr e)
  rw [st_pos m c t h]
  dsimp only [step]
  unfold new8
  rw [if_neg h3, if_neg h1]

/-! ## The pipeline's data -/

/-- The accumulator as a memref of its own. -/
abbrev acc : Memref sig .tc .vmem S1x528x2048 .f32 := Memref.whole cc0_scratch0

/-- Before the first point the accumulator holds anything, afterwards what the point before left. -/
def inv (c : Dev nD) : (n : ℕ) → n ≤ cfg0.N → sProp 𝕄
  | 0, _ => Pipeline.ΦA spec0 c
  | n + 1, h => iprop(owns (c : Thread nD τ) acc fullShare ((st m c n h).acc) ∗ (∃ r, prngReg c r))

theorem free_eq (c : Dev nD) : (Pipeline.ΦA spec0 c : sProp 𝕄)
    = iprop((∃ d, owns (c : Thread nD τ) acc fullShare d) ∗ (∃ r, prngReg c r)) := by
  unfold Pipeline.ΦA; rw [scopedRest0_eq]; simp only [acc, owns_whole]; try rfl

/-- The pipeline's data: the arrays as launched, each input's buffer at its block, the results' at `st`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (st m c t.val t.isLt).o5
    | ⟨6, _⟩ => (st m c t.val t.isLt).o6
    | ⟨7, _⟩ => (st m c t.val t.isLt).o7
    | ⟨8, _⟩ => (st m c t.val t.isLt).o8
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (st m c t.val t.isLt).o5 := by dsimp only [dats]
theorem after0_6 (c : Dev nD) (t : Fin cfg0.N) : (dats m 0 c).after 6 t = (st m c t.val t.isLt).o6 := by dsimp only [dats]
theorem after0_7 (c : Dev nD) (t : Fin cfg0.N) : (dats m 0 c).after 7 t = (st m c t.val t.isLt).o7 := by dsimp only [dats]
theorem after0_8 (c : Dev nD) (t : Fin cfg0.N) : (dats m 0 c).after 8 t = (st m c t.val t.isLt).o8 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- A point other than the first finds in a carried block what the point before left. -/
theorem before7 (c : Dev nD) (t : Fin cfg0.N) (h : t.val ≠ 0) (d) :
    (dats m 0 c).before 7 t d = (st m c (t.val - 1) (by omega)).o7 := by
  have keep : ∀ (t : Fin cfg0.N) (_ : t.val ≠ 0), cfg0.idle 7 (grid0.coords t) = true → cfg0.fresh 7 t.val = false →
      (dats m 0 c).after 7 t = (dats m 0 c).after 7 ⟨t.val - 1, by omega⟩ := by
    intro t _ hi _
    have h1 : ¬k0_cond1 (grid0.coords t) = 1#1 := fun e =>
      Bool.false_ne_true ((live7 t (.inl e)).symm.trans hi)
    have h3 : ¬k0_cond3 (grid0.coords t) = 1#1 := fun e =>
      Bool.false_ne_true ((live7 t (.inr e)).symm.trans hi)
    rw [after0_7, after0_7, st_keep7 m c t h1 h3]
  rw [Dat.before_out_traj _ 7 rfl (fun _ _ => rfl) keep t.val t rfl d, if_neg (by rw [fresh7 t h]; exact Bool.false_ne_true)]
  dsimp only [dats]

/-- A point other than the first finds in a carried block what the point before left. -/
theorem before8 (c : Dev nD) (t : Fin cfg0.N) (h : t.val ≠ 0) (d) :
    (dats m 0 c).before 8 t d = (st m c (t.val - 1) (by omega)).o8 := by
  have keep : ∀ (t : Fin cfg0.N) (_ : t.val ≠ 0), cfg0.idle 8 (grid0.coords t) = true → cfg0.fresh 8 t.val = false →
      (dats m 0 c).after 8 t = (dats m 0 c).after 8 ⟨t.val - 1, by omega⟩ := by
    intro t _ hi _
    have h1 : ¬k0_cond1 (grid0.coords t) = 1#1 := fun e =>
      Bool.false_ne_true ((live8 t (.inl e)).symm.trans hi)
    have h3 : ¬k0_cond3 (grid0.coords t) = 1#1 := fun e =>
      Bool.false_ne_true ((live8 t (.inr e)).symm.trans hi)
    rw [after0_8, after0_8, st_keep8 m c t h1 h3]
  rw [Dat.before_out_traj _ 8 rfl (fun _ _ => rfl) keep t.val t rfl d, if_neg (by rw [fresh8 t h]; exact Bool.false_ne_true)]
  dsimp only [dats]

/-! ## The body's obligation: what the run leaves in a result's block is what the data say of it -/

theorem leave5 (c : Dev nD) (t : Fin cfg0.N) (a : Vec F S1x528x2048 .f32) (ha : newAcc (grid0.coords t) (iblk m c 0 t) (iblk m c 1 t) a = (st m c t.val t.isLt).acc) (d) :
    owns (c : Thread nD τ) (win0_5.stage (cfg0.slots t 5)) fullShare (new5 (grid0.coords t) (iblk m c 0 t) (iblk m c 1 t) (iblk m c 2 t) (iblk m c 3 t) (iblk m c 4 t) ((dats m 0 c).before 5 t d) a)
      ⊢ (dats m 0 c).leavesExact 5 t := by
  by_cases h3 : k0_cond3 (grid0.coords t) = 1#1
  · rw [show (dats m 0 c).leavesExact 5 t = owns (c : Thread nD τ) (win0_5.stage (cfg0.slots t 5)) fullShare ((dats m 0 c).after 5 t) from by
      unfold Dat.leavesExact; rw [live5 t h3], after0_5, st_row5 m c t h3, ← ha]
    unfold new5
    rw [if_pos h3]
  · rw [Dat.leavesExact_idle (dats m 0 c) 5 t (idle5 t h3).1 (idle5 t h3).2]
    unfold new5
    rw [if_neg h3]
    iintro H
    iexists d
    iexact H

theorem leave6 (c : Dev nD) (t : Fin cfg0.N) (a : Vec F S1x528x2048 .f32) (ha : newAcc (grid0.coords t) (iblk m c 0 t) (iblk m c 1 t) a = (st m c t.val t.isLt).acc) (d) :
    owns (c : Thread nD τ) (win0_6.stage (cfg0.slots t 6)) fullShare (new6 (grid0.coords t) (iblk m c 0 t) (iblk m c 1 t) (iblk m c 2 t) (iblk m c 3 t) (iblk m c 4 t) ((dats m 0 c).before 6 t d) a)
      ⊢ (dats m 0 c).leavesExact 6 t := by
  by_cases h3 : k0_cond3 (grid0.coords t) = 1#1
  · rw [show (dats m 0 c).leavesExact 6 t = owns (c : Thread nD τ) (win0_6.stage (cfg0.slots t 6)) fullShare ((dats m 0 c).after 6 t) from by
      unfold Dat.leavesExact; rw [live6 t h3], after0_6, st_row6 m c t h3, ← ha]
    unfold new6
    rw [if_pos h3]
  · rw [Dat.leavesExact_idle (dats m 0 c) 6 t (idle6 t h3).1 (idle6 t h3).2]
    unfold new6
    rw [if_neg h3]
    iintro H
    iexists d
    iexact H

theorem leave7 (c : Dev nD) (t : Fin cfg0.N) (a : Vec F S1x528x2048 .f32) (ha : newAcc (grid0.coords t) (iblk m c 0 t) (iblk m c 1 t) a = (st m c t.val t.isLt).acc) (d) :
    owns (c : Thread nD τ) (win0_7.stage (cfg0.slots t 7)) fullShare (new7 (grid0.coords t) (iblk m c 0 t) (iblk m c 1 t) (iblk m c 2 t) (iblk m c 3 t) (iblk m c 4 t) ((dats m 0 c).before 7 t d) a)
      ⊢ (dats m 0 c).leavesExact 7 t := by
  by_cases h3 : k0_cond3 (grid0.coords t) = 1#1
  · have h : t.val ≠ 0 := by have := (last_iff t).mp h3; omega
    have h1 : ¬k0_cond1 (grid0.coords t) = 1#1 := fun e => h ((first_iff t).mp e)
    rw [show (dats m 0 c).leavesExact 7 t = owns (c : Thread nD τ) (win0_7.stage (cfg0.slots t 7)) fullShare ((dats m 0 c).after 7 t) from by
      unfold Dat.leavesExact; rw [live7 t (.inr h3)], after0_7, st_last7 m c t h3, ← ha, before7 m c t h]
    unfold new7
    rw [if_pos h3, if_neg h1]
  · by_cases h1 : k0_cond1 (grid0.coords t) = 1#1
    · rw [show (dats m 0 c).leavesExact 7 t = owns (c : Thread nD τ) (win0_7.stage (cfg0.slots t 7)) fullShare ((dats m 0 c).after 7 t) from by
        unfold Dat.leavesExact; rw [live7 t (.inl h1)], after0_7, st_first7 m c t h1]
      unfold new7
      rw [if_neg h3, if_pos h1]
    · rw [Dat.leavesExact_idle (dats m 0 c) 7 t (idle7 t h1 h3).1 (idle7 t h1 h3).2]
      unfold new7
      rw [if_neg h3, if_neg h1]
      iintro H
      iexists d
      iexact H

theorem leave8 (c : Dev nD) (t : Fin cfg0.N) (a : Vec F S1x528x2048 .f32) (ha : newAcc (grid0.coords t) (iblk m c 0 t) (iblk m c 1 t) a = (st m c t.val t.isLt).acc) (d) :
    owns (c : Thread nD τ) (win0_8.stage (cfg0.slots t 8)) fullShare (new8 (grid0.coords t) (iblk m c 0 t) (iblk m c 1 t) (iblk m c 2 t) (iblk m c 3 t) (iblk m c 4 t) ((dats m 0 c).before 8 t d) a)
      ⊢ (dats m 0 c).leavesExact 8 t := by
  by_cases h3 : k0_cond3 (grid0.coords t) = 1#1
  · have h : t.val ≠ 0 := by have := (last_iff t).mp h3; omega
    have h1 : ¬k0_cond1 (grid0.coords t) = 1#1 := fun e => h ((first_iff t).mp e)
    rw [show (dats m 0 c).leavesExact 8 t = owns (c : Thread nD τ) (win0_8.stage (cfg0.slots t 8)) fullShare ((dats m 0 c).after 8 t) from by
      unfold Dat.leavesExact; rw [live8 t (.inr h3)], after0_8, st_last8 m c t h3, ← ha, before8 m c t h]
    unfold new8
    rw [if_pos h3, if_neg h1]
  · by_cases h1 : k0_cond1 (grid0.coords t) = 1#1
    · rw [show (dats m 0 c).leavesExact 8 t = owns (c : Thread nD τ) (win0_8.stage (cfg0.slots t 8)) fullShare ((dats m 0 c).after 8 t) from by
        unfold Dat.leavesExact; rw [live8 t (.inl h1)], after0_8, st_first8 m c t h1]
      unfold new8
      rw [if_neg h3, if_pos h1]
    · rw [Dat.leavesExact_idle (dats m 0 c) 8 t (idle8 t h1 h3).1 (idle8 t h1 h3).2]
      unfold new8
      rw [if_neg h3, if_neg h1]
      iintro H
      iexists d
      iexact H

/-- The invariant hands over the accumulator at contents from which the point's own follow. -/
theorem inv_open (c : Dev nD) (t : Fin cfg0.N) :
    inv m c t.val (Nat.le_of_lt t.isLt) ⊢ iprop(∃ a, ⌜newAcc (grid0.coords t) (iblk m c 0 t) (iblk m c 1 t) a = (st m c t.val t.isLt).acc⌝
      ∗ owns (c : Thread nD τ) acc fullShare a ∗ (∃ r, prngReg c r)) := by
  obtain ⟨n, hn⟩ := t
  cases n with
  | zero =>
    rw [show inv m c (⟨0, hn⟩ : Fin cfg0.N).val (Nat.le_of_lt hn) = Pipeline.ΦA spec0 c from rfl, free_eq]
    iintro ⟨⟨%a, H⟩, Hg⟩
    iexists a
    isplitr
    · ipureintro; exact st_acc m c ⟨0, hn⟩ a fun h => absurd rfl h
    isplitl [H]; · iexact H
    iexact Hg
  | succ n =>
    rw [show inv m c (⟨n + 1, hn⟩ : Fin cfg0.N).val (Nat.le_of_lt hn)
      = iprop(owns (c : Thread nD τ) acc fullShare ((st m c n (Nat.lt_of_succ_lt hn)).acc) ∗ (∃ r, prngReg c r)) from rfl]
    iintro ⟨H, Hg⟩
    iexists _
    isplitr
    · ipureintro; exact st_acc m c ⟨n + 1, hn⟩ _ fun _ => rfl
    isplitl [H]; · iexact H
    iexact Hg

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.castSucc = inv m c t.val (Nat.le_of_lt t.isLt) from rfl,
    show (dats m 0 c).Φ t.succ = iprop(owns (c : Thread nD τ) acc fullShare ((st m c t.val t.isLt).acc) ∗ (∃ r, prngReg c r)) from rfl]
  rw [show (dats m 0 c).leavesExact 0 t = owns (c : Thread nD τ) (win0_0.stage (cfg0.slots t 0)) fullShare ((dats m 0 c).after 0 t) from by
    unfold Dat.leavesExact; rw [show cfg0.idle 0 (cfg0.grid.coords t) = false from rfl], after0_0]
  rw [show (dats m 0 c).leavesExact 1 t = owns (c : Thread nD τ) (win0_1.stage (cfg0.slots t 1)) fullShare ((dats m 0 c).after 1 t) from by
    unfold Dat.leavesExact; rw [show cfg0.idle 1 (cfg0.grid.coords t) = false from rfl], after0_1]
  rw [show (dats m 0 c).leavesExact 2 t = owns (c : Thread nD τ) (win0_2.stage (cfg0.slots t 2)) fullShare ((dats m 0 c).after 2 t) from by
    unfold Dat.leavesExact; rw [show cfg0.idle 2 (cfg0.grid.coords t) = false from rfl], after0_2]
  rw [show (dats m 0 c).leavesExact 3 t = owns (c : Thread nD τ) (win0_3.stage (cfg0.slots t 3)) fullShare ((dats m 0 c).after 3 t) from by
    unfold Dat.leavesExact; rw [show cfg0.idle 3 (cfg0.grid.coords t) = false from rfl], after0_3]
  rw [show (dats m 0 c).leavesExact 4 t = owns (c : Thread nD τ) (win0_4.stage (cfg0.slots t 4)) fullShare ((dats m 0 c).after 4 t) from by
    unfold Dat.leavesExact; rw [show cfg0.idle 4 (cfg0.grid.coords t) = false from rfl], after0_4]
  refine (sep_mono_left (inv_open m c t)).trans ?_
  iintro ⟨⟨%a, %ha, HA, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run (grid0.coords t) _ _ _ _ _ _ _ _ _ _ _ _ _ _ _ _ _ _ _ _ (iblk m c 0 t) (iblk m c 1 t) (iblk m c 2 t) (iblk m c 3 t) (iblk m c 4 t)
    ((dats m 0 c).before 5 t d5) ((dats m 0 c).before 6 t d6) ((dats m 0 c).before 7 t d7) ((dats m 0 c).before 8 t d8) a c Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HA]; · iexact HA
  rw [ha]
  iintro ⟨H0, H1, H2, H3, H4, H5, H6, H7, H8, HA⟩
  isplitl [HA Hg]
  · isplitl [HA]; · iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (leave5 m c t a ha d5); iexact H5
  isplitl [H6]
  · iapply (leave6 m c t a ha d6); iexact H6
  isplitl [H7]
  · iapply (leave7 m c t a ha d7); iexact H7
  iapply (leave8 m c t a ha d8); iexact H8

theorem row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N)
    = iprop(owns (c : Thread nD τ) acc fullShare ((st m c 87 (by rw [show cfg0.N = 88 from N_0]; omega)).acc) ∗ (∃ r, prngReg c r)) from rfl, free_eq]
  iintro ⟨H, Hg⟩
  isplitl [H]
  · iexists _; iexact H
  iexact Hg

/-! ## The launch -/

set_option backward.isDefEq.respectTransparency.types false in
/-- Every execution ends, with the arrays at what the data say and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiet m ρ))

end Cert.LosIdeal.Run

end
-- ==== Proof.LosValue.lean ====
/-
  Hand-written, untrusted. THE VALUES OF `ffn2_down_loss`, block by block of 528 rows. The accumulator collects the product over the eleven blocks
  of 512 columns; at the last of them the body forms the rows' difference to the target, 0 in the leading rows, and from it the loss's gradient,
  the gradient through the norm (`Norm.lean`), and what the block adds to the gradient of the norm's weight and to the loss.
-/
module

public import proofs.«01_k».proof.Defs
public import proofs.«01_k».proof.Proof.LosFrame
public import proofs.«01_k».proof.Proof.LosRef

@[expose] public section

set_option maxRecDepth 16384

noncomputable section

open Idealize.ShloMosaic Idealize.ShloMosaic.TcCoe Idealize.SL.Sem
open Idealize.ShloMosaic.Pipeline (Dat)

namespace Cert.LosIdeal.Value

open Cert.LosIdeal Cert.LosIdeal.Gen Cert.LosIdeal.Run
open Cert.LosRefIdeal.Arrays (inv err err_congr msk half_sum rowErr PROD DY DF DG LOSS HALVED prod_at dy_at df_at dg_at loss_at halved_at)
/-! ## What the body computes, at an index -/

theorem zero_at (i) : k0_pay3 (F := Ideal) i = 0 := by pointwise [k0_pay3]

theorem mul_at (a : Vec Ideal S1x528x2048 .f32) (x0 : Vec Ideal S528x512 .bf16) (x1 : Vec Ideal S512x2048 .bf16) (i) : k0_pay4 a x0 x1 i
    = a i + ∑ k : Fin 512, x0 (ix2 (i 1) k) * x1 (ix2 k (i 2)) := by
  pointwise [k0_pay4]

theorem pay1_at (i) : k0_pay1 (F := Ideal) i = 0 := by pointwise [k0_pay1]

theorem pay2_at (i) : k0_pay2 (F := Ideal) i = 0 := by pointwise [k0_pay2]

theorem pay9_at (a : Vec Ideal S1x528x2048 .f32) (i) : k0_pay9 a i = a (ix3 0 (i 0) (i 1)) := by
  pointwise [k0_pay9]

theorem pay10_at (a : Vec Ideal S1x528x2048 .f32) (i) : k0_pay10 a i = Norm.rstd fun k => a (ix3 0 (i 0) k) := by
  pointwise [k0_pay10, pay9_at]
  rfl

theorem pay11_at (a : Vec Ideal S1x528x2048 .f32) (i) : k0_pay11 a i = a (ix3 0 (i 0) (i 1)) * Norm.rstd fun k => a (ix3 0 (i 0) k) := by
  pointwise [k0_pay11, pay9_at, pay10_at]

/-- A row's number, counted in words, against the 128 leading rows. -/
theorem mask : ∀ (r : Fin 8) (a : Fin 528), IntOp.cmpi CmpIPredicate.sge
      (IntOp.addi (Scalar.muli (Scalar.addi (Scalar.muli (BitVec.ofNat 32 r.val) 1#32) (BitVec.ofNat 32 0)) 528#32) (BitVec.ofNat 32 a.val)) 128#32
    = if 128 ≤ r.val * 528 + a.val then 1#1 else 0#1 := by decide +kernel

theorem coords : ∀ t : Fin cfg0.N, (grid0.coords t 0).val = t.val / 11 ∧ (grid0.coords t 2).val = 0 :=
  (by decide +kernel : ∀ t : Fin grid0.N, _)

/-- A point's row of blocks, as the body's words count it. -/
abbrev W0 (t : Fin cfg0.N) : BitVec 32 := BitVec.ofNat 32 (grid0.coords t 0).val
abbrev W2 (t : Fin cfg0.N) : BitVec 32 := BitVec.ofNat 32 (grid0.coords t 2).val

theorem pay12_at (t : Fin cfg0.N) (x : Vec Ideal S1x528x2048 .f32) (g : Vec Ideal S1x2048 .f32) (h y : Vec Ideal S528x2048 .f32) (a : Fin 528) (j : Fin 2048) :
    k0_pay12 (W0 t) (W2 t) x g h y (ix2 a j)
    = msk (t.val / 11 * 528 + a.val) (err (fun k => x (ix3 0 a k)) (fun k => h (ix2 a k)) (fun k => g (ix2 0 k)) (fun k => y (ix2 a k)) j) := by
  have ht : t.val < 88 := lt_of_lt_of_eq t.isLt N_0
  have e : k0_pay12 (W0 t) (W2 t) x g h y (ix2 a j) = Scalar.select (IntOp.cmpi CmpIPredicate.sge
      (IntOp.addi (Scalar.muli (Scalar.addi (Scalar.muli (W0 t) 1#32) (W2 t)) 528#32) (BitVec.ofNat 32 a.val)) 128#32)
      (err (fun k => x (ix3 0 a k)) (fun k => h (ix2 a k)) (fun k => g (ix2 0 k)) (fun k => y (ix2 a k)) j) 0 := by
    pointwise [k0_pay12, pay11_at, err, Norm.nrm]
  rw [e, W0, W2, (coords t).1, (coords t).2, mask ⟨t.val / 11, by omega⟩ a, msk]
  by_cases hb : 128 ≤ t.val / 11 * 528 + a.val
  · rw [if_pos hb, if_pos hb]
    rfl
  · rw [if_neg hb, if_neg hb]
    rfl

theorem pay13_at (t : Fin cfg0.N) (x : Vec Ideal S1x528x2048 .f32) (g : Vec Ideal S1x2048 .f32) (h y : Vec Ideal S528x2048 .f32) (i) :
    k0_pay13 (W0 t) (W2 t) x g h y i = k0_pay12 (W0 t) (W2 t) x g h y i * inv := by
  pointwise [k0_pay13]

theorem pay7_at (x : Vec Ideal S1x528x2048 .f32) (g : Vec Ideal S1x2048 .f32) (p : FVec Ideal S528x2048 .f32) (i) : k0_pay7 g (k0_pay10 x) (k0_pay11 x) p i
    = Norm.kdx (fun k => x (ix3 0 (i 0) k)) (fun k => g (ix2 0 k)) (fun k => Norm.onehalf * p (ix2 (i 0) k)) (i 1) := by
  pointwise [k0_pay7, k0_pay6, pay10_at, pay11_at, Norm.kdx]
  blk_ext

theorem pay8_at (x : Vec Ideal S1x528x2048 .f32) (p : FVec Ideal S528x2048 .f32) (acc : Vec Ideal S1x2048 .f32) (i) : k0_pay8 (k0_pay11 x) p acc i
    = acc i + ∑ a : Fin 528, Norm.onehalf * p (ix2 a (i 1)) * (x (ix3 0 a (i 1)) * Norm.rstd fun k => x (ix3 0 a k)) := by
  pointwise [k0_pay8, k0_pay6, pay11_at]

theorem pay5_at (e : FVec Ideal S528x2048 .f32) (acc : Vec Ideal S1x1 .f32) (i) : k0_pay5 e acc i
    = acc i + Norm.onehalf * ∑ a : Fin 528, (∑ k : Fin 2048, e (ix2 a k) * e (ix2 a k)) * inv := by
  pointwise [k0_pay5]

variable (m : (ℓ : Loc nD τ sig) → Buf (Elt Ideal) ℓ)

/-! ## The accumulator -/

/-- The inputs' blocks at a point. -/
abbrev X0 (c : Dev nD) (t : Fin cfg0.N) : Vec Ideal S528x512 .bf16 := iblk m c 0 t
abbrev X1 (c : Dev nD) (t : Fin cfg0.N) : Vec Ideal S512x2048 .bf16 := iblk m c 1 t
abbrev X2 (c : Dev nD) (t : Fin cfg0.N) : Vec Ideal S528x2048 .f32 := iblk m c 2 t
abbrev X3 (c : Dev nD) (t : Fin cfg0.N) : Vec Ideal S1x2048 .f32 := iblk m c 3 t
abbrev X4 (c : Dev nD) (t : Fin cfg0.N) : Vec Ideal S528x2048 .f32 := iblk m c 4 t

/-- What one point adds to the accumulator. -/
def term (c : Dev nD) (t : Fin cfg0.N) (i : S1x528x2048.Idx) : EReal := ∑ k : Fin 512, X0 m c t (ix2 (i 1) k) * X1 m c t (ix2 k (i 2))

theorem acc_start (c : Dev nD) (t : Fin cfg0.N) (h : t.val % 11 = 0) (i) : (st m c t.val t.isLt).acc i = 0 + term m c t i := by
  have h2 := (start_iff t).mpr h
  have e : ∀ a, newAcc (grid0.coords t) (iblk m c 0 t) (iblk m c 1 t) a = k0_pay4 (k0_pay3 (F := Ideal)) (iblk m c 0 t) (iblk m c 1 t) := fun a => by
    unfold newAcc
    rw [if_pos h2]
  have s : (st m c t.val t.isLt).acc = k0_pay4 (k0_pay3 (F := Ideal)) (iblk m c 0 t) (iblk m c 1 t) := by
    by_cases h0 : t.val = 0
    · exact (st_acc m c t (k0_pay3 (F := Ideal)) fun h' => absurd h0 h').symm.trans (e _)
    · exact (st_acc m c t (st m c (t.val - 1) (by omega)).acc fun _ => rfl).symm.trans (e _)
  rw [s, mul_at, zero_at]
  rfl

theorem acc_step (c : Dev nD) (t : Fin cfg0.N) (h : ¬t.val % 11 = 0) (i) :
    (st m c t.val t.isLt).acc i = (st m c (t.val - 1) (Nat.lt_of_le_of_lt (Nat.sub_le _ _) t.isLt)).acc i + term m c t i := by
  have h2 : ¬k0_cond2 (grid0.coords t) = 1#1 := fun e => h ((start_iff t).mp e)
  have e : ∀ a, newAcc (grid0.coords t) (iblk m c 0 t) (iblk m c 1 t) a = k0_pay4 a (iblk m c 0 t) (iblk m c 1 t) := fun a => by
    unfold newAcc
    rw [if_neg h2]
  rw [((st_acc m c t (st m c (t.val - 1) (by omega)).acc fun _ => rfl).symm.trans (e _)), mul_at]
  rfl

/-! ## Block against array -/

/-- Where the blocks sit. -/
theorem idx : ∀ t : Fin cfg0.N, win0_0.index t = ![t.val / 11, t.val % 11] ∧ win0_1.index t = ![t.val % 11, 0] ∧ win0_2.index t = ![t.val / 11, 0]
    ∧ win0_3.index t = ![0, 0] ∧ win0_4.index t = ![t.val / 11, 0] ∧ win0_5.index t = ![t.val / 11, 0] ∧ win0_6.index t = ![t.val / 11, 0]
    ∧ win0_7.index t = ![0, 0] ∧ win0_8.index t = ![0, 0] :=
  (by decide +kernel : ∀ t : Fin grid0.N, _)

variable (c : Dev nD)

abbrev A0 : FVec Ideal Cert.LosRefIdeal.S4224x5632 .bf16 := m ((c : Thread nD τ).loc main_arg0)
abbrev A1 : FVec Ideal Cert.LosRefIdeal.S5632x2048 .bf16 := m ((c : Thread nD τ).loc main_arg1)
abbrev A2 : FVec Ideal Cert.LosRefIdeal.S4224x2048 .f32 := m ((c : Thread nD τ).loc main_arg2)
abbrev A3 : FVec Ideal Cert.LosRefIdeal.S1x2048 .f32 := m ((c : Thread nD τ).loc main_arg3)
abbrev A4 : FVec Ideal Cert.LosRefIdeal.S4224x2048 .f32 := m ((c : Thread nD τ).loc main_arg4)

theorem row0 (t : Fin cfg0.N) (a : Fin 528) (b : Fin 4224) (h : b.val = t.val / 11 * 528 + a.val) (k : Fin 512) (l : Fin 5632)
    (hl : l.val = t.val % 11 * 512 + k.val) : X0 m c t (ix2 a k) = A0 m c (ix2 b l) := by
  unfold X0 iblk
  show View.read _ ((cfg0.win 0).blk t).view (V m c main_arg0) _ = _
  rw [V_main_arg0]
  blk_ext [A0, idx t]

theorem row1 (t : Fin cfg0.N) (k : Fin 512) (l : Fin 5632) (hl : l.val = t.val % 11 * 512 + k.val) (j j' : Fin 2048) (hj : j = j') :
    X1 m c t (ix2 k j) = A1 m c (ix2 l j') := by
  subst hj
  unfold X1 iblk
  show View.read _ ((cfg0.win 1).blk t).view (V m c main_arg1) _ = _
  rw [V_main_arg1]
  blk_ext [A1, idx t]

theorem row2 (t : Fin cfg0.N) (a : Fin 528) (b : Fin 4224) (h : b.val = t.val / 11 * 528 + a.val) (k : Fin 2048) :
    X2 m c t (ix2 a k) = A2 m c (ix2 b k) := by
  unfold X2 iblk
  show View.read _ ((cfg0.win 2).blk t).view (V m c main_arg2) _ = _
  rw [V_main_arg2]
  blk_ext [A2, idx t]

theorem row3 (t : Fin cfg0.N) (k : Fin 2048) : X3 m c t (ix2 0 k) = A3 m c (ix2 0 k) := by
  unfold X3 iblk
  show View.read _ ((cfg0.win 3).blk t).view (V m c main_arg3) _ = _
  rw [V_main_arg3]
  blk_ext [A3, idx t]

theorem row4 (t : Fin cfg0.N) (a : Fin 528) (b : Fin 4224) (h : b.val = t.val / 11 * 528 + a.val) (k : Fin 2048) :
    X4 m c t (ix2 a k) = A4 m c (ix2 b k) := by
  unfold X4 iblk
  show View.read _ ((cfg0.win 4).blk t).view (V m c main_arg4) _ = _
  rw [V_main_arg4]
  blk_ext [A4, idx t]

/-- The product, and the loss's gradient in the rows. -/
abbrev FO := PROD (A0 m c) (A1 m c)
abbrev DO := DY (FO m c) (A2 m c) (A3 m c) (A4 m c)

/-- At the last point of a row of blocks the accumulator holds the product. -/
theorem acc_last (t : Fin cfg0.N) (h : t.val % 11 = 10) (a : Fin 528) (b : Fin 4224) (hb : b.val = t.val / 11 * 528 + a.val) (j j' : Fin 2048) (hj : j = j') :
    (st m c t.val t.isLt).acc (ix3 0 a j) = FO m c (ix2 b j') := by
  have ht : t.val < 88 := lt_of_lt_of_eq t.isLt N_0
  rw [Pipeline.eq_sum_fin_of_reset_step_apply_of_flush (fun n h => (st m c n h).acc) 11 (fun _ => 0) (term m c)
    (acc_start m c) (acc_step m c) t h _, zero_add]
  refine Eq.trans ?_ (prod_at _ _ _).symm
  refine Fin.sum_mul_add_congr fun s k hl => ?_
  exact congrArg₂ (· * ·) (row0 m c ⟨11 * (t.val / 11) + s.val, _⟩ a b (by show _ = (11 * (t.val / 11) + s.val) / 11 * 528 + _; omega) k ⟨s * 512 + k, hl⟩ (by show s.val * 512 + k.val = (11 * (t.val / 11) + s.val) % 11 * 512 + k.val; omega))
    (row1 m c ⟨11 * (t.val / 11) + s.val, _⟩ k ⟨s * 512 + k, hl⟩ (by show s.val * 512 + k.val = (11 * (t.val / 11) + s.val) % 11 * 512 + k.val; omega) j j' hj)

/-- There the body forms the differences to the target, -/
abbrev E (t : Fin cfg0.N) : FVec Ideal S528x2048 .f32 := k0_pay12 (W0 t) (W2 t) (st m c t.val t.isLt).acc (X3 m c t) (X2 m c t) (X4 m c t)
/-- and the loss's gradient. -/
abbrev G (t : Fin cfg0.N) : FVec Ideal S528x2048 .f32 := k0_pay13 (W0 t) (W2 t) (st m c t.val t.isLt).acc (X3 m c t) (X2 m c t) (X4 m c t)

theorem err_last (t : Fin cfg0.N) (h : t.val % 11 = 10) (a : Fin 528) (b : Fin 4224) (hb : b.val = t.val / 11 * 528 + a.val) (j : Fin 2048) :
    E m c t (ix2 a j) = msk b.val (rowErr (FO m c) (A2 m c) (A3 m c) (A4 m c) b j) := by
  refine (pay12_at t _ _ _ _ a j).trans ?_
  rw [hb]
  exact congrArg (msk _) (err_congr (fun k => acc_last m c t h a b hb k k rfl) (row2 m c t a b hb) (row3 m c t) (row4 m c t a b hb) rfl)

theorem grad_last (t : Fin cfg0.N) (h : t.val % 11 = 10) (a : Fin 528) (b : Fin 4224) (hb : b.val = t.val / 11 * 528 + a.val) (j j' : Fin 2048) (hj : j = j') :
    G m c t (ix2 a j) = DO m c (ix2 b j') := by
  subst hj
  refine (pay13_at t _ _ _ _ _).trans (Eq.trans ?_ (dy_at _ _ _ _ b j).symm)
  exact congrArg (· * inv) (err_last m c t h a b hb j)

theorem st_congr {n n' : ℕ} {h : n < cfg0.N} {h' : n' < cfg0.N} (e : n = n') : st m c n h = st m c n' h' := by
  subst e
  rfl

theorem zero_lt : 0 < cfg0.N := by rw [show cfg0.N = 88 from N_0]; omega

/-! ## The gradient of the norm's weight, and the loss -/

/-! The gradient of the norm's weight. -/

/-- Between the first and the last point of a row of blocks its block stays, -/
theorem keep7 (n s : ℕ) (hs : s ≤ 9) (h : 11 * n + s < cfg0.N) :
    (st m c (11 * n + s) h).o7 = (st m c (11 * n) (by omega)).o7 := by
  induction s with
  | zero => rfl
  | succ s ih =>
    refine (st_keep7 m c ⟨11 * n + (s + 1), h⟩ (fun e => ?_) (fun e => ?_)).trans (ih (by omega) (by omega))
    · have e' : 11 * n + (s + 1) = 0 := (first_iff ⟨11 * n + (s + 1), h⟩).mp e
      omega
    · have e' : (11 * n + (s + 1)) % 11 = 10 := (last_iff ⟨11 * n + (s + 1), h⟩).mp e
      omega

/-- What a row of blocks adds to it. -/
def part7 (n : ℕ) (h : 11 * n + 10 < cfg0.N) (i : S1x2048.Idx) : EReal :=
  ∑ a : Fin 528, Norm.onehalf * G m c ⟨11 * n + 10, h⟩ (ix2 a (i 1)) * ((st m c (11 * n + 10) h).acc (ix3 0 a (i 1)) * Norm.rstd fun k => (st m c (11 * n + 10) h).acc (ix3 0 a k))

/-- It is added at the last point. -/
theorem last7 (n : ℕ) (h : 11 * n + 10 < cfg0.N) (i) : (st m c (11 * n + 10) h).o7 i
    = (st m c (11 * n) (by omega)).o7 i + part7 m c n h i := by
  have e := st_last7 m c ⟨11 * n + 10, h⟩ ((last_iff ⟨11 * n + 10, h⟩).mpr (by show (11 * n + 10) % 11 = 10; omega))
  have e' : (st m c (11 * n + 10 - 1) (by omega)).o7 = (st m c (11 * n) (by omega)).o7 := keep7 m c n 9 (by omega) (by omega)
  refine (congrFun e i).trans ?_
  rw [pay8_at]
  exact congrArg (· + _) (congrFun e' i)

theorem total7 (i) : (st m c 87 (by rw [show cfg0.N = 88 from N_0]; omega)).o7 i
    = 0 + ∑ n : Fin 8, part7 m c n.val (by have := n.isLt; rw [show cfg0.N = 88 from N_0]; omega) i := by
  have hN : cfg0.N = 88 := N_0
  refine Pipeline.eq_sum_fin_of_reset_step_apply_last (N := 8) (fun n h => (st m c (11 * n + 10) (by rw [hN]; omega)).o7) 8
    (fun i => 0) (fun n i => part7 m c n.val (by have := n.isLt; rw [hN]; omega) i) (fun t h i => ?_) (fun t h i => ?_) (le_refl _) ⟨7, by omega⟩ rfl i
  · obtain ⟨n, hn⟩ := t
    have h' : n = 0 := by have : n % 8 = 0 := h; omega
    subst h'
    refine (last7 m c 0 (by rw [hN]; omega) i).trans (congrArg (· + _) ?_)
    refine (congrFun (st_first7 m c ⟨0, zero_lt⟩ ((first_iff ⟨0, zero_lt⟩).mpr rfl)) i).trans ?_
    rw [pay1_at]
  · obtain ⟨n, hn⟩ := t
    have h' : n ≠ 0 := fun e => h (by subst e; rfl)
    refine (last7 m c n (by rw [hN]; omega) i).trans (congrArg (· + _) ?_)
    have hl : 11 * n < cfg0.N := by rw [hN]; omega
    have e := st_keep7 m c ⟨11 * n, hl⟩ (fun e => by have : 11 * n = 0 := (first_iff ⟨11 * n, hl⟩).mp e; omega)
      (fun e => by have : 11 * n % 11 = 10 := (last_iff ⟨11 * n, hl⟩).mp e; omega)
    refine (congrFun e i).trans ?_
    have q : 11 * n - 1 = 11 * (n - 1) + 10 := by omega
    exact congrFun (congrArg St.o7 (st_congr m c q)) i

/-! The loss. -/

/-- Between the first and the last point of a row of blocks its block stays, -/
theorem keep8 (n s : ℕ) (hs : s ≤ 9) (h : 11 * n + s < cfg0.N) :
    (st m c (11 * n + s) h).o8 = (st m c (11 * n) (by omega)).o8 := by
  induction s with
  | zero => rfl
  | succ s ih =>
    refine (st_keep8 m c ⟨11 * n + (s + 1), h⟩ (fun e => ?_) (fun e => ?_)).trans (ih (by omega) (by omega))
    · have e' : 11 * n + (s + 1) = 0 := (first_iff ⟨11 * n + (s + 1), h⟩).mp e
      omega
    · have e' : (11 * n + (s + 1)) % 11 = 10 := (last_iff ⟨11 * n + (s + 1), h⟩).mp e
      omega

/-- What a row of blocks adds to it. -/
def part8 (n : ℕ) (h : 11 * n + 10 < cfg0.N) (i : S1x1.Idx) : EReal :=
  Norm.onehalf * ∑ a : Fin 528, (∑ k : Fin 2048, E m c ⟨11 * n + 10, h⟩ (ix2 a k) * E m c ⟨11 * n + 10, h⟩ (ix2 a k)) * inv

/-- It is added at the last point. -/
theorem last8 (n : ℕ) (h : 11 * n + 10 < cfg0.N) (i) : (st m c (11 * n + 10) h).o8 i
    = (st m c (11 * n) (by omega)).o8 i + part8 m c n h i := by
  have e := st_last8 m c ⟨11 * n + 10, h⟩ ((last_iff ⟨11 * n + 10, h⟩).mpr (by show (11 * n + 10) % 11 = 10; omega))
  have e' : (st m c (11 * n + 10 - 1) (by omega)).o8 = (st m c (11 * n) (by omega)).o8 := keep8 m c n 9 (by omega) (by omega)
  refine (congrFun e i).trans ?_
  rw [pay5_at]
  exact congrArg (· + _) (congrFun e' i)

theorem total8 (i) : (st m c 87 (by rw [show cfg0.N = 88 from N_0]; omega)).o8 i
    = 0 + ∑ n : Fin 8, part8 m c n.val (by have := n.isLt; rw [show cfg0.N = 88 from N_0]; omega) i := by
  have hN : cfg0.N = 88 := N_0
  refine Pipeline.eq_sum_fin_of_reset_step_apply_last (N := 8) (fun n h => (st m c (11 * n + 10) (by rw [hN]; omega)).o8) 8
    (fun i => 0) (fun n i => part8 m c n.val (by have := n.isLt; rw [hN]; omega) i) (fun t h i => ?_) (fun t h i => ?_) (le_refl _) ⟨7, by omega⟩ rfl i
  · obtain ⟨n, hn⟩ := t
    have h' : n = 0 := by have : n % 8 = 0 := h; omega
    subst h'
    refine (last8 m c 0 (by rw [hN]; omega) i).trans (congrArg (· + _) ?_)
    refine (congrFun (st_first8 m c ⟨0, zero_lt⟩ ((first_iff ⟨0, zero_lt⟩).mpr rfl)) i).trans ?_
    rw [pay2_at]
  · obtain ⟨n, hn⟩ := t
    have h' : n ≠ 0 := fun e => h (by subst e; rfl)
    refine (last8 m c n (by rw [hN]; omega) i).trans (congrArg (· + _) ?_)
    have hl : 11 * n < cfg0.N := by rw [hN]; omega
    have e := st_keep8 m c ⟨11 * n, hl⟩ (fun e => by have : 11 * n = 0 := (first_iff ⟨11 * n, hl⟩).mp e; omega)
      (fun e => by have : 11 * n % 11 = 10 := (last_iff ⟨11 * n, hl⟩).mp e; omega)
    refine (congrFun e i).trans ?_
    have q : 11 * n - 1 = 11 * (n - 1) + 10 := by omega
    exact congrFun (congrArg St.o8 (st_congr m c q)) i

/-! ## The results -/

theorem final5 : (dats m 0 c).arrAt 5 (cfgs 0).N = DO m c := by
  refine (dats m 0 c).arrAt_eq_of_covers 5 _ (by decide +kernel) fun t hf y => ?_
  have hl : t.val % 11 = 10 := (flush0_5 t).mp hf
  have e0 : (((cfg0.win 5).blk t).view.emb y 0).val = t.val / 11 * 528 + (y 0).val := by blk_simp [idx t]
  have e1 : (((cfg0.win 5).blk t).view.emb y 1).val = (y 1).val := by blk_simp [idx t]
  have ey : ix2 (((cfg0.win 5).blk t).view.emb y 0) (((cfg0.win 5).blk t).view.emb y 1) = ((cfg0.win 5).blk t).view.emb y := by blk_ext
  have hy : y = ix2 (y 0) (y 1) := by blk_ext
  blk_simp
  rw [after0_5, st_row5 m c t ((last_iff t).mpr hl)]
  refine (congrArg _ hy).trans ?_
  exact (grad_last m c t hl (y 0) (((cfg0.win 5).blk t).view.emb y 0) e0 (y 1) (((cfg0.win 5).blk t).view.emb y 1) (Fin.ext e1.symm)).trans (congrArg _ ey)

theorem final6 : (dats m 0 c).arrAt 6 (cfgs 0).N = DF (FO m c) (A3 m c) (HALVED (DO m c)) := by
  refine (dats m 0 c).arrAt_eq_of_covers 6 _ (by decide +kernel) fun t hf y => ?_
  have hl : t.val % 11 = 10 := (flush0_6 t).mp hf
  have e0 : (((cfg0.win 6).blk t).view.emb y 0).val = t.val / 11 * 528 + (y 0).val := by blk_simp [idx t]
  have e1 : (((cfg0.win 6).blk t).view.emb y 1).val = (y 1).val := by blk_simp [idx t]
  have ey : ix2 (((cfg0.win 6).blk t).view.emb y 0) (((cfg0.win 6).blk t).view.emb y 1) = ((cfg0.win 6).blk t).view.emb y := by blk_ext
  have hy : y = ix2 (y 0) (y 1) := by blk_ext
  blk_simp
  rw [after0_6, st_row6 m c t ((last_iff t).mpr hl)]
  refine (pay7_at _ _ _ _).trans (Eq.trans ?_ (df_at _ _ _ _).symm)
  refine Eq.trans ?_ (Norm.kdx_eq_vdx _ _ _ _)
  refine Norm.kdx_congr (fun k => acc_last m c t hl (y 0) (((cfg0.win 6).blk t).view.emb y 0) e0 k k rfl) (row3 m c t) (fun k => ?_) (Fin.ext e1.symm)
  rw [halved_at]
  exact congrArg (Norm.onehalf * ·) (grad_last m c t hl (y 0) (((cfg0.win 6).blk t).view.emb y 0) e0 k k rfl)

theorem final7 : (dats m 0 c).arrAt 7 (cfgs 0).N = DG (FO m c) (HALVED (DO m c)) := by
  refine (dats m 0 c).arrAt_eq_of_covers 7 _ (by decide +kernel) fun t hf y => ?_
  have hN : cfg0.N = 88 := N_0
  have ht : t.val = 87 := by have := (flush0_7 t).mp hf; have := t.isLt; omega
  have e1 : (((cfg0.win 7).blk t).view.emb y 1).val = (y 1).val := by blk_simp [idx t]
  blk_simp
  rw [after0_7]
  obtain ⟨n, hn⟩ := t
  have ht' : n = 87 := ht
  subst ht'
  refine (total7 m c y).trans ?_
  rw [zero_add, dg_at]
  refine Fin.sum_mul_add_congr (n := 528) fun s a hl => ?_
  have hs : 11 * s.val + 10 < cfg0.N := by have := s.isLt; omega
  refine Norm.dg_congr (x := fun k => (st m c (11 * s.val + 10) hs).acc (ix3 0 a k)) (x' := fun k => FO m c (ix2 ⟨s * 528 + a, hl⟩ k))
    (p := fun k => Norm.onehalf * G m c ⟨11 * s.val + 10, hs⟩ (ix2 a k)) (p' := fun k => HALVED (DO m c) (ix2 ⟨s * 528 + a, hl⟩ k))
    (fun k => acc_last m c ⟨11 * s.val + 10, hs⟩ (by show (11 * s.val + 10) % 11 = 10; omega) a ⟨s * 528 + a, hl⟩ (by show s.val * 528 + a.val = (11 * s.val + 10) / 11 * 528 + a.val; omega) k k rfl) (fun k => ?_) (Fin.ext e1.symm)
  rw [halved_at]
  exact congrArg (Norm.onehalf * ·) (grad_last m c ⟨11 * s.val + 10, hs⟩ (by show (11 * s.val + 10) % 11 = 10; omega) a ⟨s * 528 + a, hl⟩ (by show s.val * 528 + a.val = (11 * s.val + 10) / 11 * 528 + a.val; omega) k k rfl)

theorem final8 : (dats m 0 c).arrAt 8 (cfgs 0).N = LOSS (FO m c) (A2 m c) (A3 m c) (A4 m c) := by
  refine (dats m 0 c).arrAt_eq_of_covers 8 _ (by decide +kernel) fun t hf y => ?_
  have hN : cfg0.N = 88 := N_0
  have ht : t.val = 87 := by have := (flush0_8 t).mp hf; have := t.isLt; omega
  have e1 : (((cfg0.win 8).blk t).view.emb y 1).val = (y 1).val := by blk_simp [idx t]
  blk_simp
  rw [after0_8]
  obtain ⟨n, hn⟩ := t
  have ht' : n = 87 := ht
  subst ht'
  refine (total8 m c y).trans ?_
  rw [zero_add, loss_at]
  refine (half_sum _ _).trans (congrArg (Norm.onehalf * ·) ?_)
  refine Fin.sum_mul_add_congr (n := 528) fun s a hl => ?_
  have hs : 11 * s.val + 10 < cfg0.N := by have := s.isLt; omega
  refine congrArg (· * inv) (Finset.sum_congr rfl fun k _ => ?_)
  have e := err_last m c ⟨11 * s.val + 10, hs⟩ (by show (11 * s.val + 10) % 11 = 10; omega) a ⟨s * 528 + a, hl⟩ (by show s.val * 528 + a.val = (11 * s.val + 10) / 11 * 528 + a.val; omega) k
  exact congrArg₂ (· * ·) e e

/-! ## The run -/

/-- The kernel's run, its results named. -/
theorem run_blocks (ρ : Dev nD → PrngReg) : θ_run defs (onTc (τ := τ) (main (F := Ideal))) ⟨m, fun _ => 0, ρ⟩ fun r => ∀ c : Dev nD,
    r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v0_2) = (dats m 0 c).arrAt 7 cfg0.N
      ∧ r.2.mem ((c.tc : Thread nD τ).loc main_v0_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1 5, (h c).1 6, (h c).1 7, (h c).1 8,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩) (run_main m ρ)

end Cert.LosIdeal.Value

end
-- ==== Proof.LosClaims.lean ====
/-
  Hand-written, untrusted. The claims about `Los`, proved: the frames from `Proof/LosFrame.lean`, and the value claim from `Proof/LosValue.lean`.
-/
module

public import proofs.«01_k».proof.Defs
public import proofs.«01_k».proof.Proof.Gen.Los
public import proofs.«01_k».proof.Proof.Gen.LosRefIdeal.Run
public import proofs.«01_k».proof.Proof.LosRef
public import proofs.«01_k».proof.Proof.LosValue

@[expose] public section

set_option maxRecDepth 16384

noncomputable section

namespace Cert.Proof.Los

open Idealize.ShloMosaic Idealize.ShloMosaic.TcCoe Idealize.SL.Sem
open Cert.LosRefIdeal.Arrays (PROD DY DF DG LOSS HALVED)

/-! ## The frames

The printed kernel and its idealisation have the same text, so the frame proved for every interpretation of the floats serves both. -/

theorem defs₀_eq : Cert.Los.defs₀ (F := Bits) = Cert.LosIdeal.defs₀ (F := Bits) := by
  refine congrArg Defs.onTc ?_
  funext l x
  match l, x with
  | 0, (t, s) => rfl
  | ⟨n + 1, h⟩, _ => exact absurd h (Nat.not_lt.2 (Nat.le_add_left _ _))

theorem defs_eq : Cert.Los.defs (F := Bits) = Cert.LosIdeal.defs (F := Bits) := congrArg (Pipeline.defs Cert.LosIdeal.pcfgs) defs₀_eq

theorem kernel : Cert.quiescent_Los (hLos := Cert.Los.Gen.facts) := fun m ρ _ => by
  have e := Cert.LosIdeal.Run.frame (F := Bits) m ρ
  rw [← defs_eq] at e
  exact e

theorem ideal : Cert.quiescent_LosIdeal (hLosIdeal := Cert.LosIdeal.Gen.facts) := fun m ρ _ => Cert.LosIdeal.Run.frame (F := Ideal) m ρ

theorem reference : Cert.quiescent_LosRefIdeal (hLosRefIdeal := Cert.LosRefIdeal.Gen.facts) := fun m ρ _ =>
  (θ_run Cert.LosRefIdeal.defs _ _).mono (fun r h => ⟨fun c => (h c).2.2.2.2, sem_eq_zero_of_no_sems (by decide) r.2⟩)
    (Cert.LosRefIdeal.Value.run (F := Ideal) m ρ)

/-! ## The values -/

/-! The reference's results are the arrays of `Proof/LosRef.lean`. -/

theorem ref1 (m' : (ℓ : Loc Cert.LosRefIdeal.nD Cert.LosRefIdeal.τ Cert.LosRefIdeal.sig) → Buf (Elt Ideal) ℓ) (c : Dev Cert.LosRefIdeal.nD) :
    Cert.LosRefIdeal.Value.res_main_v64 m' c = DF (PROD (m' ((c : Thread Cert.LosRefIdeal.nD Cert.LosRefIdeal.τ).loc Cert.LosRefIdeal.main_arg0)) (m' ((c : Thread Cert.LosRefIdeal.nD Cert.LosRefIdeal.τ).loc Cert.LosRefIdeal.main_arg1))) (m' ((c : Thread Cert.LosRefIdeal.nD Cert.LosRefIdeal.τ).loc Cert.LosRefIdeal.main_arg3)) (HALVED (DY (PROD (m' ((c : Thread Cert.LosRefIdeal.nD Cert.LosRefIdeal.τ).loc Cert.LosRefIdeal.main_arg0)) (m' ((c : Thread Cert.LosRefIdeal.nD Cert.LosRefIdeal.τ).loc Cert.LosRefIdeal.main_arg1))) (m' ((c : Thread Cert.LosRefIdeal.nD Cert.LosRefIdeal.τ).loc Cert.LosRefIdeal.main_arg2)) (m' ((c : Thread Cert.LosRefIdeal.nD Cert.LosRefIdeal.τ).loc Cert.LosRefIdeal.main_arg3)) (m' ((c : Thread Cert.LosRefIdeal.nD Cert.LosRefIdeal.τ).loc Cert.LosRefIdeal.main_arg4)))) := rfl

/-- From equal arguments the kernel and the reference end with equal results. -/
theorem value : Cert.algebraic_LosIdeal_LosRefIdeal (hLosIdeal := Cert.LosIdeal.Gen.facts) (hLosRefIdeal := Cert.LosRefIdeal.Gen.facts) := by
  intro m g m' g' _ hargs
  refine ⟨_, _, _, _, Cert.LosIdeal.Value.run_blocks m g, ?_⟩
  refine (θ_run Cert.LosRefIdeal.defs _ _).mono (fun r h c => ⟨(h c).1.trans ?_, (h c).2.1.trans ?_, (h c).2.2.1.trans ?_, (h c).2.2.2.1.trans ?_, (h c).2.2.2.2⟩) (Cert.LosRefIdeal.Value.run (F := Ideal) m' g')
  · show DY (PROD (m' ((c : Thread Cert.LosRefIdeal.nD Cert.LosRefIdeal.τ).loc Cert.LosRefIdeal.main_arg0)) (m' ((c : Thread Cert.LosRefIdeal.nD Cert.LosRefIdeal.τ).loc Cert.LosRefIdeal.main_arg1))) (m' ((c : Thread Cert.LosRefIdeal.nD Cert.LosRefIdeal.τ).loc Cert.LosRefIdeal.main_arg2)) (m' ((c : Thread Cert.LosRefIdeal.nD Cert.LosRefIdeal.τ).loc Cert.LosRefIdeal.main_arg3)) (m' ((c : Thread Cert.LosRefIdeal.nD Cert.LosRefIdeal.τ).loc Cert.LosRefIdeal.main_arg4)) = _
    try rw [(hargs c).1]
    try rw [(hargs c).2.1]
    try rw [(hargs c).2.2.1]
    try rw [(hargs c).2.2.2.1]
    try rw [(hargs c).2.2.2.2]
    exact (Cert.LosIdeal.Value.final5 m c).symm
  · refine (ref1 m' c).trans ?_
    try rw [(hargs c).1]
    try rw [(hargs c).2.1]
    try rw [(hargs c).2.2.1]
    try rw [(hargs c).2.2.2.1]
    try rw [(hargs c).2.2.2.2]
    exact (Cert.LosIdeal.Value.final6 m c).symm
  · show DG (PROD (m' ((c : Thread Cert.LosRefIdeal.nD Cert.LosRefIdeal.τ).loc Cert.LosRefIdeal.main_arg0)) (m' ((c : Thread Cert.LosRefIdeal.nD Cert.LosRefIdeal.τ).loc Cert.LosRefIdeal.main_arg1))) (HALVED (DY (PROD (m' ((c : Thread Cert.LosRefIdeal.nD Cert.LosRefIdeal.τ).loc Cert.LosRefIdeal.main_arg0)) (m' ((c : Thread Cert.LosRefIdeal.nD Cert.LosRefIdeal.τ).loc Cert.LosRefIdeal.main_arg1))) (m' ((c : Thread Cert.LosRefIdeal.nD Cert.LosRefIdeal.τ).loc Cert.LosRefIdeal.main_arg2)) (m' ((c : Thread Cert.LosRefIdeal.nD Cert.LosRefIdeal.τ).loc Cert.LosRefIdeal.main_arg3)) (m' ((c : Thread Cert.LosRefIdeal.nD Cert.LosRefIdeal.τ).loc Cert.LosRefIdeal.main_arg4)))) = _
    try rw [(hargs c).1]
    try rw [(hargs c).2.1]
    try rw [(hargs c).2.2.1]
    try rw [(hargs c).2.2.2.1]
    try rw [(hargs c).2.2.2.2]
    exact (Cert.LosIdeal.Value.final7 m c).symm
  · show LOSS (PROD (m' ((c : Thread Cert.LosRefIdeal.nD Cert.LosRefIdeal.τ).loc Cert.LosRefIdeal.main_arg0)) (m' ((c : Thread Cert.LosRefIdeal.nD Cert.LosRefIdeal.τ).loc Cert.LosRefIdeal.main_arg1))) (m' ((c : Thread Cert.LosRefIdeal.nD Cert.LosRefIdeal.τ).loc Cert.LosRefIdeal.main_arg2)) (m' ((c : Thread Cert.LosRefIdeal.nD Cert.LosRefIdeal.τ).loc Cert.LosRefIdeal.main_arg3)) (m' ((c : Thread Cert.LosRefIdeal.nD Cert.LosRefIdeal.τ).loc Cert.LosRefIdeal.main_arg4)) = _
    try rw [(hargs c).1]
    try rw [(hargs c).2.1]
    try rw [(hargs c).2.2.1]
    try rw [(hargs c).2.2.2.1]
    try rw [(hargs c).2.2.2.2]
    exact (Cert.LosIdeal.Value.final8 m c).symm

end Cert.Proof.Los

end
-- ==== Proof.AwiClaims.lean ====
/-
  Hand-written, untrusted. The claims about `Awi`, proved: the generated frames, and the kernel's results, read off entry by entry,
  as the reference's.
-/
module

public import proofs.«01_k».proof.Defs
public import proofs.«01_k».proof.Proof.Gen.Awi.Frame
public import proofs.«01_k».proof.Proof.Gen.AwiIdeal.Value
public import proofs.«01_k».proof.Proof.Gen.AwiRefIdeal.Run

@[expose] public section

set_option maxRecDepth 16384

noncomputable section

namespace Cert.Proof.Awi

open Idealize.ShloMosaic Idealize.SL.Sem

theorem kernel : Cert.quiescent_Awi (hAwi := Cert.Awi.Gen.facts) := fun m ρ _ => Cert.Awi.Gen.frame m ρ

theorem ideal : Cert.quiescent_AwiIdeal (hAwiIdeal := Cert.AwiIdeal.Gen.facts) := fun m ρ _ => Cert.AwiIdeal.Gen.frame m ρ

theorem reference : Cert.quiescent_AwiRefIdeal (hAwiRefIdeal := Cert.AwiRefIdeal.Gen.facts) := fun m ρ _ =>
  (θ_run Cert.AwiRefIdeal.defs _ _).mono (fun r h => ⟨fun c => (h c).2.2.2, sem_eq_zero_of_no_sems (by decide) r.2⟩)
    (Cert.AwiRefIdeal.Value.run (F := Ideal) m ρ)

/-- From equal arguments the kernel and the reference end with equal results. -/
theorem value : Cert.algebraic_AwiIdeal_AwiRefIdeal (hAwiIdeal := Cert.AwiIdeal.Gen.facts) (hAwiRefIdeal := Cert.AwiRefIdeal.Gen.facts) := by
  intro m g m' g' hp hargs
  refine ⟨_, _, _, Cert.AwiIdeal.Value.run m g, ?_⟩
  refine (θ_run Cert.AwiRefIdeal.defs _ _).mono (fun r h c => ⟨(h c).1.trans ?_, (h c).2.1.trans ?_, (h c).2.2.1.trans ?_, (h c).2.2.2⟩) (Cert.AwiRefIdeal.Value.run (F := Ideal) m' g')
  · rw [(hargs c).1, (hargs c).2.1, (hargs c).2.2.1, (hargs c).2.2.2]
    rfl
  · rw [(hargs c).2.1, (hargs c).2.2.1]
    rfl
  · rw [(hargs c).2.1, (hargs c).2.2.2]
    rfl

end Cert.Proof.Awi

end
-- ==== Proof.AsmClaims.lean ====
/-
  Hand-written, untrusted. The claims about `Asm`, proved: the generated frames, and the kernel's results, read off entry by entry,
  as the reference's.
-/
module

public import proofs.«01_k».proof.Defs
public import proofs.«01_k».proof.Proof.Gen.Asm.Frame
public import proofs.«01_k».proof.Proof.Gen.AsmIdeal.Value
public import proofs.«01_k».proof.Proof.Gen.AsmRefIdeal.Run

@[expose] public section

set_option maxRecDepth 16384

noncomputable section

namespace Cert.Proof.Asm

open Idealize.ShloMosaic Idealize.SL.Sem

theorem kernel : Cert.quiescent_Asm (hAsm := Cert.Asm.Gen.facts) := fun m ρ _ => Cert.Asm.Gen.frame m ρ

theorem ideal : Cert.quiescent_AsmIdeal (hAsmIdeal := Cert.AsmIdeal.Gen.facts) := fun m ρ _ => Cert.AsmIdeal.Gen.frame m ρ

theorem reference : Cert.quiescent_AsmRefIdeal (hAsmRefIdeal := Cert.AsmRefIdeal.Gen.facts) := fun m ρ _ =>
  (θ_run Cert.AsmRefIdeal.defs _ _).mono (fun r h => ⟨fun c => (h c).2.2.2, sem_eq_zero_of_no_sems (by decide) r.2⟩)
    (Cert.AsmRefIdeal.Value.run (F := Ideal) m ρ)

/-- From equal arguments the kernel and the reference end with equal results. -/
theorem value : Cert.algebraic_AsmIdeal_AsmRefIdeal (hAsmIdeal := Cert.AsmIdeal.Gen.facts) (hAsmRefIdeal := Cert.AsmRefIdeal.Gen.facts) := by
  intro m g m' g' hp hargs
  refine ⟨_, _, _, Cert.AsmIdeal.Value.run m g, ?_⟩
  refine (θ_run Cert.AsmRefIdeal.defs _ _).mono (fun r h c => ⟨(h c).1.trans ?_, (h c).2.1.trans ?_, (h c).2.2.1.trans ?_, (h c).2.2.2⟩) (Cert.AsmRefIdeal.Value.run (F := Ideal) m' g')
  · rw [(hargs c).1, (hargs c).2.1, (hargs c).2.2.1, (hargs c).2.2.2]
    rfl
  · rw [(hargs c).2.1, (hargs c).2.2.1]
    rfl
  · rw [(hargs c).2.1, (hargs c).2.2.2]
    rfl

end Cert.Proof.Asm

end
-- ==== Proof.SwiIdealTable.lean ====
/-
  Hand-written, untrusted. THE TABLE of `sum_w_in` at the first device's place: its words, and with them the side condition of the blocks
  it places.
-/
module

public import proofs.«01_k».proof.Defs
public import proofs.«01_k».proof.Proof.Gen.SwiIdeal.Frame

@[expose] public section

set_option maxRecDepth 16384

noncomputable section

open Idealize.ShloMosaic Idealize.ShloMosaic.TcCoe Idealize.SL.Sem

namespace Cert.SwiIdeal.Table

open Cert.SwiIdeal Cert.SwiIdeal.Gen

variable {F : FTy → Type} [FloatOps F]
variable (m : (ℓ : Loc nD τ sig) → Buf (Elt F) ℓ)

/-- The row of the gradient's block. -/
theorem word0 : (tbl m).at 0 (Rect.unit (s := S8) ![0] S1.size inb_S8_S1_0) numel1_S1 = 0#32 := by
  unfold tbl V
  after_results <;> rfl

/-- The place of the other core's block. -/
theorem word4 : (tbl m).at 0 (Rect.unit (s := S8) ![4] S1.size inb_S8_S1_4) numel1_S1 = 0#32 := by
  unfold tbl V
  after_results <;> rfl

theorem at0 (i : grid0.Coords) : cc0_transform_0 inb_S8_S1_0 numel1_S1 (tbl m) i = ![0, (BitVec.ofNat 32 (i 0).val).toNat] := by
  unfold cc0_transform_0
  simp only [word0]
  rfl

theorem at1 (i : grid0.Coords) : cc0_transform_1 inb_S8_S1_4 numel1_S1 (tbl m) i = ![0, 0, (BitVec.ofNat 32 (i 0).val).toNat] := by
  unfold cc0_transform_1
  simp only [word4]
  rfl

theorem inside0 : ∀ i : grid0.Coords, ∃ h : (∀ a, ((![0, (BitVec.ofNat 32 (i 0).val).toNat] : Fin 2 → Nat) a + 1) * S640x512.size a ≤ S5120x2048.size a),
    EltTy.bits .bf16 = 32 ∨ (Rect.block (s := S5120x2048) S640x512.size ![0, (BitVec.ofNat 32 (i 0).val).toNat] h).WholeWords (EltTy.packing .bf16) := by
  decide +kernel

theorem inside1 : ∀ i : grid0.Coords, ∃ h : (∀ a, ((![0, 0, (BitVec.ofNat 32 (i 0).val).toNat] : Fin 3 → Nat) a + 1) * S1x640x512.size a ≤ S4x640x2048.size a),
    EltTy.bits .bf16 = 32 ∨ (Rect.block (s := S4x640x2048) S1x640x512.size ![0, 0, (BitVec.ofNat 32 (i 0).val).toNat] h).WholeWords (EltTy.packing .bf16) := by
  decide +kernel

/-- Both blocks lie inside their arrays. -/
theorem ok : Ok m := by
  unfold Ok ok0
  simp only [at0, at1]
  exact ⟨inside0, inside1⟩

end Cert.SwiIdeal.Table

end
-- ==== Proof.SwiRef.lean ====
/-
  Hand-written, untrusted. THE REFERENCE OF `sum_w_in`, entry by entry.
-/
module

public import proofs.«01_k».proof.Proof.Gen.SwiRefIdeal.Run
public import Idealize.ShloMosaic.Lib.KernelVsHost
public import Idealize.ShloMosaic.Lib.Pipeline.ValueKit

@[expose] public section

set_option maxRecDepth 16384

noncomputable section

open Idealize.ShloMosaic Idealize.ShloMosaic.TcCoe

namespace Cert.SwiRefIdeal.Arrays

open Cert.SwiRefIdeal Cert.SwiRefIdeal.Gen

/-- The gradient's rows of the first device, the other core's and what was received, added. -/
def TOTAL (g : FVec Ideal S5120x2048 .bf16) (s : FVec Ideal S4x640x2048 .bf16) (r : FVec Ideal S3x640x2048 .bf16) : FVec Ideal S640x2048 .f32 :=
  addf (addf (extf .f32 (extractStridedSlice S640x2048 ![0, 0] g slices_S5120x2048_S640x2048_0_0) bitsLt_bf16_f32) (extf .f32 (shapeCast _ (extractStridedSlice S1x640x2048 ![0, 0, 0] s slices_S4x640x2048_S1x640x2048_0_0_0) shapeCasts_S1x640x2048_S640x2048) bitsLt_bf16_f32)) (Host.reduceAdd (extf .f32 r bitsLt_bf16_f32) (constant S_ .f32 0x00000000#32) reducesTo_S3x640x2048_S640x2048_d0 h_S_)

theorem total_at (g s r) (i : Fin 640) (j : Fin 2048) : TOTAL g s r (ix2 i j)
    = g (ix2 ⟨i.val, by omega⟩ j) + s (ix3 0 i j) + ∑ k : Fin 3, r (ix3 k i j) := by
  pointwise [TOTAL]
  blk_ext

end Cert.SwiRefIdeal.Arrays

end
-- ==== Proof.SwiValue.lean ====
/-
  Hand-written, untrusted. THE VALUES OF `sum_w_in`, block by block of 512 columns: the body adds its blocks.
-/
module

public import proofs.«01_k».proof.Defs
public import proofs.«01_k».proof.Proof.SwiIdealTable
public import proofs.«01_k».proof.Proof.SwiRef
public import Idealize.ShloMosaic.Lib.Pipeline.ValueKit
public import Idealize.ShloMosaic.Lib.Pipeline.Covers
public import Idealize.ShloMosaic.Lib.VecWindow
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.SwiIdeal.Value

open Cert.SwiIdeal Cert.SwiIdeal.Gen Cert.SwiIdeal.Table
open Cert.SwiRefIdeal.Arrays

/-! ## What the body writes -/

/-- One of the parts that were received. -/
def part (k : Fin 3) (x : Vec Ideal S3x640x512 .bf16) : Vec Ideal S1x640x512 .bf16 := fun y => x (ix3 k (y 1) (y 2))

variable (x0 : Vec Ideal S640x512 .bf16) (x1 : Vec Ideal S1x640x512 .bf16) (x2 : Vec Ideal S3x640x512 .bf16)

/-- The sum of the blocks. -/
def total : Vec Ideal S640x512 .f32 := k0_pay1 x0 x1 (part 0 x2) (part 1 x2) (part 2 x2)

theorem total_block (i : Fin 640) (j : Fin 512) : total x0 x1 x2 (ix2 i j) = x0 (ix2 i j) + x1 (ix3 0 i j) + ∑ k : Fin 3, x2 (ix3 k i j) := by
  rw [Fin.sum_univ_three]
  unfold total
  pointwise [k0_pay1, part, add_assoc]

theorem part_idx (k : Nat) (hk : k < 3) (inb) (y : S1x640x512.Idx) :
    (Rect.unit (s := S3x640x512) ![k, 0, 0] ![1, 640, 512] inb).idx y = ix3 ⟨k, hk⟩ (y 1) (y 2) := by
  have h0 : (y 0).val < 1 := (y 0).isLt
  funext a
  match a with
  | ⟨0, _⟩ => exact Fin.ext (show k + 1 * (y 0).val = k by omega)
  | ⟨1, _⟩ => exact Fin.ext (show 0 + 1 * (y 1).val = (y 1).val by omega)
  | ⟨2, _⟩ => exact Fin.ext (show 0 + 1 * (y 2).val = (y 2).val by omega)

theorem all_idx (inb) (y : S640x512.Idx) : (Rect.unit (s := S640x512) ![0, 0] ![640, 512] inb).idx y = y := by
  funext a
  match a with
  | ⟨0, _⟩ => exact Fin.ext (show 0 + 1 * (y 0).val = (y 0).val by omega)
  | ⟨1, _⟩ => exact Fin.ext (show 0 + 1 * (y 1).val = (y 1).val by omega)

theorem one_idx (inb) (y : S1x640x512.Idx) : (Rect.unit (s := S1x640x512) ![0, 0, 0] ![1, 640, 512] inb).idx y = y := by
  funext a
  match a with
  | ⟨0, _⟩ => exact Fin.ext (show 0 + 1 * (y 0).val = (y 0).val by omega)
  | ⟨1, _⟩ => exact Fin.ext (show 0 + 1 * (y 1).val = (y 1).val by omega)
  | ⟨2, _⟩ => exact Fin.ext (show 0 + 1 * (y 2).val = (y 2).val by omega)

theorem out3_eq (c : Dev nD) (i : grid0.Coords) (a2 h2 a3 h3 a4 h4 a5 h5) (xt) :
    out0_A_3 c i a2 h2 a3 h3 a4 h4 a5 h5 x0 x1 x2 xt = total x0 x1 x2 := by
  unfold out0_A_3 kernelRun0_A
  dsimp only
  refine (View.read_writes_full _ _ inb_S640x512_S640x512_0_0 _ _).trans ?_
  unfold total
  congr! 1 <;> funext y <;> refine (Memref.IsWhole.readAt_unread _ _ _ _).trans (congrArg _ ?_)
  all_goals first | exact part_idx _ (by decide) _ y | exact one_idx _ y | exact all_idx _ y

/-! ## Block against array -/

variable (m : (ℓ : Loc nD τ sig) → Buf (Elt Ideal) ℓ) (c : Dev nD)

abbrev A0 : FVec Ideal Cert.SwiRefIdeal.S5120x2048 .bf16 := m ((c : Thread nD τ).loc main_arg0)
abbrev A1 : FVec Ideal Cert.SwiRefIdeal.S4x640x2048 .bf16 := m ((c : Thread nD τ).loc main_arg1)
abbrev A2 : FVec Ideal Cert.SwiRefIdeal.S3x640x2048 .bf16 := m ((c : Thread nD τ).loc main_arg2)

/-- The pipeline at the first device's table. -/
abbrev cfgT : Pipeline.Cfg sig Λ₀ := cfgM m (ok m)

theorem col (t : Fin (cfgT m).N) : (BitVec.ofNat 32 (grid0.coords t 0).val).toNat = t.val :=
  (by decide +kernel : ∀ t : Fin grid0.N, (BitVec.ofNat 32 (grid0.coords t 0).val).toNat = t.val) t

theorem idx0 (t : Fin (cfgT m).N) : ((cfgT m).win 0).index t = ![0, t.val] := (at0 m _).trans (by rw [col])
theorem idx1 (t : Fin (cfgT m).N) : ((cfgT m).win 1).index t = ![0, 0, t.val] := (at1 m _).trans (by rw [col])
theorem idx2 (t : Fin (cfgT m).N) : ((cfgT m).win 2).index t = ![0, 0, t.val] :=
  (by decide +kernel : ∀ t : Fin grid0.N, cc0_transform_2 (grid0.coords t) = ![0, 0, t.val]) t
theorem idx3 (t : Fin (cfgT m).N) : ((cfgT m).win 3).index t = ![0, t.val] :=
  (by decide +kernel : ∀ t : Fin grid0.N, cc0_transform_3 (grid0.coords t) = ![0, t.val]) t

theorem row0 (t : Fin (cfgT m).N) (a : Fin 640) (b : Fin 512) (j : Fin 2048) (hj : j.val = t.val * 512 + b.val) :
    iblk m (ok m) c 0 t (ix2 a b) = A0 m c (ix2 ⟨a.val, by omega⟩ j) := by
  unfold iblk
  show View.read _ (((cfgT m).win 0).blk t).view (V m c main_arg0) _ = _
  rw [V_main_arg0]
  blk_ext [A0, idx0 m t]

theorem row1 (t : Fin (cfgT m).N) (a : Fin 640) (b : Fin 512) (j : Fin 2048) (hj : j.val = t.val * 512 + b.val) :
    iblk m (ok m) c 1 t (ix3 0 a b) = A1 m c (ix3 0 a j) := by
  unfold iblk
  show View.read _ (((cfgT m).win 1).blk t).view (V m c main_arg1) _ = _
  rw [V_main_arg1]
  blk_ext [A1, idx1 m t]

theorem row2 (t : Fin (cfgT m).N) (k : Fin 3) (a : Fin 640) (b : Fin 512) (j : Fin 2048) (hj : j.val = t.val * 512 + b.val) :
    iblk m (ok m) c 2 t (ix3 k a b) = A2 m c (ix3 k a j) := by
  unfold iblk
  show View.read _ (((cfgT m).win 2).blk t).view (V m c main_arg2) _ = _
  rw [V_main_arg2]
  blk_ext [A2, idx2 m t]

/-- The sum of the blocks is the block of the sum. -/
theorem total_row (t : Fin (cfgT m).N) (a : Fin 640) (b : Fin 512) (j : Fin 2048) (hj : j.val = t.val * 512 + b.val) :
    total (iblk m (ok m) c 0 t) (iblk m (ok m) c 1 t) (iblk m (ok m) c 2 t) (ix2 a b) = TOTAL (A0 m c) (A1 m c) (A2 m c) (ix2 a j) := by
  refine (total_block _ _ _ a b).trans (Eq.trans ?_ (total_at _ _ _ a j).symm)
  exact congrArg₂ (· + ·) (congrArg₂ (· + ·) (row0 m c t a b j hj) (row1 m c t a b j hj)) (Finset.sum_congr rfl fun k _ => row2 m c t k a b j hj)

/-- Where an entry of a block of result 3 sits. -/
abbrev em3 (t : Fin (cfgT m).N) (y : S640x512.Idx) : S640x2048.Idx := (((cfgT m).win 3).blk t).view.emb y

theorem covers3 : ((cfgT m).win 3).Covers := by
  refine Pipeline.Window.covers_of_index_surj _ rfl (by decide : ∀ a : Fin 2, 0 < S640x512.size a) fun β => ?_
  have n1 : ((cfgT m).win 3).nblk (1 : Fin 2) = 4 := show (2048 + 512 - 1) / 512 = 4 from rfl
  have n0 : ((cfgT m).win 3).nblk (0 : Fin 2) = 1 := show (640 + 640 - 1) / 640 = 1 from rfl
  have h1 : (β (1 : Fin 2)).val < 4 := lt_of_lt_of_eq (β (1 : Fin 2)).isLt n1
  have h0 : (β (0 : Fin 2)).val < 1 := lt_of_lt_of_eq (β (0 : Fin 2)).isLt n0
  refine ⟨⟨(β (1 : Fin 2)).val, h1⟩, fun a => ?_⟩
  rw [idx3]
  match a with
  | ⟨0, _⟩ => exact (Nat.lt_one_iff.mp h0).symm
  | ⟨1, _⟩ => rfl

theorem em3_eq (t : Fin (cfgT m).N) (y : S640x512.Idx) (j : Fin 2048) (hj : j.val = t.val * 512 + (y 1).val) : em3 m t y = ix2 (y 0) j := by
  have e0 : (em3 m t y 0).val = (y 0).val := by
    show ((((cfgT m).win 3).blk t).view.emb y (0 : Fin 2)).val = _
    blk_simp [idx3 m t]
  have e1 : (em3 m t y 1).val = t.val * 512 + (y 1).val := by
    show ((((cfgT m).win 3).blk t).view.emb y (1 : Fin 2)).val = _
    blk_simp [idx3 m t]
  funext a
  match a with
  | ⟨0, _⟩ => exact Fin.ext e0
  | ⟨1, _⟩ => exact Fin.ext (e1.trans hj.symm)

/-- What the body leaves of result 3 at a point. -/
def left3 (t : Fin (cfgT m).N) : Vec Ideal S640x512 .f32 := total (iblk m (ok m) c 0 t) (iblk m (ok m) c 1 t) (iblk m (ok m) c 2 t)

theorem after3 (t : Fin (cfgT m).N) : (dats m (ok m) 0 c).after 3 t = left3 m c t := by
  refine (after0_3 m (ok m) c t).trans ?_
  unfold outsAt0 left3
  exact out3_eq (iblk m (ok m) c 0 t) (iblk m (ok m) c 1 t) (iblk m (ok m) c 2 t) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (tbl m 0)

theorem left3_at (t : Fin (cfgT m).N) (a : Fin 640) (b : Fin 512) (j : Fin 2048) (hj : j.val = t.val * 512 + b.val) :
    left3 m c t (ix2 a b) = TOTAL (A0 m c) (A1 m c) (A2 m c) (ix2 a j) := by
  unfold left3
  exact total_row m c t a b j hj

theorem final3 : (dats m (ok m) 0 c).arrAt 3 (cfgT m).N = TOTAL (A0 m c) (A1 m c) (A2 m c) := by
  refine (dats m (ok m) 0 c).arrAt_eq_of_covers 3 _ (covers3 m) fun t hf (y : S640x512.Idx) => ?_
  have ht : t.val < 4 := t.isLt
  have hb : (y 1).val < 512 := (y 1).isLt
  have hj : t.val * 512 + (y 1).val < 2048 := by omega
  have hy : y = ix2 (y 0) (y 1) := by blk_ext
  have e : left3 m c t y = TOTAL (A0 m c) (A1 m c) (A2 m c) (em3 m t y) :=
    (congrArg (left3 m c t) hy).trans ((left3_at m c t (y 0) (y 1) ⟨_, hj⟩ rfl).trans (congrArg (TOTAL (A0 m c) (A1 m c) (A2 m c)) (em3_eq m t y ⟨_, hj⟩ rfl).symm))
  exact (congrFun (after3 m c t) y).trans e

/-- Every run ends with the results at the reference's arrays of the arguments, and the arguments as they were. -/
theorem run_blocks (ρ : Dev nD → PrngReg) :
    θ_run defs (onTc (τ := τ) (main (F := Ideal))) ⟨m, fun _ => 0, ρ⟩ fun r => ∀ c : Dev nD,
      r.2.mem ((c.tc : Thread nD τ).loc main_v9) = TOTAL (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (final3 m c),
      (h.2 c).1,
      (h.2 c).2.1,
      (h.2 c).2.2⟩)
    (θ_run_and (run_main m ρ (ok m)) ((θ_run defs _ _).mono (fun _ h => h.1) (frame m ρ (ok m))))

end Cert.SwiIdeal.Value

end
-- ==== Proof.SwiClaims.lean ====
/-
  Hand-written, untrusted. The claims about `Swi`, proved: the frames at the first device's table, and the values of `Proof/SwiValue.lean`.
-/
module

public import proofs.«01_k».proof.Defs
public import proofs.«01_k».proof.Proof.SwiTable
public import proofs.«01_k».proof.Proof.SwiIdealTable
public import proofs.«01_k».proof.Proof.SwiValue

@[expose] public section

set_option maxRecDepth 16384

noncomputable section

namespace Cert.Proof.Swi

open Idealize.ShloMosaic Idealize.SL.Sem

theorem kernel : Cert.quiescent_Swi (hSwi := Cert.Swi.Gen.facts) := fun m ρ _ => Cert.Swi.Gen.frame m ρ (Cert.Swi.Table.ok m)

theorem ideal : Cert.quiescent_SwiIdeal (hSwiIdeal := Cert.SwiIdeal.Gen.facts) := fun m ρ _ => Cert.SwiIdeal.Gen.frame m ρ (Cert.SwiIdeal.Table.ok m)

theorem reference : Cert.quiescent_SwiRefIdeal (hSwiRefIdeal := Cert.SwiRefIdeal.Gen.facts) := fun m ρ _ =>
  (θ_run Cert.SwiRefIdeal.defs _ _).mono (fun r h => ⟨fun c => (h c).2, sem_eq_zero_of_no_sems (by decide) r.2⟩)
    (Cert.SwiRefIdeal.Value.run (F := Ideal) m ρ)

/-- From equal arguments the kernel and the reference end with equal results. -/
theorem value : Cert.algebraic_SwiIdeal_SwiRefIdeal (hSwiIdeal := Cert.SwiIdeal.Gen.facts) (hSwiRefIdeal := Cert.SwiRefIdeal.Gen.facts) := by
  intro m g m' g' hp hargs
  refine ⟨_, Cert.SwiIdeal.Value.run_blocks m g, ?_⟩
  refine (θ_run Cert.SwiRefIdeal.defs _ _).mono (fun r h c => ⟨(h c).1.trans ?_, (h c).2⟩) (Cert.SwiRefIdeal.Value.run (F := Ideal) m' g')
  · rw [(hargs c).1, (hargs c).2.1, (hargs c).2.2]
    rfl

end Cert.Proof.Swi

end
-- ==== Proof.UpoIdealTable.lean ====
/-
  Hand-written, untrusted. THE TABLE of `update_w_out` at the first device's place: its words, and with them the side condition of the blocks
  it places.
-/
module

public import proofs.«01_k».proof.Defs
public import proofs.«01_k».proof.Proof.Gen.UpoIdeal.Frame

@[expose] public section

set_option maxRecDepth 16384

noncomputable section

open Idealize.ShloMosaic Idealize.ShloMosaic.TcCoe Idealize.SL.Sem

namespace Cert.UpoIdeal.Table

open Cert.UpoIdeal Cert.UpoIdeal.Gen

variable {F : FTy → Type} [FloatOps F]
variable (m : (ℓ : Loc nD τ sig) → Buf (Elt F) ℓ)

/-- The row of the gradient's block. -/
theorem word0 : (tbl m).at 0 (Rect.unit (s := S8) ![0] S1.size inb_S8_S1_0) numel1_S1 = 0#32 := by
  unfold tbl V
  after_results <;> rfl

/-- The place of the other core's block. -/
theorem word4 : (tbl m).at 0 (Rect.unit (s := S8) ![4] S1.size inb_S8_S1_4) numel1_S1 = 0#32 := by
  unfold tbl V
  after_results <;> rfl

theorem at0 (i : grid0.Coords) : cc0_transform_0 inb_S8_S1_0 numel1_S1 (tbl m) i = ![0, (BitVec.ofNat 32 (i 0).val).toNat] := by
  unfold cc0_transform_0
  simp only [word0]
  rfl

theorem at1 (i : grid0.Coords) : cc0_transform_1 inb_S8_S1_4 numel1_S1 (tbl m) i = ![0, 0, (BitVec.ofNat 32 (i 0).val).toNat] := by
  unfold cc0_transform_1
  simp only [word4]
  rfl

theorem inside0 : ∀ i : grid0.Coords, ∃ h : (∀ a, ((![0, (BitVec.ofNat 32 (i 0).val).toNat] : Fin 2 → Nat) a + 1) * S256x512.size a ≤ S2048x2048.size a),
    EltTy.bits .bf16 = 32 ∨ (Rect.block (s := S2048x2048) S256x512.size ![0, (BitVec.ofNat 32 (i 0).val).toNat] h).WholeWords (EltTy.packing .bf16) := by
  decide +kernel

theorem inside1 : ∀ i : grid0.Coords, ∃ h : (∀ a, ((![0, 0, (BitVec.ofNat 32 (i 0).val).toNat] : Fin 3 → Nat) a + 1) * S1x256x512.size a ≤ S4x256x2048.size a),
    EltTy.bits .bf16 = 32 ∨ (Rect.block (s := S4x256x2048) S1x256x512.size ![0, 0, (BitVec.ofNat 32 (i 0).val).toNat] h).WholeWords (EltTy.packing .bf16) := by
  decide +kernel

/-- Both blocks lie inside their arrays. -/
theorem ok : Ok m := by
  unfold Ok ok0
  simp only [at0, at1]
  exact ⟨inside0, inside1⟩

end Cert.UpoIdeal.Table

end
-- ==== Proof.UpoRef.lean ====
/-
  Hand-written, untrusted. THE REFERENCE OF `update_w_out`, entry by entry.
-/
module

public import proofs.«01_k».proof.Proof.Gen.UpoRefIdeal.Run
public import Idealize.ShloMosaic.Lib.KernelVsHost
public import Idealize.ShloMosaic.Lib.Pipeline.ValueKit

@[expose] public section

set_option maxRecDepth 16384

noncomputable section

open Idealize.ShloMosaic Idealize.ShloMosaic.TcCoe

namespace Cert.UpoRefIdeal.Arrays

open Cert.UpoRefIdeal Cert.UpoRefIdeal.Gen

/-- The gradient's rows of the first device, the other core's and what was received, added. -/
def TOTAL (g : FVec Ideal S2048x2048 .bf16) (s : FVec Ideal S4x256x2048 .bf16) (r : FVec Ideal S3x256x2048 .bf16) : FVec Ideal S256x2048 .f32 :=
  addf (addf (extf .f32 (extractStridedSlice S256x2048 ![0, 0] g slices_S2048x2048_S256x2048_0_0) bitsLt_bf16_f32) (extf .f32 (shapeCast _ (extractStridedSlice S1x256x2048 ![0, 0, 0] s slices_S4x256x2048_S1x256x2048_0_0_0) shapeCasts_S1x256x2048_S256x2048) bitsLt_bf16_f32)) (Host.reduceAdd (extf .f32 r bitsLt_bf16_f32) (constant S_ .f32 0x00000000#32) reducesTo_S3x256x2048_S256x2048_d0 h_S_)

theorem total_at (g s r) (i : Fin 256) (j : Fin 2048) : TOTAL g s r (ix2 i j)
    = g (ix2 ⟨i.val, by omega⟩ j) + s (ix3 0 i j) + ∑ k : Fin 3, r (ix3 k i j) := by
  pointwise [TOTAL]
  blk_ext

/-- The new first moment. -/
def NEWM (g w : FVec Ideal S256x2048 .f32) : FVec Ideal S256x2048 .f32 := addf (mulf (broadcastInDim S256x2048 ![] bcast_S_S256x2048 (constant S_ .f32 0x3F666666#32)) w) (mulf (broadcastInDim S256x2048 ![] bcast_S_S256x2048 (constant S_ .f32 0x3DCCCCCD#32)) g)

/-- The new second moment. -/
def NEWV (g w : FVec Ideal S256x2048 .f32) : FVec Ideal S256x2048 .f32 := addf (mulf (broadcastInDim S256x2048 ![] bcast_S_S256x2048 (constant S_ .f32 0x3F7FBE77#32)) w) (mulf (broadcastInDim S256x2048 ![] bcast_S_S256x2048 (constant S_ .f32 0x3A83126F#32)) (mulf g g))

/-- The step of the weights `w`, from their gradient and moments. -/
def DELTA (g w m v : FVec Ideal S256x2048 .f32) : FVec Ideal S256x2048 .f32 :=
  mulf (broadcastInDim S256x2048 ![] bcast_S_S256x2048 (constant S_ .f32 0xBA83126F#32)) (addf (Host.divf (Host.divf (NEWM g m) (broadcastInDim S256x2048 ![] bcast_S_S256x2048 (constant S_ .f32 0x3F26BD02#32))) (addf (Host.sqrt (Host.divf (NEWV g v) (broadcastInDim S256x2048 ![] bcast_S_S256x2048 (constant S_ .f32 0x3C231ACC#32)))) (broadcastInDim S256x2048 ![] bcast_S_S256x2048 (constant S_ .f32 0x322BCC77#32)))) (mulf (broadcastInDim S256x2048 ![] bcast_S_S256x2048 (constant S_ .f32 0x3C23D70A#32)) w))

end Cert.UpoRefIdeal.Arrays

end
-- ==== Proof.UpoValue.lean ====
/-
  Hand-written, untrusted. THE VALUES OF `update_w_out`, block by block of 512 columns: the body adds its blocks and updates from the sum.
-/
module

public import proofs.«01_k».proof.Defs
public import proofs.«01_k».proof.Proof.UpoIdealTable
public import proofs.«01_k».proof.Proof.UpoRef
public import Idealize.ShloMosaic.Lib.Pipeline.ValueKit
public import Idealize.ShloMosaic.Lib.Pipeline.Covers
public import Idealize.ShloMosaic.Lib.VecWindow
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.UpoIdeal.Value

open Cert.UpoIdeal Cert.UpoIdeal.Gen Cert.UpoIdeal.Table
open Cert.UpoRefIdeal.Arrays

/-! ## What the body writes -/

/-- One of the parts that were received. -/
def part (k : Fin 3) (x : Vec Ideal S3x256x512 .bf16) : Vec Ideal S1x256x512 .bf16 := fun y => x (ix3 k (y 1) (y 2))

variable (x0 : Vec Ideal S256x512 .bf16) (x1 : Vec Ideal S1x256x512 .bf16) (x2 : Vec Ideal S3x256x512 .bf16)
  (x3 x4 x5 : Vec Ideal S256x512 .f32)

/-- The sum of the blocks. -/
def total : Vec Ideal S256x512 .f32 := k0_pay3 x0 x1 (part 0 x2) (part 1 x2) (part 2 x2)

theorem total_block (i : Fin 256) (j : Fin 512) : total x0 x1 x2 (ix2 i j) = x0 (ix2 i j) + x1 (ix3 0 i j) + ∑ k : Fin 3, x2 (ix3 k i j) := by
  rw [Fin.sum_univ_three]
  unfold total
  pointwise [k0_pay3, part, add_assoc]

theorem part_idx (k : Nat) (hk : k < 3) (inb) (y : S1x256x512.Idx) :
    (Rect.unit (s := S3x256x512) ![k, 0, 0] ![1, 256, 512] inb).idx y = ix3 ⟨k, hk⟩ (y 1) (y 2) := by
  have h0 : (y 0).val < 1 := (y 0).isLt
  funext a
  match a with
  | ⟨0, _⟩ => exact Fin.ext (show k + 1 * (y 0).val = k by omega)
  | ⟨1, _⟩ => exact Fin.ext (show 0 + 1 * (y 1).val = (y 1).val by omega)
  | ⟨2, _⟩ => exact Fin.ext (show 0 + 1 * (y 2).val = (y 2).val by omega)

theorem all_idx (inb) (y : S256x512.Idx) : (Rect.unit (s := S256x512) ![0, 0] ![256, 512] inb).idx y = y := by
  funext a
  match a with
  | ⟨0, _⟩ => exact Fin.ext (show 0 + 1 * (y 0).val = (y 0).val by omega)
  | ⟨1, _⟩ => exact Fin.ext (show 0 + 1 * (y 1).val = (y 1).val by omega)

theorem one_idx (inb) (y : S1x256x512.Idx) : (Rect.unit (s := S1x256x512) ![0, 0, 0] ![1, 256, 512] inb).idx y = y := by
  funext a
  match a with
  | ⟨0, _⟩ => exact Fin.ext (show 0 + 1 * (y 0).val = (y 0).val by omega)
  | ⟨1, _⟩ => exact Fin.ext (show 0 + 1 * (y 1).val = (y 1).val by omega)
  | ⟨2, _⟩ => exact Fin.ext (show 0 + 1 * (y 2).val = (y 2).val by omega)

theorem r_eq (c : Dev nD) (a5 h5) : kernelRun0_A.sl.r c a5 h5 x3 = x3 := by
  unfold kernelRun0_A.sl.r
  funext y <;> refine (Memref.IsWhole.readAt_unread _ _ _ _).trans (congrArg _ ?_)
  all_goals first | exact part_idx _ (by decide) _ y | exact one_idx _ y | exact all_idx _ y

theorem r_1_eq (c : Dev nD) (a2 h2 a3 h3 a4 h4 a6 h6) : kernelRun0_A.sl.r_1 c a2 h2 a3 h3 a4 h4 a6 h6 x0 x1 x2 x4 = k0_pay4 x0 x1 (part 0 x2) (part 1 x2) (part 2 x2) x4 := by
  unfold kernelRun0_A.sl.r_1
  congr! 1 <;> funext y <;> refine (Memref.IsWhole.readAt_unread _ _ _ _).trans (congrArg _ ?_)
  all_goals first | exact part_idx _ (by decide) _ y | exact one_idx _ y | exact all_idx _ y

theorem r_2_eq (c : Dev nD) (a7 h7) : kernelRun0_A.sl.r_2 c a7 h7 x5 = k0_pay5 x5 := by
  unfold kernelRun0_A.sl.r_2
  congr! 1 <;> funext y <;> refine (Memref.IsWhole.readAt_unread _ _ _ _).trans (congrArg _ ?_)
  all_goals first | exact part_idx _ (by decide) _ y | exact one_idx _ y | exact all_idx _ y

theorem r_3_eq (c : Dev nD) (a2 h2 a3 h3 a4 h4) : kernelRun0_A.sl.r_3 c a2 h2 a3 h3 a4 h4 x0 x1 x2 = k0_pay6 x0 x1 (part 0 x2) (part 1 x2) (part 2 x2) := by
  unfold kernelRun0_A.sl.r_3
  congr! 1 <;> funext y <;> refine (Memref.IsWhole.readAt_unread _ _ _ _).trans (congrArg _ ?_)
  all_goals first | exact part_idx _ (by decide) _ y | exact one_idx _ y | exact all_idx _ y

theorem out6_eq (c : Dev nD) (i : grid0.Coords) (a2 h2 a3 h3 a4 h4 a5 h5 a6 h6 a7 h7 a8 h8 a9 h9 a10 h10 a11 h11) (xt) :
    out0_A_6 c i a2 h2 a3 h3 a4 h4 a5 h5 a6 h6 a7 h7 a8 h8 a9 h9 a10 h10 a11 h11 x0 x1 x2 x3 x4 x5 xt = total x0 x1 x2 := by
  unfold out0_A_6 kernelRun0_A
  dsimp only
  refine (View.read_writes_full _ _ inb_S256x512_S256x512_0_0 _ _).trans ?_
  unfold total
  congr! 1 <;> funext y <;> refine (Memref.IsWhole.readAt_unread _ _ _ _).trans (congrArg _ ?_)
  all_goals first | exact part_idx _ (by decide) _ y | exact one_idx _ y | exact all_idx _ y

theorem out7_eq (c : Dev nD) (i : grid0.Coords) (a2 h2 a3 h3 a4 h4 a5 h5 a6 h6 a7 h7 a8 h8 a9 h9 a10 h10 a11 h11) (xt) :
    out0_A_7 c i a2 h2 a3 h3 a4 h4 a5 h5 a6 h6 a7 h7 a8 h8 a9 h9 a10 h10 a11 h11 x0 x1 x2 x3 x4 x5 xt = k0_pay2 x3 (k0_pay4 x0 x1 (part 0 x2) (part 1 x2) (part 2 x2) x4) (k0_pay5 x5) (k0_pay6 x0 x1 (part 0 x2) (part 1 x2) (part 2 x2)) := by
  unfold out0_A_7 kernelRun0_A
  dsimp only
  refine (View.read_writes_full _ _ inb_S256x512_S256x512_0_0 _ _).trans ?_
  exact congr (congr (congr (congrArg k0_pay2 (r_eq _ _ _ _)) (r_1_eq _ _ _ _ _ _ _ _ _ _ _ _ _)) (r_2_eq _ _ _ _)) (r_3_eq _ _ _ _ _ _ _ _ _ _)

theorem out8_eq (c : Dev nD) (i : grid0.Coords) (a2 h2 a3 h3 a4 h4 a5 h5 a6 h6 a7 h7 a8 h8 a9 h9 a10 h10 a11 h11) (xt) :
    out0_A_8 c i a2 h2 a3 h3 a4 h4 a5 h5 a6 h6 a7 h7 a8 h8 a9 h9 a10 h10 a11 h11 x0 x1 x2 x3 x4 x5 xt = k0_pay4 x0 x1 (part 0 x2) (part 1 x2) (part 2 x2) x4 := by
  unfold out0_A_8 kernelRun0_A
  dsimp only
  refine (View.read_writes_full _ _ inb_S256x512_S256x512_0_0 _ _).trans ?_
  exact r_1_eq _ _ _ _ _ _ _ _ _ _ _ _ _

theorem out9_eq (c : Dev nD) (i : grid0.Coords) (a2 h2 a3 h3 a4 h4 a5 h5 a6 h6 a7 h7 a8 h8 a9 h9 a10 h10 a11 h11) (xt) :
    out0_A_9 c i a2 h2 a3 h3 a4 h4 a5 h5 a6 h6 a7 h7 a8 h8 a9 h9 a10 h10 a11 h11 x0 x1 x2 x3 x4 x5 xt = k0_pay1 (k0_pay5 x5) (k0_pay6 x0 x1 (part 0 x2) (part 1 x2) (part 2 x2)) := by
  unfold out0_A_9 kernelRun0_A
  dsimp only
  refine (View.read_writes_full _ _ inb_S256x512_S256x512_0_0 _ _).trans ?_
  exact congr (congrArg k0_pay1 (r_2_eq _ _ _ _)) (r_3_eq _ _ _ _ _ _ _ _ _ _)

/-! ## Block against array -/

variable (m : (ℓ : Loc nD τ sig) → Buf (Elt Ideal) ℓ) (c : Dev nD)

abbrev A0 : FVec Ideal Cert.UpoRefIdeal.S2048x2048 .bf16 := m ((c : Thread nD τ).loc main_arg0)
abbrev A1 : FVec Ideal Cert.UpoRefIdeal.S4x256x2048 .bf16 := m ((c : Thread nD τ).loc main_arg1)
abbrev A2 : FVec Ideal Cert.UpoRefIdeal.S3x256x2048 .bf16 := m ((c : Thread nD τ).loc main_arg2)
abbrev A3 : FVec Ideal Cert.UpoRefIdeal.S256x2048 .f32 := m ((c : Thread nD τ).loc main_arg3)
abbrev A4 : FVec Ideal Cert.UpoRefIdeal.S256x2048 .f32 := m ((c : Thread nD τ).loc main_arg4)
abbrev A5 : FVec Ideal Cert.UpoRefIdeal.S256x2048 .f32 := m ((c : Thread nD τ).loc main_arg5)

/-- The pipeline at the first device's table. -/
abbrev cfgT : Pipeline.Cfg sig Λ₀ := cfgM m (ok m)

theorem col (t : Fin (cfgT m).N) : (BitVec.ofNat 32 (grid0.coords t 0).val).toNat = t.val :=
  (by decide +kernel : ∀ t : Fin grid0.N, (BitVec.ofNat 32 (grid0.coords t 0).val).toNat = t.val) t

theorem idx0 (t : Fin (cfgT m).N) : ((cfgT m).win 0).index t = ![0, t.val] := (at0 m _).trans (by rw [col])
theorem idx1 (t : Fin (cfgT m).N) : ((cfgT m).win 1).index t = ![0, 0, t.val] := (at1 m _).trans (by rw [col])
theorem idx2 (t : Fin (cfgT m).N) : ((cfgT m).win 2).index t = ![0, 0, t.val] :=
  (by decide +kernel : ∀ t : Fin grid0.N, cc0_transform_2 (grid0.coords t) = ![0, 0, t.val]) t
theorem idx3 (t : Fin (cfgT m).N) : ((cfgT m).win 3).index t = ![0, t.val] :=
  (by decide +kernel : ∀ t : Fin grid0.N, cc0_transform_3 (grid0.coords t) = ![0, t.val]) t
theorem idx4 (t : Fin (cfgT m).N) : ((cfgT m).win 4).index t = ![0, t.val] :=
  (by decide +kernel : ∀ t : Fin grid0.N, cc0_transform_4 (grid0.coords t) = ![0, t.val]) t
theorem idx5 (t : Fin (cfgT m).N) : ((cfgT m).win 5).index t = ![0, t.val] :=
  (by decide +kernel : ∀ t : Fin grid0.N, cc0_transform_5 (grid0.coords t) = ![0, t.val]) t
theorem idx6 (t : Fin (cfgT m).N) : ((cfgT m).win 6).index t = ![0, t.val] :=
  (by decide +kernel : ∀ t : Fin grid0.N, cc0_transform_6 (grid0.coords t) = ![0, t.val]) t
theorem idx7 (t : Fin (cfgT m).N) : ((cfgT m).win 7).index t = ![0, t.val] :=
  (by decide +kernel : ∀ t : Fin grid0.N, cc0_transform_7 (grid0.coords t) = ![0, t.val]) t
theorem idx8 (t : Fin (cfgT m).N) : ((cfgT m).win 8).index t = ![0, t.val] :=
  (by decide +kernel : ∀ t : Fin grid0.N, cc0_transform_8 (grid0.coords t) = ![0, t.val]) t
theorem idx9 (t : Fin (cfgT m).N) : ((cfgT m).win 9).index t = ![0, t.val] :=
  (by decide +kernel : ∀ t : Fin grid0.N, cc0_transform_9 (grid0.coords t) = ![0, t.val]) t

theorem row0 (t : Fin (cfgT m).N) (a : Fin 256) (b : Fin 512) (j : Fin 2048) (hj : j.val = t.val * 512 + b.val) :
    iblk m (ok m) c 0 t (ix2 a b) = A0 m c (ix2 ⟨a.val, by omega⟩ j) := by
  unfold iblk
  show View.read _ (((cfgT m).win 0).blk t).view (V m c main_arg0) _ = _
  rw [V_main_arg0]
  blk_ext [A0, idx0 m t]

theorem row1 (t : Fin (cfgT m).N) (a : Fin 256) (b : Fin 512) (j : Fin 2048) (hj : j.val = t.val * 512 + b.val) :
    iblk m (ok m) c 1 t (ix3 0 a b) = A1 m c (ix3 0 a j) := by
  unfold iblk
  show View.read _ (((cfgT m).win 1).blk t).view (V m c main_arg1) _ = _
  rw [V_main_arg1]
  blk_ext [A1, idx1 m t]

theorem row2 (t : Fin (cfgT m).N) (k : Fin 3) (a : Fin 256) (b : Fin 512) (j : Fin 2048) (hj : j.val = t.val * 512 + b.val) :
    iblk m (ok m) c 2 t (ix3 k a b) = A2 m c (ix3 k a j) := by
  unfold iblk
  show View.read _ (((cfgT m).win 2).blk t).view (V m c main_arg2) _ = _
  rw [V_main_arg2]
  blk_ext [A2, idx2 m t]

theorem row3 (t : Fin (cfgT m).N) (a : Fin 256) (b : Fin 512) (j : Fin 2048) (hj : j.val = t.val * 512 + b.val) :
    iblk m (ok m) c 3 t (ix2 a b) = A3 m c (ix2 a j) := by
  unfold iblk
  show View.read _ (((cfgT m).win 3).blk t).view (V m c main_arg3) _ = _
  rw [V_main_arg3]
  blk_ext [A3, idx3 m t]

theorem row4 (t : Fin (cfgT m).N) (a : Fin 256) (b : Fin 512) (j : Fin 2048) (hj : j.val = t.val * 512 + b.val) :
    iblk m (ok m) c 4 t (ix2 a b) = A4 m c (ix2 a j) := by
  unfold iblk
  show View.read _ (((cfgT m).win 4).blk t).view (V m c main_arg4) _ = _
  rw [V_main_arg4]
  blk_ext [A4, idx4 m t]

theorem row5 (t : Fin (cfgT m).N) (a : Fin 256) (b : Fin 512) (j : Fin 2048) (hj : j.val = t.val * 512 + b.val) :
    iblk m (ok m) c 5 t (ix2 a b) = A5 m c (ix2 a j) := by
  unfold iblk
  show View.read _ (((cfgT m).win 5).blk t).view (V m c main_arg5) _ = _
  rw [V_main_arg5]
  blk_ext [A5, idx5 m t]

/-- The sum of the blocks is the block of the sum. -/
theorem total_row (t : Fin (cfgT m).N) (a : Fin 256) (b : Fin 512) (j : Fin 2048) (hj : j.val = t.val * 512 + b.val) :
    total (iblk m (ok m) c 0 t) (iblk m (ok m) c 1 t) (iblk m (ok m) c 2 t) (ix2 a b) = TOTAL (A0 m c) (A1 m c) (A2 m c) (ix2 a j) := by
  refine (total_block _ _ _ a b).trans (Eq.trans ?_ (total_at _ _ _ a j).symm)
  exact congrArg₂ (· + ·) (congrArg₂ (· + ·) (row0 m c t a b j hj) (row1 m c t a b j hj)) (Finset.sum_congr rfl fun k _ => row2 m c t k a b j hj)

/-! The update is entry by entry: entries of blocks and of arrays that agree give the same. -/

section Entry

variable (T W M V : FVec Ideal Cert.UpoRefIdeal.S256x2048 .f32) (a : Fin 256) (b : Fin 512) (j : Fin 2048)

theorem newm_entry (h : total x0 x1 x2 (ix2 a b) = T (ix2 a j)) (hm : x4 (ix2 a b) = M (ix2 a j)) : (k0_pay4 x0 x1 (part 0 x2) (part 1 x2) (part 2 x2) x4) (ix2 a b) = NEWM T M (ix2 a j) := by
  show (fun s p => NEWM (fun _ => s) (fun _ => p) (ix2 a j)) (total x0 x1 x2 (ix2 a b)) (x4 (ix2 a b)) = (fun s p => NEWM (fun _ => s) (fun _ => p) (ix2 a j)) (T (ix2 a j)) (M (ix2 a j))
  rw [h, hm]

theorem newv_entry (h : total x0 x1 x2 (ix2 a b) = T (ix2 a j)) (hv : x5 (ix2 a b) = V (ix2 a j)) : (k0_pay1 (k0_pay5 x5) (k0_pay6 x0 x1 (part 0 x2) (part 1 x2) (part 2 x2))) (ix2 a b) = NEWV T V (ix2 a j) := by
  show (fun s p => NEWV (fun _ => s) (fun _ => p) (ix2 a j)) (total x0 x1 x2 (ix2 a b)) (x5 (ix2 a b)) = (fun s p => NEWV (fun _ => s) (fun _ => p) (ix2 a j)) (T (ix2 a j)) (V (ix2 a j))
  rw [h, hv]

theorem delta_entry (h : total x0 x1 x2 (ix2 a b) = T (ix2 a j)) (hw : x3 (ix2 a b) = W (ix2 a j)) (hm : x4 (ix2 a b) = M (ix2 a j)) (hv : x5 (ix2 a b) = V (ix2 a j)) :
    (k0_pay2 x3 (k0_pay4 x0 x1 (part 0 x2) (part 1 x2) (part 2 x2) x4) (k0_pay5 x5) (k0_pay6 x0 x1 (part 0 x2) (part 1 x2) (part 2 x2))) (ix2 a b) = DELTA T W M V (ix2 a j) := by
  show (fun s q p v => DELTA (fun _ => s) (fun _ => q) (fun _ => p) (fun _ => v) (ix2 a j)) (total x0 x1 x2 (ix2 a b)) (x3 (ix2 a b)) (x4 (ix2 a b)) (x5 (ix2 a b))
    = (fun s q p v => DELTA (fun _ => s) (fun _ => q) (fun _ => p) (fun _ => v) (ix2 a j)) (T (ix2 a j)) (W (ix2 a j)) (M (ix2 a j)) (V (ix2 a j))
  rw [h, hw, hm, hv]

end Entry

/-- Where an entry of a block of result 6 sits. -/
abbrev em6 (t : Fin (cfgT m).N) (y : S256x512.Idx) : S256x2048.Idx := (((cfgT m).win 6).blk t).view.emb y

theorem covers6 : ((cfgT m).win 6).Covers := by
  refine Pipeline.Window.covers_of_index_surj _ rfl (by decide : ∀ a : Fin 2, 0 < S256x512.size a) fun β => ?_
  have n1 : ((cfgT m).win 6).nblk (1 : Fin 2) = 4 := show (2048 + 512 - 1) / 512 = 4 from rfl
  have n0 : ((cfgT m).win 6).nblk (0 : Fin 2) = 1 := show (256 + 256 - 1) / 256 = 1 from rfl
  have h1 : (β (1 : Fin 2)).val < 4 := lt_of_lt_of_eq (β (1 : Fin 2)).isLt n1
  have h0 : (β (0 : Fin 2)).val < 1 := lt_of_lt_of_eq (β (0 : Fin 2)).isLt n0
  refine ⟨⟨(β (1 : Fin 2)).val, h1⟩, fun a => ?_⟩
  rw [idx6]
  match a with
  | ⟨0, _⟩ => exact (Nat.lt_one_iff.mp h0).symm
  | ⟨1, _⟩ => rfl

theorem em6_eq (t : Fin (cfgT m).N) (y : S256x512.Idx) (j : Fin 2048) (hj : j.val = t.val * 512 + (y 1).val) : em6 m t y = ix2 (y 0) j := by
  have e0 : (em6 m t y 0).val = (y 0).val := by
    show ((((cfgT m).win 6).blk t).view.emb y (0 : Fin 2)).val = _
    blk_simp [idx6 m t]
  have e1 : (em6 m t y 1).val = t.val * 512 + (y 1).val := by
    show ((((cfgT m).win 6).blk t).view.emb y (1 : Fin 2)).val = _
    blk_simp [idx6 m t]
  funext a
  match a with
  | ⟨0, _⟩ => exact Fin.ext e0
  | ⟨1, _⟩ => exact Fin.ext (e1.trans hj.symm)

/-- What the body leaves of result 6 at a point. -/
def left6 (t : Fin (cfgT m).N) : Vec Ideal S256x512 .f32 := total (iblk m (ok m) c 0 t) (iblk m (ok m) c 1 t) (iblk m (ok m) c 2 t)

set_option maxHeartbeats 3000000 in
theorem after6 (t : Fin (cfgT m).N) : (dats m (ok m) 0 c).after 6 t = left6 m c t := by
  refine (after0_6 m (ok m) c t).trans ?_
  unfold outsAt0 left6
  exact out6_eq (iblk m (ok m) c 0 t) (iblk m (ok m) c 1 t) (iblk m (ok m) c 2 t) (iblk m (ok m) c 3 t) (iblk m (ok m) c 4 t) (iblk m (ok m) c 5 t) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (tbl m 0)

theorem left6_at (t : Fin (cfgT m).N) (a : Fin 256) (b : Fin 512) (j : Fin 2048) (hj : j.val = t.val * 512 + b.val) :
    left6 m c t (ix2 a b) = TOTAL (A0 m c) (A1 m c) (A2 m c) (ix2 a j) := by
  unfold left6
  exact total_row m c t a b j hj

theorem final6 : (dats m (ok m) 0 c).arrAt 6 (cfgT m).N = TOTAL (A0 m c) (A1 m c) (A2 m c) := by
  refine (dats m (ok m) 0 c).arrAt_eq_of_covers 6 _ (covers6 m) fun t hf (y : S256x512.Idx) => ?_
  have ht : t.val < 4 := t.isLt
  have hb : (y 1).val < 512 := (y 1).isLt
  have hj : t.val * 512 + (y 1).val < 2048 := by omega
  have hy : y = ix2 (y 0) (y 1) := by blk_ext
  have e : left6 m c t y = TOTAL (A0 m c) (A1 m c) (A2 m c) (em6 m t y) :=
    (congrArg (left6 m c t) hy).trans ((left6_at m c t (y 0) (y 1) ⟨_, hj⟩ rfl).trans (congrArg (TOTAL (A0 m c) (A1 m c) (A2 m c)) (em6_eq m t y ⟨_, hj⟩ rfl).symm))
  exact (congrFun (after6 m c t) y).trans e

/-- Where an entry of a block of result 7 sits. -/
abbrev em7 (t : Fin (cfgT m).N) (y : S256x512.Idx) : S256x2048.Idx := (((cfgT m).win 7).blk t).view.emb y

theorem covers7 : ((cfgT m).win 7).Covers := by
  refine Pipeline.Window.covers_of_index_surj _ rfl (by decide : ∀ a : Fin 2, 0 < S256x512.size a) fun β => ?_
  have n1 : ((cfgT m).win 7).nblk (1 : Fin 2) = 4 := show (2048 + 512 - 1) / 512 = 4 from rfl
  have n0 : ((cfgT m).win 7).nblk (0 : Fin 2) = 1 := show (256 + 256 - 1) / 256 = 1 from rfl
  have h1 : (β (1 : Fin 2)).val < 4 := lt_of_lt_of_eq (β (1 : Fin 2)).isLt n1
  have h0 : (β (0 : Fin 2)).val < 1 := lt_of_lt_of_eq (β (0 : Fin 2)).isLt n0
  refine ⟨⟨(β (1 : Fin 2)).val, h1⟩, fun a => ?_⟩
  rw [idx7]
  match a with
  | ⟨0, _⟩ => exact (Nat.lt_one_iff.mp h0).symm
  | ⟨1, _⟩ => rfl

theorem em7_eq (t : Fin (cfgT m).N) (y : S256x512.Idx) (j : Fin 2048) (hj : j.val = t.val * 512 + (y 1).val) : em7 m t y = ix2 (y 0) j := by
  have e0 : (em7 m t y 0).val = (y 0).val := by
    show ((((cfgT m).win 7).blk t).view.emb y (0 : Fin 2)).val = _
    blk_simp [idx7 m t]
  have e1 : (em7 m t y 1).val = t.val * 512 + (y 1).val := by
    show ((((cfgT m).win 7).blk t).view.emb y (1 : Fin 2)).val = _
    blk_simp [idx7 m t]
  funext a
  match a with
  | ⟨0, _⟩ => exact Fin.ext e0
  | ⟨1, _⟩ => exact Fin.ext (e1.trans hj.symm)

/-- What the body leaves of result 7 at a point. -/
def left7 (t : Fin (cfgT m).N) : Vec Ideal S256x512 .f32 := k0_pay2 (iblk m (ok m) c 3 t) (k0_pay4 (iblk m (ok m) c 0 t) (iblk m (ok m) c 1 t) (part 0 (iblk m (ok m) c 2 t)) (part 1 (iblk m (ok m) c 2 t)) (part 2 (iblk m (ok m) c 2 t)) (iblk m (ok m) c 4 t)) (k0_pay5 (iblk m (ok m) c 5 t)) (k0_pay6 (iblk m (ok m) c 0 t) (iblk m (ok m) c 1 t) (part 0 (iblk m (ok m) c 2 t)) (part 1 (iblk m (ok m) c 2 t)) (part 2 (iblk m (ok m) c 2 t)))

set_option maxHeartbeats 3000000 in
theorem after7 (t : Fin (cfgT m).N) : (dats m (ok m) 0 c).after 7 t = left7 m c t := by
  refine (after0_7 m (ok m) c t).trans ?_
  unfold outsAt0 left7
  exact out7_eq (iblk m (ok m) c 0 t) (iblk m (ok m) c 1 t) (iblk m (ok m) c 2 t) (iblk m (ok m) c 3 t) (iblk m (ok m) c 4 t) (iblk m (ok m) c 5 t) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (tbl m 0)

theorem left7_at (t : Fin (cfgT m).N) (a : Fin 256) (b : Fin 512) (j : Fin 2048) (hj : j.val = t.val * 512 + b.val) :
    left7 m c t (ix2 a b) = DELTA (TOTAL (A0 m c) (A1 m c) (A2 m c)) (A3 m c) (A4 m c) (A5 m c) (ix2 a j) := by
  unfold left7
  exact delta_entry _ _ _ _ _ _ _ _ _ _ a b j (total_row m c t a b j hj) (row3 m c t a b j hj) (row4 m c t a b j hj) (row5 m c t a b j hj)

theorem final7 : (dats m (ok m) 0 c).arrAt 7 (cfgT m).N = DELTA (TOTAL (A0 m c) (A1 m c) (A2 m c)) (A3 m c) (A4 m c) (A5 m c) := by
  refine (dats m (ok m) 0 c).arrAt_eq_of_covers 7 _ (covers7 m) fun t hf (y : S256x512.Idx) => ?_
  have ht : t.val < 4 := t.isLt
  have hb : (y 1).val < 512 := (y 1).isLt
  have hj : t.val * 512 + (y 1).val < 2048 := by omega
  have hy : y = ix2 (y 0) (y 1) := by blk_ext
  have e : left7 m c t y = DELTA (TOTAL (A0 m c) (A1 m c) (A2 m c)) (A3 m c) (A4 m c) (A5 m c) (em7 m t y) :=
    (congrArg (left7 m c t) hy).trans ((left7_at m c t (y 0) (y 1) ⟨_, hj⟩ rfl).trans (congrArg (DELTA (TOTAL (A0 m c) (A1 m c) (A2 m c)) (A3 m c) (A4 m c) (A5 m c)) (em7_eq m t y ⟨_, hj⟩ rfl).symm))
  exact (congrFun (after7 m c t) y).trans e

/-- Where an entry of a block of result 8 sits. -/
abbrev em8 (t : Fin (cfgT m).N) (y : S256x512.Idx) : S256x2048.Idx := (((cfgT m).win 8).blk t).view.emb y

theorem covers8 : ((cfgT m).win 8).Covers := by
  refine Pipeline.Window.covers_of_index_surj _ rfl (by decide : ∀ a : Fin 2, 0 < S256x512.size a) fun β => ?_
  have n1 : ((cfgT m).win 8).nblk (1 : Fin 2) = 4 := show (2048 + 512 - 1) / 512 = 4 from rfl
  have n0 : ((cfgT m).win 8).nblk (0 : Fin 2) = 1 := show (256 + 256 - 1) / 256 = 1 from rfl
  have h1 : (β (1 : Fin 2)).val < 4 := lt_of_lt_of_eq (β (1 : Fin 2)).isLt n1
  have h0 : (β (0 : Fin 2)).val < 1 := lt_of_lt_of_eq (β (0 : Fin 2)).isLt n0
  refine ⟨⟨(β (1 : Fin 2)).val, h1⟩, fun a => ?_⟩
  rw [idx8]
  match a with
  | ⟨0, _⟩ => exact (Nat.lt_one_iff.mp h0).symm
  | ⟨1, _⟩ => rfl

theorem em8_eq (t : Fin (cfgT m).N) (y : S256x512.Idx) (j : Fin 2048) (hj : j.val = t.val * 512 + (y 1).val) : em8 m t y = ix2 (y 0) j := by
  have e0 : (em8 m t y 0).val = (y 0).val := by
    show ((((cfgT m).win 8).blk t).view.emb y (0 : Fin 2)).val = _
    blk_simp [idx8 m t]
  have e1 : (em8 m t y 1).val = t.val * 512 + (y 1).val := by
    show ((((cfgT m).win 8).blk t).view.emb y (1 : Fin 2)).val = _
    blk_simp [idx8 m t]
  funext a
  match a with
  | ⟨0, _⟩ => exact Fin.ext e0
  | ⟨1, _⟩ => exact Fin.ext (e1.trans hj.symm)

/-- What the body leaves of result 8 at a point. -/
def left8 (t : Fin (cfgT m).N) : Vec Ideal S256x512 .f32 := k0_pay4 (iblk m (ok m) c 0 t) (iblk m (ok m) c 1 t) (part 0 (iblk m (ok m) c 2 t)) (part 1 (iblk m (ok m) c 2 t)) (part 2 (iblk m (ok m) c 2 t)) (iblk m (ok m) c 4 t)

set_option maxHeartbeats 3000000 in
theorem after8 (t : Fin (cfgT m).N) : (dats m (ok m) 0 c).after 8 t = left8 m c t := by
  refine (after0_8 m (ok m) c t).trans ?_
  unfold outsAt0 left8
  exact out8_eq (iblk m (ok m) c 0 t) (iblk m (ok m) c 1 t) (iblk m (ok m) c 2 t) (iblk m (ok m) c 3 t) (iblk m (ok m) c 4 t) (iblk m (ok m) c 5 t) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (tbl m 0)

theorem left8_at (t : Fin (cfgT m).N) (a : Fin 256) (b : Fin 512) (j : Fin 2048) (hj : j.val = t.val * 512 + b.val) :
    left8 m c t (ix2 a b) = NEWM (TOTAL (A0 m c) (A1 m c) (A2 m c)) (A4 m c) (ix2 a j) := by
  unfold left8
  exact newm_entry _ _ _ _ _ _ a b j (total_row m c t a b j hj) (row4 m c t a b j hj)

theorem final8 : (dats m (ok m) 0 c).arrAt 8 (cfgT m).N = NEWM (TOTAL (A0 m c) (A1 m c) (A2 m c)) (A4 m c) := by
  refine (dats m (ok m) 0 c).arrAt_eq_of_covers 8 _ (covers8 m) fun t hf (y : S256x512.Idx) => ?_
  have ht : t.val < 4 := t.isLt
  have hb : (y 1).val < 512 := (y 1).isLt
  have hj : t.val * 512 + (y 1).val < 2048 := by omega
  have hy : y = ix2 (y 0) (y 1) := by blk_ext
  have e : left8 m c t y = NEWM (TOTAL (A0 m c) (A1 m c) (A2 m c)) (A4 m c) (em8 m t y) :=
    (congrArg (left8 m c t) hy).trans ((left8_at m c t (y 0) (y 1) ⟨_, hj⟩ rfl).trans (congrArg (NEWM (TOTAL (A0 m c) (A1 m c) (A2 m c)) (A4 m c)) (em8_eq m t y ⟨_, hj⟩ rfl).symm))
  exact (congrFun (after8 m c t) y).trans e

/-- Where an entry of a block of result 9 sits. -/
abbrev em9 (t : Fin (cfgT m).N) (y : S256x512.Idx) : S256x2048.Idx := (((cfgT m).win 9).blk t).view.emb y

theorem covers9 : ((cfgT m).win 9).Covers := by
  refine Pipeline.Window.covers_of_index_surj _ rfl (by decide : ∀ a : Fin 2, 0 < S256x512.size a) fun β => ?_
  have n1 : ((cfgT m).win 9).nblk (1 : Fin 2) = 4 := show (2048 + 512 - 1) / 512 = 4 from rfl
  have n0 : ((cfgT m).win 9).nblk (0 : Fin 2) = 1 := show (256 + 256 - 1) / 256 = 1 from rfl
  have h1 : (β (1 : Fin 2)).val < 4 := lt_of_lt_of_eq (β (1 : Fin 2)).isLt n1
  have h0 : (β (0 : Fin 2)).val < 1 := lt_of_lt_of_eq (β (0 : Fin 2)).isLt n0
  refine ⟨⟨(β (1 : Fin 2)).val, h1⟩, fun a => ?_⟩
  rw [idx9]
  match a with
  | ⟨0, _⟩ => exact (Nat.lt_one_iff.mp h0).symm
  | ⟨1, _⟩ => rfl

theorem em9_eq (t : Fin (cfgT m).N) (y : S256x512.Idx) (j : Fin 2048) (hj : j.val = t.val * 512 + (y 1).val) : em9 m t y = ix2 (y 0) j := by
  have e0 : (em9 m t y 0).val = (y 0).val := by
    show ((((cfgT m).win 9).blk t).view.emb y (0 : Fin 2)).val = _
    blk_simp [idx9 m t]
  have e1 : (em9 m t y 1).val = t.val * 512 + (y 1).val := by
    show ((((cfgT m).win 9).blk t).view.emb y (1 : Fin 2)).val = _
    blk_simp [idx9 m t]
  funext a
  match a with
  | ⟨0, _⟩ => exact Fin.ext e0
  | ⟨1, _⟩ => exact Fin.ext (e1.trans hj.symm)

/-- What the body leaves of result 9 at a point. -/
def left9 (t : Fin (cfgT m).N) : Vec Ideal S256x512 .f32 := k0_pay1 (k0_pay5 (iblk m (ok m) c 5 t)) (k0_pay6 (iblk m (ok m) c 0 t) (iblk m (ok m) c 1 t) (part 0 (iblk m (ok m) c 2 t)) (part 1 (iblk m (ok m) c 2 t)) (part 2 (iblk m (ok m) c 2 t)))

set_option maxHeartbeats 3000000 in
theorem after9 (t : Fin (cfgT m).N) : (dats m (ok m) 0 c).after 9 t = left9 m c t := by
  refine (after0_9 m (ok m) c t).trans ?_
  unfold outsAt0 left9
  exact out9_eq (iblk m (ok m) c 0 t) (iblk m (ok m) c 1 t) (iblk m (ok m) c 2 t) (iblk m (ok m) c 3 t) (iblk m (ok m) c 4 t) (iblk m (ok m) c 5 t) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (tbl m 0)

theorem left9_at (t : Fin (cfgT m).N) (a : Fin 256) (b : Fin 512) (j : Fin 2048) (hj : j.val = t.val * 512 + b.val) :
    left9 m c t (ix2 a b) = NEWV (TOTAL (A0 m c) (A1 m c) (A2 m c)) (A5 m c) (ix2 a j) := by
  unfold left9
  exact newv_entry _ _ _ _ _ _ a b j (total_row m c t a b j hj) (row5 m c t a b j hj)

theorem final9 : (dats m (ok m) 0 c).arrAt 9 (cfgT m).N = NEWV (TOTAL (A0 m c) (A1 m c) (A2 m c)) (A5 m c) := by
  refine (dats m (ok m) 0 c).arrAt_eq_of_covers 9 _ (covers9 m) fun t hf (y : S256x512.Idx) => ?_
  have ht : t.val < 4 := t.isLt
  have hb : (y 1).val < 512 := (y 1).isLt
  have hj : t.val * 512 + (y 1).val < 2048 := by omega
  have hy : y = ix2 (y 0) (y 1) := by blk_ext
  have e : left9 m c t y = NEWV (TOTAL (A0 m c) (A1 m c) (A2 m c)) (A5 m c) (em9 m t y) :=
    (congrArg (left9 m c t) hy).trans ((left9_at m c t (y 0) (y 1) ⟨_, hj⟩ rfl).trans (congrArg (NEWV (TOTAL (A0 m c) (A1 m c) (A2 m c)) (A5 m c)) (em9_eq m t y ⟨_, hj⟩ rfl).symm))
  exact (congrFun (after9 m c t) y).trans e

/-- Every run ends with the results at the reference's arrays of the arguments, and the arguments as they were. -/
theorem run_blocks (ρ : Dev nD → PrngReg) :
    θ_run defs (onTc (τ := τ) (main (F := Ideal))) ⟨m, fun _ => 0, ρ⟩ fun r => ∀ c : Dev nD,
      r.2.mem ((c.tc : Thread nD τ).loc main_v9_0) = TOTAL (A0 m c) (A1 m c) (A2 m c)
      ∧ r.2.mem ((c.tc : Thread nD τ).loc main_v9_1) = DELTA (TOTAL (A0 m c) (A1 m c) (A2 m c)) (A3 m c) (A4 m c) (A5 m c)
      ∧ r.2.mem ((c.tc : Thread nD τ).loc main_v9_2) = NEWM (TOTAL (A0 m c) (A1 m c) (A2 m c)) (A4 m c)
      ∧ r.2.mem ((c.tc : Thread nD τ).loc main_v9_3) = NEWV (TOTAL (A0 m c) (A1 m c) (A2 m c)) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 6).trans (final6 m c),
      ((h.1 c).1 7).trans (final7 m c),
      ((h.1 c).1 8).trans (final8 m c),
      ((h.1 c).1 9).trans (final9 m c),
      (h.2 c).1,
      (h.2 c).2.1,
      (h.2 c).2.2.1,
      (h.2 c).2.2.2.1,
      (h.2 c).2.2.2.2.1,
      (h.2 c).2.2.2.2.2⟩)
    (θ_run_and (run_main m ρ (ok m)) ((θ_run defs _ _).mono (fun _ h => h.1) (frame m ρ (ok m))))

end Cert.UpoIdeal.Value

end
-- ==== Proof.UpoClaims.lean ====
/-
  Hand-written, untrusted. The claims about `Upo`, proved: the frames at the first device's table, and the values of `Proof/UpoValue.lean`.
-/
module

public import proofs.«01_k».proof.Defs
public import proofs.«01_k».proof.Proof.UpoTable
public import proofs.«01_k».proof.Proof.UpoIdealTable
public import proofs.«01_k».proof.Proof.UpoValue

@[expose] public section

set_option maxRecDepth 16384

noncomputable section

namespace Cert.Proof.Upo

open Idealize.ShloMosaic Idealize.SL.Sem

theorem kernel : Cert.quiescent_Upo (hUpo := Cert.Upo.Gen.facts) := fun m ρ _ => Cert.Upo.Gen.frame m ρ (Cert.Upo.Table.ok m)

theorem ideal : Cert.quiescent_UpoIdeal (hUpoIdeal := Cert.UpoIdeal.Gen.facts) := fun m ρ _ => Cert.UpoIdeal.Gen.frame m ρ (Cert.UpoIdeal.Table.ok m)

theorem reference : Cert.quiescent_UpoRefIdeal (hUpoRefIdeal := Cert.UpoRefIdeal.Gen.facts) := fun m ρ _ =>
  (θ_run Cert.UpoRefIdeal.defs _ _).mono (fun r h => ⟨fun c => (h c).2.2.2.2, sem_eq_zero_of_no_sems (by decide) r.2⟩)
    (Cert.UpoRefIdeal.Value.run (F := Ideal) m ρ)

/-- From equal arguments the kernel and the reference end with equal results. -/
theorem value : Cert.algebraic_UpoIdeal_UpoRefIdeal (hUpoIdeal := Cert.UpoIdeal.Gen.facts) (hUpoRefIdeal := Cert.UpoRefIdeal.Gen.facts) := by
  intro m g m' g' hp hargs
  refine ⟨_, _, _, _, Cert.UpoIdeal.Value.run_blocks m g, ?_⟩
  refine (θ_run Cert.UpoRefIdeal.defs _ _).mono (fun r h c => ⟨(h c).1.trans ?_, (h c).2.1.trans ?_, (h c).2.2.1.trans ?_, (h c).2.2.2.1.trans ?_, (h c).2.2.2.2⟩) (Cert.UpoRefIdeal.Value.run (F := Ideal) m' g')
  · rw [(hargs c).1, (hargs c).2.1, (hargs c).2.2.1]
    rfl
  · rw [(hargs c).1, (hargs c).2.1, (hargs c).2.2.1, (hargs c).2.2.2.1, (hargs c).2.2.2.2.1, (hargs c).2.2.2.2.2]
    rfl
  · rw [(hargs c).1, (hargs c).2.1, (hargs c).2.2.1, (hargs c).2.2.2.2.1]
    rfl
  · rw [(hargs c).1, (hargs c).2.1, (hargs c).2.2.1, (hargs c).2.2.2.2.2]
    rfl

end Cert.Proof.Upo

end
-- ==== Proof.SstClaims.lean ====
/-
  Hand-written, untrusted. The claims about `Sst`, proved: the generated frames, and the sum of the eight parts, entry by entry.
-/
module

public import proofs.«01_k».proof.Defs
public import proofs.«01_k».proof.Proof.Gen.Sst.Frame
public import proofs.«01_k».proof.Proof.Gen.SstIdeal.Value
public import proofs.«01_k».proof.Proof.Gen.SstRefIdeal.Run
public import Idealize.ShloMosaic.Lib.KernelVsHost
public import Idealize.ShloMosaic.Lib.Pipeline.ValueKit

@[expose] public section

set_option maxRecDepth 16384

noncomputable section

namespace Cert.Proof.Sst

open Idealize.ShloMosaic Idealize.ShloMosaic.TcCoe Idealize.SL.Sem

theorem kernel : Cert.quiescent_Sst (hSst := Cert.Sst.Gen.facts) := fun m ρ _ => Cert.Sst.Gen.frame m ρ

theorem ideal : Cert.quiescent_SstIdeal (hSstIdeal := Cert.SstIdeal.Gen.facts) := fun m ρ _ => Cert.SstIdeal.Gen.frame m ρ

theorem reference : Cert.quiescent_SstRefIdeal (hSstRefIdeal := Cert.SstRefIdeal.Gen.facts) := fun m ρ _ =>
  (θ_run Cert.SstRefIdeal.defs _ _).mono (fun r h => ⟨fun c => (h c).2, sem_eq_zero_of_no_sems (by decide) r.2⟩)
    (Cert.SstRefIdeal.Value.run (F := Ideal) m ρ)

section Arrays

open Cert.SstRefIdeal Cert.SstRefIdeal.Gen

/-- The eight parts of a stack, added. -/
def SUM (x : FVec Ideal S640x2048 .f32) : FVec Ideal S80x2048 .f32 :=
  Host.reduceAdd (shapeCast _ x shapeCasts_S640x2048_S8x80x2048) (constant S_ .f32 0x00000000#32) reducesTo_S8x80x2048_S80x2048_d0 h_S_

theorem sum_at (x : FVec Ideal S640x2048 .f32) (i : Fin 80) (j : Fin 2048) :
    SUM x (ix2 i j) = ∑ k : Fin 8, x (ix2 ⟨k.val * 80 + i.val, by omega⟩ j) := by
  pointwise [SUM]
  blk_ext

end Arrays

/-- The body's sum is the sum over the parts. -/
theorem body_at (x : FVec Ideal Cert.SstRefIdeal.S640x2048 .f32) (i : Fin 80) (j : Fin 2048) :
    Cert.SstIdeal.Value.G1 (F := Ideal) x (ix2 i j) = ∑ k : Fin 8, x (ix2 ⟨k.val * 80 + i.val, by omega⟩ j) := by
  rw [Fin.sum_univ_eight]
  pointwise [Cert.SstIdeal.Value.G1, Cert.SstIdeal.Gen.k0_pay1]
  blk_ext

/-- From equal arguments the kernel and the reference end with equal results. -/
theorem value : Cert.algebraic_SstIdeal_SstRefIdeal (hSstIdeal := Cert.SstIdeal.Gen.facts) (hSstRefIdeal := Cert.SstRefIdeal.Gen.facts) := by
  intro m g m' g' hp hargs
  refine ⟨_, Cert.SstIdeal.Value.run m g, ?_⟩
  refine (θ_run Cert.SstRefIdeal.defs _ _).mono (fun r h c => ⟨(h c).1.trans ?_, (h c).2⟩) (Cert.SstRefIdeal.Value.run (F := Ideal) m' g')
  rw [hargs c]
  funext y
  have hy : y = ix2 (y 0) (y 1) := by blk_ext
  exact ((congrArg (SUM _) hy).trans (sum_at _ (y 0) (y 1))).trans ((congrArg (Cert.SstIdeal.Value.G1 (F := Ideal) _) hy).trans (body_at _ (y 0) (y 1))).symm

end Cert.Proof.Sst

end
-- ==== Proof.lean ====
/-
  Hand-written, untrusted. The proof of `Cert.Claim` (proof/Defs.lean): each program's claims are proved in its own module
  `Proof/<Name>Claims.lean` and put together here.
-/
module

public import proofs.«01_k».proof.Defs
public import proofs.«01_k».proof.Proof.Gen.TnIdeal.Value
public import proofs.«01_k».proof.Proof.Gen.TnRefIdeal.Run
public import proofs.«01_k».proof.Proof.Gen.TinIdeal.Value
public import proofs.«01_k».proof.Proof.Gen.TinRefIdeal.Run
public import proofs.«01_k».proof.Proof.Gen.ToutIdeal.Value
public import proofs.«01_k».proof.Proof.Gen.ToutRefIdeal.Run
public import proofs.«01_k».proof.Proof.Gen.HidIdeal.Value
public import proofs.«01_k».proof.Proof.Gen.HidRefIdeal.Run
public import proofs.«01_k».proof.Proof.Gen.GupIdeal.Value
public import proofs.«01_k».proof.Proof.Gen.GupRefIdeal.Run
public import proofs.«01_k».proof.Proof.Gen.NtgIdeal.Value
public import proofs.«01_k».proof.Proof.Gen.NtgRefIdeal.Run
public import proofs.«01_k».proof.Proof.Gen.NtiIdeal.Value
public import proofs.«01_k».proof.Proof.Gen.NtiRefIdeal.Run
public import proofs.«01_k».proof.Proof.Gen.UpIdeal.Value
public import proofs.«01_k».proof.Proof.Gen.UpRefIdeal.Run
public import proofs.«01_k».proof.Proof.Gen.ObwdIdeal.Value
public import proofs.«01_k».proof.Proof.Gen.ObwdRefIdeal.Run
public import proofs.«01_k».proof.Proof.Gen.DxRefIdeal.Run
public import proofs.«01_k».proof.Proof.Gen.FxaRefIdeal.Run
public import proofs.«01_k».proof.Proof.Gen.FxbRefIdeal.Run
public import proofs.«01_k».proof.Proof.Gen.MdxRefIdeal.Run
public import proofs.«01_k».proof.Proof.Gen.FdnRefIdeal.Run
public import proofs.«01_k».proof.Proof.Gen.MopRefIdeal.Run
public import proofs.«01_k».proof.Proof.Gen.LosRefIdeal.Run
public import proofs.«01_k».proof.Proof.Gen.AwiIdeal.Value
public import proofs.«01_k».proof.Proof.Gen.AwiRefIdeal.Run
public import proofs.«01_k».proof.Proof.Gen.AsmIdeal.Value
public import proofs.«01_k».proof.Proof.Gen.AsmRefIdeal.Run
public import proofs.«01_k».proof.Proof.Gen.SwiRefIdeal.Run
public import proofs.«01_k».proof.Proof.Gen.UpoRefIdeal.Run
public import proofs.«01_k».proof.Proof.Gen.SstIdeal.Value
public import proofs.«01_k».proof.Proof.Gen.SstRefIdeal.Run
public import proofs.«01_k».proof.Proof.Gen.Pre_hid_finite
public import proofs.«01_k».proof.Proof.TnClaims
public import proofs.«01_k».proof.Proof.TinClaims
public import proofs.«01_k».proof.Proof.ToutClaims
public import proofs.«01_k».proof.Proof.HidClaims
public import proofs.«01_k».proof.Proof.GupClaims
public import proofs.«01_k».proof.Proof.NtgClaims
public import proofs.«01_k».proof.Proof.NtiClaims
public import proofs.«01_k».proof.Proof.UpClaims
public import proofs.«01_k».proof.Proof.ObwdClaims
public import proofs.«01_k».proof.Proof.DxClaims
public import proofs.«01_k».proof.Proof.FxaClaims
public import proofs.«01_k».proof.Proof.FxbClaims
public import proofs.«01_k».proof.Proof.MdxClaims
public import proofs.«01_k».proof.Proof.FdnClaims
public import proofs.«01_k».proof.Proof.MopClaims
public import proofs.«01_k».proof.Proof.LosClaims
public import proofs.«01_k».proof.Proof.AwiClaims
public import proofs.«01_k».proof.Proof.AsmClaims
public import proofs.«01_k».proof.Proof.SwiClaims
public import proofs.«01_k».proof.Proof.UpoClaims
public import proofs.«01_k».proof.Proof.SstClaims
public import Idealize.ShloMosaic.Adequacy
public import Idealize.ShloMosaic.Init

@[expose] public section

noncomputable section

namespace Cert.Proof

theorem claim : Cert.Claim :=
  ⟨Cert.Tn.Gen.facts, Cert.TnIdeal.Gen.facts, Cert.TnRefIdeal.Gen.facts, Cert.Tin.Gen.facts, Cert.TinIdeal.Gen.facts, Cert.TinRefIdeal.Gen.facts, Cert.Tout.Gen.facts, Cert.ToutIdeal.Gen.facts, Cert.ToutRefIdeal.Gen.facts, Cert.Hid.Gen.facts, Cert.HidIdeal.Gen.facts, Cert.HidRefIdeal.Gen.facts, Cert.Gup.Gen.facts, Cert.GupIdeal.Gen.facts, Cert.GupRefIdeal.Gen.facts, Cert.Ntg.Gen.facts, Cert.NtgIdeal.Gen.facts, Cert.NtgRefIdeal.Gen.facts, Cert.Nti.Gen.facts, Cert.NtiIdeal.Gen.facts, Cert.NtiRefIdeal.Gen.facts, Cert.Up.Gen.facts, Cert.UpIdeal.Gen.facts, Cert.UpRefIdeal.Gen.facts, Cert.Obwd.Gen.facts, Cert.ObwdIdeal.Gen.facts, Cert.ObwdRefIdeal.Gen.facts, Cert.Dx.Gen.facts, Cert.DxIdeal.Gen.facts, Cert.DxRefIdeal.Gen.facts, Cert.Fxa.Gen.facts, Cert.FxaIdeal.Gen.facts, Cert.FxaRefIdeal.Gen.facts, Cert.Fxb.Gen.facts, Cert.FxbIdeal.Gen.facts, Cert.FxbRefIdeal.Gen.facts, Cert.Mdx.Gen.facts, Cert.MdxIdeal.Gen.facts, Cert.MdxRefIdeal.Gen.facts, Cert.Fdn.Gen.facts, Cert.FdnIdeal.Gen.facts, Cert.FdnRefIdeal.Gen.facts, Cert.Mop.Gen.facts, Cert.MopIdeal.Gen.facts, Cert.MopRefIdeal.Gen.facts, Cert.Los.Gen.facts, Cert.LosIdeal.Gen.facts, Cert.LosRefIdeal.Gen.facts, Cert.Awi.Gen.facts, Cert.AwiIdeal.Gen.facts, Cert.AwiRefIdeal.Gen.facts, Cert.Asm.Gen.facts, Cert.AsmIdeal.Gen.facts, Cert.AsmRefIdeal.Gen.facts, Cert.Swi.Gen.facts, Cert.SwiIdeal.Gen.facts, Cert.SwiRefIdeal.Gen.facts, Cert.Upo.Gen.facts, Cert.UpoIdeal.Gen.facts, Cert.UpoRefIdeal.Gen.facts, Cert.Sst.Gen.facts, Cert.SstIdeal.Gen.facts, Cert.SstRefIdeal.Gen.facts, Cert.Pre_hid_finite.Gen.facts,
    Cert.Proof.Tn.kernel,
    Cert.Proof.Tn.ideal,
    Cert.Proof.Tn.reference,
    Cert.Proof.Tin.kernel,
    Cert.Proof.Tin.ideal,
    Cert.Proof.Tin.reference,
    Cert.Proof.Tout.kernel,
    Cert.Proof.Tout.ideal,
    Cert.Proof.Tout.reference,
    Cert.Proof.Hid.kernel,
    Cert.Proof.Hid.ideal,
    Cert.Proof.Hid.ideal_pre,
    Cert.Proof.Hid.reference,
    Cert.Proof.Hid.reference_pre,
    Cert.Proof.Gup.kernel,
    Cert.Proof.Gup.ideal,
    Cert.Proof.Gup.reference,
    Cert.Proof.Ntg.kernel,
    Cert.Proof.Ntg.ideal,
    Cert.Proof.Ntg.reference,
    Cert.Proof.Nti.kernel,
    Cert.Proof.Nti.ideal,
    Cert.Proof.Nti.reference,
    Cert.Proof.Up.kernel,
    Cert.Proof.Up.ideal,
    Cert.Proof.Up.reference,
    Cert.Proof.Obwd.kernel,
    Cert.Proof.Obwd.ideal,
    Cert.Proof.Obwd.reference,
    Cert.Proof.Dx.kernel,
    Cert.Proof.Dx.ideal,
    Cert.Proof.Dx.reference,
    Cert.Proof.Fxa.kernel,
    Cert.Proof.Fxa.ideal,
    Cert.Proof.Fxa.reference,
    Cert.Proof.Fxb.kernel,
    Cert.Proof.Fxb.ideal,
    Cert.Proof.Fxb.reference,
    Cert.Proof.Mdx.kernel,
    Cert.Proof.Mdx.ideal,
    Cert.Proof.Mdx.reference,
    Cert.Proof.Fdn.kernel,
    Cert.Proof.Fdn.ideal,
    Cert.Proof.Fdn.reference,
    Cert.Proof.Mop.kernel,
    Cert.Proof.Mop.ideal,
    Cert.Proof.Mop.reference,
    Cert.Proof.Los.kernel,
    Cert.Proof.Los.ideal,
    Cert.Proof.Los.reference,
    Cert.Proof.Awi.kernel,
    Cert.Proof.Awi.ideal,
    Cert.Proof.Awi.reference,
    Cert.Proof.Asm.kernel,
    Cert.Proof.Asm.ideal,
    Cert.Proof.Asm.reference,
    Cert.Proof.Swi.kernel,
    Cert.Proof.Swi.ideal,
    Cert.Proof.Swi.reference,
    Cert.Proof.Upo.kernel,
    Cert.Proof.Upo.ideal,
    Cert.Proof.Upo.reference,
    Cert.Proof.Sst.kernel,
    Cert.Proof.Sst.ideal,
    Cert.Proof.Sst.reference,
    trivial,
    Cert.Proof.Tn.value,
    trivial,
    Cert.Proof.Tin.value,
    trivial,
    Cert.Proof.Tout.value,
    trivial,
    Cert.Proof.Hid.value,
    trivial,
    Cert.Proof.Gup.value,
    trivial,
    Cert.Proof.Ntg.value,
    trivial,
    Cert.Proof.Nti.value,
    trivial,
    Cert.Proof.Up.value,
    trivial,
    Cert.Proof.Obwd.value,
    trivial,
    Cert.Proof.Dx.value,
    trivial,
    Cert.Proof.Fxa.value,
    trivial,
    Cert.Proof.Fxb.value,
    trivial,
    Cert.Proof.Mdx.value,
    trivial,
    Cert.Proof.Fdn.value,
    trivial,
    Cert.Proof.Mop.value,
    trivial,
    Cert.Proof.Los.value,
    trivial,
    Cert.Proof.Awi.value,
    trivial,
    Cert.Proof.Asm.value,
    trivial,
    Cert.Proof.Swi.value,
    trivial,
    Cert.Proof.Upo.value,
    trivial,
    Cert.Proof.Sst.value⟩

end Cert.Proof

end
